-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_qk [hPre_finite_qk : Cert.Pre_finite_qk.Facts] (m : (ℓ : Loc Cert.AttnIdeal.nD Cert.AttnIdeal.τ Cert.AttnIdeal.sig) → Buf (Elt Ideal) ℓ) : Prop :=
  ∀ c : Dev Cert.AttnIdeal.nD,
    (Cert.Pre_finite_qk.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).1 = (fun _ => 1#1)
    ∧ (Cert.Pre_finite_qk.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_qk [hPre_finite_qk : Cert.Pre_finite_qk.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_qk.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).1 = (fun _ => 1#1)
    ∧ (Cert.Pre_finite_qk.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2 = (fun _ => 1#1)

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseRefIdeal (m : (ℓ : Loc Cert.DenseRefIdeal.nD Cert.DenseRefIdeal.τ Cert.DenseRefIdeal.sig) → Buf (Elt Ideal) ℓ) : Prop :=
  True

def Pre_Expert [hPre_tables : Cert.Pre_tables.Facts] (m : (ℓ : Loc Cert.Expert.nD Cert.Expert.τ Cert.Expert.sig) → Buf (Elt Bits) ℓ) : Prop :=
  ∀ c : Dev Cert.Expert.nD,
    (Cert.Pre_tables.fn (F := Bits) (m ((c.tc : Thread Cert.Expert.nD Cert.Expert.τ).loc Cert.Expert.main_arg0)) (m ((c.tc : Thread Cert.Expert.nD Cert.Expert.τ).loc Cert.Expert.main_arg1)) (m ((c.tc : Thread Cert.Expert.nD Cert.Expert.τ).loc Cert.Expert.main_arg2)) (m ((c.tc : Thread Cert.Expert.nD Cert.Expert.τ).loc Cert.Expert.main_arg3)) (m ((c.tc : Thread Cert.Expert.nD Cert.Expert.τ).loc Cert.Expert.main_arg4))) = (fun _ => 1#1)

def Pre_ExpertIdeal [hPre_tables : Cert.Pre_tables.Facts] (m : (ℓ : Loc Cert.ExpertIdeal.nD Cert.ExpertIdeal.τ Cert.ExpertIdeal.sig) → Buf (Elt Ideal) ℓ) : Prop :=
  ∀ c : Dev Cert.ExpertIdeal.nD,
    (Cert.Pre_tables.fn (F := Ideal) (m ((c.tc : Thread Cert.ExpertIdeal.nD Cert.ExpertIdeal.τ).loc Cert.ExpertIdeal.main_arg0)) (m ((c.tc : Thread Cert.ExpertIdeal.nD Cert.ExpertIdeal.τ).loc Cert.ExpertIdeal.main_arg1)) (m ((c.tc : Thread Cert.ExpertIdeal.nD Cert.ExpertIdeal.τ).loc Cert.ExpertIdeal.main_arg2)) (m ((c.tc : Thread Cert.ExpertIdeal.nD Cert.ExpertIdeal.τ).loc Cert.ExpertIdeal.main_arg3)) (m ((c.tc : Thread Cert.ExpertIdeal.nD Cert.ExpertIdeal.τ).loc Cert.ExpertIdeal.main_arg4))) = (fun _ => 1#1)

def Pre_ExpertRefIdeal (m : (ℓ : Loc Cert.ExpertRefIdeal.nD Cert.ExpertRefIdeal.τ Cert.ExpertRefIdeal.sig) → Buf (Elt Ideal) ℓ) : Prop :=
  True

def Pre_ExpertRefIdeal_tables [hPre_tables : Cert.Pre_tables.Facts] (m : (ℓ : Loc Cert.ExpertRefIdeal.nD Cert.ExpertRefIdeal.τ Cert.ExpertRefIdeal.sig) → Buf (Elt Ideal) ℓ) : Prop :=
  ∀ c : Dev Cert.ExpertRefIdeal.nD,
    (Cert.Pre_tables.fn (F := Ideal) (m ((c.tc : Thread Cert.ExpertRefIdeal.nD Cert.ExpertRefIdeal.τ).loc Cert.ExpertRefIdeal.main_arg0)) (m ((c.tc : Thread Cert.ExpertRefIdeal.nD Cert.ExpertRefIdeal.τ).loc Cert.ExpertRefIdeal.main_arg1)) (m ((c.tc : Thread Cert.ExpertRefIdeal.nD Cert.ExpertRefIdeal.τ).loc Cert.ExpertRefIdeal.main_arg2)) (m ((c.tc : Thread Cert.ExpertRefIdeal.nD Cert.ExpertRefIdeal.τ).loc Cert.ExpertRefIdeal.main_arg3)) (m ((c.tc : Thread Cert.ExpertRefIdeal.nD Cert.ExpertRefIdeal.τ).loc Cert.ExpertRefIdeal.main_arg4))) = (fun _ => 1#1)

def Pre_Proj0 (m : (ℓ : Loc Cert.Proj0.nD Cert.Proj0.τ Cert.Proj0.sig) → Buf (Elt Bits) ℓ) : Prop :=
  True

def Pre_Proj0Ideal (m : (ℓ : Loc Cert.Proj0Ideal.nD Cert.Proj0Ideal.τ Cert.Proj0Ideal.sig) → Buf (Elt Ideal) ℓ) : Prop :=
  True

def Pre_Proj0RefIdeal (m : (ℓ : Loc Cert.Proj0RefIdeal.nD Cert.Proj0RefIdeal.τ Cert.Proj0RefIdeal.sig) → Buf (Elt Ideal) ℓ) : Prop :=
  True

def Pre_Proj1 (m : (ℓ : Loc Cert.Proj1.nD Cert.Proj1.τ Cert.Proj1.sig) → Buf (Elt Bits) ℓ) : Prop :=
  True

def Pre_Proj1Ideal (m : (ℓ : Loc Cert.Proj1Ideal.nD Cert.Proj1Ideal.τ Cert.Proj1Ideal.sig) → Buf (Elt Ideal) ℓ) : Prop :=
  True

def Pre_Proj1RefIdeal (m : (ℓ : Loc Cert.Proj1RefIdeal.nD Cert.Proj1RefIdeal.τ Cert.Proj1RefIdeal.sig) → Buf (Elt Ideal) ℓ) : Prop :=
  True

def Pre_Proj2 (m : (ℓ : Loc Cert.Proj2.nD Cert.Proj2.τ Cert.Proj2.sig) → Buf (Elt Bits) ℓ) : Prop :=
  True

def Pre_Proj2Ideal (m : (ℓ : Loc Cert.Proj2Ideal.nD Cert.Proj2Ideal.τ Cert.Proj2Ideal.sig) → Buf (Elt Ideal) ℓ) : Prop :=
  True

def Pre_Proj2RefIdeal (m : (ℓ : Loc Cert.Proj2RefIdeal.nD Cert.Proj2RefIdeal.τ Cert.Proj2RefIdeal.sig) → Buf (Elt Ideal) ℓ) : Prop :=
  True

def Pre_Latents (m : (ℓ : Loc Cert.Latents.nD Cert.Latents.τ Cert.Latents.sig) → Buf (Elt Bits) ℓ) : Prop :=
  True

def Pre_LatentsIdeal (m : (ℓ : Loc Cert.LatentsIdeal.nD Cert.LatentsIdeal.τ Cert.LatentsIdeal.sig) → Buf (Elt Ideal) ℓ) : Prop :=
  True

def Pre_LatentsRefIdeal (m : (ℓ : Loc Cert.LatentsRefIdeal.nD Cert.LatentsRefIdeal.τ Cert.LatentsRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_qk [hAttnIdeal : Cert.AttnIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_qk m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_qk [hAttnRefIdeal : Cert.AttnRefIdeal.Facts] [hPre_finite_qk : Cert.Pre_finite_qk.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_qk m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3))
      ∧ r.2.sem = fun _ => 0)

def quiescent_DenseRefIdeal [hDenseRefIdeal : Cert.DenseRefIdeal.Facts] : Prop :=
  ∀ (m : (ℓ : Loc Cert.DenseRefIdeal.nD Cert.DenseRefIdeal.τ Cert.DenseRefIdeal.sig) → Buf (Elt Ideal) ℓ) (g : Dev Cert.DenseRefIdeal.nD → PrngReg), Pre_DenseRefIdeal m →
    θ_run (Cert.DenseRefIdeal.defs (F := Ideal)) (onTc (τ := Cert.DenseRefIdeal.τ) (Cert.DenseRefIdeal.main (F := Ideal))) ⟨m, fun _ => 0, g⟩ (fun r => (∀ c : Dev Cert.DenseRefIdeal.nD,
      r.2.mem ((c.tc : Thread Cert.DenseRefIdeal.nD Cert.DenseRefIdeal.τ).loc Cert.DenseRefIdeal.main_arg0) = m ((c.tc : Thread Cert.DenseRefIdeal.nD Cert.DenseRefIdeal.τ).loc Cert.DenseRefIdeal.main_arg0)
      ∧ r.2.mem ((c.tc : Thread Cert.DenseRefIdeal.nD Cert.DenseRefIdeal.τ).loc Cert.DenseRefIdeal.main_arg1) = m ((c.tc : Thread Cert.DenseRefIdeal.nD Cert.DenseRefIdeal.τ).loc Cert.DenseRefIdeal.main_arg1)
      ∧ r.2.mem ((c.tc : Thread Cert.DenseRefIdeal.nD Cert.DenseRefIdeal.τ).loc Cert.DenseRefIdeal.main_arg2) = m ((c.tc : Thread Cert.DenseRefIdeal.nD Cert.DenseRefIdeal.τ).loc Cert.DenseRefIdeal.main_arg2)
      ∧ r.2.mem ((c.tc : Thread Cert.DenseRefIdeal.nD Cert.DenseRefIdeal.τ).loc Cert.DenseRefIdeal.main_arg3) = m ((c.tc : Thread Cert.DenseRefIdeal.nD Cert.DenseRefIdeal.τ).loc Cert.DenseRefIdeal.main_arg3))
      ∧ r.2.sem = fun _ => 0)

def quiescent_Expert [hExpert : Cert.Expert.Facts] [hPre_tables : Cert.Pre_tables.Facts] : Prop :=
  ∀ (m : (ℓ : Loc Cert.Expert.nD Cert.Expert.τ Cert.Expert.sig) → Buf (Elt Bits) ℓ) (g : Dev Cert.Expert.nD → PrngReg), Pre_Expert m →
    θ_run (Cert.Expert.defs (F := Bits)) (onTc (τ := Cert.Expert.τ) (Cert.Expert.main (F := Bits))) ⟨m, fun _ => 0, g⟩ (fun r => (∀ c : Dev Cert.Expert.nD,
      r.2.mem ((c.tc : Thread Cert.Expert.nD Cert.Expert.τ).loc Cert.Expert.main_arg0) = m ((c.tc : Thread Cert.Expert.nD Cert.Expert.τ).loc Cert.Expert.main_arg0)
      ∧ r.2.mem ((c.tc : Thread Cert.Expert.nD Cert.Expert.τ).loc Cert.Expert.main_arg1) = m ((c.tc : Thread Cert.Expert.nD Cert.Expert.τ).loc Cert.Expert.main_arg1)
      ∧ r.2.mem ((c.tc : Thread Cert.Expert.nD Cert.Expert.τ).loc Cert.Expert.main_arg2) = m ((c.tc : Thread Cert.Expert.nD Cert.Expert.τ).loc Cert.Expert.main_arg2)
      ∧ r.2.mem ((c.tc : Thread Cert.Expert.nD Cert.Expert.τ).loc Cert.Expert.main_arg3) = m ((c.tc : Thread Cert.Expert.nD Cert.Expert.τ).loc Cert.Expert.main_arg3)
      ∧ r.2.mem ((c.tc : Thread Cert.Expert.nD Cert.Expert.τ).loc Cert.Expert.main_arg4) = m ((c.tc : Thread Cert.Expert.nD Cert.Expert.τ).loc Cert.Expert.main_arg4))
      ∧ r.2.sem = fun _ => 0)

def quiescent_ExpertIdeal [hExpertIdeal : Cert.ExpertIdeal.Facts] [hPre_tables : Cert.Pre_tables.Facts] : Prop :=
  ∀ (m : (ℓ : Loc Cert.ExpertIdeal.nD Cert.ExpertIdeal.τ Cert.ExpertIdeal.sig) → Buf (Elt Ideal) ℓ) (g : Dev Cert.ExpertIdeal.nD → PrngReg), Pre_ExpertIdeal m →
    θ_run (Cert.ExpertIdeal.defs (F := Ideal)) (onTc (τ := Cert.ExpertIdeal.τ) (Cert.ExpertIdeal.main (F := Ideal))) ⟨m, fun _ => 0, g⟩ (fun r => (∀ c : Dev Cert.ExpertIdeal.nD,
      r.2.mem ((c.tc : Thread Cert.ExpertIdeal.nD Cert.ExpertIdeal.τ).loc Cert.ExpertIdeal.main_arg0) = m ((c.tc : Thread Cert.ExpertIdeal.nD Cert.ExpertIdeal.τ).loc Cert.ExpertIdeal.main_arg0)
      ∧ r.2.mem ((c.tc : Thread Cert.ExpertIdeal.nD Cert.ExpertIdeal.τ).loc Cert.ExpertIdeal.main_arg1) = m ((c.tc : Thread Cert.ExpertIdeal.nD Cert.ExpertIdeal.τ).loc Cert.ExpertIdeal.main_arg1)
      ∧ r.2.mem ((c.tc : Thread Cert.ExpertIdeal.nD Cert.ExpertIdeal.τ).loc Cert.ExpertIdeal.main_arg2) = m ((c.tc : Thread Cert.ExpertIdeal.nD Cert.ExpertIdeal.τ).loc Cert.ExpertIdeal.main_arg2)
      ∧ r.2.mem ((c.tc : Thread Cert.ExpertIdeal.nD Cert.ExpertIdeal.τ).loc Cert.ExpertIdeal.main_arg3) = m ((c.tc : Thread Cert.ExpertIdeal.nD Cert.ExpertIdeal.τ).loc Cert.ExpertIdeal.main_arg3)
      ∧ r.2.mem ((c.tc : Thread Cert.ExpertIdeal.nD Cert.ExpertIdeal.τ).loc Cert.ExpertIdeal.main_arg4) = m ((c.tc : Thread Cert.ExpertIdeal.nD Cert.ExpertIdeal.τ).loc Cert.ExpertIdeal.main_arg4))
      ∧ r.2.sem = fun _ => 0)

def quiescent_ExpertRefIdeal [hExpertRefIdeal : Cert.ExpertRefIdeal.Facts] : Prop :=
  ∀ (m : (ℓ : Loc Cert.ExpertRefIdeal.nD Cert.ExpertRefIdeal.τ Cert.ExpertRefIdeal.sig) → Buf (Elt Ideal) ℓ) (g : Dev Cert.ExpertRefIdeal.nD → PrngReg), Pre_ExpertRefIdeal m →
    θ_run (Cert.ExpertRefIdeal.defs (F := Ideal)) (onTc (τ := Cert.ExpertRefIdeal.τ) (Cert.ExpertRefIdeal.main (F := Ideal))) ⟨m, fun _ => 0, g⟩ (fun r => (∀ c : Dev Cert.ExpertRefIdeal.nD,
      r.2.mem ((c.tc : Thread Cert.ExpertRefIdeal.nD Cert.ExpertRefIdeal.τ).loc Cert.ExpertRefIdeal.main_arg0) = m ((c.tc : Thread Cert.ExpertRefIdeal.nD Cert.ExpertRefIdeal.τ).loc Cert.ExpertRefIdeal.main_arg0)
      ∧ r.2.mem ((c.tc : Thread Cert.ExpertRefIdeal.nD Cert.ExpertRefIdeal.τ).loc Cert.ExpertRefIdeal.main_arg1) = m ((c.tc : Thread Cert.ExpertRefIdeal.nD Cert.ExpertRefIdeal.τ).loc Cert.ExpertRefIdeal.main_arg1)
      ∧ r.2.mem ((c.tc : Thread Cert.ExpertRefIdeal.nD Cert.ExpertRefIdeal.τ).loc Cert.ExpertRefIdeal.main_arg2) = m ((c.tc : Thread Cert.ExpertRefIdeal.nD Cert.ExpertRefIdeal.τ).loc Cert.ExpertRefIdeal.main_arg2)
      ∧ r.2.mem ((c.tc : Thread Cert.ExpertRefIdeal.nD Cert.ExpertRefIdeal.τ).loc Cert.ExpertRefIdeal.main_arg3) = m ((c.tc : Thread Cert.ExpertRefIdeal.nD Cert.ExpertRefIdeal.τ).loc Cert.ExpertRefIdeal.main_arg3)
      ∧ r.2.mem ((c.tc : Thread Cert.ExpertRefIdeal.nD Cert.ExpertRefIdeal.τ).loc Cert.ExpertRefIdeal.main_arg4) = m ((c.tc : Thread Cert.ExpertRefIdeal.nD Cert.ExpertRefIdeal.τ).loc Cert.ExpertRefIdeal.main_arg4))
      ∧ r.2.sem = fun _ => 0)

def quiescent_ExpertRefIdeal_pre_tables [hExpertRefIdeal : Cert.ExpertRefIdeal.Facts] [hPre_tables : Cert.Pre_tables.Facts] : Prop :=
  ∀ (m : (ℓ : Loc Cert.ExpertRefIdeal.nD Cert.ExpertRefIdeal.τ Cert.ExpertRefIdeal.sig) → Buf (Elt Ideal) ℓ) (g : Dev Cert.ExpertRefIdeal.nD → PrngReg), Pre_ExpertRefIdeal_tables m →
    θ_run (Cert.ExpertRefIdeal.defs (F := Ideal)) (onTc (τ := Cert.ExpertRefIdeal.τ) (Cert.ExpertRefIdeal.main (F := Ideal))) ⟨m, fun _ => 0, g⟩ (fun r => (∀ c : Dev Cert.ExpertRefIdeal.nD,
      r.2.mem ((c.tc : Thread Cert.ExpertRefIdeal.nD Cert.ExpertRefIdeal.τ).loc Cert.ExpertRefIdeal.main_arg0) = m ((c.tc : Thread Cert.ExpertRefIdeal.nD Cert.ExpertRefIdeal.τ).loc Cert.ExpertRefIdeal.main_arg0)
      ∧ r.2.mem ((c.tc : Thread Cert.ExpertRefIdeal.nD Cert.ExpertRefIdeal.τ).loc Cert.ExpertRefIdeal.main_arg1) = m ((c.tc : Thread Cert.ExpertRefIdeal.nD Cert.ExpertRefIdeal.τ).loc Cert.ExpertRefIdeal.main_arg1)
      ∧ r.2.mem ((c.tc : Thread Cert.ExpertRefIdeal.nD Cert.ExpertRefIdeal.τ).loc Cert.ExpertRefIdeal.main_arg2) = m ((c.tc : Thread Cert.ExpertRefIdeal.nD Cert.ExpertRefIdeal.τ).loc Cert.ExpertRefIdeal.main_arg2)
      ∧ r.2.mem ((c.tc : Thread Cert.ExpertRefIdeal.nD Cert.ExpertRefIdeal.τ).loc Cert.ExpertRefIdeal.main_arg3) = m ((c.tc : Thread Cert.ExpertRefIdeal.nD Cert.ExpertRefIdeal.τ).loc Cert.ExpertRefIdeal.main_arg3)
      ∧ r.2.mem ((c.tc : Thread Cert.ExpertRefIdeal.nD Cert.ExpertRefIdeal.τ).loc Cert.ExpertRefIdeal.main_arg4) = m ((c.tc : Thread Cert.ExpertRefIdeal.nD Cert.ExpertRefIdeal.τ).loc Cert.ExpertRefIdeal.main_arg4))
      ∧ r.2.sem = fun _ => 0)

def quiescent_Proj0 [hProj0 : Cert.Proj0.Facts] : Prop :=
  ∀ (m : (ℓ : Loc Cert.Proj0.nD Cert.Proj0.τ Cert.Proj0.sig) → Buf (Elt Bits) ℓ) (g : Dev Cert.Proj0.nD → PrngReg), Pre_Proj0 m →
    θ_run (Cert.Proj0.defs (F := Bits)) (onTc (τ := Cert.Proj0.τ) (Cert.Proj0.main (F := Bits))) ⟨m, fun _ => 0, g⟩ (fun r => (∀ c : Dev Cert.Proj0.nD,
      r.2.mem ((c.tc : Thread Cert.Proj0.nD Cert.Proj0.τ).loc Cert.Proj0.main_arg0) = m ((c.tc : Thread Cert.Proj0.nD Cert.Proj0.τ).loc Cert.Proj0.main_arg0)
      ∧ r.2.mem ((c.tc : Thread Cert.Proj0.nD Cert.Proj0.τ).loc Cert.Proj0.main_arg1) = m ((c.tc : Thread Cert.Proj0.nD Cert.Proj0.τ).loc Cert.Proj0.main_arg1)
      ∧ r.2.mem ((c.tc : Thread Cert.Proj0.nD Cert.Proj0.τ).loc Cert.Proj0.main_arg2) = m ((c.tc : Thread Cert.Proj0.nD Cert.Proj0.τ).loc Cert.Proj0.main_arg2)
      ∧ r.2.mem ((c.tc : Thread Cert.Proj0.nD Cert.Proj0.τ).loc Cert.Proj0.main_arg3) = m ((c.tc : Thread Cert.Proj0.nD Cert.Proj0.τ).loc Cert.Proj0.main_arg3)
      ∧ r.2.mem ((c.tc : Thread Cert.Proj0.nD Cert.Proj0.τ).loc Cert.Proj0.main_arg4) = m ((c.tc : Thread Cert.Proj0.nD Cert.Proj0.τ).loc Cert.Proj0.main_arg4)
      ∧ r.2.mem ((c.tc : Thread Cert.Proj0.nD Cert.Proj0.τ).loc Cert.Proj0.main_arg5) = m ((c.tc : Thread Cert.Proj0.nD Cert.Proj0.τ).loc Cert.Proj0.main_arg5))
      ∧ r.2.sem = fun _ => 0)

def quiescent_Proj0Ideal [hProj0Ideal : Cert.Proj0Ideal.Facts] : Prop :=
  ∀ (m : (ℓ : Loc Cert.Proj0Ideal.nD Cert.Proj0Ideal.τ Cert.Proj0Ideal.sig) → Buf (Elt Ideal) ℓ) (g : Dev Cert.Proj0Ideal.nD → PrngReg), Pre_Proj0Ideal m →
    θ_run (Cert.Proj0Ideal.defs (F := Ideal)) (onTc (τ := Cert.Proj0Ideal.τ) (Cert.Proj0Ideal.main (F := Ideal))) ⟨m, fun _ => 0, g⟩ (fun r => (∀ c : Dev Cert.Proj0Ideal.nD,
      r.2.mem ((c.tc : Thread Cert.Proj0Ideal.nD Cert.Proj0Ideal.τ).loc Cert.Proj0Ideal.main_arg0) = m ((c.tc : Thread Cert.Proj0Ideal.nD Cert.Proj0Ideal.τ).loc Cert.Proj0Ideal.main_arg0)
      ∧ r.2.mem ((c.tc : Thread Cert.Proj0Ideal.nD Cert.Proj0Ideal.τ).loc Cert.Proj0Ideal.main_arg1) = m ((c.tc : Thread Cert.Proj0Ideal.nD Cert.Proj0Ideal.τ).loc Cert.Proj0Ideal.main_arg1)
      ∧ r.2.mem ((c.tc : Thread Cert.Proj0Ideal.nD Cert.Proj0Ideal.τ).loc Cert.Proj0Ideal.main_arg2) = m ((c.tc : Thread Cert.Proj0Ideal.nD Cert.Proj0Ideal.τ).loc Cert.Proj0Ideal.main_arg2)
      ∧ r.2.mem ((c.tc : Thread Cert.Proj0Ideal.nD Cert.Proj0Ideal.τ).loc Cert.Proj0Ideal.main_arg3) = m ((c.tc : Thread Cert.Proj0Ideal.nD Cert.Proj0Ideal.τ).loc Cert.Proj0Ideal.main_arg3)
      ∧ r.2.mem ((c.tc : Thread Cert.Proj0Ideal.nD Cert.Proj0Ideal.τ).loc Cert.Proj0Ideal.main_arg4) = m ((c.tc : Thread Cert.Proj0Ideal.nD Cert.Proj0Ideal.τ).loc Cert.Proj0Ideal.main_arg4)
      ∧ r.2.mem ((c.tc : Thread Cert.Proj0Ideal.nD Cert.Proj0Ideal.τ).loc Cert.Proj0Ideal.main_arg5) = m ((c.tc : Thread Cert.Proj0Ideal.nD Cert.Proj0Ideal.τ).loc Cert.Proj0Ideal.main_arg5))
      ∧ r.2.sem = fun _ => 0)

def quiescent_Proj0RefIdeal [hProj0RefIdeal : Cert.Proj0RefIdeal.Facts] : Prop :=
  ∀ (m : (ℓ : Loc Cert.Proj0RefIdeal.nD Cert.Proj0RefIdeal.τ Cert.Proj0RefIdeal.sig) → Buf (Elt Ideal) ℓ) (g : Dev Cert.Proj0RefIdeal.nD → PrngReg), Pre_Proj0RefIdeal m →
    θ_run (Cert.Proj0RefIdeal.defs (F := Ideal)) (onTc (τ := Cert.Proj0RefIdeal.τ) (Cert.Proj0RefIdeal.main (F := Ideal))) ⟨m, fun _ => 0, g⟩ (fun r => (∀ c : Dev Cert.Proj0RefIdeal.nD,
      r.2.mem ((c.tc : Thread Cert.Proj0RefIdeal.nD Cert.Proj0RefIdeal.τ).loc Cert.Proj0RefIdeal.main_arg0) = m ((c.tc : Thread Cert.Proj0RefIdeal.nD Cert.Proj0RefIdeal.τ).loc Cert.Proj0RefIdeal.main_arg0)
      ∧ r.2.mem ((c.tc : Thread Cert.Proj0RefIdeal.nD Cert.Proj0RefIdeal.τ).loc Cert.Proj0RefIdeal.main_arg1) = m ((c.tc : Thread Cert.Proj0RefIdeal.nD Cert.Proj0RefIdeal.τ).loc Cert.Proj0RefIdeal.main_arg1)
      ∧ r.2.mem ((c.tc : Thread Cert.Proj0RefIdeal.nD Cert.Proj0RefIdeal.τ).loc Cert.Proj0RefIdeal.main_arg2) = m ((c.tc : Thread Cert.Proj0RefIdeal.nD Cert.Proj0RefIdeal.τ).loc Cert.Proj0RefIdeal.main_arg2)
      ∧ r.2.mem ((c.tc : Thread Cert.Proj0RefIdeal.nD Cert.Proj0RefIdeal.τ).loc Cert.Proj0RefIdeal.main_arg3) = m ((c.tc : Thread Cert.Proj0RefIdeal.nD Cert.Proj0RefIdeal.τ).loc Cert.Proj0RefIdeal.main_arg3)
      ∧ r.2.mem ((c.tc : Thread Cert.Proj0RefIdeal.nD Cert.Proj0RefIdeal.τ).loc Cert.Proj0RefIdeal.main_arg4) = m ((c.tc : Thread Cert.Proj0RefIdeal.nD Cert.Proj0RefIdeal.τ).loc Cert.Proj0RefIdeal.main_arg4)
      ∧ r.2.mem ((c.tc : Thread Cert.Proj0RefIdeal.nD Cert.Proj0RefIdeal.τ).loc Cert.Proj0RefIdeal.main_arg5) = m ((c.tc : Thread Cert.Proj0RefIdeal.nD Cert.Proj0RefIdeal.τ).loc Cert.Proj0RefIdeal.main_arg5))
      ∧ r.2.sem = fun _ => 0)

def quiescent_Proj1 [hProj1 : Cert.Proj1.Facts] : Prop :=
  ∀ (m : (ℓ : Loc Cert.Proj1.nD Cert.Proj1.τ Cert.Proj1.sig) → Buf (Elt Bits) ℓ) (g : Dev Cert.Proj1.nD → PrngReg), Pre_Proj1 m →
    θ_run (Cert.Proj1.defs (F := Bits)) (onTc (τ := Cert.Proj1.τ) (Cert.Proj1.main (F := Bits))) ⟨m, fun _ => 0, g⟩ (fun r => (∀ c : Dev Cert.Proj1.nD,
      r.2.mem ((c.tc : Thread Cert.Proj1.nD Cert.Proj1.τ).loc Cert.Proj1.main_arg0) = m ((c.tc : Thread Cert.Proj1.nD Cert.Proj1.τ).loc Cert.Proj1.main_arg0)
      ∧ r.2.mem ((c.tc : Thread Cert.Proj1.nD Cert.Proj1.τ).loc Cert.Proj1.main_arg1) = m ((c.tc : Thread Cert.Proj1.nD Cert.Proj1.τ).loc Cert.Proj1.main_arg1)
      ∧ r.2.mem ((c.tc : Thread Cert.Proj1.nD Cert.Proj1.τ).loc Cert.Proj1.main_arg2) = m ((c.tc : Thread Cert.Proj1.nD Cert.Proj1.τ).loc Cert.Proj1.main_arg2)
      ∧ r.2.mem ((c.tc : Thread Cert.Proj1.nD Cert.Proj1.τ).loc Cert.Proj1.main_arg3) = m ((c.tc : Thread Cert.Proj1.nD Cert.Proj1.τ).loc Cert.Proj1.main_arg3)
      ∧ r.2.mem ((c.tc : Thread Cert.Proj1.nD Cert.Proj1.τ).loc Cert.Proj1.main_arg4) = m ((c.tc : Thread Cert.Proj1.nD Cert.Proj1.τ).loc Cert.Proj1.main_arg4)
      ∧ r.2.mem ((c.tc : Thread Cert.Proj1.nD Cert.Proj1.τ).loc Cert.Proj1.main_arg5) = m ((c.tc : Thread Cert.Proj1.nD Cert.Proj1.τ).loc Cert.Proj1.main_arg5))
      ∧ r.2.sem = fun _ => 0)

def quiescent_Proj1Ideal [hProj1Ideal : Cert.Proj1Ideal.Facts] : Prop :=
  ∀ (m : (ℓ : Loc Cert.Proj1Ideal.nD Cert.Proj1Ideal.τ Cert.Proj1Ideal.sig) → Buf (Elt Ideal) ℓ) (g : Dev Cert.Proj1Ideal.nD → PrngReg), Pre_Proj1Ideal m →
    θ_run (Cert.Proj1Ideal.defs (F := Ideal)) (onTc (τ := Cert.Proj1Ideal.τ) (Cert.Proj1Ideal.main (F := Ideal))) ⟨m, fun _ => 0, g⟩ (fun r => (∀ c : Dev Cert.Proj1Ideal.nD,
      r.2.mem ((c.tc : Thread Cert.Proj1Ideal.nD Cert.Proj1Ideal.τ).loc Cert.Proj1Ideal.main_arg0) = m ((c.tc : Thread Cert.Proj1Ideal.nD Cert.Proj1Ideal.τ).loc Cert.Proj1Ideal.main_arg0)
      ∧ r.2.mem ((c.tc : Thread Cert.Proj1Ideal.nD Cert.Proj1Ideal.τ).loc Cert.Proj1Ideal.main_arg1) = m ((c.tc : Thread Cert.Proj1Ideal.nD Cert.Proj1Ideal.τ).loc Cert.Proj1Ideal.main_arg1)
      ∧ r.2.mem ((c.tc : Thread Cert.Proj1Ideal.nD Cert.Proj1Ideal.τ).loc Cert.Proj1Ideal.main_arg2) = m ((c.tc : Thread Cert.Proj1Ideal.nD Cert.Proj1Ideal.τ).loc Cert.Proj1Ideal.main_arg2)
      ∧ r.2.mem ((c.tc : Thread Cert.Proj1Ideal.nD Cert.Proj1Ideal.τ).loc Cert.Proj1Ideal.main_arg3) = m ((c.tc : Thread Cert.Proj1Ideal.nD Cert.Proj1Ideal.τ).loc Cert.Proj1Ideal.main_arg3)
      ∧ r.2.mem ((c.tc : Thread Cert.Proj1Ideal.nD Cert.Proj1Ideal.τ).loc Cert.Proj1Ideal.main_arg4) = m ((c.tc : Thread Cert.Proj1Ideal.nD Cert.Proj1Ideal.τ).loc Cert.Proj1Ideal.main_arg4)
      ∧ r.2.mem ((c.tc : Thread Cert.Proj1Ideal.nD Cert.Proj1Ideal.τ).loc Cert.Proj1Ideal.main_arg5) = m ((c.tc : Thread Cert.Proj1Ideal.nD Cert.Proj1Ideal.τ).loc Cert.Proj1Ideal.main_arg5))
      ∧ r.2.sem = fun _ => 0)

def quiescent_Proj1RefIdeal [hProj1RefIdeal : Cert.Proj1RefIdeal.Facts] : Prop :=
  ∀ (m : (ℓ : Loc Cert.Proj1RefIdeal.nD Cert.Proj1RefIdeal.τ Cert.Proj1RefIdeal.sig) → Buf (Elt Ideal) ℓ) (g : Dev Cert.Proj1RefIdeal.nD → PrngReg), Pre_Proj1RefIdeal m →
    θ_run (Cert.Proj1RefIdeal.defs (F := Ideal)) (onTc (τ := Cert.Proj1RefIdeal.τ) (Cert.Proj1RefIdeal.main (F := Ideal))) ⟨m, fun _ => 0, g⟩ (fun r => (∀ c : Dev Cert.Proj1RefIdeal.nD,
      r.2.mem ((c.tc : Thread Cert.Proj1RefIdeal.nD Cert.Proj1RefIdeal.τ).loc Cert.Proj1RefIdeal.main_arg0) = m ((c.tc : Thread Cert.Proj1RefIdeal.nD Cert.Proj1RefIdeal.τ).loc Cert.Proj1RefIdeal.main_arg0)
      ∧ r.2.mem ((c.tc : Thread Cert.Proj1RefIdeal.nD Cert.Proj1RefIdeal.τ).loc Cert.Proj1RefIdeal.main_arg1) = m ((c.tc : Thread Cert.Proj1RefIdeal.nD Cert.Proj1RefIdeal.τ).loc Cert.Proj1RefIdeal.main_arg1)
      ∧ r.2.mem ((c.tc : Thread Cert.Proj1RefIdeal.nD Cert.Proj1RefIdeal.τ).loc Cert.Proj1RefIdeal.main_arg2) = m ((c.tc : Thread Cert.Proj1RefIdeal.nD Cert.Proj1RefIdeal.τ).loc Cert.Proj1RefIdeal.main_arg2)
      ∧ r.2.mem ((c.tc : Thread Cert.Proj1RefIdeal.nD Cert.Proj1RefIdeal.τ).loc Cert.Proj1RefIdeal.main_arg3) = m ((c.tc : Thread Cert.Proj1RefIdeal.nD Cert.Proj1RefIdeal.τ).loc Cert.Proj1RefIdeal.main_arg3)
      ∧ r.2.mem ((c.tc : Thread Cert.Proj1RefIdeal.nD Cert.Proj1RefIdeal.τ).loc Cert.Proj1RefIdeal.main_arg4) = m ((c.tc : Thread Cert.Proj1RefIdeal.nD Cert.Proj1RefIdeal.τ).loc Cert.Proj1RefIdeal.main_arg4)
      ∧ r.2.mem ((c.tc : Thread Cert.Proj1RefIdeal.nD Cert.Proj1RefIdeal.τ).loc Cert.Proj1RefIdeal.main_arg5) = m ((c.tc : Thread Cert.Proj1RefIdeal.nD Cert.Proj1RefIdeal.τ).loc Cert.Proj1RefIdeal.main_arg5))
      ∧ r.2.sem = fun _ => 0)

def quiescent_Proj2 [hProj2 : Cert.Proj2.Facts] : Prop :=
  ∀ (m : (ℓ : Loc Cert.Proj2.nD Cert.Proj2.τ Cert.Proj2.sig) → Buf (Elt Bits) ℓ) (g : Dev Cert.Proj2.nD → PrngReg), Pre_Proj2 m →
    θ_run (Cert.Proj2.defs (F := Bits)) (onTc (τ := Cert.Proj2.τ) (Cert.Proj2.main (F := Bits))) ⟨m, fun _ => 0, g⟩ (fun r => (∀ c : Dev Cert.Proj2.nD,
      r.2.mem ((c.tc : Thread Cert.Proj2.nD Cert.Proj2.τ).loc Cert.Proj2.main_arg0) = m ((c.tc : Thread Cert.Proj2.nD Cert.Proj2.τ).loc Cert.Proj2.main_arg0)
      ∧ r.2.mem ((c.tc : Thread Cert.Proj2.nD Cert.Proj2.τ).loc Cert.Proj2.main_arg1) = m ((c.tc : Thread Cert.Proj2.nD Cert.Proj2.τ).loc Cert.Proj2.main_arg1)
      ∧ r.2.mem ((c.tc : Thread Cert.Proj2.nD Cert.Proj2.τ).loc Cert.Proj2.main_arg2) = m ((c.tc : Thread Cert.Proj2.nD Cert.Proj2.τ).loc Cert.Proj2.main_arg2)
      ∧ r.2.mem ((c.tc : Thread Cert.Proj2.nD Cert.Proj2.τ).loc Cert.Proj2.main_arg3) = m ((c.tc : Thread Cert.Proj2.nD Cert.Proj2.τ).loc Cert.Proj2.main_arg3)
      ∧ r.2.mem ((c.tc : Thread Cert.Proj2.nD Cert.Proj2.τ).loc Cert.Proj2.main_arg4) = m ((c.tc : Thread Cert.Proj2.nD Cert.Proj2.τ).loc Cert.Proj2.main_arg4)
      ∧ r.2.mem ((c.tc : Thread Cert.Proj2.nD Cert.Proj2.τ).loc Cert.Proj2.main_arg5) = m ((c.tc : Thread Cert.Proj2.nD Cert.Proj2.τ).loc Cert.Proj2.main_arg5))
      ∧ r.2.sem = fun _ => 0)

def quiescent_Proj2Ideal [hProj2Ideal : Cert.Proj2Ideal.Facts] : Prop :=
  ∀ (m : (ℓ : Loc Cert.Proj2Ideal.nD Cert.Proj2Ideal.τ Cert.Proj2Ideal.sig) → Buf (Elt Ideal) ℓ) (g : Dev Cert.Proj2Ideal.nD → PrngReg), Pre_Proj2Ideal m →
    θ_run (Cert.Proj2Ideal.defs (F := Ideal)) (onTc (τ := Cert.Proj2Ideal.τ) (Cert.Proj2Ideal.main (F := Ideal))) ⟨m, fun _ => 0, g⟩ (fun r => (∀ c : Dev Cert.Proj2Ideal.nD,
      r.2.mem ((c.tc : Thread Cert.Proj2Ideal.nD Cert.Proj2Ideal.τ).loc Cert.Proj2Ideal.main_arg0) = m ((c.tc : Thread Cert.Proj2Ideal.nD Cert.Proj2Ideal.τ).loc Cert.Proj2Ideal.main_arg0)
      ∧ r.2.mem ((c.tc : Thread Cert.Proj2Ideal.nD Cert.Proj2Ideal.τ).loc Cert.Proj2Ideal.main_arg1) = m ((c.tc : Thread Cert.Proj2Ideal.nD Cert.Proj2Ideal.τ).loc Cert.Proj2Ideal.main_arg1)
      ∧ r.2.mem ((c.tc : Thread Cert.Proj2Ideal.nD Cert.Proj2Ideal.τ).loc Cert.Proj2Ideal.main_arg2) = m ((c.tc : Thread Cert.Proj2Ideal.nD Cert.Proj2Ideal.τ).loc Cert.Proj2Ideal.main_arg2)
      ∧ r.2.mem ((c.tc : Thread Cert.Proj2Ideal.nD Cert.Proj2Ideal.τ).loc Cert.Proj2Ideal.main_arg3) = m ((c.tc : Thread Cert.Proj2Ideal.nD Cert.Proj2Ideal.τ).loc Cert.Proj2Ideal.main_arg3)
      ∧ r.2.mem ((c.tc : Thread Cert.Proj2Ideal.nD Cert.Proj2Ideal.τ).loc Cert.Proj2Ideal.main_arg4) = m ((c.tc : Thread Cert.Proj2Ideal.nD Cert.Proj2Ideal.τ).loc Cert.Proj2Ideal.main_arg4)
      ∧ r.2.mem ((c.tc : Thread Cert.Proj2Ideal.nD Cert.Proj2Ideal.τ).loc Cert.Proj2Ideal.main_arg5) = m ((c.tc : Thread Cert.Proj2Ideal.nD Cert.Proj2Ideal.τ).loc Cert.Proj2Ideal.main_arg5))
      ∧ r.2.sem = fun _ => 0)

def quiescent_Proj2RefIdeal [hProj2RefIdeal : Cert.Proj2RefIdeal.Facts] : Prop :=
  ∀ (m : (ℓ : Loc Cert.Proj2RefIdeal.nD Cert.Proj2RefIdeal.τ Cert.Proj2RefIdeal.sig) → Buf (Elt Ideal) ℓ) (g : Dev Cert.Proj2RefIdeal.nD → PrngReg), Pre_Proj2RefIdeal m →
    θ_run (Cert.Proj2RefIdeal.defs (F := Ideal)) (onTc (τ := Cert.Proj2RefIdeal.τ) (Cert.Proj2RefIdeal.main (F := Ideal))) ⟨m, fun _ => 0, g⟩ (fun r => (∀ c : Dev Cert.Proj2RefIdeal.nD,
      r.2.mem ((c.tc : Thread Cert.Proj2RefIdeal.nD Cert.Proj2RefIdeal.τ).loc Cert.Proj2RefIdeal.main_arg0) = m ((c.tc : Thread Cert.Proj2RefIdeal.nD Cert.Proj2RefIdeal.τ).loc Cert.Proj2RefIdeal.main_arg0)
      ∧ r.2.mem ((c.tc : Thread Cert.Proj2RefIdeal.nD Cert.Proj2RefIdeal.τ).loc Cert.Proj2RefIdeal.main_arg1) = m ((c.tc : Thread Cert.Proj2RefIdeal.nD Cert.Proj2RefIdeal.τ).loc Cert.Proj2RefIdeal.main_arg1)
      ∧ r.2.mem ((c.tc : Thread Cert.Proj2RefIdeal.nD Cert.Proj2RefIdeal.τ).loc Cert.Proj2RefIdeal.main_arg2) = m ((c.tc : Thread Cert.Proj2RefIdeal.nD Cert.Proj2RefIdeal.τ).loc Cert.Proj2RefIdeal.main_arg2)
      ∧ r.2.mem ((c.tc : Thread Cert.Proj2RefIdeal.nD Cert.Proj2RefIdeal.τ).loc Cert.Proj2RefIdeal.main_arg3) = m ((c.tc : Thread Cert.Proj2RefIdeal.nD Cert.Proj2RefIdeal.τ).loc Cert.Proj2RefIdeal.main_arg3)
      ∧ r.2.mem ((c.tc : Thread Cert.Proj2RefIdeal.nD Cert.Proj2RefIdeal.τ).loc Cert.Proj2RefIdeal.main_arg4) = m ((c.tc : Thread Cert.Proj2RefIdeal.nD Cert.Proj2RefIdeal.τ).loc Cert.Proj2RefIdeal.main_arg4)
      ∧ r.2.mem ((c.tc : Thread Cert.Proj2RefIdeal.nD Cert.Proj2RefIdeal.τ).loc Cert.Proj2RefIdeal.main_arg5) = m ((c.tc : Thread Cert.Proj2RefIdeal.nD Cert.Proj2RefIdeal.τ).loc Cert.Proj2RefIdeal.main_arg5))
      ∧ r.2.sem = fun _ => 0)

def quiescent_Latents [hLatents : Cert.Latents.Facts] : Prop :=
  ∀ (m : (ℓ : Loc Cert.Latents.nD Cert.Latents.τ Cert.Latents.sig) → Buf (Elt Bits) ℓ) (g : Dev Cert.Latents.nD → PrngReg), Pre_Latents m →
    θ_run (Cert.Latents.defs (F := Bits)) (onTc (τ := Cert.Latents.τ) (Cert.Latents.main (F := Bits))) ⟨m, fun _ => 0, g⟩ (fun r => (∀ c : Dev Cert.Latents.nD,
      r.2.mem ((c.tc : Thread Cert.Latents.nD Cert.Latents.τ).loc Cert.Latents.main_arg0) = m ((c.tc : Thread Cert.Latents.nD Cert.Latents.τ).loc Cert.Latents.main_arg0)
      ∧ r.2.mem ((c.tc : Thread Cert.Latents.nD Cert.Latents.τ).loc Cert.Latents.main_arg1) = m ((c.tc : Thread Cert.Latents.nD Cert.Latents.τ).loc Cert.Latents.main_arg1)
      ∧ r.2.mem ((c.tc : Thread Cert.Latents.nD Cert.Latents.τ).loc Cert.Latents.main_arg2) = m ((c.tc : Thread Cert.Latents.nD Cert.Latents.τ).loc Cert.Latents.main_arg2))
      ∧ r.2.sem = fun _ => 0)

def quiescent_LatentsIdeal [hLatentsIdeal : Cert.LatentsIdeal.Facts] : Prop :=
  ∀ (m : (ℓ : Loc Cert.LatentsIdeal.nD Cert.LatentsIdeal.τ Cert.LatentsIdeal.sig) → Buf (Elt Ideal) ℓ) (g : Dev Cert.LatentsIdeal.nD → PrngReg), Pre_LatentsIdeal m →
    θ_run (Cert.LatentsIdeal.defs (F := Ideal)) (onTc (τ := Cert.LatentsIdeal.τ) (Cert.LatentsIdeal.main (F := Ideal))) ⟨m, fun _ => 0, g⟩ (fun r => (∀ c : Dev Cert.LatentsIdeal.nD,
      r.2.mem ((c.tc : Thread Cert.LatentsIdeal.nD Cert.LatentsIdeal.τ).loc Cert.LatentsIdeal.main_arg0) = m ((c.tc : Thread Cert.LatentsIdeal.nD Cert.LatentsIdeal.τ).loc Cert.LatentsIdeal.main_arg0)
      ∧ r.2.mem ((c.tc : Thread Cert.LatentsIdeal.nD Cert.LatentsIdeal.τ).loc Cert.LatentsIdeal.main_arg1) = m ((c.tc : Thread Cert.LatentsIdeal.nD Cert.LatentsIdeal.τ).loc Cert.LatentsIdeal.main_arg1)
      ∧ r.2.mem ((c.tc : Thread Cert.LatentsIdeal.nD Cert.LatentsIdeal.τ).loc Cert.LatentsIdeal.main_arg2) = m ((c.tc : Thread Cert.LatentsIdeal.nD Cert.LatentsIdeal.τ).loc Cert.LatentsIdeal.main_arg2))
      ∧ r.2.sem = fun _ => 0)

def quiescent_LatentsRefIdeal [hLatentsRefIdeal : Cert.LatentsRefIdeal.Facts] : Prop :=
  ∀ (m : (ℓ : Loc Cert.LatentsRefIdeal.nD Cert.LatentsRefIdeal.τ Cert.LatentsRefIdeal.sig) → Buf (Elt Ideal) ℓ) (g : Dev Cert.LatentsRefIdeal.nD → PrngReg), Pre_LatentsRefIdeal m →
    θ_run (Cert.LatentsRefIdeal.defs (F := Ideal)) (onTc (τ := Cert.LatentsRefIdeal.τ) (Cert.LatentsRefIdeal.main (F := Ideal))) ⟨m, fun _ => 0, g⟩ (fun r => (∀ c : Dev Cert.LatentsRefIdeal.nD,
      r.2.mem ((c.tc : Thread Cert.LatentsRefIdeal.nD Cert.LatentsRefIdeal.τ).loc Cert.LatentsRefIdeal.main_arg0) = m ((c.tc : Thread Cert.LatentsRefIdeal.nD Cert.LatentsRefIdeal.τ).loc Cert.LatentsRefIdeal.main_arg0)
      ∧ r.2.mem ((c.tc : Thread Cert.LatentsRefIdeal.nD Cert.LatentsRefIdeal.τ).loc Cert.LatentsRefIdeal.main_arg1) = m ((c.tc : Thread Cert.LatentsRefIdeal.nD Cert.LatentsRefIdeal.τ).loc Cert.LatentsRefIdeal.main_arg1)
      ∧ r.2.mem ((c.tc : Thread Cert.LatentsRefIdeal.nD Cert.LatentsRefIdeal.τ).loc Cert.LatentsRefIdeal.main_arg2) = m ((c.tc : Thread Cert.LatentsRefIdeal.nD Cert.LatentsRefIdeal.τ).loc Cert.LatentsRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7)
      ∧ r.2.mem ((c.tc : Thread Cert.Prep.nD Cert.Prep.τ).loc Cert.Prep.main_arg8) = m ((c.tc : Thread Cert.Prep.nD Cert.Prep.τ).loc Cert.Prep.main_arg8)
      ∧ r.2.mem ((c.tc : Thread Cert.Prep.nD Cert.Prep.τ).loc Cert.Prep.main_arg9) = m ((c.tc : Thread Cert.Prep.nD Cert.Prep.τ).loc Cert.Prep.main_arg9)
      ∧ r.2.mem ((c.tc : Thread Cert.Prep.nD Cert.Prep.τ).loc Cert.Prep.main_arg10) = m ((c.tc : Thread Cert.Prep.nD Cert.Prep.τ).loc Cert.Prep.main_arg10)
      ∧ r.2.mem ((c.tc : Thread Cert.Prep.nD Cert.Prep.τ).loc Cert.Prep.main_arg11) = m ((c.tc : Thread Cert.Prep.nD Cert.Prep.τ).loc Cert.Prep.main_arg11))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
      ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9)
      ∧ r.2.mem ((c.tc : Thread Cert.PrepIdeal.nD Cert.PrepIdeal.τ).loc Cert.PrepIdeal.main_arg10) = m ((c.tc : Thread Cert.PrepIdeal.nD Cert.PrepIdeal.τ).loc Cert.PrepIdeal.main_arg10)
      ∧ r.2.mem ((c.tc : Thread Cert.PrepIdeal.nD Cert.PrepIdeal.τ).loc Cert.PrepIdeal.main_arg11) = m ((c.tc : Thread Cert.PrepIdeal.nD Cert.PrepIdeal.τ).loc Cert.PrepIdeal.main_arg11))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8)
      ∧ r.2.mem ((c.tc : Thread Cert.PrepRefIdeal.nD Cert.PrepRefIdeal.τ).loc Cert.PrepRefIdeal.main_arg9) = m ((c.tc : Thread Cert.PrepRefIdeal.nD Cert.PrepRefIdeal.τ).loc Cert.PrepRefIdeal.main_arg9)
      ∧ r.2.mem ((c.tc : Thread Cert.PrepRefIdeal.nD Cert.PrepRefIdeal.τ).loc Cert.PrepRefIdeal.main_arg10) = m ((c.tc : Thread Cert.PrepRefIdeal.nD Cert.PrepRefIdeal.τ).loc Cert.PrepRefIdeal.main_arg10)
      ∧ r.2.mem ((c.tc : Thread Cert.PrepRefIdeal.nD Cert.PrepRefIdeal.τ).loc Cert.PrepRefIdeal.main_arg11) = m ((c.tc : Thread Cert.PrepRefIdeal.nD Cert.PrepRefIdeal.τ).loc Cert.PrepRefIdeal.main_arg11))
      ∧ r.2.sem = fun _ => 0)

def preserves_Attn_AttnIdeal : Prop :=
  True

def algebraic_AttnIdeal_AttnRefIdeal_pre_finite_qk [hAttnIdeal : Cert.AttnIdeal.Facts] [hAttnRefIdeal : Cert.AttnRefIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_qk m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v23) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Dense_DenseIdeal : Prop :=
  True

def algebraic_DenseIdeal_DenseRefIdeal [hDenseIdeal : Cert.DenseIdeal.Facts] [hDenseRefIdeal : Cert.DenseRefIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseRefIdeal.nD Cert.DenseRefIdeal.τ Cert.DenseRefIdeal.sig) → Buf (Elt Ideal) ℓ) (g' : Dev Cert.DenseRefIdeal.nD → PrngReg), Pre_DenseIdeal m →
    (∀ c : Dev Cert.DenseIdeal.nD,
      m' ((c.tc : Thread Cert.DenseRefIdeal.nD Cert.DenseRefIdeal.τ).loc Cert.DenseRefIdeal.main_arg0) = m ((c.tc : Thread Cert.DenseIdeal.nD Cert.DenseIdeal.τ).loc Cert.DenseIdeal.main_arg0)
      ∧ m' ((c.tc : Thread Cert.DenseRefIdeal.nD Cert.DenseRefIdeal.τ).loc Cert.DenseRefIdeal.main_arg1) = m ((c.tc : Thread Cert.DenseIdeal.nD Cert.DenseIdeal.τ).loc Cert.DenseIdeal.main_arg1)
      ∧ m' ((c.tc : Thread Cert.DenseRefIdeal.nD Cert.DenseRefIdeal.τ).loc Cert.DenseRefIdeal.main_arg2) = m ((c.tc : Thread Cert.DenseIdeal.nD Cert.DenseIdeal.τ).loc Cert.DenseIdeal.main_arg2)
      ∧ m' ((c.tc : Thread Cert.DenseRefIdeal.nD Cert.DenseRefIdeal.τ).loc Cert.DenseRefIdeal.main_arg3) = m ((c.tc : Thread Cert.DenseIdeal.nD Cert.DenseIdeal.τ).loc Cert.DenseIdeal.main_arg3)) →
    ∃ (v0 : (c : Dev Cert.DenseIdeal.nD) → Buf (Elt Ideal) ((c.tc : Thread Cert.DenseIdeal.nD Cert.DenseIdeal.τ).loc Cert.DenseIdeal.main_v1)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v1) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3))
      ∧ θ_run (Cert.DenseRefIdeal.defs (F := Ideal)) (onTc (τ := Cert.DenseRefIdeal.τ) (Cert.DenseRefIdeal.main (F := Ideal))) ⟨m', fun _ => 0, g'⟩ (fun r => ∀ c : Dev Cert.DenseRefIdeal.nD,
          r.2.mem ((c.tc : Thread Cert.DenseRefIdeal.nD Cert.DenseRefIdeal.τ).loc Cert.DenseRefIdeal.main_v21) = v0 c
          ∧ r.2.mem ((c.tc : Thread Cert.DenseRefIdeal.nD Cert.DenseRefIdeal.τ).loc Cert.DenseRefIdeal.main_arg0) = m' ((c.tc : Thread Cert.DenseRefIdeal.nD Cert.DenseRefIdeal.τ).loc Cert.DenseRefIdeal.main_arg0)
          ∧ r.2.mem ((c.tc : Thread Cert.DenseRefIdeal.nD Cert.DenseRefIdeal.τ).loc Cert.DenseRefIdeal.main_arg1) = m' ((c.tc : Thread Cert.DenseRefIdeal.nD Cert.DenseRefIdeal.τ).loc Cert.DenseRefIdeal.main_arg1)
          ∧ r.2.mem ((c.tc : Thread Cert.DenseRefIdeal.nD Cert.DenseRefIdeal.τ).loc Cert.DenseRefIdeal.main_arg2) = m' ((c.tc : Thread Cert.DenseRefIdeal.nD Cert.DenseRefIdeal.τ).loc Cert.DenseRefIdeal.main_arg2)
          ∧ r.2.mem ((c.tc : Thread Cert.DenseRefIdeal.nD Cert.DenseRefIdeal.τ).loc Cert.DenseRefIdeal.main_arg3) = m' ((c.tc : Thread Cert.DenseRefIdeal.nD Cert.DenseRefIdeal.τ).loc Cert.DenseRefIdeal.main_arg3))

def preserves_Expert_ExpertIdeal : Prop :=
  True

def algebraic_ExpertIdeal_ExpertRefIdeal [hExpertIdeal : Cert.ExpertIdeal.Facts] [hExpertRefIdeal : Cert.ExpertRefIdeal.Facts] [hPre_tables : Cert.Pre_tables.Facts] : Prop :=
  ∀ (m : (ℓ : Loc Cert.ExpertIdeal.nD Cert.ExpertIdeal.τ Cert.ExpertIdeal.sig) → Buf (Elt Ideal) ℓ) (g : Dev Cert.ExpertIdeal.nD → PrngReg)
    (m' : (ℓ : Loc Cert.ExpertRefIdeal.nD Cert.ExpertRefIdeal.τ Cert.ExpertRefIdeal.sig) → Buf (Elt Ideal) ℓ) (g' : Dev Cert.ExpertRefIdeal.nD → PrngReg), Pre_ExpertIdeal m →
    (∀ c : Dev Cert.ExpertIdeal.nD,
      m' ((c.tc : Thread Cert.ExpertRefIdeal.nD Cert.ExpertRefIdeal.τ).loc Cert.ExpertRefIdeal.main_arg0) = m ((c.tc : Thread Cert.ExpertIdeal.nD Cert.ExpertIdeal.τ).loc Cert.ExpertIdeal.main_arg0)
      ∧ m' ((c.tc : Thread Cert.ExpertRefIdeal.nD Cert.ExpertRefIdeal.τ).loc Cert.ExpertRefIdeal.main_arg1) = m ((c.tc : Thread Cert.ExpertIdeal.nD Cert.ExpertIdeal.τ).loc Cert.ExpertIdeal.main_arg1)
      ∧ m' ((c.tc : Thread Cert.ExpertRefIdeal.nD Cert.ExpertRefIdeal.τ).loc Cert.ExpertRefIdeal.main_arg2) = m ((c.tc : Thread Cert.ExpertIdeal.nD Cert.ExpertIdeal.τ).loc Cert.ExpertIdeal.main_arg2)
      ∧ m' ((c.tc : Thread Cert.ExpertRefIdeal.nD Cert.ExpertRefIdeal.τ).loc Cert.ExpertRefIdeal.main_arg3) = m ((c.tc : Thread Cert.ExpertIdeal.nD Cert.ExpertIdeal.τ).loc Cert.ExpertIdeal.main_arg3)
      ∧ m' ((c.tc : Thread Cert.ExpertRefIdeal.nD Cert.ExpertRefIdeal.τ).loc Cert.ExpertRefIdeal.main_arg4) = m ((c.tc : Thread Cert.ExpertIdeal.nD Cert.ExpertIdeal.τ).loc Cert.ExpertIdeal.main_arg4)) →
    ∃ (v0 : (c : Dev Cert.ExpertIdeal.nD) → Buf (Elt Ideal) ((c.tc : Thread Cert.ExpertIdeal.nD Cert.ExpertIdeal.τ).loc Cert.ExpertIdeal.main_v0)),
      θ_run (Cert.ExpertIdeal.defs (F := Ideal)) (onTc (τ := Cert.ExpertIdeal.τ) (Cert.ExpertIdeal.main (F := Ideal))) ⟨m, fun _ => 0, g⟩ (fun r => ∀ c : Dev Cert.ExpertIdeal.nD,
          r.2.mem ((c.tc : Thread Cert.ExpertIdeal.nD Cert.ExpertIdeal.τ).loc Cert.ExpertIdeal.main_v0) = v0 c
          ∧ r.2.mem ((c.tc : Thread Cert.ExpertIdeal.nD Cert.ExpertIdeal.τ).loc Cert.ExpertIdeal.main_arg0) = m ((c.tc : Thread Cert.ExpertIdeal.nD Cert.ExpertIdeal.τ).loc Cert.ExpertIdeal.main_arg0)
          ∧ r.2.mem ((c.tc : Thread Cert.ExpertIdeal.nD Cert.ExpertIdeal.τ).loc Cert.ExpertIdeal.main_arg1) = m ((c.tc : Thread Cert.ExpertIdeal.nD Cert.ExpertIdeal.τ).loc Cert.ExpertIdeal.main_arg1)
          ∧ r.2.mem ((c.tc : Thread Cert.ExpertIdeal.nD Cert.ExpertIdeal.τ).loc Cert.ExpertIdeal.main_arg2) = m ((c.tc : Thread Cert.ExpertIdeal.nD Cert.ExpertIdeal.τ).loc Cert.ExpertIdeal.main_arg2)
          ∧ r.2.mem ((c.tc : Thread Cert.ExpertIdeal.nD Cert.ExpertIdeal.τ).loc Cert.ExpertIdeal.main_arg3) = m ((c.tc : Thread Cert.ExpertIdeal.nD Cert.ExpertIdeal.τ).loc Cert.ExpertIdeal.main_arg3)
          ∧ r.2.mem ((c.tc : Thread Cert.ExpertIdeal.nD Cert.ExpertIdeal.τ).loc Cert.ExpertIdeal.main_arg4) = m ((c.tc : Thread Cert.ExpertIdeal.nD Cert.ExpertIdeal.τ).loc Cert.ExpertIdeal.main_arg4))
      ∧ θ_run (Cert.ExpertRefIdeal.defs (F := Ideal)) (onTc (τ := Cert.ExpertRefIdeal.τ) (Cert.ExpertRefIdeal.main (F := Ideal))) ⟨m', fun _ => 0, g'⟩ (fun r => ∀ c : Dev Cert.ExpertRefIdeal.nD,
          r.2.mem ((c.tc : Thread Cert.ExpertRefIdeal.nD Cert.ExpertRefIdeal.τ).loc Cert.ExpertRefIdeal.main_v142) = v0 c
          ∧ r.2.mem ((c.tc : Thread Cert.ExpertRefIdeal.nD Cert.ExpertRefIdeal.τ).loc Cert.ExpertRefIdeal.main_arg0) = m' ((c.tc : Thread Cert.ExpertRefIdeal.nD Cert.ExpertRefIdeal.τ).loc Cert.ExpertRefIdeal.main_arg0)
          ∧ r.2.mem ((c.tc : Thread Cert.ExpertRefIdeal.nD Cert.ExpertRefIdeal.τ).loc Cert.ExpertRefIdeal.main_arg1) = m' ((c.tc : Thread Cert.ExpertRefIdeal.nD Cert.ExpertRefIdeal.τ).loc Cert.ExpertRefIdeal.main_arg1)
          ∧ r.2.mem ((c.tc : Thread Cert.ExpertRefIdeal.nD Cert.ExpertRefIdeal.τ).loc Cert.ExpertRefIdeal.main_arg2) = m' ((c.tc : Thread Cert.ExpertRefIdeal.nD Cert.ExpertRefIdeal.τ).loc Cert.ExpertRefIdeal.main_arg2)
          ∧ r.2.mem ((c.tc : Thread Cert.ExpertRefIdeal.nD Cert.ExpertRefIdeal.τ).loc Cert.ExpertRefIdeal.main_arg3) = m' ((c.tc : Thread Cert.ExpertRefIdeal.nD Cert.ExpertRefIdeal.τ).loc Cert.ExpertRefIdeal.main_arg3)
          ∧ r.2.mem ((c.tc : Thread Cert.ExpertRefIdeal.nD Cert.ExpertRefIdeal.τ).loc Cert.ExpertRefIdeal.main_arg4) = m' ((c.tc : Thread Cert.ExpertRefIdeal.nD Cert.ExpertRefIdeal.τ).loc Cert.ExpertRefIdeal.main_arg4))

def preserves_Proj0_Proj0Ideal : Prop :=
  True

def algebraic_Proj0Ideal_Proj0RefIdeal [hProj0Ideal : Cert.Proj0Ideal.Facts] [hProj0RefIdeal : Cert.Proj0RefIdeal.Facts] : Prop :=
  ∀ (m : (ℓ : Loc Cert.Proj0Ideal.nD Cert.Proj0Ideal.τ Cert.Proj0Ideal.sig) → Buf (Elt Ideal) ℓ) (g : Dev Cert.Proj0Ideal.nD → PrngReg)
    (m' : (ℓ : Loc Cert.Proj0RefIdeal.nD Cert.Proj0RefIdeal.τ Cert.Proj0RefIdeal.sig) → Buf (Elt Ideal) ℓ) (g' : Dev Cert.Proj0RefIdeal.nD → PrngReg), Pre_Proj0Ideal m →
    (∀ c : Dev Cert.Proj0Ideal.nD,
      m' ((c.tc : Thread Cert.Proj0RefIdeal.nD Cert.Proj0RefIdeal.τ).loc Cert.Proj0RefIdeal.main_arg0) = m ((c.tc : Thread Cert.Proj0Ideal.nD Cert.Proj0Ideal.τ).loc Cert.Proj0Ideal.main_arg0)
      ∧ m' ((c.tc : Thread Cert.Proj0RefIdeal.nD Cert.Proj0RefIdeal.τ).loc Cert.Proj0RefIdeal.main_arg1) = m ((c.tc : Thread Cert.Proj0Ideal.nD Cert.Proj0Ideal.τ).loc Cert.Proj0Ideal.main_arg1)
      ∧ m' ((c.tc : Thread Cert.Proj0RefIdeal.nD Cert.Proj0RefIdeal.τ).loc Cert.Proj0RefIdeal.main_arg2) = m ((c.tc : Thread Cert.Proj0Ideal.nD Cert.Proj0Ideal.τ).loc Cert.Proj0Ideal.main_arg2)
      ∧ m' ((c.tc : Thread Cert.Proj0RefIdeal.nD Cert.Proj0RefIdeal.τ).loc Cert.Proj0RefIdeal.main_arg3) = m ((c.tc : Thread Cert.Proj0Ideal.nD Cert.Proj0Ideal.τ).loc Cert.Proj0Ideal.main_arg3)
      ∧ m' ((c.tc : Thread Cert.Proj0RefIdeal.nD Cert.Proj0RefIdeal.τ).loc Cert.Proj0RefIdeal.main_arg4) = m ((c.tc : Thread Cert.Proj0Ideal.nD Cert.Proj0Ideal.τ).loc Cert.Proj0Ideal.main_arg4)
      ∧ m' ((c.tc : Thread Cert.Proj0RefIdeal.nD Cert.Proj0RefIdeal.τ).loc Cert.Proj0RefIdeal.main_arg5) = m ((c.tc : Thread Cert.Proj0Ideal.nD Cert.Proj0Ideal.τ).loc Cert.Proj0Ideal.main_arg5)) →
    ∃ (v0 : (c : Dev Cert.Proj0Ideal.nD) → Buf (Elt Ideal) ((c.tc : Thread Cert.Proj0Ideal.nD Cert.Proj0Ideal.τ).loc Cert.Proj0Ideal.main_v70)),
      θ_run (Cert.Proj0Ideal.defs (F := Ideal)) (onTc (τ := Cert.Proj0Ideal.τ) (Cert.Proj0Ideal.main (F := Ideal))) ⟨m, fun _ => 0, g⟩ (fun r => ∀ c : Dev Cert.Proj0Ideal.nD,
          r.2.mem ((c.tc : Thread Cert.Proj0Ideal.nD Cert.Proj0Ideal.τ).loc Cert.Proj0Ideal.main_v70) = v0 c
          ∧ r.2.mem ((c.tc : Thread Cert.Proj0Ideal.nD Cert.Proj0Ideal.τ).loc Cert.Proj0Ideal.main_arg0) = m ((c.tc : Thread Cert.Proj0Ideal.nD Cert.Proj0Ideal.τ).loc Cert.Proj0Ideal.main_arg0)
          ∧ r.2.mem ((c.tc : Thread Cert.Proj0Ideal.nD Cert.Proj0Ideal.τ).loc Cert.Proj0Ideal.main_arg1) = m ((c.tc : Thread Cert.Proj0Ideal.nD Cert.Proj0Ideal.τ).loc Cert.Proj0Ideal.main_arg1)
          ∧ r.2.mem ((c.tc : Thread Cert.Proj0Ideal.nD Cert.Proj0Ideal.τ).loc Cert.Proj0Ideal.main_arg2) = m ((c.tc : Thread Cert.Proj0Ideal.nD Cert.Proj0Ideal.τ).loc Cert.Proj0Ideal.main_arg2)
          ∧ r.2.mem ((c.tc : Thread Cert.Proj0Ideal.nD Cert.Proj0Ideal.τ).loc Cert.Proj0Ideal.main_arg3) = m ((c.tc : Thread Cert.Proj0Ideal.nD Cert.Proj0Ideal.τ).loc Cert.Proj0Ideal.main_arg3)
          ∧ r.2.mem ((c.tc : Thread Cert.Proj0Ideal.nD Cert.Proj0Ideal.τ).loc Cert.Proj0Ideal.main_arg4) = m ((c.tc : Thread Cert.Proj0Ideal.nD Cert.Proj0Ideal.τ).loc Cert.Proj0Ideal.main_arg4)
          ∧ r.2.mem ((c.tc : Thread Cert.Proj0Ideal.nD Cert.Proj0Ideal.τ).loc Cert.Proj0Ideal.main_arg5) = m ((c.tc : Thread Cert.Proj0Ideal.nD Cert.Proj0Ideal.τ).loc Cert.Proj0Ideal.main_arg5))
      ∧ θ_run (Cert.Proj0RefIdeal.defs (F := Ideal)) (onTc (τ := Cert.Proj0RefIdeal.τ) (Cert.Proj0RefIdeal.main (F := Ideal))) ⟨m', fun _ => 0, g'⟩ (fun r => ∀ c : Dev Cert.Proj0RefIdeal.nD,
          r.2.mem ((c.tc : Thread Cert.Proj0RefIdeal.nD Cert.Proj0RefIdeal.τ).loc Cert.Proj0RefIdeal.main_v107) = v0 c
          ∧ r.2.mem ((c.tc : Thread Cert.Proj0RefIdeal.nD Cert.Proj0RefIdeal.τ).loc Cert.Proj0RefIdeal.main_arg0) = m' ((c.tc : Thread Cert.Proj0RefIdeal.nD Cert.Proj0RefIdeal.τ).loc Cert.Proj0RefIdeal.main_arg0)
          ∧ r.2.mem ((c.tc : Thread Cert.Proj0RefIdeal.nD Cert.Proj0RefIdeal.τ).loc Cert.Proj0RefIdeal.main_arg1) = m' ((c.tc : Thread Cert.Proj0RefIdeal.nD Cert.Proj0RefIdeal.τ).loc Cert.Proj0RefIdeal.main_arg1)
          ∧ r.2.mem ((c.tc : Thread Cert.Proj0RefIdeal.nD Cert.Proj0RefIdeal.τ).loc Cert.Proj0RefIdeal.main_arg2) = m' ((c.tc : Thread Cert.Proj0RefIdeal.nD Cert.Proj0RefIdeal.τ).loc Cert.Proj0RefIdeal.main_arg2)
          ∧ r.2.mem ((c.tc : Thread Cert.Proj0RefIdeal.nD Cert.Proj0RefIdeal.τ).loc Cert.Proj0RefIdeal.main_arg3) = m' ((c.tc : Thread Cert.Proj0RefIdeal.nD Cert.Proj0RefIdeal.τ).loc Cert.Proj0RefIdeal.main_arg3)
          ∧ r.2.mem ((c.tc : Thread Cert.Proj0RefIdeal.nD Cert.Proj0RefIdeal.τ).loc Cert.Proj0RefIdeal.main_arg4) = m' ((c.tc : Thread Cert.Proj0RefIdeal.nD Cert.Proj0RefIdeal.τ).loc Cert.Proj0RefIdeal.main_arg4)
          ∧ r.2.mem ((c.tc : Thread Cert.Proj0RefIdeal.nD Cert.Proj0RefIdeal.τ).loc Cert.Proj0RefIdeal.main_arg5) = m' ((c.tc : Thread Cert.Proj0RefIdeal.nD Cert.Proj0RefIdeal.τ).loc Cert.Proj0RefIdeal.main_arg5))

def preserves_Proj1_Proj1Ideal : Prop :=
  True

def algebraic_Proj1Ideal_Proj1RefIdeal [hProj1Ideal : Cert.Proj1Ideal.Facts] [hProj1RefIdeal : Cert.Proj1RefIdeal.Facts] : Prop :=
  ∀ (m : (ℓ : Loc Cert.Proj1Ideal.nD Cert.Proj1Ideal.τ Cert.Proj1Ideal.sig) → Buf (Elt Ideal) ℓ) (g : Dev Cert.Proj1Ideal.nD → PrngReg)
    (m' : (ℓ : Loc Cert.Proj1RefIdeal.nD Cert.Proj1RefIdeal.τ Cert.Proj1RefIdeal.sig) → Buf (Elt Ideal) ℓ) (g' : Dev Cert.Proj1RefIdeal.nD → PrngReg), Pre_Proj1Ideal m →
    (∀ c : Dev Cert.Proj1Ideal.nD,
      m' ((c.tc : Thread Cert.Proj1RefIdeal.nD Cert.Proj1RefIdeal.τ).loc Cert.Proj1RefIdeal.main_arg0) = m ((c.tc : Thread Cert.Proj1Ideal.nD Cert.Proj1Ideal.τ).loc Cert.Proj1Ideal.main_arg0)
      ∧ m' ((c.tc : Thread Cert.Proj1RefIdeal.nD Cert.Proj1RefIdeal.τ).loc Cert.Proj1RefIdeal.main_arg1) = m ((c.tc : Thread Cert.Proj1Ideal.nD Cert.Proj1Ideal.τ).loc Cert.Proj1Ideal.main_arg1)
      ∧ m' ((c.tc : Thread Cert.Proj1RefIdeal.nD Cert.Proj1RefIdeal.τ).loc Cert.Proj1RefIdeal.main_arg2) = m ((c.tc : Thread Cert.Proj1Ideal.nD Cert.Proj1Ideal.τ).loc Cert.Proj1Ideal.main_arg2)
      ∧ m' ((c.tc : Thread Cert.Proj1RefIdeal.nD Cert.Proj1RefIdeal.τ).loc Cert.Proj1RefIdeal.main_arg3) = m ((c.tc : Thread Cert.Proj1Ideal.nD Cert.Proj1Ideal.τ).loc Cert.Proj1Ideal.main_arg3)
      ∧ m' ((c.tc : Thread Cert.Proj1RefIdeal.nD Cert.Proj1RefIdeal.τ).loc Cert.Proj1RefIdeal.main_arg4) = m ((c.tc : Thread Cert.Proj1Ideal.nD Cert.Proj1Ideal.τ).loc Cert.Proj1Ideal.main_arg4)
      ∧ m' ((c.tc : Thread Cert.Proj1RefIdeal.nD Cert.Proj1RefIdeal.τ).loc Cert.Proj1RefIdeal.main_arg5) = m ((c.tc : Thread Cert.Proj1Ideal.nD Cert.Proj1Ideal.τ).loc Cert.Proj1Ideal.main_arg5)) →
    ∃ (v0 : (c : Dev Cert.Proj1Ideal.nD) → Buf (Elt Ideal) ((c.tc : Thread Cert.Proj1Ideal.nD Cert.Proj1Ideal.τ).loc Cert.Proj1Ideal.main_v70)),
      θ_run (Cert.Proj1Ideal.defs (F := Ideal)) (onTc (τ := Cert.Proj1Ideal.τ) (Cert.Proj1Ideal.main (F := Ideal))) ⟨m, fun _ => 0, g⟩ (fun r => ∀ c : Dev Cert.Proj1Ideal.nD,
          r.2.mem ((c.tc : Thread Cert.Proj1Ideal.nD Cert.Proj1Ideal.τ).loc Cert.Proj1Ideal.main_v70) = v0 c
          ∧ r.2.mem ((c.tc : Thread Cert.Proj1Ideal.nD Cert.Proj1Ideal.τ).loc Cert.Proj1Ideal.main_arg0) = m ((c.tc : Thread Cert.Proj1Ideal.nD Cert.Proj1Ideal.τ).loc Cert.Proj1Ideal.main_arg0)
          ∧ r.2.mem ((c.tc : Thread Cert.Proj1Ideal.nD Cert.Proj1Ideal.τ).loc Cert.Proj1Ideal.main_arg1) = m ((c.tc : Thread Cert.Proj1Ideal.nD Cert.Proj1Ideal.τ).loc Cert.Proj1Ideal.main_arg1)
          ∧ r.2.mem ((c.tc : Thread Cert.Proj1Ideal.nD Cert.Proj1Ideal.τ).loc Cert.Proj1Ideal.main_arg2) = m ((c.tc : Thread Cert.Proj1Ideal.nD Cert.Proj1Ideal.τ).loc Cert.Proj1Ideal.main_arg2)
          ∧ r.2.mem ((c.tc : Thread Cert.Proj1Ideal.nD Cert.Proj1Ideal.τ).loc Cert.Proj1Ideal.main_arg3) = m ((c.tc : Thread Cert.Proj1Ideal.nD Cert.Proj1Ideal.τ).loc Cert.Proj1Ideal.main_arg3)
          ∧ r.2.mem ((c.tc : Thread Cert.Proj1Ideal.nD Cert.Proj1Ideal.τ).loc Cert.Proj1Ideal.main_arg4) = m ((c.tc : Thread Cert.Proj1Ideal.nD Cert.Proj1Ideal.τ).loc Cert.Proj1Ideal.main_arg4)
          ∧ r.2.mem ((c.tc : Thread Cert.Proj1Ideal.nD Cert.Proj1Ideal.τ).loc Cert.Proj1Ideal.main_arg5) = m ((c.tc : Thread Cert.Proj1Ideal.nD Cert.Proj1Ideal.τ).loc Cert.Proj1Ideal.main_arg5))
      ∧ θ_run (Cert.Proj1RefIdeal.defs (F := Ideal)) (onTc (τ := Cert.Proj1RefIdeal.τ) (Cert.Proj1RefIdeal.main (F := Ideal))) ⟨m', fun _ => 0, g'⟩ (fun r => ∀ c : Dev Cert.Proj1RefIdeal.nD,
          r.2.mem ((c.tc : Thread Cert.Proj1RefIdeal.nD Cert.Proj1RefIdeal.τ).loc Cert.Proj1RefIdeal.main_v107) = v0 c
          ∧ r.2.mem ((c.tc : Thread Cert.Proj1RefIdeal.nD Cert.Proj1RefIdeal.τ).loc Cert.Proj1RefIdeal.main_arg0) = m' ((c.tc : Thread Cert.Proj1RefIdeal.nD Cert.Proj1RefIdeal.τ).loc Cert.Proj1RefIdeal.main_arg0)
          ∧ r.2.mem ((c.tc : Thread Cert.Proj1RefIdeal.nD Cert.Proj1RefIdeal.τ).loc Cert.Proj1RefIdeal.main_arg1) = m' ((c.tc : Thread Cert.Proj1RefIdeal.nD Cert.Proj1RefIdeal.τ).loc Cert.Proj1RefIdeal.main_arg1)
          ∧ r.2.mem ((c.tc : Thread Cert.Proj1RefIdeal.nD Cert.Proj1RefIdeal.τ).loc Cert.Proj1RefIdeal.main_arg2) = m' ((c.tc : Thread Cert.Proj1RefIdeal.nD Cert.Proj1RefIdeal.τ).loc Cert.Proj1RefIdeal.main_arg2)
          ∧ r.2.mem ((c.tc : Thread Cert.Proj1RefIdeal.nD Cert.Proj1RefIdeal.τ).loc Cert.Proj1RefIdeal.main_arg3) = m' ((c.tc : Thread Cert.Proj1RefIdeal.nD Cert.Proj1RefIdeal.τ).loc Cert.Proj1RefIdeal.main_arg3)
          ∧ r.2.mem ((c.tc : Thread Cert.Proj1RefIdeal.nD Cert.Proj1RefIdeal.τ).loc Cert.Proj1RefIdeal.main_arg4) = m' ((c.tc : Thread Cert.Proj1RefIdeal.nD Cert.Proj1RefIdeal.τ).loc Cert.Proj1RefIdeal.main_arg4)
          ∧ r.2.mem ((c.tc : Thread Cert.Proj1RefIdeal.nD Cert.Proj1RefIdeal.τ).loc Cert.Proj1RefIdeal.main_arg5) = m' ((c.tc : Thread Cert.Proj1RefIdeal.nD Cert.Proj1RefIdeal.τ).loc Cert.Proj1RefIdeal.main_arg5))

def preserves_Proj2_Proj2Ideal : Prop :=
  True

def algebraic_Proj2Ideal_Proj2RefIdeal [hProj2Ideal : Cert.Proj2Ideal.Facts] [hProj2RefIdeal : Cert.Proj2RefIdeal.Facts] : Prop :=
  ∀ (m : (ℓ : Loc Cert.Proj2Ideal.nD Cert.Proj2Ideal.τ Cert.Proj2Ideal.sig) → Buf (Elt Ideal) ℓ) (g : Dev Cert.Proj2Ideal.nD → PrngReg)
    (m' : (ℓ : Loc Cert.Proj2RefIdeal.nD Cert.Proj2RefIdeal.τ Cert.Proj2RefIdeal.sig) → Buf (Elt Ideal) ℓ) (g' : Dev Cert.Proj2RefIdeal.nD → PrngReg), Pre_Proj2Ideal m →
    (∀ c : Dev Cert.Proj2Ideal.nD,
      m' ((c.tc : Thread Cert.Proj2RefIdeal.nD Cert.Proj2RefIdeal.τ).loc Cert.Proj2RefIdeal.main_arg0) = m ((c.tc : Thread Cert.Proj2Ideal.nD Cert.Proj2Ideal.τ).loc Cert.Proj2Ideal.main_arg0)
      ∧ m' ((c.tc : Thread Cert.Proj2RefIdeal.nD Cert.Proj2RefIdeal.τ).loc Cert.Proj2RefIdeal.main_arg1) = m ((c.tc : Thread Cert.Proj2Ideal.nD Cert.Proj2Ideal.τ).loc Cert.Proj2Ideal.main_arg1)
      ∧ m' ((c.tc : Thread Cert.Proj2RefIdeal.nD Cert.Proj2RefIdeal.τ).loc Cert.Proj2RefIdeal.main_arg2) = m ((c.tc : Thread Cert.Proj2Ideal.nD Cert.Proj2Ideal.τ).loc Cert.Proj2Ideal.main_arg2)
      ∧ m' ((c.tc : Thread Cert.Proj2RefIdeal.nD Cert.Proj2RefIdeal.τ).loc Cert.Proj2RefIdeal.main_arg3) = m ((c.tc : Thread Cert.Proj2Ideal.nD Cert.Proj2Ideal.τ).loc Cert.Proj2Ideal.main_arg3)
      ∧ m' ((c.tc : Thread Cert.Proj2RefIdeal.nD Cert.Proj2RefIdeal.τ).loc Cert.Proj2RefIdeal.main_arg4) = m ((c.tc : Thread Cert.Proj2Ideal.nD Cert.Proj2Ideal.τ).loc Cert.Proj2Ideal.main_arg4)
      ∧ m' ((c.tc : Thread Cert.Proj2RefIdeal.nD Cert.Proj2RefIdeal.τ).loc Cert.Proj2RefIdeal.main_arg5) = m ((c.tc : Thread Cert.Proj2Ideal.nD Cert.Proj2Ideal.τ).loc Cert.Proj2Ideal.main_arg5)) →
    ∃ (v0 : (c : Dev Cert.Proj2Ideal.nD) → Buf (Elt Ideal) ((c.tc : Thread Cert.Proj2Ideal.nD Cert.Proj2Ideal.τ).loc Cert.Proj2Ideal.main_v70)),
      θ_run (Cert.Proj2Ideal.defs (F := Ideal)) (onTc (τ := Cert.Proj2Ideal.τ) (Cert.Proj2Ideal.main (F := Ideal))) ⟨m, fun _ => 0, g⟩ (fun r => ∀ c : Dev Cert.Proj2Ideal.nD,
          r.2.mem ((c.tc : Thread Cert.Proj2Ideal.nD Cert.Proj2Ideal.τ).loc Cert.Proj2Ideal.main_v70) = v0 c
          ∧ r.2.mem ((c.tc : Thread Cert.Proj2Ideal.nD Cert.Proj2Ideal.τ).loc Cert.Proj2Ideal.main_arg0) = m ((c.tc : Thread Cert.Proj2Ideal.nD Cert.Proj2Ideal.τ).loc Cert.Proj2Ideal.main_arg0)
          ∧ r.2.mem ((c.tc : Thread Cert.Proj2Ideal.nD Cert.Proj2Ideal.τ).loc Cert.Proj2Ideal.main_arg1) = m ((c.tc : Thread Cert.Proj2Ideal.nD Cert.Proj2Ideal.τ).loc Cert.Proj2Ideal.main_arg1)
          ∧ r.2.mem ((c.tc : Thread Cert.Proj2Ideal.nD Cert.Proj2Ideal.τ).loc Cert.Proj2Ideal.main_arg2) = m ((c.tc : Thread Cert.Proj2Ideal.nD Cert.Proj2Ideal.τ).loc Cert.Proj2Ideal.main_arg2)
          ∧ r.2.mem ((c.tc : Thread Cert.Proj2Ideal.nD Cert.Proj2Ideal.τ).loc Cert.Proj2Ideal.main_arg3) = m ((c.tc : Thread Cert.Proj2Ideal.nD Cert.Proj2Ideal.τ).loc Cert.Proj2Ideal.main_arg3)
          ∧ r.2.mem ((c.tc : Thread Cert.Proj2Ideal.nD Cert.Proj2Ideal.τ).loc Cert.Proj2Ideal.main_arg4) = m ((c.tc : Thread Cert.Proj2Ideal.nD Cert.Proj2Ideal.τ).loc Cert.Proj2Ideal.main_arg4)
          ∧ r.2.mem ((c.tc : Thread Cert.Proj2Ideal.nD Cert.Proj2Ideal.τ).loc Cert.Proj2Ideal.main_arg5) = m ((c.tc : Thread Cert.Proj2Ideal.nD Cert.Proj2Ideal.τ).loc Cert.Proj2Ideal.main_arg5))
      ∧ θ_run (Cert.Proj2RefIdeal.defs (F := Ideal)) (onTc (τ := Cert.Proj2RefIdeal.τ) (Cert.Proj2RefIdeal.main (F := Ideal))) ⟨m', fun _ => 0, g'⟩ (fun r => ∀ c : Dev Cert.Proj2RefIdeal.nD,
          r.2.mem ((c.tc : Thread Cert.Proj2RefIdeal.nD Cert.Proj2RefIdeal.τ).loc Cert.Proj2RefIdeal.main_v107) = v0 c
          ∧ r.2.mem ((c.tc : Thread Cert.Proj2RefIdeal.nD Cert.Proj2RefIdeal.τ).loc Cert.Proj2RefIdeal.main_arg0) = m' ((c.tc : Thread Cert.Proj2RefIdeal.nD Cert.Proj2RefIdeal.τ).loc Cert.Proj2RefIdeal.main_arg0)
          ∧ r.2.mem ((c.tc : Thread Cert.Proj2RefIdeal.nD Cert.Proj2RefIdeal.τ).loc Cert.Proj2RefIdeal.main_arg1) = m' ((c.tc : Thread Cert.Proj2RefIdeal.nD Cert.Proj2RefIdeal.τ).loc Cert.Proj2RefIdeal.main_arg1)
          ∧ r.2.mem ((c.tc : Thread Cert.Proj2RefIdeal.nD Cert.Proj2RefIdeal.τ).loc Cert.Proj2RefIdeal.main_arg2) = m' ((c.tc : Thread Cert.Proj2RefIdeal.nD Cert.Proj2RefIdeal.τ).loc Cert.Proj2RefIdeal.main_arg2)
          ∧ r.2.mem ((c.tc : Thread Cert.Proj2RefIdeal.nD Cert.Proj2RefIdeal.τ).loc Cert.Proj2RefIdeal.main_arg3) = m' ((c.tc : Thread Cert.Proj2RefIdeal.nD Cert.Proj2RefIdeal.τ).loc Cert.Proj2RefIdeal.main_arg3)
          ∧ r.2.mem ((c.tc : Thread Cert.Proj2RefIdeal.nD Cert.Proj2RefIdeal.τ).loc Cert.Proj2RefIdeal.main_arg4) = m' ((c.tc : Thread Cert.Proj2RefIdeal.nD Cert.Proj2RefIdeal.τ).loc Cert.Proj2RefIdeal.main_arg4)
          ∧ r.2.mem ((c.tc : Thread Cert.Proj2RefIdeal.nD Cert.Proj2RefIdeal.τ).loc Cert.Proj2RefIdeal.main_arg5) = m' ((c.tc : Thread Cert.Proj2RefIdeal.nD Cert.Proj2RefIdeal.τ).loc Cert.Proj2RefIdeal.main_arg5))

def preserves_Latents_LatentsIdeal : Prop :=
  True

def algebraic_LatentsIdeal_LatentsRefIdeal [hLatentsIdeal : Cert.LatentsIdeal.Facts] [hLatentsRefIdeal : Cert.LatentsRefIdeal.Facts] : Prop :=
  ∀ (m : (ℓ : Loc Cert.LatentsIdeal.nD Cert.LatentsIdeal.τ Cert.LatentsIdeal.sig) → Buf (Elt Ideal) ℓ) (g : Dev Cert.LatentsIdeal.nD → PrngReg)
    (m' : (ℓ : Loc Cert.LatentsRefIdeal.nD Cert.LatentsRefIdeal.τ Cert.LatentsRefIdeal.sig) → Buf (Elt Ideal) ℓ) (g' : Dev Cert.LatentsRefIdeal.nD → PrngReg), Pre_LatentsIdeal m →
    (∀ c : Dev Cert.LatentsIdeal.nD,
      m' ((c.tc : Thread Cert.LatentsRefIdeal.nD Cert.LatentsRefIdeal.τ).loc Cert.LatentsRefIdeal.main_arg0) = m ((c.tc : Thread Cert.LatentsIdeal.nD Cert.LatentsIdeal.τ).loc Cert.LatentsIdeal.main_arg0)
      ∧ m' ((c.tc : Thread Cert.LatentsRefIdeal.nD Cert.LatentsRefIdeal.τ).loc Cert.LatentsRefIdeal.main_arg1) = m ((c.tc : Thread Cert.LatentsIdeal.nD Cert.LatentsIdeal.τ).loc Cert.LatentsIdeal.main_arg1)
      ∧ m' ((c.tc : Thread Cert.LatentsRefIdeal.nD Cert.LatentsRefIdeal.τ).loc Cert.LatentsRefIdeal.main_arg2) = m ((c.tc : Thread Cert.LatentsIdeal.nD Cert.LatentsIdeal.τ).loc Cert.LatentsIdeal.main_arg2)) →
    ∃ (v0 : (c : Dev Cert.LatentsIdeal.nD) → Buf (Elt Ideal) ((c.tc : Thread Cert.LatentsIdeal.nD Cert.LatentsIdeal.τ).loc Cert.LatentsIdeal.main_v1)),
      θ_run (Cert.LatentsIdeal.defs (F := Ideal)) (onTc (τ := Cert.LatentsIdeal.τ) (Cert.LatentsIdeal.main (F := Ideal))) ⟨m, fun _ => 0, g⟩ (fun r => ∀ c : Dev Cert.LatentsIdeal.nD,
          r.2.mem ((c.tc : Thread Cert.LatentsIdeal.nD Cert.LatentsIdeal.τ).loc Cert.LatentsIdeal.main_v1) = v0 c
          ∧ r.2.mem ((c.tc : Thread Cert.LatentsIdeal.nD Cert.LatentsIdeal.τ).loc Cert.LatentsIdeal.main_arg0) = m ((c.tc : Thread Cert.LatentsIdeal.nD Cert.LatentsIdeal.τ).loc Cert.LatentsIdeal.main_arg0)
          ∧ r.2.mem ((c.tc : Thread Cert.LatentsIdeal.nD Cert.LatentsIdeal.τ).loc Cert.LatentsIdeal.main_arg1) = m ((c.tc : Thread Cert.LatentsIdeal.nD Cert.LatentsIdeal.τ).loc Cert.LatentsIdeal.main_arg1)
          ∧ r.2.mem ((c.tc : Thread Cert.LatentsIdeal.nD Cert.LatentsIdeal.τ).loc Cert.LatentsIdeal.main_arg2) = m ((c.tc : Thread Cert.LatentsIdeal.nD Cert.LatentsIdeal.τ).loc Cert.LatentsIdeal.main_arg2))
      ∧ θ_run (Cert.LatentsRefIdeal.defs (F := Ideal)) (onTc (τ := Cert.LatentsRefIdeal.τ) (Cert.LatentsRefIdeal.main (F := Ideal))) ⟨m', fun _ => 0, g'⟩ (fun r => ∀ c : Dev Cert.LatentsRefIdeal.nD,
          r.2.mem ((c.tc : Thread Cert.LatentsRefIdeal.nD Cert.LatentsRefIdeal.τ).loc Cert.LatentsRefIdeal.main_v14) = v0 c
          ∧ r.2.mem ((c.tc : Thread Cert.LatentsRefIdeal.nD Cert.LatentsRefIdeal.τ).loc Cert.LatentsRefIdeal.main_arg0) = m' ((c.tc : Thread Cert.LatentsRefIdeal.nD Cert.LatentsRefIdeal.τ).loc Cert.LatentsRefIdeal.main_arg0)
          ∧ r.2.mem ((c.tc : Thread Cert.LatentsRefIdeal.nD Cert.LatentsRefIdeal.τ).loc Cert.LatentsRefIdeal.main_arg1) = m' ((c.tc : Thread Cert.LatentsRefIdeal.nD Cert.LatentsRefIdeal.τ).loc Cert.LatentsRefIdeal.main_arg1)
          ∧ r.2.mem ((c.tc : Thread Cert.LatentsRefIdeal.nD Cert.LatentsRefIdeal.τ).loc Cert.LatentsRefIdeal.main_arg2) = m' ((c.tc : Thread Cert.LatentsRefIdeal.nD Cert.LatentsRefIdeal.τ).loc Cert.LatentsRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v5) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)
      ∧ m' ((c.tc : Thread Cert.PrepRefIdeal.nD Cert.PrepRefIdeal.τ).loc Cert.PrepRefIdeal.main_arg7) = m ((c.tc : Thread Cert.PrepIdeal.nD Cert.PrepIdeal.τ).loc Cert.PrepIdeal.main_arg7)
      ∧ m' ((c.tc : Thread Cert.PrepRefIdeal.nD Cert.PrepRefIdeal.τ).loc Cert.PrepRefIdeal.main_arg8) = m ((c.tc : Thread Cert.PrepIdeal.nD Cert.PrepIdeal.τ).loc Cert.PrepIdeal.main_arg8)
      ∧ m' ((c.tc : Thread Cert.PrepRefIdeal.nD Cert.PrepRefIdeal.τ).loc Cert.PrepRefIdeal.main_arg9) = m ((c.tc : Thread Cert.PrepIdeal.nD Cert.PrepIdeal.τ).loc Cert.PrepIdeal.main_arg9)
      ∧ m' ((c.tc : Thread Cert.PrepRefIdeal.nD Cert.PrepRefIdeal.τ).loc Cert.PrepRefIdeal.main_arg10) = m ((c.tc : Thread Cert.PrepIdeal.nD Cert.PrepIdeal.τ).loc Cert.PrepIdeal.main_arg10)
      ∧ m' ((c.tc : Thread Cert.PrepRefIdeal.nD Cert.PrepRefIdeal.τ).loc Cert.PrepRefIdeal.main_arg11) = m ((c.tc : Thread Cert.PrepIdeal.nD Cert.PrepIdeal.τ).loc Cert.PrepIdeal.main_arg11)) →
    ∃ (v0 : (c : Dev Cert.PrepIdeal.nD) → Buf (Elt Ideal) ((c.tc : Thread Cert.PrepIdeal.nD Cert.PrepIdeal.τ).loc Cert.PrepIdeal.main_v1_0)) (v1 : (c : Dev Cert.PrepIdeal.nD) → Buf (Elt Ideal) ((c.tc : Thread Cert.PrepIdeal.nD Cert.PrepIdeal.τ).loc Cert.PrepIdeal.main_v1_1)) (v2 : (c : Dev Cert.PrepIdeal.nD) → Buf (Elt Ideal) ((c.tc : Thread Cert.PrepIdeal.nD Cert.PrepIdeal.τ).loc Cert.PrepIdeal.main_v1_2)) (v3 : (c : Dev Cert.PrepIdeal.nD) → Buf (Elt Ideal) ((c.tc : Thread Cert.PrepIdeal.nD Cert.PrepIdeal.τ).loc Cert.PrepIdeal.main_v1_3)) (v4 : (c : Dev Cert.PrepIdeal.nD) → Buf (Elt Ideal) ((c.tc : Thread Cert.PrepIdeal.nD Cert.PrepIdeal.τ).loc Cert.PrepIdeal.main_v1_4)) (v5 : (c : Dev Cert.PrepIdeal.nD) → Buf (Elt Ideal) ((c.tc : Thread Cert.PrepIdeal.nD Cert.PrepIdeal.τ).loc Cert.PrepIdeal.main_v1_5)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v1_0) = v0 c
          ∧ r.2.mem ((c.tc : Thread Cert.PrepIdeal.nD Cert.PrepIdeal.τ).loc Cert.PrepIdeal.main_v1_1) = v1 c
          ∧ r.2.mem ((c.tc : Thread Cert.PrepIdeal.nD Cert.PrepIdeal.τ).loc Cert.PrepIdeal.main_v1_2) = v2 c
          ∧ r.2.mem ((c.tc : Thread Cert.PrepIdeal.nD Cert.PrepIdeal.τ).loc Cert.PrepIdeal.main_v1_3) = v3 c
          ∧ r.2.mem ((c.tc : Thread Cert.PrepIdeal.nD Cert.PrepIdeal.τ).loc Cert.PrepIdeal.main_v1_4) = v4 c
          ∧ r.2.mem ((c.tc : Thread Cert.PrepIdeal.nD Cert.PrepIdeal.τ).loc Cert.PrepIdeal.main_v1_5) = v5 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
          ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
          ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9)
          ∧ r.2.mem ((c.tc : Thread Cert.PrepIdeal.nD Cert.PrepIdeal.τ).loc Cert.PrepIdeal.main_arg10) = m ((c.tc : Thread Cert.PrepIdeal.nD Cert.PrepIdeal.τ).loc Cert.PrepIdeal.main_arg10)
          ∧ r.2.mem ((c.tc : Thread Cert.PrepIdeal.nD Cert.PrepIdeal.τ).loc Cert.PrepIdeal.main_arg11) = m ((c.tc : Thread Cert.PrepIdeal.nD Cert.PrepIdeal.τ).loc Cert.PrepIdeal.main_arg11))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v102) = v0 c
          ∧ r.2.mem ((c.tc : Thread Cert.PrepRefIdeal.nD Cert.PrepRefIdeal.τ).loc Cert.PrepRefIdeal.main_v104) = v1 c
          ∧ r.2.mem ((c.tc : Thread Cert.PrepRefIdeal.nD Cert.PrepRefIdeal.τ).loc Cert.PrepRefIdeal.main_v106) = v2 c
          ∧ r.2.mem ((c.tc : Thread Cert.PrepRefIdeal.nD Cert.PrepRefIdeal.τ).loc Cert.PrepRefIdeal.main_v108) = v3 c
          ∧ r.2.mem ((c.tc : Thread Cert.PrepRefIdeal.nD Cert.PrepRefIdeal.τ).loc Cert.PrepRefIdeal.main_v109) = v4 c
          ∧ r.2.mem ((c.tc : Thread Cert.PrepRefIdeal.nD Cert.PrepRefIdeal.τ).loc Cert.PrepRefIdeal.main_v111) = v5 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6)
          ∧ r.2.mem ((c.tc : Thread Cert.PrepRefIdeal.nD Cert.PrepRefIdeal.τ).loc Cert.PrepRefIdeal.main_arg7) = m' ((c.tc : Thread Cert.PrepRefIdeal.nD Cert.PrepRefIdeal.τ).loc Cert.PrepRefIdeal.main_arg7)
          ∧ r.2.mem ((c.tc : Thread Cert.PrepRefIdeal.nD Cert.PrepRefIdeal.τ).loc Cert.PrepRefIdeal.main_arg8) = m' ((c.tc : Thread Cert.PrepRefIdeal.nD Cert.PrepRefIdeal.τ).loc Cert.PrepRefIdeal.main_arg8)
          ∧ r.2.mem ((c.tc : Thread Cert.PrepRefIdeal.nD Cert.PrepRefIdeal.τ).loc Cert.PrepRefIdeal.main_arg9) = m' ((c.tc : Thread Cert.PrepRefIdeal.nD Cert.PrepRefIdeal.τ).loc Cert.PrepRefIdeal.main_arg9)
          ∧ r.2.mem ((c.tc : Thread Cert.PrepRefIdeal.nD Cert.PrepRefIdeal.τ).loc Cert.PrepRefIdeal.main_arg10) = m' ((c.tc : Thread Cert.PrepRefIdeal.nD Cert.PrepRefIdeal.τ).loc Cert.PrepRefIdeal.main_arg10)
          ∧ r.2.mem ((c.tc : Thread Cert.PrepRefIdeal.nD Cert.PrepRefIdeal.τ).loc Cert.PrepRefIdeal.main_arg11) = m' ((c.tc : Thread Cert.PrepRefIdeal.nD Cert.PrepRefIdeal.τ).loc Cert.PrepRefIdeal.main_arg11))

def Claim : Prop :=
  ∃ (hAttn : Cert.Attn.Facts) (hAttnIdeal : Cert.AttnIdeal.Facts) (hAttnRefIdeal : Cert.AttnRefIdeal.Facts) (hDense : Cert.Dense.Facts) (hDenseIdeal : Cert.DenseIdeal.Facts) (hDenseRefIdeal : Cert.DenseRefIdeal.Facts) (hExpert : Cert.Expert.Facts) (hExpertIdeal : Cert.ExpertIdeal.Facts) (hExpertRefIdeal : Cert.ExpertRefIdeal.Facts) (hProj0 : Cert.Proj0.Facts) (hProj0Ideal : Cert.Proj0Ideal.Facts) (hProj0RefIdeal : Cert.Proj0RefIdeal.Facts) (hProj1 : Cert.Proj1.Facts) (hProj1Ideal : Cert.Proj1Ideal.Facts) (hProj1RefIdeal : Cert.Proj1RefIdeal.Facts) (hProj2 : Cert.Proj2.Facts) (hProj2Ideal : Cert.Proj2Ideal.Facts) (hProj2RefIdeal : Cert.Proj2RefIdeal.Facts) (hLatents : Cert.Latents.Facts) (hLatentsIdeal : Cert.LatentsIdeal.Facts) (hLatentsRefIdeal : Cert.LatentsRefIdeal.Facts) (hOut : Cert.Out.Facts) (hOutIdeal : Cert.OutIdeal.Facts) (hOutRefIdeal : Cert.OutRefIdeal.Facts) (hPrep : Cert.Prep.Facts) (hPrepIdeal : Cert.PrepIdeal.Facts) (hPrepRefIdeal : Cert.PrepRefIdeal.Facts) (hPre_finite_qk : Cert.Pre_finite_qk.Facts) (hPre_tables : Cert.Pre_tables.Facts),
    quiescent_Attn (hAttn := hAttn)
    ∧ quiescent_AttnIdeal (hAttnIdeal := hAttnIdeal)
    ∧ quiescent_AttnIdeal_pre_finite_qk (hAttnIdeal := hAttnIdeal) (hPre_finite_qk := hPre_finite_qk)
    ∧ quiescent_AttnRefIdeal (hAttnRefIdeal := hAttnRefIdeal)
    ∧ quiescent_AttnRefIdeal_pre_finite_qk (hAttnRefIdeal := hAttnRefIdeal) (hPre_finite_qk := hPre_finite_qk)
    ∧ quiescent_Dense (hDense := hDense)
    ∧ quiescent_DenseIdeal (hDenseIdeal := hDenseIdeal)
    ∧ quiescent_DenseRefIdeal (hDenseRefIdeal := hDenseRefIdeal)
    ∧ quiescent_Expert (hExpert := hExpert) (hPre_tables := hPre_tables)
    ∧ quiescent_ExpertIdeal (hExpertIdeal := hExpertIdeal) (hPre_tables := hPre_tables)
    ∧ quiescent_ExpertRefIdeal (hExpertRefIdeal := hExpertRefIdeal)
    ∧ quiescent_ExpertRefIdeal_pre_tables (hExpertRefIdeal := hExpertRefIdeal) (hPre_tables := hPre_tables)
    ∧ quiescent_Proj0 (hProj0 := hProj0)
    ∧ quiescent_Proj0Ideal (hProj0Ideal := hProj0Ideal)
    ∧ quiescent_Proj0RefIdeal (hProj0RefIdeal := hProj0RefIdeal)
    ∧ quiescent_Proj1 (hProj1 := hProj1)
    ∧ quiescent_Proj1Ideal (hProj1Ideal := hProj1Ideal)
    ∧ quiescent_Proj1RefIdeal (hProj1RefIdeal := hProj1RefIdeal)
    ∧ quiescent_Proj2 (hProj2 := hProj2)
    ∧ quiescent_Proj2Ideal (hProj2Ideal := hProj2Ideal)
    ∧ quiescent_Proj2RefIdeal (hProj2RefIdeal := hProj2RefIdeal)
    ∧ quiescent_Latents (hLatents := hLatents)
    ∧ quiescent_LatentsIdeal (hLatentsIdeal := hLatentsIdeal)
    ∧ quiescent_LatentsRefIdeal (hLatentsRefIdeal := hLatentsRefIdeal)
    ∧ quiescent_Out (hOut := hOut)
    ∧ quiescent_OutIdeal (hOutIdeal := hOutIdeal)
    ∧ quiescent_OutRefIdeal (hOutRefIdeal := hOutRefIdeal)
    ∧ quiescent_Prep (hPrep := hPrep)
    ∧ quiescent_PrepIdeal (hPrepIdeal := hPrepIdeal)
    ∧ quiescent_PrepRefIdeal (hPrepRefIdeal := hPrepRefIdeal)
    ∧ preserves_Attn_AttnIdeal
    ∧ algebraic_AttnIdeal_AttnRefIdeal_pre_finite_qk (hAttnIdeal := hAttnIdeal) (hAttnRefIdeal := hAttnRefIdeal) (hPre_finite_qk := hPre_finite_qk)
    ∧ preserves_Dense_DenseIdeal
    ∧ algebraic_DenseIdeal_DenseRefIdeal (hDenseIdeal := hDenseIdeal) (hDenseRefIdeal := hDenseRefIdeal)
    ∧ preserves_Expert_ExpertIdeal
    ∧ algebraic_ExpertIdeal_ExpertRefIdeal (hExpertIdeal := hExpertIdeal) (hExpertRefIdeal := hExpertRefIdeal) (hPre_tables := hPre_tables)
    ∧ preserves_Proj0_Proj0Ideal
    ∧ algebraic_Proj0Ideal_Proj0RefIdeal (hProj0Ideal := hProj0Ideal) (hProj0RefIdeal := hProj0RefIdeal)
    ∧ preserves_Proj1_Proj1Ideal
    ∧ algebraic_Proj1Ideal_Proj1RefIdeal (hProj1Ideal := hProj1Ideal) (hProj1RefIdeal := hProj1RefIdeal)
    ∧ preserves_Proj2_Proj2Ideal
    ∧ algebraic_Proj2Ideal_Proj2RefIdeal (hProj2Ideal := hProj2Ideal) (hProj2RefIdeal := hProj2RefIdeal)
    ∧ preserves_Latents_LatentsIdeal
    ∧ algebraic_LatentsIdeal_LatentsRefIdeal (hLatentsIdeal := hLatentsIdeal) (hLatentsRefIdeal := hLatentsRefIdeal)
    ∧ preserves_Out_OutIdeal
    ∧ algebraic_OutIdeal_OutRefIdeal (hOutIdeal := hOutIdeal) (hOutRefIdeal := hOutRefIdeal)
    ∧ preserves_Prep_PrepIdeal
    ∧ algebraic_PrepIdeal_PrepRefIdeal (hPrepIdeal := hPrepIdeal) (hPrepRefIdeal := hPrepRefIdeal)
-- ==== Pre_finite_qk.lean ====
abbrev S16x2048x2048 : Shape := ⟨3, ![16, 2048, 2048]⟩
abbrev S16x1024x2048 : Shape := ⟨3, ![16, 1024, 2048]⟩
abbrev S_ : Shape := ⟨0, ![]⟩

class Facts : Prop where
  bitsLt_bf16_f32 : FTy.bits .bf16 < FTy.bits .f32
  bcast_S_S16x2048x2048 : S_.BroadcastsInDim S16x2048x2048 (![] : Fin 0 → Fin S16x2048x2048.rank)

variable [Facts]

def fn {F : FTy → Type} [FloatOps F] (main_arg0 : FVec F S16x2048x2048 .bf16) (main_arg1 : FVec F S16x2048x2048 .bf16) (main_arg2 : FVec F S16x1024x2048 .bf16) : IVec S16x2048x2048 1 × IVec S16x2048x2048 1 :=
  let main_v0 : FVec F S16x2048x2048 .f32 := (extf .f32 · bitsLt_bf16_f32) main_arg0
  let main_v1 : FVec F S16x2048x2048 .f32 := Host.absf main_v0
  let main_cst : FVec F S_ .f32 := constant S_ .f32 0x7F800000#32
  let main_v2 : FVec F S16x2048x2048 .f32 := broadcastInDim S16x2048x2048 ![] bcast_S_S16x2048x2048 main_cst
  let main_v3 : IVec S16x2048x2048 1 := cmpf .olt main_v1 main_v2
  let main_v4 : FVec F S16x2048x2048 .f32 := (extf .f32 · bitsLt_bf16_f32) main_arg1
  let main_v5 : FVec F S16x2048x2048 .f32 := Host.absf main_v4
  let main_cst_0 : FVec F S_ .f32 := constant S_ .f32 0x7F800000#32
  let main_v6 : FVec F S16x2048x2048 .f32 := broadcastInDim S16x2048x2048 ![] bcast_S_S16x2048x2048 main_cst_0
  let main_v7 : IVec S16x2048x2048 1 := cmpf .olt main_v5 main_v6
  (main_v3, main_v7)
-- ==== Pre_tables.lean ====
abbrev S136 : Shape := ⟨1, ![136]⟩
abbrev S1 : Shape := ⟨1, ![1]⟩
abbrev S69632x1024 : Shape := ⟨2, ![69632, 1024]⟩
abbrev S8x1024x7168 : Shape := ⟨3, ![8, 1024, 7168]⟩
abbrev S8x3584x1024 : Shape := ⟨3, ![8, 3584, 1024]⟩
abbrev S_ : Shape := ⟨0, ![]⟩

class Facts : Prop where
  bcast_S_S136 : S_.BroadcastsInDim S136 (![] : Fin 0 → Fin S136.rank)

variable [Facts]

def fn {F : FTy → Type} [FloatOps F] (main_arg0 : IVec S136 32) (main_arg1 : IVec S1 32) (main_arg2 : FVec F S69632x1024 .f32) (main_arg3 : FVec F S8x1024x7168 .bf16) (main_arg4 : FVec F S8x3584x1024 .bf16) : IVec S136 1 :=
  let main_c : IVec S_ 32 := constantI S_ 32 0#32
  let main_v0 : IVec S136 32 := broadcastInDim S136 ![] bcast_S_S136 main_c
  let main_v1 : IVec S136 1 := cmpi .sge main_arg0 main_v0
  let main_c_0 : IVec S_ 32 := constantI S_ 32 8#32
  let main_v2 : IVec S136 32 := broadcastInDim S136 ![] bcast_S_S136 main_c_0
  let main_v3 : IVec S136 1 := cmpi .slt main_arg0 main_v2
  let main_v4 : IVec S136 1 := andi main_v1 main_v3
  main_v4
-- ==== Attn.lean ====
abbrev S16x2048x2048 : Shape := ⟨3, ![16, 2048, 2048]⟩
abbrev S16x1024x2048 : Shape := ⟨3, ![16, 1024, 2048]⟩
abbrev S1x512x256 : Shape := ⟨3, ![1, 512, 256]⟩
abbrev S1x2048x256 : Shape := ⟨3, ![1, 2048, 256]⟩
abbrev S1x128x2048 : Shape := ⟨3, ![1, 128, 2048]⟩
abbrev S1x128x512 : Shape := ⟨3, ![1, 128, 512]⟩
abbrev S16x2048 : Shape := ⟨2, ![16, 2048]⟩
abbrev S1x2048x128 : Shape := ⟨3, ![1, 2048, 128]⟩
abbrev S2048x128 : Shape := ⟨2, ![2048, 128]⟩
abbrev S1x256x128 : Shape := ⟨3, ![1, 256, 128]⟩
abbrev S256x128 : Shape := ⟨2, ![256, 128]⟩
abbrev S2048x256 : Shape := ⟨2, ![2048, 256]⟩
abbrev S256 : Shape := ⟨1, ![256]⟩
abbrev S1x256 : Shape := ⟨2, ![1, 256]⟩
abbrev S1x64x2048 : Shape := ⟨3, ![1, 64, 2048]⟩
abbrev S64x2048 : Shape := ⟨2, ![64, 2048]⟩
abbrev S80x2048 : Shape := ⟨2, ![80, 2048]⟩
abbrev S80x256 : Shape := ⟨2, ![80, 256]⟩
abbrev S64x256 : Shape := ⟨2, ![64, 256]⟩
abbrev S1x64x256 : Shape := ⟨3, ![1, 64, 256]⟩

abbrev nBuf : Space → Nat
  | .hbm => 4
  | .vmem => 8
  | .smem => 0
  | _ => 0

abbrev bufTy : (tb : Table) → Fin (tcTables nBuf tb) → BufTy
  | .hbm, ⟨0, _⟩ => ⟨S16x2048x2048, .bf16⟩
  | .hbm, ⟨1, _⟩ => ⟨S16x2048x2048, .bf16⟩
  | .hbm, ⟨2, _⟩ => ⟨S16x1024x2048, .bf16⟩
  | .hbm, ⟨3, _⟩ => ⟨S16x1024x2048, .bf16⟩
  | .local _ .vmem, ⟨0, _⟩ => ⟨S1x512x256, .bf16⟩
  | .local _ .vmem, ⟨1, _⟩ => ⟨S1x512x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x128x2048, .bf16⟩
  | .local _ .vmem, ⟨5, _⟩ => ⟨S1x128x2048, .bf16⟩
  | .local _ .vmem, ⟨6, _⟩ => ⟨S1x128x512, .bf16⟩
  | .local _ .vmem, ⟨7, _⟩ => ⟨S1x128x512, .bf16⟩
  | _, _ => ⟨S16x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 8, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnRefIdeal.lean ====
abbrev S16x2048x2048 : Shape := ⟨3, ![16, 2048, 2048]⟩
abbrev S16x1024x2048 : Shape := ⟨3, ![16, 1024, 2048]⟩
abbrev S16x2048x16x128 : Shape := ⟨4, ![16, 2048, 16, 128]⟩
abbrev S16x16x64x2048 : Shape := ⟨4, ![16, 16, 64, 2048]⟩
abbrev S16x16x2048x2048 : Shape := ⟨4, ![16, 16, 2048, 2048]⟩
abbrev S_ : Shape := ⟨0, ![]⟩
abbrev S16x16x2048 : Shape := ⟨3, ![16, 16, 2048]⟩
abbrev S16x16x2048x1 : Shape := ⟨4, ![16, 16, 2048, 1]⟩

abbrev nBuf : Space → Nat
  | .hbm => 31
  | .vmem => 0
  | .smem => 0
  | _ => 0

abbrev bufTy : (tb : Table) → Fin (tcTables nBuf tb) → BufTy
  | .hbm, ⟨0, _⟩ => ⟨S16x2048x2048, .bf16⟩
  | .hbm, ⟨1, _⟩ => ⟨S16x2048x2048, .bf16⟩
  | .hbm, ⟨2, _⟩ => ⟨S16x1024x2048, .bf16⟩
  | .hbm, ⟨3, _⟩ => ⟨S16x2048x2048, .f32⟩
  | .hbm, ⟨4, _⟩ => ⟨S16x2048x16x128, .f32⟩
  | .hbm, ⟨5, _⟩ => ⟨S16x2048x2048, .f32⟩
  | .hbm, ⟨6, _⟩ => ⟨S16x2048x16x128, .f32⟩
  | .hbm, ⟨7, _⟩ => ⟨S16x1024x2048, .f32⟩
  | .hbm, ⟨8, _⟩ => ⟨S16x16x64x2048, .f32⟩
  | .hbm, ⟨9, _⟩ => ⟨S16x16x2048x2048, .f32⟩
  | .hbm, ⟨10, _⟩ => ⟨S_, .f32⟩
  | .hbm, ⟨11, _⟩ => ⟨S_, .f32⟩
  | .hbm, ⟨12, _⟩ => ⟨S16x16x2048x2048, .f32⟩
  | .hbm, ⟨13, _⟩ => ⟨S16x16x2048x2048, .f32⟩
  | .hbm, ⟨14, _⟩ => ⟨S_, .f32⟩
  | .hbm, ⟨15, _⟩ => ⟨S16x16x2048, .f32⟩
  | .hbm, ⟨16, _⟩ => ⟨S_, .f32⟩
  | .hbm, ⟨17, _⟩ => ⟨S16x16x2048, .f32⟩
  | .hbm, ⟨18, _⟩ => ⟨S16x16x2048, .f32⟩
  | .hbm, ⟨19, _⟩ => ⟨S16x16x2048x1, .f32⟩
  | .hbm, ⟨20, _⟩ => ⟨S16x16x2048x2048, .f32⟩
  | .hbm, ⟨21, _⟩ => ⟨S16x16x2048x2048, .f32⟩
  | .hbm, ⟨22, _⟩ => ⟨S16x16x2048x2048, .f32⟩
  | .hbm, ⟨23, _⟩ => ⟨S_, .f32⟩
  | .hbm, ⟨24, _⟩ => ⟨S16x16x2048, .f32⟩
  | .hbm, ⟨25, _⟩ => ⟨S16x16x2048x1, .f32⟩
  | .hbm, ⟨26, _⟩ => ⟨S16x16x2048x2048, .f32⟩
  | .hbm, ⟨27, _⟩ => ⟨S16x16x2048x2048, .f32⟩
  | .hbm, ⟨28, _⟩ => ⟨S16x16x64x2048, .f32⟩
  | .hbm, ⟨29, _⟩ => ⟨S16x1024x2048, .f32⟩
  | .hbm, ⟨30, _⟩ => ⟨S16x1024x2048, .bf16⟩
  | _, _ => ⟨S16x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Dense.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S1024x2816 : Shape := ⟨2, ![1024, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 6
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .bf16⟩
  | .hbm, ⟨3, _⟩ => ⟨S2816x1024, .bf16⟩
  | .hbm, ⟨4, _⟩ => ⟨S1x1024, .f32⟩
  | .hbm, ⟨5, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![64, 1], ![false, false]⟩

def k0_cond2 (i : grid0.Coords) : BitVec 1 :=
  let arg1 : BitVec 32 := BitVec.ofNat 32 (i 1).val
  let c0_i32_94 : BitVec 32 := 0#32
  let v129 : BitVec 1 := Scalar.cmpi .eq arg1 c0_i32_94
  let v130 : BitVec 32 := Scalar.extui v129
  let c0_i32_95 : BitVec 32 := 0#32
  let v131 : BitVec 1 := Scalar.cmpi .ne v130 c0_i32_95
  v131

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== DenseRefIdeal.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5632 : Shape := ⟨2, ![32768, 5632]⟩
abbrev S32768x2816 : Shape := ⟨2, ![32768, 2816]⟩

abbrev nBuf : Space → Nat
  | .hbm => 37
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .bf16⟩
  | .hbm, ⟨3, _⟩ => ⟨S2816x1024, .bf16⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S1024x5632, .f32⟩
  | .hbm, ⟨21, _⟩ => ⟨S2816x1024, .f32⟩
  | .hbm, ⟨22, _⟩ => ⟨S32768x5632, .f32⟩
  | .hbm, ⟨23, _⟩ => ⟨S32768x2816, .f32⟩
  | .hbm, ⟨24, _⟩ => ⟨S32768x2816, .f32⟩
  | .hbm, ⟨25, _⟩ => ⟨S32768x2816, .f32⟩
  | .hbm, ⟨26, _⟩ => ⟨S32768x2816, .f32⟩
  | .hbm, ⟨27, _⟩ => ⟨S_, .f32⟩
  | .hbm, ⟨28, _⟩ => ⟨S32768x2816, .f32⟩
  | .hbm, ⟨29, _⟩ => ⟨S32768x2816, .f32⟩
  | .hbm, ⟨30, _⟩ => ⟨S_, .f32⟩
  | .hbm, ⟨31, _⟩ => ⟨S32768x2816, .f32⟩
  | .hbm, ⟨32, _⟩ => ⟨S32768x2816, .f32⟩
  | .hbm, ⟨33, _⟩ => ⟨S32768x2816, .f32⟩
  | .hbm, ⟨34, _⟩ => ⟨S32768x2816, .f32⟩
  | .hbm, ⟨35, _⟩ => ⟨S32768x1024, .f32⟩
  | .hbm, ⟨36, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]
-- ==== Expert.lean ====
abbrev S136 : Shape := ⟨1, ![136]⟩
abbrev S1 : Shape := ⟨1, ![1]⟩
abbrev S69632x1024 : Shape := ⟨2, ![69632, 1024]⟩
abbrev S8x1024x7168 : Shape := ⟨3, ![8, 1024, 7168]⟩
abbrev S8x3584x1024 : Shape := ⟨3, ![8, 3584, 1024]⟩
abbrev S512x1024 : Shape := ⟨2, ![512, 1024]⟩
abbrev S1x1024x1792 : Shape := ⟨3, ![1, 1024, 1792]⟩
abbrev S1x1792x1024 : Shape := ⟨3, ![1, 1792, 1024]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 4
  | .vmem => 12
  | .smem => 2
  | _ => 0

abbrev bufTy : (tb : Table) → Fin (tcTables nBuf tb) → BufTy
  | .hbm, ⟨0, _⟩ => ⟨S69632x1024, .f32⟩
  | .hbm, ⟨1, _⟩ => ⟨S8x1024x7168, .bf16⟩
  | .hbm, ⟨2, _⟩ => ⟨S8x3584x1024, .bf16⟩
  | .hbm, ⟨3, _⟩ => ⟨S69632x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .f32⟩
  | .local _ .smem, ⟨0, _⟩ => ⟨S136, .i32⟩
  | .local _ .smem, ⟨1, _⟩ => ⟨S1, .i32⟩
  | _, _ => ⟨S69632x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![136, 2], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v1 : BitVec 32) : BitVec 1 :=
  let arg0 : BitVec 32 := BitVec.ofNat 32 (i 0).val
  let v2 : BitVec 1 := Scalar.cmpi .slt arg0 v1
  let v3 : BitVec 32 := Scalar.extui v2
  let c0_i32 : BitVec 32 := 0#32
  let v4 : BitVec 1 := Scalar.cmpi .ne v3 c0_i32
  v4

def k0_cond3 (i : grid0.Coords) : BitVec 1 :=
  let arg1 : BitVec 32 := BitVec.ofNat 32 (i 1).val
  let c1_i32 : BitVec 32 := 1#32
  let v0 : BitVec 1 := Scalar.cmpi .eq arg1 c1_i32
  let v115 : BitVec 32 := Scalar.extui v0
  let c0_i32_86 : BitVec 32 := 0#32
  let v116 : BitVec 1 := Scalar.cmpi .ne v115 c0_i32_86
  v116

def k0_cond4 (i : grid0.Coords) (v1 : BitVec 32) : BitVec 1 :=
  let arg0 : BitVec 32 := BitVec.ofNat 32 (i 0).val
  let v2 : BitVec 1 := Scalar.cmpi .slt arg0 v1
  let v_true : BitVec 1 := 1#1
  let v5 : BitVec 1 := Scalar.xori v2 v_true
  let arg1 : BitVec 32 := BitVec.ofNat 32 (i 1).val
  let c1_i32 : BitVec 32 := 1#32
  let v0 : BitVec 1 := Scalar.cmpi .eq arg1 c1_i32
  let v6 : BitVec 1 := Scalar.andi v5 v0
  let v7 : BitVec 32 := Scalar.extui v6
  let c0_i32_0 : BitVec 32 := 0#32
  let v8 : BitVec 1 := Scalar.cmpi .ne v7 c0_i32_0
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c2_i32 : BitVec 32 := 2#32
  let v2 : BitVec 32 := Scalar.addi c2_i32 arg1
  let c0_i32 : BitVec 32 := 0#32
  let c0_i32_0 : BitVec 32 := 0#32
  ![v1.toNat, c0_i32.toNat, v2.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![v1.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ExpertRefIdeal.lean ====
abbrev S136 : Shape := ⟨1, ![136]⟩
abbrev S1 : Shape := ⟨1, ![1]⟩
abbrev S69632x1024 : Shape := ⟨2, ![69632, 1024]⟩
abbrev S8x1024x7168 : Shape := ⟨3, ![8, 1024, 7168]⟩
abbrev S8x3584x1024 : Shape := ⟨3, ![8, 3584, 1024]⟩
abbrev S_ : Shape := ⟨0, ![]⟩
abbrev S136x1 : Shape := ⟨2, ![136, 1]⟩
abbrev S136x512 : Shape := ⟨2, ![136, 512]⟩
abbrev S69632 : Shape := ⟨1, ![69632]⟩
abbrev S69632x1 : Shape := ⟨2, ![69632, 1]⟩
abbrev S8 : Shape := ⟨1, ![8]⟩
abbrev S1x8 : Shape := ⟨2, ![1, 8]⟩
abbrev S69632x8 : Shape := ⟨2, ![69632, 8]⟩
abbrev S1x1024x7168 : Shape := ⟨3, ![1, 1024, 7168]⟩
abbrev S1024x7168 : Shape := ⟨2, ![1024, 7168]⟩
abbrev S1x3584x1024 : Shape := ⟨3, ![1, 3584, 1024]⟩
abbrev S3584x1024 : Shape := ⟨2, ![3584, 1024]⟩
abbrev S69632x7168 : Shape := ⟨2, ![69632, 7168]⟩
abbrev S69632x3584 : Shape := ⟨2, ![69632, 3584]⟩

abbrev nBuf : Space → Nat
  | .hbm => 220
  | .vmem => 0
  | .smem => 0
  | _ => 0

abbrev hbmTy0_0 (i : Nat) : BufTy := match i % 128 with
  | 0 => ⟨S136, .i32⟩
  | 1 => ⟨S1, .i32⟩
  | 2 => ⟨S69632x1024, .f32⟩
  | 3 => ⟨S8x1024x7168, .bf16⟩
  | 4 => ⟨S8x3584x1024, .bf16⟩
  | 5 => ⟨S136, .i32⟩
  | 6 => ⟨S136, .i32⟩
  | 7 => ⟨S136, .i1⟩
  | 8 => ⟨S_, .i32⟩
  | 9 => ⟨S_, .i32⟩
  | 10 => ⟨S136, .i32⟩
  | 11 => ⟨S136, .i32⟩
  | 12 => ⟨S136x1, .i32⟩
  | 13 => ⟨S136x512, .i32⟩
  | 14 => ⟨S69632, .i32⟩
  | 15 => ⟨S69632x1, .i32⟩
  | 16 => ⟨S8, .i32⟩
  | 17 => ⟨S1x8, .i32⟩
  | 18 => ⟨S69632x8, .i32⟩
  | 19 => ⟨S69632x8, .i32⟩
  | 20 => ⟨S69632x8, .i1⟩
  | 21 => ⟨S_, .f32⟩
  | 22 => ⟨S_, .f32⟩
  | 23 => ⟨S69632x8, .f32⟩
  | 24 => ⟨S69632x8, .f32⟩
  | 25 => ⟨S69632x8, .f32⟩
  | 26 => ⟨S_, .f32⟩
  | 27 => ⟨S69632x1024, .f32⟩
  | 28 => ⟨S69632x1, .f32⟩
  | 29 => ⟨S1x1024x7168, .bf16⟩
  | 30 => ⟨S1024x7168, .bf16⟩
  | 31 => ⟨S1024x7168, .f32⟩
  | 32 => ⟨S1x3584x1024, .bf16⟩
  | 33 => ⟨S3584x1024, .bf16⟩
  | 34 => ⟨S3584x1024, .f32⟩
  | 35 => ⟨S69632x7168, .f32⟩
  | 36 => ⟨S69632x3584, .f32⟩
  | 37 => ⟨S69632x3584, .f32⟩
  | 38 => ⟨S69632x3584, .f32⟩
  | 39 => ⟨S69632x3584, .f32⟩
  | 40 => ⟨S_, .f32⟩
  | 41 => ⟨S69632x3584, .f32⟩
  | 42 => ⟨S69632x3584, .f32⟩
  | 43 => ⟨S_, .f32⟩
  | 44 => ⟨S69632x3584, .f32⟩
  | 45 => ⟨S69632x3584, .f32⟩
  | 46 => ⟨S69632x3584, .f32⟩
  | 47 => ⟨S69632x3584, .f32⟩
  | 48 => ⟨S69632x1024, .f32⟩
  | 49 => ⟨S69632x1024, .f32⟩
  | 50 => ⟨S69632x1024, .f32⟩
  | 51 => ⟨S69632x1024, .f32⟩
  | 52 => ⟨S69632x1, .f32⟩
  | 53 => ⟨S1x1024x7168, .bf16⟩
  | 54 => ⟨S1024x7168, .bf16⟩
  | 55 => ⟨S1024x7168, .f32⟩
  | 56 => ⟨S1x3584x1024, .bf16⟩
  | 57 => ⟨S3584x1024, .bf16⟩
  | 58 => ⟨S3584x1024, .f32⟩
  | 59 => ⟨S69632x7168, .f32⟩
  | 60 => ⟨S69632x3584, .f32⟩
  | 61 => ⟨S69632x3584, .f32⟩
  | 62 => ⟨S69632x3584, .f32⟩
  | 63 => ⟨S69632x3584, .f32⟩
  | 64 => ⟨S_, .f32⟩
  | 65 => ⟨S69632x3584, .f32⟩
  | 66 => ⟨S69632x3584, .f32⟩
  | 67 => ⟨S_, .f32⟩
  | 68 => ⟨S69632x3584, .f32⟩
  | 69 => ⟨S69632x3584, .f32⟩
  | 70 => ⟨S69632x3584, .f32⟩
  | 71 => ⟨S69632x3584, .f32⟩
  | 72 => ⟨S69632x1024, .f32⟩
  | 73 => ⟨S69632x1024, .f32⟩
  | 74 => ⟨S69632x1024, .f32⟩
  | 75 => ⟨S69632x1024, .f32⟩
  | 76 => ⟨S69632x1, .f32⟩
  | 77 => ⟨S1x1024x7168, .bf16⟩
  | 78 => ⟨S1024x7168, .bf16⟩
  | 79 => ⟨S1024x7168, .f32⟩
  | 80 => ⟨S1x3584x1024, .bf16⟩
  | 81 => ⟨S3584x1024, .bf16⟩
  | 82 => ⟨S3584x1024, .f32⟩
  | 83 => ⟨S69632x7168, .f32⟩
  | 84 => ⟨S69632x3584, .f32⟩
  | 85 => ⟨S69632x3584, .f32⟩
  | 86 => ⟨S69632x3584, .f32⟩
  | 87 => ⟨S69632x3584, .f32⟩
  | 88 => ⟨S_, .f32⟩
  | 89 => ⟨S69632x3584, .f32⟩
  | 90 => ⟨S69632x3584, .f32⟩
  | 91 => ⟨S_, .f32⟩
  | 92 => ⟨S69632x3584, .f32⟩
  | 93 => ⟨S69632x3584, .f32⟩
  | 94 => ⟨S69632x3584, .f32⟩
  | 95 => ⟨S69632x3584, .f32⟩
  | 96 => ⟨S69632x1024, .f32⟩
  | 97 => ⟨S69632x1024, .f32⟩
  | 98 => ⟨S69632x1024, .f32⟩
  | 99 => ⟨S69632x1024, .f32⟩
  | 100 => ⟨S69632x1, .f32⟩
  | 101 => ⟨S1x1024x7168, .bf16⟩
  | 102 => ⟨S1024x7168, .bf16⟩
  | 103 => ⟨S1024x7168, .f32⟩
  | 104 => ⟨S1x3584x1024, .bf16⟩
  | 105 => ⟨S3584x1024, .bf16⟩
  | 106 => ⟨S3584x1024, .f32⟩
  | 107 => ⟨S69632x7168, .f32⟩
  | 108 => ⟨S69632x3584, .f32⟩
  | 109 => ⟨S69632x3584, .f32⟩
  | 110 => ⟨S69632x3584, .f32⟩
  | 111 => ⟨S69632x3584, .f32⟩
  | 112 => ⟨S_, .f32⟩
  | 113 => ⟨S69632x3584, .f32⟩
  | 114 => ⟨S69632x3584, .f32⟩
  | 115 => ⟨S_, .f32⟩
  | 116 => ⟨S69632x3584, .f32⟩
  | 117 => ⟨S69632x3584, .f32⟩
  | 118 => ⟨S69632x3584, .f32⟩
  | 119 => ⟨S69632x3584, .f32⟩
  | 120 => ⟨S69632x1024, .f32⟩
  | 121 => ⟨S69632x1024, .f32⟩
  | 122 => ⟨S69632x1024, .f32⟩
  | 123 => ⟨S69632x1024, .f32⟩
  | 124 => ⟨S69632x1, .f32⟩
  | 125 => ⟨S1x1024x7168, .bf16⟩
  | 126 => ⟨S1024x7168, .bf16⟩
  | 127 => ⟨S1024x7168, .f32⟩
  | _ => ⟨S136, .i32⟩

abbrev hbmTy0_1 (i : Nat) : BufTy := match i % 128 with
  | 0 => ⟨S1x3584x1024, .bf16⟩
  | 1 => ⟨S3584x1024, .bf16⟩
  | 2 => ⟨S3584x1024, .f32⟩
  | 3 => ⟨S69632x7168, .f32⟩
  | 4 => ⟨S69632x3584, .f32⟩
  | 5 => ⟨S69632x3584, .f32⟩
  | 6 => ⟨S69632x3584, .f32⟩
  | 7 => ⟨S69632x3584, .f32⟩
  | 8 => ⟨S_, .f32⟩
  | 9 => ⟨S69632x3584, .f32⟩
  | 10 => ⟨S69632x3584, .f32⟩
  | 11 => ⟨S_, .f32⟩
  | 12 => ⟨S69632x3584, .f32⟩
  | 13 => ⟨S69632x3584, .f32⟩
  | 14 => ⟨S69632x3584, .f32⟩
  | 15 => ⟨S69632x3584, .f32⟩
  | 16 => ⟨S69632x1024, .f32⟩
  | 17 => ⟨S69632x1024, .f32⟩
  | 18 => ⟨S69632x1024, .f32⟩
  | 19 => ⟨S69632x1024, .f32⟩
  | 20 => ⟨S69632x1, .f32⟩
  | 21 => ⟨S1x1024x7168, .bf16⟩
  | 22 => ⟨S1024x7168, .bf16⟩
  | 23 => ⟨S1024x7168, .f32⟩
  | 24 => ⟨S1x3584x1024, .bf16⟩
  | 25 => ⟨S3584x1024, .bf16⟩
  | 26 => ⟨S3584x1024, .f32⟩
  | 27 => ⟨S69632x7168, .f32⟩
  | 28 => ⟨S69632x3584, .f32⟩
  | 29 => ⟨S69632x3584, .f32⟩
  | 30 => ⟨S69632x3584, .f32⟩
  | 31 => ⟨S69632x3584, .f32⟩
  | 32 => ⟨S_, .f32⟩
  | 33 => ⟨S69632x3584, .f32⟩
  | 34 => ⟨S69632x3584, .f32⟩
  | 35 => ⟨S_, .f32⟩
  | 36 => ⟨S69632x3584, .f32⟩
  | 37 => ⟨S69632x3584, .f32⟩
  | 38 => ⟨S69632x3584, .f32⟩
  | 39 => ⟨S69632x3584, .f32⟩
  | 40 => ⟨S69632x1024, .f32⟩
  | 41 => ⟨S69632x1024, .f32⟩
  | 42 => ⟨S69632x1024, .f32⟩
  | 43 => ⟨S69632x1024, .f32⟩
  | 44 => ⟨S69632x1, .f32⟩
  | 45 => ⟨S1x1024x7168, .bf16⟩
  | 46 => ⟨S1024x7168, .bf16⟩
  | 47 => ⟨S1024x7168, .f32⟩
  | 48 => ⟨S1x3584x1024, .bf16⟩
  | 49 => ⟨S3584x1024, .bf16⟩
  | 50 => ⟨S3584x1024, .f32⟩
  | 51 => ⟨S69632x7168, .f32⟩
  | 52 => ⟨S69632x3584, .f32⟩
  | 53 => ⟨S69632x3584, .f32⟩
  | 54 => ⟨S69632x3584, .f32⟩
  | 55 => ⟨S69632x3584, .f32⟩
  | 56 => ⟨S_, .f32⟩
  | 57 => ⟨S69632x3584, .f32⟩
  | 58 => ⟨S69632x3584, .f32⟩
  | 59 => ⟨S_, .f32⟩
  | 60 => ⟨S69632x3584, .f32⟩
  | 61 => ⟨S69632x3584, .f32⟩
  | 62 => ⟨S69632x3584, .f32⟩
  | 63 => ⟨S69632x3584, .f32⟩
  | 64 => ⟨S69632x1024, .f32⟩
  | 65 => ⟨S69632x1024, .f32⟩
  | 66 => ⟨S69632x1024, .f32⟩
  | 67 => ⟨S69632x1024, .f32⟩
  | 68 => ⟨S69632x1, .f32⟩
  | 69 => ⟨S1x1024x7168, .bf16⟩
  | 70 => ⟨S1024x7168, .bf16⟩
  | 71 => ⟨S1024x7168, .f32⟩
  | 72 => ⟨S1x3584x1024, .bf16⟩
  | 73 => ⟨S3584x1024, .bf16⟩
  | 74 => ⟨S3584x1024, .f32⟩
  | 75 => ⟨S69632x7168, .f32⟩
  | 76 => ⟨S69632x3584, .f32⟩
  | 77 => ⟨S69632x3584, .f32⟩
  | 78 => ⟨S69632x3584, .f32⟩
  | 79 => ⟨S69632x3584, .f32⟩
  | 80 => ⟨S_, .f32⟩
  | 81 => ⟨S69632x3584, .f32⟩
  | 82 => ⟨S69632x3584, .f32⟩
  | 83 => ⟨S_, .f32⟩
  | 84 => ⟨S69632x3584, .f32⟩
  | 85 => ⟨S69632x3584, .f32⟩
  | 86 => ⟨S69632x3584, .f32⟩
  | 87 => ⟨S69632x3584, .f32⟩
  | 88 => ⟨S69632x1024, .f32⟩
  | 89 => ⟨S69632x1024, .f32⟩
  | 90 => ⟨S69632x1024, .f32⟩
  | 91 => ⟨S69632x1024, .f32⟩
  | _ => ⟨S136, .i32⟩

abbrev hbmTy (i : Nat) : BufTy := match i / 128 with
  | 0 => hbmTy0_0 i
  | 1 => hbmTy0_1 i
  | _ => ⟨S136, .i32⟩

abbrev bufTy : (tb : Table) → Fin (tcTables nBuf tb) → BufTy
  | .hbm, ⟨i, _⟩ => hbmTy i
  | _, _ => ⟨S136, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_cst_0 : Ref sig .tc := ⟨.hbm, 22, rfl⟩
abbrev main_call1_v0 : Ref sig .tc := ⟨.hbm, 23, rfl⟩
abbrev main_call1_v1 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call2_v0 : Ref sig .tc := ⟨.hbm, 38, rfl⟩
abbrev main_call2_v1 : Ref sig .tc := ⟨.hbm, 39, rfl⟩
abbrev main_call2_cst : Ref sig .tc := ⟨.hbm, 40, rfl⟩
abbrev main_call2_v2 : Ref sig .tc := ⟨.hbm, 41, rfl⟩
abbrev main_call2_v3 : Ref sig .tc := ⟨.hbm, 42, rfl⟩
abbrev main_call2_cst_0 : Ref sig .tc := ⟨.hbm, 43, rfl⟩
abbrev main_call2_v4 : Ref sig .tc := ⟨.hbm, 44, rfl⟩
abbrev main_call2_v5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_call3_v0 : Ref sig .tc := ⟨.hbm, 62, rfl⟩
abbrev main_call3_v1 : Ref sig .tc := ⟨.hbm, 63, rfl⟩
abbrev main_call3_cst : Ref sig .tc := ⟨.hbm, 64, rfl⟩
abbrev main_call3_v2 : Ref sig .tc := ⟨.hbm, 65, rfl⟩
abbrev main_call3_v3 : Ref sig .tc := ⟨.hbm, 66, rfl⟩
abbrev main_call3_cst_0 : Ref sig .tc := ⟨.hbm, 67, rfl⟩
abbrev main_call3_v4 : Ref sig .tc := ⟨.hbm, 68, rfl⟩
abbrev main_call3_v5 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_call4_v0 : Ref sig .tc := ⟨.hbm, 86, rfl⟩
abbrev main_call4_v1 : Ref sig .tc := ⟨.hbm, 87, rfl⟩
abbrev main_call4_cst : Ref sig .tc := ⟨.hbm, 88, rfl⟩
abbrev main_call4_v2 : Ref sig .tc := ⟨.hbm, 89, rfl⟩
abbrev main_call4_v3 : Ref sig .tc := ⟨.hbm, 90, rfl⟩
abbrev main_call4_cst_0 : Ref sig .tc := ⟨.hbm, 91, rfl⟩
abbrev main_call4_v4 : Ref sig .tc := ⟨.hbm, 92, rfl⟩
abbrev main_call4_v5 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_call5_v0 : Ref sig .tc := ⟨.hbm, 110, rfl⟩
abbrev main_call5_v1 : Ref sig .tc := ⟨.hbm, 111, rfl⟩
abbrev main_call5_cst : Ref sig .tc := ⟨.hbm, 112, rfl⟩
abbrev main_call5_v2 : Ref sig .tc := ⟨.hbm, 113, rfl⟩
abbrev main_call5_v3 : Ref sig .tc := ⟨.hbm, 114, rfl⟩
abbrev main_call5_cst_0 : Ref sig .tc := ⟨.hbm, 115, rfl⟩
abbrev main_call5_v4 : Ref sig .tc := ⟨.hbm, 116, rfl⟩
abbrev main_call5_v5 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_call6_v0 : Ref sig .tc := ⟨.hbm, 134, rfl⟩
abbrev main_call6_v1 : Ref sig .tc := ⟨.hbm, 135, rfl⟩
abbrev main_call6_cst : Ref sig .tc := ⟨.hbm, 136, rfl⟩
abbrev main_call6_v2 : Ref sig .tc := ⟨.hbm, 137, rfl⟩
abbrev main_call6_v3 : Ref sig .tc := ⟨.hbm, 138, rfl⟩
abbrev main_call6_cst_0 : Ref sig .tc := ⟨.hbm, 139, rfl⟩
abbrev main_call6_v4 : Ref sig .tc := ⟨.hbm, 140, rfl⟩
abbrev main_call6_v5 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_call7_v0 : Ref sig .tc := ⟨.hbm, 158, rfl⟩
abbrev main_call7_v1 : Ref sig .tc := ⟨.hbm, 159, rfl⟩
abbrev main_call7_cst : Ref sig .tc := ⟨.hbm, 160, rfl⟩
abbrev main_call7_v2 : Ref sig .tc := ⟨.hbm, 161, rfl⟩
abbrev main_call7_v3 : Ref sig .tc := ⟨.hbm, 162, rfl⟩
abbrev main_call7_cst_0 : Ref sig .tc := ⟨.hbm, 163, rfl⟩
abbrev main_call7_v4 : Ref sig .tc := ⟨.hbm, 164, rfl⟩
abbrev main_call7_v5 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_call8_v0 : Ref sig .tc := ⟨.hbm, 182, rfl⟩
abbrev main_call8_v1 : Ref sig .tc := ⟨.hbm, 183, rfl⟩
abbrev main_call8_cst : Ref sig .tc := ⟨.hbm, 184, rfl⟩
abbrev main_call8_v2 : Ref sig .tc := ⟨.hbm, 185, rfl⟩
abbrev main_call8_v3 : Ref sig .tc := ⟨.hbm, 186, rfl⟩
abbrev main_call8_cst_0 : Ref sig .tc := ⟨.hbm, 187, rfl⟩
abbrev main_call8_v4 : Ref sig .tc := ⟨.hbm, 188, rfl⟩
abbrev main_call8_v5 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_call9_v0 : Ref sig .tc := ⟨.hbm, 206, rfl⟩
abbrev main_call9_v1 : Ref sig .tc := ⟨.hbm, 207, rfl⟩
abbrev main_call9_cst : Ref sig .tc := ⟨.hbm, 208, rfl⟩
abbrev main_call9_v2 : Ref sig .tc := ⟨.hbm, 209, rfl⟩
abbrev main_call9_v3 : Ref sig .tc := ⟨.hbm, 210, rfl⟩
abbrev main_call9_cst_0 : Ref sig .tc := ⟨.hbm, 211, rfl⟩
abbrev main_call9_v4 : Ref sig .tc := ⟨.hbm, 212, rfl⟩
abbrev main_call9_v5 : Ref sig .tc := ⟨.hbm, 213, rfl⟩
abbrev main_v137 : Ref sig .tc := ⟨.hbm, 214, rfl⟩
abbrev main_v138 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_v142 : Ref sig .tc := ⟨.hbm, 219, rfl⟩

abbrev nD : Nat := 1
abbrev τ : Topo := Topo.v7x

variable {F : FTy → Type} [FloatOps F]
-- ==== Proj0.lean ====
abbrev S32768x1024 : Shape := ⟨2, ![32768, 1024]⟩
abbrev S1024 : Shape := ⟨1, ![1024]⟩
abbrev S1024x9216 : Shape := ⟨2, ![1024, 9216]⟩
abbrev S16x2048 : Shape := ⟨2, ![16, 2048]⟩
abbrev S128 : Shape := ⟨1, ![128]⟩
abbrev S16 : Shape := ⟨1, ![16]⟩
abbrev S_ : Shape := ⟨0, ![]⟩
abbrev S16x2048x1 : Shape := ⟨3, ![16, 2048, 1]⟩
abbrev S1x1x16 : Shape := ⟨3, ![1, 1, 16]⟩
abbrev S16x2048x16 : Shape := ⟨3, ![16, 2048, 16]⟩
abbrev S16x2048x96 : Shape := ⟨3, ![16, 2048, 96]⟩
abbrev S16x2048x128 : Shape := ⟨3, ![16, 2048, 128]⟩
abbrev S32768x128 : Shape := ⟨2, ![32768, 128]⟩
abbrev S1x128 : Shape := ⟨2, ![1, 128]⟩
abbrev S8x128 : Shape := ⟨2, ![8, 128]⟩
abbrev S1x1024 : Shape := ⟨2, ![1, 1024]⟩
abbrev S2x1024 : Shape := ⟨2, ![2, 1024]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S16x1x2048x3072 : Shape := ⟨4, ![16, 1, 2048, 3072]⟩
abbrev S1024x1024 : Shape := ⟨2, ![1024, 1024]⟩
abbrev S1024x128 : Shape := ⟨2, ![1024, 128]⟩
abbrev S1x1x1024x1024 : Shape := ⟨4, ![1, 1, 1024, 1024]⟩
abbrev S8x1024x128 : Shape := ⟨3, ![8, 1024, 128]⟩
abbrev S1024x1 : Shape := ⟨2, ![1024, 1]⟩
abbrev S1024x256 : Shape := ⟨2, ![1024, 256]⟩

abbrev nBuf : Space → Nat
  | .hbm => 144
  | .vmem => 16
  | .smem => 0
  | _ => 0

abbrev hbmTy0_0 (i : Nat) : BufTy := match i % 128 with
  | 0 => ⟨S32768x1024, .f32⟩
  | 1 => ⟨S1024, .f32⟩
  | 2 => ⟨S1024x9216, .f32⟩
  | 3 => ⟨S16x2048, .i32⟩
  | 4 => ⟨S128, .f32⟩
  | 5 => ⟨S128, .f32⟩
  | 6 => ⟨S16, .f32⟩
  | 7 => ⟨S_, .f32⟩
  | 8 => ⟨S16, .f32⟩
  | 9 => ⟨S16, .f32⟩
  | 10 => ⟨S_, .f32⟩
  | 11 => ⟨S16, .f32⟩
  | 12 => ⟨S16, .f32⟩
  | 13 => ⟨S16, .f32⟩
  | 14 => ⟨S_, .f32⟩
  | 15 => ⟨S16, .f32⟩
  | 16 => ⟨S16, .f32⟩
  | 17 => ⟨S_, .f32⟩
  | 18 => ⟨S16, .f32⟩
  | 19 => ⟨S16, .f32⟩
  | 20 => ⟨S16x2048, .f32⟩
  | 21 => ⟨S16x2048x1, .f32⟩
  | 22 => ⟨S1x1x16, .f32⟩
  | 23 => ⟨S16x2048x16, .f32⟩
  | 24 => ⟨S16x2048x16, .f32⟩
  | 25 => ⟨S16x2048x16, .f32⟩
  | 26 => ⟨S16x2048x16, .f32⟩
  | 27 => ⟨S16x2048x16, .f32⟩
  | 28 => ⟨S_, .f32⟩
  | 29 => ⟨S16x2048x96, .f32⟩
  | 30 => ⟨S16x2048x128, .f32⟩
  | 31 => ⟨S16x2048x16, .f32⟩
  | 32 => ⟨S_, .f32⟩
  | 33 => ⟨S16x2048x96, .f32⟩
  | 34 => ⟨S16x2048x128, .f32⟩
  | 35 => ⟨S32768x128, .f32⟩
  | 36 => ⟨S32768x128, .f32⟩
  | 37 => ⟨S1024x9216, .bf16⟩
  | 38 => ⟨S1x128, .f32⟩
  | 39 => ⟨S8x128, .f32⟩
  | 40 => ⟨S1024, .f32⟩
  | 41 => ⟨S_, .f32⟩
  | 42 => ⟨S1024, .f32⟩
  | 43 => ⟨S1024, .f32⟩
  | 44 => ⟨S1x128, .f32⟩
  | 45 => ⟨S8x128, .f32⟩
  | 46 => ⟨S1024, .f32⟩
  | 47 => ⟨S1x1024, .f32⟩
  | 48 => ⟨S1x1024, .f32⟩
  | 49 => ⟨S2x1024, .f32⟩
  | 50 => ⟨S256, .i32⟩
  | 51 => ⟨S256x1, .i32⟩
  | 52 => ⟨S_, .i32⟩
  | 53 => ⟨S_, .i32⟩
  | 54 => ⟨S256x1, .i32⟩
  | 55 => ⟨S256x1, .i32⟩
  | 56 => ⟨S256x1, .i32⟩
  | 57 => ⟨S_, .i32⟩
  | 58 => ⟨S256x1, .i32⟩
  | 59 => ⟨S256x1, .i1⟩
  | 60 => ⟨S256x1, .i32⟩
  | 61 => ⟨S256x1, .i32⟩
  | 62 => ⟨S_, .i32⟩
  | 63 => ⟨S256x1, .i32⟩
  | 64 => ⟨S256x1, .i1⟩
  | 65 => ⟨S256x1, .i1⟩
  | 66 => ⟨S_, .i32⟩
  | 67 => ⟨S256x1, .i32⟩
  | 68 => ⟨S256x1, .i32⟩
  | 69 => ⟨S256x1, .i32⟩
  | 70 => ⟨S1x256, .i32⟩
  | 71 => ⟨S_, .i32⟩
  | 72 => ⟨S_, .i32⟩
  | 73 => ⟨S1x256, .i32⟩
  | 74 => ⟨S1x256, .i32⟩
  | 75 => ⟨S1x256, .i32⟩
  | 76 => ⟨S_, .i32⟩
  | 77 => ⟨S1x256, .i32⟩
  | 78 => ⟨S1x256, .i1⟩
  | 79 => ⟨S1x256, .i32⟩
  | 80 => ⟨S1x256, .i32⟩
  | 81 => ⟨S_, .i32⟩
  | 82 => ⟨S1x256, .i32⟩
  | 83 => ⟨S1x256, .i1⟩
  | 84 => ⟨S1x256, .i1⟩
  | 85 => ⟨S_, .i32⟩
  | 86 => ⟨S1x256, .i32⟩
  | 87 => ⟨S1x256, .i32⟩
  | 88 => ⟨S1x256, .i32⟩
  | 89 => ⟨S256x256, .i32⟩
  | 90 => ⟨S256x256, .i32⟩
  | 91 => ⟨S256x256, .i1⟩
  | 92 => ⟨S_, .i32⟩
  | 93 => ⟨S_, .i32⟩
  | 94 => ⟨S_, .i32⟩
  | 95 => ⟨S_, .i1⟩
  | 96 => ⟨S_, .i32⟩
  | 97 => ⟨S_, .i32⟩
  | 98 => ⟨S256, .i32⟩
  | 99 => ⟨S256, .i32⟩
  | 100 => ⟨S_, .i32⟩
  | 101 => ⟨S256, .i32⟩
  | 102 => ⟨S256, .i1⟩
  | 103 => ⟨S_, .i32⟩
  | 104 => ⟨S256, .i32⟩
  | 105 => ⟨S256, .i1⟩
  | 106 => ⟨S_, .i32⟩
  | 107 => ⟨S_, .i1⟩
  | 108 => ⟨S256, .i1⟩
  | 109 => ⟨S256, .i1⟩
  | 110 => ⟨S256, .i1⟩
  | 111 => ⟨S256, .i32⟩
  | 112 => ⟨S256, .i32⟩
  | 113 => ⟨S256, .i32⟩
  | 114 => ⟨S_, .i32⟩
  | 115 => ⟨S256, .i32⟩
  | 116 => ⟨S256, .i1⟩
  | 117 => ⟨S_, .i32⟩
  | 118 => ⟨S256, .i32⟩
  | 119 => ⟨S256, .i32⟩
  | 120 => ⟨S_, .i32⟩
  | 121 => ⟨S256, .i32⟩
  | 122 => ⟨S256, .i32⟩
  | 123 => ⟨S256, .i32⟩
  | 124 => ⟨S256x1, .i32⟩
  | 125 => ⟨S1x256, .i32⟩
  | 126 => ⟨S256x256, .i32⟩
  | 127 => ⟨S256x256, .i32⟩
  | _ => ⟨S32768x1024, .f32⟩

abbrev hbmTy0_1 (i : Nat) : BufTy := match i % 128 with
  | 0 => ⟨S256x256, .i1⟩
  | 1 => ⟨S1x256, .i32⟩
  | 2 => ⟨S_, .i32⟩
  | 3 => ⟨S1x256, .i32⟩
  | 4 => ⟨S1x256, .i1⟩
  | 5 => ⟨S256x256, .i1⟩
  | 6 => ⟨S256x256, .i1⟩
  | 7 => ⟨S256x256, .bf16⟩
  | 8 => ⟨S256x256, .bf16⟩
  | 9 => ⟨S256x256, .f32⟩
  | 10 => ⟨S_, .f32⟩
  | 11 => ⟨S256x256, .f32⟩
  | 12 => ⟨S256x256, .f32⟩
  | 13 => ⟨S256x256, .bf16⟩
  | 14 => ⟨S1x1024, .f32⟩
  | 15 => ⟨S16x1x2048x3072, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S2x1024, .f32⟩
  | .local _ .vmem, ⟨10, _⟩ => ⟨S256x256, .bf16⟩
  | .local _ .vmem, ⟨11, _⟩ => ⟨S256x256, .bf16⟩
  | .local _ .vmem, ⟨12, _⟩ => ⟨S1x1x1024x1024, .bf16⟩
  | .local _ .vmem, ⟨13, _⟩ => ⟨S1x1x1024x1024, .bf16⟩
  | .local _ .vmem, ⟨14, _⟩ => ⟨S1024x1024, .bf16⟩
  | .local _ .vmem, ⟨15, _⟩ => ⟨S8x1024x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_v5 : Ref sig .tc := ⟨.hbm, 58, rfl⟩
abbrev main_call0_v6 : Ref sig .tc := ⟨.hbm, 59, rfl⟩
abbrev main_call0_v7 : Ref sig .tc := ⟨.hbm, 60, rfl⟩
abbrev main_call0_v8 : Ref sig .tc := ⟨.hbm, 61, rfl⟩
abbrev main_call0_c : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_call0_c_0 : Ref sig .tc := ⟨.hbm, 66, rfl⟩
abbrev main_call0_v12 : Ref sig .tc := ⟨.hbm, 67, rfl⟩
abbrev main_call0_v13 : Ref sig .tc := ⟨.hbm, 68, rfl⟩
abbrev main_v39 : Ref sig .tc := ⟨.hbm, 69, rfl⟩
abbrev main_v40 : Ref sig .tc := ⟨.hbm, 70, rfl⟩
abbrev main_c_6 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_v5 : Ref sig .tc := ⟨.hbm, 77, rfl⟩
abbrev main_call1_v6 : Ref sig .tc := ⟨.hbm, 78, rfl⟩
abbrev main_call1_v7 : Ref sig .tc := ⟨.hbm, 79, rfl⟩
abbrev main_call1_v8 : Ref sig .tc := ⟨.hbm, 80, rfl⟩
abbrev main_call1_c : Ref sig .tc := ⟨.hbm, 81, rfl⟩
abbrev main_call1_v9 : Ref sig .tc := ⟨.hbm, 82, rfl⟩
abbrev main_call1_v10 : Ref sig .tc := ⟨.hbm, 83, rfl⟩
abbrev main_call1_v11 : Ref sig .tc := ⟨.hbm, 84, rfl⟩
abbrev main_call1_c_0 : Ref sig .tc := ⟨.hbm, 85, rfl⟩
abbrev main_call1_v12 : Ref sig .tc := ⟨.hbm, 86, rfl⟩
abbrev main_call1_v13 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_c_7 : Ref sig .tc := ⟨.hbm, 92, rfl⟩
abbrev main_call2_v0 : Ref sig .tc := ⟨.hbm, 93, rfl⟩
abbrev main_call2_c : Ref sig .tc := ⟨.hbm, 94, rfl⟩
abbrev main_call2_v1 : Ref sig .tc := ⟨.hbm, 95, rfl⟩
abbrev main_call2_c_0 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_call2_c_1 : Ref sig .tc := ⟨.hbm, 100, rfl⟩
abbrev main_call2_v5 : Ref sig .tc := ⟨.hbm, 101, rfl⟩
abbrev main_call2_v6 : Ref sig .tc := ⟨.hbm, 102, rfl⟩
abbrev main_call2_c_2 : Ref sig .tc := ⟨.hbm, 103, rfl⟩
abbrev main_call2_v7 : Ref sig .tc := ⟨.hbm, 104, rfl⟩
abbrev main_call2_v8 : Ref sig .tc := ⟨.hbm, 105, rfl⟩
abbrev main_call2_c_3 : Ref sig .tc := ⟨.hbm, 106, rfl⟩
abbrev main_call2_v9 : Ref sig .tc := ⟨.hbm, 107, rfl⟩
abbrev main_call2_v10 : Ref sig .tc := ⟨.hbm, 108, rfl⟩
abbrev main_call2_v11 : Ref sig .tc := ⟨.hbm, 109, rfl⟩
abbrev main_call2_v12 : Ref sig .tc := ⟨.hbm, 110, rfl⟩
abbrev main_call2_v13 : Ref sig .tc := ⟨.hbm, 111, rfl⟩
abbrev main_call2_v14 : Ref sig .tc := ⟨.hbm, 112, rfl⟩
abbrev main_v45 : Ref sig .tc := ⟨.hbm, 113, rfl⟩
abbrev main_c_8 : Ref sig .tc := ⟨.hbm, 114, rfl⟩
abbrev main_v46 : Ref sig .tc := ⟨.hbm, 115, rfl⟩
abbrev main_v47 : Ref sig .tc := ⟨.hbm, 116, rfl⟩
abbrev main_c_9 : Ref sig .tc := ⟨.hbm, 117, rfl⟩
abbrev main_v48 : Ref sig .tc := ⟨.hbm, 118, rfl⟩
abbrev main_v49 : Ref sig .tc := ⟨.hbm, 119, rfl⟩
abbrev main_c_10 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_c_11 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_cst_12 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_v69 : Ref sig .tc := ⟨.hbm, 142, rfl⟩
abbrev main_v70 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![32, 3], ![false, false]⟩

def k0_cond2 (i : grid0.Coords) : BitVec 1 :=
  let arg1 : BitVec 32 := BitVec.ofNat 32 (i 1).val
  let c2_i32 : BitVec 32 := 2#32
  let v7 : BitVec 1 := Scalar.cmpi .slt arg1 c2_i32
  let v8 : BitVec 32 := Scalar.extui v7
  let c0_i32_4 : BitVec 32 := 0#32
  let v9 : BitVec 1 := Scalar.cmpi .ne v8 c0_i32_4
  v9

def k0_off1 (i : grid0.Coords) : Fin 2 → Nat :=
  let arg1 : BitVec 32 := BitVec.ofNat 32 (i 1).val
  let v19 : Index := Scalar.indexCast arg1
  let c0_11 : Index := 0#32
  ![v19.toNat, 0]
def k0_cond3 (i : grid0.Coords) : BitVec 1 :=
  let arg1 : BitVec 32 := BitVec.ofNat 32 (i 1).val
  let c2_i32_5 : BitVec 32 := 2#32
  let v10 : BitVec 1 := Scalar.cmpi .eq arg1 c2_i32_5
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c0_i32 : BitVec 32 := 0#32
  let v1 : BitVec 32 := Scalar.addi v0 c0_i32
  let c0_i32_0 : BitVec 32 := 0#32
  let c0_i32_1 : BitVec 32 := 0#32
  ![c0_i32_0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Proj0RefIdeal.lean ====
abbrev S32768x1024 : Shape := ⟨2, ![32768, 1024]⟩
abbrev S1024 : Shape := ⟨1, ![1024]⟩
abbrev S1024x9216 : Shape := ⟨2, ![1024, 9216]⟩
abbrev S16x2048 : Shape := ⟨2, ![16, 2048]⟩
abbrev S128 : Shape := ⟨1, ![128]⟩
abbrev S32768 : Shape := ⟨1, ![32768]⟩
abbrev S16 : Shape := ⟨1, ![16]⟩
abbrev S_ : Shape := ⟨0, ![]⟩
abbrev S32768x1 : Shape := ⟨2, ![32768, 1]⟩
abbrev S1x16 : Shape := ⟨2, ![1, 16]⟩
abbrev S32768x16 : Shape := ⟨2, ![32768, 16]⟩
abbrev S1x1024 : Shape := ⟨2, ![1, 1024]⟩
abbrev S32768x9216 : Shape := ⟨2, ![32768, 9216]⟩
abbrev S32768x3x3x8x128 : Shape := ⟨5, ![32768, 3, 3, 8, 128]⟩
abbrev S32768x1x1x8x128 : Shape := ⟨5, ![32768, 1, 1, 8, 128]⟩
abbrev S32768x8x128 : Shape := ⟨3, ![32768, 8, 128]⟩
abbrev S32768x8 : Shape := ⟨2, ![32768, 8]⟩
abbrev S32768x8x1 : Shape := ⟨3, ![32768, 8, 1]⟩
abbrev S1x1x128 : Shape := ⟨3, ![1, 1, 128]⟩
abbrev S32768x1x16 : Shape := ⟨3, ![32768, 1, 16]⟩
abbrev S32768x8x16 : Shape := ⟨3, ![32768, 8, 16]⟩
abbrev S32768x8x96 : Shape := ⟨3, ![32768, 8, 96]⟩
abbrev S16x2048x1x1024 : Shape := ⟨4, ![16, 2048, 1, 1024]⟩
abbrev S16x1x2048x1024 : Shape := ⟨4, ![16, 1, 2048, 1024]⟩
abbrev S16x1x2048x3072 : Shape := ⟨4, ![16, 1, 2048, 3072]⟩

abbrev nBuf : Space → Nat
  | .hbm => 128
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x9216, .f32⟩
  | .hbm, ⟨3, _⟩ => ⟨S16x2048, .i32⟩
  | .hbm, ⟨4, _⟩ => ⟨S128, .f32⟩
  | .hbm, ⟨5, _⟩ => ⟨S128, .f32⟩
  | .hbm, ⟨6, _⟩ => ⟨S32768, .i32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S32768, .f32⟩
  | .hbm, ⟨22, _⟩ => ⟨S32768x1, .f32⟩
  | .hbm, ⟨23, _⟩ => ⟨S1x16, .f32⟩
  | .hbm, ⟨24, _⟩ => ⟨S32768x16, .f32⟩
  | .hbm, ⟨25, _⟩ => ⟨S32768x16, .f32⟩
  | .hbm, ⟨26, _⟩ => ⟨S32768x16, .f32⟩
  | .hbm, ⟨27, _⟩ => ⟨S32768x16, .f32⟩
  | .hbm, ⟨28, _⟩ => ⟨S32768x16, .f32⟩
  | .hbm, ⟨29, _⟩ => ⟨S32768x1024, .f32⟩
  | .hbm, ⟨30, _⟩ => ⟨S_, .f32⟩
  | .hbm, ⟨31, _⟩ => ⟨S32768, .f32⟩
  | .hbm, ⟨32, _⟩ => ⟨S32768x1, .f32⟩
  | .hbm, ⟨33, _⟩ => ⟨S_, .f32⟩
  | .hbm, ⟨34, _⟩ => ⟨S32768x1, .f32⟩
  | .hbm, ⟨35, _⟩ => ⟨S32768x1, .f32⟩
  | .hbm, ⟨36, _⟩ => ⟨S_, .f32⟩
  | .hbm, ⟨37, _⟩ => ⟨S32768x1, .f32⟩
  | .hbm, ⟨38, _⟩ => ⟨S32768x1, .f32⟩
  | .hbm, ⟨39, _⟩ => ⟨S32768x1, .f32⟩
  | .hbm, ⟨40, _⟩ => ⟨S32768x1024, .f32⟩
  | .hbm, ⟨41, _⟩ => ⟨S32768x1024, .f32⟩
  | .hbm, ⟨42, _⟩ => ⟨S1x1024, .f32⟩
  | .hbm, ⟨43, _⟩ => ⟨S32768x1024, .f32⟩
  | .hbm, ⟨44, _⟩ => ⟨S32768x1024, .f32⟩
  | .hbm, ⟨45, _⟩ => ⟨S32768x9216, .f32⟩
  | .hbm, ⟨46, _⟩ => ⟨S32768x3x3x8x128, .f32⟩
  | .hbm, ⟨47, _⟩ => ⟨S32768x1x1x8x128, .f32⟩
  | .hbm, ⟨48, _⟩ => ⟨S32768x8x128, .f32⟩
  | .hbm, ⟨49, _⟩ => ⟨S32768x8x128, .f32⟩
  | .hbm, ⟨50, _⟩ => ⟨S_, .f32⟩
  | .hbm, ⟨51, _⟩ => ⟨S32768x8, .f32⟩
  | .hbm, ⟨52, _⟩ => ⟨S32768x8x1, .f32⟩
  | .hbm, ⟨53, _⟩ => ⟨S_, .f32⟩
  | .hbm, ⟨54, _⟩ => ⟨S32768x8x1, .f32⟩
  | .hbm, ⟨55, _⟩ => ⟨S32768x8x1, .f32⟩
  | .hbm, ⟨56, _⟩ => ⟨S_, .f32⟩
  | .hbm, ⟨57, _⟩ => ⟨S32768x8x1, .f32⟩
  | .hbm, ⟨58, _⟩ => ⟨S32768x8x1, .f32⟩
  | .hbm, ⟨59, _⟩ => ⟨S32768x8x1, .f32⟩
  | .hbm, ⟨60, _⟩ => ⟨S32768x8x128, .f32⟩
  | .hbm, ⟨61, _⟩ => ⟨S32768x8x128, .f32⟩
  | .hbm, ⟨62, _⟩ => ⟨S1x1x128, .f32⟩
  | .hbm, ⟨63, _⟩ => ⟨S32768x8x128, .f32⟩
  | .hbm, ⟨64, _⟩ => ⟨S32768x8x128, .f32⟩
  | .hbm, ⟨65, _⟩ => ⟨S32768x1x16, .f32⟩
  | .hbm, ⟨66, _⟩ => ⟨S32768x1x16, .f32⟩
  | .hbm, ⟨67, _⟩ => ⟨S32768x8x16, .f32⟩
  | .hbm, ⟨68, _⟩ => ⟨S32768x8x16, .f32⟩
  | .hbm, ⟨69, _⟩ => ⟨S32768x8x16, .f32⟩
  | .hbm, ⟨70, _⟩ => ⟨S32768x8x16, .f32⟩
  | .hbm, ⟨71, _⟩ => ⟨S32768x8x16, .f32⟩
  | .hbm, ⟨72, _⟩ => ⟨S32768x8x16, .f32⟩
  | .hbm, ⟨73, _⟩ => ⟨S32768x8x16, .f32⟩
  | .hbm, ⟨74, _⟩ => ⟨S32768x8x16, .f32⟩
  | .hbm, ⟨75, _⟩ => ⟨S32768x8x16, .f32⟩
  | .hbm, ⟨76, _⟩ => ⟨S32768x8x16, .f32⟩
  | .hbm, ⟨77, _⟩ => ⟨S32768x8x16, .f32⟩
  | .hbm, ⟨78, _⟩ => ⟨S32768x8x16, .f32⟩
  | .hbm, ⟨79, _⟩ => ⟨S32768x8x96, .f32⟩
  | .hbm, ⟨80, _⟩ => ⟨S32768x8x128, .f32⟩
  | .hbm, ⟨81, _⟩ => ⟨S_, .f32⟩
  | .hbm, ⟨82, _⟩ => ⟨S32768x8x128, .f32⟩
  | .hbm, ⟨83, _⟩ => ⟨S32768x8x128, .f32⟩
  | .hbm, ⟨84, _⟩ => ⟨S32768x1x1x8x128, .f32⟩
  | .hbm, ⟨85, _⟩ => ⟨S32768x8x128, .f32⟩
  | .hbm, ⟨86, _⟩ => ⟨S32768x8x128, .f32⟩
  | .hbm, ⟨87, _⟩ => ⟨S_, .f32⟩
  | .hbm, ⟨88, _⟩ => ⟨S32768x8, .f32⟩
  | .hbm, ⟨89, _⟩ => ⟨S32768x8x1, .f32⟩
  | .hbm, ⟨90, _⟩ => ⟨S_, .f32⟩
  | .hbm, ⟨91, _⟩ => ⟨S32768x8x1, .f32⟩
  | .hbm, ⟨92, _⟩ => ⟨S32768x8x1, .f32⟩
  | .hbm, ⟨93, _⟩ => ⟨S_, .f32⟩
  | .hbm, ⟨94, _⟩ => ⟨S32768x8x1, .f32⟩
  | .hbm, ⟨95, _⟩ => ⟨S32768x8x1, .f32⟩
  | .hbm, ⟨96, _⟩ => ⟨S32768x8x1, .f32⟩
  | .hbm, ⟨97, _⟩ => ⟨S32768x8x128, .f32⟩
  | .hbm, ⟨98, _⟩ => ⟨S32768x8x128, .f32⟩
  | .hbm, ⟨99, _⟩ => ⟨S1x1x128, .f32⟩
  | .hbm, ⟨100, _⟩ => ⟨S32768x8x128, .f32⟩
  | .hbm, ⟨101, _⟩ => ⟨S32768x8x128, .f32⟩
  | .hbm, ⟨102, _⟩ => ⟨S32768x1x16, .f32⟩
  | .hbm, ⟨103, _⟩ => ⟨S32768x1x16, .f32⟩
  | .hbm, ⟨104, _⟩ => ⟨S32768x8x16, .f32⟩
  | .hbm, ⟨105, _⟩ => ⟨S32768x8x16, .f32⟩
  | .hbm, ⟨106, _⟩ => ⟨S32768x8x16, .f32⟩
  | .hbm, ⟨107, _⟩ => ⟨S32768x8x16, .f32⟩
  | .hbm, ⟨108, _⟩ => ⟨S32768x8x16, .f32⟩
  | .hbm, ⟨109, _⟩ => ⟨S32768x8x16, .f32⟩
  | .hbm, ⟨110, _⟩ => ⟨S32768x8x16, .f32⟩
  | .hbm, ⟨111, _⟩ => ⟨S32768x8x16, .f32⟩
  | .hbm, ⟨112, _⟩ => ⟨S32768x8x16, .f32⟩
  | .hbm, ⟨113, _⟩ => ⟨S32768x8x16, .f32⟩
  | .hbm, ⟨114, _⟩ => ⟨S32768x8x16, .f32⟩
  | .hbm, ⟨115, _⟩ => ⟨S32768x8x16, .f32⟩
  | .hbm, ⟨116, _⟩ => ⟨S32768x8x96, .f32⟩
  | .hbm, ⟨117, _⟩ => ⟨S32768x8x128, .f32⟩
  | .hbm, ⟨118, _⟩ => ⟨S32768x1x1x8x128, .f32⟩
  | .hbm, ⟨119, _⟩ => ⟨S32768x8x128, .f32⟩
  | .hbm, ⟨120, _⟩ => ⟨S16x2048x1x1024, .f32⟩
  | .hbm, ⟨121, _⟩ => ⟨S16x1x2048x1024, .f32⟩
  | .hbm, ⟨122, _⟩ => ⟨S16x2048x1x1024, .f32⟩
  | .hbm, ⟨123, _⟩ => ⟨S16x1x2048x1024, .f32⟩
  | .hbm, ⟨124, _⟩ => ⟨S16x2048x1x1024, .f32⟩
  | .hbm, ⟨125, _⟩ => ⟨S16x1x2048x1024, .f32⟩
  | .hbm, ⟨126, _⟩ => ⟨S16x1x2048x3072, .f32⟩
  | .hbm, ⟨127, _⟩ => ⟨S16x1x2048x3072, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_9 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_10 : Ref sig .tc := ⟨.hbm, 87, rfl⟩
abbrev main_v70 : Ref sig .tc := ⟨.hbm, 88, rfl⟩
abbrev main_v71 : Ref sig .tc := ⟨.hbm, 89, rfl⟩
abbrev main_cst_11 : Ref sig .tc := ⟨.hbm, 90, rfl⟩
abbrev main_v72 : Ref sig .tc := ⟨.hbm, 91, rfl⟩
abbrev main_v73 : Ref sig .tc := ⟨.hbm, 92, rfl⟩
abbrev main_cst_12 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩

abbrev nD : Nat := 1
abbrev τ : Topo := Topo.v7x

variable {F : FTy → Type} [FloatOps F]
-- ==== Proj1.lean ====
abbrev S32768x1024 : Shape := ⟨2, ![32768, 1024]⟩
abbrev S1024 : Shape := ⟨1, ![1024]⟩
abbrev S1024x9216 : Shape := ⟨2, ![1024, 9216]⟩
abbrev S16x2048 : Shape := ⟨2, ![16, 2048]⟩
abbrev S128 : Shape := ⟨1, ![128]⟩
abbrev S16 : Shape := ⟨1, ![16]⟩
abbrev S_ : Shape := ⟨0, ![]⟩
abbrev S16x2048x1 : Shape := ⟨3, ![16, 2048, 1]⟩
abbrev S1x1x16 : Shape := ⟨3, ![1, 1, 16]⟩
abbrev S16x2048x16 : Shape := ⟨3, ![16, 2048, 16]⟩
abbrev S16x2048x96 : Shape := ⟨3, ![16, 2048, 96]⟩
abbrev S16x2048x128 : Shape := ⟨3, ![16, 2048, 128]⟩
abbrev S32768x128 : Shape := ⟨2, ![32768, 128]⟩
abbrev S1x128 : Shape := ⟨2, ![1, 128]⟩
abbrev S8x128 : Shape := ⟨2, ![8, 128]⟩
abbrev S1x1024 : Shape := ⟨2, ![1, 1024]⟩
abbrev S2x1024 : Shape := ⟨2, ![2, 1024]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S16x4x512x3072 : Shape := ⟨4, ![16, 4, 512, 3072]⟩
abbrev S1024x1024 : Shape := ⟨2, ![1024, 1024]⟩
abbrev S1024x128 : Shape := ⟨2, ![1024, 128]⟩
abbrev S1x4x256x1024 : Shape := ⟨4, ![1, 4, 256, 1024]⟩
abbrev S8x1024x128 : Shape := ⟨3, ![8, 1024, 128]⟩
abbrev S1024x1 : Shape := ⟨2, ![1024, 1]⟩
abbrev S1024x256 : Shape := ⟨2, ![1024, 256]⟩
abbrev S1x1024x128 : Shape := ⟨3, ![1, 1024, 128]⟩
abbrev S1x256x128 : Shape := ⟨3, ![1, 256, 128]⟩
abbrev S256x128 : Shape := ⟨2, ![256, 128]⟩
abbrev S256x1024 : Shape := ⟨2, ![256, 1024]⟩
abbrev S1x1x256x1024 : Shape := ⟨4, ![1, 1, 256, 1024]⟩

abbrev nBuf : Space → Nat
  | .hbm => 144
  | .vmem => 16
  | .smem => 0
  | _ => 0

abbrev hbmTy0_0 (i : Nat) : BufTy := match i % 128 with
  | 0 => ⟨S32768x1024, .f32⟩
  | 1 => ⟨S1024, .f32⟩
  | 2 => ⟨S1024x9216, .f32⟩
  | 3 => ⟨S16x2048, .i32⟩
  | 4 => ⟨S128, .f32⟩
  | 5 => ⟨S128, .f32⟩
  | 6 => ⟨S16, .f32⟩
  | 7 => ⟨S_, .f32⟩
  | 8 => ⟨S16, .f32⟩
  | 9 => ⟨S16, .f32⟩
  | 10 => ⟨S_, .f32⟩
  | 11 => ⟨S16, .f32⟩
  | 12 => ⟨S16, .f32⟩
  | 13 => ⟨S16, .f32⟩
  | 14 => ⟨S_, .f32⟩
  | 15 => ⟨S16, .f32⟩
  | 16 => ⟨S16, .f32⟩
  | 17 => ⟨S_, .f32⟩
  | 18 => ⟨S16, .f32⟩
  | 19 => ⟨S16, .f32⟩
  | 20 => ⟨S16x2048, .f32⟩
  | 21 => ⟨S16x2048x1, .f32⟩
  | 22 => ⟨S1x1x16, .f32⟩
  | 23 => ⟨S16x2048x16, .f32⟩
  | 24 => ⟨S16x2048x16, .f32⟩
  | 25 => ⟨S16x2048x16, .f32⟩
  | 26 => ⟨S16x2048x16, .f32⟩
  | 27 => ⟨S16x2048x16, .f32⟩
  | 28 => ⟨S_, .f32⟩
  | 29 => ⟨S16x2048x96, .f32⟩
  | 30 => ⟨S16x2048x128, .f32⟩
  | 31 => ⟨S16x2048x16, .f32⟩
  | 32 => ⟨S_, .f32⟩
  | 33 => ⟨S16x2048x96, .f32⟩
  | 34 => ⟨S16x2048x128, .f32⟩
  | 35 => ⟨S32768x128, .f32⟩
  | 36 => ⟨S32768x128, .f32⟩
  | 37 => ⟨S1024x9216, .bf16⟩
  | 38 => ⟨S1x128, .f32⟩
  | 39 => ⟨S8x128, .f32⟩
  | 40 => ⟨S1024, .f32⟩
  | 41 => ⟨S_, .f32⟩
  | 42 => ⟨S1024, .f32⟩
  | 43 => ⟨S1024, .f32⟩
  | 44 => ⟨S1x128, .f32⟩
  | 45 => ⟨S8x128, .f32⟩
  | 46 => ⟨S1024, .f32⟩
  | 47 => ⟨S1x1024, .f32⟩
  | 48 => ⟨S1x1024, .f32⟩
  | 49 => ⟨S2x1024, .f32⟩
  | 50 => ⟨S256, .i32⟩
  | 51 => ⟨S256x1, .i32⟩
  | 52 => ⟨S_, .i32⟩
  | 53 => ⟨S_, .i32⟩
  | 54 => ⟨S256x1, .i32⟩
  | 55 => ⟨S256x1, .i32⟩
  | 56 => ⟨S256x1, .i32⟩
  | 57 => ⟨S_, .i32⟩
  | 58 => ⟨S256x1, .i32⟩
  | 59 => ⟨S256x1, .i1⟩
  | 60 => ⟨S256x1, .i32⟩
  | 61 => ⟨S256x1, .i32⟩
  | 62 => ⟨S_, .i32⟩
  | 63 => ⟨S256x1, .i32⟩
  | 64 => ⟨S256x1, .i1⟩
  | 65 => ⟨S256x1, .i1⟩
  | 66 => ⟨S_, .i32⟩
  | 67 => ⟨S256x1, .i32⟩
  | 68 => ⟨S256x1, .i32⟩
  | 69 => ⟨S256x1, .i32⟩
  | 70 => ⟨S1x256, .i32⟩
  | 71 => ⟨S_, .i32⟩
  | 72 => ⟨S_, .i32⟩
  | 73 => ⟨S1x256, .i32⟩
  | 74 => ⟨S1x256, .i32⟩
  | 75 => ⟨S1x256, .i32⟩
  | 76 => ⟨S_, .i32⟩
  | 77 => ⟨S1x256, .i32⟩
  | 78 => ⟨S1x256, .i1⟩
  | 79 => ⟨S1x256, .i32⟩
  | 80 => ⟨S1x256, .i32⟩
  | 81 => ⟨S_, .i32⟩
  | 82 => ⟨S1x256, .i32⟩
  | 83 => ⟨S1x256, .i1⟩
  | 84 => ⟨S1x256, .i1⟩
  | 85 => ⟨S_, .i32⟩
  | 86 => ⟨S1x256, .i32⟩
  | 87 => ⟨S1x256, .i32⟩
  | 88 => ⟨S1x256, .i32⟩
  | 89 => ⟨S256x256, .i32⟩
  | 90 => ⟨S256x256, .i32⟩
  | 91 => ⟨S256x256, .i1⟩
  | 92 => ⟨S_, .i32⟩
  | 93 => ⟨S_, .i32⟩
  | 94 => ⟨S_, .i32⟩
  | 95 => ⟨S_, .i1⟩
  | 96 => ⟨S_, .i32⟩
  | 97 => ⟨S_, .i32⟩
  | 98 => ⟨S256, .i32⟩
  | 99 => ⟨S256, .i32⟩
  | 100 => ⟨S_, .i32⟩
  | 101 => ⟨S256, .i32⟩
  | 102 => ⟨S256, .i1⟩
  | 103 => ⟨S_, .i32⟩
  | 104 => ⟨S256, .i32⟩
  | 105 => ⟨S256, .i1⟩
  | 106 => ⟨S_, .i32⟩
  | 107 => ⟨S_, .i1⟩
  | 108 => ⟨S256, .i1⟩
  | 109 => ⟨S256, .i1⟩
  | 110 => ⟨S256, .i1⟩
  | 111 => ⟨S256, .i32⟩
  | 112 => ⟨S256, .i32⟩
  | 113 => ⟨S256, .i32⟩
  | 114 => ⟨S_, .i32⟩
  | 115 => ⟨S256, .i32⟩
  | 116 => ⟨S256, .i1⟩
  | 117 => ⟨S_, .i32⟩
  | 118 => ⟨S256, .i32⟩
  | 119 => ⟨S256, .i32⟩
  | 120 => ⟨S_, .i32⟩
  | 121 => ⟨S256, .i32⟩
  | 122 => ⟨S256, .i32⟩
  | 123 => ⟨S256, .i32⟩
  | 124 => ⟨S256x1, .i32⟩
  | 125 => ⟨S1x256, .i32⟩
  | 126 => ⟨S256x256, .i32⟩
  | 127 => ⟨S256x256, .i32⟩
  | _ => ⟨S32768x1024, .f32⟩

abbrev hbmTy0_1 (i : Nat) : BufTy := match i % 128 with
  | 0 => ⟨S256x256, .i1⟩
  | 1 => ⟨S1x256, .i32⟩
  | 2 => ⟨S_, .i32⟩
  | 3 => ⟨S1x256, .i32⟩
  | 4 => ⟨S1x256, .i1⟩
  | 5 => ⟨S256x256, .i1⟩
  | 6 => ⟨S256x256, .i1⟩
  | 7 => ⟨S256x256, .bf16⟩
  | 8 => ⟨S256x256, .bf16⟩
  | 9 => ⟨S256x256, .f32⟩
  | 10 => ⟨S_, .f32⟩
  | 11 => ⟨S256x256, .f32⟩
  | 12 => ⟨S256x256, .f32⟩
  | 13 => ⟨S256x256, .bf16⟩
  | 14 => ⟨S1x1024, .f32⟩
  | 15 => ⟨S16x4x512x3072, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S2x1024, .f32⟩
  | .local _ .vmem, ⟨10, _⟩ => ⟨S256x256, .bf16⟩
  | .local _ .vmem, ⟨11, _⟩ => ⟨S256x256, .bf16⟩
  | .local _ .vmem, ⟨12, _⟩ => ⟨S1x4x256x1024, .bf16⟩
  | .local _ .vmem, ⟨13, _⟩ => ⟨S1x4x256x1024, .bf16⟩
  | .local _ .vmem, ⟨14, _⟩ => ⟨S1024x1024, .bf16⟩
  | .local _ .vmem, ⟨15, _⟩ => ⟨S8x1024x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_v5 : Ref sig .tc := ⟨.hbm, 58, rfl⟩
abbrev main_call0_v6 : Ref sig .tc := ⟨.hbm, 59, rfl⟩
abbrev main_call0_v7 : Ref sig .tc := ⟨.hbm, 60, rfl⟩
abbrev main_call0_v8 : Ref sig .tc := ⟨.hbm, 61, rfl⟩
abbrev main_call0_c : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_call0_c_0 : Ref sig .tc := ⟨.hbm, 66, rfl⟩
abbrev main_call0_v12 : Ref sig .tc := ⟨.hbm, 67, rfl⟩
abbrev main_call0_v13 : Ref sig .tc := ⟨.hbm, 68, rfl⟩
abbrev main_v39 : Ref sig .tc := ⟨.hbm, 69, rfl⟩
abbrev main_v40 : Ref sig .tc := ⟨.hbm, 70, rfl⟩
abbrev main_c_6 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_v5 : Ref sig .tc := ⟨.hbm, 77, rfl⟩
abbrev main_call1_v6 : Ref sig .tc := ⟨.hbm, 78, rfl⟩
abbrev main_call1_v7 : Ref sig .tc := ⟨.hbm, 79, rfl⟩
abbrev main_call1_v8 : Ref sig .tc := ⟨.hbm, 80, rfl⟩
abbrev main_call1_c : Ref sig .tc := ⟨.hbm, 81, rfl⟩
abbrev main_call1_v9 : Ref sig .tc := ⟨.hbm, 82, rfl⟩
abbrev main_call1_v10 : Ref sig .tc := ⟨.hbm, 83, rfl⟩
abbrev main_call1_v11 : Ref sig .tc := ⟨.hbm, 84, rfl⟩
abbrev main_call1_c_0 : Ref sig .tc := ⟨.hbm, 85, rfl⟩
abbrev main_call1_v12 : Ref sig .tc := ⟨.hbm, 86, rfl⟩
abbrev main_call1_v13 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_c_7 : Ref sig .tc := ⟨.hbm, 92, rfl⟩
abbrev main_call2_v0 : Ref sig .tc := ⟨.hbm, 93, rfl⟩
abbrev main_call2_c : Ref sig .tc := ⟨.hbm, 94, rfl⟩
abbrev main_call2_v1 : Ref sig .tc := ⟨.hbm, 95, rfl⟩
abbrev main_call2_c_0 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_call2_c_1 : Ref sig .tc := ⟨.hbm, 100, rfl⟩
abbrev main_call2_v5 : Ref sig .tc := ⟨.hbm, 101, rfl⟩
abbrev main_call2_v6 : Ref sig .tc := ⟨.hbm, 102, rfl⟩
abbrev main_call2_c_2 : Ref sig .tc := ⟨.hbm, 103, rfl⟩
abbrev main_call2_v7 : Ref sig .tc := ⟨.hbm, 104, rfl⟩
abbrev main_call2_v8 : Ref sig .tc := ⟨.hbm, 105, rfl⟩
abbrev main_call2_c_3 : Ref sig .tc := ⟨.hbm, 106, rfl⟩
abbrev main_call2_v9 : Ref sig .tc := ⟨.hbm, 107, rfl⟩
abbrev main_call2_v10 : Ref sig .tc := ⟨.hbm, 108, rfl⟩
abbrev main_call2_v11 : Ref sig .tc := ⟨.hbm, 109, rfl⟩
abbrev main_call2_v12 : Ref sig .tc := ⟨.hbm, 110, rfl⟩
abbrev main_call2_v13 : Ref sig .tc := ⟨.hbm, 111, rfl⟩
abbrev main_call2_v14 : Ref sig .tc := ⟨.hbm, 112, rfl⟩
abbrev main_v45 : Ref sig .tc := ⟨.hbm, 113, rfl⟩
abbrev main_c_8 : Ref sig .tc := ⟨.hbm, 114, rfl⟩
abbrev main_v46 : Ref sig .tc := ⟨.hbm, 115, rfl⟩
abbrev main_v47 : Ref sig .tc := ⟨.hbm, 116, rfl⟩
abbrev main_c_9 : Ref sig .tc := ⟨.hbm, 117, rfl⟩
abbrev main_v48 : Ref sig .tc := ⟨.hbm, 118, rfl⟩
abbrev main_v49 : Ref sig .tc := ⟨.hbm, 119, rfl⟩
abbrev main_c_10 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_c_11 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_cst_12 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_v69 : Ref sig .tc := ⟨.hbm, 142, rfl⟩
abbrev main_v70 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![32, 3], ![false, false]⟩

def k0_cond2 (i : grid0.Coords) : BitVec 1 :=
  let arg1 : BitVec 32 := BitVec.ofNat 32 (i 1).val
  let c2_i32 : BitVec 32 := 2#32
  let v7 : BitVec 1 := Scalar.cmpi .slt arg1 c2_i32
  let v8 : BitVec 32 := Scalar.extui v7
  let c0_i32_4 : BitVec 32 := 0#32
  let v9 : BitVec 1 := Scalar.cmpi .ne v8 c0_i32_4
  v9

def k0_off1 (i : grid0.Coords) : Fin 2 → Nat :=
  let arg1 : BitVec 32 := BitVec.ofNat 32 (i 1).val
  let v19 : Index := Scalar.indexCast arg1
  let c0_11 : Index := 0#32
  ![v19.toNat, 0]
def k0_cond3 (i : grid0.Coords) : BitVec 1 :=
  let arg1 : BitVec 32 := BitVec.ofNat 32 (i 1).val
  let c2_i32_5 : BitVec 32 := 2#32
  let v10 : BitVec 1 := Scalar.cmpi .eq arg1 c2_i32_5
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x4x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Proj1RefIdeal.lean ====
abbrev S32768x1024 : Shape := ⟨2, ![32768, 1024]⟩
abbrev S1024 : Shape := ⟨1, ![1024]⟩
abbrev S1024x9216 : Shape := ⟨2, ![1024, 9216]⟩
abbrev S16x2048 : Shape := ⟨2, ![16, 2048]⟩
abbrev S128 : Shape := ⟨1, ![128]⟩
abbrev S32768 : Shape := ⟨1, ![32768]⟩
abbrev S16 : Shape := ⟨1, ![16]⟩
abbrev S_ : Shape := ⟨0, ![]⟩
abbrev S32768x1 : Shape := ⟨2, ![32768, 1]⟩
abbrev S1x16 : Shape := ⟨2, ![1, 16]⟩
abbrev S32768x16 : Shape := ⟨2, ![32768, 16]⟩
abbrev S1x1024 : Shape := ⟨2, ![1, 1024]⟩
abbrev S32768x9216 : Shape := ⟨2, ![32768, 9216]⟩
abbrev S32768x3x3x8x128 : Shape := ⟨5, ![32768, 3, 3, 8, 128]⟩
abbrev S32768x1x1x8x128 : Shape := ⟨5, ![32768, 1, 1, 8, 128]⟩
abbrev S32768x8x128 : Shape := ⟨3, ![32768, 8, 128]⟩
abbrev S32768x8 : Shape := ⟨2, ![32768, 8]⟩
abbrev S32768x8x1 : Shape := ⟨3, ![32768, 8, 1]⟩
abbrev S1x1x128 : Shape := ⟨3, ![1, 1, 128]⟩
abbrev S32768x1x16 : Shape := ⟨3, ![32768, 1, 16]⟩
abbrev S32768x8x16 : Shape := ⟨3, ![32768, 8, 16]⟩
abbrev S32768x8x96 : Shape := ⟨3, ![32768, 8, 96]⟩
abbrev S16x512x4x1024 : Shape := ⟨4, ![16, 512, 4, 1024]⟩
abbrev S16x4x512x1024 : Shape := ⟨4, ![16, 4, 512, 1024]⟩
abbrev S16x4x512x3072 : Shape := ⟨4, ![16, 4, 512, 3072]⟩

abbrev nBuf : Space → Nat
  | .hbm => 128
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x9216, .f32⟩
  | .hbm, ⟨3, _⟩ => ⟨S16x2048, .i32⟩
  | .hbm, ⟨4, _⟩ => ⟨S128, .f32⟩
  | .hbm, ⟨5, _⟩ => ⟨S128, .f32⟩
  | .hbm, ⟨6, _⟩ => ⟨S32768, .i32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S32768, .f32⟩
  | .hbm, ⟨22, _⟩ => ⟨S32768x1, .f32⟩
  | .hbm, ⟨23, _⟩ => ⟨S1x16, .f32⟩
  | .hbm, ⟨24, _⟩ => ⟨S32768x16, .f32⟩
  | .hbm, ⟨25, _⟩ => ⟨S32768x16, .f32⟩
  | .hbm, ⟨26, _⟩ => ⟨S32768x16, .f32⟩
  | .hbm, ⟨27, _⟩ => ⟨S32768x16, .f32⟩
  | .hbm, ⟨28, _⟩ => ⟨S32768x16, .f32⟩
  | .hbm, ⟨29, _⟩ => ⟨S32768x1024, .f32⟩
  | .hbm, ⟨30, _⟩ => ⟨S_, .f32⟩
  | .hbm, ⟨31, _⟩ => ⟨S32768, .f32⟩
  | .hbm, ⟨32, _⟩ => ⟨S32768x1, .f32⟩
  | .hbm, ⟨33, _⟩ => ⟨S_, .f32⟩
  | .hbm, ⟨34, _⟩ => ⟨S32768x1, .f32⟩
  | .hbm, ⟨35, _⟩ => ⟨S32768x1, .f32⟩
  | .hbm, ⟨36, _⟩ => ⟨S_, .f32⟩
  | .hbm, ⟨37, _⟩ => ⟨S32768x1, .f32⟩
  | .hbm, ⟨38, _⟩ => ⟨S32768x1, .f32⟩
  | .hbm, ⟨39, _⟩ => ⟨S32768x1, .f32⟩
  | .hbm, ⟨40, _⟩ => ⟨S32768x1024, .f32⟩
  | .hbm, ⟨41, _⟩ => ⟨S32768x1024, .f32⟩
  | .hbm, ⟨42, _⟩ => ⟨S1x1024, .f32⟩
  | .hbm, ⟨43, _⟩ => ⟨S32768x1024, .f32⟩
  | .hbm, ⟨44, _⟩ => ⟨S32768x1024, .f32⟩
  | .hbm, ⟨45, _⟩ => ⟨S32768x9216, .f32⟩
  | .hbm, ⟨46, _⟩ => ⟨S32768x3x3x8x128, .f32⟩
  | .hbm, ⟨47, _⟩ => ⟨S32768x1x1x8x128, .f32⟩
  | .hbm, ⟨48, _⟩ => ⟨S32768x8x128, .f32⟩
  | .hbm, ⟨49, _⟩ => ⟨S32768x8x128, .f32⟩
  | .hbm, ⟨50, _⟩ => ⟨S_, .f32⟩
  | .hbm, ⟨51, _⟩ => ⟨S32768x8, .f32⟩
  | .hbm, ⟨52, _⟩ => ⟨S32768x8x1, .f32⟩
  | .hbm, ⟨53, _⟩ => ⟨S_, .f32⟩
  | .hbm, ⟨54, _⟩ => ⟨S32768x8x1, .f32⟩
  | .hbm, ⟨55, _⟩ => ⟨S32768x8x1, .f32⟩
  | .hbm, ⟨56, _⟩ => ⟨S_, .f32⟩
  | .hbm, ⟨57, _⟩ => ⟨S32768x8x1, .f32⟩
  | .hbm, ⟨58, _⟩ => ⟨S32768x8x1, .f32⟩
  | .hbm, ⟨59, _⟩ => ⟨S32768x8x1, .f32⟩
  | .hbm, ⟨60, _⟩ => ⟨S32768x8x128, .f32⟩
  | .hbm, ⟨61, _⟩ => ⟨S32768x8x128, .f32⟩
  | .hbm, ⟨62, _⟩ => ⟨S1x1x128, .f32⟩
  | .hbm, ⟨63, _⟩ => ⟨S32768x8x128, .f32⟩
  | .hbm, ⟨64, _⟩ => ⟨S32768x8x128, .f32⟩
  | .hbm, ⟨65, _⟩ => ⟨S32768x1x16, .f32⟩
  | .hbm, ⟨66, _⟩ => ⟨S32768x1x16, .f32⟩
  | .hbm, ⟨67, _⟩ => ⟨S32768x8x16, .f32⟩
  | .hbm, ⟨68, _⟩ => ⟨S32768x8x16, .f32⟩
  | .hbm, ⟨69, _⟩ => ⟨S32768x8x16, .f32⟩
  | .hbm, ⟨70, _⟩ => ⟨S32768x8x16, .f32⟩
  | .hbm, ⟨71, _⟩ => ⟨S32768x8x16, .f32⟩
  | .hbm, ⟨72, _⟩ => ⟨S32768x8x16, .f32⟩
  | .hbm, ⟨73, _⟩ => ⟨S32768x8x16, .f32⟩
  | .hbm, ⟨74, _⟩ => ⟨S32768x8x16, .f32⟩
  | .hbm, ⟨75, _⟩ => ⟨S32768x8x16, .f32⟩
  | .hbm, ⟨76, _⟩ => ⟨S32768x8x16, .f32⟩
  | .hbm, ⟨77, _⟩ => ⟨S32768x8x16, .f32⟩
  | .hbm, ⟨78, _⟩ => ⟨S32768x8x16, .f32⟩
  | .hbm, ⟨79, _⟩ => ⟨S32768x8x96, .f32⟩
  | .hbm, ⟨80, _⟩ => ⟨S32768x8x128, .f32⟩
  | .hbm, ⟨81, _⟩ => ⟨S_, .f32⟩
  | .hbm, ⟨82, _⟩ => ⟨S32768x8x128, .f32⟩
  | .hbm, ⟨83, _⟩ => ⟨S32768x8x128, .f32⟩
  | .hbm, ⟨84, _⟩ => ⟨S32768x1x1x8x128, .f32⟩
  | .hbm, ⟨85, _⟩ => ⟨S32768x8x128, .f32⟩
  | .hbm, ⟨86, _⟩ => ⟨S32768x8x128, .f32⟩
  | .hbm, ⟨87, _⟩ => ⟨S_, .f32⟩
  | .hbm, ⟨88, _⟩ => ⟨S32768x8, .f32⟩
  | .hbm, ⟨89, _⟩ => ⟨S32768x8x1, .f32⟩
  | .hbm, ⟨90, _⟩ => ⟨S_, .f32⟩
  | .hbm, ⟨91, _⟩ => ⟨S32768x8x1, .f32⟩
  | .hbm, ⟨92, _⟩ => ⟨S32768x8x1, .f32⟩
  | .hbm, ⟨93, _⟩ => ⟨S_, .f32⟩
  | .hbm, ⟨94, _⟩ => ⟨S32768x8x1, .f32⟩
  | .hbm, ⟨95, _⟩ => ⟨S32768x8x1, .f32⟩
  | .hbm, ⟨96, _⟩ => ⟨S32768x8x1, .f32⟩
  | .hbm, ⟨97, _⟩ => ⟨S32768x8x128, .f32⟩
  | .hbm, ⟨98, _⟩ => ⟨S32768x8x128, .f32⟩
  | .hbm, ⟨99, _⟩ => ⟨S1x1x128, .f32⟩
  | .hbm, ⟨100, _⟩ => ⟨S32768x8x128, .f32⟩
  | .hbm, ⟨101, _⟩ => ⟨S32768x8x128, .f32⟩
  | .hbm, ⟨102, _⟩ => ⟨S32768x1x16, .f32⟩
  | .hbm, ⟨103, _⟩ => ⟨S32768x1x16, .f32⟩
  | .hbm, ⟨104, _⟩ => ⟨S32768x8x16, .f32⟩
  | .hbm, ⟨105, _⟩ => ⟨S32768x8x16, .f32⟩
  | .hbm, ⟨106, _⟩ => ⟨S32768x8x16, .f32⟩
  | .hbm, ⟨107, _⟩ => ⟨S32768x8x16, .f32⟩
  | .hbm, ⟨108, _⟩ => ⟨S32768x8x16, .f32⟩
  | .hbm, ⟨109, _⟩ => ⟨S32768x8x16, .f32⟩
  | .hbm, ⟨110, _⟩ => ⟨S32768x8x16, .f32⟩
  | .hbm, ⟨111, _⟩ => ⟨S32768x8x16, .f32⟩
  | .hbm, ⟨112, _⟩ => ⟨S32768x8x16, .f32⟩
  | .hbm, ⟨113, _⟩ => ⟨S32768x8x16, .f32⟩
  | .hbm, ⟨114, _⟩ => ⟨S32768x8x16, .f32⟩
  | .hbm, ⟨115, _⟩ => ⟨S32768x8x16, .f32⟩
  | .hbm, ⟨116, _⟩ => ⟨S32768x8x96, .f32⟩
  | .hbm, ⟨117, _⟩ => ⟨S32768x8x128, .f32⟩
  | .hbm, ⟨118, _⟩ => ⟨S32768x1x1x8x128, .f32⟩
  | .hbm, ⟨119, _⟩ => ⟨S32768x8x128, .f32⟩
  | .hbm, ⟨120, _⟩ => ⟨S16x512x4x1024, .f32⟩
  | .hbm, ⟨121, _⟩ => ⟨S16x4x512x1024, .f32⟩
  | .hbm, ⟨122, _⟩ => ⟨S16x512x4x1024, .f32⟩
  | .hbm, ⟨123, _⟩ => ⟨S16x4x512x1024, .f32⟩
  | .hbm, ⟨124, _⟩ => ⟨S16x512x4x1024, .f32⟩
  | .hbm, ⟨125, _⟩ => ⟨S16x4x512x1024, .f32⟩
  | .hbm, ⟨126, _⟩ => ⟨S16x4x512x3072, .f32⟩
  | .hbm, ⟨127, _⟩ => ⟨S16x4x512x3072, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_9 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_10 : Ref sig .tc := ⟨.hbm, 87, rfl⟩
abbrev main_v70 : Ref sig .tc := ⟨.hbm, 88, rfl⟩
abbrev main_v71 : Ref sig .tc := ⟨.hbm, 89, rfl⟩
abbrev main_cst_11 : Ref sig .tc := ⟨.hbm, 90, rfl⟩
abbrev main_v72 : Ref sig .tc := ⟨.hbm, 91, rfl⟩
abbrev main_v73 : Ref sig .tc := ⟨.hbm, 92, rfl⟩
abbrev main_cst_12 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩

abbrev nD : Nat := 1
abbrev τ : Topo := Topo.v7x

variable {F : FTy → Type} [FloatOps F]
-- ==== Proj2.lean ====
abbrev S32768x1024 : Shape := ⟨2, ![32768, 1024]⟩
abbrev S1024 : Shape := ⟨1, ![1024]⟩
abbrev S1024x9216 : Shape := ⟨2, ![1024, 9216]⟩
abbrev S16x2048 : Shape := ⟨2, ![16, 2048]⟩
abbrev S128 : Shape := ⟨1, ![128]⟩
abbrev S16 : Shape := ⟨1, ![16]⟩
abbrev S_ : Shape := ⟨0, ![]⟩
abbrev S16x2048x1 : Shape := ⟨3, ![16, 2048, 1]⟩
abbrev S1x1x16 : Shape := ⟨3, ![1, 1, 16]⟩
abbrev S16x2048x16 : Shape := ⟨3, ![16, 2048, 16]⟩
abbrev S16x2048x96 : Shape := ⟨3, ![16, 2048, 96]⟩
abbrev S16x2048x128 : Shape := ⟨3, ![16, 2048, 128]⟩
abbrev S32768x128 : Shape := ⟨2, ![32768, 128]⟩
abbrev S1x128 : Shape := ⟨2, ![1, 128]⟩
abbrev S8x128 : Shape := ⟨2, ![8, 128]⟩
abbrev S1x1024 : Shape := ⟨2, ![1, 1024]⟩
abbrev S2x1024 : Shape := ⟨2, ![2, 1024]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S16x16x128x3072 : Shape := ⟨4, ![16, 16, 128, 3072]⟩
abbrev S1024x1024 : Shape := ⟨2, ![1024, 1024]⟩
abbrev S1024x128 : Shape := ⟨2, ![1024, 128]⟩
abbrev S1x16x64x1024 : Shape := ⟨4, ![1, 16, 64, 1024]⟩
abbrev S8x1024x128 : Shape := ⟨3, ![8, 1024, 128]⟩
abbrev S1024x1 : Shape := ⟨2, ![1024, 1]⟩
abbrev S1024x256 : Shape := ⟨2, ![1024, 256]⟩
abbrev S1x1024x128 : Shape := ⟨3, ![1, 1024, 128]⟩
abbrev S1x64x128 : Shape := ⟨3, ![1, 64, 128]⟩
abbrev S64x128 : Shape := ⟨2, ![64, 128]⟩
abbrev S64x1024 : Shape := ⟨2, ![64, 1024]⟩
abbrev S1x1x64x1024 : Shape := ⟨4, ![1, 1, 64, 1024]⟩

abbrev nBuf : Space → Nat
  | .hbm => 144
  | .vmem => 16
  | .smem => 0
  | _ => 0

abbrev hbmTy0_0 (i : Nat) : BufTy := match i % 128 with
  | 0 => ⟨S32768x1024, .f32⟩
  | 1 => ⟨S1024, .f32⟩
  | 2 => ⟨S1024x9216, .f32⟩
  | 3 => ⟨S16x2048, .i32⟩
  | 4 => ⟨S128, .f32⟩
  | 5 => ⟨S128, .f32⟩
  | 6 => ⟨S16, .f32⟩
  | 7 => ⟨S_, .f32⟩
  | 8 => ⟨S16, .f32⟩
  | 9 => ⟨S16, .f32⟩
  | 10 => ⟨S_, .f32⟩
  | 11 => ⟨S16, .f32⟩
  | 12 => ⟨S16, .f32⟩
  | 13 => ⟨S16, .f32⟩
  | 14 => ⟨S_, .f32⟩
  | 15 => ⟨S16, .f32⟩
  | 16 => ⟨S16, .f32⟩
  | 17 => ⟨S_, .f32⟩
  | 18 => ⟨S16, .f32⟩
  | 19 => ⟨S16, .f32⟩
  | 20 => ⟨S16x2048, .f32⟩
  | 21 => ⟨S16x2048x1, .f32⟩
  | 22 => ⟨S1x1x16, .f32⟩
  | 23 => ⟨S16x2048x16, .f32⟩
  | 24 => ⟨S16x2048x16, .f32⟩
  | 25 => ⟨S16x2048x16, .f32⟩
  | 26 => ⟨S16x2048x16, .f32⟩
  | 27 => ⟨S16x2048x16, .f32⟩
  | 28 => ⟨S_, .f32⟩
  | 29 => ⟨S16x2048x96, .f32⟩
  | 30 => ⟨S16x2048x128, .f32⟩
  | 31 => ⟨S16x2048x16, .f32⟩
  | 32 => ⟨S_, .f32⟩
  | 33 => ⟨S16x2048x96, .f32⟩
  | 34 => ⟨S16x2048x128, .f32⟩
  | 35 => ⟨S32768x128, .f32⟩
  | 36 => ⟨S32768x128, .f32⟩
  | 37 => ⟨S1024x9216, .bf16⟩
  | 38 => ⟨S1x128, .f32⟩
  | 39 => ⟨S8x128, .f32⟩
  | 40 => ⟨S1024, .f32⟩
  | 41 => ⟨S_, .f32⟩
  | 42 => ⟨S1024, .f32⟩
  | 43 => ⟨S1024, .f32⟩
  | 44 => ⟨S1x128, .f32⟩
  | 45 => ⟨S8x128, .f32⟩
  | 46 => ⟨S1024, .f32⟩
  | 47 => ⟨S1x1024, .f32⟩
  | 48 => ⟨S1x1024, .f32⟩
  | 49 => ⟨S2x1024, .f32⟩
  | 50 => ⟨S256, .i32⟩
  | 51 => ⟨S256x1, .i32⟩
  | 52 => ⟨S_, .i32⟩
  | 53 => ⟨S_, .i32⟩
  | 54 => ⟨S256x1, .i32⟩
  | 55 => ⟨S256x1, .i32⟩
  | 56 => ⟨S256x1, .i32⟩
  | 57 => ⟨S_, .i32⟩
  | 58 => ⟨S256x1, .i32⟩
  | 59 => ⟨S256x1, .i1⟩
  | 60 => ⟨S256x1, .i32⟩
  | 61 => ⟨S256x1, .i32⟩
  | 62 => ⟨S_, .i32⟩
  | 63 => ⟨S256x1, .i32⟩
  | 64 => ⟨S256x1, .i1⟩
  | 65 => ⟨S256x1, .i1⟩
  | 66 => ⟨S_, .i32⟩
  | 67 => ⟨S256x1, .i32⟩
  | 68 => ⟨S256x1, .i32⟩
  | 69 => ⟨S256x1, .i32⟩
  | 70 => ⟨S1x256, .i32⟩
  | 71 => ⟨S_, .i32⟩
  | 72 => ⟨S_, .i32⟩
  | 73 => ⟨S1x256, .i32⟩
  | 74 => ⟨S1x256, .i32⟩
  | 75 => ⟨S1x256, .i32⟩
  | 76 => ⟨S_, .i32⟩
  | 77 => ⟨S1x256, .i32⟩
  | 78 => ⟨S1x256, .i1⟩
  | 79 => ⟨S1x256, .i32⟩
  | 80 => ⟨S1x256, .i32⟩
  | 81 => ⟨S_, .i32⟩
  | 82 => ⟨S1x256, .i32⟩
  | 83 => ⟨S1x256, .i1⟩
  | 84 => ⟨S1x256, .i1⟩
  | 85 => ⟨S_, .i32⟩
  | 86 => ⟨S1x256, .i32⟩
  | 87 => ⟨S1x256, .i32⟩
  | 88 => ⟨S1x256, .i32⟩
  | 89 => ⟨S256x256, .i32⟩
  | 90 => ⟨S256x256, .i32⟩
  | 91 => ⟨S256x256, .i1⟩
  | 92 => ⟨S_, .i32⟩
  | 93 => ⟨S_, .i32⟩
  | 94 => ⟨S_, .i32⟩
  | 95 => ⟨S_, .i1⟩
  | 96 => ⟨S_, .i32⟩
  | 97 => ⟨S_, .i32⟩
  | 98 => ⟨S256, .i32⟩
  | 99 => ⟨S256, .i32⟩
  | 100 => ⟨S_, .i32⟩
  | 101 => ⟨S256, .i32⟩
  | 102 => ⟨S256, .i1⟩
  | 103 => ⟨S_, .i32⟩
  | 104 => ⟨S256, .i32⟩
  | 105 => ⟨S256, .i1⟩
  | 106 => ⟨S_, .i32⟩
  | 107 => ⟨S_, .i1⟩
  | 108 => ⟨S256, .i1⟩
  | 109 => ⟨S256, .i1⟩
  | 110 => ⟨S256, .i1⟩
  | 111 => ⟨S256, .i32⟩
  | 112 => ⟨S256, .i32⟩
  | 113 => ⟨S256, .i32⟩
  | 114 => ⟨S_, .i32⟩
  | 115 => ⟨S256, .i32⟩
  | 116 => ⟨S256, .i1⟩
  | 117 => ⟨S_, .i32⟩
  | 118 => ⟨S256, .i32⟩
  | 119 => ⟨S256, .i32⟩
  | 120 => ⟨S_, .i32⟩
  | 121 => ⟨S256, .i32⟩
  | 122 => ⟨S256, .i32⟩
  | 123 => ⟨S256, .i32⟩
  | 124 => ⟨S256x1, .i32⟩
  | 125 => ⟨S1x256, .i32⟩
  | 126 => ⟨S256x256, .i32⟩
  | 127 => ⟨S256x256, .i32⟩
  | _ => ⟨S32768x1024, .f32⟩

abbrev hbmTy0_1 (i : Nat) : BufTy := match i % 128 with
  | 0 => ⟨S256x256, .i1⟩
  | 1 => ⟨S1x256, .i32⟩
  | 2 => ⟨S_, .i32⟩
  | 3 => ⟨S1x256, .i32⟩
  | 4 => ⟨S1x256, .i1⟩
  | 5 => ⟨S256x256, .i1⟩
  | 6 => ⟨S256x256, .i1⟩
  | 7 => ⟨S256x256, .bf16⟩
  | 8 => ⟨S256x256, .bf16⟩
  | 9 => ⟨S256x256, .f32⟩
  | 10 => ⟨S_, .f32⟩
  | 11 => ⟨S256x256, .f32⟩
  | 12 => ⟨S256x256, .f32⟩
  | 13 => ⟨S256x256, .bf16⟩
  | 14 => ⟨S1x1024, .f32⟩
  | 15 => ⟨S16x16x128x3072, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S2x1024, .f32⟩
  | .local _ .vmem, ⟨10, _⟩ => ⟨S256x256, .bf16⟩
  | .local _ .vmem, ⟨11, _⟩ => ⟨S256x256, .bf16⟩
  | .local _ .vmem, ⟨12, _⟩ => ⟨S1x16x64x1024, .bf16⟩
  | .local _ .vmem, ⟨13, _⟩ => ⟨S1x16x64x1024, .bf16⟩
  | .local _ .vmem, ⟨14, _⟩ => ⟨S1024x1024, .bf16⟩
  | .local _ .vmem, ⟨15, _⟩ => ⟨S8x1024x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_v5 : Ref sig .tc := ⟨.hbm, 58, rfl⟩
abbrev main_call0_v6 : Ref sig .tc := ⟨.hbm, 59, rfl⟩
abbrev main_call0_v7 : Ref sig .tc := ⟨.hbm, 60, rfl⟩
abbrev main_call0_v8 : Ref sig .tc := ⟨.hbm, 61, rfl⟩
abbrev main_call0_c : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_call0_c_0 : Ref sig .tc := ⟨.hbm, 66, rfl⟩
abbrev main_call0_v12 : Ref sig .tc := ⟨.hbm, 67, rfl⟩
abbrev main_call0_v13 : Ref sig .tc := ⟨.hbm, 68, rfl⟩
abbrev main_v39 : Ref sig .tc := ⟨.hbm, 69, rfl⟩
abbrev main_v40 : Ref sig .tc := ⟨.hbm, 70, rfl⟩
abbrev main_c_6 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_v5 : Ref sig .tc := ⟨.hbm, 77, rfl⟩
abbrev main_call1_v6 : Ref sig .tc := ⟨.hbm, 78, rfl⟩
abbrev main_call1_v7 : Ref sig .tc := ⟨.hbm, 79, rfl⟩
abbrev main_call1_v8 : Ref sig .tc := ⟨.hbm, 80, rfl⟩
abbrev main_call1_c : Ref sig .tc := ⟨.hbm, 81, rfl⟩
abbrev main_call1_v9 : Ref sig .tc := ⟨.hbm, 82, rfl⟩
abbrev main_call1_v10 : Ref sig .tc := ⟨.hbm, 83, rfl⟩
abbrev main_call1_v11 : Ref sig .tc := ⟨.hbm, 84, rfl⟩
abbrev main_call1_c_0 : Ref sig .tc := ⟨.hbm, 85, rfl⟩
abbrev main_call1_v12 : Ref sig .tc := ⟨.hbm, 86, rfl⟩
abbrev main_call1_v13 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_c_7 : Ref sig .tc := ⟨.hbm, 92, rfl⟩
abbrev main_call2_v0 : Ref sig .tc := ⟨.hbm, 93, rfl⟩
abbrev main_call2_c : Ref sig .tc := ⟨.hbm, 94, rfl⟩
abbrev main_call2_v1 : Ref sig .tc := ⟨.hbm, 95, rfl⟩
abbrev main_call2_c_0 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_call2_c_1 : Ref sig .tc := ⟨.hbm, 100, rfl⟩
abbrev main_call2_v5 : Ref sig .tc := ⟨.hbm, 101, rfl⟩
abbrev main_call2_v6 : Ref sig .tc := ⟨.hbm, 102, rfl⟩
abbrev main_call2_c_2 : Ref sig .tc := ⟨.hbm, 103, rfl⟩
abbrev main_call2_v7 : Ref sig .tc := ⟨.hbm, 104, rfl⟩
abbrev main_call2_v8 : Ref sig .tc := ⟨.hbm, 105, rfl⟩
abbrev main_call2_c_3 : Ref sig .tc := ⟨.hbm, 106, rfl⟩
abbrev main_call2_v9 : Ref sig .tc := ⟨.hbm, 107, rfl⟩
abbrev main_call2_v10 : Ref sig .tc := ⟨.hbm, 108, rfl⟩
abbrev main_call2_v11 : Ref sig .tc := ⟨.hbm, 109, rfl⟩
abbrev main_call2_v12 : Ref sig .tc := ⟨.hbm, 110, rfl⟩
abbrev main_call2_v13 : Ref sig .tc := ⟨.hbm, 111, rfl⟩
abbrev main_call2_v14 : Ref sig .tc := ⟨.hbm, 112, rfl⟩
abbrev main_v45 : Ref sig .tc := ⟨.hbm, 113, rfl⟩
abbrev main_c_8 : Ref sig .tc := ⟨.hbm, 114, rfl⟩
abbrev main_v46 : Ref sig .tc := ⟨.hbm, 115, rfl⟩
abbrev main_v47 : Ref sig .tc := ⟨.hbm, 116, rfl⟩
abbrev main_c_9 : Ref sig .tc := ⟨.hbm, 117, rfl⟩
abbrev main_v48 : Ref sig .tc := ⟨.hbm, 118, rfl⟩
abbrev main_v49 : Ref sig .tc := ⟨.hbm, 119, rfl⟩
abbrev main_c_10 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_c_11 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_cst_12 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_v69 : Ref sig .tc := ⟨.hbm, 142, rfl⟩
abbrev main_v70 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![32, 3], ![false, false]⟩

def k0_cond2 (i : grid0.Coords) : BitVec 1 :=
  let arg1 : BitVec 32 := BitVec.ofNat 32 (i 1).val
  let c2_i32 : BitVec 32 := 2#32
  let v7 : BitVec 1 := Scalar.cmpi .slt arg1 c2_i32
  let v8 : BitVec 32 := Scalar.extui v7
  let c0_i32_4 : BitVec 32 := 0#32
  let v9 : BitVec 1 := Scalar.cmpi .ne v8 c0_i32_4
  v9

def k0_off1 (i : grid0.Coords) : Fin 2 → Nat :=
  let arg1 : BitVec 32 := BitVec.ofNat 32 (i 1).val
  let v19 : Index := Scalar.indexCast arg1
  let c0_11 : Index := 0#32
  ![v19.toNat, 0]
def k0_cond3 (i : grid0.Coords) : BitVec 1 :=
  let arg1 : BitVec 32 := BitVec.ofNat 32 (i 1).val
  let c2_i32_5 : BitVec 32 := 2#32
  let v10 : BitVec 1 := Scalar.cmpi .eq arg1 c2_i32_5
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c2_i32 : BitVec 32 := 2#32
  let v1 : BitVec 32 := Scalar.addi v0 c2_i32
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x16x64x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Proj2RefIdeal.lean ====
abbrev S32768x1024 : Shape := ⟨2, ![32768, 1024]⟩
abbrev S1024 : Shape := ⟨1, ![1024]⟩
abbrev S1024x9216 : Shape := ⟨2, ![1024, 9216]⟩
abbrev S16x2048 : Shape := ⟨2, ![16, 2048]⟩
abbrev S128 : Shape := ⟨1, ![128]⟩
abbrev S32768 : Shape := ⟨1, ![32768]⟩
abbrev S16 : Shape := ⟨1, ![16]⟩
abbrev S_ : Shape := ⟨0, ![]⟩
abbrev S32768x1 : Shape := ⟨2, ![32768, 1]⟩
abbrev S1x16 : Shape := ⟨2, ![1, 16]⟩
abbrev S32768x16 : Shape := ⟨2, ![32768, 16]⟩
abbrev S1x1024 : Shape := ⟨2, ![1, 1024]⟩
abbrev S32768x9216 : Shape := ⟨2, ![32768, 9216]⟩
abbrev S32768x3x3x8x128 : Shape := ⟨5, ![32768, 3, 3, 8, 128]⟩
abbrev S32768x1x1x8x128 : Shape := ⟨5, ![32768, 1, 1, 8, 128]⟩
abbrev S32768x8x128 : Shape := ⟨3, ![32768, 8, 128]⟩
abbrev S32768x8 : Shape := ⟨2, ![32768, 8]⟩
abbrev S32768x8x1 : Shape := ⟨3, ![32768, 8, 1]⟩
abbrev S1x1x128 : Shape := ⟨3, ![1, 1, 128]⟩
abbrev S32768x1x16 : Shape := ⟨3, ![32768, 1, 16]⟩
abbrev S32768x8x16 : Shape := ⟨3, ![32768, 8, 16]⟩
abbrev S32768x8x96 : Shape := ⟨3, ![32768, 8, 96]⟩
abbrev S16x128x16x1024 : Shape := ⟨4, ![16, 128, 16, 1024]⟩
abbrev S16x16x128x1024 : Shape := ⟨4, ![16, 16, 128, 1024]⟩
abbrev S16x16x128x3072 : Shape := ⟨4, ![16, 16, 128, 3072]⟩

abbrev nBuf : Space → Nat
  | .hbm => 128
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x9216, .f32⟩
  | .hbm, ⟨3, _⟩ => ⟨S16x2048, .i32⟩
  | .hbm, ⟨4, _⟩ => ⟨S128, .f32⟩
  | .hbm, ⟨5, _⟩ => ⟨S128, .f32⟩
  | .hbm, ⟨6, _⟩ => ⟨S32768, .i32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S32768, .f32⟩
  | .hbm, ⟨22, _⟩ => ⟨S32768x1, .f32⟩
  | .hbm, ⟨23, _⟩ => ⟨S1x16, .f32⟩
  | .hbm, ⟨24, _⟩ => ⟨S32768x16, .f32⟩
  | .hbm, ⟨25, _⟩ => ⟨S32768x16, .f32⟩
  | .hbm, ⟨26, _⟩ => ⟨S32768x16, .f32⟩
  | .hbm, ⟨27, _⟩ => ⟨S32768x16, .f32⟩
  | .hbm, ⟨28, _⟩ => ⟨S32768x16, .f32⟩
  | .hbm, ⟨29, _⟩ => ⟨S32768x1024, .f32⟩
  | .hbm, ⟨30, _⟩ => ⟨S_, .f32⟩
  | .hbm, ⟨31, _⟩ => ⟨S32768, .f32⟩
  | .hbm, ⟨32, _⟩ => ⟨S32768x1, .f32⟩
  | .hbm, ⟨33, _⟩ => ⟨S_, .f32⟩
  | .hbm, ⟨34, _⟩ => ⟨S32768x1, .f32⟩
  | .hbm, ⟨35, _⟩ => ⟨S32768x1, .f32⟩
  | .hbm, ⟨36, _⟩ => ⟨S_, .f32⟩
  | .hbm, ⟨37, _⟩ => ⟨S32768x1, .f32⟩
  | .hbm, ⟨38, _⟩ => ⟨S32768x1, .f32⟩
  | .hbm, ⟨39, _⟩ => ⟨S32768x1, .f32⟩
  | .hbm, ⟨40, _⟩ => ⟨S32768x1024, .f32⟩
  | .hbm, ⟨41, _⟩ => ⟨S32768x1024, .f32⟩
  | .hbm, ⟨42, _⟩ => ⟨S1x1024, .f32⟩
  | .hbm, ⟨43, _⟩ => ⟨S32768x1024, .f32⟩
  | .hbm, ⟨44, _⟩ => ⟨S32768x1024, .f32⟩
  | .hbm, ⟨45, _⟩ => ⟨S32768x9216, .f32⟩
  | .hbm, ⟨46, _⟩ => ⟨S32768x3x3x8x128, .f32⟩
  | .hbm, ⟨47, _⟩ => ⟨S32768x1x1x8x128, .f32⟩
  | .hbm, ⟨48, _⟩ => ⟨S32768x8x128, .f32⟩
  | .hbm, ⟨49, _⟩ => ⟨S32768x8x128, .f32⟩
  | .hbm, ⟨50, _⟩ => ⟨S_, .f32⟩
  | .hbm, ⟨51, _⟩ => ⟨S32768x8, .f32⟩
  | .hbm, ⟨52, _⟩ => ⟨S32768x8x1, .f32⟩
  | .hbm, ⟨53, _⟩ => ⟨S_, .f32⟩
  | .hbm, ⟨54, _⟩ => ⟨S32768x8x1, .f32⟩
  | .hbm, ⟨55, _⟩ => ⟨S32768x8x1, .f32⟩
  | .hbm, ⟨56, _⟩ => ⟨S_, .f32⟩
  | .hbm, ⟨57, _⟩ => ⟨S32768x8x1, .f32⟩
  | .hbm, ⟨58, _⟩ => ⟨S32768x8x1, .f32⟩
  | .hbm, ⟨59, _⟩ => ⟨S32768x8x1, .f32⟩
  | .hbm, ⟨60, _⟩ => ⟨S32768x8x128, .f32⟩
  | .hbm, ⟨61, _⟩ => ⟨S32768x8x128, .f32⟩
  | .hbm, ⟨62, _⟩ => ⟨S1x1x128, .f32⟩
  | .hbm, ⟨63, _⟩ => ⟨S32768x8x128, .f32⟩
  | .hbm, ⟨64, _⟩ => ⟨S32768x8x128, .f32⟩
  | .hbm, ⟨65, _⟩ => ⟨S32768x1x16, .f32⟩
  | .hbm, ⟨66, _⟩ => ⟨S32768x1x16, .f32⟩
  | .hbm, ⟨67, _⟩ => ⟨S32768x8x16, .f32⟩
  | .hbm, ⟨68, _⟩ => ⟨S32768x8x16, .f32⟩
  | .hbm, ⟨69, _⟩ => ⟨S32768x8x16, .f32⟩
  | .hbm, ⟨70, _⟩ => ⟨S32768x8x16, .f32⟩
  | .hbm, ⟨71, _⟩ => ⟨S32768x8x16, .f32⟩
  | .hbm, ⟨72, _⟩ => ⟨S32768x8x16, .f32⟩
  | .hbm, ⟨73, _⟩ => ⟨S32768x8x16, .f32⟩
  | .hbm, ⟨74, _⟩ => ⟨S32768x8x16, .f32⟩
  | .hbm, ⟨75, _⟩ => ⟨S32768x8x16, .f32⟩
  | .hbm, ⟨76, _⟩ => ⟨S32768x8x16, .f32⟩
  | .hbm, ⟨77, _⟩ => ⟨S32768x8x16, .f32⟩
  | .hbm, ⟨78, _⟩ => ⟨S32768x8x16, .f32⟩
  | .hbm, ⟨79, _⟩ => ⟨S32768x8x96, .f32⟩
  | .hbm, ⟨80, _⟩ => ⟨S32768x8x128, .f32⟩
  | .hbm, ⟨81, _⟩ => ⟨S_, .f32⟩
  | .hbm, ⟨82, _⟩ => ⟨S32768x8x128, .f32⟩
  | .hbm, ⟨83, _⟩ => ⟨S32768x8x128, .f32⟩
  | .hbm, ⟨84, _⟩ => ⟨S32768x1x1x8x128, .f32⟩
  | .hbm, ⟨85, _⟩ => ⟨S32768x8x128, .f32⟩
  | .hbm, ⟨86, _⟩ => ⟨S32768x8x128, .f32⟩
  | .hbm, ⟨87, _⟩ => ⟨S_, .f32⟩
  | .hbm, ⟨88, _⟩ => ⟨S32768x8, .f32⟩
  | .hbm, ⟨89, _⟩ => ⟨S32768x8x1, .f32⟩
  | .hbm, ⟨90, _⟩ => ⟨S_, .f32⟩
  | .hbm, ⟨91, _⟩ => ⟨S32768x8x1, .f32⟩
  | .hbm, ⟨92, _⟩ => ⟨S32768x8x1, .f32⟩
  | .hbm, ⟨93, _⟩ => ⟨S_, .f32⟩
  | .hbm, ⟨94, _⟩ => ⟨S32768x8x1, .f32⟩
  | .hbm, ⟨95, _⟩ => ⟨S32768x8x1, .f32⟩
  | .hbm, ⟨96, _⟩ => ⟨S32768x8x1, .f32⟩
  | .hbm, ⟨97, _⟩ => ⟨S32768x8x128, .f32⟩
  | .hbm, ⟨98, _⟩ => ⟨S32768x8x128, .f32⟩
  | .hbm, ⟨99, _⟩ => ⟨S1x1x128, .f32⟩
  | .hbm, ⟨100, _⟩ => ⟨S32768x8x128, .f32⟩
  | .hbm, ⟨101, _⟩ => ⟨S32768x8x128, .f32⟩
  | .hbm, ⟨102, _⟩ => ⟨S32768x1x16, .f32⟩
  | .hbm, ⟨103, _⟩ => ⟨S32768x1x16, .f32⟩
  | .hbm, ⟨104, _⟩ => ⟨S32768x8x16, .f32⟩
  | .hbm, ⟨105, _⟩ => ⟨S32768x8x16, .f32⟩
  | .hbm, ⟨106, _⟩ => ⟨S32768x8x16, .f32⟩
  | .hbm, ⟨107, _⟩ => ⟨S32768x8x16, .f32⟩
  | .hbm, ⟨108, _⟩ => ⟨S32768x8x16, .f32⟩
  | .hbm, ⟨109, _⟩ => ⟨S32768x8x16, .f32⟩
  | .hbm, ⟨110, _⟩ => ⟨S32768x8x16, .f32⟩
  | .hbm, ⟨111, _⟩ => ⟨S32768x8x16, .f32⟩
  | .hbm, ⟨112, _⟩ => ⟨S32768x8x16, .f32⟩
  | .hbm, ⟨113, _⟩ => ⟨S32768x8x16, .f32⟩
  | .hbm, ⟨114, _⟩ => ⟨S32768x8x16, .f32⟩
  | .hbm, ⟨115, _⟩ => ⟨S32768x8x16, .f32⟩
  | .hbm, ⟨116, _⟩ => ⟨S32768x8x96, .f32⟩
  | .hbm, ⟨117, _⟩ => ⟨S32768x8x128, .f32⟩
  | .hbm, ⟨118, _⟩ => ⟨S32768x1x1x8x128, .f32⟩
  | .hbm, ⟨119, _⟩ => ⟨S32768x8x128, .f32⟩
  | .hbm, ⟨120, _⟩ => ⟨S16x128x16x1024, .f32⟩
  | .hbm, ⟨121, _⟩ => ⟨S16x16x128x1024, .f32⟩
  | .hbm, ⟨122, _⟩ => ⟨S16x128x16x1024, .f32⟩
  | .hbm, ⟨123, _⟩ => ⟨S16x16x128x1024, .f32⟩
  | .hbm, ⟨124, _⟩ => ⟨S16x128x16x1024, .f32⟩
  | .hbm, ⟨125, _⟩ => ⟨S16x16x128x1024, .f32⟩
  | .hbm, ⟨126, _⟩ => ⟨S16x16x128x3072, .f32⟩
  | .hbm, ⟨127, _⟩ => ⟨S16x16x128x3072, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_9 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_10 : Ref sig .tc := ⟨.hbm, 87, rfl⟩
abbrev main_v70 : Ref sig .tc := ⟨.hbm, 88, rfl⟩
abbrev main_v71 : Ref sig .tc := ⟨.hbm, 89, rfl⟩
abbrev main_cst_11 : Ref sig .tc := ⟨.hbm, 90, rfl⟩
abbrev main_v72 : Ref sig .tc := ⟨.hbm, 91, rfl⟩
abbrev main_v73 : Ref sig .tc := ⟨.hbm, 92, rfl⟩
abbrev main_cst_12 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩

abbrev nD : Nat := 1
abbrev τ : Topo := Topo.v7x

variable {F : FTy → Type} [FloatOps F]
-- ==== Latents.lean ====
abbrev S32768x1024 : Shape := ⟨2, ![32768, 1024]⟩
abbrev S1024 : Shape := ⟨1, ![1024]⟩
abbrev S1024x640 : Shape := ⟨2, ![1024, 640]⟩
abbrev S1x1024 : Shape := ⟨2, ![1, 1024]⟩
abbrev S32768x640 : Shape := ⟨2, ![32768, 640]⟩
abbrev S1024x1024 : Shape := ⟨2, ![1024, 1024]⟩
abbrev S1024x1 : Shape := ⟨2, ![1024, 1]⟩

abbrev nBuf : Space → Nat
  | .hbm => 5
  | .vmem => 7
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x640, .bf16⟩
  | .hbm, ⟨3, _⟩ => ⟨S1x1024, .f32⟩
  | .hbm, ⟨4, _⟩ => ⟨S32768x640, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x640, .bf16⟩
  | .local _ .vmem, ⟨4, _⟩ => ⟨S1024x640, .f32⟩
  | .local _ .vmem, ⟨5, _⟩ => ⟨S1024x640, .f32⟩
  | .local _ .vmem, ⟨6, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== LatentsRefIdeal.lean ====
abbrev S32768x1024 : Shape := ⟨2, ![32768, 1024]⟩
abbrev S1024 : Shape := ⟨1, ![1024]⟩
abbrev S1024x640 : Shape := ⟨2, ![1024, 640]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x640 : Shape := ⟨2, ![32768, 640]⟩

abbrev nBuf : Space → Nat
  | .hbm => 21
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x640, .bf16⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S1024x640, .f32⟩
  | .hbm, ⟨20, _⟩ => ⟨S32768x640, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Out.lean ====
abbrev S16x1024x2048 : Shape := ⟨3, ![16, 1024, 2048]⟩
abbrev S1024x1024 : Shape := ⟨2, ![1024, 1024]⟩
abbrev S32768x1024 : Shape := ⟨2, ![32768, 1024]⟩
abbrev S1x1024x512 : Shape := ⟨3, ![1, 1024, 512]⟩
abbrev S512x1024 : Shape := ⟨2, ![512, 1024]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S16x1024x2048, .bf16⟩
  | .hbm, ⟨1, _⟩ => ⟨S1024x1024, .bf16⟩
  | .hbm, ⟨2, _⟩ => ⟨S32768x1024, .f32⟩
  | .hbm, ⟨3, _⟩ => ⟨S32768x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutRefIdeal.lean ====
abbrev S16x1024x2048 : Shape := ⟨3, ![16, 1024, 2048]⟩
abbrev S1024x1024 : Shape := ⟨2, ![1024, 1024]⟩
abbrev S32768x1024 : Shape := ⟨2, ![32768, 1024]⟩
abbrev S16x2048x1024 : Shape := ⟨3, ![16, 2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16x1024x2048, .bf16⟩
  | .hbm, ⟨1, _⟩ => ⟨S1024x1024, .bf16⟩
  | .hbm, ⟨2, _⟩ => ⟨S32768x1024, .f32⟩
  | .hbm, ⟨3, _⟩ => ⟨S16x1024x2048, .f32⟩
  | .hbm, ⟨4, _⟩ => ⟨S16x2048x1024, .f32⟩
  | .hbm, ⟨5, _⟩ => ⟨S32768x1024, .f32⟩
  | .hbm, ⟨6, _⟩ => ⟨S1024x1024, .f32⟩
  | .hbm, ⟨7, _⟩ => ⟨S32768x1024, .f32⟩
  | .hbm, ⟨8, _⟩ => ⟨S32768x1024, .f32⟩
  | _, _ => ⟨S16x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Prep.lean ====
abbrev S32768x1024 : Shape := ⟨2, ![32768, 1024]⟩
abbrev S1024 : Shape := ⟨1, ![1024]⟩
abbrev S8x1024 : Shape := ⟨2, ![8, 1024]⟩
abbrev S3x1024x1024 : Shape := ⟨3, ![3, 1024, 1024]⟩
abbrev S1024x128 : Shape := ⟨2, ![1024, 128]⟩
abbrev S128x1024 : Shape := ⟨2, ![128, 1024]⟩
abbrev S2x1024 : Shape := ⟨2, ![2, 1024]⟩
abbrev S2x1024x64 : Shape := ⟨3, ![2, 1024, 64]⟩
abbrev S2x64x1024 : Shape := ⟨3, ![2, 64, 1024]⟩
abbrev S1x1024 : Shape := ⟨2, ![1, 1024]⟩
abbrev S2x32768x1024 : Shape := ⟨3, ![2, 32768, 1024]⟩
abbrev S512x1024 : Shape := ⟨2, ![512, 1024]⟩
abbrev S2x512x1024 : Shape := ⟨3, ![2, 512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1x1024x1024 : Shape := ⟨3, ![1, 1024, 1024]⟩
abbrev S1024x1024 : Shape := ⟨2, ![1024, 1024]⟩
abbrev S512x128 : Shape := ⟨2, ![512, 128]⟩
abbrev S1x1024x64 : Shape := ⟨3, ![1, 1024, 64]⟩
abbrev S1024x64 : Shape := ⟨2, ![1024, 64]⟩
abbrev S512x64 : Shape := ⟨2, ![512, 64]⟩
abbrev S1x64x1024 : Shape := ⟨3, ![1, 64, 1024]⟩
abbrev S64x1024 : Shape := ⟨2, ![64, 1024]⟩
abbrev S1x512x1024 : Shape := ⟨3, ![1, 512, 1024]⟩

abbrev nBuf : Space → Nat
  | .hbm => 19
  | .vmem => 29
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S8x1024, .f32⟩
  | .hbm, ⟨3, _⟩ => ⟨S3x1024x1024, .bf16⟩
  | .hbm, ⟨4, _⟩ => ⟨S1024x128, .bf16⟩
  | .hbm, ⟨5, _⟩ => ⟨S128x1024, .bf16⟩
  | .hbm, ⟨6, _⟩ => ⟨S2x1024, .f32⟩
  | .hbm, ⟨7, _⟩ => ⟨S2x1024x64, .bf16⟩
  | .hbm, ⟨8, _⟩ => ⟨S2x64x1024, .bf16⟩
  | .hbm, ⟨9, _⟩ => ⟨S2x1024, .f32⟩
  | .hbm, ⟨10, _⟩ => ⟨S2x1024x64, .bf16⟩
  | .hbm, ⟨11, _⟩ => ⟨S2x64x1024, .bf16⟩
  | .hbm, ⟨12, _⟩ => ⟨S1x1024, .f32⟩
  | .hbm, ⟨13, _⟩ => ⟨S32768x1024, .bf16⟩
  | .hbm, ⟨14, _⟩ => ⟨S32768x1024, .bf16⟩
  | .hbm, ⟨15, _⟩ => ⟨S32768x1024, .bf16⟩
  | .hbm, ⟨16, _⟩ => ⟨S32768x1024, .bf16⟩
  | .hbm, ⟨17, _⟩ => ⟨S2x32768x1024, .f32⟩
  | .hbm, ⟨18, _⟩ => ⟨S2x32768x1024, .bf16⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S8x1024, .f32⟩
  | .local _ .vmem, ⟨8, _⟩ => ⟨S3x1024x1024, .bf16⟩
  | .local _ .vmem, ⟨9, _⟩ => ⟨S1024x128, .bf16⟩
  | .local _ .vmem, ⟨10, _⟩ => ⟨S128x1024, .bf16⟩
  | .local _ .vmem, ⟨11, _⟩ => ⟨S2x1024, .f32⟩
  | .local _ .vmem, ⟨12, _⟩ => ⟨S2x1024x64, .bf16⟩
  | .local _ .vmem, ⟨13, _⟩ => ⟨S2x64x1024, .bf16⟩
  | .local _ .vmem, ⟨14, _⟩ => ⟨S2x1024, .f32⟩
  | .local _ .vmem, ⟨15, _⟩ => ⟨S2x1024x64, .bf16⟩
  | .local _ .vmem, ⟨16, _⟩ => ⟨S2x64x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S2x512x1024, .f32⟩
  | .local _ .vmem, ⟨26, _⟩ => ⟨S2x512x1024, .f32⟩
  | .local _ .vmem, ⟨27, _⟩ => ⟨S2x512x1024, .bf16⟩
  | .local _ .vmem, ⟨28, _⟩ => ⟨S2x512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1_0 : Ref sig .tc := ⟨.hbm, 13, rfl⟩
abbrev main_v1_1 : Ref sig .tc := ⟨.hbm, 14, rfl⟩
abbrev main_v1_2 : Ref sig .tc := ⟨.hbm, 15, rfl⟩
abbrev main_v1_3 : Ref sig .tc := ⟨.hbm, 16, rfl⟩
abbrev main_v1_4 : Ref sig .tc := ⟨.hbm, 17, rfl⟩
abbrev main_v1_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x1024x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x64x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x1024x64 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x64x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2x512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2x512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== PrepRefIdeal.lean ====
abbrev S32768x1024 : Shape := ⟨2, ![32768, 1024]⟩
abbrev S1024 : Shape := ⟨1, ![1024]⟩
abbrev S8x1024 : Shape := ⟨2, ![8, 1024]⟩
abbrev S3x1024x1024 : Shape := ⟨3, ![3, 1024, 1024]⟩
abbrev S1024x128 : Shape := ⟨2, ![1024, 128]⟩
abbrev S128x1024 : Shape := ⟨2, ![128, 1024]⟩
abbrev S2x1024 : Shape := ⟨2, ![2, 1024]⟩
abbrev S2x1024x64 : Shape := ⟨3, ![2, 1024, 64]⟩
abbrev S2x64x1024 : Shape := ⟨3, ![2, 64, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S16x2048x1024 : Shape := ⟨3, ![16, 2048, 1024]⟩
abbrev S16x1x1024 : Shape := ⟨3, ![16, 1, 1024]⟩
abbrev S16x2047x1024 : Shape := ⟨3, ![16, 2047, 1024]⟩
abbrev S1x16x2048x1024 : Shape := ⟨4, ![1, 16, 2048, 1024]⟩
abbrev S4x1024 : Shape := ⟨2, ![4, 1024]⟩
abbrev S4x1x1x1024 : Shape := ⟨4, ![4, 1, 1, 1024]⟩
abbrev S4x16x2048x1024 : Shape := ⟨4, ![4, 16, 2048, 1024]⟩
abbrev S3x16x2048x1024 : Shape := ⟨4, ![3, 16, 2048, 1024]⟩
abbrev S16x2048x128 : Shape := ⟨3, ![16, 2048, 128]⟩
abbrev S2x16x2048x1024 : Shape := ⟨4, ![2, 16, 2048, 1024]⟩
abbrev S2x1x1x1024 : Shape := ⟨4, ![2, 1, 1, 1024]⟩
abbrev S2x16x2048x64 : Shape := ⟨4, ![2, 16, 2048, 64]⟩
abbrev S2x32768x1024 : Shape := ⟨3, ![2, 32768, 1024]⟩

abbrev nBuf : Space → Nat
  | .hbm => 136
  | .vmem => 0
  | .smem => 0
  | _ => 0

abbrev hbmTy0_0 (i : Nat) : BufTy := match i % 128 with
  | 0 => ⟨S32768x1024, .f32⟩
  | 1 => ⟨S1024, .f32⟩
  | 2 => ⟨S8x1024, .f32⟩
  | 3 => ⟨S3x1024x1024, .bf16⟩
  | 4 => ⟨S1024x128, .bf16⟩
  | 5 => ⟨S128x1024, .bf16⟩
  | 6 => ⟨S2x1024, .f32⟩
  | 7 => ⟨S2x1024x64, .bf16⟩
  | 8 => ⟨S2x64x1024, .bf16⟩
  | 9 => ⟨S2x1024, .f32⟩
  | 10 => ⟨S2x1024x64, .bf16⟩
  | 11 => ⟨S2x64x1024, .bf16⟩
  | 12 => ⟨S3x1024x1024, .f32⟩
  | 13 => ⟨S1024x128, .f32⟩
  | 14 => ⟨S128x1024, .f32⟩
  | 15 => ⟨S2x1024x64, .f32⟩
  | 16 => ⟨S2x64x1024, .f32⟩
  | 17 => ⟨S2x1024x64, .f32⟩
  | 18 => ⟨S2x64x1024, .f32⟩
  | 19 => ⟨S32768x1024, .f32⟩
  | 20 => ⟨S_, .f32⟩
  | 21 => ⟨S32768, .f32⟩
  | 22 => ⟨S32768x1, .f32⟩
  | 23 => ⟨S_, .f32⟩
  | 24 => ⟨S32768x1, .f32⟩
  | 25 => ⟨S32768x1, .f32⟩
  | 26 => ⟨S_, .f32⟩
  | 27 => ⟨S32768x1, .f32⟩
  | 28 => ⟨S32768x1, .f32⟩
  | 29 => ⟨S32768x1, .f32⟩
  | 30 => ⟨S32768x1024, .f32⟩
  | 31 => ⟨S32768x1024, .f32⟩
  | 32 => ⟨S1x1024, .f32⟩
  | 33 => ⟨S32768x1024, .f32⟩
  | 34 => ⟨S32768x1024, .f32⟩
  | 35 => ⟨S16x2048x1024, .f32⟩
  | 36 => ⟨S16x1x1024, .f32⟩
  | 37 => ⟨S_, .f32⟩
  | 38 => ⟨S16x1x1024, .f32⟩
  | 39 => ⟨S16x2047x1024, .f32⟩
  | 40 => ⟨S16x2048x1024, .f32⟩
  | 41 => ⟨S16x2048x1024, .f32⟩
  | 42 => ⟨S16x2047x1024, .f32⟩
  | 43 => ⟨S16x2048x1024, .f32⟩
  | 44 => ⟨S16x2048x1024, .f32⟩
  | 45 => ⟨S16x2048x1024, .f32⟩
  | 46 => ⟨S_, .f32⟩
  | 47 => ⟨S16x2048x1024, .f32⟩
  | 48 => ⟨S16x2048x1024, .f32⟩
  | 49 => ⟨S1x16x2048x1024, .f32⟩
  | 50 => ⟨S1x16x2048x1024, .f32⟩
  | 51 => ⟨S4x1024, .f32⟩
  | 52 => ⟨S4x1x1x1024, .f32⟩
  | 53 => ⟨S4x16x2048x1024, .f32⟩
  | 54 => ⟨S4x16x2048x1024, .f32⟩
  | 55 => ⟨S4x16x2048x1024, .f32⟩
  | 56 => ⟨S4x16x2048x1024, .f32⟩
  | 57 => ⟨S4x16x2048x1024, .f32⟩
  | 58 => ⟨S3x16x2048x1024, .f32⟩
  | 59 => ⟨S3x16x2048x1024, .f32⟩
  | 60 => ⟨S1x16x2048x1024, .f32⟩
  | 61 => ⟨S16x2048x1024, .f32⟩
  | 62 => ⟨S1x16x2048x1024, .f32⟩
  | 63 => ⟨S16x2048x1024, .f32⟩
  | 64 => ⟨S1x16x2048x1024, .f32⟩
  | 65 => ⟨S16x2048x1024, .f32⟩
  | 66 => ⟨S1x16x2048x1024, .f32⟩
  | 67 => ⟨S16x2048x1024, .f32⟩
  | 68 => ⟨S16x2048x128, .f32⟩
  | 69 => ⟨S16x2048x128, .f32⟩
  | 70 => ⟨S16x2048x128, .f32⟩
  | 71 => ⟨S_, .f32⟩
  | 72 => ⟨S16x2048x128, .f32⟩
  | 73 => ⟨S16x2048x128, .f32⟩
  | 74 => ⟨S_, .f32⟩
  | 75 => ⟨S16x2048x128, .f32⟩
  | 76 => ⟨S16x2048x128, .f32⟩
  | 77 => ⟨S16x2048x1024, .f32⟩
  | 78 => ⟨S1x16x2048x1024, .f32⟩
  | 79 => ⟨S1x16x2048x1024, .f32⟩
  | 80 => ⟨S2x16x2048x1024, .f32⟩
  | 81 => ⟨S1x16x2048x1024, .f32⟩
  | 82 => ⟨S2x1024, .f32⟩
  | 83 => ⟨S2x1x1x1024, .f32⟩
  | 84 => ⟨S2x16x2048x1024, .f32⟩
  | 85 => ⟨S2x16x2048x1024, .f32⟩
  | 86 => ⟨S2x16x2048x1024, .f32⟩
  | 87 => ⟨S2x16x2048x1024, .f32⟩
  | 88 => ⟨S1x16x2048x1024, .f32⟩
  | 89 => ⟨S2x1024, .f32⟩
  | 90 => ⟨S2x1x1x1024, .f32⟩
  | 91 => ⟨S2x16x2048x1024, .f32⟩
  | 92 => ⟨S2x16x2048x1024, .f32⟩
  | 93 => ⟨S2x16x2048x1024, .f32⟩
  | 94 => ⟨S2x16x2048x1024, .f32⟩
  | 95 => ⟨S2x1x1x1024, .f32⟩
  | 96 => ⟨S2x16x2048x64, .f32⟩
  | 97 => ⟨S2x16x2048x64, .f32⟩
  | 98 => ⟨S2x16x2048x1024, .f32⟩
  | 99 => ⟨S2x16x2048x1024, .f32⟩
  | 100 => ⟨S2x16x2048x1024, .f32⟩
  | 101 => ⟨S2x16x2048x1024, .f32⟩
  | 102 => ⟨S2x16x2048x1024, .f32⟩
  | 103 => ⟨S_, .f32⟩
  | 104 => ⟨S2x16x2048x1024, .f32⟩
  | 105 => ⟨S2x16x2048x1024, .f32⟩
  | 106 => ⟨S_, .f32⟩
  | 107 => ⟨S2x16x2048x1024, .f32⟩
  | 108 => ⟨S2x16x2048x1024, .f32⟩
  | 109 => ⟨S_, .f32⟩
  | 110 => ⟨S2x16x2048x1024, .f32⟩
  | 111 => ⟨S2x16x2048x1024, .f32⟩
  | 112 => ⟨S2x1x1x1024, .f32⟩
  | 113 => ⟨S2x16x2048x64, .f32⟩
  | 114 => ⟨S2x16x2048x1024, .f32⟩
  | 115 => ⟨S2x16x2048x1024, .f32⟩
  | 116 => ⟨S2x16x2048x1024, .f32⟩
  | 117 => ⟨S2x16x2048x1024, .f32⟩
  | 118 => ⟨S2x16x2048x1024, .f32⟩
  | 119 => ⟨S_, .f32⟩
  | 120 => ⟨S2x16x2048x1024, .f32⟩
  | 121 => ⟨S2x16x2048x1024, .f32⟩
  | 122 => ⟨S_, .f32⟩
  | 123 => ⟨S2x16x2048x1024, .f32⟩
  | 124 => ⟨S2x16x2048x1024, .f32⟩
  | 125 => ⟨S32768x1024, .f32⟩
  | 126 => ⟨S32768x1024, .bf16⟩
  | 127 => ⟨S32768x1024, .f32⟩
  | _ => ⟨S32768x1024, .f32⟩

abbrev hbmTy0_1 (i : Nat) : BufTy := match i % 128 with
  | 0 => ⟨S32768x1024, .bf16⟩
  | 1 => ⟨S32768x1024, .f32⟩
  | 2 => ⟨S32768x1024, .bf16⟩
  | 3 => ⟨S32768x1024, .f32⟩
  | 4 => ⟨S32768x1024, .bf16⟩
  | 5 => ⟨S2x32768x1024, .f32⟩
  | 6 => ⟨S2x32768x1024, .f32⟩
  | 7 => ⟨S2x32768x1024, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_4 : Ref sig .tc := ⟨.hbm, 71, rfl⟩
abbrev main_v54 : Ref sig .tc := ⟨.hbm, 72, rfl⟩
abbrev main_v55 : Ref sig .tc := ⟨.hbm, 73, rfl⟩
abbrev main_cst_5 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_cst_6 : Ref sig .tc := ⟨.hbm, 103, rfl⟩
abbrev main_v84 : Ref sig .tc := ⟨.hbm, 104, rfl⟩
abbrev main_v85 : Ref sig .tc := ⟨.hbm, 105, rfl⟩
abbrev main_cst_7 : Ref sig .tc := ⟨.hbm, 106, rfl⟩
abbrev main_v86 : Ref sig .tc := ⟨.hbm, 107, rfl⟩
abbrev main_v87 : Ref sig .tc := ⟨.hbm, 108, rfl⟩
abbrev main_cst_8 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_cst_9 : Ref sig .tc := ⟨.hbm, 119, rfl⟩
abbrev main_v97 : Ref sig .tc := ⟨.hbm, 120, rfl⟩
abbrev main_v98 : Ref sig .tc := ⟨.hbm, 121, rfl⟩
abbrev main_cst_10 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩

abbrev nD : Nat := 1
abbrev τ : Topo := Topo.v7x

variable {F : FTy → Type} [FloatOps F]
-- ==== Proof.AttnBlock.lean ====
/- The attention block: what one visit of the kernel leaves in its block of the result, entry by entry. -/
module

public import proofs.«01_k».proof.Proof.Gen.AttnIdeal.Value
public import Idealize.ShloMosaic.Lib.Pointwise
public import Idealize.ShloMosaic.Lib.ValueIdx

@[expose] public section

set_option maxRecDepth 16384

noncomputable section

namespace Cert.AttnBlock

open Cert.AttnIdeal Cert.AttnIdeal.Gen Idealize.ShloMosaic

/-- One stored piece: 256 queries of one head against all 2048 keys. -/
def piece {F : FTy → Type} [FloatOps F] (kb : Vec F S1x2048x128 .bf16) (qb : Vec F S1x256x128 .bf16)
    (vb : Vec F S1x64x2048 .bf16) : FVec F S1x64x256 .bf16 :=
  k0_pay2 (k0_pay12 k0_pay4 (k0_pay7 kb qb) vb)

theorem out_pieces {F : FTy → Type} [FloatOps F] (x0 : Vec F S1x512x256 .bf16) (x1 : Vec F S1x2048x256 .bf16)
    (x2 : Vec F S1x128x2048 .bf16) :
    out0_3 x0 x1 x2 = View.canon [⟨r0_11, piece (View.ld x1 r0_3) (View.ld x0 r0_5) (View.ld x2 r0_7)⟩,
      ⟨r0_10, piece (View.ld x1 r0_3) (View.ld x0 r0_4) (View.ld x2 r0_7)⟩,
      ⟨r0_9, piece (View.ld x1 r0_0) (View.ld x0 r0_2) (View.ld x2 r0_6)⟩,
      ⟨r0_8, piece (View.ld x1 r0_0) (View.ld x0 r0_1) (View.ld x2 r0_6)⟩] := rfl

/-- The score of key `x` for query `t`. -/
theorem score_apply (kb : Vec Ideal S1x2048x128 .bf16) (qb : Vec Ideal S1x256x128 .bf16) (x : Fin 2048) (t : Fin 256) :
    k0_pay7 (F := Ideal) kb qb (ix2 x t) = ∑ c : Fin 128, kb (ix3 0 x c) * qb (ix3 0 t c) := by
  pointwise [k0_pay7]

/-- The word of the bf16 minus infinity. -/
theorem ofBits_neg_inf : Ideal.ofBits .bf16 65408#16 = (⊥ : EReal) := by simp [Ideal.ofBits, Ideal.ieee]

/-- An index whose first axis has one coordinate. -/
theorem exists_ix3 {a b : Nat} (x : (⟨3, ![1, a, b]⟩ : Shape).Idx) : ∃ (d : Fin a) (t : Fin b), x = ix3 (n0 := 1) 0 d t :=
  ⟨x 1, x 2, by
    rw [eq_ix3 x]
    exact congrArg (fun z => ix3 (n0 := 1) (n1 := a) (n2 := b) z (x 1) (x 2)) (Subsingleton.elim (α := Fin 1) _ _)⟩

/-- The weighted mean of `v` under the weights `2 ^ (s x - max s)`, the sums first and one quotient after. -/
def meanOf (s v : Fin 2048 → EReal) : EReal :=
  Ideal.div (∑ x, v x * Ideal.exp2 (s x - (Finset.univ : Finset (Fin 2048)).fold max ⊥ s))
    (∑ x, Ideal.exp2 (s x - (Finset.univ : Finset (Fin 2048)).fold max ⊥ s))

theorem piece_apply (kb : Vec Ideal S1x2048x128 .bf16) (qb : Vec Ideal S1x256x128 .bf16)
    (vb : Vec Ideal S1x64x2048 .bf16) (d : Fin 64) (t : Fin 256) :
    piece (F := Ideal) kb qb vb (ix3 0 d t)
      = meanOf (fun x => ∑ c : Fin 128, kb (ix3 0 x c) * qb (ix3 0 t c)) (fun x => vb (ix3 0 d x)) := by
  rw [show (fun x => ∑ c : Fin 128, kb (ix3 0 x c) * qb (ix3 0 t c)) = fun x => k0_pay7 (F := Ideal) kb qb (ix2 x t) from
    funext fun x => (score_apply kb qb x t).symm]
  unfold piece
  generalize k0_pay7 (F := Ideal) kb qb = s
  unfold meanOf
  pointwise [k0_pay2, k0_pay12, k0_pay4, k0_pay11]
  rw [ofBits_neg_inf]
  rfl

/-- A block of the result as a function of the three blocks it is made of. -/
def blockVal (x0 : Vec Ideal S1x512x256 .bf16) (x1 : Vec Ideal S1x2048x256 .bf16) (x2 : Vec Ideal S1x128x2048 .bf16)
    (i : S1x128x512.Idx) : EReal :=
  meanOf (fun x => ∑ c : Fin 128, x1 (ix3 0 x ⟨(i 1).val / 64 * 128 + c.val, by have : (i 1).val < 128 := (i 1).isLt; omega⟩)
      * x0 (ix3 0 (i 2) ⟨(i 1).val / 64 * 128 + c.val, by have : (i 1).val < 128 := (i 1).isLt; omega⟩))
    (fun x => x2 (ix3 0 (i 1) x))

/-- A load of part of a block, read at an index. -/
theorem ld_at {S : Shape} {e : EltTy} {off size : Fin S.rank → Nat} {inb : ∀ a, off a + size a ≤ S.size a}
    (X : S.Idx → Elt Ideal e) (y : (Rect.unit off size inb).shape.Idx) (z : S.Idx) (h : ∀ a, off a + (y a).val = (z a).val) :
    View.ld X (Rect.unit off size inb) y = X z :=
  congrArg X (funext fun a => Fin.ext ((congrArg (off a + ·) (Nat.one_mul (y a).val)).trans (h a)))

theorem out_apply (x0 : Vec Ideal S1x512x256 .bf16) (x1 : Vec Ideal S1x2048x256 .bf16)
    (x2 : Vec Ideal S1x128x2048 .bf16) : out0_3 (F := Ideal) x0 x1 x2 = blockVal x0 x1 x2 := by
  rw [out_pieces]
  funext y
  refine View.canon_apply_of_pieces (Val := Elt Ideal) (e := .bf16) (blockVal x0 x1 x2) _ ?_ y (cover0_3 _ _ _ _ y)
  intro p hp
  simp only [List.mem_cons, List.not_mem_nil, or_false] at hp
  rcases hp with rfl | rfl | rfl | rfl <;> intro x
  · dsimp only
    obtain ⟨d, t, rfl⟩ : ∃ (d : Fin 64) (t : Fin 256), x = ix3 (n0 := 1) (0 : Fin 1) d t := exists_ix3 x
    have e1 : (r0_11.emb (ix3 (n0 := 1) (0 : Fin 1) d t) 1).val = 64 + 1 * d.val := rfl
    have e2 : (r0_11.emb (ix3 (n0 := 1) (0 : Fin 1) d t) 2).val = 256 + 1 * t.val := rfl
    rw [piece_apply]
    unfold blockVal
    refine congrArg₂ meanOf (funext fun k => Finset.sum_congr rfl fun c _ => congrArg₂ _ (ld_at x1 _ _ ?_) (ld_at x0 _ _ ?_))
      (funext fun k => ld_at x2 _ _ ?_) <;> intro a <;> match a with
      | ⟨0, _⟩ => first | rfl | omega
      | ⟨1, _⟩ => first | (show 0 + k.val = k.val; omega) | (show 256 + t.val = (r0_11.emb (ix3 (n0 := 1) (0 : Fin 1) d t) 2).val; omega) | (show 64 + d.val = (r0_11.emb (ix3 (n0 := 1) (0 : Fin 1) d t) 1).val; omega)
      | ⟨2, _⟩ => first | (show 128 + c.val = (r0_11.emb (ix3 (n0 := 1) (0 : Fin 1) d t) 1).val / 64 * 128 + c.val; omega) | (show 0 + k.val = k.val; omega)
  · dsimp only
    obtain ⟨d, t, rfl⟩ : ∃ (d : Fin 64) (t : Fin 256), x = ix3 (n0 := 1) (0 : Fin 1) d t := exists_ix3 x
    have e1 : (r0_10.emb (ix3 (n0 := 1) (0 : Fin 1) d t) 1).val = 64 + 1 * d.val := rfl
    have e2 : (r0_10.emb (ix3 (n0 := 1) (0 : Fin 1) d t) 2).val = 0 + 1 * t.val := rfl
    rw [piece_apply]
    unfold blockVal
    refine congrArg₂ meanOf (funext fun k => Finset.sum_congr rfl fun c _ => congrArg₂ _ (ld_at x1 _ _ ?_) (ld_at x0 _ _ ?_))
      (funext fun k => ld_at x2 _ _ ?_) <;> intro a <;> match a with
      | ⟨0, _⟩ => first | rfl | omega
      | ⟨1, _⟩ => first | (show 0 + k.val = k.val; omega) | (show 0 + t.val = (r0_10.emb (ix3 (n0 := 1) (0 : Fin 1) d t) 2).val; omega) | (show 64 + d.val = (r0_10.emb (ix3 (n0 := 1) (0 : Fin 1) d t) 1).val; omega)
      | ⟨2, _⟩ => first | (show 128 + c.val = (r0_10.emb (ix3 (n0 := 1) (0 : Fin 1) d t) 1).val / 64 * 128 + c.val; omega) | (show 0 + k.val = k.val; omega)
  · dsimp only
    obtain ⟨d, t, rfl⟩ : ∃ (d : Fin 64) (t : Fin 256), x = ix3 (n0 := 1) (0 : Fin 1) d t := exists_ix3 x
    have e1 : (r0_9.emb (ix3 (n0 := 1) (0 : Fin 1) d t) 1).val = 0 + 1 * d.val := rfl
    have e2 : (r0_9.emb (ix3 (n0 := 1) (0 : Fin 1) d t) 2).val = 256 + 1 * t.val := rfl
    rw [piece_apply]
    unfold blockVal
    refine congrArg₂ meanOf (funext fun k => Finset.sum_congr rfl fun c _ => congrArg₂ _ (ld_at x1 _ _ ?_) (ld_at x0 _ _ ?_))
      (funext fun k => ld_at x2 _ _ ?_) <;> intro a <;> match a with
      | ⟨0, _⟩ => first | rfl | omega
      | ⟨1, _⟩ => first | (show 0 + k.val = k.val; omega) | (show 256 + t.val = (r0_9.emb (ix3 (n0 := 1) (0 : Fin 1) d t) 2).val; omega) | (show 0 + d.val = (r0_9.emb (ix3 (n0 := 1) (0 : Fin 1) d t) 1).val; omega)
      | ⟨2, _⟩ => first | (show 0 + c.val = (r0_9.emb (ix3 (n0 := 1) (0 : Fin 1) d t) 1).val / 64 * 128 + c.val; omega) | (show 0 + k.val = k.val; omega)
  · dsimp only
    obtain ⟨d, t, rfl⟩ : ∃ (d : Fin 64) (t : Fin 256), x = ix3 (n0 := 1) (0 : Fin 1) d t := exists_ix3 x
    have e1 : (r0_8.emb (ix3 (n0 := 1) (0 : Fin 1) d t) 1).val = 0 + 1 * d.val := rfl
    have e2 : (r0_8.emb (ix3 (n0 := 1) (0 : Fin 1) d t) 2).val = 0 + 1 * t.val := rfl
    rw [piece_apply]
    unfold blockVal
    refine congrArg₂ meanOf (funext fun k => Finset.sum_congr rfl fun c _ => congrArg₂ _ (ld_at x1 _ _ ?_) (ld_at x0 _ _ ?_))
      (funext fun k => ld_at x2 _ _ ?_) <;> intro a <;> match a with
      | ⟨0, _⟩ => first | rfl | omega
      | ⟨1, _⟩ => first | (show 0 + k.val = k.val; omega) | (show 0 + t.val = (r0_8.emb (ix3 (n0 := 1) (0 : Fin 1) d t) 2).val; omega) | (show 0 + d.val = (r0_8.emb (ix3 (n0 := 1) (0 : Fin 1) d t) 1).val; omega)
      | ⟨2, _⟩ => first | (show 0 + c.val = (r0_8.emb (ix3 (n0 := 1) (0 : Fin 1) d t) 1).val / 64 * 128 + c.val; omega) | (show 0 + k.val = k.val; omega)

end Cert.AttnBlock

end
-- ==== Proof.Softmax.lean ====
/- The two ways to write a softmax mean agree: base two with one quotient at the end, and base e with a quotient per weight. -/
module

public import proofs.«01_k».proof.Proof.AttnBlock

@[expose] public section

noncomputable section

namespace Cert.Softmax

open Idealize.ShloMosaic Cert.AttnBlock

/-- Multiplication by a finite number that is not negative goes into a sum. -/
theorem sum_mul_coe {ι : Type} (s : Finset ι) (f : ι → EReal) (r : ℝ) (hr : 0 ≤ r) :
    (∑ x ∈ s, f x) * (r : EReal) = ∑ x ∈ s, f x * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

/-- A sum of finite numbers is the finite sum. -/
theorem coe_sum {ι : Type} (s : Finset ι) (f : ι → ℝ) : ∑ x ∈ s, (f x : EReal) = ((∑ x ∈ s, f x : ℝ) : EReal) := by
  classical
  induction s using Finset.induction_on with
  | empty => simp
  | insert a s ha ih => rw [Finset.sum_insert ha, Finset.sum_insert ha, ih, EReal.coe_add]

/-- A weight in base two is the weight in base e of the score times `log 2`. -/
theorem exp2_eq_exp (a b : ℝ) :
    Ideal.exp2 ((a : EReal) - b) = Ideal.exp ((a : EReal) * (Real.log 2 : ℝ) - (b : EReal) * (Real.log 2 : ℝ)) := by
  rw [← EReal.coe_mul, ← EReal.coe_mul, ← EReal.coe_sub, ← EReal.coe_sub]
  show ((Real.rpow 2 (a - b) : ℝ) : EReal) = ((Real.exp (a * Real.log 2 - b * Real.log 2) : ℝ) : EReal)
  rw [← sub_mul, mul_comm, ← Real.rpow_def_of_pos (by norm_num : (0 : ℝ) < 2)]
  rfl

/-- The maximum of finite numbers is one of them, and stays it when all are multiplied by `log 2`. -/
theorem exists_max (s : Fin 2048 → ℝ) : ∃ M : ℝ,
    (Finset.univ : Finset (Fin 2048)).fold max ⊥ (fun x => (s x : EReal)) = M
    ∧ (Finset.univ : Finset (Fin 2048)).fold max ⊥ (fun x => (s x : EReal) * (Real.log 2 : ℝ)) = (M : EReal) * (Real.log 2 : ℝ) := by
  obtain ⟨x₀, -, h⟩ := Finset.exists_mem_eq_sup (Finset.univ : Finset (Fin 2048)) ⟨0, Finset.mem_univ _⟩ (fun x => (s x : EReal))
  have hL : (0 : ℝ) ≤ Real.log 2 := Real.log_nonneg (by norm_num)
  refine ⟨s x₀, h, le_antisymm ?_ ?_⟩
  · refine Finset.sup_le fun x _ => ?_
    have hx : (s x : EReal) ≤ s x₀ := h ▸ Finset.le_sup (f := fun x => (s x : EReal)) (Finset.mem_univ x)
    exact mul_le_mul_of_nonneg_right hx (EReal.coe_nonneg.mpr hL)
  · exact Finset.le_sup (f := fun x => (s x : EReal) * ((Real.log 2 : ℝ) : EReal)) (Finset.mem_univ x₀)

/-- The mean of `v` under the weights of finite scores `s`, both ways. -/
theorem meanOf_eq (s : Fin 2048 → ℝ) (v : Fin 2048 → EReal) :
    meanOf (fun x => (s x : EReal)) v
      = ∑ x, v x * Ideal.div (Ideal.exp ((s x : EReal) * (Real.log 2 : ℝ)
            - (Finset.univ : Finset (Fin 2048)).fold max ⊥ (fun x => (s x : EReal) * (Real.log 2 : ℝ))))
          (∑ x, Ideal.exp ((s x : EReal) * (Real.log 2 : ℝ)
            - (Finset.univ : Finset (Fin 2048)).fold max ⊥ (fun x => (s x : EReal) * (Real.log 2 : ℝ)))) := by
  obtain ⟨M, h1, h2⟩ := exists_max s
  unfold meanOf
  rw [h1, h2]
  simp only [← exp2_eq_exp]
  have he : ∀ x, Ideal.exp2 ((s x : EReal) - M) = ((Real.rpow 2 (s x - M) : ℝ) : EReal) := fun x => by
    rw [← EReal.coe_sub]; rfl
  have hpos : ∀ x, (0 : ℝ) < Real.rpow 2 (s x - M) := fun x => Real.rpow_pos_of_pos (by norm_num) _
  simp only [he]
  rw [coe_sum]
  have hD : 0 < ∑ x, Real.rpow 2 (s x - M) := Finset.sum_pos (fun x _ => hpos x) ⟨0, Finset.mem_univ _⟩
  simp only [Ideal.div_coe hD.ne']
  rw [sum_mul_coe _ _ _ (one_div_pos.mpr hD).le]
  simp only [mul_assoc]

end Cert.Softmax

end
-- ==== Proof.AttnArray.lean ====
/- The attention's result array, entry by entry, from the three argument arrays. -/
module

public import proofs.«01_k».proof.Proof.AttnBlock
public import Idealize.ShloMosaic.Lib.Pipeline.Value
public import Idealize.ShloMosaic.Lib.Pipeline.ValueKit

@[expose] public section

set_option maxRecDepth 16384

noncomputable section

namespace Cert.AttnArray

open Cert.AttnIdeal Cert.AttnIdeal.Gen Cert.AttnBlock Idealize.ShloMosaic Idealize.ShloMosaic.TcCoe Idealize.SL.Sem

/-- The result from the queries, the keys and the values: entry `(b, r, t)` is row `r % 64` of head `r / 64` at query `t`. -/
def attn (q k : Vec Ideal S16x2048x2048 .bf16) (v : Vec Ideal S16x1024x2048 .bf16) (i : S16x1024x2048.Idx) : EReal :=
  meanOf (fun x => ∑ c : Fin 128, k (ix3 (i 0) x ⟨(i 1).val / 64 * 128 + c.val, by have : (i 1).val < 1024 := (i 1).isLt; omega⟩)
      * q (ix3 (i 0) (i 2) ⟨(i 1).val / 64 * 128 + c.val, by have : (i 1).val < 1024 := (i 1).isLt; omega⟩))
    (fun x => v (ix3 (i 0) (i 1) x))

/-- How the windows' block indices go together: the output's block `(b, h, i)` is made of block `(b, i, h)` of the
    queries, `(b, 0, h)` of the keys and `(b, h, 0)` of the values. -/
theorem index_rel (t : Fin cfg0.N) :
    (win0_0.index t 0 = win0_3.index t 0 ∧ win0_0.index t 1 = win0_3.index t 2 ∧ win0_0.index t 2 = win0_3.index t 1)
    ∧ (win0_1.index t 0 = win0_3.index t 0 ∧ win0_1.index t 1 = 0 ∧ win0_1.index t 2 = win0_3.index t 1)
    ∧ (win0_2.index t 0 = win0_3.index t 0 ∧ win0_2.index t 1 = win0_3.index t 1 ∧ win0_2.index t 2 = 0) :=
  by revert t; decide +kernel

variable (m : (ℓ : Loc nD τ sig) → Buf (Elt Ideal) ℓ)

/-- Where an element of the result's block lies in the result. -/
theorem emb3_val (t : Fin cfg0.N) (y : S1x128x512.Idx) (a : Fin 3) :
    (((cfg0.win 3).blk t).view.emb y a).val = win0_3.index t a * S1x128x512.size a + (y a).val :=
  win0_3.rect_emb_val t y a

/-- An element of input block 0 at point `t` is an element of argument 0. -/
theorem iblk0_apply (c : Dev nD) (t : Fin cfg0.N) (y0 : Fin 1) (y1 : Fin 512) (y2 : Fin 256) (z0 : Fin 16) (z1 : Fin 2048)
    (z2 : Fin 2048) (h0 : win0_0.index t 0 * 1 + y0.val = z0.val) (h1 : win0_0.index t 1 * 512 + y1.val = z1.val)
    (h2 : win0_0.index t 2 * 256 + y2.val = z2.val) :
    iblk m c 0 t (ix3 y0 y1 y2) = m ((c : Thread nD τ).loc main_arg0) (ix3 z0 z1 z2) :=
  congrArg (m ((c : Thread nD τ).loc main_arg0)) (funext fun a => Fin.ext ((win0_0.rect_emb_val t (ix3 y0 y1 y2) a).trans
    (match a with | ⟨0, _⟩ => h0 | ⟨1, _⟩ => h1 | ⟨2, _⟩ => h2)))

/-- An element of input block 1 at point `t` is an element of argument 1. -/
theorem iblk1_apply (c : Dev nD) (t : Fin cfg0.N) (y0 : Fin 1) (y1 : Fin 2048) (y2 : Fin 256) (z0 : Fin 16) (z1 : Fin 2048)
    (z2 : Fin 2048) (h0 : win0_1.index t 0 * 1 + y0.val = z0.val) (h1 : win0_1.index t 1 * 2048 + y1.val = z1.val)
    (h2 : win0_1.index t 2 * 256 + y2.val = z2.val) :
    iblk m c 1 t (ix3 y0 y1 y2) = m ((c : Thread nD τ).loc main_arg1) (ix3 z0 z1 z2) :=
  congrArg (m ((c : Thread nD τ).loc main_arg1)) (funext fun a => Fin.ext ((win0_1.rect_emb_val t (ix3 y0 y1 y2) a).trans
    (match a with | ⟨0, _⟩ => h0 | ⟨1, _⟩ => h1 | ⟨2, _⟩ => h2)))

/-- An element of input block 2 at point `t` is an element of argument 2. -/
theorem iblk2_apply (c : Dev nD) (t : Fin cfg0.N) (y0 : Fin 1) (y1 : Fin 128) (y2 : Fin 2048) (z0 : Fin 16) (z1 : Fin 1024)
    (z2 : Fin 2048) (h0 : win0_2.index t 0 * 1 + y0.val = z0.val) (h1 : win0_2.index t 1 * 128 + y1.val = z1.val)
    (h2 : win0_2.index t 2 * 2048 + y2.val = z2.val) :
    iblk m c 2 t (ix3 y0 y1 y2) = m ((c : Thread nD τ).loc main_arg2) (ix3 z0 z1 z2) :=
  congrArg (m ((c : Thread nD τ).loc main_arg2)) (funext fun a => Fin.ext ((win0_2.rect_emb_val t (ix3 y0 y1 y2) a).trans
    (match a with | ⟨0, _⟩ => h0 | ⟨1, _⟩ => h1 | ⟨2, _⟩ => h2)))

theorem final (c : Dev nD) : (dats m 0 c).arrAt 3 cfg0.N
    = attn (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, out_apply]
  obtain ⟨⟨a0, a1, a2⟩, ⟨b0, b1, b2⟩, c0, c1, c2⟩ := index_rel t
  have e0 : ((win0_3.blk t).view.emb y 0).val = win0_3.index t 0 * 1 + (y 0).val := emb3_val t y 0
  have e1 : ((win0_3.blk t).view.emb y 1).val = win0_3.index t 1 * 128 + (y 1).val := emb3_val t y 1
  have e2 : ((win0_3.blk t).view.emb y 2).val = win0_3.index t 2 * 512 + (y 2).val := emb3_val t y 2
  have y0 : (y 0).val < 1 := (y 0).isLt
  have y1 : (y 1).val < 128 := (y 1).isLt
  have y2 : (y 2).val < 512 := (y 2).isLt
  generalize (win0_3.blk t).view.emb y = E at e0 e1 e2 ⊢
  unfold blockVal attn
  refine congrArg₂ meanOf (funext fun k => Finset.sum_congr rfl fun l _ => congrArg₂ _ ?_ ?_) (funext fun k => ?_)
  · refine iblk1_apply m c t 0 k _ (E 0) k _ ?_ ?_ ?_
    · show win0_1.index t 0 * 1 + 0 = (E 0).val; omega
    · omega
    · show win0_1.index t 2 * 256 + ((y 1).val / 64 * 128 + l.val) = (E 1).val / 64 * 128 + l.val; omega
  · refine iblk0_apply m c t 0 (y 2) _ (E 0) (E 2) _ ?_ ?_ ?_
    · show win0_0.index t 0 * 1 + 0 = (E 0).val; omega
    · omega
    · show win0_0.index t 2 * 256 + ((y 1).val / 64 * 128 + l.val) = (E 1).val / 64 * 128 + l.val; omega
  · refine iblk2_apply m c t 0 (y 1) k (E 0) (E 1) k ?_ ?_ ?_
    · show win0_2.index t 0 * 1 + 0 = (E 0).val; omega
    · omega
    · omega

end Cert.AttnArray

end
-- ==== Proof.AttnReference.lean ====
/- The plain attention's result read at one of its places. -/
module

public import proofs.«01_k».proof.Proof.AttnArray
public import proofs.«01_k».proof.Proof.Gen.AttnRefIdeal.Read

@[expose] public section

set_option maxRecDepth 16384

noncomputable section

namespace Cert.AttnReference

open Idealize.ShloMosaic Cert.AttnRefIdeal Cert.AttnRefIdeal.Read

variable (q k : (⟨S16x2048x2048, .bf16⟩ : BufTy).Contents (Elt Ideal)) (v : (⟨S16x1024x2048, .bf16⟩ : BufTy).Contents (Elt Ideal))

/-- The score of key `x` for query `t`: the sum over the 128 lanes of head `h`. -/
def score (b : Fin 16) (h : Fin 16) (t x : Fin 2048) : EReal :=
  ∑ c : Fin 128, k (ix3 b x ⟨h.val * 128 + c.val, by omega⟩) * q (ix3 b t ⟨h.val * 128 + c.val, by omega⟩)

theorem ofBits_two : Ideal.ofBits .f32 1073741824#32 = ((2 : ℝ) : EReal) := by
  simp [Ideal.ofBits, Ideal.ieee, -EReal.coe_mul]; norm_num

theorem ofBits_neg_inf32 : Ideal.ofBits .f32 0xFF800000#32 = (⊥ : EReal) := by simp [Ideal.ofBits, Ideal.ieee]

theorem log_two : FloatOps.hostUnary (F := Ideal) (φ := .f32) HostUnaryOp.log (Ideal.ofBits .f32 1073741824#32) = ((Real.log 2 : ℝ) : EReal) := by
  show Ideal.log (Ideal.ofBits .f32 1073741824#32) = _
  rw [ofBits_two]
  show (if (2 : ℝ) ≤ 0 then _ else _) = _
  rw [if_neg (by norm_num)]

theorem q_index (b h : Fin 16) (t x : Fin 2048) (c : Fin 128) :
    idx_main_v1 (lidx_main_v6 (ix4 b h t x) c) = ix3 b t ⟨h.val * 128 + c.val, by omega⟩ := by
  refine funext fun a => ?_
  match a with
  | ⟨0, _⟩ => exact Fin.ext (by have := b.isLt; have := h.isLt; have := t.isLt; have := c.isLt; simp [idx_main_v1, lidx_main_v6, ix4, ix3]; omega)
  | ⟨1, _⟩ => exact Fin.ext (by have := b.isLt; have := h.isLt; have := t.isLt; have := c.isLt; simp [idx_main_v1, lidx_main_v6, ix4, ix3]; omega)
  | ⟨2, _⟩ => exact Fin.ext (by have := b.isLt; have := h.isLt; have := t.isLt; have := c.isLt; simp [idx_main_v1, lidx_main_v6, ix4, ix3]; omega)

theorem k_index (b h : Fin 16) (t x : Fin 2048) (c : Fin 128) :
    idx_main_v3 (ridx_main_v6 (ix4 b h t x) c) = ix3 b x ⟨h.val * 128 + c.val, by omega⟩ := by
  refine funext fun a => ?_
  match a with
  | ⟨0, _⟩ => exact Fin.ext (by have := b.isLt; have := h.isLt; have := x.isLt; have := c.isLt; simp [idx_main_v3, ridx_main_v6, ix4, ix3]; omega)
  | ⟨1, _⟩ => exact Fin.ext (by have := b.isLt; have := h.isLt; have := x.isLt; have := c.isLt; simp [idx_main_v3, ridx_main_v6, ix4, ix3]; omega)
  | ⟨2, _⟩ => exact Fin.ext (by have := b.isLt; have := h.isLt; have := x.isLt; have := c.isLt; simp [idx_main_v3, ridx_main_v6, ix4, ix3]; omega)

theorem scores_apply (b h : Fin 16) (t x : Fin 2048) :
    val_main_v9 (F := Ideal) q k (ix4 b h t x) = score q k b h t x * ((Real.log 2 : ℝ) : EReal) := by
  simp only [val_main_v9_apply, val_main_v8_apply, val_main_v7_apply, val_main_cst_apply, val_main_v6_apply, val_main_v1_apply, val_main_v0_apply, val_main_v3_apply, val_main_v2_apply, Ideal.ofBits_def, log_two, q_index, k_index]
  show (∑ c : Fin 128, (q _ : EReal) * k _) * _ = _
  unfold score
  simp only [mul_comm]

theorem max_apply (b h : Fin 16) (t : Fin 2048) : val_main_v10 (F := Ideal) q k (ix3 b h t)
    = (Finset.univ : Finset (Fin 2048)).fold max ⊥ (fun x => score q k b h t x * ((Real.log 2 : ℝ) : EReal)) := by
  pointwise [val_main_v10]
  rw [show (fun x : Fin 2048 => val_main_v9 (F := Ideal) q k (ix4 b h t x)) = _ from
    funext fun x => scores_apply q k b h t x, val_main_cst_0_apply, Ideal.ofBits_def, ofBits_neg_inf32]

/-- A weight before the quotient. -/
theorem weight_apply (b h : Fin 16) (t x : Fin 2048) : val_main_v16 (F := Ideal) q k (ix4 b h t x)
    = Ideal.exp (score q k b h t x * ((Real.log 2 : ℝ) : EReal)
        - (Finset.univ : Finset (Fin 2048)).fold max ⊥ (fun x => score q k b h t x * ((Real.log 2 : ℝ) : EReal))) := by
  rw [val_main_v16_apply, val_main_v15_apply, val_main_v14_apply, val_main_v13_apply, val_main_v12_apply, val_main_v11_apply, val_main_cst_1_apply, scores_apply,
    show idx_main_v13 (idx_main_v14 (ix4 b h t x)) = ix3 b h t from by
      refine funext fun a => ?_
      match a with
      | ⟨0, _⟩ => rfl
      | ⟨1, _⟩ => rfl
      | ⟨2, _⟩ => rfl, max_apply, Ideal.ofBits_def, ofBits_neg_inf32]
  show Ideal.exp (_ - max ⊥ _) = _
  rw [max_eq_right bot_le]

/-- The sum of the weights of a query. -/
theorem total_apply (b h : Fin 16) (t : Fin 2048) : val_main_v17 (F := Ideal) q k (ix3 b h t)
    = ∑ x : Fin 2048, Ideal.exp (score q k b h t x * ((Real.log 2 : ℝ) : EReal)
        - (Finset.univ : Finset (Fin 2048)).fold max ⊥ (fun x => score q k b h t x * ((Real.log 2 : ℝ) : EReal))) := by
  rw [val_main_v17_apply, val_main_cst_2_apply, Ideal.ofBits_def, Ideal.ofBits_zero_f32]
  refine (zero_add _).trans (Finset.sum_congr rfl fun x _ => ?_)
  rw [show idx_main_v17 (ix3 b h t) x = ix4 b h t x from by
      refine funext fun a => ?_
      match a with
      | ⟨0, _⟩ => rfl
      | ⟨1, _⟩ => rfl
      | ⟨2, _⟩ => rfl
      | ⟨3, _⟩ => rfl, weight_apply]

/-- The share of key `x` in query `t`. -/
theorem share_apply (b h : Fin 16) (t x : Fin 2048) : val_main_v20 (F := Ideal) q k (ix4 b h t x)
    = Ideal.div (Ideal.exp (score q k b h t x * ((Real.log 2 : ℝ) : EReal)
        - (Finset.univ : Finset (Fin 2048)).fold max ⊥ (fun x => score q k b h t x * ((Real.log 2 : ℝ) : EReal))))
      (∑ x : Fin 2048, Ideal.exp (score q k b h t x * ((Real.log 2 : ℝ) : EReal)
        - (Finset.univ : Finset (Fin 2048)).fold max ⊥ (fun x => score q k b h t x * ((Real.log 2 : ℝ) : EReal)))) := by
  rw [val_main_v20_apply, val_main_v19_apply, val_main_v18_apply,
    show idx_main_v18 (idx_main_v19 (ix4 b h t x)) = ix3 b h t from by
      refine funext fun a => ?_
      match a with
      | ⟨0, _⟩ => rfl
      | ⟨1, _⟩ => rfl
      | ⟨2, _⟩ => rfl, weight_apply, total_apply]
  rfl

theorem p_index (b : Fin 16) (d : Fin 1024) (t x : Fin 2048) :
    ridx_main_v21 (idx_main_v22 (ix3 b d t)) x = ix4 b ⟨d.val / 64, by omega⟩ t x := by
  refine funext fun a => ?_
  match a with
  | ⟨0, _⟩ => exact Fin.ext (by have := b.isLt; have := d.isLt; have := t.isLt; simp [ridx_main_v21, idx_main_v22, ix4, ix3]; try omega)
  | ⟨1, _⟩ => exact Fin.ext (by have := b.isLt; have := d.isLt; have := t.isLt; simp [ridx_main_v21, idx_main_v22, ix4, ix3]; try omega)
  | ⟨2, _⟩ => exact Fin.ext (by have := b.isLt; have := d.isLt; have := t.isLt; simp [ridx_main_v21, idx_main_v22, ix4, ix3]; try omega)
  | ⟨3, _⟩ => rfl

theorem v_index (b : Fin 16) (d : Fin 1024) (t x : Fin 2048) :
    idx_main_v5 (lidx_main_v21 (idx_main_v22 (ix3 b d t)) x) = ix3 b d x := by
  refine funext fun a => ?_
  match a with
  | ⟨0, _⟩ => exact Fin.ext (by have := b.isLt; have := d.isLt; have := t.isLt; have := x.isLt; simp [idx_main_v5, lidx_main_v21, idx_main_v22, ix4, ix3]; try omega)
  | ⟨1, _⟩ => exact Fin.ext (by have := b.isLt; have := d.isLt; have := t.isLt; have := x.isLt; simp [idx_main_v5, lidx_main_v21, idx_main_v22, ix4, ix3]; try omega)
  | ⟨2, _⟩ => exact Fin.ext (by have := b.isLt; have := d.isLt; have := t.isLt; have := x.isLt; simp [idx_main_v5, lidx_main_v21, idx_main_v22, ix4, ix3]; try omega)

/-- The plain attention at a place: the values weighted by their shares. -/
theorem value_apply (b : Fin 16) (d : Fin 1024) (t : Fin 2048) : val_main_v23 (F := Ideal) q k v (ix3 b d t)
    = ∑ x : Fin 2048, (v (ix3 b d x) : EReal) * val_main_v20 (F := Ideal) q k (ix4 b ⟨d.val / 64, by omega⟩ t x) := by
  rw [val_main_v23_apply, val_main_v22_apply, val_main_v21_apply]
  refine Finset.sum_congr rfl fun x _ => ?_
  rw [p_index, val_main_v5_apply, v_index, val_main_v4_apply]
  rfl

end Cert.AttnReference

end
-- ==== Proof.AttnClaims.lean ====
/- The claims about the attention: the two results agree where queries and keys are finite. -/
module

public import proofs.«01_k».proof.Defs
public import proofs.«01_k».proof.Proof.Softmax
public import proofs.«01_k».proof.Proof.AttnReference
public import proofs.«01_k».proof.Proof.Gen.Attn.Frame
public import proofs.«01_k».proof.Proof.Gen.AttnRefIdeal.Run
public import proofs.«01_k».proof.Proof.Gen.Pre_finite_qk

@[expose] public section

set_option maxRecDepth 16384

noncomputable section

namespace Cert.AttnClaims

open Idealize.ShloMosaic Idealize.SL.Sem

/-- A number whose absolute value is below infinity is real. -/
theorem real_of_abs_lt {x : EReal} (h : max x (-x) < ⊤) : ∃ r : ℝ, x = r := by
  induction x using EReal.rec with
  | bot => simp at h
  | top => simp at h
  | coe r => exact ⟨r, rfl⟩

theorem ofBits_inf32 : Ideal.ofBits .f32 0x7F800000#32 = (⊤ : EReal) := by simp [Ideal.ofBits, Ideal.ieee]

/-- What a one of the finiteness test says. -/
theorem real_of_cmp {x : EReal} (h : Ideal.cmp .olt (max x (-x)) (Ideal.ofBits .f32 0x7F800000#32) = 1#1) : ∃ r : ℝ, x = r := by
  rw [ofBits_inf32] at h
  refine real_of_abs_lt ?_
  by_contra hn
  simp [Ideal.cmp, hn] at h

/-- The precondition read: queries and keys are real. -/
theorem real_of_pre (m : (ℓ : Loc Cert.AttnIdeal.nD Cert.AttnIdeal.τ Cert.AttnIdeal.sig) → Buf (Elt Ideal) ℓ)
    (h : Cert.Pre_AttnIdeal_finite_qk m) (c : Dev Cert.AttnIdeal.nD) :
    (∀ i, ∃ r : ℝ, m ((c.tc : Thread Cert.AttnIdeal.nD Cert.AttnIdeal.τ).loc Cert.AttnIdeal.main_arg0) i = (r : EReal))
    ∧ ∀ i, ∃ r : ℝ, m ((c.tc : Thread Cert.AttnIdeal.nD Cert.AttnIdeal.τ).loc Cert.AttnIdeal.main_arg1) i = (r : EReal) :=
  ⟨fun i => real_of_cmp (congrFun (h c).1 i), fun i => real_of_cmp (congrFun (h c).2 i)⟩

/-- Where queries and keys are real, the kernel's attention is the plain one. -/
theorem attn_eq (q k : (⟨Cert.AttnRefIdeal.S16x2048x2048, .bf16⟩ : BufTy).Contents (Elt Ideal))
    (v : (⟨Cert.AttnRefIdeal.S16x1024x2048, .bf16⟩ : BufTy).Contents (Elt Ideal))
    (hq : ∀ i, ∃ r : ℝ, q i = (r : EReal)) (hk : ∀ i, ∃ r : ℝ, k i = (r : EReal)) :
    AttnArray.attn q k v = Cert.AttnRefIdeal.Read.val_main_v23 (F := Ideal) q k v := by
  choose rq hq using hq
  choose rk hk using hk
  funext i
  rw [eq_ix3 i]
  obtain ⟨b, hb⟩ : ∃ b : Fin 16, b = i 0 := ⟨_, rfl⟩
  obtain ⟨d, hd⟩ : ∃ d : Fin 1024, d = i 1 := ⟨_, rfl⟩
  obtain ⟨t, ht⟩ : ∃ t : Fin 2048, t = i 2 := ⟨_, rfl⟩
  rw [← hb, ← hd, ← ht]
  refine Eq.trans ?_ (AttnReference.value_apply q k v b d t).symm
  simp only [AttnReference.share_apply]
  have hs : ∀ x, AttnReference.score q k b ⟨d.val / 64, by omega⟩ t x
      = ((∑ c : Fin 128, rk (ix3 b x ⟨d.val / 64 * 128 + c.val, by omega⟩) * rq (ix3 b t ⟨d.val / 64 * 128 + c.val, by omega⟩) : ℝ) : EReal) := fun x => by
    unfold AttnReference.score
    rw [← Softmax.coe_sum]
    exact Finset.sum_congr rfl fun c _ => by rw [hk, hq, EReal.coe_mul]
  simp only [hs]
  refine Eq.trans ?_ (Softmax.meanOf_eq _ _)
  show AttnBlock.meanOf (fun x => AttnReference.score q k b ⟨d.val / 64, by omega⟩ t x) (fun x => v (ix3 b d x)) = _
  simp only [hs]

theorem frame : Cert.quiescent_Attn := fun m ρ _ => Cert.Attn.Gen.frame m ρ

theorem frame_ideal : Cert.quiescent_AttnIdeal := fun m ρ _ => Cert.AttnIdeal.Gen.frame m ρ

theorem frame_ideal_pre : Cert.quiescent_AttnIdeal_pre_finite_qk := fun m ρ _ => Cert.AttnIdeal.Gen.frame m ρ

theorem frame_ref : Cert.quiescent_AttnRefIdeal := fun m ρ _ =>
  (θ_run Cert.AttnRefIdeal.defs _ _).mono (fun r h => ⟨fun c => (h c).2, sem_eq_zero_of_no_sems (by decide) r.2⟩)
    (Cert.AttnRefIdeal.Value.run (F := Ideal) m ρ)

theorem frame_ref_pre : Cert.quiescent_AttnRefIdeal_pre_finite_qk := fun m ρ _ => frame_ref m ρ trivial

theorem preserves : Cert.preserves_Attn_AttnIdeal := trivial

theorem algebraic : Cert.algebraic_AttnIdeal_AttnRefIdeal_pre_finite_qk := by
  intro m ρ m' ρ' hpre hagree
  refine ⟨fun c => (Cert.AttnIdeal.Gen.dats m 0 c).arrAt 3 Cert.AttnIdeal.cfg0.N, Cert.AttnIdeal.Value.run_blocks m ρ, ?_⟩
  have e : ∀ c : Dev Cert.AttnIdeal.nD, Cert.AttnRefIdeal.Read.val_main_v23 (F := Ideal)
      (m' ((c.tc : Thread Cert.AttnRefIdeal.nD Cert.AttnRefIdeal.τ).loc Cert.AttnRefIdeal.main_arg0))
      (m' ((c.tc : Thread Cert.AttnRefIdeal.nD Cert.AttnRefIdeal.τ).loc Cert.AttnRefIdeal.main_arg1))
      (m' ((c.tc : Thread Cert.AttnRefIdeal.nD Cert.AttnRefIdeal.τ).loc Cert.AttnRefIdeal.main_arg2))
      = (Cert.AttnIdeal.Gen.dats m 0 c).arrAt 3 Cert.AttnIdeal.cfg0.N := fun c => by
    rw [(hagree c).1, (hagree c).2.1, (hagree c).2.2]
    exact ((AttnArray.final m c).trans (attn_eq _ _ _ (real_of_pre m hpre c).1 (real_of_pre m hpre c).2)).symm
  exact (θ_run Cert.AttnRefIdeal.defs _ _).mono
    (fun _ h c => ⟨(h c).1.trans ((Cert.AttnRefIdeal.Read.val_main_v23_eq _ _ _).trans (e c)), (h c).2⟩)
    (Cert.AttnRefIdeal.Value.run (F := Ideal) m' ρ')

end Cert.AttnClaims

end
-- ==== Proof.Swiglu.lean ====
/- Sums over hidden units, whole and in chunks of 256. -/
module

public import Idealize.ShloMosaic.Lib.Pointwise
public import Idealize.ShloMosaic.Lib.Pipeline.Value
public import Idealize.ShloMosaic.Lib.Pipeline.FrameBody

@[expose] public section

noncomputable section

namespace Cert.Swiglu

open Idealize.ShloMosaic

/-- What one hidden unit adds: its gate `g` through silu, its up value `u`, and its weight `d` on the way down. -/
def hidden (g u d : EReal) : EReal := g * Ideal.logistic g * u * d

/-- A sum over `n` chunks of 256. -/
theorem sum_chunks (n : ℕ) (f : Fin (n * 256) → EReal) :
    ∑ k, f k = ∑ j : Fin n, ∑ k : Fin 256, f ⟨256 * j.val + k.val, by omega⟩ := by
  rw [← Fintype.sum_prod_type' (f := fun (j : Fin n) (k : Fin 256) => f ⟨256 * j.val + k.val, by omega⟩)]
  refine (Fintype.sum_equiv finProdFinEquiv _ _ fun p => congrArg f (Fin.ext ?_)).symm
  show 256 * p.1.val + p.2.val = p.2.val + 256 * p.1.val
  omega

/-- A load of part of a block, read at an index. -/
theorem ld_at {S : Shape} {e : EltTy} {off size : Fin S.rank → Nat} {inb : ∀ a, off a + size a ≤ S.size a}
    (X : S.Idx → Elt Ideal e) (y : (Rect.unit off size inb).shape.Idx) (z : S.Idx) (h : ∀ a, off a + (y a).val = (z a).val) :
    View.ld X (Rect.unit off size inb) y = X z :=
  congrArg X (funext fun a => Fin.ext ((congrArg (off a + ·) (Nat.one_mul (y a).val)).trans (h a)))

end Cert.Swiglu

end
-- ==== Proof.DenseBlock.lean ====
/- What the dense channel mixer leaves in a block of its result, as a function of the blocks it reads. -/
module

public import proofs.«01_k».proof.Proof.Swiglu
public import Idealize.ShloMosaic.Lib.Pipeline.ValueKit
public import proofs.«01_k».proof.Proof.Gen.DenseIdeal.Value

@[expose] public section

set_option maxRecDepth 16384

noncomputable section

namespace Cert.DenseBlock

open Cert.DenseIdeal Cert.DenseIdeal.Gen Cert.Swiglu Idealize.ShloMosaic Idealize.ShloMosaic.TcCoe Idealize.SL.Sem

/-- One chunk of hidden units: its gate and up products, and their product sent down. -/
def chunk (h : FVec Ideal S512x1024 .bf16) (wg wu : FVec Ideal S1024x256 .bf16) (wd : FVec Ideal S256x1024 .bf16) : FVec Ideal S512x1024 .f32 :=
  let g := matmul dot_S512x1024_S1024x256_S512x256_1_0_0_1_n_n none h wg (constant S512x256 .f32 0x00000000#32)
  let u := matmul dot_S512x1024_S1024x256_S512x256_1_0_0_1_n_n none h wu (constant S512x256 .f32 0x00000000#32)
  matmul dot_S512x256_S256x1024_S512x1024_1_0_0_1_n_n none (truncf .bf16 (mulf (mulf g (logistic g)) u) bitsLt_bf16_f32) wd (constant S512x1024 .f32 0x00000000#32)

/-- The eleven chunks added up, from the normalised rows and the three weight blocks. -/
def total (h : Vec Ideal S512x1024 .bf16) (x2 x3 : Vec Ideal S1024x2816 .bf16) (x4 : Vec Ideal S2816x1024 .bf16) : FVec Ideal S512x1024 .f32 :=
  addf (addf (addf (addf (addf (addf (addf (addf (addf (addf (chunk h (View.ld x2 (Rect.unit ![0, 0] S1024x256.size inb_S1024x2816_S1024x256_0_0)) (View.ld x3 (Rect.unit ![0, 0] S1024x256.size inb_S1024x2816_S1024x256_0_0)) (View.ld x4 (Rect.unit ![0, 0] S256x1024.size inb_S2816x1024_S256x1024_0_0)))
      (chunk h (View.ld x2 (Rect.unit ![0, 256] S1024x256.size inb_S1024x2816_S1024x256_0_256)) (View.ld x3 (Rect.unit ![0, 256] S1024x256.size inb_S1024x2816_S1024x256_0_256)) (View.ld x4 (Rect.unit ![256, 0] S256x1024.size inb_S2816x1024_S256x1024_256_0))))
      (chunk h (View.ld x2 (Rect.unit ![0, 512] S1024x256.size inb_S1024x2816_S1024x256_0_512)) (View.ld x3 (Rect.unit ![0, 512] S1024x256.size inb_S1024x2816_S1024x256_0_512)) (View.ld x4 (Rect.unit ![512, 0] S256x1024.size inb_S2816x1024_S256x1024_512_0))))
      (chunk h (View.ld x2 (Rect.unit ![0, 768] S1024x256.size inb_S1024x2816_S1024x256_0_768)) (View.ld x3 (Rect.unit ![0, 768] S1024x256.size inb_S1024x2816_S1024x256_0_768)) (View.ld x4 (Rect.unit ![768, 0] S256x1024.size inb_S2816x1024_S256x1024_768_0))))
      (chunk h (View.ld x2 (Rect.unit ![0, 1024] S1024x256.size inb_S1024x2816_S1024x256_0_1024)) (View.ld x3 (Rect.unit ![0, 1024] S1024x256.size inb_S1024x2816_S1024x256_0_1024)) (View.ld x4 (Rect.unit ![1024, 0] S256x1024.size inb_S2816x1024_S256x1024_1024_0))))
      (chunk h (View.ld x2 (Rect.unit ![0, 1280] S1024x256.size inb_S1024x2816_S1024x256_0_1280)) (View.ld x3 (Rect.unit ![0, 1280] S1024x256.size inb_S1024x2816_S1024x256_0_1280)) (View.ld x4 (Rect.unit ![1280, 0] S256x1024.size inb_S2816x1024_S256x1024_1280_0))))
      (chunk h (View.ld x2 (Rect.unit ![0, 1536] S1024x256.size inb_S1024x2816_S1024x256_0_1536)) (View.ld x3 (Rect.unit ![0, 1536] S1024x256.size inb_S1024x2816_S1024x256_0_1536)) (View.ld x4 (Rect.unit ![1536, 0] S256x1024.size inb_S2816x1024_S256x1024_1536_0))))
      (chunk h (View.ld x2 (Rect.unit ![0, 1792] S1024x256.size inb_S1024x2816_S1024x256_0_1792)) (View.ld x3 (Rect.unit ![0, 1792] S1024x256.size inb_S1024x2816_S1024x256_0_1792)) (View.ld x4 (Rect.unit ![1792, 0] S256x1024.size inb_S2816x1024_S256x1024_1792_0))))
      (chunk h (View.ld x2 (Rect.unit ![0, 2048] S1024x256.size inb_S1024x2816_S1024x256_0_2048)) (View.ld x3 (Rect.unit ![0, 2048] S1024x256.size inb_S1024x2816_S1024x256_0_2048)) (View.ld x4 (Rect.unit ![2048, 0] S256x1024.size inb_S2816x1024_S256x1024_2048_0))))
      (chunk h (View.ld x2 (Rect.unit ![0, 2304] S1024x256.size inb_S1024x2816_S1024x256_0_2304)) (View.ld x3 (Rect.unit ![0, 2304] S1024x256.size inb_S1024x2816_S1024x256_0_2304)) (View.ld x4 (Rect.unit ![2304, 0] S256x1024.size inb_S2816x1024_S256x1024_2304_0))))
      (chunk h (View.ld x2 (Rect.unit ![0, 2560] S1024x256.size inb_S1024x2816_S1024x256_0_2560)) (View.ld x3 (Rect.unit ![0, 2560] S1024x256.size inb_S1024x2816_S1024x256_0_2560)) (View.ld x4 (Rect.unit ![2560, 0] S256x1024.size inb_S2816x1024_S256x1024_2560_0)))

theorem out_eq (c : Dev nD) (t : Fin cfg0.N) (x0 : Vec Ideal S512x1024 .f32) (x1 : Vec Ideal S1x1024 .f32) (x2 : Vec Ideal S1024x2816 .bf16)
    (x3 : Vec Ideal S1024x2816 .bf16) (x4 : Vec Ideal S2816x1024 .bf16) :
    out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _)
      (hcond0_0 t) (hcond0_1 t) x0 x1 x2 x3 x4
      = k0_pay1 x0 (shapeCast S512x1024 (addf k0_pay3 (total (k0_pay2 x0 x1) x2 x3 x4)) shapeCasts_S512x1024_S512x1024) := by
  unfold out0_A_5
  rw [View.read_writes_eq_canon VO0_5 _ _ (cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _)
      (hcond0_0 t) (hcond0_1 t) x0 x1 x2 x3 x4)]
  unfold kernelRun0_A
  dsimp only
  sl_unfold_words
  simp (disch := decide) only [View.canon_cons_unit_lit', View.ld_unit_lit', View.readCov_unit_lit', View.readCov_cons_unit_lit', View.readAt_eq_ld, Memref.IsWhole.read_unread]
  simp only [total, chunk, k0_pay4, k0_pay5, k0_pay6, k0_pay7, k0_pay8, k0_pay9, k0_pay10]

/-- A row of the block, normalised and scaled. -/
def normed (x : Fin 1024 → EReal) (g : Fin 1024 → EReal) (n : Fin 1024) : EReal :=
  x n * Ideal.rsqrt (Ideal.div (∑ l, x l * x l) (Ideal.ofBits .f32 0x44800000#32) + Ideal.ofBits .f32 0x358637BD#32) * g n

theorem normed_apply (x : Vec Ideal S512x1024 .f32) (g : Vec Ideal S1x1024 .f32) (r : Fin 512) (n : Fin 1024) :
    k0_pay2 (F := Ideal) x g (ix2 r n) = normed (fun l => x (ix2 r l)) (fun l => g (ix2 0 l)) n := by
  pointwise [k0_pay2]
  rfl

theorem chunk_apply (h : FVec Ideal S512x1024 .bf16) (wg wu : FVec Ideal S1024x256 .bf16) (wd : FVec Ideal S256x1024 .bf16) (r : Fin 512) (n : Fin 1024) :
    chunk h wg wu wd (ix2 r n)
      = ∑ k : Fin 256, hidden (∑ l : Fin 1024, h (ix2 r l) * wg (ix2 l k)) (∑ l : Fin 1024, h (ix2 r l) * wu (ix2 l k)) (wd (ix2 k n)) := by
  pointwise [chunk]
  rfl

/-- What hidden unit `k` adds to entry `(r, n)`. -/
def unitAt (h : Vec Ideal S512x1024 .bf16) (x2 x3 : Vec Ideal S1024x2816 .bf16) (x4 : Vec Ideal S2816x1024 .bf16) (r : Fin 512) (n : Fin 1024)
    (k : Fin 2816) : EReal :=
  hidden (∑ l : Fin 1024, h (ix2 r l) * x2 (ix2 l k)) (∑ l : Fin 1024, h (ix2 r l) * x3 (ix2 l k)) (x4 (ix2 k n))

theorem chunk_ld (h : Vec Ideal S512x1024 .bf16) (x2 x3 : Vec Ideal S1024x2816 .bf16) (x4 : Vec Ideal S2816x1024 .bf16) (r : Fin 512) (n : Fin 1024)
    (o : ℕ) (ho : o + 256 ≤ 2816) (i2 : ∀ a, (![0, o] : Fin 2 → ℕ) a + S1024x256.size a ≤ S1024x2816.size a)
    (i4 : ∀ a, (![o, 0] : Fin 2 → ℕ) a + S256x1024.size a ≤ S2816x1024.size a) :
    chunk h (View.ld x2 (Rect.unit ![0, o] S1024x256.size i2)) (View.ld x3 (Rect.unit ![0, o] S1024x256.size i2)) (View.ld x4 (Rect.unit ![o, 0] S256x1024.size i4)) (ix2 r n)
      = ∑ k : Fin 256, unitAt h x2 x3 x4 r n ⟨o + k.val, by omega⟩ := by
  rw [chunk_apply]
  have e : ∀ (X : Vec Ideal S1024x2816 .bf16) (l : Fin 1024) (k : Fin 256),
      View.ld X (Rect.unit ![0, o] S1024x256.size i2) (ix2 l k) = X (ix2 l ⟨o + k.val, by omega⟩) := fun X l k =>
    ld_at X (ix2 l k) (ix2 l ⟨o + k.val, by omega⟩) (fun a => match a with | ⟨0, _⟩ => Nat.zero_add _ | ⟨1, _⟩ => rfl)
  have e' : ∀ k : Fin 256, View.ld x4 (Rect.unit ![o, 0] S256x1024.size i4) (ix2 k n) = x4 (ix2 ⟨o + k.val, by omega⟩ n) := fun k =>
    ld_at x4 (ix2 k n) (ix2 ⟨o + k.val, by omega⟩ n) (fun a => match a with | ⟨0, _⟩ => rfl | ⟨1, _⟩ => Nat.zero_add _)
  refine Finset.sum_congr rfl fun k _ => ?_
  unfold unitAt
  rw [e' k]
  exact congrArg₂ (fun a b => hidden a b _) (Finset.sum_congr rfl fun l _ => by rw [e x2 l k]) (Finset.sum_congr rfl fun l _ => by rw [e x3 l k])

theorem total_apply (h : Vec Ideal S512x1024 .bf16) (x2 x3 : Vec Ideal S1024x2816 .bf16) (x4 : Vec Ideal S2816x1024 .bf16) (r : Fin 512) (n : Fin 1024) :
    total h x2 x3 x4 (ix2 r n) = ∑ k : Fin 2816, unitAt h x2 x3 x4 r n k := by
  rw [sum_chunks 11 (unitAt h x2 x3 x4 r n)]
  unfold total
  have e11 : ∀ g : Fin 11 → EReal, ∑ j, g j = g 0 + g 1 + g 2 + g 3 + g 4 + g 5 + g 6 + g 7 + g 8 + g 9 + g 10 := fun g => by
    simp only [Fin.sum_univ_castSucc, Fin.sum_univ_zero, zero_add]
    rfl
  rw [e11]
  simp only [addf_apply]
  rw [chunk_ld h x2 x3 x4 r n 0 (by omega), chunk_ld h x2 x3 x4 r n 256 (by omega), chunk_ld h x2 x3 x4 r n 512 (by omega), chunk_ld h x2 x3 x4 r n 768 (by omega), chunk_ld h x2 x3 x4 r n 1024 (by omega), chunk_ld h x2 x3 x4 r n 1280 (by omega), chunk_ld h x2 x3 x4 r n 1536 (by omega), chunk_ld h x2 x3 x4 r n 1792 (by omega), chunk_ld h x2 x3 x4 r n 2048 (by omega), chunk_ld h x2 x3 x4 r n 2304 (by omega), chunk_ld h x2 x3 x4 r n 2560 (by omega)]
  rfl

end Cert.DenseBlock

end
-- ==== Proof.DenseArray.lean ====
/- The dense channel mixer's result array, entry by entry, from the four argument arrays. -/
module

public import proofs.«01_k».proof.Proof.DenseBlock

@[expose] public section

set_option maxRecDepth 16384

noncomputable section

namespace Cert.DenseArray

open Cert.DenseIdeal Cert.DenseIdeal.Gen Cert.DenseBlock Cert.Swiglu Idealize.ShloMosaic Idealize.ShloMosaic.TcCoe Idealize.SL.Sem

/-- The result: entry `(r, n)` is the row's own entry and what the 2816 hidden units of the normalised row add. -/
def mixed (x : Vec Ideal S32768x1024 .f32) (g : Vec Ideal S1024 .f32) (w13 : Vec Ideal S1024x5632 .bf16) (w2 : Vec Ideal S2816x1024 .bf16)
    (r : Fin 32768) (n : Fin 1024) : EReal :=
  x (ix2 r n) + ∑ k : Fin 2816, hidden
    (∑ l : Fin 1024, normed (fun l => x (ix2 r l)) (fun l => g (ix1 l)) l * w13 (ix2 l ⟨k.val, by omega⟩))
    (∑ l : Fin 1024, normed (fun l => x (ix2 r l)) (fun l => g (ix1 l)) l * w13 (ix2 l ⟨2816 + k.val, by omega⟩))
    (w2 (ix2 k n))

/-- The output's block `(i, 0)` is made of block `(i, 0)` of the rows and of the whole of the other arrays' halves. -/
theorem index_rel (t : Fin cfg0.N) :
    (win0_0.index t 0 = win0_5.index t 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 1)
    ∧ (win0_4.index t 0 = 0 ∧ win0_4.index t 1 = 0) ∧ win0_5.index t 1 = 0 :=
  by revert t; decide +kernel

variable (m : (ℓ : Loc nD τ sig) → Buf (Elt Ideal) ℓ)

/-- The scale as a row, when the kernel is entered. -/
theorem scale_row (c : Dev nD) (l : Fin 1024) : V m c main_v0 (ix2 (0 : Fin 1) l) = m ((c : Thread nD τ).loc main_arg1) (ix1 l) := by
  have e : V m c main_v0 = shapeCast S1x1024 (m ((c : Thread nD τ).loc main_arg1)) shapeCasts_S1024_S1x1024 := by
    show StableHlo.after hostOps0 _ (Proc.devRef .tc main_v0) = _
    after_results
    rfl
  rw [e]
  generalize m ((c : Thread nD τ).loc main_arg1) = z
  pointwise

theorem iblk0_apply (c : Dev nD) (t : Fin cfg0.N) (y0 : Fin 512) (y1 : Fin 1024) (z0 : Fin 32768) (z1 : Fin 1024)
    (h0 : win0_0.index t 0 * 512 + y0.val = z0.val) (h1 : win0_0.index t 1 * 1024 + y1.val = z1.val) :
    iblk m c 0 t (ix2 y0 y1) = m ((c : Thread nD τ).loc main_arg0) (ix2 z0 z1) :=
  congrArg (m ((c : Thread nD τ).loc main_arg0)) (funext fun a => Fin.ext ((win0_0.rect_emb_val t (ix2 y0 y1) a).trans
    (match a with | ⟨0, _⟩ => h0 | ⟨1, _⟩ => h1)))

theorem iblk1_apply (c : Dev nD) (t : Fin cfg0.N) (l : Fin 1024) (h0 : win0_1.index t 0 = 0) (h1 : win0_1.index t 1 = 0) :
    iblk m c 1 t (ix2 (0 : Fin 1) l) = m ((c : Thread nD τ).loc main_arg1) (ix1 l) :=
  (congrArg (V m c main_v0) (funext fun a => Fin.ext ((win0_1.rect_emb_val t (ix2 (0 : Fin 1) l) a).trans
    (match a with
      | ⟨0, _⟩ => (by show win0_1.index t 0 * 1 + 0 = 0; omega)
      | ⟨1, _⟩ => (by show win0_1.index t 1 * 1024 + l.val = l.val; omega)))) :
      V m c main_v0 (((cfg0.win 1).blk t).view.emb (ix2 (0 : Fin 1) l)) = V m c main_v0 (ix2 (0 : Fin 1) l)).trans (scale_row m c l)

theorem iblk2_apply (c : Dev nD) (t : Fin cfg0.N) (y0 : Fin 1024) (y1 : Fin 2816) (z0 : Fin 1024) (z1 : Fin 5632)
    (h0 : win0_2.index t 0 * 1024 + y0.val = z0.val) (h1 : win0_2.index t 1 * 2816 + y1.val = z1.val) :
    iblk m c 2 t (ix2 y0 y1) = m ((c : Thread nD τ).loc main_arg2) (ix2 z0 z1) :=
  congrArg (m ((c : Thread nD τ).loc main_arg2)) (funext fun a => Fin.ext ((win0_2.rect_emb_val t (ix2 y0 y1) a).trans
    (match a with | ⟨0, _⟩ => h0 | ⟨1, _⟩ => h1)))

theorem iblk3_apply (c : Dev nD) (t : Fin cfg0.N) (y0 : Fin 1024) (y1 : Fin 2816) (z0 : Fin 1024) (z1 : Fin 5632)
    (h0 : win0_3.index t 0 * 1024 + y0.val = z0.val) (h1 : win0_3.index t 1 * 2816 + y1.val = z1.val) :
    iblk m c 3 t (ix2 y0 y1) = m ((c : Thread nD τ).loc main_arg2) (ix2 z0 z1) :=
  congrArg (m ((c : Thread nD τ).loc main_arg2)) (funext fun a => Fin.ext ((win0_3.rect_emb_val t (ix2 y0 y1) a).trans
    (match a with | ⟨0, _⟩ => h0 | ⟨1, _⟩ => h1)))

theorem iblk4_apply (c : Dev nD) (t : Fin cfg0.N) (y0 : Fin 2816) (y1 : Fin 1024) (z0 : Fin 2816) (z1 : Fin 1024)
    (h0 : win0_4.index t 0 * 2816 + y0.val = z0.val) (h1 : win0_4.index t 1 * 1024 + y1.val = z1.val) :
    iblk m c 4 t (ix2 y0 y1) = m ((c : Thread nD τ).loc main_arg3) (ix2 z0 z1) :=
  congrArg (m ((c : Thread nD τ).loc main_arg3)) (funext fun a => Fin.ext ((win0_4.rect_emb_val t (ix2 y0 y1) a).trans
    (match a with | ⟨0, _⟩ => h0 | ⟨1, _⟩ => h1)))

/-- A place of an output block, from the input blocks. -/
def blockVal (x0 : Vec Ideal S512x1024 .f32) (x1 : Vec Ideal S1x1024 .f32) (x2 x3 : Vec Ideal S1024x2816 .bf16) (x4 : Vec Ideal S2816x1024 .bf16)
    (r : Fin 512) (n : Fin 1024) : EReal :=
  x0 (ix2 r n) + ∑ k : Fin 2816, unitAt (k0_pay2 x0 x1) x2 x3 x4 r n k

theorem last_apply (x0 : Vec Ideal S512x1024 .f32) (z : FVec Ideal S512x1024 .f32) (r : Fin 512) (n : Fin 1024) :
    k0_pay1 x0 (shapeCast S512x1024 (addf k0_pay3 z) shapeCasts_S512x1024_S512x1024) (ix2 r n) = x0 (ix2 r n) + z (ix2 r n) := by
  pointwise [k0_pay1, k0_pay3]
  try simp

/-- What point `t` leaves at a place of its block. -/
theorem out_apply (c : Dev nD) (t : Fin cfg0.N) (r : Fin 512) (n : Fin 1024) :
    outsAt0 m c t (ix2 r n) = blockVal (iblk m c 0 t) (iblk m c 1 t) (iblk m c 2 t) (iblk m c 3 t) (iblk m c 4 t) r n := by
  unfold outsAt0 blockVal
  rw [out_eq, last_apply, total_apply]

theorem final (c : Dev nD) : (dats m 0 c).arrAt 5 cfg0.N
    = fun i => mixed (m ((c : Thread nD τ).loc main_arg0)) (m ((c : Thread nD τ).loc main_arg1)) (m ((c : Thread nD τ).loc main_arg2))
        (m ((c : Thread nD τ).loc main_arg3)) (i 0) (i 1) := by
  refine (dats m 0 c).arrAt_eq_of_covers 5 _ (by decide +kernel) fun t hf y => ?_
  blk_simp
  rw [after0_5]
  obtain ⟨⟨a0, a1⟩, ⟨b0, b1⟩, ⟨c0, c1⟩, ⟨d0, d1⟩, ⟨f0, f1⟩, g1⟩ := index_rel t
  have e0 : ((win0_5.blk t).view.emb y 0).val = win0_5.index t 0 * 512 + (y 0).val := win0_5.rect_emb_val t y 0
  have e1 : ((win0_5.blk t).view.emb y 1).val = win0_5.index t 1 * 1024 + (y 1).val := win0_5.rect_emb_val t y 1
  generalize (win0_5.blk t).view.emb y = E at e0 e1 ⊢
  obtain ⟨r, hr⟩ : ∃ r : Fin 512, r = y 0 := ⟨_, rfl⟩
  obtain ⟨n, hn⟩ : ∃ n : Fin 1024, n = y 1 := ⟨_, rfl⟩
  obtain ⟨R, hR⟩ : ∃ R : Fin 32768, R = E 0 := ⟨_, rfl⟩
  obtain ⟨N, hN⟩ : ∃ N : Fin 1024, N = E 1 := ⟨_, rfl⟩
  rw [show y = ix2 r n from by rw [hr, hn]; exact eq_ix2 y, ← hR, ← hN, out_apply]
  rw [← hr, ← hR] at e0
  rw [← hn, ← hN] at e1
  have x : ∀ l : Fin 1024, iblk m c 0 t (ix2 r l) = m ((c : Thread nD τ).loc main_arg0) (ix2 R l) := fun l =>
    iblk0_apply m c t r l R l (by omega) (by omega)
  have hnN : n = N := Fin.ext (by omega)
  unfold blockVal mixed unitAt
  refine congrArg₂ (· + ·) ((x n).trans (by rw [hnN])) (Finset.sum_congr rfl fun k _ => ?_)
  have hh : ∀ l : Fin 1024, k0_pay2 (F := Ideal) (iblk m c 0 t) (iblk m c 1 t) (ix2 r l)
      = normed (fun l => m ((c : Thread nD τ).loc main_arg0) (ix2 R l)) (fun l => m ((c : Thread nD τ).loc main_arg1) (ix1 l)) l := fun l =>
    (normed_apply _ _ r l).trans (congrArg₂ (fun u v => normed u v l) (funext x) (funext fun l => iblk1_apply m c t l b0 b1))
  simp only [hh]
  rw [iblk4_apply m c t k n k N (by omega) (by omega)]
  refine congrArg₂ (fun a b => hidden a b _) (Finset.sum_congr rfl fun l _ => ?_) (Finset.sum_congr rfl fun l _ => ?_)
  · rw [iblk2_apply m c t l k l ⟨k.val, by omega⟩ (by omega) (by show _ = k.val; omega)]
  · rw [iblk3_apply m c t l k l ⟨2816 + k.val, by omega⟩ (by omega) (by show _ = 2816 + k.val; omega)]

end Cert.DenseArray

end
-- ==== Proof.DenseReference.lean ====
/- The plain dense channel mixer's result read at one of its places. -/
module

public import proofs.«01_k».proof.Proof.DenseArray
public import proofs.«01_k».proof.Proof.Gen.DenseRefIdeal.Read

@[expose] public section

set_option maxRecDepth 16384

noncomputable section

namespace Cert.DenseReference

open Idealize.ShloMosaic Cert.DenseRefIdeal Cert.DenseRefIdeal.Read Cert.Swiglu Cert.DenseBlock

variable (x : (⟨S32768x1024, .f32⟩ : BufTy).Contents (Elt Ideal)) (g : (⟨S1024, .f32⟩ : BufTy).Contents (Elt Ideal))
  (w13 : (⟨S1024x5632, .bf16⟩ : BufTy).Contents (Elt Ideal)) (w2 : (⟨S2816x1024, .bf16⟩ : BufTy).Contents (Elt Ideal))

/-- The mean of a row's squares. -/
theorem sumsq_apply (r : Fin 32768) : val_main_v1 (F := Ideal) x (ix1 r) = ∑ l : Fin 1024, (x (ix2 r l) : EReal) * x (ix2 r l) := by
  rw [val_main_v1_apply, val_main_cst_apply, Ideal.ofBits_def, Ideal.ofBits_zero_f32]
  refine (zero_add _).trans (Finset.sum_congr rfl fun l _ => ?_)
  rw [show idx_main_v1 (ix1 r) l = ix2 r l from by
      refine funext fun a => ?_
      match a with
      | ⟨0, _⟩ => rfl
      | ⟨1, _⟩ => rfl, val_main_v0_apply]
  rfl

/-- A normalised row. -/
theorem row_apply (r : Fin 32768) (l : Fin 1024) : val_main_v12 (F := Ideal) x g (ix2 r l)
    = normed (fun l => x (ix2 r l)) (fun l => g (ix1 l)) l := by
  simp only [val_main_v12_apply, val_main_v11_apply, val_main_v10_apply, val_main_v9_apply, val_main_v8_apply, val_main_v7_apply,
    val_main_v6_apply, val_main_v5_apply, val_main_cst_1_apply, val_main_v4_apply, val_main_v3_apply, val_main_cst_0_apply, val_main_v2_apply]
  rw [show idx_main_v2 (idx_main_v8 (ix2 r l)) = ix1 r from by
      refine funext fun a => ?_
      match a with
      | ⟨0, _⟩ => rfl,
    show idx_main_v10 (idx_main_v11 (ix2 r l)) = ix1 l from by
      refine funext fun a => ?_
      match a with
      | ⟨0, _⟩ => rfl, sumsq_apply]
  rfl

/-- A product of the normalised rows with a column of the first weights. -/
theorem up_apply (r : Fin 32768) (k : Fin 5632) : val_main_v15 (F := Ideal) x g w13 (ix2 r k)
    = ∑ l : Fin 1024, normed (fun l => x (ix2 r l)) (fun l => g (ix1 l)) l * w13 (ix2 l k) := by
  rw [val_main_v15_apply]
  refine Finset.sum_congr rfl fun l _ => ?_
  rw [show lidx_main_v15 (ix2 r k) l = ix2 r l from by
      refine funext fun a => ?_
      match a with
      | ⟨0, _⟩ => rfl
      | ⟨1, _⟩ => rfl,
    show ridx_main_v15 (ix2 r k) l = ix2 l k from by
      refine funext fun a => ?_
      match a with
      | ⟨0, _⟩ => rfl
      | ⟨1, _⟩ => rfl, row_apply, val_main_v13_apply]
  rfl

/-- A hidden unit before the way down. -/
theorem hidden_apply (r : Fin 32768) (k : Fin 2816) : val_main_v19 (F := Ideal) x g w13 (ix2 r k)
    = val_main_v15 (F := Ideal) x g w13 (ix2 r ⟨k.val, by omega⟩) * Ideal.logistic (val_main_v15 (F := Ideal) x g w13 (ix2 r ⟨k.val, by omega⟩))
      * val_main_v15 (F := Ideal) x g w13 (ix2 r ⟨2816 + k.val, by omega⟩) := by
  rw [val_main_v19_apply, val_main_v18_apply, val_main_call0_v5_apply, val_main_call0_v4_apply, val_main_call0_cst_0_apply, val_main_call0_v3_apply,
    val_main_call0_v2_apply, val_main_call0_cst_apply, val_main_call0_v1_apply, val_main_call0_v0_apply, val_main_v16_apply, val_main_v17_apply,
    show idx_main_v16 (ix2 r k) = ix2 r ⟨k.val, by omega⟩ from by
      refine funext fun a => ?_
      match a with
      | ⟨0, _⟩ => rfl
      | ⟨1, _⟩ => rfl,
    show idx_main_v17 (ix2 r k) = ix2 r ⟨2816 + k.val, by omega⟩ from by
      refine funext fun a => ?_
      match a with
      | ⟨0, _⟩ => rfl
      | ⟨1, _⟩ => rfl, Ideal.ofBits_def, Ideal.ofBits_one_f32]
  rfl

/-- The plain mixer at a place. -/
theorem value_apply (r : Fin 32768) (n : Fin 1024) : val_main_v21 (F := Ideal) x g w13 w2 (ix2 r n)
    = DenseArray.mixed x g w13 w2 r n := by
  rw [val_main_v21_apply, val_main_v20_apply]
  unfold DenseArray.mixed Swiglu.hidden
  refine congrArg (x (ix2 r n) + ·) (Finset.sum_congr rfl fun k _ => ?_)
  rw [show lidx_main_v20 (ix2 r n) k = ix2 r k from by
      refine funext fun a => ?_
      match a with
      | ⟨0, _⟩ => rfl
      | ⟨1, _⟩ => rfl,
    show ridx_main_v20 (ix2 r n) k = ix2 k n from by
      refine funext fun a => ?_
      match a with
      | ⟨0, _⟩ => rfl
      | ⟨1, _⟩ => rfl, hidden_apply, up_apply, up_apply, val_main_v14_apply]
  rfl

end Cert.DenseReference

end
-- ==== Proof.DenseClaims.lean ====
/- The claims about the dense channel mixer: the two results agree. -/
module

public import proofs.«01_k».proof.Defs
public import proofs.«01_k».proof.Proof.DenseReference
public import proofs.«01_k».proof.Proof.Gen.Dense.Frame
public import proofs.«01_k».proof.Proof.Gen.DenseRefIdeal.Run

@[expose] public section

set_option maxRecDepth 16384

noncomputable section

namespace Cert.DenseClaims

open Idealize.ShloMosaic Idealize.SL.Sem

theorem frame : Cert.quiescent_Dense := fun m ρ _ => Cert.Dense.Gen.frame m ρ

theorem frame_ideal : Cert.quiescent_DenseIdeal := fun m ρ _ => Cert.DenseIdeal.Gen.frame m ρ

theorem frame_ref : Cert.quiescent_DenseRefIdeal := fun m ρ _ =>
  (θ_run Cert.DenseRefIdeal.defs _ _).mono (fun r h => ⟨fun c => (h c).2, sem_eq_zero_of_no_sems (by decide) r.2⟩)
    (Cert.DenseRefIdeal.Value.run (F := Ideal) m ρ)

theorem preserves : Cert.preserves_Dense_DenseIdeal := trivial

/-- The kernel's entries are the plain mixer's. -/
theorem mixed_eq (x : (⟨Cert.DenseRefIdeal.S32768x1024, .f32⟩ : BufTy).Contents (Elt Ideal))
    (g : (⟨Cert.DenseRefIdeal.S1024, .f32⟩ : BufTy).Contents (Elt Ideal))
    (w13 : (⟨Cert.DenseRefIdeal.S1024x5632, .bf16⟩ : BufTy).Contents (Elt Ideal))
    (w2 : (⟨Cert.DenseRefIdeal.S2816x1024, .bf16⟩ : BufTy).Contents (Elt Ideal)) :
    (fun i => DenseArray.mixed x g w13 w2 (i 0) (i 1)) = Cert.DenseRefIdeal.Read.val_main_v21 (F := Ideal) x g w13 w2 := by
  funext i
  refine Eq.trans ?_ (congrArg (Cert.DenseRefIdeal.Read.val_main_v21 (F := Ideal) x g w13 w2) (eq_ix2 i)).symm
  exact (DenseReference.value_apply x g w13 w2 (i 0) (i 1)).symm

theorem algebraic : Cert.algebraic_DenseIdeal_DenseRefIdeal := by
  intro m ρ m' ρ' _ hagree
  refine ⟨fun c => (Cert.DenseIdeal.Gen.dats m 0 c).arrAt 5 Cert.DenseIdeal.cfg0.N, Cert.DenseIdeal.Value.run_blocks m ρ, ?_⟩
  have e : ∀ c : Dev Cert.DenseIdeal.nD, Cert.DenseRefIdeal.Read.val_main_v21 (F := Ideal)
      (m' ((c.tc : Thread Cert.DenseRefIdeal.nD Cert.DenseRefIdeal.τ).loc Cert.DenseRefIdeal.main_arg0))
      (m' ((c.tc : Thread Cert.DenseRefIdeal.nD Cert.DenseRefIdeal.τ).loc Cert.DenseRefIdeal.main_arg1))
      (m' ((c.tc : Thread Cert.DenseRefIdeal.nD Cert.DenseRefIdeal.τ).loc Cert.DenseRefIdeal.main_arg2))
      (m' ((c.tc : Thread Cert.DenseRefIdeal.nD Cert.DenseRefIdeal.τ).loc Cert.DenseRefIdeal.main_arg3))
      = (Cert.DenseIdeal.Gen.dats m 0 c).arrAt 5 Cert.DenseIdeal.cfg0.N := fun c => by
    rw [(hagree c).1, (hagree c).2.1, (hagree c).2.2.1, (hagree c).2.2.2]
    exact ((DenseArray.final m c).trans (mixed_eq _ _ _ _)).symm
  exact (θ_run Cert.DenseRefIdeal.defs _ _).mono
    (fun _ h c => ⟨(h c).1.trans ((Cert.DenseRefIdeal.Read.val_main_v21_eq _ _ _ _).trans (e c)), (h c).2⟩)
    (Cert.DenseRefIdeal.Value.run (F := Ideal) m' ρ')

end Cert.DenseClaims

end
-- ==== Proof.ExpertStores.lean ====
/- What the body of the expert kernel stores, as functions of the blocks it reads. -/
module

public import proofs.«01_k».proof.Proof.ExpertRunA
public import proofs.«01_k».proof.Proof.ExpertRunB
public import proofs.«01_k».proof.Proof.ExpertRunC
public import proofs.«01_k».proof.Proof.ExpertRunD
public import Idealize.ShloMosaic.Lib.Pipeline.ValueKit

@[expose] public section

set_option maxRecDepth 16384

noncomputable section

namespace Cert.ExpertRun

open Cert.Expert Cert.Expert.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator after a step: `a` and seven chunks of hidden units of the rows `h`. -/
def step (h : Vec F S512x1024 .bf16) (a : Vec F S512x1024 .f32) (x1 x2 : Vec F S1x1024x1792 .bf16) (x3 : Vec F S1x1792x1024 .bf16) : FVec F S512x1024 .f32 :=
  k0_pay1 a h (k0_pay10 h (k0_pay8 h (k0_pay5 h (View.ld x1 (Rect.unit ![0, 0, 0] S1x1024x256.size inb_S1x1024x1792_S1x1024x256_0_0_0)) (View.ld x2 (Rect.unit ![0, 0, 0] S1x1024x256.size inb_S1x1024x1792_S1x1024x256_0_0_0)) (View.ld x3 (Rect.unit ![0, 0, 0] S1x256x1024.size inb_S1x1792x1024_S1x256x1024_0_0_0)))
      (k0_pay6 h (View.ld x1 (Rect.unit ![0, 0, 256] S1x1024x256.size inb_S1x1024x1792_S1x1024x256_0_0_256)) (View.ld x2 (Rect.unit ![0, 0, 256] S1x1024x256.size inb_S1x1024x1792_S1x1024x256_0_0_256))) (k0_pay7 (View.ld x3 (Rect.unit ![0, 256, 0] S1x256x1024.size inb_S1x1792x1024_S1x256x1024_0_256_0)))
      (View.ld x1 (Rect.unit ![0, 0, 512] S1x1024x256.size inb_S1x1024x1792_S1x1024x256_0_0_512)) (View.ld x2 (Rect.unit ![0, 0, 512] S1x1024x256.size inb_S1x1024x1792_S1x1024x256_0_0_512)) (View.ld x3 (Rect.unit ![0, 512, 0] S1x256x1024.size inb_S1x1792x1024_S1x256x1024_0_512_0))
      (View.ld x1 (Rect.unit ![0, 0, 768] S1x1024x256.size inb_S1x1024x1792_S1x1024x256_0_0_768)) (View.ld x2 (Rect.unit ![0, 0, 768] S1x1024x256.size inb_S1x1024x1792_S1x1024x256_0_0_768)) (View.ld x3 (Rect.unit ![0, 768, 0] S1x256x1024.size inb_S1x1792x1024_S1x256x1024_0_768_0))) (k0_pay9 (View.ld x1 (Rect.unit ![0, 0, 1024] S1x1024x256.size inb_S1x1024x1792_S1x1024x256_0_0_1024))) (View.ld x2 (Rect.unit ![0, 0, 1024] S1x1024x256.size inb_S1x1024x1792_S1x1024x256_0_0_1024)) (View.ld x3 (Rect.unit ![0, 1024, 0] S1x256x1024.size inb_S1x1792x1024_S1x256x1024_0_1024_0))
      (View.ld x1 (Rect.unit ![0, 0, 1280] S1x1024x256.size inb_S1x1024x1792_S1x1024x256_0_0_1280)) (View.ld x2 (Rect.unit ![0, 0, 1280] S1x1024x256.size inb_S1x1024x1792_S1x1024x256_0_0_1280)) (View.ld x3 (Rect.unit ![0, 1280, 0] S1x256x1024.size inb_S1x1792x1024_S1x256x1024_0_1280_0)))
    (k0_pay11 h (View.ld x1 (Rect.unit ![0, 0, 1536] S1x1024x256.size inb_S1x1024x1792_S1x1024x256_0_0_1536))) (k0_pay12 (View.ld x2 (Rect.unit ![0, 0, 1536] S1x1024x256.size inb_S1x1024x1792_S1x1024x256_0_0_1536))) (constant S512x256 .f32 0x00000000#32) (View.ld x3 (Rect.unit ![0, 1536, 0] S1x256x1024.size inb_S1x1792x1024_S1x256x1024_0_1536_0))

theorem coverA9 (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole)
    (x0 : Vec F S512x1024 .f32) (x1 : Vec F S1x1024x1792 .bf16) (x2 : Vec F S1x1024x1792 .bf16) (x3 : Vec F S1x1792x1024 .bf16) (xt0 : Tab (F := F) c teM) (xt1 : Tab (F := F) c usedM) (h0 : inUse (usedWord c xt1) i) (h1 : firstStep i) (h2 : ¬lastStep i) (h3 : ¬unusedLast (usedWord c xt1) i) (y : S512x1024.Idx) :
    ∃ pc ∈ (runA c i arg4 harg4 arg5 harg5 arg6 harg6 arg7 harg7 arg8 harg8 arg9 harg9 arg10 harg10 x0 x1 x2 x3 xt0 xt1 h0 h1 h2 h3).2.1, y ∈ pc.1.set :=
  View.cover_of_tiledL (runA c i arg4 harg4 arg5 harg5 arg6 harg6 arg7 harg7 arg8 harg8 arg9 harg9 arg10 harg10 x0 x1 x2 x3 xt0 xt1 h0 h1 h2 h3).2.1 S512x1024.size (by sl_kernel_rfl) y

theorem storedA9 (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole)
    (x0 : Vec F S512x1024 .f32) (x1 : Vec F S1x1024x1792 .bf16) (x2 : Vec F S1x1024x1792 .bf16) (x3 : Vec F S1x1792x1024 .bf16) (xt0 : Tab (F := F) c teM) (xt1 : Tab (F := F) c usedM) (h0 : inUse (usedWord c xt1) i) (h1 : firstStep i) (h2 : ¬lastStep i) (h3 : ¬unusedLast (usedWord c xt1) i) :
    View.canon (runA c i arg4 harg4 arg5 harg5 arg6 harg6 arg7 harg7 arg8 harg8 arg9 harg9 arg10 harg10 x0 x1 x2 x3 xt0 xt1 h0 h1 h2 h3).2.1 = k0_pay3 x0 := by
  unfold runA
  dsimp only
  sl_unfold_words
  simp (disch := decide) only [View.canon_cons_unit_lit', View.ld_unit_lit', View.readCov_unit_lit', View.readCov_cons_unit_lit', View.readAt_eq_ld, Memref.IsWhole.read_unread]
  try rfl

theorem coverA10 (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole)
    (x0 : Vec F S512x1024 .f32) (x1 : Vec F S1x1024x1792 .bf16) (x2 : Vec F S1x1024x1792 .bf16) (x3 : Vec F S1x1792x1024 .bf16) (xt0 : Tab (F := F) c teM) (xt1 : Tab (F := F) c usedM) (h0 : inUse (usedWord c xt1) i) (h1 : firstStep i) (h2 : ¬lastStep i) (h3 : ¬unusedLast (usedWord c xt1) i) (y : S512x1024.Idx) :
    ∃ pc ∈ (runA c i arg4 harg4 arg5 harg5 arg6 harg6 arg7 harg7 arg8 harg8 arg9 harg9 arg10 harg10 x0 x1 x2 x3 xt0 xt1 h0 h1 h2 h3).2.2.1, y ∈ pc.1.set :=
  View.cover_of_tiledL (runA c i arg4 harg4 arg5 harg5 arg6 harg6 arg7 harg7 arg8 harg8 arg9 harg9 arg10 harg10 x0 x1 x2 x3 xt0 xt1 h0 h1 h2 h3).2.2.1 S512x1024.size (by sl_kernel_rfl) y

theorem storedA10 (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole)
    (x0 : Vec F S512x1024 .f32) (x1 : Vec F S1x1024x1792 .bf16) (x2 : Vec F S1x1024x1792 .bf16) (x3 : Vec F S1x1792x1024 .bf16) (xt0 : Tab (F := F) c teM) (xt1 : Tab (F := F) c usedM) (h0 : inUse (usedWord c xt1) i) (h1 : firstStep i) (h2 : ¬lastStep i) (h3 : ¬unusedLast (usedWord c xt1) i) :
    View.canon (runA c i arg4 harg4 arg5 harg5 arg6 harg6 arg7 harg7 arg8 harg8 arg9 harg9 arg10 harg10 x0 x1 x2 x3 xt0 xt1 h0 h1 h2 h3).2.2.1 = step (k0_pay3 x0) k0_pay4 x1 x2 x3 := by
  unfold runA
  dsimp only
  sl_unfold_words
  simp (disch := decide) only [View.canon_cons_unit_lit', View.ld_unit_lit', View.readCov_unit_lit', View.readCov_cons_unit_lit', View.readAt_eq_ld, Memref.IsWhole.read_unread]
  try rfl

theorem coverB8 (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole)
    (x0 : Vec F S512x1024 .f32) (x1 : Vec F S1x1024x1792 .bf16) (x2 : Vec F S1x1024x1792 .bf16) (x3 : Vec F S1x1792x1024 .bf16) (xt0 : Tab (F := F) c teM) (xt1 : Tab (F := F) c usedM) (xs0 : Vec F S512x1024 .bf16) (xs1 : Vec F S512x1024 .f32) (h0 : inUse (usedWord c xt1) i) (h1 : ¬firstStep i) (h2 : lastStep i) (h3 : ¬unusedLast (usedWord c xt1) i) (y : S512x1024.Idx) :
    ∃ pc ∈ (runB c i arg4 harg4 arg5 harg5 arg6 harg6 arg7 harg7 arg8 harg8 arg9 harg9 arg10 harg10 x0 x1 x2 x3 xt0 xt1 xs0 xs1 h0 h1 h2 h3).1, y ∈ pc.1.set :=
  View.cover_of_tiledL (runB c i arg4 harg4 arg5 harg5 arg6 harg6 arg7 harg7 arg8 harg8 arg9 harg9 arg10 harg10 x0 x1 x2 x3 xt0 xt1 xs0 xs1 h0 h1 h2 h3).1 S512x1024.size (by sl_kernel_rfl) y

theorem storedB8 (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole)
    (x0 : Vec F S512x1024 .f32) (x1 : Vec F S1x1024x1792 .bf16) (x2 : Vec F S1x1024x1792 .bf16) (x3 : Vec F S1x1792x1024 .bf16) (xt0 : Tab (F := F) c teM) (xt1 : Tab (F := F) c usedM) (xs0 : Vec F S512x1024 .bf16) (xs1 : Vec F S512x1024 .f32) (h0 : inUse (usedWord c xt1) i) (h1 : ¬firstStep i) (h2 : lastStep i) (h3 : ¬unusedLast (usedWord c xt1) i) :
    View.canon (runB c i arg4 harg4 arg5 harg5 arg6 harg6 arg7 harg7 arg8 harg8 arg9 harg9 arg10 harg10 x0 x1 x2 x3 xt0 xt1 xs0 xs1 h0 h1 h2 h3).1 = step xs0 xs1 x1 x2 x3 := by
  unfold runB
  dsimp only
  sl_unfold_words
  simp (disch := decide) only [View.canon_cons_unit_lit', View.ld_unit_lit', View.readCov_unit_lit', View.readCov_cons_unit_lit', View.readAt_eq_ld, Memref.IsWhole.read_unread]
  try rfl

theorem coverB10 (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole)
    (x0 : Vec F S512x1024 .f32) (x1 : Vec F S1x1024x1792 .bf16) (x2 : Vec F S1x1024x1792 .bf16) (x3 : Vec F S1x1792x1024 .bf16) (xt0 : Tab (F := F) c teM) (xt1 : Tab (F := F) c usedM) (xs0 : Vec F S512x1024 .bf16) (xs1 : Vec F S512x1024 .f32) (h0 : inUse (usedWord c xt1) i) (h1 : ¬firstStep i) (h2 : lastStep i) (h3 : ¬unusedLast (usedWord c xt1) i) (y : S512x1024.Idx) :
    ∃ pc ∈ (runB c i arg4 harg4 arg5 harg5 arg6 harg6 arg7 harg7 arg8 harg8 arg9 harg9 arg10 harg10 x0 x1 x2 x3 xt0 xt1 xs0 xs1 h0 h1 h2 h3).2.2.1, y ∈ pc.1.set :=
  View.cover_of_tiledL (runB c i arg4 harg4 arg5 harg5 arg6 harg6 arg7 harg7 arg8 harg8 arg9 harg9 arg10 harg10 x0 x1 x2 x3 xt0 xt1 xs0 xs1 h0 h1 h2 h3).2.2.1 S512x1024.size (by sl_kernel_rfl) y

theorem storedB10 (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole)
    (x0 : Vec F S512x1024 .f32) (x1 : Vec F S1x1024x1792 .bf16) (x2 : Vec F S1x1024x1792 .bf16) (x3 : Vec F S1x1792x1024 .bf16) (xt0 : Tab (F := F) c teM) (xt1 : Tab (F := F) c usedM) (xs0 : Vec F S512x1024 .bf16) (xs1 : Vec F S512x1024 .f32) (h0 : inUse (usedWord c xt1) i) (h1 : ¬firstStep i) (h2 : lastStep i) (h3 : ¬unusedLast (usedWord c xt1) i) :
    View.canon (runB c i arg4 harg4 arg5 harg5 arg6 harg6 arg7 harg7 arg8 harg8 arg9 harg9 arg10 harg10 x0 x1 x2 x3 xt0 xt1 xs0 xs1 h0 h1 h2 h3).2.2.1 = step xs0 xs1 x1 x2 x3 := by
  unfold runB
  dsimp only
  sl_unfold_words
  simp (disch := decide) only [View.canon_cons_unit_lit', View.ld_unit_lit', View.readCov_unit_lit', View.readCov_cons_unit_lit', View.readAt_eq_ld, Memref.IsWhole.read_unread]
  try rfl

theorem coverD8 (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole)
    (x0 : Vec F S512x1024 .f32) (x1 : Vec F S1x1024x1792 .bf16) (x2 : Vec F S1x1024x1792 .bf16) (x3 : Vec F S1x1792x1024 .bf16) (xt0 : Tab (F := F) c teM) (xt1 : Tab (F := F) c usedM) (xs0 : Vec F S512x1024 .bf16) (xs1 : Vec F S512x1024 .f32) (h0 : ¬inUse (usedWord c xt1) i) (h3 : unusedLast (usedWord c xt1) i) (y : S512x1024.Idx) :
    ∃ pc ∈ (runD c i arg4 harg4 arg5 harg5 arg6 harg6 arg7 harg7 arg8 harg8 arg9 harg9 arg10 harg10 x0 x1 x2 x3 xt0 xt1 xs0 xs1 h0 h3).1, y ∈ pc.1.set :=
  View.cover_of_tiledL (runD c i arg4 harg4 arg5 harg5 arg6 harg6 arg7 harg7 arg8 harg8 arg9 harg9 arg10 harg10 x0 x1 x2 x3 xt0 xt1 xs0 xs1 h0 h3).1 S512x1024.size (by sl_kernel_rfl) y

theorem storedD8 (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole)
    (x0 : Vec F S512x1024 .f32) (x1 : Vec F S1x1024x1792 .bf16) (x2 : Vec F S1x1024x1792 .bf16) (x3 : Vec F S1x1792x1024 .bf16) (xt0 : Tab (F := F) c teM) (xt1 : Tab (F := F) c usedM) (xs0 : Vec F S512x1024 .bf16) (xs1 : Vec F S512x1024 .f32) (h0 : ¬inUse (usedWord c xt1) i) (h3 : unusedLast (usedWord c xt1) i) :
    View.canon (runD c i arg4 harg4 arg5 harg5 arg6 harg6 arg7 harg7 arg8 harg8 arg9 harg9 arg10 harg10 x0 x1 x2 x3 xt0 xt1 xs0 xs1 h0 h3).1 = k0_pay2 := by
  unfold runD
  dsimp only
  sl_unfold_words
  simp (disch := decide) only [View.canon_cons_unit_lit', View.ld_unit_lit', View.readCov_unit_lit', View.readCov_cons_unit_lit', View.readAt_eq_ld, Memref.IsWhole.read_unread]
  try rfl

end Cert.ExpertRun

end
-- ==== Proof.ExpertIdealKit.lean ====
/- What the runs of the expert kernel's body share: the arrays as launched, the two tables, and the conditions its branches test. -/
module

public import proofs.«01_k».proof.Proof.Gen.ExpertIdeal.Launch
public import proofs.«01_k».proof.Proof.Gen.ExpertIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.ExpertIdealRun

open Cert.ExpertIdeal Cert.ExpertIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The tables the grid prefetches: each tile's expert, and the count of tiles in use. -/
abbrev teM : Memref sig .tc .smem S136 .i32 := Memref.whole main_arg0
abbrev hteM : teM.IsWhole := Memref.isWhole_whole _
abbrev usedM : Memref sig .tc .smem S1 .i32 := Memref.whole main_arg1
abbrev husedM : usedM.IsWhole := Memref.isWhole_whole _

/-- A table's contents on core `c`, and the half share of it that the body holds. -/
abbrev Tab (c : Dev nD) {S : Shape} {e : EltTy} (M : Memref sig .tc .smem S e) : Type := Buf (Elt F) (M.view.loc (c : Thread nD τ))
abbrev tabPt (c : Dev nD) {S : Shape} {e : EltTy} (M : Memref sig .tc .smem S e) (f : Tab (F := F) c M) : sProp 𝕄 :=
  M.view.loc (c : Thread nD τ) ↦{fullShare.right} f

/-- The word the body reads as the count of tiles in use. -/
abbrev usedWord (c : Dev nD) (xt1 : Tab (F := F) c usedM) : BitVec 32 := View.readAt (Elt F) usedM.view (Rect.unit (s := S1) ![0] S1.size inb_S1_S1_0).toLoadRect xt1 (Shape.Idx.first (numel1_S1.symm ▸ Nat.one_pos))

/-- The branch conditions: the tile is in use; the step is a tile's first; its last; the tile is unused and the step its last. -/
abbrev inUse (u : BitVec 32) (i : grid0.Coords) : Prop := k0_cond1 i u = 1#1
abbrev firstStep (i : grid0.Coords) : Prop := (Scalar.cmpi .ne (Scalar.extui (Scalar.cmpi .eq (BitVec.ofNat 32 (i 1).val) 0#32)) 0#32) = 1#1
abbrev lastStep (i : grid0.Coords) : Prop := k0_cond3 i = 1#1
abbrev unusedLast (u : BitVec 32) (i : grid0.Coords) : Prop := k0_cond4 i u = 1#1

end Cert.ExpertIdealRun

end
-- ==== Proof.ExpertIdealRunA.lean ====
/- The body of the expert kernel run on a tile in use, its first step. -/
module

public import proofs.«01_k».proof.Proof.ExpertIdealKit

@[expose] public section

set_option maxRecDepth 16384

noncomputable section

namespace Cert.ExpertIdealRun

open Cert.ExpertIdeal Cert.ExpertIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Both scratch buffers are stored whole; the result's buffer is left as found. -/
def runA (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole)
    (x0 : Vec F S512x1024 .f32) (x1 : Vec F S1x1024x1792 .bf16) (x2 : Vec F S1x1024x1792 .bf16) (x3 : Vec F S1x1792x1024 .bf16) (xt0 : Tab (F := F) c teM) (xt1 : Tab (F := F) c usedM) (h0 : inUse (usedWord c xt1) i) (h1 : firstStep i) (h2 : ¬lastStep i) (h3 : ¬unusedLast (usedWord c xt1) i) :
    Σ' (L8 : List (View.Piece (Elt F) S512x1024 .f32)), Σ' (L9 : List (View.Piece (Elt F) S512x1024 .bf16)), { L10 : List (View.Piece (Elt F) S512x1024 .f32) //
      ∀ (xi : Vec F S512x1024 .f32) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xi ∗ (∃ d, owns (c : Thread nD τ) arg9 fullShare d) ∗ (∃ d, owns (c : Thread nD τ) arg10 fullShare d) ∗ tabPt c teM xt0 ∗ tabPt c usedM xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xi ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ tabPt c teM xt0 ∗ tabPt c usedM xt1) -∗ K ⟨⟩))
          ⊢ wp frame (wpE (defs₀ (F := F)) Variants.none c none) E (cc0_moe_expert_ffn i teM hteM usedM husedM arg4 harg4 arg5 harg5 arg6 harg6 arg7 harg7 arg8 harg8 arg9 harg9 arg10 harg10) K } := by
  refine ⟨[], ?_, ?_, fun xi E K => ?run⟩
  case run =>
    simp only [cc0_moe_expert_ffn_eq_skeleton]; unfold cc0_moe_expert_ffn_skel
    simp only [k0_part1_eq_skeleton, k0_part2_eq_skeleton, k0_part3_eq_skeleton]
    unfold owns
    iintro ⟨⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, HT0, HT1, Hk⟩
    obtain rfl := harg4.eq_unread hf4; obtain rfl := harg5.eq_unread hf5; obtain rfl := harg6.eq_unread hf6; obtain rfl := harg7.eq_unread hf7; obtain rfl := harg8.eq_unread hf8
    sl_exec (disch := first | sl_exact h0 | sl_exact h1 | sl_exact h2 | sl_exact h3)
    sl_step
    iapply Hk
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [HT0]; · iexact HT0
    iexact HT1

end Cert.ExpertIdealRun

end
-- ==== Proof.ExpertIdealRunB.lean ====
/- The body of the expert kernel run on a tile in use, its last step. -/
module

public import proofs.«01_k».proof.Proof.ExpertIdealKit

@[expose] public section

set_option maxRecDepth 16384

noncomputable section

namespace Cert.ExpertIdealRun

open Cert.ExpertIdeal Cert.ExpertIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The accumulator and the result's buffer are stored whole, from what the first step left in the scratch buffers. -/
def runB (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole)
    (x0 : Vec F S512x1024 .f32) (x1 : Vec F S1x1024x1792 .bf16) (x2 : Vec F S1x1024x1792 .bf16) (x3 : Vec F S1x1792x1024 .bf16) (xt0 : Tab (F := F) c teM) (xt1 : Tab (F := F) c usedM) (xs0 : Vec F S512x1024 .bf16) (xs1 : Vec F S512x1024 .f32) (h0 : inUse (usedWord c xt1) i) (h1 : ¬firstStep i) (h2 : lastStep i) (h3 : ¬unusedLast (usedWord c xt1) i) :
    Σ' (L8 : List (View.Piece (Elt F) S512x1024 .f32)), Σ' (L9 : List (View.Piece (Elt F) S512x1024 .bf16)), { L10 : List (View.Piece (Elt F) S512x1024 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ owns (c : Thread nD τ) arg9 fullShare xs0 ∗ owns (c : Thread nD τ) arg10 fullShare xs1 ∗ tabPt c teM xt0 ∗ tabPt c usedM xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ (∃ f, arg8.view.loc (c : Thread nD τ) ↦[arg8.view.set]{fullShare} arg8.view.writes (Elt F) f L8) ∗ owns (c : Thread nD τ) arg9 fullShare xs0 ∗ (∃ f, arg10.view.loc (c : Thread nD τ) ↦[arg10.view.set]{fullShare} arg10.view.writes (Elt F) f L10) ∗ tabPt c teM xt0 ∗ tabPt c usedM xt1) -∗ K ⟨⟩))
          ⊢ wp frame (wpE (defs₀ (F := F)) Variants.none c none) E (cc0_moe_expert_ffn i teM hteM usedM husedM arg4 harg4 arg5 harg5 arg6 harg6 arg7 harg7 arg8 harg8 arg9 harg9 arg10 harg10) K } := by
  refine ⟨?_, [], ?_, fun E K => ?run⟩
  case run =>
    simp only [cc0_moe_expert_ffn_eq_skeleton]; unfold cc0_moe_expert_ffn_skel
    simp only [k0_part1_eq_skeleton, k0_part2_eq_skeleton, k0_part3_eq_skeleton]
    unfold owns
    iintro ⟨⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, HT0, HT1, Hk⟩
    obtain rfl := harg4.eq_unread hf4; obtain rfl := harg5.eq_unread hf5; obtain rfl := harg6.eq_unread hf6; obtain rfl := harg7.eq_unread hf7; obtain rfl := harg9.eq_unread hf9; obtain rfl := harg10.eq_unread hf10
    sl_exec (disch := first | sl_exact h0 | sl_exact h1 | sl_exact h2 | sl_exact h3)
    sl_step
    iapply Hk
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    isplitl [H9]
    · iexists _; isplitr; · ipureintro; exact harg9.read_unread _
      iexact H9
    isplitl [H10]; · iexists _; iexact H10
    isplitl [HT0]; · iexact HT0
    iexact HT1

end Cert.ExpertIdealRun

end
-- ==== Proof.ExpertIdealRunC.lean ====
/- The body of the expert kernel run on a tile not in use, its first step. -/
module

public import proofs.«01_k».proof.Proof.ExpertIdealKit

@[expose] public section

set_option maxRecDepth 16384

noncomputable section

namespace Cert.ExpertIdealRun

open Cert.ExpertIdeal Cert.ExpertIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Nothing is stored. -/
def runC (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole)
    (x0 : Vec F S512x1024 .f32) (x1 : Vec F S1x1024x1792 .bf16) (x2 : Vec F S1x1024x1792 .bf16) (x3 : Vec F S1x1792x1024 .bf16) (xt0 : Tab (F := F) c teM) (xt1 : Tab (F := F) c usedM) (xs0 : Vec F S512x1024 .bf16) (xs1 : Vec F S512x1024 .f32) (h0 : ¬inUse (usedWord c xt1) i) (h3 : ¬unusedLast (usedWord c xt1) i) :
    Σ' (L8 : List (View.Piece (Elt F) S512x1024 .f32)), Σ' (L9 : List (View.Piece (Elt F) S512x1024 .bf16)), { L10 : List (View.Piece (Elt F) S512x1024 .f32) //
      ∀ (xi : Vec F S512x1024 .f32) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xi ∗ owns (c : Thread nD τ) arg9 fullShare xs0 ∗ owns (c : Thread nD τ) arg10 fullShare xs1 ∗ tabPt c teM xt0 ∗ tabPt c usedM xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xi ∗ owns (c : Thread nD τ) arg9 fullShare xs0 ∗ owns (c : Thread nD τ) arg10 fullShare xs1 ∗ tabPt c teM xt0 ∗ tabPt c usedM xt1) -∗ K ⟨⟩))
          ⊢ wp frame (wpE (defs₀ (F := F)) Variants.none c none) E (cc0_moe_expert_ffn i teM hteM usedM husedM arg4 harg4 arg5 harg5 arg6 harg6 arg7 harg7 arg8 harg8 arg9 harg9 arg10 harg10) K } := by
  refine ⟨[], [], [], fun xi E K => ?run⟩
  case run =>
    simp only [cc0_moe_expert_ffn_eq_skeleton]; unfold cc0_moe_expert_ffn_skel
    unfold owns
    iintro ⟨⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, HT0, HT1, Hk⟩
    obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec (disch := first | sl_exact h0 | sl_exact h3)
    sl_step
    iapply Hk
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HT0]; · iexact HT0
    iexact HT1

end Cert.ExpertIdealRun

end
-- ==== Proof.ExpertIdealRunD.lean ====
/- The body of the expert kernel run on a tile not in use, its last step. -/
module

public import proofs.«01_k».proof.Proof.ExpertIdealKit

@[expose] public section

set_option maxRecDepth 16384

noncomputable section

namespace Cert.ExpertIdealRun

open Cert.ExpertIdeal Cert.ExpertIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The result's buffer is stored whole. -/
def runD (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole)
    (x0 : Vec F S512x1024 .f32) (x1 : Vec F S1x1024x1792 .bf16) (x2 : Vec F S1x1024x1792 .bf16) (x3 : Vec F S1x1792x1024 .bf16) (xt0 : Tab (F := F) c teM) (xt1 : Tab (F := F) c usedM) (xs0 : Vec F S512x1024 .bf16) (xs1 : Vec F S512x1024 .f32) (h0 : ¬inUse (usedWord c xt1) i) (h3 : unusedLast (usedWord c xt1) i) :
    Σ' (L8 : List (View.Piece (Elt F) S512x1024 .f32)), Σ' (L9 : List (View.Piece (Elt F) S512x1024 .bf16)), { L10 : List (View.Piece (Elt F) S512x1024 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ owns (c : Thread nD τ) arg9 fullShare xs0 ∗ owns (c : Thread nD τ) arg10 fullShare xs1 ∗ tabPt c teM xt0 ∗ tabPt c usedM xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ (∃ f, arg8.view.loc (c : Thread nD τ) ↦[arg8.view.set]{fullShare} arg8.view.writes (Elt F) f L8) ∗ owns (c : Thread nD τ) arg9 fullShare xs0 ∗ owns (c : Thread nD τ) arg10 fullShare xs1 ∗ tabPt c teM xt0 ∗ tabPt c usedM xt1) -∗ K ⟨⟩))
          ⊢ wp frame (wpE (defs₀ (F := F)) Variants.none c none) E (cc0_moe_expert_ffn i teM hteM usedM husedM arg4 harg4 arg5 harg5 arg6 harg6 arg7 harg7 arg8 harg8 arg9 harg9 arg10 harg10) K } := by
  refine ⟨?_, [], [], fun E K => ?run⟩
  case run =>
    simp only [cc0_moe_expert_ffn_eq_skeleton]; unfold cc0_moe_expert_ffn_skel
    unfold owns
    iintro ⟨⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, HT0, HT1, Hk⟩
    obtain rfl := harg4.eq_unread hf4; obtain rfl := harg5.eq_unread hf5; obtain rfl := harg6.eq_unread hf6; obtain rfl := harg7.eq_unread hf7; obtain rfl := harg9.eq_unread hf9; obtain rfl := harg10.eq_unread hf10
    sl_exec (disch := first | sl_exact h0 | sl_exact h3)
    sl_step
    iapply Hk
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    isplitl [H9]
    · iexists _; isplitr; · ipureintro; exact harg9.read_unread _
      iexact H9
    isplitl [H10]
    · iexists _; isplitr; · ipureintro; exact harg10.read_unread _
      iexact H10
    isplitl [HT0]; · iexact HT0
    iexact HT1

end Cert.ExpertIdealRun

end
-- ==== Proof.ExpertIdealStores.lean ====
/- What the body of the expert kernel stores, as functions of the blocks it reads. -/
module

public import proofs.«01_k».proof.Proof.ExpertIdealRunA
public import proofs.«01_k».proof.Proof.ExpertIdealRunB
public import proofs.«01_k».proof.Proof.ExpertIdealRunC
public import proofs.«01_k».proof.Proof.ExpertIdealRunD
public import Idealize.ShloMosaic.Lib.Pipeline.ValueKit

@[expose] public section

set_option maxRecDepth 16384

noncomputable section

namespace Cert.ExpertIdealRun

open Cert.ExpertIdeal Cert.ExpertIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator after a step: `a` and seven chunks of hidden units of the rows `h`. -/
def step (h : Vec F S512x1024 .bf16) (a : Vec F S512x1024 .f32) (x1 x2 : Vec F S1x1024x1792 .bf16) (x3 : Vec F S1x1792x1024 .bf16) : FVec F S512x1024 .f32 :=
  k0_pay1 a h (k0_pay10 h (k0_pay8 h (k0_pay5 h (View.ld x1 (Rect.unit ![0, 0, 0] S1x1024x256.size inb_S1x1024x1792_S1x1024x256_0_0_0)) (View.ld x2 (Rect.unit ![0, 0, 0] S1x1024x256.size inb_S1x1024x1792_S1x1024x256_0_0_0)) (View.ld x3 (Rect.unit ![0, 0, 0] S1x256x1024.size inb_S1x1792x1024_S1x256x1024_0_0_0)))
      (k0_pay6 h (View.ld x1 (Rect.unit ![0, 0, 256] S1x1024x256.size inb_S1x1024x1792_S1x1024x256_0_0_256)) (View.ld x2 (Rect.unit ![0, 0, 256] S1x1024x256.size inb_S1x1024x1792_S1x1024x256_0_0_256))) (k0_pay7 (View.ld x3 (Rect.unit ![0, 256, 0] S1x256x1024.size inb_S1x1792x1024_S1x256x1024_0_256_0)))
      (View.ld x1 (Rect.unit ![0, 0, 512] S1x1024x256.size inb_S1x1024x1792_S1x1024x256_0_0_512)) (View.ld x2 (Rect.unit ![0, 0, 512] S1x1024x256.size inb_S1x1024x1792_S1x1024x256_0_0_512)) (View.ld x3 (Rect.unit ![0, 512, 0] S1x256x1024.size inb_S1x1792x1024_S1x256x1024_0_512_0))
      (View.ld x1 (Rect.unit ![0, 0, 768] S1x1024x256.size inb_S1x1024x1792_S1x1024x256_0_0_768)) (View.ld x2 (Rect.unit ![0, 0, 768] S1x1024x256.size inb_S1x1024x1792_S1x1024x256_0_0_768)) (View.ld x3 (Rect.unit ![0, 768, 0] S1x256x1024.size inb_S1x1792x1024_S1x256x1024_0_768_0))) (k0_pay9 (View.ld x1 (Rect.unit ![0, 0, 1024] S1x1024x256.size inb_S1x1024x1792_S1x1024x256_0_0_1024))) (View.ld x2 (Rect.unit ![0, 0, 1024] S1x1024x256.size inb_S1x1024x1792_S1x1024x256_0_0_1024)) (View.ld x3 (Rect.unit ![0, 1024, 0] S1x256x1024.size inb_S1x1792x1024_S1x256x1024_0_1024_0))
      (View.ld x1 (Rect.unit ![0, 0, 1280] S1x1024x256.size inb_S1x1024x1792_S1x1024x256_0_0_1280)) (View.ld x2 (Rect.unit ![0, 0, 1280] S1x1024x256.size inb_S1x1024x1792_S1x1024x256_0_0_1280)) (View.ld x3 (Rect.unit ![0, 1280, 0] S1x256x1024.size inb_S1x1792x1024_S1x256x1024_0_1280_0)))
    (k0_pay11 h (View.ld x1 (Rect.unit ![0, 0, 1536] S1x1024x256.size inb_S1x1024x1792_S1x1024x256_0_0_1536))) (k0_pay12 (View.ld x2 (Rect.unit ![0, 0, 1536] S1x1024x256.size inb_S1x1024x1792_S1x1024x256_0_0_1536))) (constant S512x256 .f32 0x00000000#32) (View.ld x3 (Rect.unit ![0, 1536, 0] S1x256x1024.size inb_S1x1792x1024_S1x256x1024_0_1536_0))

theorem coverA9 (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole)
    (x0 : Vec F S512x1024 .f32) (x1 : Vec F S1x1024x1792 .bf16) (x2 : Vec F S1x1024x1792 .bf16) (x3 : Vec F S1x1792x1024 .bf16) (xt0 : Tab (F := F) c teM) (xt1 : Tab (F := F) c usedM) (h0 : inUse (usedWord c xt1) i) (h1 : firstStep i) (h2 : ¬lastStep i) (h3 : ¬unusedLast (usedWord c xt1) i) (y : S512x1024.Idx) :
    ∃ pc ∈ (runA c i arg4 harg4 arg5 harg5 arg6 harg6 arg7 harg7 arg8 harg8 arg9 harg9 arg10 harg10 x0 x1 x2 x3 xt0 xt1 h0 h1 h2 h3).2.1, y ∈ pc.1.set :=
  View.cover_of_tiledL (runA c i arg4 harg4 arg5 harg5 arg6 harg6 arg7 harg7 arg8 harg8 arg9 harg9 arg10 harg10 x0 x1 x2 x3 xt0 xt1 h0 h1 h2 h3).2.1 S512x1024.size (by sl_kernel_rfl) y

theorem storedA9 (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole)
    (x0 : Vec F S512x1024 .f32) (x1 : Vec F S1x1024x1792 .bf16) (x2 : Vec F S1x1024x1792 .bf16) (x3 : Vec F S1x1792x1024 .bf16) (xt0 : Tab (F := F) c teM) (xt1 : Tab (F := F) c usedM) (h0 : inUse (usedWord c xt1) i) (h1 : firstStep i) (h2 : ¬lastStep i) (h3 : ¬unusedLast (usedWord c xt1) i) :
    View.canon (runA c i arg4 harg4 arg5 harg5 arg6 harg6 arg7 harg7 arg8 harg8 arg9 harg9 arg10 harg10 x0 x1 x2 x3 xt0 xt1 h0 h1 h2 h3).2.1 = k0_pay3 x0 := by
  unfold runA
  dsimp only
  sl_unfold_words
  simp (disch := decide) only [View.canon_cons_unit_lit', View.ld_unit_lit', View.readCov_unit_lit', View.readCov_cons_unit_lit', View.readAt_eq_ld, Memref.IsWhole.read_unread]
  try rfl

theorem coverA10 (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole)
    (x0 : Vec F S512x1024 .f32) (x1 : Vec F S1x1024x1792 .bf16) (x2 : Vec F S1x1024x1792 .bf16) (x3 : Vec F S1x1792x1024 .bf16) (xt0 : Tab (F := F) c teM) (xt1 : Tab (F := F) c usedM) (h0 : inUse (usedWord c xt1) i) (h1 : firstStep i) (h2 : ¬lastStep i) (h3 : ¬unusedLast (usedWord c xt1) i) (y : S512x1024.Idx) :
    ∃ pc ∈ (runA c i arg4 harg4 arg5 harg5 arg6 harg6 arg7 harg7 arg8 harg8 arg9 harg9 arg10 harg10 x0 x1 x2 x3 xt0 xt1 h0 h1 h2 h3).2.2.1, y ∈ pc.1.set :=
  View.cover_of_tiledL (runA c i arg4 harg4 arg5 harg5 arg6 harg6 arg7 harg7 arg8 harg8 arg9 harg9 arg10 harg10 x0 x1 x2 x3 xt0 xt1 h0 h1 h2 h3).2.2.1 S512x1024.size (by sl_kernel_rfl) y

theorem storedA10 (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole)
    (x0 : Vec F S512x1024 .f32) (x1 : Vec F S1x1024x1792 .bf16) (x2 : Vec F S1x1024x1792 .bf16) (x3 : Vec F S1x1792x1024 .bf16) (xt0 : Tab (F := F) c teM) (xt1 : Tab (F := F) c usedM) (h0 : inUse (usedWord c xt1) i) (h1 : firstStep i) (h2 : ¬lastStep i) (h3 : ¬unusedLast (usedWord c xt1) i) :
    View.canon (runA c i arg4 harg4 arg5 harg5 arg6 harg6 arg7 harg7 arg8 harg8 arg9 harg9 arg10 harg10 x0 x1 x2 x3 xt0 xt1 h0 h1 h2 h3).2.2.1 = step (k0_pay3 x0) k0_pay4 x1 x2 x3 := by
  unfold runA
  dsimp only
  sl_unfold_words
  simp (disch := decide) only [View.canon_cons_unit_lit', View.ld_unit_lit', View.readCov_unit_lit', View.readCov_cons_unit_lit', View.readAt_eq_ld, Memref.IsWhole.read_unread]
  try rfl

theorem coverB8 (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole)
    (x0 : Vec F S512x1024 .f32) (x1 : Vec F S1x1024x1792 .bf16) (x2 : Vec F S1x1024x1792 .bf16) (x3 : Vec F S1x1792x1024 .bf16) (xt0 : Tab (F := F) c teM) (xt1 : Tab (F := F) c usedM) (xs0 : Vec F S512x1024 .bf16) (xs1 : Vec F S512x1024 .f32) (h0 : inUse (usedWord c xt1) i) (h1 : ¬firstStep i) (h2 : lastStep i) (h3 : ¬unusedLast (usedWord c xt1) i) (y : S512x1024.Idx) :
    ∃ pc ∈ (runB c i arg4 harg4 arg5 harg5 arg6 harg6 arg7 harg7 arg8 harg8 arg9 harg9 arg10 harg10 x0 x1 x2 x3 xt0 xt1 xs0 xs1 h0 h1 h2 h3).1, y ∈ pc.1.set :=
  View.cover_of_tiledL (runB c i arg4 harg4 arg5 harg5 arg6 harg6 arg7 harg7 arg8 harg8 arg9 harg9 arg10 harg10 x0 x1 x2 x3 xt0 xt1 xs0 xs1 h0 h1 h2 h3).1 S512x1024.size (by sl_kernel_rfl) y

theorem storedB8 (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole)
    (x0 : Vec F S512x1024 .f32) (x1 : Vec F S1x1024x1792 .bf16) (x2 : Vec F S1x1024x1792 .bf16) (x3 : Vec F S1x1792x1024 .bf16) (xt0 : Tab (F := F) c teM) (xt1 : Tab (F := F) c usedM) (xs0 : Vec F S512x1024 .bf16) (xs1 : Vec F S512x1024 .f32) (h0 : inUse (usedWord c xt1) i) (h1 : ¬firstStep i) (h2 : lastStep i) (h3 : ¬unusedLast (usedWord c xt1) i) :
    View.canon (runB c i arg4 harg4 arg5 harg5 arg6 harg6 arg7 harg7 arg8 harg8 arg9 harg9 arg10 harg10 x0 x1 x2 x3 xt0 xt1 xs0 xs1 h0 h1 h2 h3).1 = step xs0 xs1 x1 x2 x3 := by
  unfold runB
  dsimp only
  sl_unfold_words
  simp (disch := decide) only [View.canon_cons_unit_lit', View.ld_unit_lit', View.readCov_unit_lit', View.readCov_cons_unit_lit', View.readAt_eq_ld, Memref.IsWhole.read_unread]
  try rfl

theorem coverB10 (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole)
    (x0 : Vec F S512x1024 .f32) (x1 : Vec F S1x1024x1792 .bf16) (x2 : Vec F S1x1024x1792 .bf16) (x3 : Vec F S1x1792x1024 .bf16) (xt0 : Tab (F := F) c teM) (xt1 : Tab (F := F) c usedM) (xs0 : Vec F S512x1024 .bf16) (xs1 : Vec F S512x1024 .f32) (h0 : inUse (usedWord c xt1) i) (h1 : ¬firstStep i) (h2 : lastStep i) (h3 : ¬unusedLast (usedWord c xt1) i) (y : S512x1024.Idx) :
    ∃ pc ∈ (runB c i arg4 harg4 arg5 harg5 arg6 harg6 arg7 harg7 arg8 harg8 arg9 harg9 arg10 harg10 x0 x1 x2 x3 xt0 xt1 xs0 xs1 h0 h1 h2 h3).2.2.1, y ∈ pc.1.set :=
  View.cover_of_tiledL (runB c i arg4 harg4 arg5 harg5 arg6 harg6 arg7 harg7 arg8 harg8 arg9 harg9 arg10 harg10 x0 x1 x2 x3 xt0 xt1 xs0 xs1 h0 h1 h2 h3).2.2.1 S512x1024.size (by sl_kernel_rfl) y

theorem storedB10 (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole)
    (x0 : Vec F S512x1024 .f32) (x1 : Vec F S1x1024x1792 .bf16) (x2 : Vec F S1x1024x1792 .bf16) (x3 : Vec F S1x1792x1024 .bf16) (xt0 : Tab (F := F) c teM) (xt1 : Tab (F := F) c usedM) (xs0 : Vec F S512x1024 .bf16) (xs1 : Vec F S512x1024 .f32) (h0 : inUse (usedWord c xt1) i) (h1 : ¬firstStep i) (h2 : lastStep i) (h3 : ¬unusedLast (usedWord c xt1) i) :
    View.canon (runB c i arg4 harg4 arg5 harg5 arg6 harg6 arg7 harg7 arg8 harg8 arg9 harg9 arg10 harg10 x0 x1 x2 x3 xt0 xt1 xs0 xs1 h0 h1 h2 h3).2.2.1 = step xs0 xs1 x1 x2 x3 := by
  unfold runB
  dsimp only
  sl_unfold_words
  simp (disch := decide) only [View.canon_cons_unit_lit', View.ld_unit_lit', View.readCov_unit_lit', View.readCov_cons_unit_lit', View.readAt_eq_ld, Memref.IsWhole.read_unread]
  try rfl

theorem coverD8 (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole)
    (x0 : Vec F S512x1024 .f32) (x1 : Vec F S1x1024x1792 .bf16) (x2 : Vec F S1x1024x1792 .bf16) (x3 : Vec F S1x1792x1024 .bf16) (xt0 : Tab (F := F) c teM) (xt1 : Tab (F := F) c usedM) (xs0 : Vec F S512x1024 .bf16) (xs1 : Vec F S512x1024 .f32) (h0 : ¬inUse (usedWord c xt1) i) (h3 : unusedLast (usedWord c xt1) i) (y : S512x1024.Idx) :
    ∃ pc ∈ (runD c i arg4 harg4 arg5 harg5 arg6 harg6 arg7 harg7 arg8 harg8 arg9 harg9 arg10 harg10 x0 x1 x2 x3 xt0 xt1 xs0 xs1 h0 h3).1, y ∈ pc.1.set :=
  View.cover_of_tiledL (runD c i arg4 harg4 arg5 harg5 arg6 harg6 arg7 harg7 arg8 harg8 arg9 harg9 arg10 harg10 x0 x1 x2 x3 xt0 xt1 xs0 xs1 h0 h3).1 S512x1024.size (by sl_kernel_rfl) y

theorem storedD8 (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole)
    (x0 : Vec F S512x1024 .f32) (x1 : Vec F S1x1024x1792 .bf16) (x2 : Vec F S1x1024x1792 .bf16) (x3 : Vec F S1x1792x1024 .bf16) (xt0 : Tab (F := F) c teM) (xt1 : Tab (F := F) c usedM) (xs0 : Vec F S512x1024 .bf16) (xs1 : Vec F S512x1024 .f32) (h0 : ¬inUse (usedWord c xt1) i) (h3 : unusedLast (usedWord c xt1) i) :
    View.canon (runD c i arg4 harg4 arg5 harg5 arg6 harg6 arg7 harg7 arg8 harg8 arg9 harg9 arg10 harg10 x0 x1 x2 x3 xt0 xt1 xs0 xs1 h0 h3).1 = k0_pay2 := by
  unfold runD
  dsimp only
  sl_unfold_words
  simp (disch := decide) only [View.canon_cons_unit_lit', View.ld_unit_lit', View.readCov_unit_lit', View.readCov_cons_unit_lit', View.readAt_eq_ld, Memref.IsWhole.read_unread]
  try rfl

end Cert.ExpertIdealRun

end
-- ==== Proof.ExpertBlock.lean ====
/- What a step of the expert kernel adds to its accumulator, place by place. -/
module

public import proofs.«01_k».proof.Proof.Swiglu
public import proofs.«01_k».proof.Proof.ExpertIdealStores

@[expose] public section

set_option maxRecDepth 16384

noncomputable section

namespace Cert.ExpertBlock

open Cert.ExpertIdeal Cert.ExpertIdeal.Gen Cert.ExpertIdealRun Cert.Swiglu Idealize.ShloMosaic Idealize.ShloMosaic.TcCoe Idealize.SL.Sem

/-- One chunk of hidden units: its gate and up products, and their product sent down. -/
def chunk (h : FVec Ideal S512x1024 .bf16) (wg wu : FVec Ideal S1x1024x256 .bf16) (wd : FVec Ideal S1x256x1024 .bf16) : FVec Ideal S512x1024 .f32 :=
  let g := matmul dot_S512x1024_S1024x256_S512x256_1_0_0_1_n_n none h (shapeCast S1024x256 wg shapeCasts_S1x1024x256_S1024x256) (constant S512x256 .f32 0x00000000#32)
  let u := matmul dot_S512x1024_S1024x256_S512x256_1_0_0_1_n_n none h (shapeCast S1024x256 wu shapeCasts_S1x1024x256_S1024x256) (constant S512x256 .f32 0x00000000#32)
  matmul dot_S512x256_S256x1024_S512x1024_1_0_0_1_n_n none (truncf .bf16 (mulf (mulf g (logistic g)) u) bitsLt_bf16_f32) (shapeCast S256x1024 wd shapeCasts_S1x256x1024_S256x1024) (constant S512x1024 .f32 0x00000000#32)

/-- The seven chunks added up. -/
def total (h : Vec Ideal S512x1024 .bf16) (x1 x2 : Vec Ideal S1x1024x1792 .bf16) (x3 : Vec Ideal S1x1792x1024 .bf16) : FVec Ideal S512x1024 .f32 :=
  (addf (addf (addf (addf (addf (addf (chunk h (View.ld x1 (Rect.unit ![0, 0, 0] S1x1024x256.size inb_S1x1024x1792_S1x1024x256_0_0_0)) (View.ld x2 (Rect.unit ![0, 0, 0] S1x1024x256.size inb_S1x1024x1792_S1x1024x256_0_0_0)) (View.ld x3 (Rect.unit ![0, 0, 0] S1x256x1024.size inb_S1x1792x1024_S1x256x1024_0_0_0)))
      (chunk h (View.ld x1 (Rect.unit ![0, 0, 256] S1x1024x256.size inb_S1x1024x1792_S1x1024x256_0_0_256)) (View.ld x2 (Rect.unit ![0, 0, 256] S1x1024x256.size inb_S1x1024x1792_S1x1024x256_0_0_256)) (View.ld x3 (Rect.unit ![0, 256, 0] S1x256x1024.size inb_S1x1792x1024_S1x256x1024_0_256_0))))
      (chunk h (View.ld x1 (Rect.unit ![0, 0, 512] S1x1024x256.size inb_S1x1024x1792_S1x1024x256_0_0_512)) (View.ld x2 (Rect.unit ![0, 0, 512] S1x1024x256.size inb_S1x1024x1792_S1x1024x256_0_0_512)) (View.ld x3 (Rect.unit ![0, 512, 0] S1x256x1024.size inb_S1x1792x1024_S1x256x1024_0_512_0))))
      (chunk h (View.ld x1 (Rect.unit ![0, 0, 768] S1x1024x256.size inb_S1x1024x1792_S1x1024x256_0_0_768)) (View.ld x2 (Rect.unit ![0, 0, 768] S1x1024x256.size inb_S1x1024x1792_S1x1024x256_0_0_768)) (View.ld x3 (Rect.unit ![0, 768, 0] S1x256x1024.size inb_S1x1792x1024_S1x256x1024_0_768_0))))
      (chunk h (View.ld x1 (Rect.unit ![0, 0, 1024] S1x1024x256.size inb_S1x1024x1792_S1x1024x256_0_0_1024)) (View.ld x2 (Rect.unit ![0, 0, 1024] S1x1024x256.size inb_S1x1024x1792_S1x1024x256_0_0_1024)) (View.ld x3 (Rect.unit ![0, 1024, 0] S1x256x1024.size inb_S1x1792x1024_S1x256x1024_0_1024_0))))
      (chunk h (View.ld x1 (Rect.unit ![0, 0, 1280] S1x1024x256.size inb_S1x1024x1792_S1x1024x256_0_0_1280)) (View.ld x2 (Rect.unit ![0, 0, 1280] S1x1024x256.size inb_S1x1024x1792_S1x1024x256_0_0_1280)) (View.ld x3 (Rect.unit ![0, 1280, 0] S1x256x1024.size inb_S1x1792x1024_S1x256x1024_0_1280_0))))
      (chunk h (View.ld x1 (Rect.unit ![0, 0, 1536] S1x1024x256.size inb_S1x1024x1792_S1x1024x256_0_0_1536)) (View.ld x2 (Rect.unit ![0, 0, 1536] S1x1024x256.size inb_S1x1024x1792_S1x1024x256_0_0_1536)) (View.ld x3 (Rect.unit ![0, 1536, 0] S1x256x1024.size inb_S1x1792x1024_S1x256x1024_0_1536_0))))

theorem step_eq (h : Vec Ideal S512x1024 .bf16) (a : Vec Ideal S512x1024 .f32) (x1 x2 : Vec Ideal S1x1024x1792 .bf16) (x3 : Vec Ideal S1x1792x1024 .bf16) :
    step h a x1 x2 x3 = shapeCast S512x1024 (addf a (total h x1 x2 x3)) shapeCasts_S512x1024_S512x1024 := by
  simp only [step, total, chunk, k0_pay1, k0_pay5, k0_pay6, k0_pay7, k0_pay8, k0_pay9, k0_pay10, k0_pay11, k0_pay12]

theorem chunk_apply (h : FVec Ideal S512x1024 .bf16) (wg wu : FVec Ideal S1x1024x256 .bf16) (wd : FVec Ideal S1x256x1024 .bf16) (r : Fin 512) (n : Fin 1024) :
    chunk h wg wu wd (ix2 r n)
      = ∑ k : Fin 256, hidden (∑ l : Fin 1024, h (ix2 r l) * wg (ix3 0 l k)) (∑ l : Fin 1024, h (ix2 r l) * wu (ix3 0 l k)) (wd (ix3 0 k n)) := by
  pointwise [chunk]
  rfl

/-- What hidden unit `k` adds to entry `(r, n)`. -/
def unitAt (h : Vec Ideal S512x1024 .bf16) (x1 x2 : Vec Ideal S1x1024x1792 .bf16) (x3 : Vec Ideal S1x1792x1024 .bf16) (r : Fin 512) (n : Fin 1024)
    (k : Fin 1792) : EReal :=
  hidden (∑ l : Fin 1024, h (ix2 r l) * x1 (ix3 0 l k)) (∑ l : Fin 1024, h (ix2 r l) * x2 (ix3 0 l k)) (x3 (ix3 0 k n))

theorem chunk_ld (h : Vec Ideal S512x1024 .bf16) (x1 x2 : Vec Ideal S1x1024x1792 .bf16) (x3 : Vec Ideal S1x1792x1024 .bf16) (r : Fin 512) (n : Fin 1024)
    (o : ℕ) (ho : o + 256 ≤ 1792) (i1 : ∀ a, (![0, 0, o] : Fin 3 → ℕ) a + S1x1024x256.size a ≤ S1x1024x1792.size a)
    (i3 : ∀ a, (![0, o, 0] : Fin 3 → ℕ) a + S1x256x1024.size a ≤ S1x1792x1024.size a) :
    chunk h (View.ld x1 (Rect.unit ![0, 0, o] S1x1024x256.size i1)) (View.ld x2 (Rect.unit ![0, 0, o] S1x1024x256.size i1)) (View.ld x3 (Rect.unit ![0, o, 0] S1x256x1024.size i3)) (ix2 r n)
      = ∑ k : Fin 256, unitAt h x1 x2 x3 r n ⟨o + k.val, by omega⟩ := by
  rw [chunk_apply]
  have e : ∀ (X : Vec Ideal S1x1024x1792 .bf16) (l : Fin 1024) (k : Fin 256),
      View.ld X (Rect.unit ![0, 0, o] S1x1024x256.size i1) (ix3 0 l k) = X (ix3 0 l ⟨o + k.val, by omega⟩) := fun X l k =>
    ld_at X (ix3 0 l k) (ix3 0 l ⟨o + k.val, by omega⟩) (fun a => match a with | ⟨0, _⟩ => Nat.zero_add _ | ⟨1, _⟩ => Nat.zero_add _ | ⟨2, _⟩ => rfl)
  have e' : ∀ k : Fin 256, View.ld x3 (Rect.unit ![0, o, 0] S1x256x1024.size i3) (ix3 0 k n) = x3 (ix3 0 ⟨o + k.val, by omega⟩ n) := fun k =>
    ld_at x3 (ix3 0 k n) (ix3 0 ⟨o + k.val, by omega⟩ n) (fun a => match a with | ⟨0, _⟩ => Nat.zero_add _ | ⟨1, _⟩ => rfl | ⟨2, _⟩ => Nat.zero_add _)
  refine Finset.sum_congr rfl fun k _ => ?_
  unfold unitAt
  rw [e' k]
  exact congrArg₂ (fun a b => hidden a b _) (Finset.sum_congr rfl fun l _ => by rw [e x1 l k]) (Finset.sum_congr rfl fun l _ => by rw [e x2 l k])

theorem total_apply (h : Vec Ideal S512x1024 .bf16) (x1 x2 : Vec Ideal S1x1024x1792 .bf16) (x3 : Vec Ideal S1x1792x1024 .bf16) (r : Fin 512) (n : Fin 1024) :
    total h x1 x2 x3 (ix2 r n) = ∑ k : Fin 1792, unitAt h x1 x2 x3 r n k := by
  rw [sum_chunks 7 (unitAt h x1 x2 x3 r n)]
  unfold total
  have e7 : ∀ g : Fin 7 → EReal, ∑ j, g j = g 0 + g 1 + g 2 + g 3 + g 4 + g 5 + g 6 := fun g => by
    simp only [Fin.sum_univ_castSucc, Fin.sum_univ_zero, zero_add]
    rfl
  rw [e7]
  simp only [addf_apply]
  rw [chunk_ld h x1 x2 x3 r n 0 (by omega), chunk_ld h x1 x2 x3 r n 256 (by omega), chunk_ld h x1 x2 x3 r n 512 (by omega), chunk_ld h x1 x2 x3 r n 768 (by omega), chunk_ld h x1 x2 x3 r n 1024 (by omega), chunk_ld h x1 x2 x3 r n 1280 (by omega), chunk_ld h x1 x2 x3 r n 1536 (by omega)]
  rfl

theorem step_apply (h : Vec Ideal S512x1024 .bf16) (a : Vec Ideal S512x1024 .f32) (x1 x2 : Vec Ideal S1x1024x1792 .bf16) (x3 : Vec Ideal S1x1792x1024 .bf16) (r : Fin 512) (n : Fin 1024) :
    step h a x1 x2 x3 (ix2 r n) = a (ix2 r n) + ∑ k : Fin 1792, unitAt h x1 x2 x3 r n k := by
  rw [step_eq, ← total_apply]
  generalize total h x1 x2 x3 = z
  pointwise

theorem rows_apply (x : Vec Ideal S512x1024 .f32) (r : Fin 512) (l : Fin 1024) : k0_pay3 (F := Ideal) x (ix2 r l) = x (ix2 r l) := by
  pointwise [k0_pay3]

theorem start_apply (r : Fin 512) (n : Fin 1024) : k0_pay4 (F := Ideal) (ix2 r n) = (0 : EReal) := by
  pointwise [k0_pay4]

theorem unused_apply (r : Fin 512) (n : Fin 1024) : k0_pay2 (F := Ideal) (ix2 r n) = (0 : EReal) := by
  pointwise [k0_pay2]

end Cert.ExpertBlock

end
-- ==== Proof.ExpertIdealPoints.lean ====
/- The expert kernel's launch: the arrays and tables as launched, the branch conditions at a point, and the pipeline's blocks. -/
module

public import proofs.«01_k».proof.Proof.ExpertIdealStores

@[expose] public section

set_option maxRecDepth 16384

noncomputable section

namespace Cert.ExpertIdealRun

open Cert.ExpertIdeal Cert.ExpertIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions -/

theorem inUse_iff (u : BitVec 32) (i : grid0.Coords) : inUse u i ↔ Scalar.cmpi .slt (BitVec.ofNat 32 (i 0).val) u = 1#1 := by
  unfold inUse k0_cond1
  dsimp only
  generalize Scalar.cmpi .slt (BitVec.ofNat 32 (i 0).val) u = b
  revert b; decide

theorem unusedLast_iff (u : BitVec 32) (i : grid0.Coords) : unusedLast u i ↔ ¬inUse u i ∧ lastStep i := by
  unfold unusedLast inUse lastStep k0_cond4 k0_cond3 k0_cond1
  dsimp only
  generalize Scalar.cmpi .slt (BitVec.ofNat 32 (i 0).val) u = b
  generalize Scalar.cmpi .eq (BitVec.ofNat 32 (i 1).val) 1#32 = d
  revert b d; decide

theorem firstStep_iff (t : Fin grid0.N) : firstStep (grid0.coords t) ↔ t.val % 2 = 0 := by
  have ht : t.val < 272 := Nat.lt_of_lt_of_eq t.isLt N_0
  have e1 : (grid0.coords t 1).val = t.val / 1 % 2 := Pipeline.Grid.coords_val t 1 (by decide) rfl
  simp only [firstStep, e1]
  word_cmp

theorem lastStep_iff (t : Fin grid0.N) : lastStep (grid0.coords t) ↔ t.val % 2 = 1 := by
  have ht : t.val < 272 := Nat.lt_of_lt_of_eq t.isLt N_0
  have e1 : (grid0.coords t 1).val = t.val / 1 % 2 := Pipeline.Grid.coords_val t 1 (by decide) rfl
  simp only [lastStep, k0_cond3, e1]
  word_cmp

theorem tile_val (t : Fin grid0.N) : (grid0.coords t 0).val = t.val / 2 := by
  have ht : t.val < 272 := Nat.lt_of_lt_of_eq t.isLt N_0
  have e0 : (grid0.coords t 0).val = t.val / 2 % 136 := Pipeline.Grid.coords_val t 0 (by decide) rfl
  omega

/-- Whether a tile is in use does not depend on the step. -/
theorem inUse_congr (u : BitVec 32) (t t' : Fin grid0.N) (h : t.val / 2 = t'.val / 2) : inUse u (grid0.coords t) ↔ inUse u (grid0.coords t') := by
  rw [inUse_iff, inUse_iff, tile_val, tile_val, h]

/-! ## The launch -/

/-- Core `c`'s buffers as launched. -/
abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The tables as launched. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- The tables name blocks inside the arrays. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem PhiT0_eq (c : Dev nD) : (Pipeline.ΦT pre0 (tbl m) c : sProp 𝕄) = iprop(tabPt c teM (tbl m 0) ∗ tabPt c usedM (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The count of tiles in use, as launched. -/
abbrev usedOf : BitVec 32 := usedWord (F := F) (0 : Dev nD) (tbl m 1)

theorem usedWord_eq (c : Dev nD) : usedWord (F := F) c (tbl m 1) = usedOf m := by
  obtain rfl : c = 0 := Subsingleton.elim _ _; rfl

theorem atD_eq : (tbl m).atD 1 ![0] = usedOf m := by
  unfold Pipeline.Prefetch.Contents.atD
  rw [dif_pos (by decide)]
  rfl

/-- Window `w`'s block at point `t`, of its array as launched. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before_0 (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem live_0 (hO : Ok m) : ∀ t : Fin (cfgM m hO).N, (cfgM m hO).idle 0 (grid0.coords t) = false := fun _ => rfl

theorem before_1 (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem live_1 (hO : Ok m) : ∀ t : Fin (cfgM m hO).N, (cfgM m hO).idle 1 (grid0.coords t) = false := fun _ => rfl

theorem before_2 (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem live_2 (hO : Ok m) : ∀ t : Fin (cfgM m hO).N, (cfgM m hO).idle 2 (grid0.coords t) = false := fun _ => rfl

theorem before_3 (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem live_3 (hO : Ok m) : ∀ t : Fin (cfgM m hO).N, (cfgM m hO).idle 3 (grid0.coords t) = false := fun _ => rfl

theorem idle_4 (hO : Ok m) (t : Fin (cfgM m hO).N) : (cfgM m hO).idle 4 (grid0.coords t)
    = (!(k0_cond1 (grid0.coords t) (usedOf m) == 1#1 && k0_cond3 (grid0.coords t) == 1#1) && !(k0_cond4 (grid0.coords t) (usedOf m) == 1#1)) := by
  show (!(k0_cond1 (grid0.coords t) ((tbl m).atD 1 ![0]) == 1#1 && k0_cond3 (grid0.coords t) == 1#1) && !(k0_cond4 (grid0.coords t) ((tbl m).atD 1 ![0]) == 1#1)) = _
  rw [atD_eq]

/-- The result's window is idle at a tile's first step, -/
theorem idle_4_first (hO : Ok m) (t : Fin (cfgM m hO).N) (h2 : ¬lastStep (grid0.coords t)) (h3 : ¬unusedLast (usedOf m) (grid0.coords t)) : (cfgM m hO).idle 4 (grid0.coords t) = true := by
  rw [idle_4]
  have e3 : (k0_cond3 (grid0.coords t) == 1#1) = false := beq_eq_false_iff_ne.mpr h2
  have e4 : (k0_cond4 (grid0.coords t) (usedOf m) == 1#1) = false := beq_eq_false_iff_ne.mpr h3
  rw [e3, e4, Bool.and_false]; rfl

/-- and live at its last. -/
theorem live_4_last (hO : Ok m) (t : Fin (cfgM m hO).N) (h2 : lastStep (grid0.coords t)) : (cfgM m hO).idle 4 (grid0.coords t) = false := by
  rw [idle_4]
  by_cases hu : inUse (usedOf m) (grid0.coords t)
  · have e1 : (k0_cond1 (grid0.coords t) (usedOf m) == 1#1) = true := beq_iff_eq.mpr hu
    have e3 : (k0_cond3 (grid0.coords t) == 1#1) = true := beq_iff_eq.mpr h2
    rw [e1, e3]; rfl
  · have e4 : (k0_cond4 (grid0.coords t) (usedOf m) == 1#1) = true := beq_iff_eq.mpr ((unusedLast_iff _ _).mpr ⟨hu, h2⟩)
    rw [e4, Bool.not_true, Bool.and_false]

theorem flush_4 (hO : Ok m) : ∀ t : Fin (cfgM m hO).N, ((cfgM m hO).win 4).flush t = true ↔ t.val % 2 = 1 :=
  (fun t => Pipeline.Window.flushOf_reads cc0_transform_4 reads0_4 hreads0_4 0 (by decide) (by decide) (Pipeline.Window.sep_of_coord cc0_transform_4 0 0 (fun _ => rfl) (by decide)) (P := 2) (m := 1) (by decide) rfl t : ∀ t : Fin grid0.N, Pipeline.Window.flushOf grid0 true cc0_transform_4 t = true ↔ t.val % 2 = 1)

theorem noFlush_4 (hO : Ok m) (t : Fin (cfgM m hO).N) (h : t.val % 2 = 0) : ((cfgM m hO).win 4).flush t = false :=
  Bool.eq_false_iff.mpr fun hf => by have := (flush_4 m hO t).mp hf; omega

abbrev ms_0 (hO : Ok m) (t : Fin (cfgM m hO).N) : Memref sig .tc .vmem S512x1024 .f32 := spec0_0.stage ((cfgM m hO).slots t 0)
abbrev hs_0 (hO : Ok m) (t : Fin (cfgM m hO).N) : (ms_0 m hO t).IsWhole := hstage0_0 (((cfgM m hO).slots t 0).cast nbuf0_0)
abbrev ms_1 (hO : Ok m) (t : Fin (cfgM m hO).N) : Memref sig .tc .vmem S1x1024x1792 .bf16 := spec0_1.stage ((cfgM m hO).slots t 1)
abbrev hs_1 (hO : Ok m) (t : Fin (cfgM m hO).N) : (ms_1 m hO t).IsWhole := hstage0_1 (((cfgM m hO).slots t 1).cast nbuf0_1)
abbrev ms_2 (hO : Ok m) (t : Fin (cfgM m hO).N) : Memref sig .tc .vmem S1x1024x1792 .bf16 := spec0_2.stage ((cfgM m hO).slots t 2)
abbrev hs_2 (hO : Ok m) (t : Fin (cfgM m hO).N) : (ms_2 m hO t).IsWhole := hstage0_2 (((cfgM m hO).slots t 2).cast nbuf0_2)
abbrev ms_3 (hO : Ok m) (t : Fin (cfgM m hO).N) : Memref sig .tc .vmem S1x1792x1024 .bf16 := spec0_3.stage ((cfgM m hO).slots t 3)
abbrev hs_3 (hO : Ok m) (t : Fin (cfgM m hO).N) : (ms_3 m hO t).IsWhole := hstage0_3 (((cfgM m hO).slots t 3).cast nbuf0_3)
abbrev ms_4 (hO : Ok m) (t : Fin (cfgM m hO).N) : Memref sig .tc .vmem S512x1024 .f32 := spec0_4.stage ((cfgM m hO).slots t 4)
abbrev hs_4 (hO : Ok m) (t : Fin (cfgM m hO).N) : (ms_4 m hO t).IsWhole := hstage0_4 (((cfgM m hO).slots t 4).cast nbuf0_4)
/-- The scratch buffers: the rows in the experts' precision, and the accumulator. -/
abbrev rowsM : Memref sig .tc .vmem S512x1024 .bf16 := Memref.whole cc0_scratch0
abbrev accM : Memref sig .tc .vmem S512x1024 .f32 := Memref.whole cc0_scratch1

theorem PhiA0_eq (c : Dev nD) :
    (Pipeline.ΦA spec0 c : sProp 𝕄)
      = iprop(iprop((∃ d, owns (c : Thread nD τ) rowsM fullShare d) ∗ (∃ d, owns (c : Thread nD τ) accM fullShare d)) ∗ (∃ r, prngReg c r)) := by
  unfold Pipeline.ΦA; rw [scopedRest0_eq]; simp only [rowsM, accM, owns_whole]; try rfl

/-- The body at point `t`. -/
abbrev bodyAt (hO : Ok m) (t : Fin (cfgM m hO).N) : Prog (TpuEff nD τ sig (Elt F) Λ₀ .tc) PUnit :=
  cc0_moe_expert_ffn (grid0.coords t) teM hteM usedM husedM (ms_0 m hO t) (hs_0 m hO t) (ms_1 m hO t) (hs_1 m hO t) (ms_2 m hO t) (hs_2 m hO t) (ms_3 m hO t) (hs_3 m hO t) (ms_4 m hO t) (hs_4 m hO t) rowsM (Memref.isWhole_whole _) accM (Memref.isWhole_whole _)

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

end Cert.ExpertIdealRun

end
-- ==== Proof.ExpertIdealFrame.lean ====
/- The expert kernel's run: what its scratch buffers and its result's buffer hold at each point, and the frame. -/
module

public import proofs.«01_k».proof.Proof.ExpertIdealPoints

@[expose] public section

set_option maxRecDepth 16384

noncomputable section

namespace Cert.ExpertIdealRun

open Cert.ExpertIdeal Cert.ExpertIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

/-- The rows of point `t`'s tile in the experts' precision. -/
def rowsAt (hO : Ok m) (c : Dev nD) (t : Fin (cfgM m hO).N) : FVec F S512x1024 .bf16 := k0_pay3 (iblk m hO c 0 t)

/-- The accumulator after point `t`, entered at `a` on the rows `h`. -/
def stepAt (hO : Ok m) (c : Dev nD) (t : Fin (cfgM m hO).N) (h : FVec F S512x1024 .bf16) (a : FVec F S512x1024 .f32) : FVec F S512x1024 .f32 :=
  step h a (iblk m hO c 1 t) (iblk m hO c 2 t) (iblk m hO c 3 t)

/-- The accumulator after a tile's first step. -/
def firstAt (hO : Ok m) (c : Dev nD) (t : Fin (cfgM m hO).N) : FVec F S512x1024 .f32 := stepAt m hO c t (rowsAt m hO c t) k0_pay4

/-- The point before (of the first, itself). -/
def prev (hO : Ok m) (t : Fin (cfgM m hO).N) : Fin (cfgM m hO).N := ⟨t.val - 1, lt_of_le_of_lt (Nat.sub_le _ _) t.isLt⟩

/-- The result's block at a tile's last step. -/
def outAt (hO : Ok m) (c : Dev nD) (t : Fin (cfgM m hO).N) : FVec F S512x1024 .f32 :=
  open scoped Classical in
  if inUse (usedOf m) (grid0.coords t) then stepAt m hO c t (rowsAt m hO c (prev m hO t)) (firstAt m hO c (prev m hO t)) else k0_pay2

/-- What the scratch buffers hold before position `n`: between the steps of a tile in use, the rows and the accumulator of its first step. -/
def Carried (hO : Ok m) (c : Dev nD) (n : ℕ) (d0 : FVec F S512x1024 .bf16) (d1 : FVec F S512x1024 .f32) : Prop :=
  ∀ t : Fin (cfgM m hO).N, n = t.val + 1 → t.val % 2 = 0 → inUse (usedOf m) (grid0.coords t) → d0 = rowsAt m hO c t ∧ d1 = firstAt m hO c t

/-- The invariant before position `n`. -/
def Inv (hO : Ok m) (c : Dev nD) (n : ℕ) : sProp 𝕄 :=
  iprop((∃ d0 : FVec F S512x1024 .bf16, ∃ d1 : FVec F S512x1024 .f32, ⌜Carried m hO c n d0 d1⌝ ∗ owns (c : Thread nD τ) rowsM fullShare d0 ∗ owns (c : Thread nD τ) accM fullShare d1)
    ∗ (∃ r, prngReg c r) ∗ tabPt c teM (tbl m 0) ∗ tabPt c usedM (tbl m 1))

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outAt m hO c t
  Φ t := Inv m hO c t.val
  q w := Pipeline.shareOf spec0 w
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem bef_0 (hO : Ok m) (c : Dev nD) (t : Fin (cfgM m hO).N) (d) : (dats m hO 0 c).before 0 t d = iblk m hO c 0 t :=
  before_0 m hO (dats m hO 0 c) (A_eq m hO c 0) (after_0 m hO c) t d
theorem leaves_0 (hO : Ok m) (c : Dev nD) (t : Fin (cfgM m hO).N) :
    (dats m hO 0 c).leavesExact 0 t = owns (c : Thread nD τ) (ms_0 m hO t) fullShare (iblk m hO c 0 t) := by
  rw [show (dats m hO 0 c).leavesExact 0 t = owns (c : Thread nD τ) (ms_0 m hO t) fullShare ((dats m hO 0 c).after 0 t) from by
    unfold Dat.leavesExact; rw [live_0 m hO t]; try rfl, after_0]

theorem after_1 (hO : Ok m) (c : Dev nD) (t : Fin (cfgM m hO).N) : (dats m hO 0 c).after 1 t = iblk m hO c 1 t := by dsimp only [dats]; try rfl
theorem bef_1 (hO : Ok m) (c : Dev nD) (t : Fin (cfgM m hO).N) (d) : (dats m hO 0 c).before 1 t d = iblk m hO c 1 t :=
  before_1 m hO (dats m hO 0 c) (A_eq m hO c 1) (after_1 m hO c) t d
theorem leaves_1 (hO : Ok m) (c : Dev nD) (t : Fin (cfgM m hO).N) :
    (dats m hO 0 c).leavesExact 1 t = owns (c : Thread nD τ) (ms_1 m hO t) fullShare (iblk m hO c 1 t) := by
  rw [show (dats m hO 0 c).leavesExact 1 t = owns (c : Thread nD τ) (ms_1 m hO t) fullShare ((dats m hO 0 c).after 1 t) from by
    unfold Dat.leavesExact; rw [live_1 m hO t]; try rfl, after_1]

theorem after_2 (hO : Ok m) (c : Dev nD) (t : Fin (cfgM m hO).N) : (dats m hO 0 c).after 2 t = iblk m hO c 2 t := by dsimp only [dats]; try rfl
theorem bef_2 (hO : Ok m) (c : Dev nD) (t : Fin (cfgM m hO).N) (d) : (dats m hO 0 c).before 2 t d = iblk m hO c 2 t :=
  before_2 m hO (dats m hO 0 c) (A_eq m hO c 2) (after_2 m hO c) t d
theorem leaves_2 (hO : Ok m) (c : Dev nD) (t : Fin (cfgM m hO).N) :
    (dats m hO 0 c).leavesExact 2 t = owns (c : Thread nD τ) (ms_2 m hO t) fullShare (iblk m hO c 2 t) := by
  rw [show (dats m hO 0 c).leavesExact 2 t = owns (c : Thread nD τ) (ms_2 m hO t) fullShare ((dats m hO 0 c).after 2 t) from by
    unfold Dat.leavesExact; rw [live_2 m hO t]; try rfl, after_2]

theorem after_3 (hO : Ok m) (c : Dev nD) (t : Fin (cfgM m hO).N) : (dats m hO 0 c).after 3 t = iblk m hO c 3 t := by dsimp only [dats]; try rfl
theorem bef_3 (hO : Ok m) (c : Dev nD) (t : Fin (cfgM m hO).N) (d) : (dats m hO 0 c).before 3 t d = iblk m hO c 3 t :=
  before_3 m hO (dats m hO 0 c) (A_eq m hO c 3) (after_3 m hO c) t d
theorem leaves_3 (hO : Ok m) (c : Dev nD) (t : Fin (cfgM m hO).N) :
    (dats m hO 0 c).leavesExact 3 t = owns (c : Thread nD τ) (ms_3 m hO t) fullShare (iblk m hO c 3 t) := by
  rw [show (dats m hO 0 c).leavesExact 3 t = owns (c : Thread nD τ) (ms_3 m hO t) fullShare ((dats m hO 0 c).after 3 t) from by
    unfold Dat.leavesExact; rw [live_3 m hO t]; try rfl, after_3]

theorem after_4 (hO : Ok m) (c : Dev nD) (t : Fin (cfgM m hO).N) : (dats m hO 0 c).after 4 t = outAt m hO c t := by dsimp only [dats]; try rfl

theorem leaves_4_last (hO : Ok m) (c : Dev nD) (t : Fin (cfgM m hO).N) (h : lastStep (grid0.coords t)) :
    (dats m hO 0 c).leavesExact 4 t = owns (c : Thread nD τ) (ms_4 m hO t) fullShare (outAt m hO c t) := by
  rw [show (dats m hO 0 c).leavesExact 4 t = owns (c : Thread nD τ) (ms_4 m hO t) fullShare ((dats m hO 0 c).after 4 t) from by
    unfold Dat.leavesExact; rw [live_4_last m hO t h]; try rfl, after_4]

/-! ## The body's obligation -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms_0 m hO t) fullShare ((dats m hO 0 c).before 0 t d))
    ∗ (∃ d, owns (c : Thread nD τ) (ms_1 m hO t) fullShare ((dats m hO 0 c).before 1 t d))
    ∗ (∃ d, owns (c : Thread nD τ) (ms_2 m hO t) fullShare ((dats m hO 0 c).before 2 t d))
    ∗ (∃ d, owns (c : Thread nD τ) (ms_3 m hO t) fullShare ((dats m hO 0 c).before 3 t d))
    ∗ (∃ d, owns (c : Thread nD τ) (ms_4 m hO t) fullShare ((dats m hO 0 c).before 4 t d)))

def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t)

/-- At a tile's last step nothing is carried on; -/
theorem carried_last (hO : Ok m) (c : Dev nD) (t : Fin (cfgM m hO).N) (h : t.val % 2 = 1) (d0 : FVec F S512x1024 .bf16) (d1 : FVec F S512x1024 .f32) : Carried m hO c (t.val + 1) d0 d1 :=
  fun t' e h' _ => absurd h (by omega)
/-- nor at a tile not in use; -/
theorem carried_unused (hO : Ok m) (c : Dev nD) (t : Fin (cfgM m hO).N) (h : ¬inUse (usedOf m) (grid0.coords t)) (d0 : FVec F S512x1024 .bf16) (d1 : FVec F S512x1024 .f32) : Carried m hO c (t.val + 1) d0 d1 :=
  fun t' e _ hu => by
    obtain rfl : t = t' := Fin.ext (by omega)
    exact absurd hu h
/-- at the first step of a tile in use, what it stores. -/
theorem carried_first (hO : Ok m) (c : Dev nD) (t : Fin (cfgM m hO).N) : Carried m hO c (t.val + 1) (rowsAt m hO c t) (firstAt m hO c t) :=
  fun t' e _ hu => by
    obtain rfl : t = t' := Fin.ext (by omega)
    exact ⟨rfl, rfl⟩

/-- The result's block of a tile in use, from what is carried. -/
theorem out_used (hO : Ok m) (c : Dev nD) (t : Fin (cfgM m hO).N) (h : t.val % 2 = 1) (hu : inUse (usedOf m) (grid0.coords t)) (d0 : FVec F S512x1024 .bf16) (d1 : FVec F S512x1024 .f32)
    (hc : Carried m hO c t.val d0 d1) : step d0 d1 (iblk m hO c 1 t) (iblk m hO c 2 t) (iblk m hO c 3 t) = outAt m hO c t := by
  have hp : (prev m hO t).val = t.val - 1 := rfl
  obtain ⟨rfl, rfl⟩ := hc (prev m hO t) (by omega) (by omega) ((inUse_congr _ _ _ (by omega)).mpr hu)
  unfold outAt
  rw [if_pos hu]
  rfl

theorem out_unused (hO : Ok m) (c : Dev nD) (t : Fin (cfgM m hO).N) (hu : ¬inUse (usedOf m) (grid0.coords t)) : k0_pay2 = outAt m hO c t := by
  unfold outAt
  rw [if_neg hu]

set_option maxHeartbeats 6400000 in
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [bef_0, bef_1, bef_2, bef_3]
  rw [show (dats m hO 0 c).owesAt () t.succ = (dats m hO 0 c).owesAt () t.castSucc from rfl]
  rw [show (dats m hO 0 c).Φ t.succ = Inv m hO c (t.val + 1) from rfl, show (dats m hO 0 c).Φ t.castSucc = Inv m hO c t.val from rfl]
  rw [leaves_0, leaves_1, leaves_2, leaves_3]
  unfold Inv
  have hu := usedWord_eq m c
  rcases Nat.mod_two_eq_zero_or_one t.val with ht | ht
  · have h1 : firstStep (grid0.coords t) := (firstStep_iff t).mpr ht
    have h2 : ¬lastStep (grid0.coords t) := fun h => by have := (lastStep_iff t).mp h; omega
    have h3 : ¬unusedLast (usedOf m) (grid0.coords t) := fun h => h2 ((unusedLast_iff _ _).mp h).2
    rw [Dat.leavesExact_idle (dats m hO 0 c) 4 t (idle_4_first m hO t h2 h3) (noFlush_4 m hO t ht)]
    by_cases h0 : inUse (usedOf m) (grid0.coords t)
    · iintro ⟨⟨⟨%e0, %e1, -, HS0, HS1⟩, Hg, HT0, HT1⟩, Ho, ⟨%d0, H0⟩, ⟨%d1, H1⟩, ⟨%d2, H2⟩, ⟨%d3, H3⟩, ⟨%d4, H4⟩⟩
      have g0 : inUse (usedWord (F := F) c (tbl m 1)) (grid0.coords t) := by rw [hu]; exact h0
      have g3 : ¬unusedLast (usedWord (F := F) c (tbl m 1)) (grid0.coords t) := by rw [hu]; exact h3
      iapply ((runA c (grid0.coords t) _ _ _ _ _ _ _ _ _ _ _ _ _ _ (iblk m hO c 0 t) (iblk m hO c 1 t) (iblk m hO c 2 t) (iblk m hO c 3 t) (tbl m 0) (tbl m 1) g0 h1 h2 g3).2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HT0]; · iexact HT0
      isplitl [HT1]; · iexact HT1
      iintro ⟨H0, H1, H2, H3, H4, ⟨%es0, HS0⟩, ⟨%es1, HS1⟩, HT0, HT1⟩
      isplitl [HS0 HS1 Hg HT0 HT1]
      · isplitl [HS0 HS1]
        · iexists (rowsAt m hO c t); iexists (firstAt m hO c t)
          isplitr; · ipureintro; exact carried_first m hO c t
          isplitl [HS0]
          · unfold owns; iexists _; isplitr
            swap; · iexact HS0
            ipureintro; exact (View.read_writes_eq_canon _ _ _ (coverA9 c _ _ _ _ _ _ _ _ _ _ _ _ _ _ _ _ _ _ _ _ _ g0 h1 h2 g3)).trans (storedA9 c _ _ _ _ _ _ _ _ _ _ _ _ _ _ _ _ _ _ _ _ _ g0 h1 h2 g3)
          unfold owns; iexists _; isplitr
          swap; · iexact HS1
          ipureintro; exact (View.read_writes_eq_canon _ _ _ (coverA10 c _ _ _ _ _ _ _ _ _ _ _ _ _ _ _ _ _ _ _ _ _ g0 h1 h2 g3)).trans (storedA10 c _ _ _ _ _ _ _ _ _ _ _ _ _ _ _ _ _ _ _ _ _ g0 h1 h2 g3)
        isplitl [Hg]; · iexact Hg
        isplitl [HT0]; · iexact HT0
        iexact HT1
      isplitl [Ho]; · iexact Ho
      isplitl [H0]; · iexact H0
      isplitl [H1]; · iexact H1
      isplitl [H2]; · iexact H2
      isplitl [H3]; · iexact H3
      iexists _; iexact H4
    · iintro ⟨⟨⟨%e0, %e1, -, HS0, HS1⟩, Hg, HT0, HT1⟩, Ho, ⟨%d0, H0⟩, ⟨%d1, H1⟩, ⟨%d2, H2⟩, ⟨%d3, H3⟩, ⟨%d4, H4⟩⟩
      have g0 : ¬inUse (usedWord (F := F) c (tbl m 1)) (grid0.coords t) := by rw [hu]; exact h0
      have g3 : ¬unusedLast (usedWord (F := F) c (tbl m 1)) (grid0.coords t) := by rw [hu]; exact h3
      iapply ((runC c (grid0.coords t) _ _ _ _ _ _ _ _ _ _ _ _ _ _ (iblk m hO c 0 t) (iblk m hO c 1 t) (iblk m hO c 2 t) (iblk m hO c 3 t) (tbl m 0) (tbl m 1) e0 e1 g0 g3).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HT0]; · iexact HT0
      isplitl [HT1]; · iexact HT1
      iintro ⟨H0, H1, H2, H3, H4, HS0, HS1, HT0, HT1⟩
      isplitl [HS0 HS1 Hg HT0 HT1]
      · isplitl [HS0 HS1]
        · iexists e0; iexists e1
          isplitr; · ipureintro; exact carried_unused m hO c t h0 e0 e1
          isplitl [HS0]; · iexact HS0
          iexact HS1
        isplitl [Hg]; · iexact Hg
        isplitl [HT0]; · iexact HT0
        iexact HT1
      isplitl [Ho]; · iexact Ho
      isplitl [H0]; · iexact H0
      isplitl [H1]; · iexact H1
      isplitl [H2]; · iexact H2
      isplitl [H3]; · iexact H3
      iexists _; iexact H4
  · have h1 : ¬firstStep (grid0.coords t) := fun h => by have := (firstStep_iff t).mp h; omega
    have h2 : lastStep (grid0.coords t) := (lastStep_iff t).mpr ht
    rw [leaves_4_last m hO c t h2]
    by_cases h0 : inUse (usedOf m) (grid0.coords t)
    · have h3 : ¬unusedLast (usedOf m) (grid0.coords t) := fun h => ((unusedLast_iff _ _).mp h).1 h0
      iintro ⟨⟨⟨%e0, %e1, %hc, HS0, HS1⟩, Hg, HT0, HT1⟩, Ho, ⟨%d0, H0⟩, ⟨%d1, H1⟩, ⟨%d2, H2⟩, ⟨%d3, H3⟩, ⟨%d4, H4⟩⟩
      have g0 : inUse (usedWord (F := F) c (tbl m 1)) (grid0.coords t) := by rw [hu]; exact h0
      have g3 : ¬unusedLast (usedWord (F := F) c (tbl m 1)) (grid0.coords t) := by rw [hu]; exact h3
      iapply ((runB c (grid0.coords t) _ _ _ _ _ _ _ _ _ _ _ _ _ _ (iblk m hO c 0 t) (iblk m hO c 1 t) (iblk m hO c 2 t) (iblk m hO c 3 t) (tbl m 0) (tbl m 1) e0 e1 g0 h1 h2 g3).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HT0]; · iexact HT0
      isplitl [HT1]; · iexact HT1
      iintro ⟨H0, H1, H2, H3, ⟨%e4, H4⟩, HS0, ⟨%es1, HS1⟩, HT0, HT1⟩
      isplitl [HS0 HS1 Hg HT0 HT1]
      · isplitl [HS0 HS1]
        · iexists e0; iexists (stepAt m hO c t e0 e1)
          isplitr; · ipureintro; exact carried_last m hO c t ht _ _
          isplitl [HS0]; · iexact HS0
          unfold owns; iexists _; isplitr
          swap; · iexact HS1
          ipureintro; exact (View.read_writes_eq_canon _ _ _ (coverB10 c _ _ _ _ _ _ _ _ _ _ _ _ _ _ _ _ _ _ _ _ _ e0 e1 g0 h1 h2 g3)).trans (storedB10 c _ _ _ _ _ _ _ _ _ _ _ _ _ _ _ _ _ _ _ _ _ e0 e1 g0 h1 h2 g3)
        isplitl [Hg]; · iexact Hg
        isplitl [HT0]; · iexact HT0
        iexact HT1
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact ((View.read_writes_eq_canon _ _ _ (coverB8 c _ _ _ _ _ _ _ _ _ _ _ _ _ _ _ _ _ _ _ _ _ e0 e1 g0 h1 h2 g3)).trans (storedB8 c _ _ _ _ _ _ _ _ _ _ _ _ _ _ _ _ _ _ _ _ _ e0 e1 g0 h1 h2 g3)).trans (out_used m hO c t ht h0 e0 e1 hc)
    · have h3 : unusedLast (usedOf m) (grid0.coords t) := (unusedLast_iff _ _).mpr ⟨h0, h2⟩
      iintro ⟨⟨⟨%e0, %e1, -, HS0, HS1⟩, Hg, HT0, HT1⟩, Ho, ⟨%d0, H0⟩, ⟨%d1, H1⟩, ⟨%d2, H2⟩, ⟨%d3, H3⟩, ⟨%d4, H4⟩⟩
      have g0 : ¬inUse (usedWord (F := F) c (tbl m 1)) (grid0.coords t) := by rw [hu]; exact h0
      have g3 : unusedLast (usedWord (F := F) c (tbl m 1)) (grid0.coords t) := by rw [hu]; exact h3
      iapply ((runD c (grid0.coords t) _ _ _ _ _ _ _ _ _ _ _ _ _ _ (iblk m hO c 0 t) (iblk m hO c 1 t) (iblk m hO c 2 t) (iblk m hO c 3 t) (tbl m 0) (tbl m 1) e0 e1 g0 g3).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HT0]; · iexact HT0
      isplitl [HT1]; · iexact HT1
      iintro ⟨H0, H1, H2, H3, ⟨%e4, H4⟩, HS0, HS1, HT0, HT1⟩
      isplitl [HS0 HS1 Hg HT0 HT1]
      · isplitl [HS0 HS1]
        · iexists e0; iexists e1
          isplitr; · ipureintro; exact carried_unused m hO c t h0 e0 e1
          isplitl [HS0]; · iexact HS0
          iexact HS1
        isplitl [Hg]; · iexact Hg
        isplitl [HT0]; · iexact HT0
        iexact HT1
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact ((View.read_writes_eq_canon _ _ _ (coverD8 c _ _ _ _ _ _ _ _ _ _ _ _ _ _ _ _ _ _ _ _ _ e0 e1 g0 g3)).trans (storedD8 c _ _ _ _ _ _ _ _ _ _ _ _ _ _ _ _ _ _ _ _ _ e0 e1 g0 g3)).trans (out_unused m hO c t h0)

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

theorem hin (hO : Ok m) (c : Dev nD) : iprop(Pipeline.ΦA spec0 c ∗ Pipeline.ΦT pre0 (tbl m) c) ⊢ (dats m hO 0 c).Φ 0 := by
  rw [show (dats m hO 0 c).Φ 0 = Inv m hO c 0 from rfl, PhiA0_eq, PhiT0_eq]
  unfold Inv
  iintro ⟨⟨⟨⟨%e0, HS0⟩, ⟨%e1, HS1⟩⟩, Hg⟩, HT0, HT1⟩
  isplitl [HS0 HS1]
  · iexists e0; iexists e1
    isplitr; · ipureintro; exact fun t' e => absurd e (by omega)
    isplitl [HS0]; · iexact HS0
    iexact HS1
  isplitl [Hg]; · iexact Hg
  isplitl [HT0]; · iexact HT0
  iexact HT1

theorem hout (hO : Ok m) (c : Dev nD) : (dats m hO 0 c).Φ (Fin.last (cfgM m hO).N) ⊢ Pipeline.ΦA spec0 c := by
  rw [show (dats m hO 0 c).Φ (Fin.last (cfgM m hO).N) = Inv m hO c (cfgM m hO).N from rfl, PhiA0_eq]
  unfold Inv
  iintro ⟨⟨%e0, %e1, -, HS0, HS1⟩, Hg, -⟩
  isplitl [HS0 HS1]
  · isplitl [HS0]
    · iexists _; iexact HS0
    iexists _; iexact HS1
  iexact Hg

/-! ## The run and the frame -/

set_option backward.isDefEq.respectTransparency.types false in
/-- Every run ends with the pipeline's arrays at what the proof data says, every other buffer as launched, and every counter at zero. -/
theorem run_quiet (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hin := hin m hO) (hout := hout m hO)

/-- The argument arrays end as launched, every counter at zero, and the result's array is what the points wrote back. -/
theorem run_main (hO : Ok m) : θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)
      ∧ ∀ c : Dev nD, r.2.mem ((c.tc : Thread nD τ).loc main_v0) = (dats m hO 0 c).arrAt 4 (cfgM m hO).N) :=
  (θ_run defs _ _).mono (fun _ h => ⟨⟨fun c => ⟨(h.1 c).2 main_arg0 (by decide : main_arg0 ∈ Pipeline.restRefs sig spec0),
      (h.1 c).2 main_arg1 (by decide : main_arg1 ∈ Pipeline.restRefs sig spec0),
      ((h.1 c).1 0).trans (((dats m hO 0 c).arrAt_in 0 rfl _).trans (A_eq m hO c 0)),
      ((h.1 c).1 2).trans (((dats m hO 0 c).arrAt_in 2 rfl _).trans (A_eq m hO c 2)),
      ((h.1 c).1 3).trans (((dats m hO 0 c).arrAt_in 3 rfl _).trans (A_eq m hO c 3))⟩, h.2⟩, fun c => (h.1 c).1 4⟩) (run_quiet m ρ hO)

end Cert.ExpertIdealRun

end
-- ==== Proof.ExpertIdealTables.lean ====
/- The expert kernel's tables: which expert a tile names, and why its weights' blocks lie inside the arrays. -/
module

public import proofs.«01_k».proof.Proof.ExpertIdealFrame
public import proofs.«01_k».proof.Proof.Swiglu
public import proofs.«01_k».proof.Proof.Gen.Pre_tables

@[expose] public section

set_option maxRecDepth 16384

noncomputable section

namespace Cert.ExpertIdealRun

open Cert.ExpertIdeal Cert.ExpertIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The expert of tile `i`, as launched. -/
def expertOf (i : Fin 136) : BitVec 32 := m (((0 : Dev nD) : Thread nD τ).loc main_arg0) (ix1 i)

theorem table_at (i : grid0.Coords) (h : ∀ a, (![(BitVec.ofNat 32 (i 0).val).toNat] : Fin 1 → Nat) a + S1.size a ≤ S136.size a) :
    (tbl m).at 0 (Rect.unit (s := S136) ![(BitVec.ofNat 32 (i 0).val).toNat] S1.size h) numel1_S1 = expertOf m (i 0) := by
  have hi : (i 0).val < 136 := (i 0).isLt
  refine congrArg (m (((0 : Dev nD) : Thread nD τ).loc main_arg0)) (funext fun (a : Fin 1) => Fin.ext ?_)
  obtain rfl : a = 0 := Subsingleton.elim _ _
  show (BitVec.ofNat 32 (i 0).val).toNat + 1 * _ = (i 0).val
  have e : (BitVec.ofNat 32 (i 0).val).toNat = (i 0).val := by rw [BitVec.toNat_ofNat]; omega
  exact (congrArg (· + 1 * 0) e).trans (by omega)

theorem index_1 (i : grid0.Coords) : cc0_transform_1 k0_off1_inb numel1_S1 (tbl m) i = ![(expertOf m (i 0)).toNat, 0, (i 1).val] := by
  have h1 : (i 1).val < 2 := (i 1).isLt
  have e : (BitVec.ofNat 32 (i 1).val).toNat = (i 1).val := by rw [BitVec.toNat_ofNat]; omega
  unfold cc0_transform_1
  dsimp only
  rw [e]
  exact congrArg (fun z : BitVec 32 => ![z.toNat, 0, (i 1).val]) (table_at m i _)

theorem index_2 (i : grid0.Coords) : cc0_transform_2 k0_off1_inb numel1_S1 (tbl m) i = ![(expertOf m (i 0)).toNat, 0, 2 + (i 1).val] := by
  have h1 : (i 1).val < 2 := (i 1).isLt
  have e : (Scalar.addi 2#32 (BitVec.ofNat 32 (i 1).val)).toNat = 2 + (i 1).val := by
    show (2#32 + BitVec.ofNat 32 (i 1).val).toNat = _
    rw [BitVec.toNat_add, BitVec.toNat_ofNat, BitVec.toNat_ofNat]; omega
  unfold cc0_transform_2
  dsimp only
  rw [e]
  exact congrArg (fun z : BitVec 32 => ![z.toNat, 0, 2 + (i 1).val]) (table_at m i _)

theorem index_3 (i : grid0.Coords) : cc0_transform_3 k0_off1_inb numel1_S1 (tbl m) i = ![(expertOf m (i 0)).toNat, (i 1).val, 0] := by
  have h1 : (i 1).val < 2 := (i 1).isLt
  have e : (BitVec.ofNat 32 (i 1).val).toNat = (i 1).val := by rw [BitVec.toNat_ofNat]; omega
  unfold cc0_transform_3
  dsimp only
  rw [e]
  exact congrArg (fun z : BitVec 32 => ![z.toNat, (i 1).val, 0]) (table_at m i _)

theorem inside_1 (h : ∀ i : Fin 136, (expertOf m i).toNat < 8) (i : grid0.Coords) (a : Fin 3) :
    (cc0_transform_1 k0_off1_inb numel1_S1 (tbl m) i a + 1) * S1x1024x1792.size a ≤ S8x1024x7168.size a := by
  have he : (expertOf m (i 0)).toNat < 8 := h (i 0)
  have h1 : (i 1).val < 2 := (i 1).isLt
  rw [index_1 m i]
  match a with
  | ⟨0, _⟩ => show ((expertOf m (i 0)).toNat + 1) * 1 ≤ 8; omega
  | ⟨1, _⟩ => show (0 + 1) * 1024 ≤ 1024; omega
  | ⟨2, _⟩ => show ((i 1).val + 1) * 1792 ≤ 7168; omega

theorem inside_2 (h : ∀ i : Fin 136, (expertOf m i).toNat < 8) (i : grid0.Coords) (a : Fin 3) :
    (cc0_transform_2 k0_off1_inb numel1_S1 (tbl m) i a + 1) * S1x1024x1792.size a ≤ S8x1024x7168.size a := by
  have he : (expertOf m (i 0)).toNat < 8 := h (i 0)
  have h1 : (i 1).val < 2 := (i 1).isLt
  rw [index_2 m i]
  match a with
  | ⟨0, _⟩ => show ((expertOf m (i 0)).toNat + 1) * 1 ≤ 8; omega
  | ⟨1, _⟩ => show (0 + 1) * 1024 ≤ 1024; omega
  | ⟨2, _⟩ => show (2 + (i 1).val + 1) * 1792 ≤ 7168; omega

theorem inside_3 (h : ∀ i : Fin 136, (expertOf m i).toNat < 8) (i : grid0.Coords) (a : Fin 3) :
    (cc0_transform_3 k0_off1_inb numel1_S1 (tbl m) i a + 1) * S1x1792x1024.size a ≤ S8x3584x1024.size a := by
  have he : (expertOf m (i 0)).toNat < 8 := h (i 0)
  have h1 : (i 1).val < 2 := (i 1).isLt
  rw [index_3 m i]
  match a with
  | ⟨0, _⟩ => show ((expertOf m (i 0)).toNat + 1) * 1 ≤ 8; omega
  | ⟨1, _⟩ => show ((i 1).val + 1) * 1792 ≤ 3584; omega
  | ⟨2, _⟩ => show (0 + 1) * 1024 ≤ 1024; omega

/-- Blocks of an even number of rows at an even row hold whole words. -/
theorem words_of_even {s : Shape} (r : Rect s) (h2 : 2 ≤ s.rank) (h1 : r.stride (s.rowAx h2) = 1)
    (ho : 2 ∣ r.off (s.rowAx h2)) (hs : 2 ∣ r.size (s.rowAx h2)) : r.WholeWords 2 :=
  .inl (.inr ⟨h2, h1, .inl ⟨ho, hs⟩⟩)

/-- With every tile's expert one of the eight, the weights' blocks lie inside the arrays. -/
theorem ok_of_lt (h : ∀ i : Fin 136, (expertOf m i).toNat < 8) : Ok m := by
  refine ⟨fun i => ⟨inside_1 m h i, .inr ?_⟩, fun i => ⟨inside_2 m h i, .inr ?_⟩, fun i => ⟨inside_3 m h i, .inr ?_⟩⟩
  · exact words_of_even _ (show 2 ≤ 3 by decide) rfl (Dvd.dvd.mul_left (show 2 ∣ S1x1024x1792.size (S8x1024x7168.rowAx (show 2 ≤ 3 by decide)) by decide) _) (show 2 ∣ S1x1024x1792.size (S8x1024x7168.rowAx (show 2 ≤ 3 by decide)) by decide)
  · exact words_of_even _ (show 2 ≤ 3 by decide) rfl (Dvd.dvd.mul_left (show 2 ∣ S1x1024x1792.size (S8x1024x7168.rowAx (show 2 ≤ 3 by decide)) by decide) _) (show 2 ∣ S1x1024x1792.size (S8x1024x7168.rowAx (show 2 ≤ 3 by decide)) by decide)
  · exact words_of_even _ (show 2 ≤ 3 by decide) rfl (Dvd.dvd.mul_left (show 2 ∣ S1x1792x1024.size (S8x3584x1024.rowAx (show 2 ≤ 3 by decide)) by decide) _) (show 2 ∣ S1x1792x1024.size (S8x3584x1024.rowAx (show 2 ≤ 3 by decide)) by decide)

/-- A word the precondition admits. -/
theorem word_lt (v : BitVec 32) (h : IntOp.andi (IntOp.cmpi .sge v 0#32) (IntOp.cmpi .slt v 8#32) = 1#1) : v.toNat < 8 := by
  have andi_one (a b : BitVec 1) : IntOp.andi a b = 1#1 ↔ a = 1#1 ∧ b = 1#1 := by revert a b; decide
  have ofBool_one (b : Bool) (hb : BitVec.ofBool b = 1#1) : b = true := by revert hb; cases b <;> decide
  obtain ⟨h0, h1⟩ := (andi_one _ _).mp h
  have e0 : (0#32).sle v = true := ofBool_one _ h0
  have e1 : v.slt 8#32 = true := ofBool_one _ h1
  rw [BitVec.sle_iff_toInt_le] at e0
  rw [BitVec.slt_iff_toInt_lt] at e1
  rw [show (0#32).toInt = 0 from by decide, BitVec.toInt_eq_toNat_cond] at e0
  rw [show (8#32).toInt = 8 from by decide, BitVec.toInt_eq_toNat_cond] at e1
  have := v.isLt
  split at e0 <;> omega

theorem lt_of_pre (h : Cert.Pre_tables.fn (F := F) (m (((0 : Dev nD) : Thread nD τ).loc main_arg0)) (m (((0 : Dev nD) : Thread nD τ).loc main_arg1)) (m (((0 : Dev nD) : Thread nD τ).loc main_arg2)) (m (((0 : Dev nD) : Thread nD τ).loc main_arg3)) (m (((0 : Dev nD) : Thread nD τ).loc main_arg4)) = fun _ => 1#1) (i : Fin 136) :
    (expertOf m i).toNat < 8 :=
  word_lt _ (congrFun h (ix1 i))

end Cert.ExpertIdealRun

end
-- ==== Proof.ExpertArray.lean ====
/- The expert kernel's result array, entry by entry, from the five argument arrays. -/
module

public import proofs.«01_k».proof.Proof.ExpertBlock
public import proofs.«01_k».proof.Proof.ExpertIdealTables

@[expose] public section

set_option maxRecDepth 16384

noncomputable section

namespace Cert.ExpertArray

open Cert.ExpertIdeal Cert.ExpertIdeal.Gen Cert.ExpertIdealRun Cert.ExpertBlock Cert.Swiglu Idealize.ShloMosaic Idealize.ShloMosaic.TcCoe Idealize.SL.Sem

/-- What hidden unit `k` of expert `e` adds to entry `(r, n)`. -/
def unitOf (x : Vec Ideal S69632x1024 .f32) (w13 : Vec Ideal S8x1024x7168 .bf16) (w2 : Vec Ideal S8x3584x1024 .bf16)
    (e : Fin 8) (r : Fin 69632) (n : Fin 1024) (k : Fin 3584) : EReal :=
  hidden (∑ l : Fin 1024, x (ix2 r l) * w13 (ix3 e l ⟨k.val, by omega⟩)) (∑ l : Fin 1024, x (ix2 r l) * w13 (ix3 e l ⟨3584 + k.val, by omega⟩))
    (w2 (ix3 e k n))

/-- Expert `e`'s value at `(r, n)`. -/
def ffn (x : Vec Ideal S69632x1024 .f32) (w13 : Vec Ideal S8x1024x7168 .bf16) (w2 : Vec Ideal S8x3584x1024 .bf16)
    (e : Fin 8) (r : Fin 69632) (n : Fin 1024) : EReal := ∑ k : Fin 3584, unitOf x w13 w2 e r n k

/-- A row's tile. -/
def tile (r : Fin 69632) : Fin 136 := ⟨r.val / 512, by omega⟩

/-- Whether row `r`'s tile is in use. -/
def Used (used : Vec Ideal S1 .i32) (r : Fin 69632) : Prop := IntOp.cmpi .slt (BitVec.ofNat 32 (r.val / 512)) (used (ix1 0)) = 1#1

/-- The result: a row of a tile in use goes through its tile's expert, the others are zero. -/
def routed (te : Vec Ideal S136 .i32) (used : Vec Ideal S1 .i32) (x : Vec Ideal S69632x1024 .f32) (w13 : Vec Ideal S8x1024x7168 .bf16)
    (w2 : Vec Ideal S8x3584x1024 .bf16) (r : Fin 69632) (n : Fin 1024) : EReal :=
  open scoped Classical in
  if Used used r then ffn x w13 w2 ⟨(te (ix1 (tile r))).toNat % 8, Nat.mod_lt _ (by decide)⟩ r n else 0

/-- The 3584 hidden units, the two steps' one after the other. -/
theorem two_steps (f : Fin 3584 → EReal) :
    ∑ k : Fin 3584, f k = (∑ k : Fin 1792, f ⟨k.val, by omega⟩) + ∑ k : Fin 1792, f ⟨1792 + k.val, by omega⟩ :=
  Fin.sum_univ_add (a := 1792) (b := 1792) f

variable (m : (ℓ : Loc nD τ sig) → Buf (Elt Ideal) ℓ) (hO : Ok m)

/-! ## The blocks as parts of the arrays -/

theorem step_val (t : Fin grid0.N) : (grid0.coords t 1).val = t.val % 2 := by
  have e1 : (grid0.coords t 1).val = t.val / 1 % 2 := Pipeline.Grid.coords_val t 1 (by decide) rfl
  omega

theorem index_0 (t : Fin grid0.N) : cc0_transform_0 (grid0.coords t) = ![t.val / 2, 0] := by
  have ht : t.val < 272 := Nat.lt_of_lt_of_eq t.isLt N_0
  unfold cc0_transform_0
  dsimp only
  rw [tile_val t, show (BitVec.ofNat 32 (t.val / 2)).toNat = t.val / 2 from by rw [BitVec.toNat_ofNat]; omega]
  rfl

theorem index_4 (t : Fin grid0.N) : cc0_transform_4 (grid0.coords t) = ![t.val / 2, 0] := by
  have ht : t.val < 272 := Nat.lt_of_lt_of_eq t.isLt N_0
  unfold cc0_transform_4
  dsimp only
  rw [tile_val t, show (BitVec.ofNat 32 (t.val / 2)).toNat = t.val / 2 from by rw [BitVec.toNat_ofNat]; omega]
  rfl

theorem iblk0_apply (t : Fin (cfgM m hO).N) (r : Fin 512) (l : Fin 1024) (R : Fin 69632) (hR : R.val = t.val / 2 * 512 + r.val) :
    iblk m hO 0 0 t (ix2 r l) = m (((0 : Dev nD) : Thread nD τ).loc main_arg2) (ix2 R l) := by
  have i0 : ((cfgM m hO).win 0).index t (0 : Fin 2) = t.val / 2 := congrFun (index_0 t) 0
  have i1 : ((cfgM m hO).win 0).index t (1 : Fin 2) = 0 := congrFun (index_0 t) 1
  exact congrArg (m (((0 : Dev nD) : Thread nD τ).loc main_arg2)) (funext fun (a : Fin 2) => Fin.ext ((((cfgM m hO).win 0).rect_emb_val t (ix2 r l) a).trans
    (match a with
      | ⟨0, _⟩ => (by show ((cfgM m hO).win 0).index t (0 : Fin 2) * 512 + r.val = R.val; rw [i0, hR])
      | ⟨1, _⟩ => (by show ((cfgM m hO).win 0).index t (1 : Fin 2) * 1024 + l.val = l.val; rw [i1]; omega))))

theorem iblk1_apply (t : Fin (cfgM m hO).N) (l : Fin 1024) (k : Fin 1792) (e : Fin 8) (he : (expertOf m (grid0.coords t 0)).toNat = e.val)
    (k' : Fin 7168) (hk : k'.val = t.val % 2 * 1792 + k.val) :
    iblk m hO 0 1 t (ix3 (0 : Fin 1) l k) = m (((0 : Dev nD) : Thread nD τ).loc main_arg3) (ix3 e l k') := by
  have i0 : ((cfgM m hO).win 1).index t (0 : Fin 3) = e.val := (congrFun (index_1 m (grid0.coords t)) 0).trans he
  have i1 : ((cfgM m hO).win 1).index t (1 : Fin 3) = 0 := congrFun (index_1 m (grid0.coords t)) 1
  have i2 : ((cfgM m hO).win 1).index t (2 : Fin 3) = t.val % 2 := (congrFun (index_1 m (grid0.coords t)) 2).trans (step_val t)
  exact congrArg (m (((0 : Dev nD) : Thread nD τ).loc main_arg3)) (funext fun (a : Fin 3) => Fin.ext ((((cfgM m hO).win 1).rect_emb_val t (ix3 (0 : Fin 1) l k) a).trans
    (match a with
      | ⟨0, _⟩ => (by show ((cfgM m hO).win 1).index t (0 : Fin 3) * 1 + 0 = e.val; rw [i0]; omega)
      | ⟨1, _⟩ => (by show ((cfgM m hO).win 1).index t (1 : Fin 3) * 1024 + l.val = l.val; rw [i1]; omega)
      | ⟨2, _⟩ => (by show ((cfgM m hO).win 1).index t (2 : Fin 3) * 1792 + k.val = k'.val; rw [i2, hk]))))

theorem iblk2_apply (t : Fin (cfgM m hO).N) (l : Fin 1024) (k : Fin 1792) (e : Fin 8) (he : (expertOf m (grid0.coords t 0)).toNat = e.val)
    (k' : Fin 7168) (hk : k'.val = 3584 + (t.val % 2 * 1792 + k.val)) :
    iblk m hO 0 2 t (ix3 (0 : Fin 1) l k) = m (((0 : Dev nD) : Thread nD τ).loc main_arg3) (ix3 e l k') := by
  have i0 : ((cfgM m hO).win 2).index t (0 : Fin 3) = e.val := (congrFun (index_2 m (grid0.coords t)) 0).trans he
  have i1 : ((cfgM m hO).win 2).index t (1 : Fin 3) = 0 := congrFun (index_2 m (grid0.coords t)) 1
  have i2 : ((cfgM m hO).win 2).index t (2 : Fin 3) = 2 + t.val % 2 := (congrFun (index_2 m (grid0.coords t)) 2).trans (congrArg (2 + ·) (step_val t))
  exact congrArg (m (((0 : Dev nD) : Thread nD τ).loc main_arg3)) (funext fun (a : Fin 3) => Fin.ext ((((cfgM m hO).win 2).rect_emb_val t (ix3 (0 : Fin 1) l k) a).trans
    (match a with
      | ⟨0, _⟩ => (by show ((cfgM m hO).win 2).index t (0 : Fin 3) * 1 + 0 = e.val; rw [i0]; omega)
      | ⟨1, _⟩ => (by show ((cfgM m hO).win 2).index t (1 : Fin 3) * 1024 + l.val = l.val; rw [i1]; omega)
      | ⟨2, _⟩ => (by show ((cfgM m hO).win 2).index t (2 : Fin 3) * 1792 + k.val = k'.val; rw [i2, hk]; omega))))

theorem iblk3_apply (t : Fin (cfgM m hO).N) (k : Fin 1792) (n : Fin 1024) (e : Fin 8) (he : (expertOf m (grid0.coords t 0)).toNat = e.val)
    (k' : Fin 3584) (hk : k'.val = t.val % 2 * 1792 + k.val) :
    iblk m hO 0 3 t (ix3 (0 : Fin 1) k n) = m (((0 : Dev nD) : Thread nD τ).loc main_arg4) (ix3 e k' n) := by
  have i0 : ((cfgM m hO).win 3).index t (0 : Fin 3) = e.val := (congrFun (index_3 m (grid0.coords t)) 0).trans he
  have i1 : ((cfgM m hO).win 3).index t (1 : Fin 3) = t.val % 2 := (congrFun (index_3 m (grid0.coords t)) 1).trans (step_val t)
  have i2 : ((cfgM m hO).win 3).index t (2 : Fin 3) = 0 := congrFun (index_3 m (grid0.coords t)) 2
  exact congrArg (m (((0 : Dev nD) : Thread nD τ).loc main_arg4)) (funext fun (a : Fin 3) => Fin.ext ((((cfgM m hO).win 3).rect_emb_val t (ix3 (0 : Fin 1) k n) a).trans
    (match a with
      | ⟨0, _⟩ => (by show ((cfgM m hO).win 3).index t (0 : Fin 3) * 1 + 0 = e.val; rw [i0]; omega)
      | ⟨1, _⟩ => (by show ((cfgM m hO).win 3).index t (1 : Fin 3) * 1792 + k.val = k'.val; rw [i1, hk])
      | ⟨2, _⟩ => (by show ((cfgM m hO).win 3).index t (2 : Fin 3) * 1024 + n.val = n.val; rw [i2]; omega))))

theorem one_place (i j : S1.Idx) : i = j :=
  funext fun (a : Fin 1) => match a with | ⟨0, _⟩ => Subsingleton.elim (α := Fin 1) (i (0 : Fin 1)) (j (0 : Fin 1))

theorem used_eq : usedOf m = m (((0 : Dev nD) : Thread nD τ).loc main_arg1) (ix1 0) :=
  congrArg (m (((0 : Dev nD) : Thread nD τ).loc main_arg1)) (one_place _ _)

/-! ## What a tile's last step writes back -/

/-- Two steps from a cleared accumulator. -/
theorem two_apply (h : Vec Ideal S512x1024 .bf16) (x1 x2 y1 y2 : Vec Ideal S1x1024x1792 .bf16) (x3 y3 : Vec Ideal S1x1792x1024 .bf16) (r : Fin 512) (n : Fin 1024) :
    step h (step h (k0_pay4 (F := Ideal)) x1 x2 x3) y1 y2 y3 (ix2 r n) = (∑ k : Fin 1792, unitAt h x1 x2 x3 r n k) + ∑ k : Fin 1792, unitAt h y1 y2 y3 r n k := by
  rw [step_apply, step_apply, start_apply, zero_add]

/-- One hidden unit of point `t`, on rows that are the array's. -/
theorem unit_eq (t : Fin (cfgM m hO).N) (h : Vec Ideal S512x1024 .bf16) (r : Fin 512) (n : Fin 1024) (R : Fin 69632)
    (hx : ∀ l : Fin 1024, h (ix2 r l) = m (((0 : Dev nD) : Thread nD τ).loc main_arg2) (ix2 R l))
    (e : Fin 8) (he : (expertOf m (grid0.coords t 0)).toNat = e.val) (k : Fin 1792) (k' : Fin 3584) (hk : k'.val = t.val % 2 * 1792 + k.val) :
    unitAt h (iblk m hO 0 1 t) (iblk m hO 0 2 t) (iblk m hO 0 3 t) r n k
      = unitOf (m (((0 : Dev nD) : Thread nD τ).loc main_arg2)) (m (((0 : Dev nD) : Thread nD τ).loc main_arg3)) (m (((0 : Dev nD) : Thread nD τ).loc main_arg4)) e R n k' := by
  unfold unitAt unitOf
  rw [iblk3_apply m hO t k n e he k' hk]
  refine congrArg₂ (fun a b => hidden a b _) (Finset.sum_congr rfl fun l _ => ?_) (Finset.sum_congr rfl fun l _ => ?_)
  · rw [hx, iblk1_apply m hO t l k e he ⟨k'.val, by omega⟩ hk]
  · rw [hx, iblk2_apply m hO t l k e he ⟨3584 + k'.val, by omega⟩ (by show 3584 + k'.val = _; omega)]

theorem out_apply (hlt : ∀ i : Fin 136, (expertOf m i).toNat < 8) (t : Fin (cfgM m hO).N) (ht : t.val % 2 = 1) (r : Fin 512) (n : Fin 1024)
    (R : Fin 69632) (hR : R.val = t.val / 2 * 512 + r.val) :
    outAt m hO 0 t (ix2 r n)
      = routed (m (((0 : Dev nD) : Thread nD τ).loc main_arg0)) (m (((0 : Dev nD) : Thread nD τ).loc main_arg1)) (m (((0 : Dev nD) : Thread nD τ).loc main_arg2))
          (m (((0 : Dev nD) : Thread nD τ).loc main_arg3)) (m (((0 : Dev nD) : Thread nD τ).loc main_arg4)) R n := by
  have hT : t.val < 272 := Nat.lt_of_lt_of_eq t.isLt N_0
  have hq : R.val / 512 = t.val / 2 := by omega
  have hp : (prev m hO t).val = t.val - 1 := rfl
  have hp2 : (prev m hO t).val / 2 = t.val / 2 := by omega
  have hpm : (prev m hO t).val % 2 = 0 := by omega
  have c0 : grid0.coords t 0 = tile R := Fin.ext ((tile_val t).trans hq.symm)
  have c1 : grid0.coords (prev m hO t) 0 = tile R := Fin.ext ((tile_val (prev m hO t)).trans (hp2.trans hq.symm))
  have hu : inUse (usedOf m) (grid0.coords t) ↔ Used (m (((0 : Dev nD) : Thread nD τ).loc main_arg1)) R := by
    rw [inUse_iff, tile_val, ← hq, used_eq]
    exact Iff.rfl
  unfold outAt routed
  by_cases h : inUse (usedOf m) (grid0.coords t)
  · rw [if_pos h, if_pos (hu.mp h)]
    have he : (expertOf m (tile R)).toNat = (⟨(expertOf m (tile R)).toNat % 8, Nat.mod_lt _ (by decide)⟩ : Fin 8).val := (Nat.mod_eq_of_lt (hlt _)).symm
    have hx : ∀ l : Fin 1024, rowsAt m hO 0 (prev m hO t) (ix2 r l) = m (((0 : Dev nD) : Thread nD τ).loc main_arg2) (ix2 R l) := fun l =>
      (rows_apply _ r l).trans (iblk0_apply m hO (prev m hO t) r l R (by rw [hp2]; exact hR))
    unfold firstAt stepAt
    refine (two_apply _ _ _ _ _ _ _ r n).trans (Eq.trans ?_ (two_steps _).symm)
    refine congrArg₂ (· + ·) (Finset.sum_congr rfl fun k _ => ?_) (Finset.sum_congr rfl fun k _ => ?_)
    · exact unit_eq m hO (prev m hO t) _ r n R hx _ (by rw [c1]; exact he) k _ (by rw [hpm]; show k.val = _; omega)
    · exact unit_eq m hO t _ r n R hx _ (by rw [c0]; exact he) k _ (by rw [ht])
  · rw [if_neg h, if_neg (fun g => h (hu.mpr g))]
    exact unused_apply r n

/-- Every entry of the result is in the block of some tile's last step. -/
theorem covers : ((cfgM m hO).win 4).Covers := by
  refine ⟨fun (a : Fin 2) => match a with | ⟨0, _⟩ => (by decide : 0 < 512) | ⟨1, _⟩ => (by decide : 0 < 1024), fun β => ?_⟩
  have b0 : (β (0 : Fin 2)).val < 136 := lt_of_lt_of_eq (β (0 : Fin 2)).isLt (show (69632 + 512 - 1) / 512 = 136 by decide)
  have b1 : (β (1 : Fin 2)).val < 1 := lt_of_lt_of_eq (β (1 : Fin 2)).isLt (show (1024 + 1024 - 1) / 1024 = 1 by decide)
  have hN : 2 * (β (0 : Fin 2)).val + 1 < grid0.N := by rw [show grid0.N = 272 from N_0]; omega
  refine ⟨⟨2 * (β (0 : Fin 2)).val + 1, hN⟩, (flush_4 m hO _).mpr (by show (2 * (β (0 : Fin 2)).val + 1) % 2 = 1; omega), fun (a : Fin 2) => ⟨?_, .inl rfl⟩⟩
  refine (congrFun (index_4 ⟨2 * (β (0 : Fin 2)).val + 1, hN⟩) a).trans ?_
  match a with
  | ⟨0, _⟩ => show (2 * (β (0 : Fin 2)).val + 1) / 2 = (β (0 : Fin 2)).val; omega
  | ⟨1, _⟩ => show 0 = (β (1 : Fin 2)).val; omega

theorem final (hlt : ∀ i : Fin 136, (expertOf m i).toNat < 8) (c : Dev nD) : (dats m hO 0 c).arrAt 4 (cfgM m hO).N
    = fun i => routed (m ((c : Thread nD τ).loc main_arg0)) (m ((c : Thread nD τ).loc main_arg1)) (m ((c : Thread nD τ).loc main_arg2))
        (m ((c : Thread nD τ).loc main_arg3)) (m ((c : Thread nD τ).loc main_arg4)) (i (0 : Fin 2)) (i (1 : Fin 2)) := by
  obtain rfl : c = 0 := Subsingleton.elim _ _
  refine (dats m hO 0 0).arrAt_eq_of_covers 4 _ (covers m hO) fun t hf y => ?_
  blk_simp
  rw [after_4]
  have ht := (flush_4 m hO t).mp hf
  have i0 : ((cfgM m hO).win 4).index t (0 : Fin 2) = t.val / 2 := congrFun (index_4 t) 0
  have i1 : ((cfgM m hO).win 4).index t (1 : Fin 2) = 0 := congrFun (index_4 t) 1
  have e0 : ((((cfgM m hO).win 4).blk t).view.emb y (0 : Fin 2)).val = ((cfgM m hO).win 4).index t (0 : Fin 2) * 512 + (y (0 : Fin 2)).val := ((cfgM m hO).win 4).rect_emb_val t y (0 : Fin 2)
  have e1 : ((((cfgM m hO).win 4).blk t).view.emb y (1 : Fin 2)).val = ((cfgM m hO).win 4).index t (1 : Fin 2) * 1024 + (y (1 : Fin 2)).val := ((cfgM m hO).win 4).rect_emb_val t y (1 : Fin 2)
  generalize (((cfgM m hO).win 4).blk t).view.emb y = E at e0 e1 ⊢
  obtain ⟨r, hr⟩ : ∃ r : Fin 512, r = y (0 : Fin 2) := ⟨_, rfl⟩
  obtain ⟨n, hn⟩ : ∃ n : Fin 1024, n = y (1 : Fin 2) := ⟨_, rfl⟩
  obtain ⟨R, hR⟩ : ∃ R : Fin 69632, R = E (0 : Fin 2) := ⟨_, rfl⟩
  obtain ⟨N, hN⟩ : ∃ N : Fin 1024, N = E (1 : Fin 2) := ⟨_, rfl⟩
  rw [show y = ix2 r n from by rw [hr, hn]; exact eq_ix2 y, ← hR, ← hN]
  rw [← hr, ← hR, i0] at e0
  rw [← hn, ← hN, i1] at e1
  rw [show N = n from Fin.ext (by omega)]
  exact out_apply m hO hlt t ht r n R e0

end Cert.ExpertArray

end
-- ==== Proof.ExpertReference.lean ====
/- The plain experts' result read at one of its places: each expert's value, the rows' one-hot weights, and their sum. -/
module

public import proofs.«01_k».proof.Proof.ExpertArray
public import proofs.«01_k».proof.Proof.Gen.ExpertRefIdeal.Read

@[expose] public section

set_option maxRecDepth 16384

noncomputable section

namespace Cert.ExpertReference

open Idealize.ShloMosaic Cert.ExpertRefIdeal Cert.ExpertRefIdeal.Read Cert.Swiglu Cert.ExpertArray

variable (te : (⟨S136, .i32⟩ : BufTy).Contents (Elt Ideal)) (used : (⟨S1, .i32⟩ : BufTy).Contents (Elt Ideal))
  (x : (⟨S69632x1024, .f32⟩ : BufTy).Contents (Elt Ideal)) (w13 : (⟨S8x1024x7168, .bf16⟩ : BufTy).Contents (Elt Ideal))
  (w2 : (⟨S8x3584x1024, .bf16⟩ : BufTy).Contents (Elt Ideal))

/-! ## The rows' weights -/

/-- The word a row is compared by: its tile's expert, or minus one. -/
def word (r : Fin 69632) : BitVec 32 :=
  Scalar.select (IntOp.cmpi .slt (BitVec.ofNat 32 (r.val / 512)) (used (ix1 0))) (te (ix1 (tile r))) 4294967295#32

theorem word_apply (i : S69632x1.Idx) (r : Fin 69632) (hr : (i (0 : Fin 2)).val = r.val) : val_main_v7 (F := Ideal) te used i = word te used r := by
  rw [val_main_v7_apply, val_main_v6_apply, val_main_v5_apply, val_main_v4_apply, val_main_v3_apply, val_main_v2_apply, val_main_v1_apply,
    val_main_v0_apply, val_main_call0_v1_apply, val_main_call0_v0_apply, val_main_c_apply]
  unfold word
  rw [show idx_main_v4 (idx_main_v5 (idx_main_v6 (idx_main_v7 i))) = ix1 (tile r) from by
      refine funext fun a => ?_
      match a with
      | ⟨0, _⟩ => exact Fin.ext (congrArg (· / 512) hr),
    show idx_main_v1 (ix1 (tile r)) = ix1 0 from by
      refine funext fun a => ?_
      match a with
      | ⟨0, _⟩ => rfl]
  rfl

theorem weight_apply (r : Fin 69632) (e : Fin 8) : val_main_v13 (F := Ideal) te used (ix2 r e)
    = Scalar.select (IntOp.cmpi .eq (word te used r) (BitVec.ofNat 32 e.val)) (1 : EReal) 0 := by
  rw [val_main_v13_apply, val_main_v12_apply, val_main_v11_apply, val_main_v10_apply, val_main_v9_apply, val_main_v8_apply,
    val_main_call1_v0_apply, val_main_call1_v1_apply, val_main_cst_apply, val_main_cst_0_apply, Ideal.ofBits_def, Ideal.ofBits_def,
    Ideal.ofBits_one_f32, Ideal.ofBits_zero_f32, word_apply te used _ r rfl]
  rfl

/-- The weights of a row whose tile is in use: one at its expert, zero at the others. -/
theorem weight_used (r : Fin 69632) (hu : Used used r) (E : Fin 8) (hE : te (ix1 (tile r)) = BitVec.ofNat 32 E.val) (e : Fin 8) :
    val_main_v13 (F := Ideal) te used (ix2 r e) = if e = E then (1 : EReal) else 0 := by
  have hw : word te used r = BitVec.ofNat 32 E.val := by
    unfold word Scalar.select
    exact (if_pos hu).trans hE
  rw [weight_apply, hw]
  have hc : ∀ E e : Fin 8, IntOp.cmpi .eq (BitVec.ofNat 32 E.val) (BitVec.ofNat 32 e.val) = if e = E then 1#1 else 0#1 := by decide
  rw [hc]
  unfold Scalar.select
  by_cases h : e = E
  · rw [if_pos h, if_pos h]; rfl
  · rw [if_neg h, if_neg h]; rfl

/-- The weights of a row whose tile is not in use are zero. -/
theorem weight_unused (r : Fin 69632) (hu : ¬Used used r) (e : Fin 8) : val_main_v13 (F := Ideal) te used (ix2 r e) = (0 : EReal) := by
  have hw : word te used r = 4294967295#32 := by
    unfold word Scalar.select
    exact if_neg hu
  rw [weight_apply, hw]
  have hc : ∀ e : Fin 8, IntOp.cmpi .eq 4294967295#32 (BitVec.ofNat 32 e.val) = 0#1 := by decide
  rw [hc]
  rfl

/-! ## The experts, one by one -/

theorem row_of (a c n : ℕ) (p : ℕ) (hc : c < n) (ha : a < p) : (a * n + c) / n % p = a := by
  rw [Nat.mul_comm, Nat.mul_add_div (by omega), Nat.div_eq_of_lt hc, Nat.add_zero, Nat.mod_eq_of_lt ha]

theorem column_of (a c n : ℕ) (hc : c < n) : (a * n + c) % n = c := by
  rw [Nat.mul_comm, Nat.mul_add_mod, Nat.mod_eq_of_lt hc]

theorem wide_0 (l : Fin 1024) (k : Fin 7168) : val_main_v18 (F := Ideal) w13 (ix2 l k) = w13 (ix3 0 l k) := by
  rw [val_main_v18_apply, val_main_v17_apply, val_main_v16_apply, show idx_main_v16 (idx_main_v17 (ix2 l k)) = ix3 0 l k from by
    refine funext fun a => ?_
    match a with
    | ⟨0, _⟩ => rfl
    | ⟨1, _⟩ => exact Fin.ext (row_of l.val k.val 7168 1024 k.isLt l.isLt)
    | ⟨2, _⟩ => exact Fin.ext (column_of l.val k.val 7168 k.isLt)]
  rfl

theorem down_0 (k : Fin 3584) (n : Fin 1024) : val_main_v21 (F := Ideal) w2 (ix2 k n) = w2 (ix3 0 k n) := by
  rw [val_main_v21_apply, val_main_v20_apply, val_main_v19_apply, show idx_main_v19 (idx_main_v20 (ix2 k n)) = ix3 0 k n from by
    refine funext fun a => ?_
    match a with
    | ⟨0, _⟩ => rfl
    | ⟨1, _⟩ => exact Fin.ext (row_of k.val n.val 1024 3584 n.isLt k.isLt)
    | ⟨2, _⟩ => exact Fin.ext (column_of k.val n.val 1024 n.isLt)]
  rfl

theorem product_0 (r : Fin 69632) (k : Fin 7168) : val_main_v22 (F := Ideal) x w13 (ix2 r k) = ∑ l : Fin 1024, x (ix2 r l) * w13 (ix3 0 l k) := by
  rw [val_main_v22_apply]
  refine Finset.sum_congr rfl fun l _ => ?_
  rw [show lidx_main_v22 (ix2 r k) l = ix2 r l from by
      refine funext fun a => ?_
      match a with
      | ⟨0, _⟩ => rfl
      | ⟨1, _⟩ => rfl,
    show ridx_main_v22 (ix2 r k) l = ix2 l k from by
      refine funext fun a => ?_
      match a with
      | ⟨0, _⟩ => rfl
      | ⟨1, _⟩ => rfl, wide_0]

theorem hidden_0 (r : Fin 69632) (k : Fin 3584) : val_main_v26 (F := Ideal) x w13 (ix2 r k)
    = val_main_v22 (F := Ideal) x w13 (ix2 r ⟨k.val, by omega⟩) * Ideal.logistic (val_main_v22 (F := Ideal) x w13 (ix2 r ⟨k.val, by omega⟩))
      * val_main_v22 (F := Ideal) x w13 (ix2 r ⟨3584 + k.val, by omega⟩) := by
  rw [val_main_v26_apply, val_main_v25_apply, val_main_call2_v5_apply, val_main_call2_v4_apply, val_main_call2_cst_0_apply, val_main_call2_v3_apply,
    val_main_call2_v2_apply, val_main_call2_cst_apply, val_main_call2_v1_apply, val_main_call2_v0_apply, val_main_v23_apply, val_main_v24_apply,
    show idx_main_v23 (ix2 r k) = ix2 r ⟨k.val, by omega⟩ from by
      refine funext fun a => ?_
      match a with
      | ⟨0, _⟩ => rfl
      | ⟨1, _⟩ => rfl,
    show idx_main_v24 (ix2 r k) = ix2 r ⟨3584 + k.val, by omega⟩ from by
      refine funext fun a => ?_
      match a with
      | ⟨0, _⟩ => rfl
      | ⟨1, _⟩ => rfl, Ideal.ofBits_def, Ideal.ofBits_one_f32]
  rfl

theorem ffn_0 (r : Fin 69632) (n : Fin 1024) : val_main_v27 (F := Ideal) x w13 w2 (ix2 r n) = ffn x w13 w2 0 r n := by
  rw [val_main_v27_apply]
  unfold ffn unitOf Swiglu.hidden
  refine Finset.sum_congr rfl fun k _ => ?_
  rw [show lidx_main_v27 (ix2 r n) k = ix2 r k from by
      refine funext fun a => ?_
      match a with
      | ⟨0, _⟩ => rfl
      | ⟨1, _⟩ => rfl,
    show ridx_main_v27 (ix2 r n) k = ix2 k n from by
      refine funext fun a => ?_
      match a with
      | ⟨0, _⟩ => rfl
      | ⟨1, _⟩ => rfl, hidden_0, product_0, product_0, down_0]

theorem term_0 (r : Fin 69632) (n : Fin 1024) : val_main_v29 (F := Ideal) te used x w13 w2 (ix2 r n)
    = val_main_v13 (F := Ideal) te used (ix2 r 0) * ffn x w13 w2 0 r n := by
  rw [val_main_v29_apply, val_main_v28_apply, val_main_v15_apply, ffn_0, show idx_main_v15 (idx_main_v28 (ix2 r n)) = ix2 r 0 from by
    refine funext fun a => ?_
    match a with
    | ⟨0, _⟩ => rfl
    | ⟨1, _⟩ => rfl]
  rfl

theorem wide_1 (l : Fin 1024) (k : Fin 7168) : val_main_v34 (F := Ideal) w13 (ix2 l k) = w13 (ix3 1 l k) := by
  rw [val_main_v34_apply, val_main_v33_apply, val_main_v32_apply, show idx_main_v32 (idx_main_v33 (ix2 l k)) = ix3 1 l k from by
    refine funext fun a => ?_
    match a with
    | ⟨0, _⟩ => rfl
    | ⟨1, _⟩ => exact Fin.ext (row_of l.val k.val 7168 1024 k.isLt l.isLt)
    | ⟨2, _⟩ => exact Fin.ext (column_of l.val k.val 7168 k.isLt)]
  rfl

theorem down_1 (k : Fin 3584) (n : Fin 1024) : val_main_v37 (F := Ideal) w2 (ix2 k n) = w2 (ix3 1 k n) := by
  rw [val_main_v37_apply, val_main_v36_apply, val_main_v35_apply, show idx_main_v35 (idx_main_v36 (ix2 k n)) = ix3 1 k n from by
    refine funext fun a => ?_
    match a with
    | ⟨0, _⟩ => rfl
    | ⟨1, _⟩ => exact Fin.ext (row_of k.val n.val 1024 3584 n.isLt k.isLt)
    | ⟨2, _⟩ => exact Fin.ext (column_of k.val n.val 1024 n.isLt)]
  rfl

theorem product_1 (r : Fin 69632) (k : Fin 7168) : val_main_v38 (F := Ideal) x w13 (ix2 r k) = ∑ l : Fin 1024, x (ix2 r l) * w13 (ix3 1 l k) := by
  rw [val_main_v38_apply]
  refine Finset.sum_congr rfl fun l _ => ?_
  rw [show lidx_main_v38 (ix2 r k) l = ix2 r l from by
      refine funext fun a => ?_
      match a with
      | ⟨0, _⟩ => rfl
      | ⟨1, _⟩ => rfl,
    show ridx_main_v38 (ix2 r k) l = ix2 l k from by
      refine funext fun a => ?_
      match a with
      | ⟨0, _⟩ => rfl
      | ⟨1, _⟩ => rfl, wide_1]

theorem hidden_1 (r : Fin 69632) (k : Fin 3584) : val_main_v42 (F := Ideal) x w13 (ix2 r k)
    = val_main_v38 (F := Ideal) x w13 (ix2 r ⟨k.val, by omega⟩) * Ideal.logistic (val_main_v38 (F := Ideal) x w13 (ix2 r ⟨k.val, by omega⟩))
      * val_main_v38 (F := Ideal) x w13 (ix2 r ⟨3584 + k.val, by omega⟩) := by
  rw [val_main_v42_apply, val_main_v41_apply, val_main_call3_v5_apply, val_main_call3_v4_apply, val_main_call3_cst_0_apply, val_main_call3_v3_apply,
    val_main_call3_v2_apply, val_main_call3_cst_apply, val_main_call3_v1_apply, val_main_call3_v0_apply, val_main_v39_apply, val_main_v40_apply,
    show idx_main_v39 (ix2 r k) = ix2 r ⟨k.val, by omega⟩ from by
      refine funext fun a => ?_
      match a with
      | ⟨0, _⟩ => rfl
      | ⟨1, _⟩ => rfl,
    show idx_main_v40 (ix2 r k) = ix2 r ⟨3584 + k.val, by omega⟩ from by
      refine funext fun a => ?_
      match a with
      | ⟨0, _⟩ => rfl
      | ⟨1, _⟩ => rfl, Ideal.ofBits_def, Ideal.ofBits_one_f32]
  rfl

theorem ffn_1 (r : Fin 69632) (n : Fin 1024) : val_main_v43 (F := Ideal) x w13 w2 (ix2 r n) = ffn x w13 w2 1 r n := by
  rw [val_main_v43_apply]
  unfold ffn unitOf Swiglu.hidden
  refine Finset.sum_congr rfl fun k _ => ?_
  rw [show lidx_main_v43 (ix2 r n) k = ix2 r k from by
      refine funext fun a => ?_
      match a with
      | ⟨0, _⟩ => rfl
      | ⟨1, _⟩ => rfl,
    show ridx_main_v43 (ix2 r n) k = ix2 k n from by
      refine funext fun a => ?_
      match a with
      | ⟨0, _⟩ => rfl
      | ⟨1, _⟩ => rfl, hidden_1, product_1, product_1, down_1]

theorem term_1 (r : Fin 69632) (n : Fin 1024) : val_main_v45 (F := Ideal) te used x w13 w2 (ix2 r n)
    = val_main_v13 (F := Ideal) te used (ix2 r 1) * ffn x w13 w2 1 r n := by
  rw [val_main_v45_apply, val_main_v44_apply, val_main_v31_apply, ffn_1, show idx_main_v31 (idx_main_v44 (ix2 r n)) = ix2 r 1 from by
    refine funext fun a => ?_
    match a with
    | ⟨0, _⟩ => rfl
    | ⟨1, _⟩ => rfl]
  rfl

theorem wide_2 (l : Fin 1024) (k : Fin 7168) : val_main_v50 (F := Ideal) w13 (ix2 l k) = w13 (ix3 2 l k) := by
  rw [val_main_v50_apply, val_main_v49_apply, val_main_v48_apply, show idx_main_v48 (idx_main_v49 (ix2 l k)) = ix3 2 l k from by
    refine funext fun a => ?_
    match a with
    | ⟨0, _⟩ => rfl
    | ⟨1, _⟩ => exact Fin.ext (row_of l.val k.val 7168 1024 k.isLt l.isLt)
    | ⟨2, _⟩ => exact Fin.ext (column_of l.val k.val 7168 k.isLt)]
  rfl

theorem down_2 (k : Fin 3584) (n : Fin 1024) : val_main_v53 (F := Ideal) w2 (ix2 k n) = w2 (ix3 2 k n) := by
  rw [val_main_v53_apply, val_main_v52_apply, val_main_v51_apply, show idx_main_v51 (idx_main_v52 (ix2 k n)) = ix3 2 k n from by
    refine funext fun a => ?_
    match a with
    | ⟨0, _⟩ => rfl
    | ⟨1, _⟩ => exact Fin.ext (row_of k.val n.val 1024 3584 n.isLt k.isLt)
    | ⟨2, _⟩ => exact Fin.ext (column_of k.val n.val 1024 n.isLt)]
  rfl

theorem product_2 (r : Fin 69632) (k : Fin 7168) : val_main_v54 (F := Ideal) x w13 (ix2 r k) = ∑ l : Fin 1024, x (ix2 r l) * w13 (ix3 2 l k) := by
  rw [val_main_v54_apply]
  refine Finset.sum_congr rfl fun l _ => ?_
  rw [show lidx_main_v54 (ix2 r k) l = ix2 r l from by
      refine funext fun a => ?_
      match a with
      | ⟨0, _⟩ => rfl
      | ⟨1, _⟩ => rfl,
    show ridx_main_v54 (ix2 r k) l = ix2 l k from by
      refine funext fun a => ?_
      match a with
      | ⟨0, _⟩ => rfl
      | ⟨1, _⟩ => rfl, wide_2]

theorem hidden_2 (r : Fin 69632) (k : Fin 3584) : val_main_v58 (F := Ideal) x w13 (ix2 r k)
    = val_main_v54 (F := Ideal) x w13 (ix2 r ⟨k.val, by omega⟩) * Ideal.logistic (val_main_v54 (F := Ideal) x w13 (ix2 r ⟨k.val, by omega⟩))
      * val_main_v54 (F := Ideal) x w13 (ix2 r ⟨3584 + k.val, by omega⟩) := by
  rw [val_main_v58_apply, val_main_v57_apply, val_main_call4_v5_apply, val_main_call4_v4_apply, val_main_call4_cst_0_apply, val_main_call4_v3_apply,
    val_main_call4_v2_apply, val_main_call4_cst_apply, val_main_call4_v1_apply, val_main_call4_v0_apply, val_main_v55_apply, val_main_v56_apply,
    show idx_main_v55 (ix2 r k) = ix2 r ⟨k.val, by omega⟩ from by
      refine funext fun a => ?_
      match a with
      | ⟨0, _⟩ => rfl
      | ⟨1, _⟩ => rfl,
    show idx_main_v56 (ix2 r k) = ix2 r ⟨3584 + k.val, by omega⟩ from by
      refine funext fun a => ?_
      match a with
      | ⟨0, _⟩ => rfl
      | ⟨1, _⟩ => rfl, Ideal.ofBits_def, Ideal.ofBits_one_f32]
  rfl

theorem ffn_2 (r : Fin 69632) (n : Fin 1024) : val_main_v59 (F := Ideal) x w13 w2 (ix2 r n) = ffn x w13 w2 2 r n := by
  rw [val_main_v59_apply]
  unfold ffn unitOf Swiglu.hidden
  refine Finset.sum_congr rfl fun k _ => ?_
  rw [show lidx_main_v59 (ix2 r n) k = ix2 r k from by
      refine funext fun a => ?_
      match a with
      | ⟨0, _⟩ => rfl
      | ⟨1, _⟩ => rfl,
    show ridx_main_v59 (ix2 r n) k = ix2 k n from by
      refine funext fun a => ?_
      match a with
      | ⟨0, _⟩ => rfl
      | ⟨1, _⟩ => rfl, hidden_2, product_2, product_2, down_2]

theorem term_2 (r : Fin 69632) (n : Fin 1024) : val_main_v61 (F := Ideal) te used x w13 w2 (ix2 r n)
    = val_main_v13 (F := Ideal) te used (ix2 r 2) * ffn x w13 w2 2 r n := by
  rw [val_main_v61_apply, val_main_v60_apply, val_main_v47_apply, ffn_2, show idx_main_v47 (idx_main_v60 (ix2 r n)) = ix2 r 2 from by
    refine funext fun a => ?_
    match a with
    | ⟨0, _⟩ => rfl
    | ⟨1, _⟩ => rfl]
  rfl

theorem wide_3 (l : Fin 1024) (k : Fin 7168) : val_main_v66 (F := Ideal) w13 (ix2 l k) = w13 (ix3 3 l k) := by
  rw [val_main_v66_apply, val_main_v65_apply, val_main_v64_apply, show idx_main_v64 (idx_main_v65 (ix2 l k)) = ix3 3 l k from by
    refine funext fun a => ?_
    match a with
    | ⟨0, _⟩ => rfl
    | ⟨1, _⟩ => exact Fin.ext (row_of l.val k.val 7168 1024 k.isLt l.isLt)
    | ⟨2, _⟩ => exact Fin.ext (column_of l.val k.val 7168 k.isLt)]
  rfl

theorem down_3 (k : Fin 3584) (n : Fin 1024) : val_main_v69 (F := Ideal) w2 (ix2 k n) = w2 (ix3 3 k n) := by
  rw [val_main_v69_apply, val_main_v68_apply, val_main_v67_apply, show idx_main_v67 (idx_main_v68 (ix2 k n)) = ix3 3 k n from by
    refine funext fun a => ?_
    match a with
    | ⟨0, _⟩ => rfl
    | ⟨1, _⟩ => exact Fin.ext (row_of k.val n.val 1024 3584 n.isLt k.isLt)
    | ⟨2, _⟩ => exact Fin.ext (column_of k.val n.val 1024 n.isLt)]
  rfl

theorem product_3 (r : Fin 69632) (k : Fin 7168) : val_main_v70 (F := Ideal) x w13 (ix2 r k) = ∑ l : Fin 1024, x (ix2 r l) * w13 (ix3 3 l k) := by
  rw [val_main_v70_apply]
  refine Finset.sum_congr rfl fun l _ => ?_
  rw [show lidx_main_v70 (ix2 r k) l = ix2 r l from by
      refine funext fun a => ?_
      match a with
      | ⟨0, _⟩ => rfl
      | ⟨1, _⟩ => rfl,
    show ridx_main_v70 (ix2 r k) l = ix2 l k from by
      refine funext fun a => ?_
      match a with
      | ⟨0, _⟩ => rfl
      | ⟨1, _⟩ => rfl, wide_3]

theorem hidden_3 (r : Fin 69632) (k : Fin 3584) : val_main_v74 (F := Ideal) x w13 (ix2 r k)
    = val_main_v70 (F := Ideal) x w13 (ix2 r ⟨k.val, by omega⟩) * Ideal.logistic (val_main_v70 (F := Ideal) x w13 (ix2 r ⟨k.val, by omega⟩))
      * val_main_v70 (F := Ideal) x w13 (ix2 r ⟨3584 + k.val, by omega⟩) := by
  rw [val_main_v74_apply, val_main_v73_apply, val_main_call5_v5_apply, val_main_call5_v4_apply, val_main_call5_cst_0_apply, val_main_call5_v3_apply,
    val_main_call5_v2_apply, val_main_call5_cst_apply, val_main_call5_v1_apply, val_main_call5_v0_apply, val_main_v71_apply, val_main_v72_apply,
    show idx_main_v71 (ix2 r k) = ix2 r ⟨k.val, by omega⟩ from by
      refine funext fun a => ?_
      match a with
      | ⟨0, _⟩ => rfl
      | ⟨1, _⟩ => rfl,
    show idx_main_v72 (ix2 r k) = ix2 r ⟨3584 + k.val, by omega⟩ from by
      refine funext fun a => ?_
      match a with
      | ⟨0, _⟩ => rfl
      | ⟨1, _⟩ => rfl, Ideal.ofBits_def, Ideal.ofBits_one_f32]
  rfl

theorem ffn_3 (r : Fin 69632) (n : Fin 1024) : val_main_v75 (F := Ideal) x w13 w2 (ix2 r n) = ffn x w13 w2 3 r n := by
  rw [val_main_v75_apply]
  unfold ffn unitOf Swiglu.hidden
  refine Finset.sum_congr rfl fun k _ => ?_
  rw [show lidx_main_v75 (ix2 r n) k = ix2 r k from by
      refine funext fun a => ?_
      match a with
      | ⟨0, _⟩ => rfl
      | ⟨1, _⟩ => rfl,
    show ridx_main_v75 (ix2 r n) k = ix2 k n from by
      refine funext fun a => ?_
      match a with
      | ⟨0, _⟩ => rfl
      | ⟨1, _⟩ => rfl, hidden_3, product_3, product_3, down_3]

theorem term_3 (r : Fin 69632) (n : Fin 1024) : val_main_v77 (F := Ideal) te used x w13 w2 (ix2 r n)
    = val_main_v13 (F := Ideal) te used (ix2 r 3) * ffn x w13 w2 3 r n := by
  rw [val_main_v77_apply, val_main_v76_apply, val_main_v63_apply, ffn_3, show idx_main_v63 (idx_main_v76 (ix2 r n)) = ix2 r 3 from by
    refine funext fun a => ?_
    match a with
    | ⟨0, _⟩ => rfl
    | ⟨1, _⟩ => rfl]
  rfl

theorem wide_4 (l : Fin 1024) (k : Fin 7168) : val_main_v82 (F := Ideal) w13 (ix2 l k) = w13 (ix3 4 l k) := by
  rw [val_main_v82_apply, val_main_v81_apply, val_main_v80_apply, show idx_main_v80 (idx_main_v81 (ix2 l k)) = ix3 4 l k from by
    refine funext fun a => ?_
    match a with
    | ⟨0, _⟩ => rfl
    | ⟨1, _⟩ => exact Fin.ext (row_of l.val k.val 7168 1024 k.isLt l.isLt)
    | ⟨2, _⟩ => exact Fin.ext (column_of l.val k.val 7168 k.isLt)]
  rfl

theorem down_4 (k : Fin 3584) (n : Fin 1024) : val_main_v85 (F := Ideal) w2 (ix2 k n) = w2 (ix3 4 k n) := by
  rw [val_main_v85_apply, val_main_v84_apply, val_main_v83_apply, show idx_main_v83 (idx_main_v84 (ix2 k n)) = ix3 4 k n from by
    refine funext fun a => ?_
    match a with
    | ⟨0, _⟩ => rfl
    | ⟨1, _⟩ => exact Fin.ext (row_of k.val n.val 1024 3584 n.isLt k.isLt)
    | ⟨2, _⟩ => exact Fin.ext (column_of k.val n.val 1024 n.isLt)]
  rfl

theorem product_4 (r : Fin 69632) (k : Fin 7168) : val_main_v86 (F := Ideal) x w13 (ix2 r k) = ∑ l : Fin 1024, x (ix2 r l) * w13 (ix3 4 l k) := by
  rw [val_main_v86_apply]
  refine Finset.sum_congr rfl fun l _ => ?_
  rw [show lidx_main_v86 (ix2 r k) l = ix2 r l from by
      refine funext fun a => ?_
      match a with
      | ⟨0, _⟩ => rfl
      | ⟨1, _⟩ => rfl,
    show ridx_main_v86 (ix2 r k) l = ix2 l k from by
      refine funext fun a => ?_
      match a with
      | ⟨0, _⟩ => rfl
      | ⟨1, _⟩ => rfl, wide_4]

theorem hidden_4 (r : Fin 69632) (k : Fin 3584) : val_main_v90 (F := Ideal) x w13 (ix2 r k)
    = val_main_v86 (F := Ideal) x w13 (ix2 r ⟨k.val, by omega⟩) * Ideal.logistic (val_main_v86 (F := Ideal) x w13 (ix2 r ⟨k.val, by omega⟩))
      * val_main_v86 (F := Ideal) x w13 (ix2 r ⟨3584 + k.val, by omega⟩) := by
  rw [val_main_v90_apply, val_main_v89_apply, val_main_call6_v5_apply, val_main_call6_v4_apply, val_main_call6_cst_0_apply, val_main_call6_v3_apply,
    val_main_call6_v2_apply, val_main_call6_cst_apply, val_main_call6_v1_apply, val_main_call6_v0_apply, val_main_v87_apply, val_main_v88_apply,
    show idx_main_v87 (ix2 r k) = ix2 r ⟨k.val, by omega⟩ from by
      refine funext fun a => ?_
      match a with
      | ⟨0, _⟩ => rfl
      | ⟨1, _⟩ => rfl,
    show idx_main_v88 (ix2 r k) = ix2 r ⟨3584 + k.val, by omega⟩ from by
      refine funext fun a => ?_
      match a with
      | ⟨0, _⟩ => rfl
      | ⟨1, _⟩ => rfl, Ideal.ofBits_def, Ideal.ofBits_one_f32]
  rfl

theorem ffn_4 (r : Fin 69632) (n : Fin 1024) : val_main_v91 (F := Ideal) x w13 w2 (ix2 r n) = ffn x w13 w2 4 r n := by
  rw [val_main_v91_apply]
  unfold ffn unitOf Swiglu.hidden
  refine Finset.sum_congr rfl fun k _ => ?_
  rw [show lidx_main_v91 (ix2 r n) k = ix2 r k from by
      refine funext fun a => ?_
      match a with
      | ⟨0, _⟩ => rfl
      | ⟨1, _⟩ => rfl,
    show ridx_main_v91 (ix2 r n) k = ix2 k n from by
      refine funext fun a => ?_
      match a with
      | ⟨0, _⟩ => rfl
      | ⟨1, _⟩ => rfl, hidden_4, product_4, product_4, down_4]

theorem term_4 (r : Fin 69632) (n : Fin 1024) : val_main_v93 (F := Ideal) te used x w13 w2 (ix2 r n)
    = val_main_v13 (F := Ideal) te used (ix2 r 4) * ffn x w13 w2 4 r n := by
  rw [val_main_v93_apply, val_main_v92_apply, val_main_v79_apply, ffn_4, show idx_main_v79 (idx_main_v92 (ix2 r n)) = ix2 r 4 from by
    refine funext fun a => ?_
    match a with
    | ⟨0, _⟩ => rfl
    | ⟨1, _⟩ => rfl]
  rfl

theorem wide_5 (l : Fin 1024) (k : Fin 7168) : val_main_v98 (F := Ideal) w13 (ix2 l k) = w13 (ix3 5 l k) := by
  rw [val_main_v98_apply, val_main_v97_apply, val_main_v96_apply, show idx_main_v96 (idx_main_v97 (ix2 l k)) = ix3 5 l k from by
    refine funext fun a => ?_
    match a with
    | ⟨0, _⟩ => rfl
    | ⟨1, _⟩ => exact Fin.ext (row_of l.val k.val 7168 1024 k.isLt l.isLt)
    | ⟨2, _⟩ => exact Fin.ext (column_of l.val k.val 7168 k.isLt)]
  rfl

theorem down_5 (k : Fin 3584) (n : Fin 1024) : val_main_v101 (F := Ideal) w2 (ix2 k n) = w2 (ix3 5 k n) := by
  rw [val_main_v101_apply, val_main_v100_apply, val_main_v99_apply, show idx_main_v99 (idx_main_v100 (ix2 k n)) = ix3 5 k n from by
    refine funext fun a => ?_
    match a with
    | ⟨0, _⟩ => rfl
    | ⟨1, _⟩ => exact Fin.ext (row_of k.val n.val 1024 3584 n.isLt k.isLt)
    | ⟨2, _⟩ => exact Fin.ext (column_of k.val n.val 1024 n.isLt)]
  rfl

theorem product_5 (r : Fin 69632) (k : Fin 7168) : val_main_v102 (F := Ideal) x w13 (ix2 r k) = ∑ l : Fin 1024, x (ix2 r l) * w13 (ix3 5 l k) := by
  rw [val_main_v102_apply]
  refine Finset.sum_congr rfl fun l _ => ?_
  rw [show lidx_main_v102 (ix2 r k) l = ix2 r l from by
      refine funext fun a => ?_
      match a with
      | ⟨0, _⟩ => rfl
      | ⟨1, _⟩ => rfl,
    show ridx_main_v102 (ix2 r k) l = ix2 l k from by
      refine funext fun a => ?_
      match a with
      | ⟨0, _⟩ => rfl
      | ⟨1, _⟩ => rfl, wide_5]

theorem hidden_5 (r : Fin 69632) (k : Fin 3584) : val_main_v106 (F := Ideal) x w13 (ix2 r k)
    = val_main_v102 (F := Ideal) x w13 (ix2 r ⟨k.val, by omega⟩) * Ideal.logistic (val_main_v102 (F := Ideal) x w13 (ix2 r ⟨k.val, by omega⟩))
      * val_main_v102 (F := Ideal) x w13 (ix2 r ⟨3584 + k.val, by omega⟩) := by
  rw [val_main_v106_apply, val_main_v105_apply, val_main_call7_v5_apply, val_main_call7_v4_apply, val_main_call7_cst_0_apply, val_main_call7_v3_apply,
    val_main_call7_v2_apply, val_main_call7_cst_apply, val_main_call7_v1_apply, val_main_call7_v0_apply, val_main_v103_apply, val_main_v104_apply,
    show idx_main_v103 (ix2 r k) = ix2 r ⟨k.val, by omega⟩ from by
      refine funext fun a => ?_
      match a with
      | ⟨0, _⟩ => rfl
      | ⟨1, _⟩ => rfl,
    show idx_main_v104 (ix2 r k) = ix2 r ⟨3584 + k.val, by omega⟩ from by
      refine funext fun a => ?_
      match a with
      | ⟨0, _⟩ => rfl
      | ⟨1, _⟩ => rfl, Ideal.ofBits_def, Ideal.ofBits_one_f32]
  rfl

theorem ffn_5 (r : Fin 69632) (n : Fin 1024) : val_main_v107 (F := Ideal) x w13 w2 (ix2 r n) = ffn x w13 w2 5 r n := by
  rw [val_main_v107_apply]
  unfold ffn unitOf Swiglu.hidden
  refine Finset.sum_congr rfl fun k _ => ?_
  rw [show lidx_main_v107 (ix2 r n) k = ix2 r k from by
      refine funext fun a => ?_
      match a with
      | ⟨0, _⟩ => rfl
      | ⟨1, _⟩ => rfl,
    show ridx_main_v107 (ix2 r n) k = ix2 k n from by
      refine funext fun a => ?_
      match a with
      | ⟨0, _⟩ => rfl
      | ⟨1, _⟩ => rfl, hidden_5, product_5, product_5, down_5]

theorem term_5 (r : Fin 69632) (n : Fin 1024) : val_main_v109 (F := Ideal) te used x w13 w2 (ix2 r n)
    = val_main_v13 (F := Ideal) te used (ix2 r 5) * ffn x w13 w2 5 r n := by
  rw [val_main_v109_apply, val_main_v108_apply, val_main_v95_apply, ffn_5, show idx_main_v95 (idx_main_v108 (ix2 r n)) = ix2 r 5 from by
    refine funext fun a => ?_
    match a with
    | ⟨0, _⟩ => rfl
    | ⟨1, _⟩ => rfl]
  rfl

theorem wide_6 (l : Fin 1024) (k : Fin 7168) : val_main_v114 (F := Ideal) w13 (ix2 l k) = w13 (ix3 6 l k) := by
  rw [val_main_v114_apply, val_main_v113_apply, val_main_v112_apply, show idx_main_v112 (idx_main_v113 (ix2 l k)) = ix3 6 l k from by
    refine funext fun a => ?_
    match a with
    | ⟨0, _⟩ => rfl
    | ⟨1, _⟩ => exact Fin.ext (row_of l.val k.val 7168 1024 k.isLt l.isLt)
    | ⟨2, _⟩ => exact Fin.ext (column_of l.val k.val 7168 k.isLt)]
  rfl

theorem down_6 (k : Fin 3584) (n : Fin 1024) : val_main_v117 (F := Ideal) w2 (ix2 k n) = w2 (ix3 6 k n) := by
  rw [val_main_v117_apply, val_main_v116_apply, val_main_v115_apply, show idx_main_v115 (idx_main_v116 (ix2 k n)) = ix3 6 k n from by
    refine funext fun a => ?_
    match a with
    | ⟨0, _⟩ => rfl
    | ⟨1, _⟩ => exact Fin.ext (row_of k.val n.val 1024 3584 n.isLt k.isLt)
    | ⟨2, _⟩ => exact Fin.ext (column_of k.val n.val 1024 n.isLt)]
  rfl

theorem product_6 (r : Fin 69632) (k : Fin 7168) : val_main_v118 (F := Ideal) x w13 (ix2 r k) = ∑ l : Fin 1024, x (ix2 r l) * w13 (ix3 6 l k) := by
  rw [val_main_v118_apply]
  refine Finset.sum_congr rfl fun l _ => ?_
  rw [show lidx_main_v118 (ix2 r k) l = ix2 r l from by
      refine funext fun a => ?_
      match a with
      | ⟨0, _⟩ => rfl
      | ⟨1, _⟩ => rfl,
    show ridx_main_v118 (ix2 r k) l = ix2 l k from by
      refine funext fun a => ?_
      match a with
      | ⟨0, _⟩ => rfl
      | ⟨1, _⟩ => rfl, wide_6]

theorem hidden_6 (r : Fin 69632) (k : Fin 3584) : val_main_v122 (F := Ideal) x w13 (ix2 r k)
    = val_main_v118 (F := Ideal) x w13 (ix2 r ⟨k.val, by omega⟩) * Ideal.logistic (val_main_v118 (F := Ideal) x w13 (ix2 r ⟨k.val, by omega⟩))
      * val_main_v118 (F := Ideal) x w13 (ix2 r ⟨3584 + k.val, by omega⟩) := by
  rw [val_main_v122_apply, val_main_v121_apply, val_main_call8_v5_apply, val_main_call8_v4_apply, val_main_call8_cst_0_apply, val_main_call8_v3_apply,
    val_main_call8_v2_apply, val_main_call8_cst_apply, val_main_call8_v1_apply, val_main_call8_v0_apply, val_main_v119_apply, val_main_v120_apply,
    show idx_main_v119 (ix2 r k) = ix2 r ⟨k.val, by omega⟩ from by
      refine funext fun a => ?_
      match a with
      | ⟨0, _⟩ => rfl
      | ⟨1, _⟩ => rfl,
    show idx_main_v120 (ix2 r k) = ix2 r ⟨3584 + k.val, by omega⟩ from by
      refine funext fun a => ?_
      match a with
      | ⟨0, _⟩ => rfl
      | ⟨1, _⟩ => rfl, Ideal.ofBits_def, Ideal.ofBits_one_f32]
  rfl

theorem ffn_6 (r : Fin 69632) (n : Fin 1024) : val_main_v123 (F := Ideal) x w13 w2 (ix2 r n) = ffn x w13 w2 6 r n := by
  rw [val_main_v123_apply]
  unfold ffn unitOf Swiglu.hidden
  refine Finset.sum_congr rfl fun k _ => ?_
  rw [show lidx_main_v123 (ix2 r n) k = ix2 r k from by
      refine funext fun a => ?_
      match a with
      | ⟨0, _⟩ => rfl
      | ⟨1, _⟩ => rfl,
    show ridx_main_v123 (ix2 r n) k = ix2 k n from by
      refine funext fun a => ?_
      match a with
      | ⟨0, _⟩ => rfl
      | ⟨1, _⟩ => rfl, hidden_6, product_6, product_6, down_6]

theorem term_6 (r : Fin 69632) (n : Fin 1024) : val_main_v125 (F := Ideal) te used x w13 w2 (ix2 r n)
    = val_main_v13 (F := Ideal) te used (ix2 r 6) * ffn x w13 w2 6 r n := by
  rw [val_main_v125_apply, val_main_v124_apply, val_main_v111_apply, ffn_6, show idx_main_v111 (idx_main_v124 (ix2 r n)) = ix2 r 6 from by
    refine funext fun a => ?_
    match a with
    | ⟨0, _⟩ => rfl
    | ⟨1, _⟩ => rfl]
  rfl

theorem wide_7 (l : Fin 1024) (k : Fin 7168) : val_main_v130 (F := Ideal) w13 (ix2 l k) = w13 (ix3 7 l k) := by
  rw [val_main_v130_apply, val_main_v129_apply, val_main_v128_apply, show idx_main_v128 (idx_main_v129 (ix2 l k)) = ix3 7 l k from by
    refine funext fun a => ?_
    match a with
    | ⟨0, _⟩ => rfl
    | ⟨1, _⟩ => exact Fin.ext (row_of l.val k.val 7168 1024 k.isLt l.isLt)
    | ⟨2, _⟩ => exact Fin.ext (column_of l.val k.val 7168 k.isLt)]
  rfl

theorem down_7 (k : Fin 3584) (n : Fin 1024) : val_main_v133 (F := Ideal) w2 (ix2 k n) = w2 (ix3 7 k n) := by
  rw [val_main_v133_apply, val_main_v132_apply, val_main_v131_apply, show idx_main_v131 (idx_main_v132 (ix2 k n)) = ix3 7 k n from by
    refine funext fun a => ?_
    match a with
    | ⟨0, _⟩ => rfl
    | ⟨1, _⟩ => exact Fin.ext (row_of k.val n.val 1024 3584 n.isLt k.isLt)
    | ⟨2, _⟩ => exact Fin.ext (column_of k.val n.val 1024 n.isLt)]
  rfl

theorem product_7 (r : Fin 69632) (k : Fin 7168) : val_main_v134 (F := Ideal) x w13 (ix2 r k) = ∑ l : Fin 1024, x (ix2 r l) * w13 (ix3 7 l k) := by
  rw [val_main_v134_apply]
  refine Finset.sum_congr rfl fun l _ => ?_
  rw [show lidx_main_v134 (ix2 r k) l = ix2 r l from by
      refine funext fun a => ?_
      match a with
      | ⟨0, _⟩ => rfl
      | ⟨1, _⟩ => rfl,
    show ridx_main_v134 (ix2 r k) l = ix2 l k from by
      refine funext fun a => ?_
      match a with
      | ⟨0, _⟩ => rfl
      | ⟨1, _⟩ => rfl, wide_7]

theorem hidden_7 (r : Fin 69632) (k : Fin 3584) : val_main_v138 (F := Ideal) x w13 (ix2 r k)
    = val_main_v134 (F := Ideal) x w13 (ix2 r ⟨k.val, by omega⟩) * Ideal.logistic (val_main_v134 (F := Ideal) x w13 (ix2 r ⟨k.val, by omega⟩))
      * val_main_v134 (F := Ideal) x w13 (ix2 r ⟨3584 + k.val, by omega⟩) := by
  rw [val_main_v138_apply, val_main_v137_apply, val_main_call9_v5_apply, val_main_call9_v4_apply, val_main_call9_cst_0_apply, val_main_call9_v3_apply,
    val_main_call9_v2_apply, val_main_call9_cst_apply, val_main_call9_v1_apply, val_main_call9_v0_apply, val_main_v135_apply, val_main_v136_apply,
    show idx_main_v135 (ix2 r k) = ix2 r ⟨k.val, by omega⟩ from by
      refine funext fun a => ?_
      match a with
      | ⟨0, _⟩ => rfl
      | ⟨1, _⟩ => rfl,
    show idx_main_v136 (ix2 r k) = ix2 r ⟨3584 + k.val, by omega⟩ from by
      refine funext fun a => ?_
      match a with
      | ⟨0, _⟩ => rfl
      | ⟨1, _⟩ => rfl, Ideal.ofBits_def, Ideal.ofBits_one_f32]
  rfl

theorem ffn_7 (r : Fin 69632) (n : Fin 1024) : val_main_v139 (F := Ideal) x w13 w2 (ix2 r n) = ffn x w13 w2 7 r n := by
  rw [val_main_v139_apply]
  unfold ffn unitOf Swiglu.hidden
  refine Finset.sum_congr rfl fun k _ => ?_
  rw [show lidx_main_v139 (ix2 r n) k = ix2 r k from by
      refine funext fun a => ?_
      match a with
      | ⟨0, _⟩ => rfl
      | ⟨1, _⟩ => rfl,
    show ridx_main_v139 (ix2 r n) k = ix2 k n from by
      refine funext fun a => ?_
      match a with
      | ⟨0, _⟩ => rfl
      | ⟨1, _⟩ => rfl, hidden_7, product_7, product_7, down_7]

theorem term_7 (r : Fin 69632) (n : Fin 1024) : val_main_v141 (F := Ideal) te used x w13 w2 (ix2 r n)
    = val_main_v13 (F := Ideal) te used (ix2 r 7) * ffn x w13 w2 7 r n := by
  rw [val_main_v141_apply, val_main_v140_apply, val_main_v127_apply, ffn_7, show idx_main_v127 (idx_main_v140 (ix2 r n)) = ix2 r 7 from by
    refine funext fun a => ?_
    match a with
    | ⟨0, _⟩ => rfl
    | ⟨1, _⟩ => rfl]
  rfl

/-! ## The sum -/

/-- A sum of eight terms with weights one at `E` and zero elsewhere. -/
theorem one_hot (w g : Fin 8 → EReal) (E : Fin 8) (hw : ∀ e, w e = if e = E then 1 else 0) :
    0 + w 0 * g 0 + w 1 * g 1 + w 2 * g 2 + w 3 * g 3 + w 4 * g 4 + w 5 * g 5 + w 6 * g 6 + w 7 * g 7 = g E := by
  rw [zero_add, ← Fin.sum_univ_eight (fun e => w e * g e), Finset.sum_eq_single E]
  · rw [hw, if_pos rfl, one_mul]
  · intro e _ h
    rw [hw, if_neg h, zero_mul]
  · exact fun h => absurd (Finset.mem_univ E) h

theorem sum_apply (r : Fin 69632) (n : Fin 1024) : val_main_v142 (F := Ideal) te used x w13 w2 (ix2 r n)
    = (0 : EReal)
      + val_main_v13 (F := Ideal) te used (ix2 r 0) * ffn x w13 w2 0 r n
      + val_main_v13 (F := Ideal) te used (ix2 r 1) * ffn x w13 w2 1 r n
      + val_main_v13 (F := Ideal) te used (ix2 r 2) * ffn x w13 w2 2 r n
      + val_main_v13 (F := Ideal) te used (ix2 r 3) * ffn x w13 w2 3 r n
      + val_main_v13 (F := Ideal) te used (ix2 r 4) * ffn x w13 w2 4 r n
      + val_main_v13 (F := Ideal) te used (ix2 r 5) * ffn x w13 w2 5 r n
      + val_main_v13 (F := Ideal) te used (ix2 r 6) * ffn x w13 w2 6 r n
      + val_main_v13 (F := Ideal) te used (ix2 r 7) * ffn x w13 w2 7 r n := by
  rw [val_main_v142_apply, term_7, val_main_v126_apply, term_6, val_main_v110_apply, term_5, val_main_v94_apply, term_4, val_main_v78_apply, term_3, val_main_v62_apply, term_2, val_main_v46_apply, term_1, val_main_v30_apply, term_0, val_main_v14_apply, val_main_cst_1_apply, Ideal.ofBits_def, Ideal.ofBits_zero_f32]
  rfl

/-- The plain experts at a place. -/
theorem value_apply (hlt : ∀ i : Fin 136, (te (ix1 i)).toNat < 8) (r : Fin 69632) (n : Fin 1024) :
    val_main_v142 (F := Ideal) te used x w13 w2 (ix2 r n) = routed te used x w13 w2 r n := by
  rw [sum_apply]
  unfold routed
  by_cases hu : Used used r
  · rw [if_pos hu]
    refine one_hot (fun e => val_main_v13 (F := Ideal) te used (ix2 r e)) (fun e => ffn x w13 w2 e r n) _
      (weight_used te used r hu _ ?_)
    show te (ix1 (tile r)) = BitVec.ofNat 32 ((te (ix1 (tile r))).toNat % 8)
    rw [Nat.mod_eq_of_lt (hlt _), BitVec.ofNat_toNat, BitVec.setWidth_eq]
  · rw [if_neg hu]
    simp only [weight_unused te used r hu, zero_mul, add_zero]

end Cert.ExpertReference

end
-- ==== Proof.ExpertClaims.lean ====
/- The claims about the experts: the frames under the precondition on the table, and the agreement of the two results. -/
module

public import proofs.«01_k».proof.Defs
public import proofs.«01_k».proof.Proof.ExpertTables
public import proofs.«01_k».proof.Proof.ExpertReference
public import proofs.«01_k».proof.Proof.Gen.ExpertRefIdeal.Run

@[expose] public section

set_option maxRecDepth 16384

noncomputable section

namespace Cert.ExpertClaims

open Idealize.ShloMosaic Idealize.SL.Sem

theorem frame : Cert.quiescent_Expert := fun m ρ h =>
  (θ_run Cert.Expert.defs _ _).mono (fun _ h => h.1) (Cert.ExpertRun.run_main m ρ (Cert.ExpertRun.ok_of_lt m (Cert.ExpertRun.lt_of_pre m (h 0))))

theorem frame_ideal : Cert.quiescent_ExpertIdeal := fun m ρ h =>
  (θ_run Cert.ExpertIdeal.defs _ _).mono (fun _ h => h.1)
    (Cert.ExpertIdealRun.run_main m ρ (Cert.ExpertIdealRun.ok_of_lt m (Cert.ExpertIdealRun.lt_of_pre m (h 0))))

theorem frame_ref : Cert.quiescent_ExpertRefIdeal := fun m ρ _ =>
  (θ_run Cert.ExpertRefIdeal.defs _ _).mono (fun r h => ⟨fun c => (h c).2, sem_eq_zero_of_no_sems (by decide) r.2⟩) (Cert.ExpertRefIdeal.Value.run (F := Ideal) m ρ)

theorem frame_ref_pre : Cert.quiescent_ExpertRefIdeal_pre_tables := fun m ρ _ => frame_ref m ρ trivial

theorem preserves : Cert.preserves_Expert_ExpertIdeal := trivial

/-- The kernel's entries are the plain experts'. -/
theorem routed_eq (te : (⟨Cert.ExpertRefIdeal.S136, .i32⟩ : BufTy).Contents (Elt Ideal)) (used : (⟨Cert.ExpertRefIdeal.S1, .i32⟩ : BufTy).Contents (Elt Ideal))
    (x : (⟨Cert.ExpertRefIdeal.S69632x1024, .f32⟩ : BufTy).Contents (Elt Ideal)) (w13 : (⟨Cert.ExpertRefIdeal.S8x1024x7168, .bf16⟩ : BufTy).Contents (Elt Ideal))
    (w2 : (⟨Cert.ExpertRefIdeal.S8x3584x1024, .bf16⟩ : BufTy).Contents (Elt Ideal)) (hlt : ∀ i : Fin 136, (te (ix1 i)).toNat < 8) :
    (fun i => ExpertArray.routed te used x w13 w2 (i 0) (i 1)) = Cert.ExpertRefIdeal.Read.val_main_v142 (F := Ideal) te used x w13 w2 := by
  funext i
  refine Eq.trans ?_ (congrArg (Cert.ExpertRefIdeal.Read.val_main_v142 (F := Ideal) te used x w13 w2) (eq_ix2 i)).symm
  exact (ExpertReference.value_apply te used x w13 w2 hlt (i 0) (i 1)).symm

theorem algebraic : Cert.algebraic_ExpertIdeal_ExpertRefIdeal := by
  intro m ρ m' ρ' hpre hagree
  have hlt := Cert.ExpertIdealRun.lt_of_pre m (hpre 0)
  have hO := Cert.ExpertIdealRun.ok_of_lt m hlt
  refine ⟨fun c => (Cert.ExpertIdealRun.dats m hO 0 c).arrAt 4 (Cert.ExpertIdealRun.cfgM m hO).N,
    (θ_run Cert.ExpertIdeal.defs _ _).mono (fun _ h c => ⟨h.2 c, h.1.1 c⟩) (Cert.ExpertIdealRun.run_main m ρ hO), ?_⟩
  have e : ∀ c : Dev Cert.ExpertIdeal.nD, Cert.ExpertRefIdeal.Read.val_main_v142 (F := Ideal)
      (m' ((c.tc : Thread Cert.ExpertRefIdeal.nD Cert.ExpertRefIdeal.τ).loc Cert.ExpertRefIdeal.main_arg0))
      (m' ((c.tc : Thread Cert.ExpertRefIdeal.nD Cert.ExpertRefIdeal.τ).loc Cert.ExpertRefIdeal.main_arg1))
      (m' ((c.tc : Thread Cert.ExpertRefIdeal.nD Cert.ExpertRefIdeal.τ).loc Cert.ExpertRefIdeal.main_arg2))
      (m' ((c.tc : Thread Cert.ExpertRefIdeal.nD Cert.ExpertRefIdeal.τ).loc Cert.ExpertRefIdeal.main_arg3))
      (m' ((c.tc : Thread Cert.ExpertRefIdeal.nD Cert.ExpertRefIdeal.τ).loc Cert.ExpertRefIdeal.main_arg4))
      = (Cert.ExpertIdealRun.dats m hO 0 c).arrAt 4 (Cert.ExpertIdealRun.cfgM m hO).N := fun c => by
    rw [(hagree c).1, (hagree c).2.1, (hagree c).2.2.1, (hagree c).2.2.2.1, (hagree c).2.2.2.2]
    refine ((ExpertArray.final m hO hlt c).trans (routed_eq _ _ _ _ _ ?_)).symm
    obtain rfl : c = 0 := Subsingleton.elim _ _
    exact hlt
  exact (θ_run Cert.ExpertRefIdeal.defs _ _).mono
    (fun r h c => ⟨(h c).1.trans ((Cert.ExpertRefIdeal.Read.val_main_v142_eq (fun b => m' ⟨c, b⟩)).trans (e c)), (h c).2⟩)
    (Cert.ExpertRefIdeal.Value.run (F := Ideal) m' ρ')

end Cert.ExpertClaims

end
-- ==== Proof.ProjMath.lean ====
/- A head's rotated, normalised row: the norm applied last and the partners fetched by a product with a 0-1 matrix, or in the plain order. -/
module

public import proofs.«01_k».proof.Proof.DenseBlock
public import proofs.«01_k».proof.Proof.Softmax

@[expose] public section

set_option maxRecDepth 16384

noncomputable section

namespace Cert.ProjMath

open Idealize.ShloMosaic

/-- One over the root of a head's mean square. -/
def invNorm (b : Fin 128 → EReal) : EReal :=
  Ideal.rsqrt (Ideal.div (∑ e, b e * b e) (Ideal.ofBits .f32 0x43000000#32) + Ideal.ofBits .f32 0x358637BD#32)

/-- The first 32 lanes turned in pairs `(d, d + 16)`, the others as they are. -/
def rotated (c s : Fin 16 → EReal) (y : Fin 128 → EReal) (d : Fin 128) : EReal :=
  if h : d.val < 16 then y d * c ⟨d.val, h⟩ - y ⟨d.val + 16, by omega⟩ * s ⟨d.val, h⟩
  else if h' : d.val < 32 then y d * c ⟨d.val - 16, by omega⟩ + y ⟨d.val - 16, by omega⟩ * s ⟨d.val - 16, by omega⟩
  else y d

/-- Place `k` of the 256 columns that hold column `n`. -/
def sib (n : Fin 1024) (k : Fin 256) : Fin 1024 := ⟨n.val / 256 * 256 + k.val, by omega⟩

/-- Lane `e` of the head that holds column `n`. -/
def lane (n : Fin 1024) (e : Fin 128) : Fin 1024 := ⟨n.val / 128 * 128 + e.val, by omega⟩

/-- Column `n` of a row `a`, with gains `g`, tables `cs` and `sn`, and the two helper matrices. -/
def pairVal (a g : Fin 1024 → EReal) (cs sn : Fin 128 → EReal) (M P : Fin 256 → Fin 256 → EReal) (n : Fin 1024) : EReal :=
  (a n * g n * cs ⟨n.val % 128, by omega⟩
      + (∑ k : Fin 256, a (sib n k) * g (sib n k) * P k ⟨n.val % 256, by omega⟩) * sn ⟨n.val % 128, by omega⟩)
    * Ideal.rsqrt ((∑ k : Fin 256, a (sib n k) * a (sib n k) * M k ⟨n.val % 256, by omega⟩) + Ideal.ofBits .f32 0x358637BD#32)

theorem ofBits_128 : Ideal.ofBits .f32 0x43000000#32 = ((128 : ℝ) : EReal) := by
  simp [Ideal.ofBits, Ideal.ieee, -EReal.coe_mul]; norm_num

theorem ofBits_128th : Ideal.ofBits .f32 0x3C000000#32 = (((1 : ℝ) / 128 : ℝ) : EReal) := by
  simp [Ideal.ofBits, Ideal.ieee, -EReal.coe_mul]; norm_num

/-- The small number under the root is positive. -/
theorem eps_pos : ∃ r : ℝ, 0 < r ∧ Ideal.ofBits .f32 0x358637BD#32 = (r : EReal) := by
  refine ⟨_, ?_, by simp [Ideal.ofBits, Ideal.ieee, -EReal.coe_mul]; rfl⟩
  norm_num

/-- The scale of the queries is not negative. -/
theorem scale_nonneg : ∃ r : ℝ, 0 ≤ r ∧ Ideal.ofBits .f32 0x3DB504F3#32 = (r : EReal) := by
  refine ⟨_, ?_, by simp [Ideal.ofBits, Ideal.ieee, -EReal.coe_mul]; rfl⟩
  norm_num

theorem sq_nonneg (x : EReal) : 0 ≤ x * x := by
  rcases le_total 0 x with h | h
  · exact mul_nonneg h h
  · rw [← neg_neg (x * x), ← EReal.neg_mul, mul_comm, ← EReal.neg_mul]
    exact mul_nonneg (EReal.neg_nonneg.mpr h) (EReal.neg_nonneg.mpr h)

/-- The inverse norm is a finite number that is not negative. -/
theorem invNorm_real (b : Fin 128 → EReal) : ∃ r : ℝ, 0 ≤ r ∧ invNorm b = (r : EReal) := by
  obtain ⟨ε, hε, e⟩ := eps_pos
  have h0 : 0 ≤ ∑ e, b e * b e := Finset.sum_nonneg fun e _ => sq_nonneg (b e)
  unfold invNorm
  rw [e, ofBits_128]
  have hd : Ideal.div (∑ e, b e * b e) ((128 : ℝ) : EReal) = (∑ e, b e * b e) * (((128 : ℝ)⁻¹ : ℝ) : EReal) := by
    unfold Ideal.div
    rw [if_neg (by exact_mod_cast (by norm_num : (128 : ℝ) ≠ 0)), EReal.coe_inv]
  rw [hd]
  generalize (∑ e, b e * b e) = S at h0
  induction S using EReal.rec with
  | bot => simp at h0
  | top =>
    rw [EReal.top_mul_coe_of_pos (by norm_num), EReal.top_add_coe]
    exact ⟨0, le_refl _, rfl⟩
  | coe S =>
    have hS : (0 : ℝ) ≤ S := by exact_mod_cast h0
    have hp : 0 < S * (128 : ℝ)⁻¹ + ε := by positivity
    rw [← EReal.coe_mul, ← EReal.coe_add, Ideal.rsqrt_coe, if_neg (not_lt.mpr hp.le), if_neg hp.ne']
    exact ⟨_, by positivity, rfl⟩

/-- A nonnegative finite factor goes through the turn. -/
theorem rotated_mul (c s : Fin 16 → EReal) (y : Fin 128 → EReal) (r : ℝ) (hr : 0 ≤ r) (d : Fin 128) :
    rotated c s y d * (r : EReal) = rotated c s (fun e => y e * (r : EReal)) d := by
  have add : ∀ u v : EReal, (u + v) * (r : EReal) = u * r + v * r := fun u v =>
    EReal.right_distrib_of_nonneg_of_ne_top (EReal.coe_nonneg.mpr hr) (EReal.coe_ne_top r) u v
  unfold rotated
  split_ifs with h h'
  · rw [sub_eq_add_neg, add, sub_eq_add_neg, EReal.neg_mul, mul_right_comm, mul_right_comm (y _) (s _)]
  · rw [add, mul_right_comm, mul_right_comm (y _) (s _)]
  · rfl

/-- A sum over 256 columns with a factor that vanishes off one column's head is the sum over that head. -/
theorem sum_head (f : Fin 1024 → EReal) (κ : EReal) (M : Fin 256 → Fin 256 → EReal)
    (hM : ∀ k j, M k j = if k.val / 128 = j.val / 128 then κ else 0) (n : Fin 1024) :
    ∑ k : Fin 256, f (sib n k) * M k ⟨n.val % 256, by omega⟩ = ∑ e : Fin 128, f (lane n e) * κ := by
  have key : ∀ k : Fin 256, f (sib n k) * M k ⟨n.val % 256, by omega⟩
      = if k.val / 128 = n.val % 256 / 128 then f (sib n k) * κ else 0 := fun k => by
    rw [hM]
    show _ * (if k.val / 128 = n.val % 256 / 128 then _ else _) = _
    split_ifs
    · rfl
    · exact mul_zero _
  rw [Finset.sum_congr rfl fun k _ => key k, ← Finset.sum_filter]
  symm
  refine Finset.sum_bij (fun e _ => ⟨n.val % 256 / 128 * 128 + e.val, by omega⟩) (fun e _ => ?_) (fun a _ b _ h => ?_) (fun k hk => ?_) (fun e _ => ?_)
  · rw [Finset.mem_filter]
    refine ⟨Finset.mem_univ _, ?_⟩
    show (n.val % 256 / 128 * 128 + e.val) / 128 = _
    omega
  · have := congrArg Fin.val h
    simp only at this
    exact Fin.ext (by omega)
  · rw [Finset.mem_filter] at hk
    refine ⟨⟨k.val % 128, by omega⟩, Finset.mem_univ _, Fin.ext ?_⟩
    have := hk.2
    show n.val % 256 / 128 * 128 + k.val % 128 = k.val
    omega
  · have : lane n e = sib n ⟨n.val % 256 / 128 * 128 + e.val, by omega⟩ := by
      unfold lane sib
      refine Fin.ext ?_
      show n.val / 128 * 128 + e.val = n.val / 256 * 256 + (n.val % 256 / 128 * 128 + e.val)
      omega
    rw [this]

/-- The mean square through the helper matrix. -/
theorem norm_eq (a : Fin 1024 → EReal) (M : Fin 256 → Fin 256 → EReal)
    (hM : ∀ k j, M k j = if k.val / 128 = j.val / 128 then Ideal.ofBits .f32 0x3C000000#32 else 0) (n : Fin 1024) :
    Ideal.rsqrt ((∑ k : Fin 256, a (sib n k) * a (sib n k) * M k ⟨n.val % 256, by omega⟩) + Ideal.ofBits .f32 0x358637BD#32)
      = invNorm (fun e => a (lane n e)) := by
  rw [sum_head (fun n => a n * a n) _ M hM n, ofBits_128th, ← Softmax.sum_mul_coe _ _ _ (by norm_num)]
  unfold invNorm
  rw [ofBits_128]
  have hd : ∀ S : EReal, Ideal.div S ((128 : ℝ) : EReal) = S * (((1 : ℝ) / 128 : ℝ) : EReal) := fun S => by
    unfold Ideal.div
    rw [if_neg (by exact_mod_cast (by norm_num : (128 : ℝ) ≠ 0)), one_div, EReal.coe_inv]
  rw [hd]

/-- The partner through the helper matrix: the column 16 on, 16 back, or none. -/
theorem partner_eq (f : Fin 1024 → EReal) (P : Fin 256 → Fin 256 → EReal)
    (hP : ∀ k j, P k j = if k.val = (if j.val % 128 < 16 then j.val + 16 else j.val - 16) ∧ j.val % 128 < 32 then 1 else 0) (n : Fin 1024) :
    ∑ k : Fin 256, f (sib n k) * P k ⟨n.val % 256, by omega⟩
      = if h : n.val % 128 < 16 then f (lane n ⟨n.val % 128 + 16, by omega⟩)
        else if n.val % 128 < 32 then f (lane n ⟨n.val % 128 - 16, by omega⟩) else 0 := by
  have one : ∀ k₀ : Fin 256, (∀ k : Fin 256, P k ⟨n.val % 256, by omega⟩ = if k = k₀ then 1 else 0) →
      ∑ k : Fin 256, f (sib n k) * P k ⟨n.val % 256, by omega⟩ = f (sib n k₀) := fun k₀ h => by
    rw [Finset.sum_eq_single k₀ (fun k _ hk => by rw [h, if_neg hk, mul_zero]) (fun hk => absurd (Finset.mem_univ _) hk), h, if_pos rfl, mul_one]
  have hm : n.val % 256 % 128 = n.val % 128 := by omega
  split_ifs with h h'
  · rw [one ⟨n.val % 256 + 16, by omega⟩ fun k => by
      rw [hP]
      simp only [hm, if_pos h, Fin.ext_iff]
      exact if_congr ⟨fun q => q.1, fun q => ⟨q, by omega⟩⟩ rfl rfl]
    refine congrArg f (Fin.ext ?_)
    show n.val / 256 * 256 + (n.val % 256 + 16) = n.val / 128 * 128 + (n.val % 128 + 16)
    omega
  · rw [one ⟨n.val % 256 - 16, by omega⟩ fun k => by
      rw [hP]
      simp only [hm, if_neg h, Fin.ext_iff]
      exact if_congr ⟨fun q => q.1, fun q => ⟨q, by omega⟩⟩ rfl rfl]
    refine congrArg f (Fin.ext ?_)
    show n.val / 256 * 256 + (n.val % 256 - 16) = n.val / 128 * 128 + (n.val % 128 - 16)
    omega
  · refine Finset.sum_eq_zero fun k _ => ?_
    rw [hP, if_neg (by simp only [hm]; exact fun q => h' q.2), mul_zero]

/-- What the tables hold in lane `d` for angles with cosines `c` and sines `s`. -/
def csRow (c : Fin 16 → EReal) (d : Fin 128) : EReal :=
  if h : d.val < 16 then c ⟨d.val, h⟩ else if h' : d.val < 32 then c ⟨d.val - 16, by omega⟩ else 1

def snRow (s : Fin 16 → EReal) (d : Fin 128) : EReal :=
  if h : d.val < 16 then -s ⟨d.val, h⟩ else if h' : d.val < 32 then s ⟨d.val - 16, by omega⟩ else 0

/-- The kernel's order of a head's work is the plain one's. -/
theorem pairVal_eq (a g : Fin 1024 → EReal) (c s : Fin 16 → EReal) (M P : Fin 256 → Fin 256 → EReal)
    (hM : ∀ k j, M k j = if k.val / 128 = j.val / 128 then Ideal.ofBits .f32 0x3C000000#32 else 0)
    (hP : ∀ k j, P k j = if k.val = (if j.val % 128 < 16 then j.val + 16 else j.val - 16) ∧ j.val % 128 < 32 then 1 else 0) (n : Fin 1024) :
    pairVal a g (csRow c) (snRow s) M P n
      = rotated c s (fun e => a (lane n e) * invNorm (fun e => a (lane n e)) * g (lane n e)) ⟨n.val % 128, by omega⟩ := by
  obtain ⟨r, hr, er⟩ := invNorm_real fun e => a (lane n e)
  unfold pairVal
  rw [norm_eq a M hM n, partner_eq (fun n => a n * g n) P hP n, er]
  have hs : (fun e => a (lane n e) * (r : EReal) * g (lane n e)) = fun e => a (lane n e) * g (lane n e) * (r : EReal) :=
    funext fun e => mul_right_comm _ _ _
  have hn : a n * g n = a (lane n ⟨n.val % 128, by omega⟩) * g (lane n ⟨n.val % 128, by omega⟩) := by
    have : lane n ⟨n.val % 128, by omega⟩ = n := Fin.ext (by show n.val / 128 * 128 + n.val % 128 = n.val; omega)
    rw [this]
  rw [hs, ← rotated_mul c s (fun e => a (lane n e) * g (lane n e)) r hr, hn]
  refine congrArg (· * (r : EReal)) ?_
  unfold rotated csRow snRow
  split_ifs with h h'
  · rw [mul_comm _ (-_), EReal.neg_mul, mul_comm (s _), sub_eq_add_neg]
  · rfl
  · rw [zero_mul, add_zero, mul_one]

/-- The queries' gains carry a scale that the plain order applies at the end. -/
theorem rotated_scale (c s : Fin 16 → EReal) (b g : Fin 128 → EReal) (d : Fin 128) :
    rotated c s (fun e => b e * invNorm b * (g e * Ideal.ofBits .f32 0x3DB504F3#32)) d
      = rotated c s (fun e => b e * invNorm b * g e) d * Ideal.ofBits .f32 0x3DB504F3#32 := by
  obtain ⟨r, hr, er⟩ := scale_nonneg
  rw [er, rotated_mul c s _ r hr]
  exact congrArg (fun y => rotated c s y d) (funext fun e => (mul_assoc _ _ _).symm)

end Cert.ProjMath

end
-- ==== Proof.ProjHead.lean ====
/- What a projection's body makes of a block of products: the heads of the queries and keys, two at a time. -/
module

public import proofs.«01_k».proof.Proof.ProjMath
public import Idealize.ShloMosaic.Lib.Pipeline.ValueKit
public import proofs.«01_k».proof.Proof.Gen.Proj0Ideal.Value

@[expose] public section

set_option maxRecDepth 16384

noncomputable section

namespace Cert.ProjHead

open Cert.Proj0Ideal Cert.Proj0Ideal.Gen Cert.ProjMath Idealize.ShloMosaic Idealize.ShloMosaic.TcCoe Idealize.SL.Sem

/-- Two heads' columns, from column `o` on. -/
def pair (o : ℕ) (hs : S1024x1024.Slices ![0, o] S1024x256) (hg : S1x1024.Slices ![0, o] S1x256) (acc : FVec Ideal S1024x1024 .f32)
    (x3 x4 : Vec Ideal S1024x128 .f32) (gr : Vec Ideal S1x1024 .f32) (x6 x7 : FVec Ideal S256x256 .bf16) : FVec Ideal S1024x256 .f32 :=
  let a := extractStridedSlice S1024x256 ![0, o] acc hs
  let ag := mulf a (broadcastTo S1024x256 (extractStridedSlice S1x256 ![0, o] (k0_pay7 gr) hg) broadcasts_S1x256_S1024x256)
  let meansq := matmul dot_S1024x256_S256x256_S1024x256_1_0_0_1_n_n none (truncf .bf16 (mulf a a) bitsLt_bf16_f32)
    (shapeCast S256x256 x6 shapeCasts_S256x256_S256x256) (constant S1024x256 .f32 0x00000000#32)
  let partner := matmul dot_S1024x256_S256x256_S1024x256_1_0_0_1_n_n none (truncf .bf16 ag bitsLt_bf16_f32)
    (shapeCast S256x256 x7 shapeCasts_S256x256_S256x256) (constant S1024x256 .f32 0x00000000#32)
  mulf (addf (mulf ag (k0_pay5 x3)) (mulf partner (k0_pay6 x4))) (rsqrt (addf meansq (broadcast S1024x256 (Scalar.ofBits .f32 0x358637BD#32))))

/-- All eight heads' columns. -/
def heads (acc : FVec Ideal S1024x1024 .f32) (x3 x4 : Vec Ideal S1024x128 .f32) (gr : Vec Ideal S1x1024 .f32) (x6 x7 : FVec Ideal S256x256 .bf16) :
    FVec Ideal S1024x1024 .f32 :=
  concatenate S1024x1024 1 [⟨S1024x256, pair 0 slices_S1024x1024_o0_0_S1024x256 slices_S1x1024_o0_0_S1x256 acc x3 x4 gr x6 x7⟩,
    ⟨S1024x256, pair 256 slices_S1024x1024_o0_256_S1024x256 slices_S1x1024_o0_256_S1x256 acc x3 x4 gr x6 x7⟩,
    ⟨S1024x256, pair 512 slices_S1024x1024_o0_512_S1024x256 slices_S1x1024_o0_512_S1x256 acc x3 x4 gr x6 x7⟩,
    ⟨S1024x256, pair 768 slices_S1024x1024_o0_768_S1024x256 slices_S1x1024_o0_768_S1x256 acc x3 x4 gr x6 x7⟩]
    concatenates_S1024x256_S1024x256_S1024x256_S1024x256_S1024x1024_d1

theorem doubled_apply (x : Vec Ideal S1024x128 .f32) (r : Fin 1024) (k : Fin 256) : k0_pay5 (F := Ideal) x (ix2 r k) = x (ix2 r ⟨k.val % 128, by omega⟩) := by
  by_cases h : k.val < 128
  · have : (⟨k.val % 128, by omega⟩ : Fin 128) = ⟨k.val, h⟩ := Fin.ext (Nat.mod_eq_of_lt h)
    rw [this]
    pointwise [k0_pay5]
    simp only [h, dif_pos]
  · have : (⟨k.val % 128, by omega⟩ : Fin 128) = ⟨k.val - 128, by omega⟩ := Fin.ext (by show k.val % 128 = k.val - 128; omega)
    rw [this]
    pointwise [k0_pay5]
    simp only [h, dif_neg, not_false_eq_true]

theorem pair_apply (o : ℕ) (ho : o + 256 ≤ 1024) (hd : o % 256 = 0) (hs : S1024x1024.Slices ![0, o] S1024x256) (hg : S1x1024.Slices ![0, o] S1x256)
    (acc : FVec Ideal S1024x1024 .f32) (x3 x4 : Vec Ideal S1024x128 .f32) (gr : Vec Ideal S1x1024 .f32) (x6 x7 : FVec Ideal S256x256 .bf16)
    (r : Fin 1024) (k : Fin 256) (n : Fin 1024) (hn : n.val = o + k.val) :
    pair o hs hg acc x3 x4 gr x6 x7 (ix2 r k)
      = pairVal (fun n => acc (ix2 r n)) (fun n => gr (ix2 (0 : Fin 1) n)) (fun d => x3 (ix2 r d)) (fun d => x4 (ix2 r d))
          (fun k j => x6 (ix2 k j)) (fun k j => x7 (ix2 k j)) n := by
  have hlt : o + k.val < 1024 := by omega
  have e4 : n = ⟨o + k.val, hlt⟩ := Fin.ext hn
  clear hn
  subst e4
  have e1 : (⟨(o + k.val) % 128, by omega⟩ : Fin 128) = ⟨k.val % 128, by omega⟩ := Fin.ext (by show (o + k.val) % 128 = k.val % 128; omega)
  have e2 : (⟨(o + k.val) % 256, by omega⟩ : Fin 256) = k := Fin.ext (by show (o + k.val) % 256 = k.val; omega)
  have e3 : ∀ j : Fin 256, sib ⟨o + k.val, hlt⟩ j = ⟨o + j.val, by omega⟩ := fun j => Fin.ext (by show (o + k.val) / 256 * 256 + j.val = o + j.val; omega)
  unfold pairVal
  simp only [e1, e2, e3]
  have c3 := doubled_apply x3 r k
  have c4 : k0_pay6 (F := Ideal) x4 (ix2 r k) = _ := doubled_apply x4 r k
  rw [← c3, ← c4]
  pointwise [pair, k0_pay7]

theorem heads_apply (acc : FVec Ideal S1024x1024 .f32) (x3 x4 : Vec Ideal S1024x128 .f32) (gr : Vec Ideal S1x1024 .f32) (x6 x7 : FVec Ideal S256x256 .bf16)
    (r : Fin 1024) (n : Fin 1024) :
    heads acc x3 x4 gr x6 x7 (ix2 r n)
      = pairVal (fun n => acc (ix2 r n)) (fun n => gr (ix2 (0 : Fin 1) n)) (fun d => x3 (ix2 r d)) (fun d => x4 (ix2 r d))
          (fun k j => x6 (ix2 k j)) (fun k j => x7 (ix2 k j)) n := by
  obtain ⟨q, hq⟩ : ∃ q : Fin 4, n.val / 256 = q.val := ⟨⟨n.val / 256, by omega⟩, rfl⟩
  refine (concatenate_ofFn_apply (t := S1024x1024) (s₁ := S1024x256) 1
    (fun q : Fin 4 => match q with
      | 0 => pair 0 slices_S1024x1024_o0_0_S1024x256 slices_S1x1024_o0_0_S1x256 acc x3 x4 gr x6 x7
      | 1 => pair 256 slices_S1024x1024_o0_256_S1024x256 slices_S1x1024_o0_256_S1x256 acc x3 x4 gr x6 x7
      | 2 => pair 512 slices_S1024x1024_o0_512_S1024x256 slices_S1x1024_o0_512_S1x256 acc x3 x4 gr x6 x7
      | 3 => pair 768 slices_S1024x1024_o0_768_S1024x256 slices_S1x1024_o0_768_S1x256 acc x3 x4 gr x6 x7)
    concatenates_S1024x256_S1024x256_S1024x256_S1024x256_S1024x1024_d1 rfl 256 rfl (ix2 r n) q hq
    (ix2 r ⟨n.val % 256, by omega⟩) rfl (fun b hb => match b with | ⟨0, _⟩ => rfl | ⟨1, _⟩ => absurd rfl hb)).trans ?_
  have hk := Nat.div_add_mod n.val 256
  rw [hq] at hk
  match q with
  | 0 => exact pair_apply 0 (by omega) rfl _ _ acc x3 x4 gr x6 x7 r _ n hk.symm
  | 1 => exact pair_apply 256 (by omega) rfl _ _ acc x3 x4 gr x6 x7 r _ n hk.symm
  | 2 => exact pair_apply 512 (by omega) rfl _ _ acc x3 x4 gr x6 x7 r _ n hk.symm
  | 3 => exact pair_apply 768 (by omega) rfl _ _ acc x3 x4 gr x6 x7 r _ n hk.symm

/-- A row's products with the columns of a block of the weights. -/
theorem product_apply (x w : Vec Ideal S1024x1024 .bf16) (r n : Fin 1024) :
    k0_pay2 (F := Ideal) x w (ix2 r n) = ∑ l : Fin 1024, (x (ix2 r l) : EReal) * w (ix2 l n) := by
  pointwise [k0_pay2]
  try rfl

theorem normed_apply (x : Vec Ideal S1024x1024 .f32) (g : Vec Ideal S1x1024 .f32) (r n : Fin 1024) :
    k0_pay1 (F := Ideal) x g (ix2 r n) = DenseBlock.normed (fun l => x (ix2 r l)) (fun l => g (ix2 (0 : Fin 1) l)) n := by
  pointwise [k0_pay1]
  try rfl

end Cert.ProjHead

end
-- ==== Proof.Proj0Block.lean ====
/- What the first projection leaves in a block of its result, as a function of the blocks it reads. -/
module

public import proofs.«01_k».proof.Proof.ProjHead
public import Idealize.ShloMosaic.Lib.Pipeline.ReadBack

@[expose] public section

set_option maxRecDepth 16384

noncomputable section

namespace Cert.Proj0Block

open Cert.Proj0Ideal Cert.Proj0Ideal.Gen Cert.ProjMath Cert.ProjHead Idealize.ShloMosaic Idealize.ShloMosaic.TcCoe Idealize.SL.Sem

variable (m : (ℓ : Loc nD τ sig) → Buf (Elt Ideal) ℓ)

/-- Row `j` of the gains, the row a point of the second grid axis reads. -/
def gainRow (i : grid0.Coords) (h : k0_cond2 i = 1#1) (x5 : Vec Ideal S2x1024 .f32) : Vec Ideal S1x1024 .f32 :=
  View.ld x5 (Rect.unit (s := S2x1024) (k0_off1 i) S1x1024.size (k0_off1_inb i h))

/-- A block of the result, from the columns it holds. -/
def stored (z : FVec Ideal S1024x1024 .f32) : FVec Ideal S1x1x1024x1024 .bf16 :=
  shapeCast S1x1x1024x1024 (truncf .bf16 z bitsLt_bf16_f32) shapeCasts_S1024x1024_S1x1x1024x1024

theorem stored_apply (z : FVec Ideal S1024x1024 .f32) (r n : Fin 1024) : stored z (ix4 (0 : Fin 1) (0 : Fin 1) r n) = z (ix2 r n) := by
  pointwise [stored]

theorem carried_A (c : Dev nD) (t : Fin cfg0.N) (h0 : t.val % 3 = 0) (h1 : t.val % 3 ≤ 1) (h2 : ¬t.val % 3 = 2) :
    (outsAt0 m c t.val t.isLt).2 = k0_pay1 (iblk m c 0 t) (iblk m c 1 t) := by
  rw [outsAt0_A m c t h0 h1 h2]
  dsimp only
  unfold sout0_A_0
  rw [View.read_writes_junk_eq_canon VS0_0 _]
  unfold kernelRun0_A
  dsimp only
  sl_unfold_words
  simp (disch := decide) only [View.canon_cons_unit_lit', View.ld_unit_lit', View.readCov_unit_lit', View.readCov_cons_unit_lit', View.readAt_eq_ld, Memref.IsWhole.read_unread]

theorem out_A (c : Dev nD) (t : Fin cfg0.N) (h0 : t.val % 3 = 0) (h1 : t.val % 3 ≤ 1) (h2 : ¬t.val % 3 = 2) :
    (outsAt0 m c t.val t.isLt).1 = stored (heads (k0_pay2 (k0_pay1 (iblk m c 0 t) (iblk m c 1 t)) (iblk m c 2 t)) (iblk m c 3 t) (iblk m c 4 t)
      (gainRow (grid0.coords t) ((hcond0_1 t).mpr h1) (iblk m c 5 t)) (iblk m c 6 t) (iblk m c 7 t)) := by
  rw [outsAt0_A m c t h0 h1 h2]
  dsimp only
  unfold out0_A_8
  rw [View.read_writes_junk_eq_canon VO0_8 _]
  unfold kernelRun0_A
  dsimp only
  sl_unfold_words
  simp (disch := decide) only [View.canon_cons_unit_lit', View.ld_unit_lit', View.readCov_unit_lit', View.readCov_cons_unit_lit', View.readAt_eq_ld, Memref.IsWhole.read_unread]
  rfl

theorem out_B (c : Dev nD) (t : Fin cfg0.N) (h0 : ¬t.val % 3 = 0) (h1 : t.val % 3 ≤ 1) (h2 : ¬t.val % 3 = 2) :
    (outsAt0 m c t.val t.isLt).1 = stored (heads (k0_pay2 (outsAt0 m c (t.val - 1) (by omega)).2 (iblk m c 2 t)) (iblk m c 3 t) (iblk m c 4 t)
      (gainRow (grid0.coords t) ((hcond0_1 t).mpr h1) (iblk m c 5 t)) (iblk m c 6 t) (iblk m c 7 t)) := by
  rw [outsAt0_B m c t h0 h1 h2]
  dsimp only
  unfold out0_B_8
  rw [View.read_writes_junk_eq_canon VO0_8 _]
  unfold kernelRun0_B
  dsimp only
  sl_unfold_words
  simp (disch := decide) only [View.canon_cons_unit_lit', View.ld_unit_lit', View.readCov_unit_lit', View.readCov_cons_unit_lit', View.readAt_eq_ld, Memref.IsWhole.read_unread, read_unread_whole]
  rfl

theorem out_C (c : Dev nD) (t : Fin cfg0.N) (h0 : ¬t.val % 3 = 0) (h1 : ¬t.val % 3 ≤ 1) (h2 : t.val % 3 = 2) :
    (outsAt0 m c t.val t.isLt).1 = stored (k0_pay2 (outsAt0 m c (t.val - 1) (by omega)).2 (iblk m c 2 t)) := by
  rw [outsAt0_C m c t h0 h1 h2]
  dsimp only
  unfold out0_C_8
  rw [View.read_writes_junk_eq_canon VO0_8 _]
  unfold kernelRun0_C
  dsimp only
  sl_unfold_words
  simp (disch := decide) only [View.canon_cons_unit_lit', View.ld_unit_lit', View.readCov_unit_lit', View.readCov_cons_unit_lit', View.readAt_eq_ld, Memref.IsWhole.read_unread, read_unread_whole]
  rfl

theorem carried_B (c : Dev nD) (t : Fin cfg0.N) (h0 : ¬t.val % 3 = 0) (h1 : t.val % 3 ≤ 1) (h2 : ¬t.val % 3 = 2) :
    (outsAt0 m c t.val t.isLt).2 = (outsAt0 m c (t.val - 1) (by omega)).2 := by
  rw [outsAt0_B m c t h0 h1 h2]
  rfl

end Cert.Proj0Block

end
-- ==== Proof.ProjTables.lean ====
/- What a projection is handed by its caller: the tables of the turn, the gains and the two helper matrices. -/
module

public import proofs.«01_k».proof.Proof.ProjHead

@[expose] public section

set_option maxRecDepth 16384

noncomputable section

namespace Cert.ProjTables

open Cert.Proj0Ideal Cert.Proj0Ideal.Gen Cert.ProjMath Idealize.ShloMosaic Idealize.ShloMosaic.TcCoe Idealize.SL.Sem

/-- The sixteen frequencies. -/
def freqs : FVec Ideal S16 .f32 :=
  Host.powf (broadcastInDim S16 ![] bcast_S_S16 (constant S_ .f32 0x48F42400#32))
    (Host.divf (Host.negf (addf (broadcastInDim S16 ![] bcast_S_S16 (constant S_ .f32 0x00000000#32))
      (mulf (broadcastInDim S16 ![] bcast_S_S16 (constant S_ .f32 0x40000000#32)) (sitofp .f32 (iotaInDim S16 32 0)))))
      (broadcastInDim S16 ![] bcast_S_S16 (constant S_ .f32 0x42000000#32)))

/-- The angles, of every token. -/
def angles (p : Vec Ideal S16x2048 .i32) : FVec Ideal S16x2048x16 .f32 :=
  mulf (broadcastInDim S16x2048x16 ![0, 1, 2] bcast_S16x2048x1_S16x2048x16_0_1_2
      (broadcastInDim S16x2048x1 ![0, 1] bcast_S16x2048_S16x2048x1_0_1 (sitofp .f32 p)))
    (broadcastInDim S16x2048x16 ![0, 1, 2] bcast_S1x1x16_S16x2048x16_0_1_2 (broadcastInDim S1x1x16 ![2] bcast_S16_S1x1x16_2 freqs))

/-- The angle of token `(b, l)` at frequency `i`. -/
def angle (p : Vec Ideal S16x2048 .i32) (b : Fin 16) (l : Fin 2048) (i : Fin 16) : EReal :=
  FloatOps.sitofp (F := Ideal) .f32 (p (ix2 b l)) * freqs (ix1 i)

def cosAt (p : Vec Ideal S16x2048 .i32) (b : Fin 16) (l : Fin 2048) (i : Fin 16) : EReal :=
  FloatOps.hostUnary (F := Ideal) (φ := .f32) .cos (angle p b l i)

def sinAt (p : Vec Ideal S16x2048 .i32) (b : Fin 16) (l : Fin 2048) (i : Fin 16) : EReal :=
  FloatOps.hostUnary (F := Ideal) (φ := .f32) .sin (angle p b l i)

/-- A table of a row of 128 lanes a token, from its three parts. -/
def table (A B : FVec Ideal S16x2048x16 .f32) (C : FVec Ideal S16x2048x96 .f32) : FVec Ideal S32768x128 .f32 :=
  shapeCast S32768x128 (concatenate S16x2048x128 2 [⟨S16x2048x16, A⟩, ⟨S16x2048x16, B⟩, ⟨S16x2048x96, C⟩]
    concatenates_S16x2048x16_S16x2048x16_S16x2048x96_S16x2048x128_d2) shapeCasts_S16x2048x128_S32768x128

def csTable (p : Vec Ideal S16x2048 .i32) : FVec Ideal S32768x128 .f32 :=
  table (Host.cos (angles p)) (Host.cos (angles p)) (broadcastInDim S16x2048x96 ![] bcast_S_S16x2048x96 (constant S_ .f32 0x3F800000#32))

def snTable (p : Vec Ideal S16x2048 .i32) : FVec Ideal S32768x128 .f32 :=
  table (Host.negf (Host.sin (angles p))) (Host.sin (angles p)) (broadcastInDim S16x2048x96 ![] bcast_S_S16x2048x96 (constant S_ .f32 0x00000000#32))

theorem angles_apply (p : Vec Ideal S16x2048 .i32) (b : Fin 16) (l : Fin 2048) (i : Fin 16) : angles p (ix3 b l i) = angle p b l i := by
  unfold angles angle
  generalize freqs = f
  pointwise

theorem table_apply (A B : FVec Ideal S16x2048x16 .f32) (C : FVec Ideal S16x2048x96 .f32) (R : Fin 32768) (d : Fin 128) :
    table A B C (ix2 R d) = if h : d.val < 16 then A (ix3 ⟨R.val / 2048, by omega⟩ ⟨R.val % 2048, by omega⟩ ⟨d.val, h⟩)
      else if h' : d.val < 32 then B (ix3 ⟨R.val / 2048, by omega⟩ ⟨R.val % 2048, by omega⟩ ⟨d.val - 16, by omega⟩)
      else C (ix3 ⟨R.val / 2048, by omega⟩ ⟨R.val % 2048, by omega⟩ ⟨d.val - 32, by omega⟩) := by
  pointwise [table]
  have h1 : d.val - 16 < 16 ↔ d.val < 32 := by omega
  simp only [h1, Nat.sub_sub]

/-- A row of the table of cosines. -/
theorem cs_apply (p : Vec Ideal S16x2048 .i32) (R : Fin 32768) (d : Fin 128) :
    csTable p (ix2 R d) = csRow (cosAt p ⟨R.val / 2048, by omega⟩ ⟨R.val % 2048, by omega⟩) d := by
  have hc : ∀ b l i, Host.cos (angles p) (ix3 b l i) = cosAt p b l i := fun b l i =>
    congrArg (FloatOps.hostUnary (F := Ideal) (φ := .f32) .cos) (angles_apply p b l i)
  unfold csTable csRow
  rw [table_apply]
  simp only [hc]
  split_ifs
  · rfl
  · rfl
  · pointwise
    try simp

/-- A row of the table of sines. -/
theorem sn_apply (p : Vec Ideal S16x2048 .i32) (R : Fin 32768) (d : Fin 128) :
    snTable p (ix2 R d) = snRow (sinAt p ⟨R.val / 2048, by omega⟩ ⟨R.val % 2048, by omega⟩) d := by
  have hc : ∀ b l i, Host.sin (angles p) (ix3 b l i) = sinAt p b l i := fun b l i =>
    congrArg (FloatOps.hostUnary (F := Ideal) (φ := .f32) .sin) (angles_apply p b l i)
  have hn : ∀ b l i, Host.negf (Host.sin (angles p)) (ix3 b l i) = -sinAt p b l i := fun b l i =>
    congrArg (fun u => -u) (hc b l i)
  unfold snTable snRow
  rw [table_apply]
  simp only [hc, hn]
  split_ifs
  · rfl
  · rfl
  · pointwise
    try simp

/-- A head's gains, repeated for the eight heads. -/
def repeated (g : Vec Ideal S128 .f32) : FVec Ideal S1024 .f32 :=
  shapeCast S1024 (broadcastInDim S8x128 ![0, 1] bcast_S1x128_S8x128_0_1 (shapeCast S1x128 g shapeCasts_S128_S1x128)) shapeCasts_S8x128_S1024

/-- The two rows of gains, the queries' scaled. -/
def gains (gq gk : Vec Ideal S128 .f32) : FVec Ideal S2x1024 .f32 :=
  concatenate S2x1024 0 [⟨S1x1024, broadcastInDim S1x1024 ![1] bcast_S1024_S1x1024_1
      (mulf (repeated gq) (broadcastInDim S1024 ![] bcast_S_S1024 (constant S_ .f32 0x3DB504F3#32)))⟩,
    ⟨S1x1024, broadcastInDim S1x1024 ![1] bcast_S1024_S1x1024_1 (repeated gk)⟩] concatenates_S1x1024_S1x1024_S2x1024_d0

theorem repeated_apply (g : Vec Ideal S128 .f32) (n : Fin 1024) : repeated g (ix1 n) = g (ix1 ⟨n.val % 128, by omega⟩) := by
  pointwise [repeated]

theorem gains_q (gq gk : Vec Ideal S128 .f32) (n : Fin 1024) :
    gains gq gk (ix2 (0 : Fin 2) n) = gq (ix1 ⟨n.val % 128, by omega⟩) * Ideal.ofBits .f32 0x3DB504F3#32 := by
  rw [← repeated_apply gq n]
  unfold gains
  generalize repeated gq = a
  generalize repeated gk = b
  pointwise

theorem gains_k (gq gk : Vec Ideal S128 .f32) (n : Fin 1024) : gains gq gk (ix2 (1 : Fin 2) n) = gk (ix1 ⟨n.val % 128, by omega⟩) := by
  rw [← repeated_apply gk n]
  unfold gains
  generalize repeated gq = a
  generalize repeated gk = b
  pointwise

/-- A whole number over 128, rounded down. -/
def over128 (S : Shape) (hb : S_.BroadcastsInDim S ![]) (z : Vec Ideal S .i32) : Vec Ideal S .i32 :=
  select (andi (cmpi .ne (signi z) (broadcastInDim S ![] hb (signi (constantI S_ 32 128#32))))
      (cmpi .ne (Host.remsi z (broadcastInDim S ![] hb (constantI S_ 32 128#32))) (broadcastInDim S ![] hb (constantI S_ 32 0#32))))
    (subi (Host.divsi z (broadcastInDim S ![] hb (constantI S_ 32 128#32))) (broadcastInDim S ![] hb (constantI S_ 32 1#32)))
    (Host.divsi z (broadcastInDim S ![] hb (constantI S_ 32 128#32)))

/-- The columns, a place each. -/
def columns : Vec Ideal S256 .i32 := iotaInDim S256 32 0

/-- Whether two columns are of one head. -/
def sameHead : Vec Ideal S256x256 .i1 :=
  cmpi .eq (broadcastInDim S256x256 ![0, 1] bcast_S256x1_S256x256_0_1 (over128 S256x1 bcast_S_S256x1 (broadcastInDim S256x1 ![0] bcast_S256_S256x1_0 columns)))
    (broadcastInDim S256x256 ![0, 1] bcast_S1x256_S256x256_0_1 (over128 S1x256 bcast_S_S1x256 (broadcastInDim S1x256 ![1] bcast_S256_S1x256_1 columns)))

/-- The matrix that takes a head's mean. -/
def meanMat : FVec Ideal S256x256 .bf16 :=
  truncf .bf16 (mulf (extf .f32 (uitofp .bf16 sameHead : FVec Ideal S256x256 .bf16) bitsLt_bf16_f32)
    (broadcastInDim S256x256 ![] bcast_S_S256x256 (constant S_ .f32 0x3C000000#32))) bitsLt_bf16_f32

/-- A whole number's rest by 128, not negative. -/
def rest128 (z : Vec Ideal S256 .i32) : Vec Ideal S256 .i32 :=
  let d : Vec Ideal S_ .i32 := select (cmpi .eq (constantI S_ 32 128#32) (constantI S_ 32 0#32)) (constantI S_ 32 1#32) (constantI S_ 32 128#32)
  let q := Host.remsi z (broadcastInDim S256 ![] bcast_S_S256 d)
  select (andi (cmpi .ne (cmpi .slt q (broadcastInDim S256 ![] bcast_S_S256 (constantI S_ 32 0#32)))
      (broadcastInDim S256 ![] bcast_S_S256 (cmpi .slt d (constantI S_ 32 0#32))))
      (cmpi .ne q (broadcastInDim S256 ![] bcast_S_S256 (constantI S_ 32 0#32))))
    (addi q (broadcastInDim S256 ![] bcast_S_S256 d)) q

/-- The column a column is turned with. -/
def partners : Vec Ideal S256 .i32 :=
  select (cmpi .slt (rest128 columns) (broadcastInDim S256 ![] bcast_S_S256 (constantI S_ 32 16#32)))
    (addi columns (broadcastInDim S256 ![] bcast_S_S256 (constantI S_ 32 16#32)))
    (subi columns (broadcastInDim S256 ![] bcast_S_S256 (constantI S_ 32 16#32)))

/-- The matrix that fetches a column's partner. -/
def turnMat : FVec Ideal S256x256 .bf16 :=
  uitofp .bf16 (andi (cmpi .eq (broadcastInDim S256x256 ![0, 1] bcast_S256x1_S256x256_0_1 (broadcastInDim S256x1 ![0] bcast_S256_S256x1_0 columns))
      (broadcastInDim S256x256 ![0, 1] bcast_S1x256_S256x256_0_1 (broadcastInDim S1x256 ![1] bcast_S256_S1x256_1 partners)))
    (broadcastInDim S256x256 ![0, 1] bcast_S1x256_S256x256_0_1 (cmpi .slt (broadcastInDim S1x256 ![1] bcast_S256_S1x256_1 (rest128 columns))
      (broadcastInDim S1x256 ![] bcast_S_S1x256 (constantI S_ 32 32#32)))))

theorem over_rows (k : Fin 256) : over128 S256x1 bcast_S_S256x1 (broadcastInDim S256x1 ![0] bcast_S256_S256x1_0 columns) (ix2 k (0 : Fin 1))
    = BitVec.ofNat 32 (k.val / 128) := by
  pointwise [over128, columns]
  revert k
  decide +kernel

theorem over_cols (j : Fin 256) : over128 S1x256 bcast_S_S1x256 (broadcastInDim S1x256 ![1] bcast_S256_S1x256_1 columns) (ix2 (0 : Fin 1) j)
    = BitVec.ofNat 32 (j.val / 128) := by
  pointwise [over128, columns]
  revert j
  decide +kernel

theorem rest_apply (j : Fin 256) : rest128 columns (ix1 j) = BitVec.ofNat 32 (j.val % 128) := by
  pointwise [rest128, columns]
  revert j
  decide +kernel

theorem partners_apply (j : Fin 256) : partners (ix1 j) = BitVec.ofNat 32 (if j.val % 128 < 16 then j.val + 16 else j.val - 16) := by
  unfold partners
  have hr := rest_apply j
  generalize rest128 columns = r at hr ⊢
  pointwise [columns]
  rw [hr]
  clear hr r
  revert j
  decide +kernel

theorem ofNat_inj (a b : ℕ) (ha : a < 512) (hb : b < 512) : BitVec.ofNat 32 a = BitVec.ofNat 32 b ↔ a = b := by
  refine ⟨fun h => ?_, fun h => by rw [h]⟩
  have := congrArg BitVec.toNat h
  rw [BitVec.toNat_ofNat, BitVec.toNat_ofNat, Nat.mod_eq_of_lt (by omega), Nat.mod_eq_of_lt (by omega)] at this
  exact this

theorem cmp_eq (a b : BitVec 32) : IntOp.cmpi CmpIPredicate.eq a b = if a = b then 1#1 else 0#1 := by
  by_cases h : a = b
  · subst h
    simp [IntOp.cmpi]
  · rw [if_neg h]
    show BitVec.ofBool (a == b) = 0#1
    rw [beq_eq_false_iff_ne.mpr h]
    rfl

theorem bit_value (b : BitVec 1) : FloatOps.uitofp (F := Ideal) .bf16 b = if b = 1#1 then 1 else 0 := by
  revert b
  intro b
  rcases BitVec.eq_zero_or_eq_one b with h | h <;> subst h <;> simp [FloatOps.uitofp]

theorem sameHead_apply (k j : Fin 256) : sameHead (ix2 k j) = if k.val / 128 = j.val / 128 then 1#1 else 0#1 := by
  have hk := over_rows k
  have hj := over_cols j
  unfold sameHead
  generalize over128 S256x1 _ _ = a at hk ⊢
  generalize over128 S1x256 _ _ = b at hj ⊢
  pointwise
  rw [hk, hj, cmp_eq]
  simp only [ofNat_inj _ _ (show k.val / 128 < 512 by omega) (show j.val / 128 < 512 by omega)]

theorem low_apply (j : Fin 256) : IntOp.cmpi CmpIPredicate.slt (BitVec.ofNat 32 (j.val % 128)) 32#32 = if j.val % 128 < 32 then 1#1 else 0#1 := by
  revert j
  decide +kernel

theorem turn_apply (k j : Fin 256) :
    turnMat (ix2 k j) = if k.val = (if j.val % 128 < 16 then j.val + 16 else j.val - 16) ∧ j.val % 128 < 32 then 1 else 0 := by
  have hr := rest_apply j
  have hp := partners_apply j
  unfold turnMat
  generalize rest128 columns = r at hr ⊢
  generalize partners = q at hp ⊢
  pointwise [columns]
  rw [hr, hp, cmp_eq, low_apply, bit_value]
  simp only [ofNat_inj _ _ (show k.val < 512 by omega) (show (if j.val % 128 < 16 then j.val + 16 else j.val - 16) < 512 by split_ifs <;> omega)]
  by_cases hA : k.val = (if j.val % 128 < 16 then j.val + 16 else j.val - 16) <;> by_cases hB : j.val % 128 < 32 <;> simp [hA, hB, IntOp.andi]

theorem mean_apply (k j : Fin 256) : meanMat (ix2 k j) = if k.val / 128 = j.val / 128 then Ideal.ofBits .f32 0x3C000000#32 else 0 := by
  have hr := sameHead_apply k j
  unfold meanMat
  generalize sameHead = r at hr ⊢
  pointwise
  rw [hr, bit_value]
  by_cases h : k.val / 128 = j.val / 128 <;> simp [h]

end Cert.ProjTables

end
-- ==== Proof.ProjValue.lean ====
/- The value of a projection at a place of its result, and the kernel's order of the heads' work brought to it. -/
module

public import proofs.«01_k».proof.Proof.ProjTables

@[expose] public section

set_option maxRecDepth 16384

noncomputable section

namespace Cert.ProjValue

open Cert.Proj0Ideal Cert.ProjMath Cert.ProjTables Idealize.ShloMosaic

/-- Column `n` of token `(b, l)`'s product of its normalised row with the weights. -/
def product (x : Vec Ideal S32768x1024 .f32) (ln : Vec Ideal S1024 .f32) (w : Vec Ideal S1024x9216 .f32) (T : Fin 32768) (n : Fin 9216) : EReal :=
  ∑ k : Fin 1024, DenseBlock.normed (fun k => x (ix2 T k)) (fun k => ln (ix1 k)) k * w (ix2 k n)

/-- Token `l` of sequence `b`. -/
def token (b : Fin 16) (l : Fin 2048) : Fin 32768 := ⟨b.val * 2048 + l.val, by omega⟩

/-- Column `n` of a group's queries, keys or values, among all the weights' columns. -/
def col (g part : Fin 3) (n : Fin 1024) : Fin 9216 := ⟨part.val * 3072 + g.val * 1024 + n.val, by omega⟩

/-- Group `g`'s queries (`part` 0), keys (1) or values (2) of token `(b, l)`, at column `n`. -/
def value (x : Vec Ideal S32768x1024 .f32) (ln : Vec Ideal S1024 .f32) (w : Vec Ideal S1024x9216 .f32) (p : Vec Ideal S16x2048 .i32)
    (gq gk : Vec Ideal S128 .f32) (g part : Fin 3) (b : Fin 16) (l : Fin 2048) (n : Fin 1024) : EReal :=
  let y : Fin 128 → EReal := fun e => product x ln w (token b l) (col g part (lane n e))
  if part.val = 0 then
    rotated (cosAt p b l) (sinAt p b l) (fun e => y e * invNorm y * gq (ix1 e)) ⟨n.val % 128, by omega⟩ * Ideal.ofBits .f32 0x3DB504F3#32
  else if part.val = 1 then rotated (cosAt p b l) (sinAt p b l) (fun e => y e * invNorm y * gk (ix1 e)) ⟨n.val % 128, by omega⟩
  else product x ln w (token b l) (col g part n)

/-- Group `g`'s queries, keys and values side by side, at column `N`. -/
def wide (x : Vec Ideal S32768x1024 .f32) (ln : Vec Ideal S1024 .f32) (w : Vec Ideal S1024x9216 .f32) (p : Vec Ideal S16x2048 .i32)
    (gq gk : Vec Ideal S128 .f32) (g : Fin 3) (b : Fin 16) (l : Fin 2048) (N : Fin 3072) : EReal :=
  value x ln w p gq gk g ⟨N.val / 1024, by omega⟩ b l ⟨N.val % 1024, by omega⟩

variable (x : Vec Ideal S32768x1024 .f32) (ln : Vec Ideal S1024 .f32) (w : Vec Ideal S1024x9216 .f32) (p : Vec Ideal S16x2048 .i32)
  (gq gk : Vec Ideal S128 .f32)

theorem lane_mod (n : Fin 1024) (e : Fin 128) : (⟨(lane n e).val % 128, by omega⟩ : Fin 128) = e :=
  Fin.ext (by show (n.val / 128 * 128 + e.val) % 128 = e.val; omega)

/-- The kernel's queries and keys are the plain ones. -/
theorem pair_value (g part : Fin 3) (j : Fin 2) (hj : j.val = part.val) (b : Fin 16) (l : Fin 2048) (n : Fin 1024) :
    pairVal (fun n => product x ln w (token b l) (col g part n)) (fun n => gains gq gk (ix2 j n)) (csRow (cosAt p b l)) (snRow (sinAt p b l))
        (fun k j => meanMat (ix2 k j)) (fun k j => turnMat (ix2 k j)) n
      = value x ln w p gq gk g part b l n := by
  rw [pairVal_eq _ _ _ _ _ _ mean_apply turn_apply]
  unfold value
  match j, hj with
  | ⟨0, _⟩, hj =>
    have hp : part.val = 0 := hj.symm
    simp only [hp, if_true]
    rw [← rotated_scale]
    refine congrArg (fun f => rotated _ _ f _) (funext fun e => ?_)
    have := gains_q gq gk (lane n e)
    rw [lane_mod] at this
    exact congrArg _ this
  | ⟨1, _⟩, hj =>
    have hp : part.val = 1 := hj.symm
    simp only [hp, one_ne_zero, if_false, if_true]
    refine congrArg (fun f => rotated _ _ f _) (funext fun e => ?_)
    have := gains_k gq gk (lane n e)
    rw [lane_mod] at this
    exact congrArg _ this

theorem value_plain (g part : Fin 3) (hp : part.val = 2) (b : Fin 16) (l : Fin 2048) (n : Fin 1024) :
    value x ln w p gq gk g part b l n = product x ln w (token b l) (col g part n) := by
  unfold value
  simp only [hp]
  rfl

theorem wide_eq (g part : Fin 3) (b : Fin 16) (l : Fin 2048) (n : Fin 1024) (N : Fin 3072) (h : N.val = part.val * 1024 + n.val) :
    wide x ln w p gq gk g b l N = value x ln w p gq gk g part b l n := by
  unfold wide
  rw [show (⟨N.val / 1024, by omega⟩ : Fin 3) = part from Fin.ext (by show N.val / 1024 = part.val; omega),
    show (⟨N.val % 1024, by omega⟩ : Fin 1024) = n from Fin.ext (by show N.val % 1024 = n.val; omega)]

end Cert.ProjValue

end
-- ==== Proof.ProjRows.lean ====
/- A row of a projection's block, from what the blocks it reads hold: the same for every group. -/
module

public import proofs.«01_k».proof.Proof.ProjHead
public import proofs.«01_k».proof.Proof.ProjValue

@[expose] public section

set_option maxRecDepth 16384

noncomputable section

namespace Cert.ProjRows

open Cert.Proj0Ideal Cert.Proj0Ideal.Gen Cert.ProjMath Cert.ProjHead Cert.ProjTables Cert.ProjValue Idealize.ShloMosaic

variable (x : Vec Ideal S32768x1024 .f32) (ln : Vec Ideal S1024 .f32) (w : Vec Ideal S1024x9216 .f32) (p : Vec Ideal S16x2048 .i32)
  (gq gk : Vec Ideal S128 .f32) (g part : Fin 3) (b : Fin 16) (s : Fin 2048) (T : Fin 32768) (hT : T = token b s)
  (z x2 : FVec Ideal S1024x1024 .bf16) (x3 x4 : Vec Ideal S1024x128 .f32) (gr : Vec Ideal S1x1024 .f32) (x6 x7 : FVec Ideal S256x256 .bf16)
  (r : Fin 1024) (hz : ∀ l, z (ix2 r l) = DenseBlock.normed (fun l => x (ix2 T l)) (fun l => ln (ix1 l)) l)
  (h2 : ∀ k n, x2 (ix2 k n) = w (ix2 k (col g part n)))

include hT hz h2

/-- The products, from normalised rows and the group's weights. -/
theorem product_row (n : Fin 1024) : k0_pay2 (F := Ideal) z x2 (ix2 r n) = product x ln w (token b s) (col g part n) := by
  rw [product_apply, ← hT]
  exact Finset.sum_congr rfl fun l _ => by rw [hz, h2]

/-- The heads of the queries and keys, from these products, the rotary tables, the gains and the two helper matrices. -/
theorem heads_row (j : Fin 2) (hj : j.val = part.val) (h3 : ∀ d, x3 (ix2 r d) = csTable p (ix2 T d)) (h4 : ∀ d, x4 (ix2 r d) = snTable p (ix2 T d))
    (h5 : ∀ n, gr (ix2 (0 : Fin 1) n) = gains gq gk (ix2 j n)) (h6 : ∀ k j, x6 (ix2 k j) = meanMat (ix2 k j))
    (h7 : ∀ k j, x7 (ix2 k j) = turnMat (ix2 k j)) (n : Fin 1024) :
    heads (k0_pay2 (F := Ideal) z x2) x3 x4 gr x6 x7 (ix2 r n) = value x ln w p gq gk g part b s n := by
  rw [heads_apply, ← pair_value x ln w p gq gk g part j hj b s n]
  have hv : T.val = b.val * 2048 + s.val := congrArg Fin.val hT
  have hb : (⟨T.val / 2048, by omega⟩ : Fin 16) = b := Fin.ext (by show T.val / 2048 = b.val; omega)
  have hs : (⟨T.val % 2048, by omega⟩ : Fin 2048) = s := Fin.ext (by show T.val % 2048 = s.val; omega)
  have ea := funext fun n => product_row x ln w g part b s T hT z x2 r hz h2 n
  have ec : (fun d => x3 (ix2 r d)) = csRow (cosAt p b s) := funext fun d => by rw [h3, cs_apply, hb, hs]
  have es : (fun d => x4 (ix2 r d)) = snRow (sinAt p b s) := funext fun d => by rw [h4, sn_apply, hb, hs]
  have em : (fun k j => x6 (ix2 k j)) = fun k j => meanMat (ix2 k j) := funext fun k => funext (h6 k)
  have et : (fun k j => x7 (ix2 k j)) = fun k j => turnMat (ix2 k j) := funext fun k => funext (h7 k)
  exact congrFun (congr (congr (congr (congr (congr (congrArg pairVal ea) (funext h5)) ec) es) em) et) n

end Cert.ProjRows

end
-- ==== Proof.Proj0Array.lean ====
/- The first projection's result, all of it, as a function of the arguments. -/
module

public import proofs.«01_k».proof.Proof.Proj0Block
public import proofs.«01_k».proof.Proof.ProjRows
public import Idealize.ShloMosaic.Lib.StableHlo.RunRead

@[expose] public section

set_option maxRecDepth 16384

noncomputable section

namespace Cert.Proj0Array

open Cert.Proj0Ideal Cert.Proj0Ideal.Gen Cert.ProjMath Cert.ProjHead Cert.ProjTables Cert.ProjValue Cert.ProjRows Cert.Proj0Block Idealize.ShloMosaic
open Idealize.ShloMosaic.TcCoe Idealize.SL.Sem

/-- Where the blocks of a point lie. -/
theorem index_rel (t : Fin cfg0.N) :
    (win0_0.index t 0 = t.val / 3 ∧ win0_0.index t 1 = 0) ∧ (win0_1.index t 0 = 0 ∧ win0_1.index t 1 = 0)
    ∧ (win0_2.index t 0 = 0 ∧ win0_2.index t 1 = t.val % 3 * 3) ∧ (win0_3.index t 0 = t.val / 3 ∧ win0_3.index t 1 = 0)
    ∧ (win0_4.index t 0 = t.val / 3 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ win0_8.index t 0 = t.val / 6 ∧ win0_8.index t 1 = 0 ∧ win0_8.index t 2 = t.val / 3 % 2 ∧ win0_8.index t 3 = t.val % 3 :=
  by revert t; decide +kernel

theorem off_rel (t : Fin cfg0.N) : k0_off1 (grid0.coords t) 0 = t.val % 3 := by revert t; decide +kernel

variable (m : (ℓ : Loc nD τ sig) → Buf (Elt Ideal) ℓ)

/-! The host's arrays when the kernel is entered. -/

theorem mean_host (c : Dev nD) : V m c main_v68 = meanMat := by
  show StableHlo.after (List.flatten _) _ (Proc.devRef .tc _) = _
  after_reads_simp
  rfl

theorem turn_host (c : Dev nD) : V m c main_v64 = turnMat := by
  show StableHlo.after (List.flatten _) _ (Proc.devRef .tc _) = _
  after_reads_simp
  rfl

theorem gains_host (c : Dev nD) : V m c main_v36 = gains (m ((c : Thread nD τ).loc main_arg4)) (m ((c : Thread nD τ).loc main_arg5)) := by
  show StableHlo.after (List.flatten _) _ (Proc.devRef .tc _) = _
  after_reads_simp
  rfl

theorem weights_host (c : Dev nD) : V m c main_v25 = m ((c : Thread nD τ).loc main_arg2) := by
  show StableHlo.after (List.flatten _) _ (Proc.devRef .tc _) = _
  after_reads_simp
  rfl

theorem scale_host (c : Dev nD) (l : Fin 1024) : V m c main_v69 (ix2 (0 : Fin 1) l) = m ((c : Thread nD τ).loc main_arg1) (ix1 l) := by
  have e : V m c main_v69 = shapeCast S1x1024 (m ((c : Thread nD τ).loc main_arg1)) shapeCasts_S1024_S1x1024 := by
    show StableHlo.after (List.flatten _) _ (Proc.devRef .tc _) = _
    after_reads_simp
    rfl
  rw [e]
  generalize m ((c : Thread nD τ).loc main_arg1) = z
  pointwise

theorem cs_host (c : Dev nD) : V m c main_v23 = csTable (m ((c : Thread nD τ).loc main_arg3)) := by
  show StableHlo.after (List.flatten _) _ (Proc.devRef .tc _) = _
  after_reads_simp
  generalize hU : StableHlo.upto _ _ _ = U
  have e1 : U (Proc.devRef .tc main_v16) = Host.cos (angles (m ((c : Thread nD τ).loc main_arg3))) := by
    rw [← hU]
    after_reads_simp
    rfl
  have e2 : U (Proc.devRef .tc main_v18) = (broadcastInDim S16x2048x96 ![] bcast_S_S16x2048x96 (constant S_ .f32 0x3F800000#32) : FVec Ideal S16x2048x96 .f32) := by
    rw [← hU]
    after_reads_simp
  show table (U (Proc.devRef .tc main_v16)) (U (Proc.devRef .tc main_v16)) (U (Proc.devRef .tc main_v18)) = _
  rw [e1, e2]
  rfl

theorem sn_host (c : Dev nD) : V m c main_v24 = snTable (m ((c : Thread nD τ).loc main_arg3)) := by
  show StableHlo.after (List.flatten _) _ (Proc.devRef .tc _) = _
  after_reads_simp
  generalize hU : StableHlo.upto _ _ _ = U
  have e0 : U (Proc.devRef .tc main_v20) = Host.negf (Host.sin (angles (m ((c : Thread nD τ).loc main_arg3)))) := by
    rw [← hU]
    after_reads_simp
    rfl
  have e1 : U (Proc.devRef .tc main_v17) = Host.sin (angles (m ((c : Thread nD τ).loc main_arg3))) := by
    rw [← hU]
    after_reads_simp
    rfl
  have e2 : U (Proc.devRef .tc main_v21) = (broadcastInDim S16x2048x96 ![] bcast_S_S16x2048x96 (constant S_ .f32 0x00000000#32) : FVec Ideal S16x2048x96 .f32) := by
    rw [← hU]
    after_reads_simp
  show table (U (Proc.devRef .tc main_v20)) (U (Proc.devRef .tc main_v17)) (U (Proc.devRef .tc main_v21)) = _
  rw [e0, e1, e2]
  rfl

/-! The blocks of a point. -/

/-- A point's row `r`, among all the tokens. -/
def row (t : Fin cfg0.N) (r : Fin 1024) : Fin 32768 := ⟨t.val / 3 * 1024 + r.val, by have := t.isLt; have : cfg0.N = 96 := rfl; omega⟩

theorem rows_block (c : Dev nD) (t : Fin cfg0.N) (r l : Fin 1024) : iblk m c 0 t (ix2 r l) = m ((c : Thread nD τ).loc main_arg0) (ix2 (row t r) l) := by
  obtain ⟨⟨a0, a1⟩, -⟩ := index_rel t
  exact congrArg (m ((c : Thread nD τ).loc main_arg0)) (funext fun a => Fin.ext ((win0_0.rect_emb_val t (ix2 r l) a).trans
    (match a with
      | ⟨0, _⟩ => (by show win0_0.index t 0 * 1024 + r.val = t.val / 3 * 1024 + r.val; rw [a0])
      | ⟨1, _⟩ => (by show win0_0.index t 1 * 1024 + l.val = l.val; omega))))

theorem scale_block (c : Dev nD) (t : Fin cfg0.N) (l : Fin 1024) : iblk m c 1 t (ix2 (0 : Fin 1) l) = m ((c : Thread nD τ).loc main_arg1) (ix1 l) := by
  obtain ⟨-, ⟨a0, a1⟩, -⟩ := index_rel t
  exact (congrArg (V m c main_v69) (funext fun a => Fin.ext ((win0_1.rect_emb_val t (ix2 (0 : Fin 1) l) a).trans
    (match a with
      | ⟨0, _⟩ => (by show win0_1.index t 0 * 1 + 0 = 0; omega)
      | ⟨1, _⟩ => (by show win0_1.index t 1 * 1024 + l.val = l.val; omega)))) :
      V m c main_v69 (((cfg0.win 1).blk t).view.emb (ix2 (0 : Fin 1) l)) = V m c main_v69 (ix2 (0 : Fin 1) l)).trans (scale_host m c l)

theorem weights_block (c : Dev nD) (t : Fin cfg0.N) (part : Fin 3) (hp : part.val = t.val % 3) (k n : Fin 1024) :
    iblk m c 2 t (ix2 k n) = m ((c : Thread nD τ).loc main_arg2) (ix2 k (col 0 part n)) := by
  obtain ⟨-, -, ⟨a0, a1⟩, -⟩ := index_rel t
  rw [← weights_host m c]
  exact congrArg (V m c main_v25) (funext fun a => Fin.ext ((win0_2.rect_emb_val t (ix2 k n) a).trans
    (match a with
      | ⟨0, _⟩ => (by show win0_2.index t 0 * 1024 + k.val = k.val; omega)
      | ⟨1, _⟩ => (by show win0_2.index t 1 * 1024 + n.val = part.val * 3072 + 0 * 1024 + n.val; omega))))

theorem cs_block (c : Dev nD) (t : Fin cfg0.N) (r : Fin 1024) (d : Fin 128) :
    iblk m c 3 t (ix2 r d) = csTable (m ((c : Thread nD τ).loc main_arg3)) (ix2 (row t r) d) := by
  obtain ⟨-, -, -, ⟨a0, a1⟩, -⟩ := index_rel t
  rw [← cs_host m c]
  exact congrArg (V m c main_v23) (funext fun a => Fin.ext ((win0_3.rect_emb_val t (ix2 r d) a).trans
    (match a with
      | ⟨0, _⟩ => (by show win0_3.index t 0 * 1024 + r.val = t.val / 3 * 1024 + r.val; rw [a0])
      | ⟨1, _⟩ => (by show win0_3.index t 1 * 128 + d.val = d.val; omega))))

theorem sn_block (c : Dev nD) (t : Fin cfg0.N) (r : Fin 1024) (d : Fin 128) :
    iblk m c 4 t (ix2 r d) = snTable (m ((c : Thread nD τ).loc main_arg3)) (ix2 (row t r) d) := by
  obtain ⟨-, -, -, -, ⟨a0, a1⟩, -⟩ := index_rel t
  rw [← sn_host m c]
  exact congrArg (V m c main_v24) (funext fun a => Fin.ext ((win0_4.rect_emb_val t (ix2 r d) a).trans
    (match a with
      | ⟨0, _⟩ => (by show win0_4.index t 0 * 1024 + r.val = t.val / 3 * 1024 + r.val; rw [a0])
      | ⟨1, _⟩ => (by show win0_4.index t 1 * 128 + d.val = d.val; omega))))

theorem gains_block (c : Dev nD) (t : Fin cfg0.N) (h : k0_cond2 (grid0.coords t) = 1#1) (j : Fin 2) (hj : j.val = t.val % 3) (n : Fin 1024) :
    gainRow (grid0.coords t) h (iblk m c 5 t) (ix2 (0 : Fin 1) n)
      = gains (m ((c : Thread nD τ).loc main_arg4)) (m ((c : Thread nD τ).loc main_arg5)) (ix2 j n) := by
  obtain ⟨-, -, -, -, -, ⟨a0, a1⟩, -⟩ := index_rel t
  have ho := off_rel t
  rw [← gains_host m c]
  refine congrArg (V m c main_v36) (funext fun a => Fin.ext ((win0_5.rect_emb_val t _ a).trans
    (match a with
      | ⟨0, _⟩ => ?_
      | ⟨1, _⟩ => ?_)))
  · show win0_5.index t 0 * 2 + (k0_off1 (grid0.coords t) 0 + 1 * 0) = j.val
    omega
  · show win0_5.index t 1 * 1024 + (0 + 1 * n.val) = n.val
    omega

theorem mean_block (c : Dev nD) (t : Fin cfg0.N) (k j : Fin 256) : iblk m c 6 t (ix2 k j) = meanMat (ix2 k j) := by
  obtain ⟨-, -, -, -, -, -, ⟨a0, a1⟩, -⟩ := index_rel t
  rw [← mean_host m c]
  exact congrArg (V m c main_v68) (funext fun a => Fin.ext ((win0_6.rect_emb_val t (ix2 k j) a).trans
    (match a with
      | ⟨0, _⟩ => (by show win0_6.index t 0 * 256 + k.val = k.val; omega)
      | ⟨1, _⟩ => (by show win0_6.index t 1 * 256 + j.val = j.val; omega))))

theorem turn_block (c : Dev nD) (t : Fin cfg0.N) (k j : Fin 256) : iblk m c 7 t (ix2 k j) = turnMat (ix2 k j) := by
  obtain ⟨-, -, -, -, -, -, -, ⟨a0, a1⟩, -⟩ := index_rel t
  rw [← turn_host m c]
  exact congrArg (V m c main_v64) (funext fun a => Fin.ext ((win0_7.rect_emb_val t (ix2 k j) a).trans
    (match a with
      | ⟨0, _⟩ => (by show win0_7.index t 0 * 256 + k.val = k.val; omega)
      | ⟨1, _⟩ => (by show win0_7.index t 1 * 256 + j.val = j.val; omega))))

/-- The normalised rows a point finds, or leaves for the next. -/
theorem carried_apply (c : Dev nD) (t : Fin cfg0.N) (h : t.val % 3 ≤ 1) (r l : Fin 1024) :
    (outsAt0 m c t.val t.isLt).2 (ix2 r l) = DenseBlock.normed (fun l => m ((c : Thread nD τ).loc main_arg0) (ix2 (row t r) l))
      (fun l => m ((c : Thread nD τ).loc main_arg1) (ix1 l)) l := by
  have first : ∀ s : Fin cfg0.N, s.val % 3 = 0 → (outsAt0 m c s.val s.isLt).2 (ix2 r l)
      = DenseBlock.normed (fun l => m ((c : Thread nD τ).loc main_arg0) (ix2 (row s r) l)) (fun l => m ((c : Thread nD τ).loc main_arg1) (ix1 l)) l :=
    fun s hs => by
      rw [carried_A m c s hs (by omega) (by omega), normed_apply]
      exact congrArg₂ (fun u v => DenseBlock.normed u v l) (funext fun l => rows_block m c s r l) (funext fun l => scale_block m c s l)
  by_cases h0 : t.val % 3 = 0
  · exact first t h0
  · rw [carried_B m c t h0 h (by omega)]
    have := first ⟨t.val - 1, by have := t.isLt; omega⟩ (by show (t.val - 1) % 3 = 0; omega)
    rw [show row ⟨t.val - 1, by have := t.isLt; omega⟩ r = row t r from
      Fin.ext (by show (t.val - 1) / 3 * 1024 + r.val = t.val / 3 * 1024 + r.val; omega)] at this
    exact this

/-- What a point leaves at a place of its block. -/
theorem out_apply (c : Dev nD) (t : Fin cfg0.N) (part : Fin 3) (hp : part.val = t.val % 3) (b : Fin 16) (s : Fin 2048) (r : Fin 1024)
    (hr : row t r = token b s) (n : Fin 1024) :
    (outsAt0 m c t.val t.isLt).1 (ix4 (0 : Fin 1) (0 : Fin 1) r n)
      = value (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) 0 part b s n := by
  by_cases h2 : t.val % 3 = 2
  · rw [out_C m c t (by omega) (by omega) h2, stored_apply, value_plain _ _ _ _ _ _ _ _ (hp.trans h2)]
    refine product_row _ _ _ 0 part b s _ hr _ (iblk m c 2 t) r (fun l => ?_) (weights_block m c t part hp) n
    have := carried_apply m c ⟨t.val - 1, by have := t.isLt; omega⟩ (by show (t.val - 1) % 3 ≤ 1; omega) r l
    rw [show row ⟨t.val - 1, by have := t.isLt; omega⟩ r = row t r from
      Fin.ext (by show (t.val - 1) / 3 * 1024 + r.val = t.val / 3 * 1024 + r.val; omega)] at this
    exact this
  · have h1 : t.val % 3 ≤ 1 := by omega
    have e : (outsAt0 m c t.val t.isLt).1 = stored (heads (k0_pay2 (outsAt0 m c t.val t.isLt).2 (iblk m c 2 t)) (iblk m c 3 t) (iblk m c 4 t)
        (gainRow (grid0.coords t) ((hcond0_1 t).mpr h1) (iblk m c 5 t)) (iblk m c 6 t) (iblk m c 7 t)) := by
      by_cases h0 : t.val % 3 = 0
      · rw [out_A m c t h0 h1 h2, carried_A m c t h0 h1 h2]
      · rw [out_B m c t h0 h1 h2, carried_B m c t h0 h1 h2]
    rw [e, stored_apply]
    exact heads_row _ _ _ _ _ _ 0 part b s (row t r) hr _ (iblk m c 2 t) (iblk m c 3 t) (iblk m c 4 t) _ (iblk m c 6 t) (iblk m c 7 t) r
      (carried_apply m c t h1 r) (weights_block m c t part hp) ⟨t.val % 3, by omega⟩ hp.symm (cs_block m c t r) (sn_block m c t r) (gains_block m c t _ _ rfl)
      (mean_block m c t) (turn_block m c t) n

theorem final (c : Dev nD) : (dats m 0 c).arrAt 8 cfg0.N
    = fun i => wide (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) 0 (i 0) (i 2) (i 3) := by
  refine (dats m 0 c).arrAt_eq_of_covers 8 _ (by decide +kernel) fun t hf y => ?_
  blk_simp
  rw [after0_8]
  obtain ⟨-, -, -, -, -, -, -, -, g0, g1, g2, g3⟩ := index_rel t
  have e0 : ((win0_8.blk t).view.emb y 0).val = win0_8.index t 0 * 1 + (y 0).val := win0_8.rect_emb_val t y 0
  have e2 : ((win0_8.blk t).view.emb y 2).val = win0_8.index t 2 * 1024 + (y 2).val := win0_8.rect_emb_val t y 2
  have e3 : ((win0_8.blk t).view.emb y 3).val = win0_8.index t 3 * 1024 + (y 3).val := win0_8.rect_emb_val t y 3
  generalize (win0_8.blk t).view.emb y = E at e0 e2 e3 ⊢
  obtain ⟨r, hr⟩ : ∃ r : Fin 1024, r = y 2 := ⟨_, rfl⟩
  obtain ⟨n, hn⟩ : ∃ n : Fin 1024, n = y 3 := ⟨_, rfl⟩
  obtain ⟨b, hb⟩ : ∃ b : Fin 16, b = E 0 := ⟨_, rfl⟩
  obtain ⟨s, hs⟩ : ∃ s : Fin 2048, s = E 2 := ⟨_, rfl⟩
  obtain ⟨N, hN⟩ : ∃ N : Fin 3072, N = E 3 := ⟨_, rfl⟩
  have z0 : (y 0).val = 0 := by have : (y 0).val < 1 := (y 0).isLt; omega
  rw [show y = ix4 (0 : Fin 1) (0 : Fin 1) r n from by
    rw [hr, hn]
    refine (eq_ix4 y).trans ?_
    exact congrArg₂ (fun u v => ix4 u v (y 2) (y 3)) (Subsingleton.elim (α := Fin 1) _ _) (Subsingleton.elim (α := Fin 1) _ _)]
  rw [← hb, ← hs, ← hN]
  rw [← hb] at e0
  rw [← hr, ← hs] at e2
  rw [← hn, ← hN] at e3
  have hrow : row t r = token b s := Fin.ext (by show t.val / 3 * 1024 + r.val = b.val * 2048 + s.val; omega)
  rw [out_apply m c t ⟨t.val % 3, by omega⟩ rfl b s r hrow n]
  exact (wide_eq _ _ _ _ _ _ 0 _ b s n N (by show N.val = t.val % 3 * 1024 + n.val; omega)).symm

end Cert.Proj0Array

end
-- ==== Proof.ProjReference.lean ====
/- The plain projections' common part: a token's products, and a head's queries or keys. -/
module

public import proofs.«01_k».proof.Proof.ProjValue
public import proofs.«01_k».proof.Proof.Gen.Proj0RefIdeal.Read

@[expose] public section

set_option maxRecDepth 16384

noncomputable section

namespace Cert.ProjReference

open Idealize.ShloMosaic Cert.Proj0RefIdeal Cert.Proj0RefIdeal.Gen Cert.Proj0RefIdeal.Read Cert.ProjMath Cert.ProjValue

variable (x : (⟨S32768x1024, .f32⟩ : BufTy).Contents (Elt Ideal)) (ln : (⟨S1024, .f32⟩ : BufTy).Contents (Elt Ideal))
  (w : (⟨S1024x9216, .f32⟩ : BufTy).Contents (Elt Ideal)) (p : (⟨S16x2048, .i32⟩ : BufTy).Contents (Elt Ideal))

/-- The sum of a row's squares. -/
theorem sumsq_apply (r : Fin 32768) : val_main_v20 (F := Ideal) x (ix1 r) = ∑ l : Fin 1024, (x (ix2 r l) : EReal) * x (ix2 r l) := by
  rw [val_main_v20_apply, val_main_cst_3_apply, Ideal.ofBits_def, Ideal.ofBits_zero_f32]
  refine (zero_add _).trans (Finset.sum_congr rfl fun l _ => ?_)
  rw [show idx_main_v20 (ix1 r) l = ix2 r l from by
      refine funext fun a => ?_
      match a with
      | ⟨0, _⟩ => rfl
      | ⟨1, _⟩ => rfl, val_main_v19_apply]
  rfl

/-- A normalised row. -/
theorem row_apply (r : Fin 32768) (l : Fin 1024) : val_main_v31 (F := Ideal) x ln (ix2 r l)
    = DenseBlock.normed (fun l => x (ix2 r l)) (fun l => ln (ix1 l)) l := by
  simp only [val_main_v31_apply, val_main_v30_apply, val_main_v29_apply, val_main_v28_apply, val_main_v27_apply, val_main_v26_apply,
    val_main_v25_apply, val_main_v24_apply, val_main_cst_5_apply, val_main_v23_apply, val_main_v22_apply, val_main_cst_4_apply, val_main_v21_apply]
  rw [show idx_main_v21 (idx_main_v27 (ix2 r l)) = ix1 r from by
      refine funext fun a => ?_
      match a with
      | ⟨0, _⟩ => rfl,
    show idx_main_v29 (idx_main_v30 (ix2 r l)) = ix1 l from by
      refine funext fun a => ?_
      match a with
      | ⟨0, _⟩ => rfl, sumsq_apply]
  rfl

/-- A column of a token's product. -/
theorem product_apply (r : Fin 32768) (n : Fin 9216) : val_main_v32 (F := Ideal) x ln w (ix2 r n) = product x ln w r n := by
  rw [val_main_v32_apply]
  unfold product
  refine Finset.sum_congr rfl fun l _ => ?_
  rw [show lidx_main_v32 (ix2 r n) l = ix2 r l from by
      refine funext fun a => ?_
      match a with
      | ⟨0, _⟩ => rfl
      | ⟨1, _⟩ => rfl,
    show ridx_main_v32 (ix2 r n) l = ix2 l n from by
      refine funext fun a => ?_
      match a with
      | ⟨0, _⟩ => rfl
      | ⟨1, _⟩ => rfl, row_apply]

/-- The angle of a token. -/
theorem angle_apply (b : Fin 16) (l : Fin 2048) (i : Fin 16) : val_main_v16 (F := Ideal) p (ix2 (token b l) i) = ProjTables.angle p b l i := by
  rw [val_main_v16_apply, val_main_v15_apply, val_main_v14_apply, val_main_v13_apply, val_main_v12_apply, val_main_v11_apply, val_main_v0_apply]
  have e1 : idx_main_v0 (idx_main_v12 (idx_main_v14 (ix2 (token b l) i))) = ix2 b l := by
    refine funext fun a => ?_
    match a with
    | ⟨0, _⟩ => exact Fin.ext (by show (b.val * 2048 + l.val) / 2048 = b.val; omega)
    | ⟨1, _⟩ => exact Fin.ext (by show (b.val * 2048 + l.val) % 2048 = l.val; omega)
  have e2 : idx_main_v13 (idx_main_v15 (ix2 (token b l) i)) = ix1 i := by
    refine funext fun a => ?_
    match a with
    | ⟨0, _⟩ => rfl
  rw [e1, e2]
  rfl

theorem cos_apply (b : Fin 16) (l : Fin 2048) (i : Fin 16) : val_main_v17 (F := Ideal) p (ix2 (token b l) i) = ProjTables.cosAt p b l i := by
  rw [val_main_v17_apply, angle_apply]
  rfl

theorem sin_apply (b : Fin 16) (l : Fin 2048) (i : Fin 16) : val_main_v18 (F := Ideal) p (ix2 (token b l) i) = ProjTables.sinAt p b l i := by
  rw [val_main_v18_apply, angle_apply]
  rfl

/-- One group's queries, keys or values out of all the columns. -/
def picked (o : Fin 5 → ℕ) (h : S32768x3x3x8x128.Slices o S32768x1x1x8x128) (z : FVec Ideal S32768x9216 .f32) : FVec Ideal S32768x8x128 .f32 :=
  shapeCast S32768x8x128 (extractStridedSlice S32768x1x1x8x128 o (shapeCast S32768x3x3x8x128 z shapeCasts_S32768x9216_S32768x3x3x8x128) h)
    shapeCasts_S32768x1x1x8x128_S32768x8x128

/-- Column `d` of head `h` among a group's columns. -/
def headCol (h : Fin 8) (d : Fin 128) : Fin 1024 := ⟨h.val * 128 + d.val, by omega⟩

theorem picked_apply (g part : Fin 3) (hs : S32768x3x3x8x128.Slices ![0, part.val, g.val, 0, 0] S32768x1x1x8x128) (z : FVec Ideal S32768x9216 .f32)
    (r : Fin 32768) (h : Fin 8) (d : Fin 128) : picked ![0, part.val, g.val, 0, 0] hs z (ix3 r h d) = z (ix2 r (col g part (headCol h d))) := by
  pointwise [picked]
  refine congrArg z (congrArg (ix2 r) (Fin.ext ?_))
  show part.val * 3072 + g.val * 1024 + h.val * 128 + d.val = part.val * 3072 + g.val * 1024 + (h.val * 128 + d.val)
  omega

/-- A head's normalised rows, before the turn. -/
def scaled (b : FVec Ideal S32768x8x128 .f32) (g : FVec Ideal S128 .f32) : FVec Ideal S32768x8x128 .f32 :=
  mulf (mulf b (broadcastInDim S32768x8x128 ![0, 1, 2] bcast_S32768x8x1_S32768x8x128_0_1_2 (Host.rsqrt (addf (Host.divf
      (broadcastInDim S32768x8x1 ![0, 1] bcast_S32768x8_S32768x8x1_0_1
        (Host.reduceAdd (mulf b b) (constant S_ .f32 0x00000000#32) reducesTo_S32768x8x128_S32768x8_d2 h_S_))
      (broadcastInDim S32768x8x1 ![] bcast_S_S32768x8x1 (constant S_ .f32 0x43000000#32)))
      (broadcastInDim S32768x8x1 ![] bcast_S_S32768x8x1 (constant S_ .f32 0x358637BD#32))))))
    (broadcastInDim S32768x8x128 ![0, 1, 2] bcast_S1x1x128_S32768x8x128_0_1_2 (broadcastInDim S1x1x128 ![2] bcast_S128_S1x1x128_2 g))

/-- A table's row for every head. -/
def perHead (c : FVec Ideal S32768x16 .f32) : FVec Ideal S32768x8x16 .f32 :=
  broadcastInDim S32768x8x16 ![0, 1, 2] bcast_S32768x1x16_S32768x8x16_0_1_2 (broadcastInDim S32768x1x16 ![0, 2] bcast_S32768x16_S32768x1x16_0_2 c)

/-- The heads turned. -/
def turned (y : FVec Ideal S32768x8x128 .f32) (c s : FVec Ideal S32768x16 .f32) : FVec Ideal S32768x8x128 .f32 :=
  let y0 := extractStridedSlice S32768x8x16 ![0, 0, 0] y slices_S32768x8x128_S32768x8x16_0_0_0
  let y1 := extractStridedSlice S32768x8x16 ![0, 0, 16] y slices_S32768x8x128_S32768x8x16_0_0_16
  concatenate S32768x8x128 2 [⟨S32768x8x16, subf (mulf y0 (perHead c)) (mulf y1 (perHead s))⟩,
    ⟨S32768x8x16, addf (mulf y1 (perHead c)) (mulf y0 (perHead s))⟩,
    ⟨S32768x8x96, extractStridedSlice S32768x8x96 ![0, 0, 32] y slices_S32768x8x128_S32768x8x96_0_0_32⟩]
    concatenates_S32768x8x16_S32768x8x16_S32768x8x96_S32768x8x128_d2

theorem scaled_apply (b : FVec Ideal S32768x8x128 .f32) (g : FVec Ideal S128 .f32) (r : Fin 32768) (h : Fin 8) (d : Fin 128) :
    scaled b g (ix3 r h d) = b (ix3 r h d) * invNorm (fun e => b (ix3 r h e)) * g (ix1 d) := by
  have e : Host.reduceAdd (F := Ideal) (mulf b b) (constant S_ .f32 0x00000000#32) reducesTo_S32768x8x128_S32768x8_d2 h_S_ (ix2 r h)
      = ∑ e : Fin 128, (b (ix3 r h e) * b (ix3 r h e) : EReal) := by
    simp only [Host.reduceAdd, Ideal.hostReduceAdd_def]
    rw [Ideal.hostReduceAdd_single reducesTo_S32768x8x128_S32768x8_d2 (by decide)]
    refine (congrArg₂ (· + ·) Ideal.ofBits_zero_f32 rfl).trans ((zero_add _).trans (Finset.sum_congr rfl fun k _ => ?_))
    exact congrArg (mulf b b) (funext fun a => Fin.ext (by match a with | ⟨0, _⟩ => rfl | ⟨1, _⟩ => rfl | ⟨2, _⟩ => rfl))
  unfold scaled invNorm
  rw [← e]
  generalize Host.reduceAdd (F := Ideal) (mulf b b) (constant S_ .f32 0x00000000#32) reducesTo_S32768x8x128_S32768x8_d2 h_S_ = q
  pointwise

theorem turned_apply (y : FVec Ideal S32768x8x128 .f32) (c s : FVec Ideal S32768x16 .f32) (r : Fin 32768) (h : Fin 8) (d : Fin 128) :
    turned y c s (ix3 r h d) = rotated (fun i => c (ix2 r i)) (fun i => s (ix2 r i)) (fun e => y (ix3 r h e)) d := by
  unfold rotated
  pointwise [turned, perHead]
  have h1 : d.val - 16 < 16 ↔ d.val < 32 := by omega
  simp only [h1, Nat.sub_sub]
  by_cases a : d.val < 16
  · simp only [a, ↓reduceDIte]
    rw [show (⟨16 + d.val, by omega⟩ : Fin 128) = ⟨d.val + 16, by omega⟩ from Fin.ext (Nat.add_comm ..)]
  · by_cases e : d.val < 32
    · simp only [a, e, ↓reduceDIte]
      rw [show (⟨16 + (d.val - 16), by omega⟩ : Fin 128) = d from Fin.ext (by show 16 + (d.val - 16) = d.val; omega)]
    · simp only [a, e, ↓reduceDIte]
      rw [show (⟨32 + (d.val - (16 + 16)), by omega⟩ : Fin 128) = d from Fin.ext (by show 32 + (d.val - (16 + 16)) = d.val; omega)]

/-- A token's queries, as plainly computed, are the value's. -/
theorem query_value (gq gk : FVec Ideal S128 .f32) (g : Fin 3) (z : FVec Ideal S32768x8x128 .f32) (b : Fin 16) (l : Fin 2048)
    (hz : ∀ h d, z (ix3 (token b l) h d) = product x ln w (token b l) (col g 0 (headCol h d))) (n : Fin 1024) :
    mulf (turned (scaled z gq) (val_main_v17 (F := Ideal) p) (val_main_v18 (F := Ideal) p))
        (broadcastInDim S32768x8x128 ![] bcast_S_S32768x8x128 (constant S_ .f32 0x3DB504F3#32))
        (ix3 (token b l) ⟨n.val / 128, by omega⟩ ⟨n.val % 128, by omega⟩)
      = value x ln w p gq gk g 0 b l n := by
  have e : turned (scaled z gq) (val_main_v17 (F := Ideal) p) (val_main_v18 (F := Ideal) p)
      (ix3 (token b l) ⟨n.val / 128, by omega⟩ ⟨n.val % 128, by omega⟩) * Ideal.ofBits .f32 0x3DB504F3#32 = value x ln w p gq gk g 0 b l n := by
    rw [turned_apply]
    simp only [scaled_apply, hz, cos_apply, sin_apply]
    rfl
  rw [← e]
  generalize turned (scaled z gq) (val_main_v17 (F := Ideal) p) (val_main_v18 (F := Ideal) p) = q
  pointwise

/-- A token's keys, as plainly computed, are the value's. -/
theorem key_value (gq gk : FVec Ideal S128 .f32) (g : Fin 3) (z : FVec Ideal S32768x8x128 .f32) (b : Fin 16) (l : Fin 2048)
    (hz : ∀ h d, z (ix3 (token b l) h d) = product x ln w (token b l) (col g 1 (headCol h d))) (n : Fin 1024) :
    turned (scaled z gk) (val_main_v17 (F := Ideal) p) (val_main_v18 (F := Ideal) p) (ix3 (token b l) ⟨n.val / 128, by omega⟩ ⟨n.val % 128, by omega⟩)
      = value x ln w p gq gk g 1 b l n := by
  rw [turned_apply]
  simp only [scaled_apply, hz, cos_apply, sin_apply]
  rfl

/-- A token's values. -/
theorem plain_value (gq gk : FVec Ideal S128 .f32) (g : Fin 3) (z : FVec Ideal S32768x8x128 .f32) (b : Fin 16) (l : Fin 2048)
    (hz : ∀ h d, z (ix3 (token b l) h d) = product x ln w (token b l) (col g 2 (headCol h d))) (n : Fin 1024) :
    z (ix3 (token b l) ⟨n.val / 128, by omega⟩ ⟨n.val % 128, by omega⟩) = value x ln w p gq gk g 2 b l n := by
  rw [hz, value_plain _ _ _ _ _ _ _ _ rfl]
  refine congrArg (fun k => product x ln w (token b l) (col g 2 k)) (Fin.ext ?_)
  show n.val / 128 * 128 + n.val % 128 = n.val
  omega

/-- A token's queries, as a whole array. -/
def queries (z : FVec Ideal S32768x8x128 .f32) (gq : FVec Ideal S128 .f32) : FVec Ideal S32768x8x128 .f32 :=
  mulf (turned (scaled z gq) (val_main_v17 (F := Ideal) p) (val_main_v18 (F := Ideal) p))
    (broadcastInDim S32768x8x128 ![] bcast_S_S32768x8x128 (constant S_ .f32 0x3DB504F3#32))

/-- A token's keys, as a whole array. -/
def keys (z : FVec Ideal S32768x8x128 .f32) (gk : FVec Ideal S128 .f32) : FVec Ideal S32768x8x128 .f32 :=
  turned (scaled z gk) (val_main_v17 (F := Ideal) p) (val_main_v18 (F := Ideal) p)

/-- The three parts of a group together. -/
theorem part_value (gq gk : FVec Ideal S128 .f32) (g part : Fin 3) (zq zk zv : FVec Ideal S32768x8x128 .f32) (b : Fin 16) (l : Fin 2048)
    (hq : ∀ h d, zq (ix3 (token b l) h d) = product x ln w (token b l) (col g 0 (headCol h d)))
    (hk : ∀ h d, zk (ix3 (token b l) h d) = product x ln w (token b l) (col g 1 (headCol h d)))
    (hv : ∀ h d, zv (ix3 (token b l) h d) = product x ln w (token b l) (col g 2 (headCol h d))) (n : Fin 1024) :
    (if part.val = 0 then queries p zq gq else if part.val = 1 then keys p zk gk else zv)
        (ix3 (token b l) ⟨n.val / 128, by omega⟩ ⟨n.val % 128, by omega⟩)
      = value x ln w p gq gk g part b l n := by
  by_cases h0 : part.val = 0
  · rw [if_pos h0, show part = 0 from Fin.ext h0]
    exact query_value x ln w p gq gk g zq b l hq n
  · by_cases h1 : part.val = 1
    · rw [if_neg h0, if_pos h1, show part = 1 from Fin.ext h1]
      exact key_value x ln w p gq gk g zk b l hk n
    · rw [if_neg h0, if_neg h1, show part = 2 from Fin.ext (by show part.val = 2; omega)]
      exact plain_value x ln w p gq gk g zv b l hv n

end Cert.ProjReference

end
-- ==== Proof.Proj0Reference.lean ====
/- The first plain projection's result read at one of its places. -/
module

public import proofs.«01_k».proof.Proof.ProjReference

@[expose] public section

set_option maxRecDepth 16384

noncomputable section

namespace Cert.Proj0Reference

open Idealize.ShloMosaic Cert.Proj0RefIdeal Cert.Proj0RefIdeal.Gen Cert.Proj0RefIdeal.Read Cert.ProjMath Cert.ProjValue Cert.ProjReference

variable (x : (⟨S32768x1024, .f32⟩ : BufTy).Contents (Elt Ideal)) (ln : (⟨S1024, .f32⟩ : BufTy).Contents (Elt Ideal))
  (w : (⟨S1024x9216, .f32⟩ : BufTy).Contents (Elt Ideal)) (p : (⟨S16x2048, .i32⟩ : BufTy).Contents (Elt Ideal))
  (gq gk : (⟨S128, .f32⟩ : BufTy).Contents (Elt Ideal))

/-- Queries, keys and values laid side by side. -/
def laid (a b v : FVec Ideal S32768x8x128 .f32) : FVec Ideal S16x1x2048x3072 .bf16 :=
  truncf .bf16 (concatenate S16x1x2048x3072 3
    [⟨S16x1x2048x1024, transpose S16x1x2048x1024 [0, 2, 1, 3] (shapeCast S16x2048x1x1024 a shapeCasts_S32768x8x128_S16x2048x1x1024)
        transposes_S16x2048x1x1024_S16x1x2048x1024_0_2_1_3⟩,
      ⟨S16x1x2048x1024, transpose S16x1x2048x1024 [0, 2, 1, 3] (shapeCast S16x2048x1x1024 b shapeCasts_S32768x8x128_S16x2048x1x1024)
        transposes_S16x2048x1x1024_S16x1x2048x1024_0_2_1_3⟩,
      ⟨S16x1x2048x1024, transpose S16x1x2048x1024 [0, 2, 1, 3] (shapeCast S16x2048x1x1024 v shapeCasts_S32768x8x128_S16x2048x1x1024)
        transposes_S16x2048x1x1024_S16x1x2048x1024_0_2_1_3⟩]
    concatenates_S16x1x2048x1024_S16x1x2048x1024_S16x1x2048x1024_S16x1x2048x3072_d3) bitsLt_bf16_f32

theorem laid_apply (a b v : FVec Ideal S32768x8x128 .f32) (s : Fin 16) (q : Fin 1) (l : Fin 2048) (part : Fin 3) (n : Fin 1024) :
    laid a b v (ix4 s q l (⟨part.val * 1024 + n.val, by omega⟩ : Fin 3072))
      = (if part.val = 0 then a else if part.val = 1 then b else v) (ix3 (token s l) ⟨n.val / 128, by omega⟩ ⟨n.val % 128, by omega⟩) := by
  pointwise [laid]
  match part with
  | ⟨0, _⟩ =>
    rw [dif_pos (show 0 * 1024 + n.val < 1024 by omega)]
    exact congrArg₂ (fun u v => a (ix3 (token s l) u v)) (Fin.ext (by show (0 * 1024 + n.val) / 128 = n.val / 128; omega))
      (Fin.ext (by show (0 * 1024 + n.val) % 128 = n.val % 128; omega))
  | ⟨1, _⟩ =>
    rw [dif_neg (show ¬1 * 1024 + n.val < 1024 by omega), dif_pos (show 1 * 1024 + n.val - 1024 < 1024 by omega)]
    exact congrArg₂ (fun u v => b (ix3 (token s l) u v)) (Fin.ext (by show (1 * 1024 + n.val - 1024) / 128 = n.val / 128; omega))
      (Fin.ext (by show (1 * 1024 + n.val - 1024) % 128 = n.val % 128; omega))
  | ⟨2, _⟩ =>
    rw [dif_neg (show ¬2 * 1024 + n.val < 1024 by omega), dif_neg (show ¬2 * 1024 + n.val - 1024 < 1024 by omega)]
    exact congrArg₂ (fun u w => v (ix3 (token s l) u w)) (Fin.ext (by show (2 * 1024 + n.val - 1024 - 1024) / 128 = n.val / 128; omega))
      (Fin.ext (by show (2 * 1024 + n.val - 1024 - 1024) % 128 = n.val % 128; omega))

theorem value_apply (s : Fin 16) (q : Fin 1) (l : Fin 2048) (N : Fin 3072) :
    val_main_v107 (F := Ideal) x ln w p gq gk (ix4 s q l N) = wide x ln w p gq gk 0 s l N := by
  obtain ⟨part, n, h⟩ : ∃ (part : Fin 3) (n : Fin 1024), N.val = part.val * 1024 + n.val :=
    ⟨⟨N.val / 1024, by omega⟩, ⟨N.val % 1024, by omega⟩, by show N.val = N.val / 1024 * 1024 + N.val % 1024; omega⟩
  rw [wide_eq x ln w p gq gk 0 part s l n N h, show N = ⟨part.val * 1024 + n.val, by omega⟩ from Fin.ext h]
  have hq : ∀ T h d, val_main_v35 (F := Ideal) x ln w (ix3 T h d) = product x ln w T (col 0 0 (headCol h d)) := fun T h d =>
    (picked_apply 0 0 slices_S32768x3x3x8x128_S32768x1x1x8x128_0_0_0_0_0 (val_main_v32 (F := Ideal) x ln w) T h d).trans (product_apply x ln w T _)
  have hk : ∀ T h d, val_main_v68 (F := Ideal) x ln w (ix3 T h d) = product x ln w T (col 0 1 (headCol h d)) := fun T h d =>
    (picked_apply 0 1 slices_S32768x3x3x8x128_S32768x1x1x8x128_0_1_0_0_0 (val_main_v32 (F := Ideal) x ln w) T h d).trans (product_apply x ln w T _)
  have hv : ∀ T h d, val_main_v99 (F := Ideal) x ln w (ix3 T h d) = product x ln w T (col 0 2 (headCol h d)) := fun T h d =>
    (picked_apply 0 2 slices_S32768x3x3x8x128_S32768x1x1x8x128_0_2_0_0_0 (val_main_v32 (F := Ideal) x ln w) T h d).trans (product_apply x ln w T _)
  have e : val_main_v107 (F := Ideal) x ln w p gq gk = laid (queries p (val_main_v35 (F := Ideal) x ln w) gq)
      (keys p (val_main_v68 (F := Ideal) x ln w) gk) (val_main_v99 (F := Ideal) x ln w) := rfl
  rw [e, laid_apply]
  exact part_value x ln w p gq gk 0 part _ _ _ s l (hq _) (hk _) (hv _) n

end Cert.Proj0Reference

end
-- ==== Proof.Proj0Claims.lean ====
/- The claims about the projection to the first group's queries, keys and values: the two results agree. -/
module

public import proofs.«01_k».proof.Defs
public import proofs.«01_k».proof.Proof.Proj0Array
public import proofs.«01_k».proof.Proof.Proj0Reference
public import proofs.«01_k».proof.Proof.Gen.Proj0.Frame
public import proofs.«01_k».proof.Proof.Gen.Proj0RefIdeal.Run

@[expose] public section

set_option maxRecDepth 16384

noncomputable section

namespace Cert.Proj0Claims

open Idealize.ShloMosaic Idealize.SL.Sem

theorem frame : Cert.quiescent_Proj0 := fun m ρ _ => Cert.Proj0.Gen.frame m ρ

theorem frame_ideal : Cert.quiescent_Proj0Ideal := fun m ρ _ => Cert.Proj0Ideal.Gen.frame m ρ

theorem frame_ref : Cert.quiescent_Proj0RefIdeal := fun m ρ _ =>
  (θ_run Cert.Proj0RefIdeal.defs _ _).mono (fun r h => ⟨fun c => (h c).2, sem_eq_zero_of_no_sems (by decide) r.2⟩)
    (Cert.Proj0RefIdeal.Value.run (F := Ideal) m ρ)

theorem preserves : Cert.preserves_Proj0_Proj0Ideal := trivial

/-- The kernel's entries are the reference's. -/
theorem wide_eq (x : (⟨Cert.Proj0RefIdeal.S32768x1024, .f32⟩ : BufTy).Contents (Elt Ideal))
    (ln : (⟨Cert.Proj0RefIdeal.S1024, .f32⟩ : BufTy).Contents (Elt Ideal))
    (w : (⟨Cert.Proj0RefIdeal.S1024x9216, .f32⟩ : BufTy).Contents (Elt Ideal))
    (p : (⟨Cert.Proj0RefIdeal.S16x2048, .i32⟩ : BufTy).Contents (Elt Ideal))
    (gq gk : (⟨Cert.Proj0RefIdeal.S128, .f32⟩ : BufTy).Contents (Elt Ideal)) :
    (fun i => ProjValue.wide x ln w p gq gk 0 (i 0) (i 2) (i 3)) = Cert.Proj0RefIdeal.Read.val_main_v107 (F := Ideal) x ln w p gq gk := by
  funext i
  refine Eq.trans ?_ (congrArg (Cert.Proj0RefIdeal.Read.val_main_v107 (F := Ideal) x ln w p gq gk) (eq_ix4 i)).symm
  exact (Proj0Reference.value_apply x ln w p gq gk (i 0) (i 1) (i 2) (i 3)).symm

theorem algebraic : Cert.algebraic_Proj0Ideal_Proj0RefIdeal := by
  intro m ρ m' ρ' _ hagree
  refine ⟨fun c => (Cert.Proj0Ideal.Gen.dats m 0 c).arrAt 8 Cert.Proj0Ideal.cfg0.N, Cert.Proj0Ideal.Value.run_blocks m ρ, ?_⟩
  have e : ∀ c : Dev Cert.Proj0Ideal.nD, Cert.Proj0RefIdeal.Read.val_main_v107 (F := Ideal)
      (m' ((c.tc : Thread Cert.Proj0RefIdeal.nD Cert.Proj0RefIdeal.τ).loc Cert.Proj0RefIdeal.main_arg0))
      (m' ((c.tc : Thread Cert.Proj0RefIdeal.nD Cert.Proj0RefIdeal.τ).loc Cert.Proj0RefIdeal.main_arg1))
      (m' ((c.tc : Thread Cert.Proj0RefIdeal.nD Cert.Proj0RefIdeal.τ).loc Cert.Proj0RefIdeal.main_arg2))
      (m' ((c.tc : Thread Cert.Proj0RefIdeal.nD Cert.Proj0RefIdeal.τ).loc Cert.Proj0RefIdeal.main_arg3))
      (m' ((c.tc : Thread Cert.Proj0RefIdeal.nD Cert.Proj0RefIdeal.τ).loc Cert.Proj0RefIdeal.main_arg4))
      (m' ((c.tc : Thread Cert.Proj0RefIdeal.nD Cert.Proj0RefIdeal.τ).loc Cert.Proj0RefIdeal.main_arg5))
      = (Cert.Proj0Ideal.Gen.dats m 0 c).arrAt 8 Cert.Proj0Ideal.cfg0.N := fun c => by
    rw [(hagree c).1, (hagree c).2.1, (hagree c).2.2.1, (hagree c).2.2.2.1, (hagree c).2.2.2.2.1, (hagree c).2.2.2.2.2]
    exact ((Proj0Array.final m c).trans (wide_eq _ _ _ _ _ _)).symm
  exact (θ_run Cert.Proj0RefIdeal.defs _ _).mono
    (fun _ h c => ⟨(h c).1.trans ((Cert.Proj0RefIdeal.Read.val_main_v107_eq _ _).trans (e c)), (h c).2⟩)
    (Cert.Proj0RefIdeal.Value.run (F := Ideal) m' ρ')

end Cert.Proj0Claims

end
-- ==== Proof.ProjScratch.lean ====
/- The columns of a block kept in chunks of 128, and the rows read back from them at a stride. -/
module

public import proofs.«01_k».proof.Proof.ProjHead
public import Idealize.ShloMosaic.Lib.Pipeline.ReadBack
public import proofs.«01_k».proof.Proof.Gen.Proj1Ideal.Skeleton

@[expose] public section

set_option maxRecDepth 16384

noncomputable section

namespace Cert.ProjScratch

open Cert.Proj1Ideal Cert.Proj1Ideal.Gen Idealize.ShloMosaic Idealize.ShloMosaic.TcCoe Idealize.ShloMosaic.Tactic Idealize.SL.Sem

/-- The 128 columns from `o` on. -/
def chunk (o : ℕ) (hs : S1024x1024.Slices ![0, o] S1024x128) (z : FVec Ideal S1024x1024 .f32) : FVec Ideal S1x1024x128 .f32 :=
  shapeCast S1x1024x128 (extractStridedSlice S1024x128 ![0, o] z hs) shapeCasts_S1024x128_S1x1024x128

theorem chunk_apply (o : ℕ) (ho : o + 128 ≤ 1024) (hs : S1024x1024.Slices ![0, o] S1024x128) (z : FVec Ideal S1024x1024 .f32) (a : Fin 1) (r : Fin 1024) (l : Fin 128) :
    chunk o hs z (ix3 a r l) = z (ix2 r ⟨o + l.val, by omega⟩) := by
  pointwise [chunk]

/-- The place that a scratch place holds. -/
def spread (z : FVec Ideal S1024x1024 .f32) (i : S8x1024x128.Idx) : Elt Ideal .f32 :=
  z (ix2 (i 1) (⟨(i 0).val * 128 + (i 2).val, by have : (i 0).val < 8 := (i 0).isLt; have : (i 2).val < 128 := (i 2).isLt; omega⟩ : Fin 1024))

theorem chunk_spread (k o : ℕ) (hk : o = k * 128) (hk' : k < 8) (hs : S1024x1024.Slices ![0, o] S1024x128) (inb) (z : FVec Ideal S1024x1024 .f32) (x : S1x1024x128.Idx) :
    chunk o hs z x = spread z ((Rect.unit (s := S8x1024x128) ![k, 0, 0] S1x1024x128.size inb).emb x) := by
  have hx : (x 0).val = 0 := by have : (x 0).val < 1 := (x 0).isLt; omega
  refine (congrArg (chunk o hs z) (eq_ix3 x)).trans ((chunk_apply o (by omega) hs z (x 0) (x 1) (x 2)).trans ?_)
  exact congrArg₂ (fun u v => z (ix2 u v)) (Fin.ext (by show (x 1).val = 0 + 1 * (x 1).val; omega))
    (Fin.ext (by show o + (x 2).val = (k + 1 * (x 0).val) * 128 + (0 + 1 * (x 2).val); omega))

/-- The eight stores. -/
def scratch (z : FVec Ideal S1024x1024 .f32) : List (View.Piece (Elt Ideal) S8x1024x128 .f32) :=
  [⟨Rect.unit (s := S8x1024x128) ![7, 0, 0] S1x1024x128.size inb_S8x1024x128_S1x1024x128_7_0_0, chunk 896 slices_S1024x1024_o0_896_S1024x128 z⟩,
    ⟨Rect.unit (s := S8x1024x128) ![6, 0, 0] S1x1024x128.size inb_S8x1024x128_S1x1024x128_6_0_0, chunk 768 slices_S1024x1024_o0_768_S1024x128 z⟩,
    ⟨Rect.unit (s := S8x1024x128) ![5, 0, 0] S1x1024x128.size inb_S8x1024x128_S1x1024x128_5_0_0, chunk 640 slices_S1024x1024_o0_640_S1024x128 z⟩,
    ⟨Rect.unit (s := S8x1024x128) ![4, 0, 0] S1x1024x128.size inb_S8x1024x128_S1x1024x128_4_0_0, chunk 512 slices_S1024x1024_o0_512_S1024x128 z⟩,
    ⟨Rect.unit (s := S8x1024x128) ![3, 0, 0] S1x1024x128.size inb_S8x1024x128_S1x1024x128_3_0_0, chunk 384 slices_S1024x1024_o0_384_S1024x128 z⟩,
    ⟨Rect.unit (s := S8x1024x128) ![2, 0, 0] S1x1024x128.size inb_S8x1024x128_S1x1024x128_2_0_0, chunk 256 slices_S1024x1024_o0_256_S1024x128 z⟩,
    ⟨Rect.unit (s := S8x1024x128) ![1, 0, 0] S1x1024x128.size inb_S8x1024x128_S1x1024x128_1_0_0, chunk 128 slices_S1024x1024_o0_128_S1024x128 z⟩,
    ⟨Rect.unit (s := S8x1024x128) ![0, 0, 0] S1x1024x128.size inb_S8x1024x128_S1x1024x128_0_0_0, chunk 0 slices_S1024x1024_o0_0_S1024x128 z⟩]

theorem scratch_pieces (z : FVec Ideal S1024x1024 .f32) : View.PiecesOf (spread z) (scratch z) :=
  ⟨chunk_spread 7 896 rfl (by omega) slices_S1024x1024_o0_896_S1024x128 inb_S8x1024x128_S1x1024x128_7_0_0 z,
    chunk_spread 6 768 rfl (by omega) slices_S1024x1024_o0_768_S1024x128 inb_S8x1024x128_S1x1024x128_6_0_0 z,
    chunk_spread 5 640 rfl (by omega) slices_S1024x1024_o0_640_S1024x128 inb_S8x1024x128_S1x1024x128_5_0_0 z,
    chunk_spread 4 512 rfl (by omega) slices_S1024x1024_o0_512_S1024x128 inb_S8x1024x128_S1x1024x128_4_0_0 z,
    chunk_spread 3 384 rfl (by omega) slices_S1024x1024_o0_384_S1024x128 inb_S8x1024x128_S1x1024x128_3_0_0 z,
    chunk_spread 2 256 rfl (by omega) slices_S1024x1024_o0_256_S1024x128 inb_S8x1024x128_S1x1024x128_2_0_0 z,
    chunk_spread 1 128 rfl (by omega) slices_S1024x1024_o0_128_S1024x128 inb_S8x1024x128_S1x1024x128_1_0_0 z,
    chunk_spread 0 0 rfl (by omega) slices_S1024x1024_o0_0_S1024x128 inb_S8x1024x128_S1x1024x128_0_0_0 z, trivial⟩

theorem scratch_cover (z : FVec Ideal S1024x1024 .f32) (y : S8x1024x128.Idx) : ∃ pc ∈ scratch z, y ∈ pc.1.set :=
  View.cover_of_tiledL (scratch z) S1x1024x128.size (by sl_kernel_rfl) y

/-- A load of the scratch, at a stride or not, finds the places' own. -/
theorem scratch_read {sig' : RefSig} {κ : Kind} {sp : Space} (v : View sig' κ sp S8x1024x128 .f32) (z : FVec Ideal S1024x1024 .f32) (B : LoadRect S8x1024x128) (j : B.shape.Idx) :
    v.readCov (Val := Elt Ideal) (scratch z) B j = spread z (B.idx j) := by
  rw [View.readCov_eq_canon']
  exact View.canon_apply_of_pieces (spread z) (scratch z) (scratch_pieces z).mem _ (scratch_cover z _)

end Cert.ProjScratch

end
-- ==== Proof.Proj1IdealRunA.lean ====
/- The body of the second projection run at one of the three points of a tile of rows. -/
module

public import proofs.«01_k».proof.Proof.Gen.Proj1Ideal.Frame.Runs

@[expose] public section

set_option maxRecDepth 16384

noncomputable section

namespace Cert.Proj1IdealRun

open Cert.Proj1Ideal Cert.Proj1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1024x1024 .f32) (harg2 : arg2.IsWhole)
  (arg3 : Memref sig .tc .vmem S1x1024 .f32) (harg3 : arg3.IsWhole)
  (arg4 : Memref sig .tc .vmem S1024x1024 .bf16) (harg4 : arg4.IsWhole)
  (arg5 : Memref sig .tc .vmem S1024x128 .f32) (harg5 : arg5.IsWhole)
  (arg6 : Memref sig .tc .vmem S1024x128 .f32) (harg6 : arg6.IsWhole)
  (arg7 : Memref sig .tc .vmem S2x1024 .f32) (harg7 : arg7.IsWhole)
  (arg8 : Memref sig .tc .vmem S256x256 .bf16) (harg8 : arg8.IsWhole)
  (arg9 : Memref sig .tc .vmem S256x256 .bf16) (harg9 : arg9.IsWhole)
  (arg10 : Memref sig .tc .vmem S1x4x256x1024 .bf16) (harg10 : arg10.IsWhole)
  (arg11 : Memref sig .tc .vmem S1024x1024 .bf16) (harg11 : arg11.IsWhole)
  (arg12 : Memref sig .tc .vmem S8x1024x128 .f32) (harg12 : arg12.IsWhole)
  (x0 : Vec F S1024x1024 .f32) (x1 : Vec F S1x1024 .f32) (x2 : Vec F S1024x1024 .bf16) (x3 : Vec F S1024x128 .f32) (x4 : Vec F S1024x128 .f32) (x5 : Vec F S2x1024 .f32) (x6 : Vec F S256x256 .bf16) (x7 : Vec F S256x256 .bf16)

set_option maxHeartbeats 1000000 in
/-- The queries: the rows are normalised and left for the next points, and the result's block is stored. -/
def runA (h0 : cond0_0 i) (h1 : cond0_1 i) (h2 : ¬cond0_2 i) :
    Σ' (L10 : List (View.Piece (Elt F) S1x4x256x1024 .bf16)), { L11 : List (View.Piece (Elt F) S1024x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ d, owns (c : Thread nD τ) arg12 fullShare d)) -∗ K ⟨⟩))
          ⊢ wp frame (wpE (defs₀ (F := F)) Variants.none c none) E (cc0_qkv_projection_g1 i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0_qkv_projection_g1_eq_skeleton]; unfold cc0_qkv_projection_g1_skel
    simp only [k0_part1_eq_skeleton, k0_part2_eq_skeleton, k0_part3_eq_skeleton, k0_part4_eq_skeleton, k0_part5_eq_skeleton, k0_part6_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | sl_exact h0 | sl_exact h1 | sl_exact h2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]; · iexists _; iexact H11
    iexists _, _; isplitr; swap; · iexact H12
    ipureintro; rfl

end Cert.Proj1IdealRun

end
-- ==== Proof.Proj1IdealRunB.lean ====
/- The body of the second projection run at one of the three points of a tile of rows. -/
module

public import proofs.«01_k».proof.Proof.Gen.Proj1Ideal.Frame.Runs

@[expose] public section

set_option maxRecDepth 16384

noncomputable section

namespace Cert.Proj1IdealRun

open Cert.Proj1Ideal Cert.Proj1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1024x1024 .f32) (harg2 : arg2.IsWhole)
  (arg3 : Memref sig .tc .vmem S1x1024 .f32) (harg3 : arg3.IsWhole)
  (arg4 : Memref sig .tc .vmem S1024x1024 .bf16) (harg4 : arg4.IsWhole)
  (arg5 : Memref sig .tc .vmem S1024x128 .f32) (harg5 : arg5.IsWhole)
  (arg6 : Memref sig .tc .vmem S1024x128 .f32) (harg6 : arg6.IsWhole)
  (arg7 : Memref sig .tc .vmem S2x1024 .f32) (harg7 : arg7.IsWhole)
  (arg8 : Memref sig .tc .vmem S256x256 .bf16) (harg8 : arg8.IsWhole)
  (arg9 : Memref sig .tc .vmem S256x256 .bf16) (harg9 : arg9.IsWhole)
  (arg10 : Memref sig .tc .vmem S1x4x256x1024 .bf16) (harg10 : arg10.IsWhole)
  (arg11 : Memref sig .tc .vmem S1024x1024 .bf16) (harg11 : arg11.IsWhole)
  (arg12 : Memref sig .tc .vmem S8x1024x128 .f32) (harg12 : arg12.IsWhole)
  (x0 : Vec F S1024x1024 .f32) (x1 : Vec F S1x1024 .f32) (x2 : Vec F S1024x1024 .bf16) (x3 : Vec F S1024x128 .f32) (x4 : Vec F S1024x128 .f32) (x5 : Vec F S2x1024 .f32) (x6 : Vec F S256x256 .bf16) (x7 : Vec F S256x256 .bf16)

set_option maxHeartbeats 1000000 in
/-- The keys: the result's block is stored, from the rows that the first point normalised. -/
def runB (h0 : ¬cond0_0 i) (h1 : cond0_1 i) (h2 : ¬cond0_2 i) (rows : Vec F S1024x1024 .bf16) :
    { L10 : List (View.Piece (Elt F) S1x4x256x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare rows ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L10) ∗ owns (c : Thread nD τ) arg11 fullShare rows ∗ (∃ d, owns (c : Thread nD τ) arg12 fullShare d)) -∗ K ⟨⟩))
          ⊢ wp frame (wpE (defs₀ (F := F)) Variants.none c none) E (cc0_qkv_projection_g1 i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0_qkv_projection_g1_eq_skeleton]; unfold cc0_qkv_projection_g1_skel
    simp only [k0_part1_eq_skeleton, k0_part2_eq_skeleton, k0_part3_eq_skeleton, k0_part4_eq_skeleton, k0_part5_eq_skeleton, k0_part6_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%d12, %f12, -, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11
    sl_exec (disch := first | sl_exact h0 | sl_exact h1 | sl_exact h2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]
    · iexists _; isplitr; · ipureintro; exact harg11.read_unread _
      iexact H11
    iexists _, _; isplitr; swap; · iexact H12
    ipureintro; rfl

end Cert.Proj1IdealRun

end
-- ==== Proof.Proj1IdealRunC.lean ====
/- The body of the second projection run at one of the three points of a tile of rows. -/
module

public import proofs.«01_k».proof.Proof.Gen.Proj1Ideal.Frame.Runs

@[expose] public section

set_option maxRecDepth 16384

noncomputable section

namespace Cert.Proj1IdealRun

open Cert.Proj1Ideal Cert.Proj1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1024x1024 .f32) (harg2 : arg2.IsWhole)
  (arg3 : Memref sig .tc .vmem S1x1024 .f32) (harg3 : arg3.IsWhole)
  (arg4 : Memref sig .tc .vmem S1024x1024 .bf16) (harg4 : arg4.IsWhole)
  (arg5 : Memref sig .tc .vmem S1024x128 .f32) (harg5 : arg5.IsWhole)
  (arg6 : Memref sig .tc .vmem S1024x128 .f32) (harg6 : arg6.IsWhole)
  (arg7 : Memref sig .tc .vmem S2x1024 .f32) (harg7 : arg7.IsWhole)
  (arg8 : Memref sig .tc .vmem S256x256 .bf16) (harg8 : arg8.IsWhole)
  (arg9 : Memref sig .tc .vmem S256x256 .bf16) (harg9 : arg9.IsWhole)
  (arg10 : Memref sig .tc .vmem S1x4x256x1024 .bf16) (harg10 : arg10.IsWhole)
  (arg11 : Memref sig .tc .vmem S1024x1024 .bf16) (harg11 : arg11.IsWhole)
  (arg12 : Memref sig .tc .vmem S8x1024x128 .f32) (harg12 : arg12.IsWhole)
  (x0 : Vec F S1024x1024 .f32) (x1 : Vec F S1x1024 .f32) (x2 : Vec F S1024x1024 .bf16) (x3 : Vec F S1024x128 .f32) (x4 : Vec F S1024x128 .f32) (x5 : Vec F S2x1024 .f32) (x6 : Vec F S256x256 .bf16) (x7 : Vec F S256x256 .bf16)

set_option maxHeartbeats 1000000 in
/-- The values: the result's block is the products, from the rows that the first point normalised. -/
def runC (h0 : ¬cond0_0 i) (h1 : ¬cond0_1 i) (h2 : cond0_2 i) (rows : Vec F S1024x1024 .bf16) :
    { L10 : List (View.Piece (Elt F) S1x4x256x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare rows ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L10) ∗ owns (c : Thread nD τ) arg11 fullShare rows ∗ (∃ d, owns (c : Thread nD τ) arg12 fullShare d)) -∗ K ⟨⟩))
          ⊢ wp frame (wpE (defs₀ (F := F)) Variants.none c none) E (cc0_qkv_projection_g1 i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0_qkv_projection_g1_eq_skeleton]; unfold cc0_qkv_projection_g1_skel
    simp only [k0_part7_eq_skeleton, k0_part8_eq_skeleton, k0_part9_eq_skeleton, k0_part10_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%d12, %f12, -, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11
    sl_exec (disch := first | sl_exact h0 | sl_exact h1 | sl_exact h2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]
    · iexists _; isplitr; · ipureintro; exact harg11.read_unread _
      iexact H11
    iexists _, _; isplitr; swap; · iexact H12
    ipureintro; rfl

end Cert.Proj1IdealRun

end
-- ==== Proof.Proj1IdealFrame.lean ====
/- The second projection's run: what its buffers hold at each point, and the frame. -/
module

public import proofs.«01_k».proof.Proof.Proj1IdealRunA
public import proofs.«01_k».proof.Proof.Proj1IdealRunB
public import proofs.«01_k».proof.Proof.Proj1IdealRunC
public import Idealize.ShloMosaic.Lib.Claim
public import Idealize.ShloMosaic.Lib.Pipeline.ValueKit

@[expose] public section

set_option maxRecDepth 16384

noncomputable section

namespace Cert.Proj1IdealRun

open Cert.Proj1Ideal Cert.Proj1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1024x1024 .f32) (harg2 : arg2.IsWhole)
  (arg3 : Memref sig .tc .vmem S1x1024 .f32) (harg3 : arg3.IsWhole)
  (arg4 : Memref sig .tc .vmem S1024x1024 .bf16) (harg4 : arg4.IsWhole)
  (arg5 : Memref sig .tc .vmem S1024x128 .f32) (harg5 : arg5.IsWhole)
  (arg6 : Memref sig .tc .vmem S1024x128 .f32) (harg6 : arg6.IsWhole)
  (arg7 : Memref sig .tc .vmem S2x1024 .f32) (harg7 : arg7.IsWhole)
  (arg8 : Memref sig .tc .vmem S256x256 .bf16) (harg8 : arg8.IsWhole)
  (arg9 : Memref sig .tc .vmem S256x256 .bf16) (harg9 : arg9.IsWhole)
  (arg10 : Memref sig .tc .vmem S1x4x256x1024 .bf16) (harg10 : arg10.IsWhole)
  (arg11 : Memref sig .tc .vmem S1024x1024 .bf16) (harg11 : arg11.IsWhole)
  (arg12 : Memref sig .tc .vmem S8x1024x128 .f32) (harg12 : arg12.IsWhole)
  (x0 : Vec F S1024x1024 .f32) (x1 : Vec F S1x1024 .f32) (x2 : Vec F S1024x1024 .bf16) (x3 : Vec F S1024x128 .f32) (x4 : Vec F S1024x128 .f32) (x5 : Vec F S2x1024 .f32) (x6 : Vec F S256x256 .bf16) (x7 : Vec F S256x256 .bf16)

/-! The stores of a point cover the buffers they go to. -/

theorem coverA10 (h0 : cond0_0 i) (h1 : cond0_1 i) (h2 : ¬cond0_2 i) (y : S1x4x256x1024.Idx) : ∃ pc ∈ (runA c i arg2 harg2 arg3 harg3 arg4 harg4 arg5 harg5 arg6 harg6 arg7 harg7 arg8 harg8 arg9 harg9 arg10 harg10 arg11 harg11 arg12 harg12 x0 x1 x2 x3 x4 x5 x6 x7 h0 h1 h2).1, y ∈ pc.1.set :=
  View.cover_of_tiledL (runA c i arg2 harg2 arg3 harg3 arg4 harg4 arg5 harg5 arg6 harg6 arg7 harg7 arg8 harg8 arg9 harg9 arg10 harg10 arg11 harg11 arg12 harg12 x0 x1 x2 x3 x4 x5 x6 x7 h0 h1 h2).1 S1x1x256x1024.size (by sl_kernel_rfl) y

theorem coverA11 (h0 : cond0_0 i) (h1 : cond0_1 i) (h2 : ¬cond0_2 i) (y : S1024x1024.Idx) : ∃ pc ∈ (runA c i arg2 harg2 arg3 harg3 arg4 harg4 arg5 harg5 arg6 harg6 arg7 harg7 arg8 harg8 arg9 harg9 arg10 harg10 arg11 harg11 arg12 harg12 x0 x1 x2 x3 x4 x5 x6 x7 h0 h1 h2).2.1, y ∈ pc.1.set :=
  View.cover_of_tiledL (runA c i arg2 harg2 arg3 harg3 arg4 harg4 arg5 harg5 arg6 harg6 arg7 harg7 arg8 harg8 arg9 harg9 arg10 harg10 arg11 harg11 arg12 harg12 x0 x1 x2 x3 x4 x5 x6 x7 h0 h1 h2).2.1 S1024x1024.size (by sl_kernel_rfl) y

theorem coverB10 (h0 : ¬cond0_0 i) (h1 : cond0_1 i) (h2 : ¬cond0_2 i) (rows : Vec F S1024x1024 .bf16) (y : S1x4x256x1024.Idx) : ∃ pc ∈ (runB c i arg2 harg2 arg3 harg3 arg4 harg4 arg5 harg5 arg6 harg6 arg7 harg7 arg8 harg8 arg9 harg9 arg10 harg10 arg11 harg11 arg12 harg12 x0 x1 x2 x3 x4 x5 x6 x7 h0 h1 h2 rows).1, y ∈ pc.1.set :=
  View.cover_of_tiledL (runB c i arg2 harg2 arg3 harg3 arg4 harg4 arg5 harg5 arg6 harg6 arg7 harg7 arg8 harg8 arg9 harg9 arg10 harg10 arg11 harg11 arg12 harg12 x0 x1 x2 x3 x4 x5 x6 x7 h0 h1 h2 rows).1 S1x1x256x1024.size (by sl_kernel_rfl) y

theorem coverC10 (h0 : ¬cond0_0 i) (h1 : ¬cond0_1 i) (h2 : cond0_2 i) (rows : Vec F S1024x1024 .bf16) (y : S1x4x256x1024.Idx) : ∃ pc ∈ (runC c i arg2 harg2 arg3 harg3 arg4 harg4 arg5 harg5 arg6 harg6 arg7 harg7 arg8 harg8 arg9 harg9 arg10 harg10 arg11 harg11 arg12 harg12 x0 x1 x2 x3 x4 x5 x6 x7 h0 h1 h2 rows).1, y ∈ pc.1.set :=
  View.cover_of_tiledL (runC c i arg2 harg2 arg3 harg3 arg4 harg4 arg5 harg5 arg6 harg6 arg7 harg7 arg8 harg8 arg9 harg9 arg10 harg10 arg11 harg11 arg12 harg12 x0 x1 x2 x3 x4 x5 x6 x7 h0 h1 h2 rows).1 S1x1x256x1024.size (by sl_kernel_rfl) y

theorem storedA11 (h0 : cond0_0 i) (h1 : cond0_1 i) (h2 : ¬cond0_2 i) : View.canon (runA c i arg2 harg2 arg3 harg3 arg4 harg4 arg5 harg5 arg6 harg6 arg7 harg7 arg8 harg8 arg9 harg9 arg10 harg10 arg11 harg11 arg12 harg12 x0 x1 x2 x3 x4 x5 x6 x7 h0 h1 h2).2.1 = k0_pay1 x0 x1 := by
  unfold runA
  dsimp only
  sl_unfold_words
  simp (disch := decide) only [View.canon_cons_unit_lit', View.ld_unit_lit', View.readCov_unit_lit', View.readCov_cons_unit_lit', View.readAt_eq_ld, Memref.IsWhole.read_unread]
  try rfl

variable (m : (ℓ : Loc nD τ sig) → Buf (Elt F) ℓ) (ρ : Dev nD → PrngReg)

/-! ## What the buffers hold -/

/-- The first point of `t`'s tile of rows. -/
def first (t : Fin cfg0.N) : Fin cfg0.N := ⟨t.val / 3 * 3, lt_of_le_of_lt (Nat.div_mul_le_self _ _) t.isLt⟩

theorem first_of (t : Fin cfg0.N) (h : t.val % 3 = 0) : first t = t := Fin.ext (by show t.val / 3 * 3 = t.val; omega)

/-- The normalised rows of `t`'s tile. -/
def rowsAt (c : Dev nD) (t : Fin cfg0.N) : Vec F S1024x1024 .bf16 := k0_pay1 (iblk m c 0 (first t)) (iblk m c 1 (first t))

/-- The run at a tile's first point, over its blocks. -/
abbrev pointA (c : Dev nD) (t : Fin cfg0.N) (h0 : t.val % 3 = 0) :=
  runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) ((hcond0_0 t).mpr h0) ((hcond0_1 t).mpr (by omega)) (fun h => absurd ((hcond0_2 t).mp h) (by omega))

/-- The run at its second. -/
abbrev pointB (c : Dev nD) (t : Fin cfg0.N) (h0 : ¬t.val % 3 = 0) (h2 : ¬t.val % 3 = 2) :=
  runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (fun h => h0 ((hcond0_0 t).mp h)) ((hcond0_1 t).mpr (by omega)) (fun h => h2 ((hcond0_2 t).mp h)) (rowsAt m c t)

/-- The run at its third. -/
abbrev pointC (c : Dev nD) (t : Fin cfg0.N) (h0 : ¬t.val % 3 = 0) (h2 : t.val % 3 = 2) :=
  runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (fun h => h0 ((hcond0_0 t).mp h)) (fun h => absurd ((hcond0_1 t).mp h) (by omega)) ((hcond0_2 t).mpr h2) (rowsAt m c t)

/-- The result's block after point `t`. -/
def outAt (c : Dev nD) (t : Fin cfg0.N) : Vec F S1x4x256x1024 .bf16 :=
  if h0 : t.val % 3 = 0 then
    View.canon (pointA m c t h0).1
  else if h2 : t.val % 3 = 2 then
    View.canon (pointC m c t h0 h2).1
  else
    View.canon (pointB m c t h0 h2).1

/-- What the rows' buffer holds before position `n`, but before a tile's first point. -/
def Carried (c : Dev nD) (n : ℕ) (d : Vec F S1024x1024 .bf16) : Prop := ∀ t : Fin cfg0.N, n = t.val → t.val % 3 ≠ 0 → d = rowsAt m c t

/-- A tile's points find the rows that its first leaves. -/
theorem carried_first (c : Dev nD) (t : Fin cfg0.N) (h : t.val % 3 = 0) : Carried m c (t.val + 1) (k0_pay1 (iblk m c 0 t) (iblk m c 1 t)) := fun t' e _ => by
  unfold rowsAt
  rw [show first t' = t from Fin.ext (by show t'.val / 3 * 3 = t.val; omega)]

theorem carried_next (c : Dev nD) (t : Fin cfg0.N) : Carried m c (t.val + 1) (rowsAt m c t) := fun t' e h => by
  unfold rowsAt
  rw [show first t' = first t from Fin.ext (by show t'.val / 3 * 3 = t.val / 3 * 3; omega)]

/-- The invariant before position `n`. -/
def Inv (c : Dev nD) (n : ℕ) : sProp 𝕄 :=
  iprop(iprop((∃ d : Vec F S1024x1024 .bf16, ⌜Carried m c n d⌝ ∗ owns (c : Thread nD τ) scM0_0 fullShare d) ∗ (∃ d, owns (c : Thread nD τ) scM0_1 fullShare d)) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ t := Inv m c t.val
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem bef_0 (c : Dev nD) (t : Fin cfg0.N) (d) : (dats m 0 c).before 0 t d = iblk m c 0 t := before0_0_of m (dats m 0 c) (A_eq m c 0) (after_0 m c) t d
theorem leaves_0 (c : Dev nD) (t : Fin cfg0.N) : (dats m 0 c).leavesExact 0 t = owns (c : Thread nD τ) (ms0_0 t) fullShare (iblk m c 0 t) := by
  unfold Dat.leavesExact; rw [liveAt0_0 t, after_0]
theorem after_1 (c : Dev nD) (t : Fin cfg0.N) : (dats m 0 c).after 1 t = iblk m c 1 t := by dsimp only [dats]
theorem bef_1 (c : Dev nD) (t : Fin cfg0.N) (d) : (dats m 0 c).before 1 t d = iblk m c 1 t := before0_1_of m (dats m 0 c) (A_eq m c 1) (after_1 m c) t d
theorem leaves_1 (c : Dev nD) (t : Fin cfg0.N) : (dats m 0 c).leavesExact 1 t = owns (c : Thread nD τ) (ms0_1 t) fullShare (iblk m c 1 t) := by
  unfold Dat.leavesExact; rw [liveAt0_1 t, after_1]
theorem after_2 (c : Dev nD) (t : Fin cfg0.N) : (dats m 0 c).after 2 t = iblk m c 2 t := by dsimp only [dats]
theorem bef_2 (c : Dev nD) (t : Fin cfg0.N) (d) : (dats m 0 c).before 2 t d = iblk m c 2 t := before0_2_of m (dats m 0 c) (A_eq m c 2) (after_2 m c) t d
theorem leaves_2 (c : Dev nD) (t : Fin cfg0.N) : (dats m 0 c).leavesExact 2 t = owns (c : Thread nD τ) (ms0_2 t) fullShare (iblk m c 2 t) := by
  unfold Dat.leavesExact; rw [liveAt0_2 t, after_2]
theorem after_3 (c : Dev nD) (t : Fin cfg0.N) : (dats m 0 c).after 3 t = iblk m c 3 t := by dsimp only [dats]
theorem bef_3 (c : Dev nD) (t : Fin cfg0.N) (d) : (dats m 0 c).before 3 t d = iblk m c 3 t := before0_3_of m (dats m 0 c) (A_eq m c 3) (after_3 m c) t d
theorem leaves_3 (c : Dev nD) (t : Fin cfg0.N) : (dats m 0 c).leavesExact 3 t = owns (c : Thread nD τ) (ms0_3 t) fullShare (iblk m c 3 t) := by
  unfold Dat.leavesExact; rw [liveAt0_3 t, after_3]
theorem after_4 (c : Dev nD) (t : Fin cfg0.N) : (dats m 0 c).after 4 t = iblk m c 4 t := by dsimp only [dats]
theorem bef_4 (c : Dev nD) (t : Fin cfg0.N) (d) : (dats m 0 c).before 4 t d = iblk m c 4 t := before0_4_of m (dats m 0 c) (A_eq m c 4) (after_4 m c) t d
theorem leaves_4 (c : Dev nD) (t : Fin cfg0.N) : (dats m 0 c).leavesExact 4 t = owns (c : Thread nD τ) (ms0_4 t) fullShare (iblk m c 4 t) := by
  unfold Dat.leavesExact; rw [liveAt0_4 t, after_4]
theorem after_5 (c : Dev nD) (t : Fin cfg0.N) : (dats m 0 c).after 5 t = iblk m c 5 t := by dsimp only [dats]
theorem bef_5 (c : Dev nD) (t : Fin cfg0.N) (d) : (dats m 0 c).before 5 t d = iblk m c 5 t := before0_5_of m (dats m 0 c) (A_eq m c 5) (after_5 m c) t d
theorem leaves_5 (c : Dev nD) (t : Fin cfg0.N) : (dats m 0 c).leavesExact 5 t = owns (c : Thread nD τ) (ms0_5 t) fullShare (iblk m c 5 t) := by
  unfold Dat.leavesExact; rw [liveAt0_5 t, after_5]
theorem after_6 (c : Dev nD) (t : Fin cfg0.N) : (dats m 0 c).after 6 t = iblk m c 6 t := by dsimp only [dats]
theorem bef_6 (c : Dev nD) (t : Fin cfg0.N) (d) : (dats m 0 c).before 6 t d = iblk m c 6 t := before0_6_of m (dats m 0 c) (A_eq m c 6) (after_6 m c) t d
theorem leaves_6 (c : Dev nD) (t : Fin cfg0.N) : (dats m 0 c).leavesExact 6 t = owns (c : Thread nD τ) (ms0_6 t) fullShare (iblk m c 6 t) := by
  unfold Dat.leavesExact; rw [liveAt0_6 t, after_6]
theorem after_7 (c : Dev nD) (t : Fin cfg0.N) : (dats m 0 c).after 7 t = iblk m c 7 t := by dsimp only [dats]
theorem bef_7 (c : Dev nD) (t : Fin cfg0.N) (d) : (dats m 0 c).before 7 t d = iblk m c 7 t := before0_7_of m (dats m 0 c) (A_eq m c 7) (after_7 m c) t d
theorem leaves_7 (c : Dev nD) (t : Fin cfg0.N) : (dats m 0 c).leavesExact 7 t = owns (c : Thread nD τ) (ms0_7 t) fullShare (iblk m c 7 t) := by
  unfold Dat.leavesExact; rw [liveAt0_7 t, after_7]
theorem after_8 (c : Dev nD) (t : Fin cfg0.N) : (dats m 0 c).after 8 t = outAt m c t := by dsimp only [dats]
theorem leaves_8 (c : Dev nD) (t : Fin cfg0.N) : (dats m 0 c).leavesExact 8 t = owns (c : Thread nD τ) (ms0_8 t) fullShare (outAt m c t) := by
  have hl : cfg0.idle 8 (grid0.coords t) = false := by
    by_cases h0 : t.val % 3 = 0
    · exact liveAt0_8_A t ((hcond0_0 t).mpr h0) ((hcond0_1 t).mpr (by omega)) (fun h => absurd ((hcond0_2 t).mp h) (by omega))
    by_cases h2 : t.val % 3 = 2
    · exact liveAt0_8_C t (fun h => h0 ((hcond0_0 t).mp h)) (fun h => absurd ((hcond0_1 t).mp h) (by omega)) ((hcond0_2 t).mpr h2)
    · exact liveAt0_8_B t (fun h => h0 ((hcond0_0 t).mp h)) ((hcond0_1 t).mpr (by omega)) (fun h => h2 ((hcond0_2 t).mp h))
  unfold Dat.leavesExact; rw [hl, after_8]

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- The blocks that a point reads, and `R`. -/
def withBlocks (c : Dev nD) (t : Fin cfg0.N) (R : sProp 𝕄) : sProp 𝕄 :=
  iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ R)

set_option maxHeartbeats 6400000 in
/-- A point after its tile's first, from its run and the pieces it stores. -/
theorem sound_later (c : Dev nD) (t : Fin cfg0.N) (h0 : ¬t.val % 3 = 0) (L : List (View.Piece (Elt F) S1x4x256x1024 .bf16))
    (run : ∀ (E : Set ℕ) (K : PUnit → sProp 𝕄),
      withBlocks m c t iprop((∃ d, owns (c : Thread nD τ) (ms0_8 t) fullShare d) ∗ owns (c : Thread nD τ) scM0_0 fullShare (rowsAt m c t) ∗ (∃ d, owns (c : Thread nD τ) scM0_1 fullShare d)
          ∗ (withBlocks m c t iprop((∃ f, (ms0_8 t).view.loc (c : Thread nD τ) ↦[(ms0_8 t).view.set]{fullShare} (ms0_8 t).view.writes (Elt F) f L) ∗ owns (c : Thread nD τ) scM0_0 fullShare (rowsAt m c t) ∗ (∃ d, owns (c : Thread nD τ) scM0_1 fullShare d)) -∗ K ⟨⟩))
        ⊢ wp frame (wpE (defs₀ (F := F)) Variants.none c none) E (bodyAt0 t) K)
    (cover : ∀ y, ∃ pc ∈ L, y ∈ pc.1.set) (ho : outAt m c t = View.canon L) :
    bodyPre m c t ⊢ wp frame (wpE (defs₀ (F := F)) Variants.none c none) Set.univ (bodyAt0 t) (fun _ => bodyPost m c t) := by
  unfold bodyPre bodyPost
  simp only [bef_0, bef_1, bef_2, bef_3, bef_4, bef_5, bef_6, bef_7]
  rw [show (dats m 0 c).owesAt () t.succ = (dats m 0 c).owesAt () t.castSucc from rfl]
  rw [show (dats m 0 c).Φ t.succ = Inv m c (t.val + 1) from rfl, show (dats m 0 c).Φ t.castSucc = Inv m c t.val from rfl]
  rw [leaves_0, leaves_1, leaves_2, leaves_3, leaves_4, leaves_5, leaves_6, leaves_7, leaves_8, ho]
  unfold Inv
  unfold withBlocks at run
  iintro ⟨⟨⟨⟨%e0, %hc, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain rfl := hc t rfl h0
  iapply (run Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  iintro ⟨H0, H1, H2, H3, H4, H5, H6, H7, ⟨%e8, H8⟩, HS0, HS1⟩
  isplitl [HS0 HS1 Hg]
  · isplitl [HS0 HS1]
    · isplitl [HS0]
      · iexists (rowsAt m c t)
        isplitr; · ipureintro; exact carried_next m c t
        iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_eq_canon _ _ _ cover

set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  by_cases h0 : t.val % 3 = 0
  · unfold bodyPre bodyPost bodyAt0
    simp only [bef_0, bef_1, bef_2, bef_3, bef_4, bef_5, bef_6, bef_7]
    rw [show (dats m 0 c).owesAt () t.succ = (dats m 0 c).owesAt () t.castSucc from rfl]
    rw [show (dats m 0 c).Φ t.succ = Inv m c (t.val + 1) from rfl, show (dats m 0 c).Φ t.castSucc = Inv m c t.val from rfl]
    rw [leaves_0, leaves_1, leaves_2, leaves_3, leaves_4, leaves_5, leaves_6, leaves_7, leaves_8]
    unfold Inv
    unfold outAt
    rw [dif_pos h0]
    iintro ⟨⟨⟨⟨%e0, -, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((pointA m c t h0).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexists _; iexact HS0
    isplitl [HS1]; · iexact HS1
    iintro ⟨H0, H1, H2, H3, H4, H5, H6, H7, ⟨%e8, H8⟩, ⟨%es0, HS0⟩, HS1⟩
    isplitl [HS0 HS1 Hg]
    · isplitl [HS0 HS1]
      · isplitl [HS0]
        · iexists (k0_pay1 (iblk m c 0 t) (iblk m c 1 t))
          isplitr; · ipureintro; exact carried_first m c t h0
          unfold owns; iexists _; isplitr
          swap; · iexact HS0
          ipureintro; exact (View.read_writes_eq_canon _ _ _ (coverA11 c _ _ _ _ _ _ _ _ _ _ _ _ _ _ _ _ _ _ _ _ _ _ _ _ _ _ _ _ _ _ _ _ _ _)).trans (storedA11 c _ _ _ _ _ _ _ _ _ _ _ _ _ _ _ _ _ _ _ _ _ _ _ _ _ _ _ _ _ _ _ _ _ _)
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_eq_canon _ _ _ (coverA10 c _ _ _ _ _ _ _ _ _ _ _ _ _ _ _ _ _ _ _ _ _ _ _ _ _ _ _ _ _ _ _ _ _ _)
  by_cases h2 : t.val % 3 = 2
  · exact sound_later m c t h0 _ (pointC m c t h0 h2).2 (coverC10 c _ _ _ _ _ _ _ _ _ _ _ _ _ _ _ _ _ _ _ _ _ _ _ _ _ _ _ _ _ _ _ _ _ _ _) (by unfold outAt; rw [dif_neg h0, dif_pos h2])
  · exact sound_later m c t h0 _ (pointB m c t h0 h2).2 (coverB10 c _ _ _ _ _ _ _ _ _ _ _ _ _ _ _ _ _ _ _ _ _ _ _ _ _ _ _ _ _ _ _ _ _ _ _) (by unfold outAt; rw [dif_neg h0, dif_neg h2])

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem hin (c : Dev nD) : Pipeline.ΦA spec0 c ⊢ (dats m 0 c).Φ 0 := by
  rw [show (dats m 0 c).Φ 0 = Inv m c 0 from rfl, PhiA0_eq]
  unfold Inv
  iintro ⟨⟨⟨%e0, HS0⟩, HS1⟩, Hg⟩
  isplitl [HS0 HS1]
  · isplitl [HS0]
    · iexists e0
      isplitr; · ipureintro; exact fun t e h => absurd (show t.val % 3 = 0 by omega) h
      iexact HS0
    iexact HS1
  iexact Hg

theorem hout (c : Dev nD) : (dats m 0 c).Φ (Fin.last cfg0.N) ⊢ Pipeline.ΦA spec0 c := by
  rw [show (dats m 0 c).Φ (Fin.last cfg0.N) = Inv m c cfg0.N from rfl, PhiA0_eq]
  unfold Inv
  iintro ⟨⟨⟨%e0, -, HS0⟩, HS1⟩, Hg⟩
  isplitl [HS0 HS1]
  · isplitl [HS0]
    · iexists _; iexact HS0
    iexact HS1
  iexact Hg

/-! ## The run and the frame -/

set_option backward.isDefEq.respectTransparency.types false in
/-- Every run ends with the pipeline's arrays at what the proof data says, every other buffer as launched, and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_post : θ_run defs (onTc (τ := τ) (main (F := F))) (s₀ m ρ) (Pipeline.FramePost cfgs (dats m) 0 (V m)) :=
  (θ_run defs _ _).mono (fun _ h => h.1) (run_quiet m ρ)

/-- The argument arrays end as launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_post m ρ)) ((θ_run defs _ _).mono (fun _ h => h.2) (run_quiet m ρ))

/-- The result's array ends at what the points wrote back, and the argument arrays as launched. -/
theorem run_blocks : θ_run defs (onTc (τ := τ) (main (F := F))) ⟨m, fun _ => 0, ρ⟩ (fun r => ∀ c : Dev nD,
      r.2.mem ((c.tc : Thread nD τ).loc main_v70) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  have h8 : θ_run defs (onTc (τ := τ) (main (F := F))) ⟨m, fun _ => 0, ρ⟩ (fun r => ∀ c : Dev nD, r.2.mem ((c.tc : Thread nD τ).loc main_v70) = (dats m 0 c).arrAt 8 cfg0.N) :=
    (θ_run defs _ _).mono (fun _ h c => (h c).1 8) (run_post m ρ)
  (θ_run defs _ _).mono (fun _ h c => ⟨h.1 c, h.2 c⟩) (θ_run_and h8 (frame_of m ρ (dats m) (A_eq m) (run_post m ρ)))

end Cert.Proj1IdealRun

end
-- ==== Proof.Proj1Block.lean ====
/- What the second projection leaves in a block of its result: the rows of the columns it makes, every 4th in a part. -/
module

public import proofs.«01_k».proof.Proof.ProjScratch
public import proofs.«01_k».proof.Proof.Proj1IdealFrame

@[expose] public section

set_option maxRecDepth 16384

noncomputable section

namespace Cert.Proj1Block

open Cert.Proj1Ideal Cert.Proj1Ideal.Gen Cert.Proj1IdealRun Cert.ProjHead Cert.ProjScratch Idealize.ShloMosaic Idealize.ShloMosaic.TcCoe Idealize.ShloMosaic.Tactic
open Idealize.SL.Sem

/-- Eight chunks of 256 rows, side by side. -/
def strip (v0 v1 v2 v3 v4 v5 v6 v7 : FVec Ideal S1x256x128 .f32) : FVec Ideal S1x1x256x1024 .bf16 :=
  shapeCast S1x1x256x1024 (truncf .bf16 (concatenate S256x1024 1 [⟨S256x128, shapeCast S256x128 v0 shapeCasts_S1x256x128_S256x128⟩, ⟨S256x128, shapeCast S256x128 v1 shapeCasts_S1x256x128_S256x128⟩, ⟨S256x128, shapeCast S256x128 v2 shapeCasts_S1x256x128_S256x128⟩, ⟨S256x128, shapeCast S256x128 v3 shapeCasts_S1x256x128_S256x128⟩, ⟨S256x128, shapeCast S256x128 v4 shapeCasts_S1x256x128_S256x128⟩, ⟨S256x128, shapeCast S256x128 v5 shapeCasts_S1x256x128_S256x128⟩, ⟨S256x128, shapeCast S256x128 v6 shapeCasts_S1x256x128_S256x128⟩, ⟨S256x128, shapeCast S256x128 v7 shapeCasts_S1x256x128_S256x128⟩]
    concatenates_S256x128_S256x128_S256x128_S256x128_S256x128_S256x128_S256x128_S256x128_S256x1024_d1) bitsLt_bf16_f32) shapeCasts_S256x1024_S1x1x256x1024

theorem strip_apply (v : Fin 8 → FVec Ideal S1x256x128 .f32) (a b : Fin 1) (y : Fin 256) (n : Fin 1024) :
    strip (v 0) (v 1) (v 2) (v 3) (v 4) (v 5) (v 6) (v 7) (ix4 a b y n) = v ⟨n.val / 128, by omega⟩ (ix3 (0 : Fin 1) y ⟨n.val % 128, by omega⟩) := by
  have cast : ∀ z : FVec Ideal S256x1024 .f32, shapeCast S1x1x256x1024 (truncf .bf16 z bitsLt_bf16_f32) shapeCasts_S256x1024_S1x1x256x1024 (ix4 a b y n) = z (ix2 y n) := fun z => by
    pointwise
  have part : ∀ (u : FVec Ideal S1x256x128 .f32) (l : Fin 128), shapeCast S256x128 u shapeCasts_S1x256x128_S256x128 (ix2 y l) = u (ix3 (0 : Fin 1) y l) := fun u l => by
    pointwise
  obtain ⟨q, hq⟩ : ∃ q : Fin 8, n.val / 128 = q.val := ⟨⟨n.val / 128, by omega⟩, rfl⟩
  refine (cast _).trans ((concatenate_ofFn_apply (t := S256x1024) (s₁ := S256x128) 1 (fun q : Fin 8 => shapeCast S256x128 (v q) shapeCasts_S1x256x128_S256x128)
    concatenates_S256x128_S256x128_S256x128_S256x128_S256x128_S256x128_S256x128_S256x128_S256x1024_d1 rfl 128 rfl (ix2 y n) q hq
    (ix2 y ⟨n.val % 128, by omega⟩) rfl (fun b hb => match b with | ⟨0, _⟩ => rfl | ⟨1, _⟩ => absurd rfl hb)).trans ((part _ _).trans ?_))
  rw [show (⟨n.val / 128, by omega⟩ : Fin 8) = q from Fin.ext hq]

/-- The block that holds the columns `z`. -/
def parted (z : FVec Ideal S1024x1024 .f32) (i : S1x4x256x1024.Idx) : Elt Ideal .bf16 :=
  z (ix2 (⟨(i 2).val * 4 + (i 1).val, by have : (i 2).val < 256 := (i 2).isLt; have : (i 1).val < 4 := (i 1).isLt; omega⟩ : Fin 1024) (i 3))

/-- One part's rows, read back from the scratch. -/
theorem part_apply {sig' : RefSig} {κ : Kind} {sp : Space} (v : View sig' κ sp S8x1024x128 .f32) (z : FVec Ideal S1024x1024 .f32) (r : ℕ)
    (b0) (b1) (b2) (b3) (b4) (b5) (b6) (b7) (inb) (x : S1x1x256x1024.Idx) :
    strip (v.readCov (Val := Elt Ideal) (scratch z) ⟨![0, r, 0], ![1, 256, 128], ![1, 4, 1], b0⟩) (v.readCov (Val := Elt Ideal) (scratch z) ⟨![1, r, 0], ![1, 256, 128], ![1, 4, 1], b1⟩) (v.readCov (Val := Elt Ideal) (scratch z) ⟨![2, r, 0], ![1, 256, 128], ![1, 4, 1], b2⟩) (v.readCov (Val := Elt Ideal) (scratch z) ⟨![3, r, 0], ![1, 256, 128], ![1, 4, 1], b3⟩) (v.readCov (Val := Elt Ideal) (scratch z) ⟨![4, r, 0], ![1, 256, 128], ![1, 4, 1], b4⟩) (v.readCov (Val := Elt Ideal) (scratch z) ⟨![5, r, 0], ![1, 256, 128], ![1, 4, 1], b5⟩) (v.readCov (Val := Elt Ideal) (scratch z) ⟨![6, r, 0], ![1, 256, 128], ![1, 4, 1], b6⟩) (v.readCov (Val := Elt Ideal) (scratch z) ⟨![7, r, 0], ![1, 256, 128], ![1, 4, 1], b7⟩) x
      = parted z ((Rect.unit (s := S1x4x256x1024) ![0, r, 0, 0] S1x1x256x1024.size inb).emb x) := by
  have h0 : (x 0).val = 0 := by have : (x 0).val < 1 := (x 0).isLt; omega
  have h1 : (x 1).val = 0 := by have : (x 1).val < 1 := (x 1).isLt; omega
  have h3 : (x 3).val < 1024 := (x 3).isLt
  have hr : r + 1 ≤ 4 := inb 1
  let w : Fin 8 → FVec Ideal S1x256x128 .f32 := fun k j =>
    spread z (ix3 k (⟨r + 4 * (j 1).val, by have : (j 1).val < 256 := (j 1).isLt; omega⟩ : Fin 1024) (j 2))
  have e : ∀ (k : ℕ) (hk : k < 8) (b), v.readCov (Val := Elt Ideal) (scratch z) ⟨![k, r, 0], ![1, 256, 128], ![1, 4, 1], b⟩ = w ⟨k, hk⟩ := fun k hk b =>
    funext fun j => (scratch_read v z _ j).trans (congrArg (spread z) (funext fun a => Fin.ext (match a with
      | ⟨0, _⟩ => (by have : (j 0).val < 1 := (j 0).isLt; show k + 1 * (j 0).val = k; omega)
      | ⟨1, _⟩ => rfl
      | ⟨2, _⟩ => (by show 0 + 1 * (j 2).val = (j 2).val; omega))))
  rw [e 0 (by omega) b0, e 1 (by omega) b1, e 2 (by omega) b2, e 3 (by omega) b3, e 4 (by omega) b4, e 5 (by omega) b5, e 6 (by omega) b6, e 7 (by omega) b7]
  refine (congrArg (strip _ _ _ _ _ _ _ _) (eq_ix4 x)).trans ((strip_apply w (x 0) (x 1) (x 2) (x 3)).trans ?_)
  exact congrArg₂ (fun u w => z (ix2 u w)) (Fin.ext (by show r + 4 * (x 2).val = (0 + 1 * (x 2).val) * 4 + (r + 1 * (x 1).val); omega))
    (Fin.ext (by show (x 3).val / 128 * 128 + (x 3).val % 128 = 0 + 1 * (x 3).val; omega))

/-- The gains' row that a point takes. -/
def gainRow (i : grid0.Coords) (h : k0_cond2 i = 1#1) (x5 : Vec Ideal S2x1024 .f32) : Vec Ideal S1x1024 .f32 :=
  View.ld x5 (Rect.unit (s := S2x1024) (k0_off1 i) S1x1024.size (k0_off1_inb i h))

variable (c : Dev nD) (i : grid0.Coords)
  (arg2 : Memref sig .tc .vmem S1024x1024 .f32) (harg2 : arg2.IsWhole)
  (arg3 : Memref sig .tc .vmem S1x1024 .f32) (harg3 : arg3.IsWhole)
  (arg4 : Memref sig .tc .vmem S1024x1024 .bf16) (harg4 : arg4.IsWhole)
  (arg5 : Memref sig .tc .vmem S1024x128 .f32) (harg5 : arg5.IsWhole)
  (arg6 : Memref sig .tc .vmem S1024x128 .f32) (harg6 : arg6.IsWhole)
  (arg7 : Memref sig .tc .vmem S2x1024 .f32) (harg7 : arg7.IsWhole)
  (arg8 : Memref sig .tc .vmem S256x256 .bf16) (harg8 : arg8.IsWhole)
  (arg9 : Memref sig .tc .vmem S256x256 .bf16) (harg9 : arg9.IsWhole)
  (arg10 : Memref sig .tc .vmem S1x4x256x1024 .bf16) (harg10 : arg10.IsWhole)
  (arg11 : Memref sig .tc .vmem S1024x1024 .bf16) (harg11 : arg11.IsWhole)
  (arg12 : Memref sig .tc .vmem S8x1024x128 .f32) (harg12 : arg12.IsWhole)
  (x0 : Vec Ideal S1024x1024 .f32) (x1 : Vec Ideal S1x1024 .f32) (x2 : Vec Ideal S1024x1024 .bf16) (x3 : Vec Ideal S1024x128 .f32) (x4 : Vec Ideal S1024x128 .f32) (x5 : Vec Ideal S2x1024 .f32) (x6 : Vec Ideal S256x256 .bf16) (x7 : Vec Ideal S256x256 .bf16)

theorem block_A (h0 : cond0_0 i) (h1 : cond0_1 i) (h2 : ¬cond0_2 i) :
    View.canon (runA c i arg2 harg2 arg3 harg3 arg4 harg4 arg5 harg5 arg6 harg6 arg7 harg7 arg8 harg8 arg9 harg9 arg10 harg10 arg11 harg11 arg12 harg12 x0 x1 x2 x3 x4 x5 x6 x7 h0 h1 h2).1 = parted (heads (Cert.Proj0Ideal.Gen.k0_pay2 (Cert.Proj0Ideal.Gen.k0_pay1 x0 x1) x2) x3 x4 (gainRow i h1 x5) x6 x7) := by
  refine funext fun y => View.canon_apply_of_pieces _ _ (View.PiecesOf.mem ?_) y (coverA10 c i arg2 harg2 arg3 harg3 arg4 harg4 arg5 harg5 arg6 harg6 arg7 harg7 arg8 harg8 arg9 harg9 arg10 harg10 arg11 harg11 arg12 harg12 x0 x1 x2 x3 x4 x5 x6 x7 h0 h1 h2 y)
  unfold runA
  dsimp only
  sl_unfold_words
  simp (disch := decide) only [View.canon_cons_unit_lit', View.ld_unit_lit', View.readCov_unit_lit', View.readCov_cons_unit_lit', View.readAt_eq_ld, Memref.IsWhole.read_unread, read_unread_whole]
  have part := part_apply arg12.view (heads (Cert.Proj0Ideal.Gen.k0_pay2 (Cert.Proj0Ideal.Gen.k0_pay1 x0 x1) x2) x3 x4 (gainRow i h1 x5) x6 x7)
  refine ⟨?_, ?_, ?_, ?_, trivial⟩ <;> exact part _ _ _ _ _ _ _ _ _ (by decide)

theorem block_B (h0 : ¬cond0_0 i) (h1 : cond0_1 i) (h2 : ¬cond0_2 i) (rows : Vec Ideal S1024x1024 .bf16) :
    View.canon (runB c i arg2 harg2 arg3 harg3 arg4 harg4 arg5 harg5 arg6 harg6 arg7 harg7 arg8 harg8 arg9 harg9 arg10 harg10 arg11 harg11 arg12 harg12 x0 x1 x2 x3 x4 x5 x6 x7 h0 h1 h2 rows).1 = parted (heads (Cert.Proj0Ideal.Gen.k0_pay2 rows x2) x3 x4 (gainRow i h1 x5) x6 x7) := by
  refine funext fun y => View.canon_apply_of_pieces _ _ (View.PiecesOf.mem ?_) y (coverB10 c i arg2 harg2 arg3 harg3 arg4 harg4 arg5 harg5 arg6 harg6 arg7 harg7 arg8 harg8 arg9 harg9 arg10 harg10 arg11 harg11 arg12 harg12 x0 x1 x2 x3 x4 x5 x6 x7 h0 h1 h2 rows y)
  unfold runB
  dsimp only
  sl_unfold_words
  simp (disch := decide) only [View.canon_cons_unit_lit', View.ld_unit_lit', View.readCov_unit_lit', View.readCov_cons_unit_lit', View.readAt_eq_ld, Memref.IsWhole.read_unread, read_unread_whole]
  have part := part_apply arg12.view (heads (Cert.Proj0Ideal.Gen.k0_pay2 rows x2) x3 x4 (gainRow i h1 x5) x6 x7)
  refine ⟨?_, ?_, ?_, ?_, trivial⟩ <;> exact part _ _ _ _ _ _ _ _ _ (by decide)

theorem block_C (h0 : ¬cond0_0 i) (h1 : ¬cond0_1 i) (h2 : cond0_2 i) (rows : Vec Ideal S1024x1024 .bf16) :
    View.canon (runC c i arg2 harg2 arg3 harg3 arg4 harg4 arg5 harg5 arg6 harg6 arg7 harg7 arg8 harg8 arg9 harg9 arg10 harg10 arg11 harg11 arg12 harg12 x0 x1 x2 x3 x4 x5 x6 x7 h0 h1 h2 rows).1 = parted (Cert.Proj0Ideal.Gen.k0_pay2 rows x2) := by
  refine funext fun y => View.canon_apply_of_pieces _ _ (View.PiecesOf.mem ?_) y (coverC10 c i arg2 harg2 arg3 harg3 arg4 harg4 arg5 harg5 arg6 harg6 arg7 harg7 arg8 harg8 arg9 harg9 arg10 harg10 arg11 harg11 arg12 harg12 x0 x1 x2 x3 x4 x5 x6 x7 h0 h1 h2 rows y)
  unfold runC
  dsimp only
  sl_unfold_words
  simp (disch := decide) only [View.canon_cons_unit_lit', View.ld_unit_lit', View.readCov_unit_lit', View.readCov_cons_unit_lit', View.readAt_eq_ld, Memref.IsWhole.read_unread, read_unread_whole]
  have part := part_apply arg12.view (Cert.Proj0Ideal.Gen.k0_pay2 rows x2)
  refine ⟨?_, ?_, ?_, ?_, trivial⟩ <;> exact part _ _ _ _ _ _ _ _ _ (by decide)

end Cert.Proj1Block

end
-- ==== Proof.Proj1Array.lean ====
/- The second projection's result, all of it, as a function of the arguments. -/
module

public import proofs.«01_k».proof.Proof.Proj1Block
public import proofs.«01_k».proof.Proof.ProjRows
public import Idealize.ShloMosaic.Lib.StableHlo.RunRead

@[expose] public section

set_option maxRecDepth 16384

noncomputable section

namespace Cert.Proj1Array

open Cert.Proj1Ideal Cert.Proj1Ideal.Gen Cert.Proj1IdealRun Cert.ProjMath Cert.ProjHead Cert.ProjTables Cert.ProjValue Cert.ProjRows Cert.Proj1Block Idealize.ShloMosaic
open Idealize.ShloMosaic.TcCoe Idealize.SL.Sem

/-- Where the blocks of a point lie. -/
theorem index_rel (t : Fin cfg0.N) :
    (win0_0.index t 0 = t.val / 3 ∧ win0_0.index t 1 = 0) ∧ (win0_1.index t 0 = 0 ∧ win0_1.index t 1 = 0)
    ∧ (win0_2.index t 0 = 0 ∧ win0_2.index t 1 = t.val % 3 * 3 + 1) ∧ (win0_3.index t 0 = t.val / 3 ∧ win0_3.index t 1 = 0)
    ∧ (win0_4.index t 0 = t.val / 3 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ win0_8.index t 0 = t.val / 6 ∧ win0_8.index t 1 = 0 ∧ win0_8.index t 2 = t.val / 3 % 2 ∧ win0_8.index t 3 = t.val % 3 :=
  by revert t; decide +kernel

theorem off_rel (t : Fin cfg0.N) : k0_off1 (grid0.coords t) 0 = t.val % 3 := by revert t; decide +kernel

variable (m : (ℓ : Loc nD τ sig) → Buf (Elt Ideal) ℓ)

/-! The host's arrays when the kernel is entered. -/

theorem mean_host (c : Dev nD) : V m c main_v68 = meanMat := by
  show StableHlo.after (List.flatten _) _ (Proc.devRef .tc _) = _
  after_reads_simp
  rfl

theorem turn_host (c : Dev nD) : V m c main_v64 = turnMat := by
  show StableHlo.after (List.flatten _) _ (Proc.devRef .tc _) = _
  after_reads_simp
  rfl

theorem gains_host (c : Dev nD) : V m c main_v36 = gains (m ((c : Thread nD τ).loc main_arg4)) (m ((c : Thread nD τ).loc main_arg5)) := by
  show StableHlo.after (List.flatten _) _ (Proc.devRef .tc _) = _
  after_reads_simp
  rfl

theorem weights_host (c : Dev nD) : V m c main_v25 = m ((c : Thread nD τ).loc main_arg2) := by
  show StableHlo.after (List.flatten _) _ (Proc.devRef .tc _) = _
  after_reads_simp
  rfl

theorem scale_host (c : Dev nD) (l : Fin 1024) : V m c main_v69 (ix2 (0 : Fin 1) l) = m ((c : Thread nD τ).loc main_arg1) (ix1 l) := by
  have e : V m c main_v69 = shapeCast S1x1024 (m ((c : Thread nD τ).loc main_arg1)) shapeCasts_S1024_S1x1024 := by
    show StableHlo.after (List.flatten _) _ (Proc.devRef .tc _) = _
    after_reads_simp
    rfl
  rw [e]
  generalize m ((c : Thread nD τ).loc main_arg1) = z
  pointwise

theorem cs_host (c : Dev nD) : V m c main_v23 = csTable (m ((c : Thread nD τ).loc main_arg3)) := by
  show StableHlo.after (List.flatten _) _ (Proc.devRef .tc _) = _
  after_reads_simp
  generalize hU : StableHlo.upto _ _ _ = U
  have e1 : U (Proc.devRef .tc main_v16) = Host.cos (angles (m ((c : Thread nD τ).loc main_arg3))) := by
    rw [← hU]
    after_reads_simp
    rfl
  have e2 : U (Proc.devRef .tc main_v18) = (broadcastInDim S16x2048x96 ![] bcast_S_S16x2048x96 (constant S_ .f32 0x3F800000#32) : FVec Ideal S16x2048x96 .f32) := by
    rw [← hU]
    after_reads_simp
  show table (U (Proc.devRef .tc main_v16)) (U (Proc.devRef .tc main_v16)) (U (Proc.devRef .tc main_v18)) = _
  rw [e1, e2]
  rfl

theorem sn_host (c : Dev nD) : V m c main_v24 = snTable (m ((c : Thread nD τ).loc main_arg3)) := by
  show StableHlo.after (List.flatten _) _ (Proc.devRef .tc _) = _
  after_reads_simp
  generalize hU : StableHlo.upto _ _ _ = U
  have e0 : U (Proc.devRef .tc main_v20) = Host.negf (Host.sin (angles (m ((c : Thread nD τ).loc main_arg3)))) := by
    rw [← hU]
    after_reads_simp
    rfl
  have e1 : U (Proc.devRef .tc main_v17) = Host.sin (angles (m ((c : Thread nD τ).loc main_arg3))) := by
    rw [← hU]
    after_reads_simp
    rfl
  have e2 : U (Proc.devRef .tc main_v21) = (broadcastInDim S16x2048x96 ![] bcast_S_S16x2048x96 (constant S_ .f32 0x00000000#32) : FVec Ideal S16x2048x96 .f32) := by
    rw [← hU]
    after_reads_simp
  show table (U (Proc.devRef .tc main_v20)) (U (Proc.devRef .tc main_v17)) (U (Proc.devRef .tc main_v21)) = _
  rw [e0, e1, e2]
  rfl

/-! The blocks of a point. -/

/-- A point's row `r`, among all the tokens. -/
def row (t : Fin cfg0.N) (r : Fin 1024) : Fin 32768 := ⟨t.val / 3 * 1024 + r.val, by have := t.isLt; have : cfg0.N = 96 := rfl; omega⟩

theorem rows_block (c : Dev nD) (t : Fin cfg0.N) (r l : Fin 1024) : iblk m c 0 t (ix2 r l) = m ((c : Thread nD τ).loc main_arg0) (ix2 (row t r) l) := by
  obtain ⟨⟨a0, a1⟩, -⟩ := index_rel t
  exact congrArg (m ((c : Thread nD τ).loc main_arg0)) (funext fun a => Fin.ext ((win0_0.rect_emb_val t (ix2 r l) a).trans
    (match a with
      | ⟨0, _⟩ => (by show win0_0.index t 0 * 1024 + r.val = t.val / 3 * 1024 + r.val; rw [a0])
      | ⟨1, _⟩ => (by show win0_0.index t 1 * 1024 + l.val = l.val; omega))))

theorem scale_block (c : Dev nD) (t : Fin cfg0.N) (l : Fin 1024) : iblk m c 1 t (ix2 (0 : Fin 1) l) = m ((c : Thread nD τ).loc main_arg1) (ix1 l) := by
  obtain ⟨-, ⟨a0, a1⟩, -⟩ := index_rel t
  exact (congrArg (V m c main_v69) (funext fun a => Fin.ext ((win0_1.rect_emb_val t (ix2 (0 : Fin 1) l) a).trans
    (match a with
      | ⟨0, _⟩ => (by show win0_1.index t 0 * 1 + 0 = 0; omega)
      | ⟨1, _⟩ => (by show win0_1.index t 1 * 1024 + l.val = l.val; omega)))) :
      V m c main_v69 (((cfg0.win 1).blk t).view.emb (ix2 (0 : Fin 1) l)) = V m c main_v69 (ix2 (0 : Fin 1) l)).trans (scale_host m c l)

theorem weights_block (c : Dev nD) (t : Fin cfg0.N) (part : Fin 3) (hp : part.val = t.val % 3) (k n : Fin 1024) :
    iblk m c 2 t (ix2 k n) = m ((c : Thread nD τ).loc main_arg2) (ix2 k (col 1 part n)) := by
  obtain ⟨-, -, ⟨a0, a1⟩, -⟩ := index_rel t
  rw [← weights_host m c]
  exact congrArg (V m c main_v25) (funext fun a => Fin.ext ((win0_2.rect_emb_val t (ix2 k n) a).trans
    (match a with
      | ⟨0, _⟩ => (by show win0_2.index t 0 * 1024 + k.val = k.val; omega)
      | ⟨1, _⟩ => (by show win0_2.index t 1 * 1024 + n.val = part.val * 3072 + 1 * 1024 + n.val; omega))))

theorem cs_block (c : Dev nD) (t : Fin cfg0.N) (r : Fin 1024) (d : Fin 128) :
    iblk m c 3 t (ix2 r d) = csTable (m ((c : Thread nD τ).loc main_arg3)) (ix2 (row t r) d) := by
  obtain ⟨-, -, -, ⟨a0, a1⟩, -⟩ := index_rel t
  rw [← cs_host m c]
  exact congrArg (V m c main_v23) (funext fun a => Fin.ext ((win0_3.rect_emb_val t (ix2 r d) a).trans
    (match a with
      | ⟨0, _⟩ => (by show win0_3.index t 0 * 1024 + r.val = t.val / 3 * 1024 + r.val; rw [a0])
      | ⟨1, _⟩ => (by show win0_3.index t 1 * 128 + d.val = d.val; omega))))

theorem sn_block (c : Dev nD) (t : Fin cfg0.N) (r : Fin 1024) (d : Fin 128) :
    iblk m c 4 t (ix2 r d) = snTable (m ((c : Thread nD τ).loc main_arg3)) (ix2 (row t r) d) := by
  obtain ⟨-, -, -, -, ⟨a0, a1⟩, -⟩ := index_rel t
  rw [← sn_host m c]
  exact congrArg (V m c main_v24) (funext fun a => Fin.ext ((win0_4.rect_emb_val t (ix2 r d) a).trans
    (match a with
      | ⟨0, _⟩ => (by show win0_4.index t 0 * 1024 + r.val = t.val / 3 * 1024 + r.val; rw [a0])
      | ⟨1, _⟩ => (by show win0_4.index t 1 * 128 + d.val = d.val; omega))))

theorem gains_block (c : Dev nD) (t : Fin cfg0.N) (h : k0_cond2 (grid0.coords t) = 1#1) (j : Fin 2) (hj : j.val = t.val % 3) (n : Fin 1024) :
    gainRow (grid0.coords t) h (iblk m c 5 t) (ix2 (0 : Fin 1) n)
      = gains (m ((c : Thread nD τ).loc main_arg4)) (m ((c : Thread nD τ).loc main_arg5)) (ix2 j n) := by
  obtain ⟨-, -, -, -, -, ⟨a0, a1⟩, -⟩ := index_rel t
  have ho := off_rel t
  rw [← gains_host m c]
  refine congrArg (V m c main_v36) (funext fun a => Fin.ext ((win0_5.rect_emb_val t _ a).trans
    (match a with
      | ⟨0, _⟩ => ?_
      | ⟨1, _⟩ => ?_)))
  · show win0_5.index t 0 * 2 + (k0_off1 (grid0.coords t) 0 + 1 * 0) = j.val
    omega
  · show win0_5.index t 1 * 1024 + (0 + 1 * n.val) = n.val
    omega

theorem mean_block (c : Dev nD) (t : Fin cfg0.N) (k j : Fin 256) : iblk m c 6 t (ix2 k j) = meanMat (ix2 k j) := by
  obtain ⟨-, -, -, -, -, -, ⟨a0, a1⟩, -⟩ := index_rel t
  rw [← mean_host m c]
  exact congrArg (V m c main_v68) (funext fun a => Fin.ext ((win0_6.rect_emb_val t (ix2 k j) a).trans
    (match a with
      | ⟨0, _⟩ => (by show win0_6.index t 0 * 256 + k.val = k.val; omega)
      | ⟨1, _⟩ => (by show win0_6.index t 1 * 256 + j.val = j.val; omega))))

theorem turn_block (c : Dev nD) (t : Fin cfg0.N) (k j : Fin 256) : iblk m c 7 t (ix2 k j) = turnMat (ix2 k j) := by
  obtain ⟨-, -, -, -, -, -, -, ⟨a0, a1⟩, -⟩ := index_rel t
  rw [← turn_host m c]
  exact congrArg (V m c main_v64) (funext fun a => Fin.ext ((win0_7.rect_emb_val t (ix2 k j) a).trans
    (match a with
      | ⟨0, _⟩ => (by show win0_7.index t 0 * 256 + k.val = k.val; omega)
      | ⟨1, _⟩ => (by show win0_7.index t 1 * 256 + j.val = j.val; omega))))

/-- The normalised rows of a point's tile. -/
theorem rowsAt_apply (c : Dev nD) (t : Fin cfg0.N) (r l : Fin 1024) :
    rowsAt m c t (ix2 r l) = DenseBlock.normed (fun l => m ((c : Thread nD τ).loc main_arg0) (ix2 (row t r) l))
      (fun l => m ((c : Thread nD τ).loc main_arg1) (ix1 l)) l := by
  have hr : row (first t) r = row t r := Fin.ext (by show t.val / 3 * 3 / 3 * 1024 + r.val = t.val / 3 * 1024 + r.val; omega)
  rw [← hr]
  refine (normed_apply (iblk m c 0 (first t)) (iblk m c 1 (first t)) r l).trans ?_
  exact congrArg₂ (fun u v => DenseBlock.normed u v l) (funext fun l => rows_block m c (first t) r l) (funext fun l => scale_block m c (first t) l)

/-- The queries' and the keys' columns, by rows as they come. -/
theorem turned_apply (c : Dev nD) (t : Fin cfg0.N) (h1 : t.val % 3 ≤ 1) (part : Fin 3) (hp : part.val = t.val % 3) (b : Fin 16) (s : Fin 2048) (r : Fin 1024)
    (hr : row t r = token b s) (n : Fin 1024) :
    heads (Cert.Proj0Ideal.Gen.k0_pay2 (rowsAt m c t) (iblk m c 2 t)) (iblk m c 3 t) (iblk m c 4 t) (gainRow (grid0.coords t) ((hcond0_1 t).mpr h1) (iblk m c 5 t))
        (iblk m c 6 t) (iblk m c 7 t) (ix2 r n)
      = value (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) 1 part b s n :=
  heads_row _ _ _ _ _ _ 1 part b s (row t r) hr (rowsAt m c t) (iblk m c 2 t) (iblk m c 3 t) (iblk m c 4 t) _ (iblk m c 6 t) (iblk m c 7 t) r
    (rowsAt_apply m c t r) (weights_block m c t part hp) ⟨t.val % 3, by omega⟩ hp.symm (cs_block m c t r) (sn_block m c t r) (gains_block m c t _ _ rfl)
    (mean_block m c t) (turn_block m c t) n

/-- What a point leaves at a place of its block. -/
theorem out_apply (c : Dev nD) (t : Fin cfg0.N) (part : Fin 3) (hp : part.val = t.val % 3) (b : Fin 16) (s : Fin 2048) (q : Fin 4) (y : Fin 256)
    (hr : row t ⟨y.val * 4 + q.val, by omega⟩ = token b s) (n : Fin 1024) :
    outAt m c t (ix4 (0 : Fin 1) q y n) = value (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) 1 part b s n := by
  unfold outAt
  split_ifs with h0 h2
  · rw [block_A]
    refine Eq.trans ?_ (turned_apply m c t (by omega) part hp b s _ hr n)
    unfold rowsAt
    rw [first_of t h0]
    rfl
  · rw [block_C]
    exact (product_row _ _ _ 1 part b s _ hr (rowsAt m c t) (iblk m c 2 t) _ (rowsAt_apply m c t _) (weights_block m c t part hp) n).trans
      (value_plain _ _ _ _ _ _ 1 part (hp.trans h2) b s n).symm
  · rw [block_B]
    exact turned_apply m c t (by omega) part hp b s _ hr n

/-- Where row `l` of part `k` comes from in its sequence. -/
def place (l : Fin 512) (k : Fin 4) : Fin 2048 := ⟨l.val * 4 + k.val, by omega⟩

theorem final (c : Dev nD) : (dats m 0 c).arrAt 8 cfg0.N
    = fun i => wide (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) 1 (i 0)
        (place (i 2) (i 1)) (i 3) := by
  refine (dats m 0 c).arrAt_eq_of_covers 8 _ (by decide +kernel) fun t hf y => ?_
  blk_simp
  rw [after_8]
  obtain ⟨-, -, -, -, -, -, -, -, g0, g1, g2, g3⟩ := index_rel t
  have e0 : ((win0_8.blk t).view.emb y 0).val = win0_8.index t 0 * 1 + (y 0).val := win0_8.rect_emb_val t y 0
  have e1 : ((win0_8.blk t).view.emb y 1).val = win0_8.index t 1 * 4 + (y 1).val := win0_8.rect_emb_val t y 1
  have e2 : ((win0_8.blk t).view.emb y 2).val = win0_8.index t 2 * 256 + (y 2).val := win0_8.rect_emb_val t y 2
  have e3 : ((win0_8.blk t).view.emb y 3).val = win0_8.index t 3 * 1024 + (y 3).val := win0_8.rect_emb_val t y 3
  generalize (win0_8.blk t).view.emb y = E at e0 e1 e2 e3 ⊢
  obtain ⟨q, hq⟩ : ∃ q : Fin 4, q = y 1 := ⟨_, rfl⟩
  obtain ⟨r, hr⟩ : ∃ r : Fin 256, r = y 2 := ⟨_, rfl⟩
  obtain ⟨n, hn⟩ : ∃ n : Fin 1024, n = y 3 := ⟨_, rfl⟩
  obtain ⟨b, hb⟩ : ∃ b : Fin 16, b = E 0 := ⟨_, rfl⟩
  obtain ⟨k, hk⟩ : ∃ k : Fin 4, k = E 1 := ⟨_, rfl⟩
  obtain ⟨l, hl⟩ : ∃ l : Fin 512, l = E 2 := ⟨_, rfl⟩
  obtain ⟨N, hN⟩ : ∃ N : Fin 3072, N = E 3 := ⟨_, rfl⟩
  have z0 : (y 0).val = 0 := by have : (y 0).val < 1 := (y 0).isLt; omega
  rw [show y = ix4 (0 : Fin 1) q r n from by
    rw [hq, hr, hn]
    refine (eq_ix4 y).trans ?_
    exact congrArg (fun u => ix4 u (y 1) (y 2) (y 3)) (Subsingleton.elim (α := Fin 1) _ _)]
  rw [← hb, ← hk, ← hl, ← hN]
  rw [← hb] at e0
  rw [← hq, ← hk] at e1
  rw [← hr, ← hl] at e2
  rw [← hn, ← hN] at e3
  have hrow : row t ⟨r.val * 4 + q.val, by omega⟩ = token b (place l k) :=
    Fin.ext (by show t.val / 3 * 1024 + (r.val * 4 + q.val) = b.val * 2048 + (l.val * 4 + k.val); omega)
  rw [out_apply m c t ⟨t.val % 3, by omega⟩ rfl b _ q r hrow n]
  exact (wide_eq _ _ _ _ _ _ 1 _ b _ n N (by show N.val = t.val % 3 * 1024 + n.val; omega)).symm

end Cert.Proj1Array

end
-- ==== Proof.Proj1Reference.lean ====
/- The second plain projection's result read at one of its places. -/
module

public import proofs.«01_k».proof.Proof.ProjReference
public import proofs.«01_k».proof.Proof.Proj1Array
public import proofs.«01_k».proof.Proof.Gen.Proj1RefIdeal.Read

@[expose] public section

set_option maxRecDepth 16384

noncomputable section

namespace Cert.Proj1Reference

open Idealize.ShloMosaic Cert.Proj1RefIdeal Cert.Proj1RefIdeal.Gen Cert.Proj1RefIdeal.Read Cert.ProjMath Cert.ProjValue Cert.ProjReference
open Cert.Proj1Array (place)

variable (x : (⟨S32768x1024, .f32⟩ : BufTy).Contents (Elt Ideal)) (ln : (⟨S1024, .f32⟩ : BufTy).Contents (Elt Ideal))
  (w : (⟨S1024x9216, .f32⟩ : BufTy).Contents (Elt Ideal)) (p : (⟨S16x2048, .i32⟩ : BufTy).Contents (Elt Ideal))
  (gq gk : (⟨S128, .f32⟩ : BufTy).Contents (Elt Ideal))

/-- Queries, keys and values laid side by side. -/
def laid (a b v : FVec Ideal S32768x8x128 .f32) : FVec Ideal S16x4x512x3072 .bf16 :=
  truncf .bf16 (concatenate S16x4x512x3072 3
    [⟨S16x4x512x1024, transpose S16x4x512x1024 [0, 2, 1, 3] (shapeCast S16x512x4x1024 a shapeCasts_S32768x8x128_S16x512x4x1024)
        transposes_S16x512x4x1024_S16x4x512x1024_0_2_1_3⟩,
      ⟨S16x4x512x1024, transpose S16x4x512x1024 [0, 2, 1, 3] (shapeCast S16x512x4x1024 b shapeCasts_S32768x8x128_S16x512x4x1024)
        transposes_S16x512x4x1024_S16x4x512x1024_0_2_1_3⟩,
      ⟨S16x4x512x1024, transpose S16x4x512x1024 [0, 2, 1, 3] (shapeCast S16x512x4x1024 v shapeCasts_S32768x8x128_S16x512x4x1024)
        transposes_S16x512x4x1024_S16x4x512x1024_0_2_1_3⟩]
    concatenates_S16x4x512x1024_S16x4x512x1024_S16x4x512x1024_S16x4x512x3072_d3) bitsLt_bf16_f32

theorem laid_apply (a b v : FVec Ideal S32768x8x128 .f32) (s : Fin 16) (q : Fin 4) (l : Fin 512) (part : Fin 3) (n : Fin 1024) :
    laid a b v (ix4 s q l (⟨part.val * 1024 + n.val, by omega⟩ : Fin 3072))
      = (if part.val = 0 then a else if part.val = 1 then b else v) (ix3 (token s (place l q)) ⟨n.val / 128, by omega⟩ ⟨n.val % 128, by omega⟩) := by
  have same : ∀ (z : FVec Ideal S32768x8x128 .f32) (k : Fin 1024), k.val = n.val →
      shapeCast S16x512x4x1024 z shapeCasts_S32768x8x128_S16x512x4x1024 (ix4 s l q k) = z (ix3 (token s (place l q)) ⟨n.val / 128, by omega⟩ ⟨n.val % 128, by omega⟩) := fun z k hk => by
    rw [show k = n from Fin.ext hk]
    refine shapeCast_apply z _ _ _ ?_
    rw [Shape.rowMajor_val_three, Shape.rowMajor_val_four]
    show ((s.val * 2048 + (l.val * 4 + q.val)) * 8 + n.val / 128) * 128 + n.val % 128 = ((s.val * 512 + l.val) * 4 + q.val) * 1024 + n.val
    omega
  have ha := same a
  have hb := same b
  have hv := same v
  unfold laid
  generalize shapeCast S16x512x4x1024 a shapeCasts_S32768x8x128_S16x512x4x1024 = za at ha ⊢
  generalize shapeCast S16x512x4x1024 b shapeCasts_S32768x8x128_S16x512x4x1024 = zb at hb ⊢
  generalize shapeCast S16x512x4x1024 v shapeCasts_S32768x8x128_S16x512x4x1024 = zv at hv ⊢
  pointwise
  match part with
  | ⟨0, _⟩ =>
    rw [dif_pos (show 0 * 1024 + n.val < 1024 by omega)]
    exact ha _ (by show 0 * 1024 + n.val = n.val; omega)
  | ⟨1, _⟩ =>
    rw [dif_neg (show ¬1 * 1024 + n.val < 1024 by omega), dif_pos (show 1 * 1024 + n.val - 1024 < 1024 by omega)]
    exact hb _ (by show 1 * 1024 + n.val - 1024 = n.val; omega)
  | ⟨2, _⟩ =>
    rw [dif_neg (show ¬2 * 1024 + n.val < 1024 by omega), dif_neg (show ¬2 * 1024 + n.val - 1024 < 1024 by omega)]
    exact hv _ (by show 2 * 1024 + n.val - 1024 - 1024 = n.val; omega)

theorem value_apply (s : Fin 16) (q : Fin 4) (l : Fin 512) (N : Fin 3072) :
    val_main_v107 (F := Ideal) x ln w p gq gk (ix4 s q l N) = wide x ln w p gq gk 1 s (place l q) N := by
  obtain ⟨part, n, h⟩ : ∃ (part : Fin 3) (n : Fin 1024), N.val = part.val * 1024 + n.val :=
    ⟨⟨N.val / 1024, by omega⟩, ⟨N.val % 1024, by omega⟩, by show N.val = N.val / 1024 * 1024 + N.val % 1024; omega⟩
  rw [wide_eq x ln w p gq gk 1 part s (place l q) n N h, show N = ⟨part.val * 1024 + n.val, by omega⟩ from Fin.ext h]
  have hq : ∀ T h d, val_main_v35 (F := Ideal) x ln w (ix3 T h d) = product x ln w T (col 1 0 (headCol h d)) := fun T h d =>
    (picked_apply 1 0 slices_S32768x3x3x8x128_S32768x1x1x8x128_0_0_1_0_0 (val_main_v32 (F := Ideal) x ln w) T h d).trans (ProjReference.product_apply x ln w T _)
  have hk : ∀ T h d, val_main_v68 (F := Ideal) x ln w (ix3 T h d) = product x ln w T (col 1 1 (headCol h d)) := fun T h d =>
    (picked_apply 1 1 slices_S32768x3x3x8x128_S32768x1x1x8x128_0_1_1_0_0 (val_main_v32 (F := Ideal) x ln w) T h d).trans (ProjReference.product_apply x ln w T _)
  have hv : ∀ T h d, val_main_v99 (F := Ideal) x ln w (ix3 T h d) = product x ln w T (col 1 2 (headCol h d)) := fun T h d =>
    (picked_apply 1 2 slices_S32768x3x3x8x128_S32768x1x1x8x128_0_2_1_0_0 (val_main_v32 (F := Ideal) x ln w) T h d).trans (ProjReference.product_apply x ln w T _)
  have e : val_main_v107 (F := Ideal) x ln w p gq gk = laid (queries p (val_main_v35 (F := Ideal) x ln w) gq)
      (keys p (val_main_v68 (F := Ideal) x ln w) gk) (val_main_v99 (F := Ideal) x ln w) := rfl
  rw [e, laid_apply]
  exact part_value x ln w p gq gk 1 part _ _ _ s (place l q) (hq _) (hk _) (hv _) n

end Cert.Proj1Reference

end
-- ==== Proof.Proj1Claims.lean ====
/- The claims about the projection to the second group's queries, keys and values: the two results agree. -/
module

public import proofs.«01_k».proof.Defs
public import proofs.«01_k».proof.Proof.Proj1Array
public import proofs.«01_k».proof.Proof.Proj1Reference
public import proofs.«01_k».proof.Proof.Proj1Frame
public import proofs.«01_k».proof.Proof.Gen.Proj1RefIdeal.Run

@[expose] public section

set_option maxRecDepth 16384

noncomputable section

namespace Cert.Proj1Claims

open Idealize.ShloMosaic Idealize.SL.Sem

theorem frame : Cert.quiescent_Proj1 := fun m ρ _ => Cert.Proj1Run.frame m ρ

theorem frame_ideal : Cert.quiescent_Proj1Ideal := fun m ρ _ => Cert.Proj1IdealRun.frame m ρ

theorem frame_ref : Cert.quiescent_Proj1RefIdeal := fun m ρ _ =>
  (θ_run Cert.Proj1RefIdeal.defs _ _).mono (fun r h => ⟨fun c => (h c).2, sem_eq_zero_of_no_sems (by decide) r.2⟩)
    (Cert.Proj1RefIdeal.Value.run (F := Ideal) m ρ)

theorem preserves : Cert.preserves_Proj1_Proj1Ideal := trivial

/-- The kernel's entries are the reference's. -/
theorem wide_eq (x : (⟨Cert.Proj1RefIdeal.S32768x1024, .f32⟩ : BufTy).Contents (Elt Ideal))
    (ln : (⟨Cert.Proj1RefIdeal.S1024, .f32⟩ : BufTy).Contents (Elt Ideal))
    (w : (⟨Cert.Proj1RefIdeal.S1024x9216, .f32⟩ : BufTy).Contents (Elt Ideal))
    (p : (⟨Cert.Proj1RefIdeal.S16x2048, .i32⟩ : BufTy).Contents (Elt Ideal))
    (gq gk : (⟨Cert.Proj1RefIdeal.S128, .f32⟩ : BufTy).Contents (Elt Ideal)) :
    (fun i => ProjValue.wide x ln w p gq gk 1 (i 0) (Proj1Array.place (i 2) (i 1)) (i 3)) = Cert.Proj1RefIdeal.Read.val_main_v107 (F := Ideal) x ln w p gq gk := by
  funext i
  refine Eq.trans ?_ (congrArg (Cert.Proj1RefIdeal.Read.val_main_v107 (F := Ideal) x ln w p gq gk) (eq_ix4 i)).symm
  exact (Proj1Reference.value_apply x ln w p gq gk (i 0) (i 1) (i 2) (i 3)).symm

theorem algebraic : Cert.algebraic_Proj1Ideal_Proj1RefIdeal := by
  intro m ρ m' ρ' _ hagree
  refine ⟨fun c => (Cert.Proj1IdealRun.dats m 0 c).arrAt 8 Cert.Proj1Ideal.cfg0.N, Cert.Proj1IdealRun.run_blocks m ρ, ?_⟩
  have e : ∀ c : Dev Cert.Proj1Ideal.nD, Cert.Proj1RefIdeal.Read.val_main_v107 (F := Ideal)
      (m' ((c.tc : Thread Cert.Proj1RefIdeal.nD Cert.Proj1RefIdeal.τ).loc Cert.Proj1RefIdeal.main_arg0))
      (m' ((c.tc : Thread Cert.Proj1RefIdeal.nD Cert.Proj1RefIdeal.τ).loc Cert.Proj1RefIdeal.main_arg1))
      (m' ((c.tc : Thread Cert.Proj1RefIdeal.nD Cert.Proj1RefIdeal.τ).loc Cert.Proj1RefIdeal.main_arg2))
      (m' ((c.tc : Thread Cert.Proj1RefIdeal.nD Cert.Proj1RefIdeal.τ).loc Cert.Proj1RefIdeal.main_arg3))
      (m' ((c.tc : Thread Cert.Proj1RefIdeal.nD Cert.Proj1RefIdeal.τ).loc Cert.Proj1RefIdeal.main_arg4))
      (m' ((c.tc : Thread Cert.Proj1RefIdeal.nD Cert.Proj1RefIdeal.τ).loc Cert.Proj1RefIdeal.main_arg5))
      = (Cert.Proj1IdealRun.dats m 0 c).arrAt 8 Cert.Proj1Ideal.cfg0.N := fun c => by
    rw [(hagree c).1, (hagree c).2.1, (hagree c).2.2.1, (hagree c).2.2.2.1, (hagree c).2.2.2.2.1, (hagree c).2.2.2.2.2]
    exact ((Proj1Array.final m c).trans (wide_eq _ _ _ _ _ _)).symm
  exact (θ_run Cert.Proj1RefIdeal.defs _ _).mono
    (fun _ h c => ⟨(h c).1.trans ((Cert.Proj1RefIdeal.Read.val_main_v107_eq _ _).trans (e c)), (h c).2⟩)
    (Cert.Proj1RefIdeal.Value.run (F := Ideal) m' ρ')

end Cert.Proj1Claims

end
-- ==== Proof.Proj2IdealRunA.lean ====
/- The body of the third projection run at one of the three points of a tile of rows. -/
module

public import proofs.«01_k».proof.Proof.Gen.Proj2Ideal.Frame.Runs

@[expose] public section

set_option maxRecDepth 16384

noncomputable section

namespace Cert.Proj2IdealRun

open Cert.Proj2Ideal Cert.Proj2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1024x1024 .f32) (harg2 : arg2.IsWhole)
  (arg3 : Memref sig .tc .vmem S1x1024 .f32) (harg3 : arg3.IsWhole)
  (arg4 : Memref sig .tc .vmem S1024x1024 .bf16) (harg4 : arg4.IsWhole)
  (arg5 : Memref sig .tc .vmem S1024x128 .f32) (harg5 : arg5.IsWhole)
  (arg6 : Memref sig .tc .vmem S1024x128 .f32) (harg6 : arg6.IsWhole)
  (arg7 : Memref sig .tc .vmem S2x1024 .f32) (harg7 : arg7.IsWhole)
  (arg8 : Memref sig .tc .vmem S256x256 .bf16) (harg8 : arg8.IsWhole)
  (arg9 : Memref sig .tc .vmem S256x256 .bf16) (harg9 : arg9.IsWhole)
  (arg10 : Memref sig .tc .vmem S1x16x64x1024 .bf16) (harg10 : arg10.IsWhole)
  (arg11 : Memref sig .tc .vmem S1024x1024 .bf16) (harg11 : arg11.IsWhole)
  (arg12 : Memref sig .tc .vmem S8x1024x128 .f32) (harg12 : arg12.IsWhole)
  (x0 : Vec F S1024x1024 .f32) (x1 : Vec F S1x1024 .f32) (x2 : Vec F S1024x1024 .bf16) (x3 : Vec F S1024x128 .f32) (x4 : Vec F S1024x128 .f32) (x5 : Vec F S2x1024 .f32) (x6 : Vec F S256x256 .bf16) (x7 : Vec F S256x256 .bf16)

set_option maxHeartbeats 1000000 in
/-- The queries: the rows are normalised and left for the next points, and the result's block is stored. -/
def runA (h0 : cond0_0 i) (h1 : cond0_1 i) (h2 : ¬cond0_2 i) :
    Σ' (L10 : List (View.Piece (Elt F) S1x16x64x1024 .bf16)), { L11 : List (View.Piece (Elt F) S1024x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ d, owns (c : Thread nD τ) arg12 fullShare d)) -∗ K ⟨⟩))
          ⊢ wp frame (wpE (defs₀ (F := F)) Variants.none c none) E (cc0_qkv_projection_g2 i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0_qkv_projection_g2_eq_skeleton]; unfold cc0_qkv_projection_g2_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | sl_exact h0 | sl_exact h1 | sl_exact h2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]; · iexists _; iexact H11
    iexists _, _; isplitr; swap; · iexact H12
    ipureintro; rfl

end Cert.Proj2IdealRun

end
-- ==== Proof.Proj2IdealRunB.lean ====
/- The body of the third projection run at one of the three points of a tile of rows. -/
module

public import proofs.«01_k».proof.Proof.Gen.Proj2Ideal.Frame.Runs

@[expose] public section

set_option maxRecDepth 16384

noncomputable section

namespace Cert.Proj2IdealRun

open Cert.Proj2Ideal Cert.Proj2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1024x1024 .f32) (harg2 : arg2.IsWhole)
  (arg3 : Memref sig .tc .vmem S1x1024 .f32) (harg3 : arg3.IsWhole)
  (arg4 : Memref sig .tc .vmem S1024x1024 .bf16) (harg4 : arg4.IsWhole)
  (arg5 : Memref sig .tc .vmem S1024x128 .f32) (harg5 : arg5.IsWhole)
  (arg6 : Memref sig .tc .vmem S1024x128 .f32) (harg6 : arg6.IsWhole)
  (arg7 : Memref sig .tc .vmem S2x1024 .f32) (harg7 : arg7.IsWhole)
  (arg8 : Memref sig .tc .vmem S256x256 .bf16) (harg8 : arg8.IsWhole)
  (arg9 : Memref sig .tc .vmem S256x256 .bf16) (harg9 : arg9.IsWhole)
  (arg10 : Memref sig .tc .vmem S1x16x64x1024 .bf16) (harg10 : arg10.IsWhole)
  (arg11 : Memref sig .tc .vmem S1024x1024 .bf16) (harg11 : arg11.IsWhole)
  (arg12 : Memref sig .tc .vmem S8x1024x128 .f32) (harg12 : arg12.IsWhole)
  (x0 : Vec F S1024x1024 .f32) (x1 : Vec F S1x1024 .f32) (x2 : Vec F S1024x1024 .bf16) (x3 : Vec F S1024x128 .f32) (x4 : Vec F S1024x128 .f32) (x5 : Vec F S2x1024 .f32) (x6 : Vec F S256x256 .bf16) (x7 : Vec F S256x256 .bf16)

set_option maxHeartbeats 1000000 in
/-- The keys: the result's block is stored, from the rows that the first point normalised. -/
def runB (h0 : ¬cond0_0 i) (h1 : cond0_1 i) (h2 : ¬cond0_2 i) (rows : Vec F S1024x1024 .bf16) :
    { L10 : List (View.Piece (Elt F) S1x16x64x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare rows ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L10) ∗ owns (c : Thread nD τ) arg11 fullShare rows ∗ (∃ d, owns (c : Thread nD τ) arg12 fullShare d)) -∗ K ⟨⟩))
          ⊢ wp frame (wpE (defs₀ (F := F)) Variants.none c none) E (cc0_qkv_projection_g2 i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0_qkv_projection_g2_eq_skeleton]; unfold cc0_qkv_projection_g2_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%d12, %f12, -, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11
    sl_exec (disch := first | sl_exact h0 | sl_exact h1 | sl_exact h2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]
    · iexists _; isplitr; · ipureintro; exact harg11.read_unread _
      iexact H11
    iexists _, _; isplitr; swap; · iexact H12
    ipureintro; rfl

end Cert.Proj2IdealRun

end
-- ==== Proof.Proj2IdealRunC.lean ====
/- The body of the third projection run at one of the three points of a tile of rows. -/
module

public import proofs.«01_k».proof.Proof.Gen.Proj2Ideal.Frame.Runs

@[expose] public section

set_option maxRecDepth 16384

noncomputable section

namespace Cert.Proj2IdealRun

open Cert.Proj2Ideal Cert.Proj2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1024x1024 .f32) (harg2 : arg2.IsWhole)
  (arg3 : Memref sig .tc .vmem S1x1024 .f32) (harg3 : arg3.IsWhole)
  (arg4 : Memref sig .tc .vmem S1024x1024 .bf16) (harg4 : arg4.IsWhole)
  (arg5 : Memref sig .tc .vmem S1024x128 .f32) (harg5 : arg5.IsWhole)
  (arg6 : Memref sig .tc .vmem S1024x128 .f32) (harg6 : arg6.IsWhole)
  (arg7 : Memref sig .tc .vmem S2x1024 .f32) (harg7 : arg7.IsWhole)
  (arg8 : Memref sig .tc .vmem S256x256 .bf16) (harg8 : arg8.IsWhole)
  (arg9 : Memref sig .tc .vmem S256x256 .bf16) (harg9 : arg9.IsWhole)
  (arg10 : Memref sig .tc .vmem S1x16x64x1024 .bf16) (harg10 : arg10.IsWhole)
  (arg11 : Memref sig .tc .vmem S1024x1024 .bf16) (harg11 : arg11.IsWhole)
  (arg12 : Memref sig .tc .vmem S8x1024x128 .f32) (harg12 : arg12.IsWhole)
  (x0 : Vec F S1024x1024 .f32) (x1 : Vec F S1x1024 .f32) (x2 : Vec F S1024x1024 .bf16) (x3 : Vec F S1024x128 .f32) (x4 : Vec F S1024x128 .f32) (x5 : Vec F S2x1024 .f32) (x6 : Vec F S256x256 .bf16) (x7 : Vec F S256x256 .bf16)

set_option maxHeartbeats 1000000 in
/-- The values: the result's block is the products, from the rows that the first point normalised. -/
def runC (h0 : ¬cond0_0 i) (h1 : ¬cond0_1 i) (h2 : cond0_2 i) (rows : Vec F S1024x1024 .bf16) :
    { L10 : List (View.Piece (Elt F) S1x16x64x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare rows ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L10) ∗ owns (c : Thread nD τ) arg11 fullShare rows ∗ (∃ d, owns (c : Thread nD τ) arg12 fullShare d)) -∗ K ⟨⟩))
          ⊢ wp frame (wpE (defs₀ (F := F)) Variants.none c none) E (cc0_qkv_projection_g2 i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0_qkv_projection_g2_eq_skeleton]; unfold cc0_qkv_projection_g2_skel
    simp only [k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%d12, %f12, -, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11
    sl_exec (disch := first | sl_exact h0 | sl_exact h1 | sl_exact h2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]
    · iexists _; isplitr; · ipureintro; exact harg11.read_unread _
      iexact H11
    iexists _, _; isplitr; swap; · iexact H12
    ipureintro; rfl

end Cert.Proj2IdealRun

end
-- ==== Proof.Proj2IdealFrame.lean ====
/- The third projection's run: what its buffers hold at each point, and the frame. -/
module

public import proofs.«01_k».proof.Proof.Proj2IdealRunA
public import proofs.«01_k».proof.Proof.Proj2IdealRunB
public import proofs.«01_k».proof.Proof.Proj2IdealRunC
public import Idealize.ShloMosaic.Lib.Claim
public import Idealize.ShloMosaic.Lib.Pipeline.ValueKit

@[expose] public section

set_option maxRecDepth 16384

noncomputable section

namespace Cert.Proj2IdealRun

open Cert.Proj2Ideal Cert.Proj2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1024x1024 .f32) (harg2 : arg2.IsWhole)
  (arg3 : Memref sig .tc .vmem S1x1024 .f32) (harg3 : arg3.IsWhole)
  (arg4 : Memref sig .tc .vmem S1024x1024 .bf16) (harg4 : arg4.IsWhole)
  (arg5 : Memref sig .tc .vmem S1024x128 .f32) (harg5 : arg5.IsWhole)
  (arg6 : Memref sig .tc .vmem S1024x128 .f32) (harg6 : arg6.IsWhole)
  (arg7 : Memref sig .tc .vmem S2x1024 .f32) (harg7 : arg7.IsWhole)
  (arg8 : Memref sig .tc .vmem S256x256 .bf16) (harg8 : arg8.IsWhole)
  (arg9 : Memref sig .tc .vmem S256x256 .bf16) (harg9 : arg9.IsWhole)
  (arg10 : Memref sig .tc .vmem S1x16x64x1024 .bf16) (harg10 : arg10.IsWhole)
  (arg11 : Memref sig .tc .vmem S1024x1024 .bf16) (harg11 : arg11.IsWhole)
  (arg12 : Memref sig .tc .vmem S8x1024x128 .f32) (harg12 : arg12.IsWhole)
  (x0 : Vec F S1024x1024 .f32) (x1 : Vec F S1x1024 .f32) (x2 : Vec F S1024x1024 .bf16) (x3 : Vec F S1024x128 .f32) (x4 : Vec F S1024x128 .f32) (x5 : Vec F S2x1024 .f32) (x6 : Vec F S256x256 .bf16) (x7 : Vec F S256x256 .bf16)

/-! The stores of a point cover the buffers they go to. -/

theorem coverA10 (h0 : cond0_0 i) (h1 : cond0_1 i) (h2 : ¬cond0_2 i) (y : S1x16x64x1024.Idx) : ∃ pc ∈ (runA c i arg2 harg2 arg3 harg3 arg4 harg4 arg5 harg5 arg6 harg6 arg7 harg7 arg8 harg8 arg9 harg9 arg10 harg10 arg11 harg11 arg12 harg12 x0 x1 x2 x3 x4 x5 x6 x7 h0 h1 h2).1, y ∈ pc.1.set :=
  View.cover_of_tiledL (runA c i arg2 harg2 arg3 harg3 arg4 harg4 arg5 harg5 arg6 harg6 arg7 harg7 arg8 harg8 arg9 harg9 arg10 harg10 arg11 harg11 arg12 harg12 x0 x1 x2 x3 x4 x5 x6 x7 h0 h1 h2).1 S1x1x64x1024.size (by sl_kernel_rfl) y

theorem coverA11 (h0 : cond0_0 i) (h1 : cond0_1 i) (h2 : ¬cond0_2 i) (y : S1024x1024.Idx) : ∃ pc ∈ (runA c i arg2 harg2 arg3 harg3 arg4 harg4 arg5 harg5 arg6 harg6 arg7 harg7 arg8 harg8 arg9 harg9 arg10 harg10 arg11 harg11 arg12 harg12 x0 x1 x2 x3 x4 x5 x6 x7 h0 h1 h2).2.1, y ∈ pc.1.set :=
  View.cover_of_tiledL (runA c i arg2 harg2 arg3 harg3 arg4 harg4 arg5 harg5 arg6 harg6 arg7 harg7 arg8 harg8 arg9 harg9 arg10 harg10 arg11 harg11 arg12 harg12 x0 x1 x2 x3 x4 x5 x6 x7 h0 h1 h2).2.1 S1024x1024.size (by sl_kernel_rfl) y

theorem coverB10 (h0 : ¬cond0_0 i) (h1 : cond0_1 i) (h2 : ¬cond0_2 i) (rows : Vec F S1024x1024 .bf16) (y : S1x16x64x1024.Idx) : ∃ pc ∈ (runB c i arg2 harg2 arg3 harg3 arg4 harg4 arg5 harg5 arg6 harg6 arg7 harg7 arg8 harg8 arg9 harg9 arg10 harg10 arg11 harg11 arg12 harg12 x0 x1 x2 x3 x4 x5 x6 x7 h0 h1 h2 rows).1, y ∈ pc.1.set :=
  View.cover_of_tiledL (runB c i arg2 harg2 arg3 harg3 arg4 harg4 arg5 harg5 arg6 harg6 arg7 harg7 arg8 harg8 arg9 harg9 arg10 harg10 arg11 harg11 arg12 harg12 x0 x1 x2 x3 x4 x5 x6 x7 h0 h1 h2 rows).1 S1x1x64x1024.size (by sl_kernel_rfl) y

theorem coverC10 (h0 : ¬cond0_0 i) (h1 : ¬cond0_1 i) (h2 : cond0_2 i) (rows : Vec F S1024x1024 .bf16) (y : S1x16x64x1024.Idx) : ∃ pc ∈ (runC c i arg2 harg2 arg3 harg3 arg4 harg4 arg5 harg5 arg6 harg6 arg7 harg7 arg8 harg8 arg9 harg9 arg10 harg10 arg11 harg11 arg12 harg12 x0 x1 x2 x3 x4 x5 x6 x7 h0 h1 h2 rows).1, y ∈ pc.1.set :=
  View.cover_of_tiledL (runC c i arg2 harg2 arg3 harg3 arg4 harg4 arg5 harg5 arg6 harg6 arg7 harg7 arg8 harg8 arg9 harg9 arg10 harg10 arg11 harg11 arg12 harg12 x0 x1 x2 x3 x4 x5 x6 x7 h0 h1 h2 rows).1 S1x1x64x1024.size (by sl_kernel_rfl) y

theorem storedA11 (h0 : cond0_0 i) (h1 : cond0_1 i) (h2 : ¬cond0_2 i) : View.canon (runA c i arg2 harg2 arg3 harg3 arg4 harg4 arg5 harg5 arg6 harg6 arg7 harg7 arg8 harg8 arg9 harg9 arg10 harg10 arg11 harg11 arg12 harg12 x0 x1 x2 x3 x4 x5 x6 x7 h0 h1 h2).2.1 = k0_pay1 x0 x1 := by
  unfold runA
  dsimp only
  sl_unfold_words
  simp (disch := decide) only [View.canon_cons_unit_lit', View.ld_unit_lit', View.readCov_unit_lit', View.readCov_cons_unit_lit', View.readAt_eq_ld, Memref.IsWhole.read_unread]
  try rfl

variable (m : (ℓ : Loc nD τ sig) → Buf (Elt F) ℓ) (ρ : Dev nD → PrngReg)

/-! ## What the buffers hold -/

/-- The first point of `t`'s tile of rows. -/
def first (t : Fin cfg0.N) : Fin cfg0.N := ⟨t.val / 3 * 3, lt_of_le_of_lt (Nat.div_mul_le_self _ _) t.isLt⟩

theorem first_of (t : Fin cfg0.N) (h : t.val % 3 = 0) : first t = t := Fin.ext (by show t.val / 3 * 3 = t.val; omega)

/-- The normalised rows of `t`'s tile. -/
def rowsAt (c : Dev nD) (t : Fin cfg0.N) : Vec F S1024x1024 .bf16 := k0_pay1 (iblk m c 0 (first t)) (iblk m c 1 (first t))

/-- The run at a tile's first point, over its blocks. -/
abbrev pointA (c : Dev nD) (t : Fin cfg0.N) (h0 : t.val % 3 = 0) :=
  runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) ((hcond0_0 t).mpr h0) ((hcond0_1 t).mpr (by omega)) (fun h => absurd ((hcond0_2 t).mp h) (by omega))

/-- The run at its second. -/
abbrev pointB (c : Dev nD) (t : Fin cfg0.N) (h0 : ¬t.val % 3 = 0) (h2 : ¬t.val % 3 = 2) :=
  runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (fun h => h0 ((hcond0_0 t).mp h)) ((hcond0_1 t).mpr (by omega)) (fun h => h2 ((hcond0_2 t).mp h)) (rowsAt m c t)

/-- The run at its third. -/
abbrev pointC (c : Dev nD) (t : Fin cfg0.N) (h0 : ¬t.val % 3 = 0) (h2 : t.val % 3 = 2) :=
  runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (fun h => h0 ((hcond0_0 t).mp h)) (fun h => absurd ((hcond0_1 t).mp h) (by omega)) ((hcond0_2 t).mpr h2) (rowsAt m c t)

/-- The result's block after point `t`. -/
def outAt (c : Dev nD) (t : Fin cfg0.N) : Vec F S1x16x64x1024 .bf16 :=
  if h0 : t.val % 3 = 0 then
    View.canon (pointA m c t h0).1
  else if h2 : t.val % 3 = 2 then
    View.canon (pointC m c t h0 h2).1
  else
    View.canon (pointB m c t h0 h2).1

/-- What the rows' buffer holds before position `n`, but before a tile's first point. -/
def Carried (c : Dev nD) (n : ℕ) (d : Vec F S1024x1024 .bf16) : Prop := ∀ t : Fin cfg0.N, n = t.val → t.val % 3 ≠ 0 → d = rowsAt m c t

/-- A tile's points find the rows that its first leaves. -/
theorem carried_first (c : Dev nD) (t : Fin cfg0.N) (h : t.val % 3 = 0) : Carried m c (t.val + 1) (k0_pay1 (iblk m c 0 t) (iblk m c 1 t)) := fun t' e _ => by
  unfold rowsAt
  rw [show first t' = t from Fin.ext (by show t'.val / 3 * 3 = t.val; omega)]

theorem carried_next (c : Dev nD) (t : Fin cfg0.N) : Carried m c (t.val + 1) (rowsAt m c t) := fun t' e h => by
  unfold rowsAt
  rw [show first t' = first t from Fin.ext (by show t'.val / 3 * 3 = t.val / 3 * 3; omega)]

/-- The invariant before position `n`. -/
def Inv (c : Dev nD) (n : ℕ) : sProp 𝕄 :=
  iprop(iprop((∃ d : Vec F S1024x1024 .bf16, ⌜Carried m c n d⌝ ∗ owns (c : Thread nD τ) scM0_0 fullShare d) ∗ (∃ d, owns (c : Thread nD τ) scM0_1 fullShare d)) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ t := Inv m c t.val
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem bef_0 (c : Dev nD) (t : Fin cfg0.N) (d) : (dats m 0 c).before 0 t d = iblk m c 0 t := before0_0_of m (dats m 0 c) (A_eq m c 0) (after_0 m c) t d
theorem leaves_0 (c : Dev nD) (t : Fin cfg0.N) : (dats m 0 c).leavesExact 0 t = owns (c : Thread nD τ) (ms0_0 t) fullShare (iblk m c 0 t) := by
  unfold Dat.leavesExact; rw [liveAt0_0 t, after_0]
theorem after_1 (c : Dev nD) (t : Fin cfg0.N) : (dats m 0 c).after 1 t = iblk m c 1 t := by dsimp only [dats]
theorem bef_1 (c : Dev nD) (t : Fin cfg0.N) (d) : (dats m 0 c).before 1 t d = iblk m c 1 t := before0_1_of m (dats m 0 c) (A_eq m c 1) (after_1 m c) t d
theorem leaves_1 (c : Dev nD) (t : Fin cfg0.N) : (dats m 0 c).leavesExact 1 t = owns (c : Thread nD τ) (ms0_1 t) fullShare (iblk m c 1 t) := by
  unfold Dat.leavesExact; rw [liveAt0_1 t, after_1]
theorem after_2 (c : Dev nD) (t : Fin cfg0.N) : (dats m 0 c).after 2 t = iblk m c 2 t := by dsimp only [dats]
theorem bef_2 (c : Dev nD) (t : Fin cfg0.N) (d) : (dats m 0 c).before 2 t d = iblk m c 2 t := before0_2_of m (dats m 0 c) (A_eq m c 2) (after_2 m c) t d
theorem leaves_2 (c : Dev nD) (t : Fin cfg0.N) : (dats m 0 c).leavesExact 2 t = owns (c : Thread nD τ) (ms0_2 t) fullShare (iblk m c 2 t) := by
  unfold Dat.leavesExact; rw [liveAt0_2 t, after_2]
theorem after_3 (c : Dev nD) (t : Fin cfg0.N) : (dats m 0 c).after 3 t = iblk m c 3 t := by dsimp only [dats]
theorem bef_3 (c : Dev nD) (t : Fin cfg0.N) (d) : (dats m 0 c).before 3 t d = iblk m c 3 t := before0_3_of m (dats m 0 c) (A_eq m c 3) (after_3 m c) t d
theorem leaves_3 (c : Dev nD) (t : Fin cfg0.N) : (dats m 0 c).leavesExact 3 t = owns (c : Thread nD τ) (ms0_3 t) fullShare (iblk m c 3 t) := by
  unfold Dat.leavesExact; rw [liveAt0_3 t, after_3]
theorem after_4 (c : Dev nD) (t : Fin cfg0.N) : (dats m 0 c).after 4 t = iblk m c 4 t := by dsimp only [dats]
theorem bef_4 (c : Dev nD) (t : Fin cfg0.N) (d) : (dats m 0 c).before 4 t d = iblk m c 4 t := before0_4_of m (dats m 0 c) (A_eq m c 4) (after_4 m c) t d
theorem leaves_4 (c : Dev nD) (t : Fin cfg0.N) : (dats m 0 c).leavesExact 4 t = owns (c : Thread nD τ) (ms0_4 t) fullShare (iblk m c 4 t) := by
  unfold Dat.leavesExact; rw [liveAt0_4 t, after_4]
theorem after_5 (c : Dev nD) (t : Fin cfg0.N) : (dats m 0 c).after 5 t = iblk m c 5 t := by dsimp only [dats]
theorem bef_5 (c : Dev nD) (t : Fin cfg0.N) (d) : (dats m 0 c).before 5 t d = iblk m c 5 t := before0_5_of m (dats m 0 c) (A_eq m c 5) (after_5 m c) t d
theorem leaves_5 (c : Dev nD) (t : Fin cfg0.N) : (dats m 0 c).leavesExact 5 t = owns (c : Thread nD τ) (ms0_5 t) fullShare (iblk m c 5 t) := by
  unfold Dat.leavesExact; rw [liveAt0_5 t, after_5]
theorem after_6 (c : Dev nD) (t : Fin cfg0.N) : (dats m 0 c).after 6 t = iblk m c 6 t := by dsimp only [dats]
theorem bef_6 (c : Dev nD) (t : Fin cfg0.N) (d) : (dats m 0 c).before 6 t d = iblk m c 6 t := before0_6_of m (dats m 0 c) (A_eq m c 6) (after_6 m c) t d
theorem leaves_6 (c : Dev nD) (t : Fin cfg0.N) : (dats m 0 c).leavesExact 6 t = owns (c : Thread nD τ) (ms0_6 t) fullShare (iblk m c 6 t) := by
  unfold Dat.leavesExact; rw [liveAt0_6 t, after_6]
theorem after_7 (c : Dev nD) (t : Fin cfg0.N) : (dats m 0 c).after 7 t = iblk m c 7 t := by dsimp only [dats]
theorem bef_7 (c : Dev nD) (t : Fin cfg0.N) (d) : (dats m 0 c).before 7 t d = iblk m c 7 t := before0_7_of m (dats m 0 c) (A_eq m c 7) (after_7 m c) t d
theorem leaves_7 (c : Dev nD) (t : Fin cfg0.N) : (dats m 0 c).leavesExact 7 t = owns (c : Thread nD τ) (ms0_7 t) fullShare (iblk m c 7 t) := by
  unfold Dat.leavesExact; rw [liveAt0_7 t, after_7]
theorem after_8 (c : Dev nD) (t : Fin cfg0.N) : (dats m 0 c).after 8 t = outAt m c t := by dsimp only [dats]
theorem leaves_8 (c : Dev nD) (t : Fin cfg0.N) : (dats m 0 c).leavesExact 8 t = owns (c : Thread nD τ) (ms0_8 t) fullShare (outAt m c t) := by
  have hl : cfg0.idle 8 (grid0.coords t) = false := by
    by_cases h0 : t.val % 3 = 0
    · exact liveAt0_8_A t ((hcond0_0 t).mpr h0) ((hcond0_1 t).mpr (by omega)) (fun h => absurd ((hcond0_2 t).mp h) (by omega))
    by_cases h2 : t.val % 3 = 2
    · exact liveAt0_8_C t (fun h => h0 ((hcond0_0 t).mp h)) (fun h => absurd ((hcond0_1 t).mp h) (by omega)) ((hcond0_2 t).mpr h2)
    · exact liveAt0_8_B t (fun h => h0 ((hcond0_0 t).mp h)) ((hcond0_1 t).mpr (by omega)) (fun h => h2 ((hcond0_2 t).mp h))
  unfold Dat.leavesExact; rw [hl, after_8]

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- The blocks that a point reads, and `R`. -/
def withBlocks (c : Dev nD) (t : Fin cfg0.N) (R : sProp 𝕄) : sProp 𝕄 :=
  iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ R)

set_option maxHeartbeats 6400000 in
/-- A point after its tile's first, from its run and the pieces it stores. -/
theorem sound_later (c : Dev nD) (t : Fin cfg0.N) (h0 : ¬t.val % 3 = 0) (L : List (View.Piece (Elt F) S1x16x64x1024 .bf16))
    (run : ∀ (E : Set ℕ) (K : PUnit → sProp 𝕄),
      withBlocks m c t iprop((∃ d, owns (c : Thread nD τ) (ms0_8 t) fullShare d) ∗ owns (c : Thread nD τ) scM0_0 fullShare (rowsAt m c t) ∗ (∃ d, owns (c : Thread nD τ) scM0_1 fullShare d)
          ∗ (withBlocks m c t iprop((∃ f, (ms0_8 t).view.loc (c : Thread nD τ) ↦[(ms0_8 t).view.set]{fullShare} (ms0_8 t).view.writes (Elt F) f L) ∗ owns (c : Thread nD τ) scM0_0 fullShare (rowsAt m c t) ∗ (∃ d, owns (c : Thread nD τ) scM0_1 fullShare d)) -∗ K ⟨⟩))
        ⊢ wp frame (wpE (defs₀ (F := F)) Variants.none c none) E (bodyAt0 t) K)
    (cover : ∀ y, ∃ pc ∈ L, y ∈ pc.1.set) (ho : outAt m c t = View.canon L) :
    bodyPre m c t ⊢ wp frame (wpE (defs₀ (F := F)) Variants.none c none) Set.univ (bodyAt0 t) (fun _ => bodyPost m c t) := by
  unfold bodyPre bodyPost
  simp only [bef_0, bef_1, bef_2, bef_3, bef_4, bef_5, bef_6, bef_7]
  rw [show (dats m 0 c).owesAt () t.succ = (dats m 0 c).owesAt () t.castSucc from rfl]
  rw [show (dats m 0 c).Φ t.succ = Inv m c (t.val + 1) from rfl, show (dats m 0 c).Φ t.castSucc = Inv m c t.val from rfl]
  rw [leaves_0, leaves_1, leaves_2, leaves_3, leaves_4, leaves_5, leaves_6, leaves_7, leaves_8, ho]
  unfold Inv
  unfold withBlocks at run
  iintro ⟨⟨⟨⟨%e0, %hc, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain rfl := hc t rfl h0
  iapply (run Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  iintro ⟨H0, H1, H2, H3, H4, H5, H6, H7, ⟨%e8, H8⟩, HS0, HS1⟩
  isplitl [HS0 HS1 Hg]
  · isplitl [HS0 HS1]
    · isplitl [HS0]
      · iexists (rowsAt m c t)
        isplitr; · ipureintro; exact carried_next m c t
        iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_eq_canon _ _ _ cover

set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  by_cases h0 : t.val % 3 = 0
  · unfold bodyPre bodyPost bodyAt0
    simp only [bef_0, bef_1, bef_2, bef_3, bef_4, bef_5, bef_6, bef_7]
    rw [show (dats m 0 c).owesAt () t.succ = (dats m 0 c).owesAt () t.castSucc from rfl]
    rw [show (dats m 0 c).Φ t.succ = Inv m c (t.val + 1) from rfl, show (dats m 0 c).Φ t.castSucc = Inv m c t.val from rfl]
    rw [leaves_0, leaves_1, leaves_2, leaves_3, leaves_4, leaves_5, leaves_6, leaves_7, leaves_8]
    unfold Inv
    unfold outAt
    rw [dif_pos h0]
    iintro ⟨⟨⟨⟨%e0, -, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((pointA m c t h0).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexists _; iexact HS0
    isplitl [HS1]; · iexact HS1
    iintro ⟨H0, H1, H2, H3, H4, H5, H6, H7, ⟨%e8, H8⟩, ⟨%es0, HS0⟩, HS1⟩
    isplitl [HS0 HS1 Hg]
    · isplitl [HS0 HS1]
      · isplitl [HS0]
        · iexists (k0_pay1 (iblk m c 0 t) (iblk m c 1 t))
          isplitr; · ipureintro; exact carried_first m c t h0
          unfold owns; iexists _; isplitr
          swap; · iexact HS0
          ipureintro; exact (View.read_writes_eq_canon _ _ _ (coverA11 c _ _ _ _ _ _ _ _ _ _ _ _ _ _ _ _ _ _ _ _ _ _ _ _ _ _ _ _ _ _ _ _ _ _)).trans (storedA11 c _ _ _ _ _ _ _ _ _ _ _ _ _ _ _ _ _ _ _ _ _ _ _ _ _ _ _ _ _ _ _ _ _ _)
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_eq_canon _ _ _ (coverA10 c _ _ _ _ _ _ _ _ _ _ _ _ _ _ _ _ _ _ _ _ _ _ _ _ _ _ _ _ _ _ _ _ _ _)
  by_cases h2 : t.val % 3 = 2
  · exact sound_later m c t h0 _ (pointC m c t h0 h2).2 (coverC10 c _ _ _ _ _ _ _ _ _ _ _ _ _ _ _ _ _ _ _ _ _ _ _ _ _ _ _ _ _ _ _ _ _ _ _) (by unfold outAt; rw [dif_neg h0, dif_pos h2])
  · exact sound_later m c t h0 _ (pointB m c t h0 h2).2 (coverB10 c _ _ _ _ _ _ _ _ _ _ _ _ _ _ _ _ _ _ _ _ _ _ _ _ _ _ _ _ _ _ _ _ _ _ _) (by unfold outAt; rw [dif_neg h0, dif_neg h2])

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem hin (c : Dev nD) : Pipeline.ΦA spec0 c ⊢ (dats m 0 c).Φ 0 := by
  rw [show (dats m 0 c).Φ 0 = Inv m c 0 from rfl, PhiA0_eq]
  unfold Inv
  iintro ⟨⟨⟨%e0, HS0⟩, HS1⟩, Hg⟩
  isplitl [HS0 HS1]
  · isplitl [HS0]
    · iexists e0
      isplitr; · ipureintro; exact fun t e h => absurd (show t.val % 3 = 0 by omega) h
      iexact HS0
    iexact HS1
  iexact Hg

theorem hout (c : Dev nD) : (dats m 0 c).Φ (Fin.last cfg0.N) ⊢ Pipeline.ΦA spec0 c := by
  rw [show (dats m 0 c).Φ (Fin.last cfg0.N) = Inv m c cfg0.N from rfl, PhiA0_eq]
  unfold Inv
  iintro ⟨⟨⟨%e0, -, HS0⟩, HS1⟩, Hg⟩
  isplitl [HS0 HS1]
  · isplitl [HS0]
    · iexists _; iexact HS0
    iexact HS1
  iexact Hg

/-! ## The run and the frame -/

set_option backward.isDefEq.respectTransparency.types false in
/-- Every run ends with the pipeline's arrays at what the proof data says, every other buffer as launched, and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_post : θ_run defs (onTc (τ := τ) (main (F := F))) (s₀ m ρ) (Pipeline.FramePost cfgs (dats m) 0 (V m)) :=
  (θ_run defs _ _).mono (fun _ h => h.1) (run_quiet m ρ)

/-- The argument arrays end as launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_post m ρ)) ((θ_run defs _ _).mono (fun _ h => h.2) (run_quiet m ρ))

/-- The result's array ends at what the points wrote back, and the argument arrays as launched. -/
theorem run_blocks : θ_run defs (onTc (τ := τ) (main (F := F))) ⟨m, fun _ => 0, ρ⟩ (fun r => ∀ c : Dev nD,
      r.2.mem ((c.tc : Thread nD τ).loc main_v70) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  have h8 : θ_run defs (onTc (τ := τ) (main (F := F))) ⟨m, fun _ => 0, ρ⟩ (fun r => ∀ c : Dev nD, r.2.mem ((c.tc : Thread nD τ).loc main_v70) = (dats m 0 c).arrAt 8 cfg0.N) :=
    (θ_run defs _ _).mono (fun _ h c => (h c).1 8) (run_post m ρ)
  (θ_run defs _ _).mono (fun _ h c => ⟨h.1 c, h.2 c⟩) (θ_run_and h8 (frame_of m ρ (dats m) (A_eq m) (run_post m ρ)))

end Cert.Proj2IdealRun

end
-- ==== Proof.Proj2Block.lean ====
/- What the third projection leaves in a block of its result: the rows of the columns it makes, every 16th in a part. -/
module

public import proofs.«01_k».proof.Proof.ProjScratch
public import proofs.«01_k».proof.Proof.Proj2IdealFrame

@[expose] public section

set_option maxRecDepth 16384

noncomputable section

namespace Cert.Proj2Block

open Cert.Proj2Ideal Cert.Proj2Ideal.Gen Cert.Proj2IdealRun Cert.ProjHead Cert.ProjScratch Idealize.ShloMosaic Idealize.ShloMosaic.TcCoe Idealize.ShloMosaic.Tactic
open Idealize.SL.Sem

/-- Eight chunks of 64 rows, side by side. -/
def strip (v0 v1 v2 v3 v4 v5 v6 v7 : FVec Ideal S1x64x128 .f32) : FVec Ideal S1x1x64x1024 .bf16 :=
  shapeCast S1x1x64x1024 (truncf .bf16 (concatenate S64x1024 1 [⟨S64x128, shapeCast S64x128 v0 shapeCasts_S1x64x128_S64x128⟩, ⟨S64x128, shapeCast S64x128 v1 shapeCasts_S1x64x128_S64x128⟩, ⟨S64x128, shapeCast S64x128 v2 shapeCasts_S1x64x128_S64x128⟩, ⟨S64x128, shapeCast S64x128 v3 shapeCasts_S1x64x128_S64x128⟩, ⟨S64x128, shapeCast S64x128 v4 shapeCasts_S1x64x128_S64x128⟩, ⟨S64x128, shapeCast S64x128 v5 shapeCasts_S1x64x128_S64x128⟩, ⟨S64x128, shapeCast S64x128 v6 shapeCasts_S1x64x128_S64x128⟩, ⟨S64x128, shapeCast S64x128 v7 shapeCasts_S1x64x128_S64x128⟩]
    concatenates_S64x128_S64x128_S64x128_S64x128_S64x128_S64x128_S64x128_S64x128_S64x1024_d1) bitsLt_bf16_f32) shapeCasts_S64x1024_S1x1x64x1024

theorem strip_apply (v : Fin 8 → FVec Ideal S1x64x128 .f32) (a b : Fin 1) (y : Fin 64) (n : Fin 1024) :
    strip (v 0) (v 1) (v 2) (v 3) (v 4) (v 5) (v 6) (v 7) (ix4 a b y n) = v ⟨n.val / 128, by omega⟩ (ix3 (0 : Fin 1) y ⟨n.val % 128, by omega⟩) := by
  have cast : ∀ z : FVec Ideal S64x1024 .f32, shapeCast S1x1x64x1024 (truncf .bf16 z bitsLt_bf16_f32) shapeCasts_S64x1024_S1x1x64x1024 (ix4 a b y n) = z (ix2 y n) := fun z => by
    pointwise
  have part : ∀ (u : FVec Ideal S1x64x128 .f32) (l : Fin 128), shapeCast S64x128 u shapeCasts_S1x64x128_S64x128 (ix2 y l) = u (ix3 (0 : Fin 1) y l) := fun u l => by
    pointwise
  obtain ⟨q, hq⟩ : ∃ q : Fin 8, n.val / 128 = q.val := ⟨⟨n.val / 128, by omega⟩, rfl⟩
  refine (cast _).trans ((concatenate_ofFn_apply (t := S64x1024) (s₁ := S64x128) 1 (fun q : Fin 8 => shapeCast S64x128 (v q) shapeCasts_S1x64x128_S64x128)
    concatenates_S64x128_S64x128_S64x128_S64x128_S64x128_S64x128_S64x128_S64x128_S64x1024_d1 rfl 128 rfl (ix2 y n) q hq
    (ix2 y ⟨n.val % 128, by omega⟩) rfl (fun b hb => match b with | ⟨0, _⟩ => rfl | ⟨1, _⟩ => absurd rfl hb)).trans ((part _ _).trans ?_))
  rw [show (⟨n.val / 128, by omega⟩ : Fin 8) = q from Fin.ext hq]

/-- The block that holds the columns `z`. -/
def parted (z : FVec Ideal S1024x1024 .f32) (i : S1x16x64x1024.Idx) : Elt Ideal .bf16 :=
  z (ix2 (⟨(i 2).val * 16 + (i 1).val, by have : (i 2).val < 64 := (i 2).isLt; have : (i 1).val < 16 := (i 1).isLt; omega⟩ : Fin 1024) (i 3))

/-- One part's rows, read back from the scratch. -/
theorem part_apply {sig' : RefSig} {κ : Kind} {sp : Space} (v : View sig' κ sp S8x1024x128 .f32) (z : FVec Ideal S1024x1024 .f32) (r : ℕ)
    (b0) (b1) (b2) (b3) (b4) (b5) (b6) (b7) (inb) (x : S1x1x64x1024.Idx) :
    strip (v.readCov (Val := Elt Ideal) (scratch z) ⟨![0, r, 0], ![1, 64, 128], ![1, 16, 1], b0⟩) (v.readCov (Val := Elt Ideal) (scratch z) ⟨![1, r, 0], ![1, 64, 128], ![1, 16, 1], b1⟩) (v.readCov (Val := Elt Ideal) (scratch z) ⟨![2, r, 0], ![1, 64, 128], ![1, 16, 1], b2⟩) (v.readCov (Val := Elt Ideal) (scratch z) ⟨![3, r, 0], ![1, 64, 128], ![1, 16, 1], b3⟩) (v.readCov (Val := Elt Ideal) (scratch z) ⟨![4, r, 0], ![1, 64, 128], ![1, 16, 1], b4⟩) (v.readCov (Val := Elt Ideal) (scratch z) ⟨![5, r, 0], ![1, 64, 128], ![1, 16, 1], b5⟩) (v.readCov (Val := Elt Ideal) (scratch z) ⟨![6, r, 0], ![1, 64, 128], ![1, 16, 1], b6⟩) (v.readCov (Val := Elt Ideal) (scratch z) ⟨![7, r, 0], ![1, 64, 128], ![1, 16, 1], b7⟩) x
      = parted z ((Rect.unit (s := S1x16x64x1024) ![0, r, 0, 0] S1x1x64x1024.size inb).emb x) := by
  have h0 : (x 0).val = 0 := by have : (x 0).val < 1 := (x 0).isLt; omega
  have h1 : (x 1).val = 0 := by have : (x 1).val < 1 := (x 1).isLt; omega
  have h3 : (x 3).val < 1024 := (x 3).isLt
  have hr : r + 1 ≤ 16 := inb 1
  let w : Fin 8 → FVec Ideal S1x64x128 .f32 := fun k j =>
    spread z (ix3 k (⟨r + 16 * (j 1).val, by have : (j 1).val < 64 := (j 1).isLt; omega⟩ : Fin 1024) (j 2))
  have e : ∀ (k : ℕ) (hk : k < 8) (b), v.readCov (Val := Elt Ideal) (scratch z) ⟨![k, r, 0], ![1, 64, 128], ![1, 16, 1], b⟩ = w ⟨k, hk⟩ := fun k hk b =>
    funext fun j => (scratch_read v z _ j).trans (congrArg (spread z) (funext fun a => Fin.ext (match a with
      | ⟨0, _⟩ => (by have : (j 0).val < 1 := (j 0).isLt; show k + 1 * (j 0).val = k; omega)
      | ⟨1, _⟩ => rfl
      | ⟨2, _⟩ => (by show 0 + 1 * (j 2).val = (j 2).val; omega))))
  rw [e 0 (by omega) b0, e 1 (by omega) b1, e 2 (by omega) b2, e 3 (by omega) b3, e 4 (by omega) b4, e 5 (by omega) b5, e 6 (by omega) b6, e 7 (by omega) b7]
  refine (congrArg (strip _ _ _ _ _ _ _ _) (eq_ix4 x)).trans ((strip_apply w (x 0) (x 1) (x 2) (x 3)).trans ?_)
  exact congrArg₂ (fun u w => z (ix2 u w)) (Fin.ext (by show r + 16 * (x 2).val = (0 + 1 * (x 2).val) * 16 + (r + 1 * (x 1).val); omega))
    (Fin.ext (by show (x 3).val / 128 * 128 + (x 3).val % 128 = 0 + 1 * (x 3).val; omega))

/-- The gains' row that a point takes. -/
def gainRow (i : grid0.Coords) (h : k0_cond2 i = 1#1) (x5 : Vec Ideal S2x1024 .f32) : Vec Ideal S1x1024 .f32 :=
  View.ld x5 (Rect.unit (s := S2x1024) (k0_off1 i) S1x1024.size (k0_off1_inb i h))

variable (c : Dev nD) (i : grid0.Coords)
  (arg2 : Memref sig .tc .vmem S1024x1024 .f32) (harg2 : arg2.IsWhole)
  (arg3 : Memref sig .tc .vmem S1x1024 .f32) (harg3 : arg3.IsWhole)
  (arg4 : Memref sig .tc .vmem S1024x1024 .bf16) (harg4 : arg4.IsWhole)
  (arg5 : Memref sig .tc .vmem S1024x128 .f32) (harg5 : arg5.IsWhole)
  (arg6 : Memref sig .tc .vmem S1024x128 .f32) (harg6 : arg6.IsWhole)
  (arg7 : Memref sig .tc .vmem S2x1024 .f32) (harg7 : arg7.IsWhole)
  (arg8 : Memref sig .tc .vmem S256x256 .bf16) (harg8 : arg8.IsWhole)
  (arg9 : Memref sig .tc .vmem S256x256 .bf16) (harg9 : arg9.IsWhole)
  (arg10 : Memref sig .tc .vmem S1x16x64x1024 .bf16) (harg10 : arg10.IsWhole)
  (arg11 : Memref sig .tc .vmem S1024x1024 .bf16) (harg11 : arg11.IsWhole)
  (arg12 : Memref sig .tc .vmem S8x1024x128 .f32) (harg12 : arg12.IsWhole)
  (x0 : Vec Ideal S1024x1024 .f32) (x1 : Vec Ideal S1x1024 .f32) (x2 : Vec Ideal S1024x1024 .bf16) (x3 : Vec Ideal S1024x128 .f32) (x4 : Vec Ideal S1024x128 .f32) (x5 : Vec Ideal S2x1024 .f32) (x6 : Vec Ideal S256x256 .bf16) (x7 : Vec Ideal S256x256 .bf16)

theorem block_A (h0 : cond0_0 i) (h1 : cond0_1 i) (h2 : ¬cond0_2 i) :
    View.canon (runA c i arg2 harg2 arg3 harg3 arg4 harg4 arg5 harg5 arg6 harg6 arg7 harg7 arg8 harg8 arg9 harg9 arg10 harg10 arg11 harg11 arg12 harg12 x0 x1 x2 x3 x4 x5 x6 x7 h0 h1 h2).1 = parted (heads (Cert.Proj0Ideal.Gen.k0_pay2 (Cert.Proj0Ideal.Gen.k0_pay1 x0 x1) x2) x3 x4 (gainRow i h1 x5) x6 x7) := by
  refine funext fun y => View.canon_apply_of_pieces _ _ (View.PiecesOf.mem ?_) y (coverA10 c i arg2 harg2 arg3 harg3 arg4 harg4 arg5 harg5 arg6 harg6 arg7 harg7 arg8 harg8 arg9 harg9 arg10 harg10 arg11 harg11 arg12 harg12 x0 x1 x2 x3 x4 x5 x6 x7 h0 h1 h2 y)
  unfold runA
  dsimp only
  sl_unfold_words
  simp (disch := decide) only [View.canon_cons_unit_lit', View.ld_unit_lit', View.readCov_unit_lit', View.readCov_cons_unit_lit', View.readAt_eq_ld, Memref.IsWhole.read_unread, read_unread_whole]
  have part := part_apply arg12.view (heads (Cert.Proj0Ideal.Gen.k0_pay2 (Cert.Proj0Ideal.Gen.k0_pay1 x0 x1) x2) x3 x4 (gainRow i h1 x5) x6 x7)
  refine ⟨?_, ?_, ?_, ?_, ?_, ?_, ?_, ?_, ?_, ?_, ?_, ?_, ?_, ?_, ?_, ?_, trivial⟩ <;> exact part _ _ _ _ _ _ _ _ _ (by decide)

theorem block_B (h0 : ¬cond0_0 i) (h1 : cond0_1 i) (h2 : ¬cond0_2 i) (rows : Vec Ideal S1024x1024 .bf16) :
    View.canon (runB c i arg2 harg2 arg3 harg3 arg4 harg4 arg5 harg5 arg6 harg6 arg7 harg7 arg8 harg8 arg9 harg9 arg10 harg10 arg11 harg11 arg12 harg12 x0 x1 x2 x3 x4 x5 x6 x7 h0 h1 h2 rows).1 = parted (heads (Cert.Proj0Ideal.Gen.k0_pay2 rows x2) x3 x4 (gainRow i h1 x5) x6 x7) := by
  refine funext fun y => View.canon_apply_of_pieces _ _ (View.PiecesOf.mem ?_) y (coverB10 c i arg2 harg2 arg3 harg3 arg4 harg4 arg5 harg5 arg6 harg6 arg7 harg7 arg8 harg8 arg9 harg9 arg10 harg10 arg11 harg11 arg12 harg12 x0 x1 x2 x3 x4 x5 x6 x7 h0 h1 h2 rows y)
  unfold runB
  dsimp only
  sl_unfold_words
  simp (disch := decide) only [View.canon_cons_unit_lit', View.ld_unit_lit', View.readCov_unit_lit', View.readCov_cons_unit_lit', View.readAt_eq_ld, Memref.IsWhole.read_unread, read_unread_whole]
  have part := part_apply arg12.view (heads (Cert.Proj0Ideal.Gen.k0_pay2 rows x2) x3 x4 (gainRow i h1 x5) x6 x7)
  refine ⟨?_, ?_, ?_, ?_, ?_, ?_, ?_, ?_, ?_, ?_, ?_, ?_, ?_, ?_, ?_, ?_, trivial⟩ <;> exact part _ _ _ _ _ _ _ _ _ (by decide)

theorem block_C (h0 : ¬cond0_0 i) (h1 : ¬cond0_1 i) (h2 : cond0_2 i) (rows : Vec Ideal S1024x1024 .bf16) :
    View.canon (runC c i arg2 harg2 arg3 harg3 arg4 harg4 arg5 harg5 arg6 harg6 arg7 harg7 arg8 harg8 arg9 harg9 arg10 harg10 arg11 harg11 arg12 harg12 x0 x1 x2 x3 x4 x5 x6 x7 h0 h1 h2 rows).1 = parted (Cert.Proj0Ideal.Gen.k0_pay2 rows x2) := by
  refine funext fun y => View.canon_apply_of_pieces _ _ (View.PiecesOf.mem ?_) y (coverC10 c i arg2 harg2 arg3 harg3 arg4 harg4 arg5 harg5 arg6 harg6 arg7 harg7 arg8 harg8 arg9 harg9 arg10 harg10 arg11 harg11 arg12 harg12 x0 x1 x2 x3 x4 x5 x6 x7 h0 h1 h2 rows y)
  unfold runC
  dsimp only
  sl_unfold_words
  simp (disch := decide) only [View.canon_cons_unit_lit', View.ld_unit_lit', View.readCov_unit_lit', View.readCov_cons_unit_lit', View.readAt_eq_ld, Memref.IsWhole.read_unread, read_unread_whole]
  have part := part_apply arg12.view (Cert.Proj0Ideal.Gen.k0_pay2 rows x2)
  refine ⟨?_, ?_, ?_, ?_, ?_, ?_, ?_, ?_, ?_, ?_, ?_, ?_, ?_, ?_, ?_, ?_, trivial⟩ <;> exact part _ _ _ _ _ _ _ _ _ (by decide)

end Cert.Proj2Block

end
-- ==== Proof.Proj2Array.lean ====
/- The third projection's result, all of it, as a function of the arguments. -/
module

public import proofs.«01_k».proof.Proof.Proj2Block
public import proofs.«01_k».proof.Proof.ProjRows
public import Idealize.ShloMosaic.Lib.StableHlo.RunRead

@[expose] public section

set_option maxRecDepth 16384

noncomputable section

namespace Cert.Proj2Array

open Cert.Proj2Ideal Cert.Proj2Ideal.Gen Cert.Proj2IdealRun Cert.ProjMath Cert.ProjHead Cert.ProjTables Cert.ProjValue Cert.ProjRows Cert.Proj2Block Idealize.ShloMosaic
open Idealize.ShloMosaic.TcCoe Idealize.SL.Sem

/-- Where the blocks of a point lie. -/
theorem index_rel (t : Fin cfg0.N) :
    (win0_0.index t 0 = t.val / 3 ∧ win0_0.index t 1 = 0) ∧ (win0_1.index t 0 = 0 ∧ win0_1.index t 1 = 0)
    ∧ (win0_2.index t 0 = 0 ∧ win0_2.index t 1 = t.val % 3 * 3 + 2) ∧ (win0_3.index t 0 = t.val / 3 ∧ win0_3.index t 1 = 0)
    ∧ (win0_4.index t 0 = t.val / 3 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ win0_8.index t 0 = t.val / 6 ∧ win0_8.index t 1 = 0 ∧ win0_8.index t 2 = t.val / 3 % 2 ∧ win0_8.index t 3 = t.val % 3 :=
  by revert t; decide +kernel

theorem off_rel (t : Fin cfg0.N) : k0_off1 (grid0.coords t) 0 = t.val % 3 := by revert t; decide +kernel

variable (m : (ℓ : Loc nD τ sig) → Buf (Elt Ideal) ℓ)

/-! The host's arrays when the kernel is entered. -/

theorem mean_host (c : Dev nD) : V m c main_v68 = meanMat := by
  show StableHlo.after (List.flatten _) _ (Proc.devRef .tc _) = _
  after_reads_simp
  rfl

theorem turn_host (c : Dev nD) : V m c main_v64 = turnMat := by
  show StableHlo.after (List.flatten _) _ (Proc.devRef .tc _) = _
  after_reads_simp
  rfl

theorem gains_host (c : Dev nD) : V m c main_v36 = gains (m ((c : Thread nD τ).loc main_arg4)) (m ((c : Thread nD τ).loc main_arg5)) := by
  show StableHlo.after (List.flatten _) _ (Proc.devRef .tc _) = _
  after_reads_simp
  rfl

theorem weights_host (c : Dev nD) : V m c main_v25 = m ((c : Thread nD τ).loc main_arg2) := by
  show StableHlo.after (List.flatten _) _ (Proc.devRef .tc _) = _
  after_reads_simp
  rfl

theorem scale_host (c : Dev nD) (l : Fin 1024) : V m c main_v69 (ix2 (0 : Fin 1) l) = m ((c : Thread nD τ).loc main_arg1) (ix1 l) := by
  have e : V m c main_v69 = shapeCast S1x1024 (m ((c : Thread nD τ).loc main_arg1)) shapeCasts_S1024_S1x1024 := by
    show StableHlo.after (List.flatten _) _ (Proc.devRef .tc _) = _
    after_reads_simp
    rfl
  rw [e]
  generalize m ((c : Thread nD τ).loc main_arg1) = z
  pointwise

theorem cs_host (c : Dev nD) : V m c main_v23 = csTable (m ((c : Thread nD τ).loc main_arg3)) := by
  show StableHlo.after (List.flatten _) _ (Proc.devRef .tc _) = _
  after_reads_simp
  generalize hU : StableHlo.upto _ _ _ = U
  have e1 : U (Proc.devRef .tc main_v16) = Host.cos (angles (m ((c : Thread nD τ).loc main_arg3))) := by
    rw [← hU]
    after_reads_simp
    rfl
  have e2 : U (Proc.devRef .tc main_v18) = (broadcastInDim S16x2048x96 ![] bcast_S_S16x2048x96 (constant S_ .f32 0x3F800000#32) : FVec Ideal S16x2048x96 .f32) := by
    rw [← hU]
    after_reads_simp
  show table (U (Proc.devRef .tc main_v16)) (U (Proc.devRef .tc main_v16)) (U (Proc.devRef .tc main_v18)) = _
  rw [e1, e2]
  rfl

theorem sn_host (c : Dev nD) : V m c main_v24 = snTable (m ((c : Thread nD τ).loc main_arg3)) := by
  show StableHlo.after (List.flatten _) _ (Proc.devRef .tc _) = _
  after_reads_simp
  generalize hU : StableHlo.upto _ _ _ = U
  have e0 : U (Proc.devRef .tc main_v20) = Host.negf (Host.sin (angles (m ((c : Thread nD τ).loc main_arg3)))) := by
    rw [← hU]
    after_reads_simp
    rfl
  have e1 : U (Proc.devRef .tc main_v17) = Host.sin (angles (m ((c : Thread nD τ).loc main_arg3))) := by
    rw [← hU]
    after_reads_simp
    rfl
  have e2 : U (Proc.devRef .tc main_v21) = (broadcastInDim S16x2048x96 ![] bcast_S_S16x2048x96 (constant S_ .f32 0x00000000#32) : FVec Ideal S16x2048x96 .f32) := by
    rw [← hU]
    after_reads_simp
  show table (U (Proc.devRef .tc main_v20)) (U (Proc.devRef .tc main_v17)) (U (Proc.devRef .tc main_v21)) = _
  rw [e0, e1, e2]
  rfl

/-! The blocks of a point. -/

/-- A point's row `r`, among all the tokens. -/
def row (t : Fin cfg0.N) (r : Fin 1024) : Fin 32768 := ⟨t.val / 3 * 1024 + r.val, by have := t.isLt; have : cfg0.N = 96 := rfl; omega⟩

theorem rows_block (c : Dev nD) (t : Fin cfg0.N) (r l : Fin 1024) : iblk m c 0 t (ix2 r l) = m ((c : Thread nD τ).loc main_arg0) (ix2 (row t r) l) := by
  obtain ⟨⟨a0, a1⟩, -⟩ := index_rel t
  exact congrArg (m ((c : Thread nD τ).loc main_arg0)) (funext fun a => Fin.ext ((win0_0.rect_emb_val t (ix2 r l) a).trans
    (match a with
      | ⟨0, _⟩ => (by show win0_0.index t 0 * 1024 + r.val = t.val / 3 * 1024 + r.val; rw [a0])
      | ⟨1, _⟩ => (by show win0_0.index t 1 * 1024 + l.val = l.val; omega))))

theorem scale_block (c : Dev nD) (t : Fin cfg0.N) (l : Fin 1024) : iblk m c 1 t (ix2 (0 : Fin 1) l) = m ((c : Thread nD τ).loc main_arg1) (ix1 l) := by
  obtain ⟨-, ⟨a0, a1⟩, -⟩ := index_rel t
  exact (congrArg (V m c main_v69) (funext fun a => Fin.ext ((win0_1.rect_emb_val t (ix2 (0 : Fin 1) l) a).trans
    (match a with
      | ⟨0, _⟩ => (by show win0_1.index t 0 * 1 + 0 = 0; omega)
      | ⟨1, _⟩ => (by show win0_1.index t 1 * 1024 + l.val = l.val; omega)))) :
      V m c main_v69 (((cfg0.win 1).blk t).view.emb (ix2 (0 : Fin 1) l)) = V m c main_v69 (ix2 (0 : Fin 1) l)).trans (scale_host m c l)

theorem weights_block (c : Dev nD) (t : Fin cfg0.N) (part : Fin 3) (hp : part.val = t.val % 3) (k n : Fin 1024) :
    iblk m c 2 t (ix2 k n) = m ((c : Thread nD τ).loc main_arg2) (ix2 k (col 2 part n)) := by
  obtain ⟨-, -, ⟨a0, a1⟩, -⟩ := index_rel t
  rw [← weights_host m c]
  exact congrArg (V m c main_v25) (funext fun a => Fin.ext ((win0_2.rect_emb_val t (ix2 k n) a).trans
    (match a with
      | ⟨0, _⟩ => (by show win0_2.index t 0 * 1024 + k.val = k.val; omega)
      | ⟨1, _⟩ => (by show win0_2.index t 1 * 1024 + n.val = part.val * 3072 + 2 * 1024 + n.val; omega))))

theorem cs_block (c : Dev nD) (t : Fin cfg0.N) (r : Fin 1024) (d : Fin 128) :
    iblk m c 3 t (ix2 r d) = csTable (m ((c : Thread nD τ).loc main_arg3)) (ix2 (row t r) d) := by
  obtain ⟨-, -, -, ⟨a0, a1⟩, -⟩ := index_rel t
  rw [← cs_host m c]
  exact congrArg (V m c main_v23) (funext fun a => Fin.ext ((win0_3.rect_emb_val t (ix2 r d) a).trans
    (match a with
      | ⟨0, _⟩ => (by show win0_3.index t 0 * 1024 + r.val = t.val / 3 * 1024 + r.val; rw [a0])
      | ⟨1, _⟩ => (by show win0_3.index t 1 * 128 + d.val = d.val; omega))))

theorem sn_block (c : Dev nD) (t : Fin cfg0.N) (r : Fin 1024) (d : Fin 128) :
    iblk m c 4 t (ix2 r d) = snTable (m ((c : Thread nD τ).loc main_arg3)) (ix2 (row t r) d) := by
  obtain ⟨-, -, -, -, ⟨a0, a1⟩, -⟩ := index_rel t
  rw [← sn_host m c]
  exact congrArg (V m c main_v24) (funext fun a => Fin.ext ((win0_4.rect_emb_val t (ix2 r d) a).trans
    (match a with
      | ⟨0, _⟩ => (by show win0_4.index t 0 * 1024 + r.val = t.val / 3 * 1024 + r.val; rw [a0])
      | ⟨1, _⟩ => (by show win0_4.index t 1 * 128 + d.val = d.val; omega))))

theorem gains_block (c : Dev nD) (t : Fin cfg0.N) (h : k0_cond2 (grid0.coords t) = 1#1) (j : Fin 2) (hj : j.val = t.val % 3) (n : Fin 1024) :
    gainRow (grid0.coords t) h (iblk m c 5 t) (ix2 (0 : Fin 1) n)
      = gains (m ((c : Thread nD τ).loc main_arg4)) (m ((c : Thread nD τ).loc main_arg5)) (ix2 j n) := by
  obtain ⟨-, -, -, -, -, ⟨a0, a1⟩, -⟩ := index_rel t
  have ho := off_rel t
  rw [← gains_host m c]
  refine congrArg (V m c main_v36) (funext fun a => Fin.ext ((win0_5.rect_emb_val t _ a).trans
    (match a with
      | ⟨0, _⟩ => ?_
      | ⟨1, _⟩ => ?_)))
  · show win0_5.index t 0 * 2 + (k0_off1 (grid0.coords t) 0 + 1 * 0) = j.val
    omega
  · show win0_5.index t 1 * 1024 + (0 + 1 * n.val) = n.val
    omega

theorem mean_block (c : Dev nD) (t : Fin cfg0.N) (k j : Fin 256) : iblk m c 6 t (ix2 k j) = meanMat (ix2 k j) := by
  obtain ⟨-, -, -, -, -, -, ⟨a0, a1⟩, -⟩ := index_rel t
  rw [← mean_host m c]
  exact congrArg (V m c main_v68) (funext fun a => Fin.ext ((win0_6.rect_emb_val t (ix2 k j) a).trans
    (match a with
      | ⟨0, _⟩ => (by show win0_6.index t 0 * 256 + k.val = k.val; omega)
      | ⟨1, _⟩ => (by show win0_6.index t 1 * 256 + j.val = j.val; omega))))

theorem turn_block (c : Dev nD) (t : Fin cfg0.N) (k j : Fin 256) : iblk m c 7 t (ix2 k j) = turnMat (ix2 k j) := by
  obtain ⟨-, -, -, -, -, -, -, ⟨a0, a1⟩, -⟩ := index_rel t
  rw [← turn_host m c]
  exact congrArg (V m c main_v64) (funext fun a => Fin.ext ((win0_7.rect_emb_val t (ix2 k j) a).trans
    (match a with
      | ⟨0, _⟩ => (by show win0_7.index t 0 * 256 + k.val = k.val; omega)
      | ⟨1, _⟩ => (by show win0_7.index t 1 * 256 + j.val = j.val; omega))))

/-- The normalised rows of a point's tile. -/
theorem rowsAt_apply (c : Dev nD) (t : Fin cfg0.N) (r l : Fin 1024) :
    rowsAt m c t (ix2 r l) = DenseBlock.normed (fun l => m ((c : Thread nD τ).loc main_arg0) (ix2 (row t r) l))
      (fun l => m ((c : Thread nD τ).loc main_arg1) (ix1 l)) l := by
  have hr : row (first t) r = row t r := Fin.ext (by show t.val / 3 * 3 / 3 * 1024 + r.val = t.val / 3 * 1024 + r.val; omega)
  rw [← hr]
  refine (normed_apply (iblk m c 0 (first t)) (iblk m c 1 (first t)) r l).trans ?_
  exact congrArg₂ (fun u v => DenseBlock.normed u v l) (funext fun l => rows_block m c (first t) r l) (funext fun l => scale_block m c (first t) l)

/-- The queries' and the keys' columns, by rows as they come. -/
theorem turned_apply (c : Dev nD) (t : Fin cfg0.N) (h1 : t.val % 3 ≤ 1) (part : Fin 3) (hp : part.val = t.val % 3) (b : Fin 16) (s : Fin 2048) (r : Fin 1024)
    (hr : row t r = token b s) (n : Fin 1024) :
    heads (Cert.Proj0Ideal.Gen.k0_pay2 (rowsAt m c t) (iblk m c 2 t)) (iblk m c 3 t) (iblk m c 4 t) (gainRow (grid0.coords t) ((hcond0_1 t).mpr h1) (iblk m c 5 t))
        (iblk m c 6 t) (iblk m c 7 t) (ix2 r n)
      = value (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) 2 part b s n :=
  heads_row _ _ _ _ _ _ 2 part b s (row t r) hr (rowsAt m c t) (iblk m c 2 t) (iblk m c 3 t) (iblk m c 4 t) _ (iblk m c 6 t) (iblk m c 7 t) r
    (rowsAt_apply m c t r) (weights_block m c t part hp) ⟨t.val % 3, by omega⟩ hp.symm (cs_block m c t r) (sn_block m c t r) (gains_block m c t _ _ rfl)
    (mean_block m c t) (turn_block m c t) n

/-- What a point leaves at a place of its block. -/
theorem out_apply (c : Dev nD) (t : Fin cfg0.N) (part : Fin 3) (hp : part.val = t.val % 3) (b : Fin 16) (s : Fin 2048) (q : Fin 16) (y : Fin 64)
    (hr : row t ⟨y.val * 16 + q.val, by omega⟩ = token b s) (n : Fin 1024) :
    outAt m c t (ix4 (0 : Fin 1) q y n) = value (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) 2 part b s n := by
  unfold outAt
  split_ifs with h0 h2
  · rw [block_A]
    refine Eq.trans ?_ (turned_apply m c t (by omega) part hp b s _ hr n)
    unfold rowsAt
    rw [first_of t h0]
    rfl
  · rw [block_C]
    exact (product_row _ _ _ 2 part b s _ hr (rowsAt m c t) (iblk m c 2 t) _ (rowsAt_apply m c t _) (weights_block m c t part hp) n).trans
      (value_plain _ _ _ _ _ _ 2 part (hp.trans h2) b s n).symm
  · rw [block_B]
    exact turned_apply m c t (by omega) part hp b s _ hr n

/-- Where row `l` of part `k` comes from in its sequence. -/
def place (l : Fin 128) (k : Fin 16) : Fin 2048 := ⟨l.val * 16 + k.val, by omega⟩

theorem final (c : Dev nD) : (dats m 0 c).arrAt 8 cfg0.N
    = fun i => wide (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) 2 (i 0)
        (place (i 2) (i 1)) (i 3) := by
  refine (dats m 0 c).arrAt_eq_of_covers 8 _ (by decide +kernel) fun t hf y => ?_
  blk_simp
  rw [after_8]
  obtain ⟨-, -, -, -, -, -, -, -, g0, g1, g2, g3⟩ := index_rel t
  have e0 : ((win0_8.blk t).view.emb y 0).val = win0_8.index t 0 * 1 + (y 0).val := win0_8.rect_emb_val t y 0
  have e1 : ((win0_8.blk t).view.emb y 1).val = win0_8.index t 1 * 16 + (y 1).val := win0_8.rect_emb_val t y 1
  have e2 : ((win0_8.blk t).view.emb y 2).val = win0_8.index t 2 * 64 + (y 2).val := win0_8.rect_emb_val t y 2
  have e3 : ((win0_8.blk t).view.emb y 3).val = win0_8.index t 3 * 1024 + (y 3).val := win0_8.rect_emb_val t y 3
  generalize (win0_8.blk t).view.emb y = E at e0 e1 e2 e3 ⊢
  obtain ⟨q, hq⟩ : ∃ q : Fin 16, q = y 1 := ⟨_, rfl⟩
  obtain ⟨r, hr⟩ : ∃ r : Fin 64, r = y 2 := ⟨_, rfl⟩
  obtain ⟨n, hn⟩ : ∃ n : Fin 1024, n = y 3 := ⟨_, rfl⟩
  obtain ⟨b, hb⟩ : ∃ b : Fin 16, b = E 0 := ⟨_, rfl⟩
  obtain ⟨k, hk⟩ : ∃ k : Fin 16, k = E 1 := ⟨_, rfl⟩
  obtain ⟨l, hl⟩ : ∃ l : Fin 128, l = E 2 := ⟨_, rfl⟩
  obtain ⟨N, hN⟩ : ∃ N : Fin 3072, N = E 3 := ⟨_, rfl⟩
  have z0 : (y 0).val = 0 := by have : (y 0).val < 1 := (y 0).isLt; omega
  rw [show y = ix4 (0 : Fin 1) q r n from by
    rw [hq, hr, hn]
    refine (eq_ix4 y).trans ?_
    exact congrArg (fun u => ix4 u (y 1) (y 2) (y 3)) (Subsingleton.elim (α := Fin 1) _ _)]
  rw [← hb, ← hk, ← hl, ← hN]
  rw [← hb] at e0
  rw [← hq, ← hk] at e1
  rw [← hr, ← hl] at e2
  rw [← hn, ← hN] at e3
  have hrow : row t ⟨r.val * 16 + q.val, by omega⟩ = token b (place l k) :=
    Fin.ext (by show t.val / 3 * 1024 + (r.val * 16 + q.val) = b.val * 2048 + (l.val * 16 + k.val); omega)
  rw [out_apply m c t ⟨t.val % 3, by omega⟩ rfl b _ q r hrow n]
  exact (wide_eq _ _ _ _ _ _ 2 _ b _ n N (by show N.val = t.val % 3 * 1024 + n.val; omega)).symm

end Cert.Proj2Array

end
-- ==== Proof.Proj2Reference.lean ====
/- The third plain projection's result read at one of its places. -/
module

public import proofs.«01_k».proof.Proof.ProjReference
public import proofs.«01_k».proof.Proof.Proj2Array
public import proofs.«01_k».proof.Proof.Gen.Proj2RefIdeal.Read

@[expose] public section

set_option maxRecDepth 16384

noncomputable section

namespace Cert.Proj2Reference

open Idealize.ShloMosaic Cert.Proj2RefIdeal Cert.Proj2RefIdeal.Gen Cert.Proj2RefIdeal.Read Cert.ProjMath Cert.ProjValue Cert.ProjReference
open Cert.Proj2Array (place)

variable (x : (⟨S32768x1024, .f32⟩ : BufTy).Contents (Elt Ideal)) (ln : (⟨S1024, .f32⟩ : BufTy).Contents (Elt Ideal))
  (w : (⟨S1024x9216, .f32⟩ : BufTy).Contents (Elt Ideal)) (p : (⟨S16x2048, .i32⟩ : BufTy).Contents (Elt Ideal))
  (gq gk : (⟨S128, .f32⟩ : BufTy).Contents (Elt Ideal))

/-- Queries, keys and values laid side by side. -/
def laid (a b v : FVec Ideal S32768x8x128 .f32) : FVec Ideal S16x16x128x3072 .bf16 :=
  truncf .bf16 (concatenate S16x16x128x3072 3
    [⟨S16x16x128x1024, transpose S16x16x128x1024 [0, 2, 1, 3] (shapeCast S16x128x16x1024 a shapeCasts_S32768x8x128_S16x128x16x1024)
        transposes_S16x128x16x1024_S16x16x128x1024_0_2_1_3⟩,
      ⟨S16x16x128x1024, transpose S16x16x128x1024 [0, 2, 1, 3] (shapeCast S16x128x16x1024 b shapeCasts_S32768x8x128_S16x128x16x1024)
        transposes_S16x128x16x1024_S16x16x128x1024_0_2_1_3⟩,
      ⟨S16x16x128x1024, transpose S16x16x128x1024 [0, 2, 1, 3] (shapeCast S16x128x16x1024 v shapeCasts_S32768x8x128_S16x128x16x1024)
        transposes_S16x128x16x1024_S16x16x128x1024_0_2_1_3⟩]
    concatenates_S16x16x128x1024_S16x16x128x1024_S16x16x128x1024_S16x16x128x3072_d3) bitsLt_bf16_f32

theorem laid_apply (a b v : FVec Ideal S32768x8x128 .f32) (s : Fin 16) (q : Fin 16) (l : Fin 128) (part : Fin 3) (n : Fin 1024) :
    laid a b v (ix4 s q l (⟨part.val * 1024 + n.val, by omega⟩ : Fin 3072))
      = (if part.val = 0 then a else if part.val = 1 then b else v) (ix3 (token s (place l q)) ⟨n.val / 128, by omega⟩ ⟨n.val % 128, by omega⟩) := by
  have same : ∀ (z : FVec Ideal S32768x8x128 .f32) (k : Fin 1024), k.val = n.val →
      shapeCast S16x128x16x1024 z shapeCasts_S32768x8x128_S16x128x16x1024 (ix4 s l q k) = z (ix3 (token s (place l q)) ⟨n.val / 128, by omega⟩ ⟨n.val % 128, by omega⟩) := fun z k hk => by
    rw [show k = n from Fin.ext hk]
    refine shapeCast_apply z _ _ _ ?_
    rw [Shape.rowMajor_val_three, Shape.rowMajor_val_four]
    show ((s.val * 2048 + (l.val * 16 + q.val)) * 8 + n.val / 128) * 128 + n.val % 128 = ((s.val * 128 + l.val) * 16 + q.val) * 1024 + n.val
    omega
  have ha := same a
  have hb := same b
  have hv := same v
  unfold laid
  generalize shapeCast S16x128x16x1024 a shapeCasts_S32768x8x128_S16x128x16x1024 = za at ha ⊢
  generalize shapeCast S16x128x16x1024 b shapeCasts_S32768x8x128_S16x128x16x1024 = zb at hb ⊢
  generalize shapeCast S16x128x16x1024 v shapeCasts_S32768x8x128_S16x128x16x1024 = zv at hv ⊢
  pointwise
  match part with
  | ⟨0, _⟩ =>
    rw [dif_pos (show 0 * 1024 + n.val < 1024 by omega)]
    exact ha _ (by show 0 * 1024 + n.val = n.val; omega)
  | ⟨1, _⟩ =>
    rw [dif_neg (show ¬1 * 1024 + n.val < 1024 by omega), dif_pos (show 1 * 1024 + n.val - 1024 < 1024 by omega)]
    exact hb _ (by show 1 * 1024 + n.val - 1024 = n.val; omega)
  | ⟨2, _⟩ =>
    rw [dif_neg (show ¬2 * 1024 + n.val < 1024 by omega), dif_neg (show ¬2 * 1024 + n.val - 1024 < 1024 by omega)]
    exact hv _ (by show 2 * 1024 + n.val - 1024 - 1024 = n.val; omega)

theorem value_apply (s : Fin 16) (q : Fin 16) (l : Fin 128) (N : Fin 3072) :
    val_main_v107 (F := Ideal) x ln w p gq gk (ix4 s q l N) = wide x ln w p gq gk 2 s (place l q) N := by
  obtain ⟨part, n, h⟩ : ∃ (part : Fin 3) (n : Fin 1024), N.val = part.val * 1024 + n.val :=
    ⟨⟨N.val / 1024, by omega⟩, ⟨N.val % 1024, by omega⟩, by show N.val = N.val / 1024 * 1024 + N.val % 1024; omega⟩
  rw [wide_eq x ln w p gq gk 2 part s (place l q) n N h, show N = ⟨part.val * 1024 + n.val, by omega⟩ from Fin.ext h]
  have hq : ∀ T h d, val_main_v35 (F := Ideal) x ln w (ix3 T h d) = product x ln w T (col 2 0 (headCol h d)) := fun T h d =>
    (picked_apply 2 0 slices_S32768x3x3x8x128_S32768x1x1x8x128_0_0_2_0_0 (val_main_v32 (F := Ideal) x ln w) T h d).trans (ProjReference.product_apply x ln w T _)
  have hk : ∀ T h d, val_main_v68 (F := Ideal) x ln w (ix3 T h d) = product x ln w T (col 2 1 (headCol h d)) := fun T h d =>
    (picked_apply 2 1 slices_S32768x3x3x8x128_S32768x1x1x8x128_0_1_2_0_0 (val_main_v32 (F := Ideal) x ln w) T h d).trans (ProjReference.product_apply x ln w T _)
  have hv : ∀ T h d, val_main_v99 (F := Ideal) x ln w (ix3 T h d) = product x ln w T (col 2 2 (headCol h d)) := fun T h d =>
    (picked_apply 2 2 slices_S32768x3x3x8x128_S32768x1x1x8x128_0_2_2_0_0 (val_main_v32 (F := Ideal) x ln w) T h d).trans (ProjReference.product_apply x ln w T _)
  have e : val_main_v107 (F := Ideal) x ln w p gq gk = laid (queries p (val_main_v35 (F := Ideal) x ln w) gq)
      (keys p (val_main_v68 (F := Ideal) x ln w) gk) (val_main_v99 (F := Ideal) x ln w) := rfl
  rw [e, laid_apply]
  exact part_value x ln w p gq gk 2 part _ _ _ s (place l q) (hq _) (hk _) (hv _) n

end Cert.Proj2Reference

end
-- ==== Proof.Proj2Claims.lean ====
/- The claims about the projection to the third group's queries, keys and values: the two results agree. -/
module

public import proofs.«01_k».proof.Defs
public import proofs.«01_k».proof.Proof.Proj2Array
public import proofs.«01_k».proof.Proof.Proj2Reference
public import proofs.«01_k».proof.Proof.Proj2Frame
public import proofs.«01_k».proof.Proof.Gen.Proj2RefIdeal.Run

@[expose] public section

set_option maxRecDepth 16384

noncomputable section

namespace Cert.Proj2Claims

open Idealize.ShloMosaic Idealize.SL.Sem

theorem frame : Cert.quiescent_Proj2 := fun m ρ _ => Cert.Proj2Run.frame m ρ

theorem frame_ideal : Cert.quiescent_Proj2Ideal := fun m ρ _ => Cert.Proj2IdealRun.frame m ρ

theorem frame_ref : Cert.quiescent_Proj2RefIdeal := fun m ρ _ =>
  (θ_run Cert.Proj2RefIdeal.defs _ _).mono (fun r h => ⟨fun c => (h c).2, sem_eq_zero_of_no_sems (by decide) r.2⟩)
    (Cert.Proj2RefIdeal.Value.run (F := Ideal) m ρ)

theorem preserves : Cert.preserves_Proj2_Proj2Ideal := trivial

/-- The kernel's entries are the reference's. -/
theorem wide_eq (x : (⟨Cert.Proj2RefIdeal.S32768x1024, .f32⟩ : BufTy).Contents (Elt Ideal))
    (ln : (⟨Cert.Proj2RefIdeal.S1024, .f32⟩ : BufTy).Contents (Elt Ideal))
    (w : (⟨Cert.Proj2RefIdeal.S1024x9216, .f32⟩ : BufTy).Contents (Elt Ideal))
    (p : (⟨Cert.Proj2RefIdeal.S16x2048, .i32⟩ : BufTy).Contents (Elt Ideal))
    (gq gk : (⟨Cert.Proj2RefIdeal.S128, .f32⟩ : BufTy).Contents (Elt Ideal)) :
    (fun i => ProjValue.wide x ln w p gq gk 2 (i 0) (Proj2Array.place (i 2) (i 1)) (i 3)) = Cert.Proj2RefIdeal.Read.val_main_v107 (F := Ideal) x ln w p gq gk := by
  funext i
  refine Eq.trans ?_ (congrArg (Cert.Proj2RefIdeal.Read.val_main_v107 (F := Ideal) x ln w p gq gk) (eq_ix4 i)).symm
  exact (Proj2Reference.value_apply x ln w p gq gk (i 0) (i 1) (i 2) (i 3)).symm

theorem algebraic : Cert.algebraic_Proj2Ideal_Proj2RefIdeal := by
  intro m ρ m' ρ' _ hagree
  refine ⟨fun c => (Cert.Proj2IdealRun.dats m 0 c).arrAt 8 Cert.Proj2Ideal.cfg0.N, Cert.Proj2IdealRun.run_blocks m ρ, ?_⟩
  have e : ∀ c : Dev Cert.Proj2Ideal.nD, Cert.Proj2RefIdeal.Read.val_main_v107 (F := Ideal)
      (m' ((c.tc : Thread Cert.Proj2RefIdeal.nD Cert.Proj2RefIdeal.τ).loc Cert.Proj2RefIdeal.main_arg0))
      (m' ((c.tc : Thread Cert.Proj2RefIdeal.nD Cert.Proj2RefIdeal.τ).loc Cert.Proj2RefIdeal.main_arg1))
      (m' ((c.tc : Thread Cert.Proj2RefIdeal.nD Cert.Proj2RefIdeal.τ).loc Cert.Proj2RefIdeal.main_arg2))
      (m' ((c.tc : Thread Cert.Proj2RefIdeal.nD Cert.Proj2RefIdeal.τ).loc Cert.Proj2RefIdeal.main_arg3))
      (m' ((c.tc : Thread Cert.Proj2RefIdeal.nD Cert.Proj2RefIdeal.τ).loc Cert.Proj2RefIdeal.main_arg4))
      (m' ((c.tc : Thread Cert.Proj2RefIdeal.nD Cert.Proj2RefIdeal.τ).loc Cert.Proj2RefIdeal.main_arg5))
      = (Cert.Proj2IdealRun.dats m 0 c).arrAt 8 Cert.Proj2Ideal.cfg0.N := fun c => by
    rw [(hagree c).1, (hagree c).2.1, (hagree c).2.2.1, (hagree c).2.2.2.1, (hagree c).2.2.2.2.1, (hagree c).2.2.2.2.2]
    exact ((Proj2Array.final m c).trans (wide_eq _ _ _ _ _ _)).symm
  exact (θ_run Cert.Proj2RefIdeal.defs _ _).mono
    (fun _ h c => ⟨(h c).1.trans ((Cert.Proj2RefIdeal.Read.val_main_v107_eq _ _).trans (e c)), (h c).2⟩)
    (Cert.Proj2RefIdeal.Value.run (F := Ideal) m' ρ')

end Cert.Proj2Claims

end
-- ==== Proof.LatentsArray.lean ====
/- The latent attention's latents: the result array, entry by entry, and the plain down-projection's. -/
module

public import proofs.«01_k».proof.Proof.DenseBlock
public import proofs.«01_k».proof.Proof.Gen.LatentsIdeal.Value
public import proofs.«01_k».proof.Proof.Gen.LatentsRefIdeal.Read

@[expose] public section

set_option maxRecDepth 16384

noncomputable section

namespace Cert.LatentsArray

open Cert.LatentsIdeal Cert.LatentsIdeal.Gen Cert.DenseBlock Idealize.ShloMosaic Idealize.ShloMosaic.TcCoe Idealize.SL.Sem

/-- The result: entry `(r, n)` is the product of the normalised row with column `n` of the weights. -/
def latent (x : Vec Ideal S32768x1024 .f32) (g : Vec Ideal S1024 .f32) (w : Vec Ideal S1024x640 .bf16) (r : Fin 32768) (n : Fin 640) : EReal :=
  ∑ l : Fin 1024, normed (fun l => x (ix2 r l)) (fun l => g (ix1 l)) l * w (ix2 l n)

/-- The output's block `i` is made of block `i` of the rows, and of the whole of the scale and the weights. -/
theorem index_rel (t : Fin cfg0.N) :
    (win0_0.index t 0 = win0_3.index t 0 ∧ win0_0.index t 1 = 0) ∧ (win0_1.index t 0 = 0 ∧ win0_1.index t 1 = 0)
    ∧ (win0_2.index t 0 = 0 ∧ win0_2.index t 1 = 0) ∧ win0_3.index t 1 = 0 :=
  by revert t; decide +kernel

theorem out_eq (c : Dev nD) (t : Fin cfg0.N) (x0 : Vec Ideal S1024x1024 .f32) (x1 : Vec Ideal S1x1024 .f32) (x2 : Vec Ideal S1024x640 .bf16) :
    out0_A_3 (F := Ideal) c (grid0.coords t) (ms0_0 t) (hs0_0 t) (ms0_1 t) (hs0_1 t) (ms0_2 t) (hs0_2 t) (ms0_3 t) (hs0_3 t) scM0_0 (Memref.isWhole_whole _)
      (hcond0_0 t) x0 x1 x2 = k0_pay2 (k0_pay1 x0 x1) x2 := by
  unfold out0_A_3
  rw [View.read_writes_eq_canon VO0_3 _ _ (cover0_A_3 c (grid0.coords t) (ms0_0 t) (hs0_0 t) (ms0_1 t) (hs0_1 t) (ms0_2 t) (hs0_2 t) (ms0_3 t) (hs0_3 t) scM0_0 (Memref.isWhole_whole _)
      (hcond0_0 t) x0 x1 x2)]
  unfold kernelRun0_A
  dsimp only
  sl_unfold_words
  simp (disch := decide) only [View.canon_cons_unit_lit', View.ld_unit_lit', View.readCov_unit_lit', View.readCov_cons_unit_lit', View.readAt_eq_ld, Memref.IsWhole.read_unread]

theorem normed_row (x : Vec Ideal S1024x1024 .f32) (g : Vec Ideal S1x1024 .f32) (r : Fin 1024) (l : Fin 1024) :
    k0_pay1 (F := Ideal) x g (ix2 r l) = normed (fun l => x (ix2 r l)) (fun l => g (ix2 0 l)) l := by
  pointwise [k0_pay1]
  rfl

theorem product (h : Vec Ideal S1024x1024 .bf16) (w : Vec Ideal S1024x640 .bf16) (r : Fin 1024) (n : Fin 640) :
    k0_pay2 (F := Ideal) h w (ix2 r n) = ∑ l : Fin 1024, h (ix2 r l) * w (ix2 l n) := by
  pointwise [k0_pay2]

variable (m : (ℓ : Loc nD τ sig) → Buf (Elt Ideal) ℓ)

/-- What point `t` leaves at a place of its block. -/
theorem out_apply (c : Dev nD) (t : Fin cfg0.N) (r : Fin 1024) (n : Fin 640) : outsAt0 m c t (ix2 r n)
    = ∑ l : Fin 1024, normed (fun l => iblk m c 0 t (ix2 r l)) (fun l => iblk m c 1 t (ix2 0 l)) l * iblk m c 2 t (ix2 l n) := by
  unfold outsAt0
  rw [out_eq, product]
  exact Finset.sum_congr rfl fun l _ => congrArg (fun (a : EReal) => a * iblk m c 2 t (ix2 l n)) (normed_row _ _ r l)

/-- The scale as a row, when the kernel is entered. -/
theorem scale_row (c : Dev nD) (l : Fin 1024) : V m c main_v0 (ix2 (0 : Fin 1) l) = m ((c : Thread nD τ).loc main_arg1) (ix1 l) := by
  have e : V m c main_v0 = shapeCast S1x1024 (m ((c : Thread nD τ).loc main_arg1)) shapeCasts_S1024_S1x1024 := by
    show StableHlo.after hostOps0 _ (Proc.devRef .tc main_v0) = _
    after_results
    rfl
  rw [e]
  generalize m ((c : Thread nD τ).loc main_arg1) = z
  pointwise

theorem iblk0_apply (c : Dev nD) (t : Fin cfg0.N) (y0 : Fin 1024) (y1 : Fin 1024) (z0 : Fin 32768) (z1 : Fin 1024)
    (h0 : win0_0.index t 0 * 1024 + y0.val = z0.val) (h1 : win0_0.index t 1 * 1024 + y1.val = z1.val) :
    iblk m c 0 t (ix2 y0 y1) = m ((c : Thread nD τ).loc main_arg0) (ix2 z0 z1) :=
  congrArg (m ((c : Thread nD τ).loc main_arg0)) (funext fun a => Fin.ext ((win0_0.rect_emb_val t (ix2 y0 y1) a).trans
    (match a with | ⟨0, _⟩ => h0 | ⟨1, _⟩ => h1)))

theorem iblk1_apply (c : Dev nD) (t : Fin cfg0.N) (l : Fin 1024) (h0 : win0_1.index t 0 = 0) (h1 : win0_1.index t 1 = 0) :
    iblk m c 1 t (ix2 (0 : Fin 1) l) = m ((c : Thread nD τ).loc main_arg1) (ix1 l) :=
  (congrArg (V m c main_v0) (funext fun a => Fin.ext ((win0_1.rect_emb_val t (ix2 (0 : Fin 1) l) a).trans
    (match a with
      | ⟨0, _⟩ => (by show win0_1.index t 0 * 1 + 0 = 0; omega)
      | ⟨1, _⟩ => (by show win0_1.index t 1 * 1024 + l.val = l.val; omega)))) :
      V m c main_v0 (((cfg0.win 1).blk t).view.emb (ix2 (0 : Fin 1) l)) = V m c main_v0 (ix2 (0 : Fin 1) l)).trans (scale_row m c l)

theorem iblk2_apply (c : Dev nD) (t : Fin cfg0.N) (y0 : Fin 1024) (y1 : Fin 640) (z0 : Fin 1024) (z1 : Fin 640)
    (h0 : win0_2.index t 0 * 1024 + y0.val = z0.val) (h1 : win0_2.index t 1 * 640 + y1.val = z1.val) :
    iblk m c 2 t (ix2 y0 y1) = m ((c : Thread nD τ).loc main_arg2) (ix2 z0 z1) :=
  congrArg (m ((c : Thread nD τ).loc main_arg2)) (funext fun a => Fin.ext ((win0_2.rect_emb_val t (ix2 y0 y1) a).trans
    (match a with | ⟨0, _⟩ => h0 | ⟨1, _⟩ => h1)))

theorem final (c : Dev nD) : (dats m 0 c).arrAt 3 cfg0.N
    = fun i => latent (m ((c : Thread nD τ).loc main_arg0)) (m ((c : Thread nD τ).loc main_arg1)) (m ((c : Thread nD τ).loc main_arg2)) (i 0) (i 1) := by
  refine (dats m 0 c).arrAt_eq_of_covers 3 _ (by decide +kernel) fun t hf y => ?_
  blk_simp
  rw [after0_3]
  obtain ⟨⟨a0, a1⟩, ⟨b0, b1⟩, ⟨c0, c1⟩, d1⟩ := index_rel t
  have e0 : ((win0_3.blk t).view.emb y 0).val = win0_3.index t 0 * 1024 + (y 0).val := win0_3.rect_emb_val t y 0
  have e1 : ((win0_3.blk t).view.emb y 1).val = win0_3.index t 1 * 640 + (y 1).val := win0_3.rect_emb_val t y 1
  generalize (win0_3.blk t).view.emb y = E at e0 e1 ⊢
  obtain ⟨r, hr⟩ : ∃ r : Fin 1024, r = y 0 := ⟨_, rfl⟩
  obtain ⟨n, hn⟩ : ∃ n : Fin 640, n = y 1 := ⟨_, rfl⟩
  obtain ⟨R, hR⟩ : ∃ R : Fin 32768, R = E 0 := ⟨_, rfl⟩
  obtain ⟨N, hN⟩ : ∃ N : Fin 640, N = E 1 := ⟨_, rfl⟩
  rw [show y = ix2 r n from by rw [hr, hn]; exact eq_ix2 y, ← hR, ← hN, out_apply]
  rw [← hr, ← hR] at e0
  rw [← hn, ← hN] at e1
  unfold latent
  refine Finset.sum_congr (M := EReal) rfl fun l _ => congrArg₂ (fun (a b : EReal) => a * b)
    (congrArg₂ (fun u v => normed u v l) (funext fun k => ?_) (funext fun k => iblk1_apply m c t k b0 b1)) (iblk2_apply m c t l n l N (by omega) (by omega))
  exact iblk0_apply m c t r k R k (by omega) (by omega)

section Plain

open Cert.LatentsRefIdeal.Read

variable (x : (⟨Cert.LatentsRefIdeal.S32768x1024, .f32⟩ : BufTy).Contents (Elt Ideal)) (g : (⟨Cert.LatentsRefIdeal.S1024, .f32⟩ : BufTy).Contents (Elt Ideal))
  (w : (⟨Cert.LatentsRefIdeal.S1024x640, .bf16⟩ : BufTy).Contents (Elt Ideal))

/-- A plainly normalised row. -/
theorem plain_row (r : Fin 32768) (l : Fin 1024) : val_main_v12 (F := Ideal) x g (ix2 r l)
    = normed (fun l => x (ix2 r l)) (fun l => g (ix1 l)) l := by
  simp only [val_main_v12_apply, val_main_v11_apply, val_main_v10_apply, val_main_v9_apply, val_main_v8_apply, val_main_v7_apply,
    val_main_v6_apply, val_main_v5_apply, val_main_cst_1_apply, val_main_v4_apply, val_main_v3_apply, val_main_cst_0_apply, val_main_v2_apply]
  have s : val_main_v1 (F := Ideal) x (ix1 r) = ∑ l : Fin 1024, (x (ix2 r l) : EReal) * x (ix2 r l) := by
    rw [val_main_v1_apply, val_main_cst_apply, Ideal.ofBits_def, Ideal.ofBits_zero_f32]
    refine (zero_add _).trans (Finset.sum_congr rfl fun k _ => ?_)
    rw [show idx_main_v1 (ix1 r) k = ix2 r k from funext fun a => match a with | ⟨0, _⟩ => rfl | ⟨1, _⟩ => rfl, val_main_v0_apply]
    rfl
  rw [show idx_main_v2 (idx_main_v8 (ix2 r l)) = ix1 r from funext fun a => match a with | ⟨0, _⟩ => rfl,
    show idx_main_v10 (idx_main_v11 (ix2 r l)) = ix1 l from funext fun a => match a with | ⟨0, _⟩ => rfl, s]
  rfl

/-- The plain down-projection at a place. -/
theorem plain_apply (r : Fin 32768) (n : Fin 640) : val_main_v14 (F := Ideal) x g w (ix2 r n) = latent x g w r n := by
  rw [val_main_v14_apply]
  unfold latent
  refine Finset.sum_congr rfl fun l _ => ?_
  rw [show lidx_main_v14 (ix2 r n) l = ix2 r l from funext fun a => match a with | ⟨0, _⟩ => rfl | ⟨1, _⟩ => rfl,
    show ridx_main_v14 (ix2 r n) l = ix2 l n from funext fun a => match a with | ⟨0, _⟩ => rfl | ⟨1, _⟩ => rfl, plain_row, val_main_v13_apply]
  rfl

end Plain

end Cert.LatentsArray

end
-- ==== Proof.LatentsClaims.lean ====
/- The claims about the latent attention's latents: the two results agree. -/
module

public import proofs.«01_k».proof.Defs
public import proofs.«01_k».proof.Proof.LatentsArray
public import proofs.«01_k».proof.Proof.Gen.Latents.Frame
public import proofs.«01_k».proof.Proof.Gen.LatentsRefIdeal.Run

@[expose] public section

set_option maxRecDepth 16384

noncomputable section

namespace Cert.LatentsClaims

open Idealize.ShloMosaic Idealize.SL.Sem

theorem frame : Cert.quiescent_Latents := fun m ρ _ => Cert.Latents.Gen.frame m ρ

theorem frame_ideal : Cert.quiescent_LatentsIdeal := fun m ρ _ => Cert.LatentsIdeal.Gen.frame m ρ

theorem frame_ref : Cert.quiescent_LatentsRefIdeal := fun m ρ _ =>
  (θ_run Cert.LatentsRefIdeal.defs _ _).mono (fun r h => ⟨fun c => (h c).2, sem_eq_zero_of_no_sems (by decide) r.2⟩)
    (Cert.LatentsRefIdeal.Value.run (F := Ideal) m ρ)

theorem preserves : Cert.preserves_Latents_LatentsIdeal := trivial

theorem algebraic : Cert.algebraic_LatentsIdeal_LatentsRefIdeal := by
  intro m ρ m' ρ' _ hagree
  refine ⟨fun c => (Cert.LatentsIdeal.Gen.dats m 0 c).arrAt 3 Cert.LatentsIdeal.cfg0.N, Cert.LatentsIdeal.Value.run_blocks m ρ, ?_⟩
  have e : ∀ c : Dev Cert.LatentsIdeal.nD, Cert.LatentsRefIdeal.Read.val_main_v14 (F := Ideal)
      (m' ((c.tc : Thread Cert.LatentsRefIdeal.nD Cert.LatentsRefIdeal.τ).loc Cert.LatentsRefIdeal.main_arg0))
      (m' ((c.tc : Thread Cert.LatentsRefIdeal.nD Cert.LatentsRefIdeal.τ).loc Cert.LatentsRefIdeal.main_arg1))
      (m' ((c.tc : Thread Cert.LatentsRefIdeal.nD Cert.LatentsRefIdeal.τ).loc Cert.LatentsRefIdeal.main_arg2))
      = (Cert.LatentsIdeal.Gen.dats m 0 c).arrAt 3 Cert.LatentsIdeal.cfg0.N := fun c => by
    rw [(hagree c).1, (hagree c).2.1, (hagree c).2.2]
    refine Eq.trans (funext fun i => ?_) (LatentsArray.final m c).symm
    exact (congrArg (Cert.LatentsRefIdeal.Read.val_main_v14 (F := Ideal) _ _ _) (eq_ix2 i)).trans (LatentsArray.plain_apply _ _ _ (i 0) (i 1))
  exact (θ_run Cert.LatentsRefIdeal.defs _ _).mono
    (fun _ h c => ⟨(h c).1.trans ((Cert.LatentsRefIdeal.Read.val_main_v14_eq _ _ _).trans (e c)), (h c).2⟩)
    (Cert.LatentsRefIdeal.Value.run (F := Ideal) m' ρ')

end Cert.LatentsClaims

end
-- ==== Proof.OutArray.lean ====
/- The latent attention's output projection: its result array, entry by entry, and the plain projection's. -/
module

public import Idealize.ShloMosaic.Lib.Pipeline.ValueKit
public import proofs.«01_k».proof.Proof.Gen.OutIdeal.Value
public import proofs.«01_k».proof.Proof.Gen.OutRefIdeal.Read

@[expose] public section

set_option maxRecDepth 16384

noncomputable section

namespace Cert.OutArray

open Cert.OutIdeal Cert.OutIdeal.Gen Idealize.ShloMosaic Idealize.ShloMosaic.TcCoe Idealize.SL.Sem

/-- The result: entry `(r, n)` is the row's own entry and the product of the heads' outputs at position `r % 2048` of sequence
    `r / 2048` with column `n` of the weights. -/
def sent (o : Vec Ideal S16x1024x2048 .bf16) (w : Vec Ideal S1024x1024 .bf16) (x : Vec Ideal S32768x1024 .f32) (r : Fin 32768) (n : Fin 1024) : EReal :=
  x (ix2 r n) + ∑ k : Fin 1024, o (ix3 ⟨r.val / 2048, by omega⟩ k ⟨r.val % 2048, by omega⟩) * w (ix2 k n)

/-- The output's block `i` is made of block `(i / 4, 0, i % 4)` of the heads' outputs, of all the weights and of block `i` of the rows. -/
theorem index_rel (t : Fin cfg0.N) :
    (win0_0.index t 0 = win0_3.index t 0 / 4 ∧ win0_0.index t 1 = 0 ∧ win0_0.index t 2 = win0_3.index t 0 % 4)
    ∧ (win0_1.index t 0 = 0 ∧ win0_1.index t 1 = 0) ∧ (win0_2.index t 0 = win0_3.index t 0 ∧ win0_2.index t 1 = 0) ∧ win0_3.index t 1 = 0 :=
  by revert t; decide +kernel

/-- A place of an output block, from the input blocks. -/
theorem block_apply (x0 : Vec Ideal S1x1024x512 .bf16) (x1 : Vec Ideal S1024x1024 .bf16) (x2 : Vec Ideal S512x1024 .f32) (r : Fin 512) (n : Fin 1024) :
    out0_3 (F := Ideal) x0 x1 x2 (ix2 r n) = x2 (ix2 r n) + ∑ k : Fin 1024, x0 (ix3 0 k r) * x1 (ix2 k n) := by
  unfold out0_3
  simp (disch := decide) only [View.canon_cons_unit_lit', View.ld_unit_lit']
  pointwise [k0_pay1]

variable (m : (ℓ : Loc nD τ sig) → Buf (Elt Ideal) ℓ)

theorem iblk0_apply (c : Dev nD) (t : Fin cfg0.N) (y1 : Fin 1024) (y2 : Fin 512) (z0 : Fin 16) (z1 : Fin 1024) (z2 : Fin 2048)
    (h0 : win0_0.index t 0 * 1 + 0 = z0.val) (h1 : win0_0.index t 1 * 1024 + y1.val = z1.val) (h2 : win0_0.index t 2 * 512 + y2.val = z2.val) :
    iblk m c 0 t (ix3 0 y1 y2) = m ((c : Thread nD τ).loc main_arg0) (ix3 z0 z1 z2) :=
  congrArg (m ((c : Thread nD τ).loc main_arg0)) (funext fun a => Fin.ext ((win0_0.rect_emb_val t (ix3 0 y1 y2) a).trans
    (match a with | ⟨0, _⟩ => h0 | ⟨1, _⟩ => h1 | ⟨2, _⟩ => h2)))

theorem iblk1_apply (c : Dev nD) (t : Fin cfg0.N) (y0 y1 z0 z1 : Fin 1024)
    (h0 : win0_1.index t 0 * 1024 + y0.val = z0.val) (h1 : win0_1.index t 1 * 1024 + y1.val = z1.val) :
    iblk m c 1 t (ix2 y0 y1) = m ((c : Thread nD τ).loc main_arg1) (ix2 z0 z1) :=
  congrArg (m ((c : Thread nD τ).loc main_arg1)) (funext fun a => Fin.ext ((win0_1.rect_emb_val t (ix2 y0 y1) a).trans
    (match a with | ⟨0, _⟩ => h0 | ⟨1, _⟩ => h1)))

theorem iblk2_apply (c : Dev nD) (t : Fin cfg0.N) (y0 : Fin 512) (y1 : Fin 1024) (z0 : Fin 32768) (z1 : Fin 1024)
    (h0 : win0_2.index t 0 * 512 + y0.val = z0.val) (h1 : win0_2.index t 1 * 1024 + y1.val = z1.val) :
    iblk m c 2 t (ix2 y0 y1) = m ((c : Thread nD τ).loc main_arg2) (ix2 z0 z1) :=
  congrArg (m ((c : Thread nD τ).loc main_arg2)) (funext fun a => Fin.ext ((win0_2.rect_emb_val t (ix2 y0 y1) a).trans
    (match a with | ⟨0, _⟩ => h0 | ⟨1, _⟩ => h1)))

theorem final (c : Dev nD) : (dats m 0 c).arrAt 3 cfg0.N
    = fun i => sent (m ((c : Thread nD τ).loc main_arg0)) (m ((c : Thread nD τ).loc main_arg1)) (m ((c : Thread nD τ).loc main_arg2)) (i 0) (i 1) := by
  refine (dats m 0 c).arrAt_eq_of_covers 3 _ (by decide +kernel) fun t hf y => ?_
  blk_simp
  rw [after0_3]
  obtain ⟨⟨a0, a1, a2⟩, ⟨b0, b1⟩, ⟨c0, c1⟩, d1⟩ := index_rel t
  have e0 : ((win0_3.blk t).view.emb y 0).val = win0_3.index t 0 * 512 + (y 0).val := win0_3.rect_emb_val t y 0
  have e1 : ((win0_3.blk t).view.emb y 1).val = win0_3.index t 1 * 1024 + (y 1).val := win0_3.rect_emb_val t y 1
  generalize (win0_3.blk t).view.emb y = E at e0 e1 ⊢
  obtain ⟨r, hr⟩ : ∃ r : Fin 512, r = y 0 := ⟨_, rfl⟩
  obtain ⟨n, hn⟩ : ∃ n : Fin 1024, n = y 1 := ⟨_, rfl⟩
  obtain ⟨R, hR⟩ : ∃ R : Fin 32768, R = E 0 := ⟨_, rfl⟩
  obtain ⟨N, hN⟩ : ∃ N : Fin 1024, N = E 1 := ⟨_, rfl⟩
  rw [show y = ix2 r n from by rw [hr, hn]; exact eq_ix2 y, ← hR, ← hN, block_apply]
  rw [← hr, ← hR] at e0
  rw [← hn, ← hN] at e1
  unfold sent
  refine congrArg₂ (· + ·) (iblk2_apply m c t r n R N (by omega) (by omega)) (Finset.sum_congr rfl fun k _ => ?_)
  rw [iblk0_apply m c t k r ⟨R.val / 2048, by omega⟩ k ⟨R.val % 2048, by omega⟩ (by show _ = R.val / 2048; omega) (by omega)
    (by show _ = R.val % 2048; omega), iblk1_apply m c t k n k N (by omega) (by omega)]

/-- The plain projection at a place. -/
theorem plain_apply (o : (⟨Cert.OutRefIdeal.S16x1024x2048, .bf16⟩ : BufTy).Contents (Elt Ideal))
    (w : (⟨Cert.OutRefIdeal.S1024x1024, .bf16⟩ : BufTy).Contents (Elt Ideal)) (x : (⟨Cert.OutRefIdeal.S32768x1024, .f32⟩ : BufTy).Contents (Elt Ideal))
    (r : Fin 32768) (n : Fin 1024) : Cert.OutRefIdeal.Read.val_main_v5 (F := Ideal) o w x (ix2 r n) = sent o w x r n := by
  open Cert.OutRefIdeal.Read in
  rw [val_main_v5_apply, val_main_v4_apply]
  unfold sent
  refine congrArg (x (ix2 r n) + ·) (Finset.sum_congr rfl fun k _ => ?_)
  rw [val_main_v2_apply, val_main_v1_apply, val_main_v0_apply, val_main_v3_apply]
  refine congrArg₂ (fun (a b : EReal) => a * b) (congrArg o (funext fun a => Fin.ext ?_)) (congrArg w (funext fun a => Fin.ext ?_))
  · match a with
    | ⟨0, _⟩ => show (r.val * 1024 + k.val) / 2097152 = r.val / 2048; omega
    | ⟨1, _⟩ => show (r.val * 1024 + k.val) % 1024 = k.val; omega
    | ⟨2, _⟩ => show (r.val * 1024 + k.val) / 1024 % 2048 = r.val % 2048; omega
  · match a with
    | ⟨0, _⟩ => rfl
    | ⟨1, _⟩ => rfl

end Cert.OutArray

end
-- ==== Proof.OutClaims.lean ====
/- The claims about the latent attention's output projection: the two results agree. -/
module

public import proofs.«01_k».proof.Defs
public import proofs.«01_k».proof.Proof.OutArray
public import proofs.«01_k».proof.Proof.Gen.Out.Frame
public import proofs.«01_k».proof.Proof.Gen.OutRefIdeal.Run

@[expose] public section

set_option maxRecDepth 16384

noncomputable section

namespace Cert.OutClaims

open Idealize.ShloMosaic Idealize.SL.Sem

theorem frame : Cert.quiescent_Out := fun m ρ _ => Cert.Out.Gen.frame m ρ

theorem frame_ideal : Cert.quiescent_OutIdeal := fun m ρ _ => Cert.OutIdeal.Gen.frame m ρ

theorem frame_ref : Cert.quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

theorem preserves : Cert.preserves_Out_OutIdeal := trivial

theorem algebraic : Cert.algebraic_OutIdeal_OutRefIdeal := by
  intro m ρ m' ρ' _ hagree
  refine ⟨fun c => (Cert.OutIdeal.Gen.dats m 0 c).arrAt 3 Cert.OutIdeal.cfg0.N, Cert.OutIdeal.Value.run_blocks m ρ, ?_⟩
  have e : ∀ c : Dev Cert.OutIdeal.nD, Cert.OutRefIdeal.Read.val_main_v5 (F := Ideal)
      (m' ((c.tc : Thread Cert.OutRefIdeal.nD Cert.OutRefIdeal.τ).loc Cert.OutRefIdeal.main_arg0))
      (m' ((c.tc : Thread Cert.OutRefIdeal.nD Cert.OutRefIdeal.τ).loc Cert.OutRefIdeal.main_arg1))
      (m' ((c.tc : Thread Cert.OutRefIdeal.nD Cert.OutRefIdeal.τ).loc Cert.OutRefIdeal.main_arg2))
      = (Cert.OutIdeal.Gen.dats m 0 c).arrAt 3 Cert.OutIdeal.cfg0.N := fun c => by
    rw [(hagree c).1, (hagree c).2.1, (hagree c).2.2]
    refine Eq.trans (funext fun i => ?_) (OutArray.final m c).symm
    exact (congrArg (Cert.OutRefIdeal.Read.val_main_v5 (F := Ideal) _ _ _) (eq_ix2 i)).trans (OutArray.plain_apply _ _ _ (i 0) (i 1))
  exact (θ_run Cert.OutRefIdeal.defs _ _).mono
    (fun _ h c => ⟨(h c).1.trans ((Cert.OutRefIdeal.Read.val_main_v5_eq _ _ _).trans (e c)), (h c).2⟩)
    (Cert.OutRefIdeal.Value.run (F := Ideal) m' ρ')

end Cert.OutClaims

end
-- ==== Proof.PrepRows.lean ====
/- The recurrence's inputs, entry by entry: the normalised rows, their differences from the rows beside them, and what each result is of these. -/
module

public import proofs.«01_k».proof.Proof.DenseBlock

@[expose] public section

set_option maxRecDepth 16384

noncomputable section

namespace Cert.PrepRows

open Cert.DenseBlock Idealize.ShloMosaic

abbrev A1 (a : Nat) := (⟨1, ![a]⟩ : Shape).Idx → EReal
abbrev A2 (a b : Nat) := (⟨2, ![a, b]⟩ : Shape).Idx → EReal
abbrev A3 (a b c : Nat) := (⟨3, ![a, b, c]⟩ : Shape).Idx → EReal

/-- Row `R`, normalised and scaled. -/
def row (x : A2 32768 1024) (g : A1 1024) (R : Fin 32768) (l : Fin 1024) : EReal :=
  normed (fun k => x (ix2 R k)) (fun k => g (ix1 k)) l

/-- The row before less this one, a zero row before a sequence's first. -/
def fwd (x : A2 32768 1024) (g : A1 1024) (R : Fin 32768) (l : Fin 1024) : EReal :=
  (if R.val % 2048 = 0 then (0 : EReal) else row x g ⟨R.val - 1, by omega⟩ l) - row x g R l

/-- The row after less this one, a zero row after a sequence's last. -/
def bwd (x : A2 32768 1024) (g : A1 1024) (R : Fin 32768) (l : Fin 1024) : EReal :=
  (if _ : R.val % 2048 = 2047 then (0 : EReal) else row x g ⟨R.val + 1, by omega⟩ l) - row x g R l

/-- Half of the two differences. -/
def both (x : A2 32768 1024) (g : A1 1024) (R : Fin 32768) (l : Fin 1024) : EReal :=
  Ideal.ofBits .f32 0x3F000000#32 * (fwd x g R l + bwd x g R l)

/-- Direction `d`'s difference. -/
def side (x : A2 32768 1024) (g : A1 1024) (d : Fin 2) (R : Fin 32768) (l : Fin 1024) : EReal :=
  if d.val = 0 then fwd x g R l else bwd x g R l

/-- A row of products of a row mixed with its difference. -/
def mixed (h d mu w : Fin 1024 → EReal) : EReal := ∑ l : Fin 1024, (h l + d l * mu l) * w l

/-- The receptance, key and value. -/
def proj (x : A2 32768 1024) (g : A1 1024) (mu : A2 8 1024) (w : A3 3 1024 1024) (j : Fin 3) (R : Fin 32768) (n : Fin 1024) : EReal :=
  mixed (row x g R) (both x g R) (fun l => mu (ix2 ⟨j.val, by omega⟩ l)) (fun l => w (ix3 j l n))

/-- The gate. -/
def gate (x : A2 32768 1024) (g : A1 1024) (mu : A2 8 1024) (g1 : A2 1024 128) (g2 : A2 128 1024) (R : Fin 32768) (n : Fin 1024) : EReal :=
  ∑ k : Fin 128, Ideal.logistic (mixed (row x g R) (both x g R) (fun l => mu (ix2 3 l)) (fun l => g1 (ix2 l k))) * g2 (ix2 k n)

/-- An entry of the decay, from the mixed row's coefficients. -/
def decayOf (h d mu : Fin 1024 → EReal) (o : EReal) (w1 : Fin 1024 → Fin 64 → EReal) (w2 : Fin 64 → EReal) : EReal :=
  Ideal.ofBits .f32 0xBF1B4598#32 * Ideal.logistic (o + ∑ k : Fin 64, Ideal.tanh (mixed h d mu (fun l => w1 l k)) * w2 k)

/-- An entry of the rate, from the mixed row's coefficients. -/
def rateOf (h d mu : Fin 1024 → EReal) (o : EReal) (w1 : Fin 1024 → Fin 64 → EReal) (w2 : Fin 64 → EReal) : EReal :=
  Ideal.logistic (o + ∑ k : Fin 64, mixed h d mu (fun l => w1 l k) * w2 k)

/-- The logarithm of the decay. -/
def decay (x : A2 32768 1024) (g : A1 1024) (mu : A2 8 1024) (w0 : A2 2 1024) (w1 : A3 2 1024 64) (w2 : A3 2 64 1024) (d : Fin 2) (R : Fin 32768)
    (n : Fin 1024) : EReal :=
  decayOf (row x g R) (side x g d R) (fun l => mu (ix2 ⟨4 + d.val, by omega⟩ l)) (w0 (ix2 d n)) (fun l k => w1 (ix3 d l k)) (fun k => w2 (ix3 d k n))

/-- The in-context rate. -/
def rate (x : A2 32768 1024) (g : A1 1024) (mu : A2 8 1024) (a0 : A2 2 1024) (a1 : A3 2 1024 64) (a2 : A3 2 64 1024) (d : Fin 2) (R : Fin 32768)
    (n : Fin 1024) : EReal :=
  rateOf (row x g R) (side x g d R) (fun l => mu (ix2 ⟨6 + d.val, by omega⟩ l)) (a0 (ix2 d n)) (fun l k => a1 (ix3 d l k)) (fun k => a2 (ix3 d k n))

/-- Equal coefficients, equal entries. -/
theorem alike {A B C D E : Type} (f : A → A → A → B → C → D → E) {h h' d d' mu mu' : A} {o o' : B} {w w' : C} {v v' : D} (e1 : h = h') (e2 : d = d')
    (e3 : mu = mu') (e4 : o = o') (e5 : w = w') (e6 : v = v') : f h d mu o w v = f h' d' mu' o' w' v' := by
  rw [e1, e2, e3, e4, e5, e6]

/-- The same of a row of products. -/
theorem mixed_alike {h h' d d' mu mu' w w' : Fin 1024 → EReal} (e1 : h = h') (e2 : d = d') (e3 : mu = mu') (e4 : w = w') :
    mixed h d mu w = mixed h' d' mu' w' := by
  rw [e1, e2, e3, e4]

end Cert.PrepRows

end
-- ==== Proof.PrepBlock.lean ====
/- What a block of the recurrence's inputs is made of, entry by entry. -/
module

public import proofs.«01_k».proof.Proof.PrepRows
public import proofs.«01_k».proof.Proof.Gen.PrepIdeal.Value

@[expose] public section

set_option maxRecDepth 16384

noncomputable section

namespace Cert.PrepBlock

open Cert.PrepIdeal Cert.PrepIdeal.Gen Cert.DenseBlock Cert.PrepRows Idealize.ShloMosaic Idealize.ShloMosaic.TcCoe Idealize.SL.Sem

/-- The block's place in its sequence, as the kernel computes it. -/
def pos (v : BitVec 32) : BitVec 32 :=
  let w := Scalar.remsi v (Scalar.select (Scalar.cmpi .eq 4#32 0#32) 1#32 4#32)
  let s := Scalar.select (Scalar.cmpi .eq 4#32 0#32) 1#32 4#32
  Scalar.select (Scalar.andi (Scalar.xori (Scalar.cmpi .slt w 0#32) (Scalar.cmpi .slt s 0#32)) (Scalar.cmpi .ne w 0#32)) (Scalar.addi w s) w

theorem pos_val (t : Fin cfg0.N) : pos (BitVec.ofNat 32 (grid0.coords t 0).val) = BitVec.ofNat 32 (t.val % 4) := by
  revert t; decide +kernel

theorem rows_apply (g : Vec Ideal S1x1024 .f32) (x : Vec Ideal S512x1024 .f32) (r : Fin 512) (l : Fin 1024) :
    k0_pay3 (F := Ideal) g x (ix2 r l) = normed (fun k => x (ix2 r k)) (fun k => g (ix2 0 k)) l := by
  pointwise [k0_pay3, k0_pay2]
  rfl

theorem before_apply (g : Vec Ideal S1x1024 .f32) (x : Vec Ideal S1x1024 .f32) (l : Fin 1024) :
    k0_pay4 (F := Ideal) g x (ix2 0 l) = normed (fun k => x (ix2 0 k)) (fun k => g (ix2 0 k)) l := by
  pointwise [k0_pay4, k0_pay2]
  rfl

theorem zero_row (l : Fin 1024) : k0_pay5 (F := Ideal) (ix2 0 l) = (0 : EReal) := by
  pointwise [k0_pay5]

theorem scale_same (g : Vec Ideal S1x1024 .f32) : k0_pay2 (F := Ideal) g = g := by
  funext i
  rw [eq_ix2 i]
  pointwise [k0_pay2]

theorem sel_eq {α : Type} (a b : α) (u v : BitVec 32) : Scalar.select (IntOp.cmpi .eq u v) a b = if u = v then a else b := by
  by_cases h : u = v
  · simp [IntOp.cmpi, Scalar.select, h]
  · have e : (u == v) = false := beq_eq_false_iff_ne.mpr h
    simp [IntOp.cmpi, Scalar.select, h, e]

theorem fwd_apply (h : FVec Ideal S512x1024 .f32) (b : BitVec 1) (p z : FVec Ideal S1x1024 .f32) (r : Fin 512) (l : Fin 1024) :
    k0_pay6 (F := Ideal) h b p z (ix2 r l) = (if r.val = 0 then (Scalar.select b z p) (ix2 0 l) else h (ix2 ⟨r.val - 1, by omega⟩ l)) - h (ix2 r l) := by
  unfold k0_pay6
  generalize Scalar.select b z p = q
  pointwise
  rw [sel_eq]
  refine congrArg (fun a : EReal => a - h (ix2 r l)) ?_
  by_cases e : r.val = 0
  · rw [if_pos e, if_pos (by rw [e])]
  · rw [if_neg e, if_neg fun e' => e (by have := congrArg BitVec.toNat e'; simp only [BitVec.toNat_ofNat] at this; omega)]
    exact congrArg (fun k => h (ix2 k l)) (Fin.ext (by show (r.val + 512 - 1) % 512 = r.val - 1; omega))

theorem bwd_apply (g : FVec Ideal S1x1024 .f32) (h : FVec Ideal S512x1024 .f32) (b : BitVec 32) (x : Vec Ideal S1x1024 .f32) (r : Fin 512) (l : Fin 1024) :
    k0_pay7 (F := Ideal) g h b x (ix2 r l) = (if hr : r.val = 511 then (if b = 3#32 then (0 : EReal) else
      normed (fun k => x (ix2 0 k)) (fun k => g (ix2 0 k)) l) else h (ix2 ⟨r.val + 1, by omega⟩ l)) - h (ix2 r l) := by
  unfold k0_pay7
  pointwise
  rw [sel_eq]
  refine congrArg (fun a : EReal => a - h (ix2 r l)) ?_
  by_cases e : r.val = 511
  · rw [dif_pos e, if_pos (by rw [e])]
    exact sel_eq _ _ b 3#32
  · rw [dif_neg e, if_neg fun e' => e (by have := congrArg BitVec.toNat e'; simp only [BitVec.toNat_ofNat] at this; omega)]
    exact congrArg (fun k => h (ix2 k l)) (Fin.ext (by show (r.val + 512 - 511) % 512 = r.val + 1; omega))

theorem both_apply (g : FVec Ideal S1x1024 .f32) (h : FVec Ideal S512x1024 .f32) (a : BitVec 32) (b : BitVec 1) (p z : FVec Ideal S1x1024 .f32) (x : Vec Ideal S1x1024 .f32) (i : S512x1024.Idx) :
    k0_pay8 (F := Ideal) g h a b p z x i = Ideal.ofBits .f32 0x3F000000#32 * ((k0_pay6 (F := Ideal) h b p z i : EReal) + k0_pay7 (F := Ideal) g h a x i) := rfl

theorem pay10_apply (g : FVec Ideal S1x1024 .f32) (h : FVec Ideal S512x1024 .f32) (a : BitVec 32) (b : BitVec 1) (p z : FVec Ideal S1x1024 .f32) (x : Vec Ideal S1x1024 .f32)
    (mu : Vec Ideal S8x1024 .f32) (w : Vec Ideal S1x1024x1024 .bf16) (r : Fin 512) (n : Fin 1024) :
    k0_pay10 (F := Ideal) (k0_pay9 g h a b p z x mu) w (ix2 r n)
      = mixed (fun l => h (ix2 r l)) (fun l => k0_pay8 (F := Ideal) g h a b p z x (ix2 r l)) (fun l => mu (ix2 0 l)) (fun l => w (ix3 0 l n)) := by
  unfold k0_pay9
  generalize k0_pay8 (F := Ideal) g h a b p z x = d
  pointwise [k0_pay10]
  rfl

theorem pay11_apply (h d : FVec Ideal S512x1024 .f32) (mu : Vec Ideal S8x1024 .f32) (w : Vec Ideal S1x1024x1024 .bf16) (r : Fin 512) (n : Fin 1024) :
    k0_pay11 (F := Ideal) h d mu w (ix2 r n) = mixed (fun l => h (ix2 r l)) (fun l => d (ix2 r l)) (fun l => mu (ix2 1 l)) (fun l => w (ix3 0 l n)) := by
  pointwise [k0_pay11]
  rfl

theorem pay12_apply (h d : FVec Ideal S512x1024 .f32) (mu : Vec Ideal S8x1024 .f32) (w : Vec Ideal S1x1024x1024 .bf16) (r : Fin 512) (n : Fin 1024) :
    k0_pay12 (F := Ideal) h d mu w (ix2 r n) = mixed (fun l => h (ix2 r l)) (fun l => d (ix2 r l)) (fun l => mu (ix2 2 l)) (fun l => w (ix3 0 l n)) := by
  pointwise [k0_pay12]
  rfl

theorem pay14_apply (h d : FVec Ideal S512x1024 .f32) (mu : Vec Ideal S8x1024 .f32) (w : Vec Ideal S1024x128 .bf16) (v : Vec Ideal S128x1024 .bf16) (r : Fin 512) (n : Fin 1024) :
    k0_pay14 (F := Ideal) v (k0_pay13 h d mu w) (constant S512x1024 .f32 0x00000000#32) (ix2 r n)
      = ∑ k : Fin 128, Ideal.logistic (mixed (fun l => h (ix2 r l)) (fun l => d (ix2 r l)) (fun l => mu (ix2 3 l)) (fun l => w (ix2 l k))) * v (ix2 k n) := by
  pointwise [k0_pay14, k0_pay13]
  rfl

theorem pay15_apply (h d : FVec Ideal S512x1024 .f32) (mu : Vec Ideal S8x1024 .f32) (o : Vec Ideal S1x1024 .f32) (w : Vec Ideal S1x1024x64 .bf16) (v : Vec Ideal S1x64x1024 .bf16) (r : Fin 512) (n : Fin 1024) :
    k0_pay15 (F := Ideal) h d mu o w v (ix3 0 r n) = decayOf (fun l => h (ix2 r l)) (fun l => d (ix2 r l)) (fun l => mu (ix2 4 l)) (o (ix2 0 n)) (fun l k => w (ix3 0 l k)) (fun k => v (ix3 0 k n)) := by
  pointwise [k0_pay15]
  rfl

theorem pay18_apply (h d : FVec Ideal S512x1024 .f32) (mu : Vec Ideal S8x1024 .f32) (o : Vec Ideal S1x1024 .f32) (w : Vec Ideal S1x1024x64 .bf16) (v : Vec Ideal S1x64x1024 .bf16) (r : Fin 512) (n : Fin 1024) :
    k0_pay18 (F := Ideal) h d mu o w v (ix3 0 r n) = decayOf (fun l => h (ix2 r l)) (fun l => d (ix2 r l)) (fun l => mu (ix2 5 l)) (o (ix2 0 n)) (fun l k => w (ix3 0 l k)) (fun k => v (ix3 0 k n)) := by
  pointwise [k0_pay18]
  rfl

theorem pay17_apply (h d : FVec Ideal S512x1024 .f32) (mu : Vec Ideal S8x1024 .f32) (o : Vec Ideal S1x1024 .f32) (w : Vec Ideal S1x1024x64 .bf16) (v : Vec Ideal S1x64x1024 .bf16) (r : Fin 512) (n : Fin 1024) :
    k0_pay17 (F := Ideal) o (k0_pay16 h d mu w) v (ix3 0 r n) = rateOf (fun l => h (ix2 r l)) (fun l => d (ix2 r l)) (fun l => mu (ix2 6 l)) (o (ix2 0 n)) (fun l k => w (ix3 0 l k)) (fun k => v (ix3 0 k n)) := by
  pointwise [k0_pay17, k0_pay16]
  rfl

theorem pay1_apply (h d : FVec Ideal S512x1024 .f32) (mu : Vec Ideal S8x1024 .f32) (o : Vec Ideal S1x1024 .f32) (w : Vec Ideal S1x1024x64 .bf16) (v : Vec Ideal S1x64x1024 .bf16) (r : Fin 512) (n : Fin 1024) :
    k0_pay1 (F := Ideal) h o (k0_pay19 d mu) w v (ix3 0 r n) = rateOf (fun l => h (ix2 r l)) (fun l => d (ix2 r l)) (fun l => mu (ix2 7 l)) (o (ix2 0 n)) (fun l k => w (ix3 0 l k)) (fun k => v (ix3 0 k n)) := by
  pointwise [k0_pay1, k0_pay19]
  rfl

end Cert.PrepBlock

end
-- ==== Proof.PrepArray.lean ====
/- The recurrence's inputs: the result arrays, entry by entry. -/
module

public import proofs.«01_k».proof.Proof.PrepBlock
public import proofs.«01_k».proof.Proof.AttnBlock

@[expose] public section

set_option maxRecDepth 16384

noncomputable section

namespace Cert.PrepArray

open Cert.PrepIdeal Cert.PrepIdeal.Gen Cert.DenseBlock Cert.PrepRows Cert.PrepBlock Idealize.ShloMosaic Idealize.ShloMosaic.TcCoe Idealize.SL.Sem
open Cert.AttnBlock (ld_at)

/-- Block `t` holds rows `512 t` onwards; beside it are the eight rows before and the eight after. -/
theorem index_rel (t : Fin cfg0.N) : t.val < 64
    ∧ (win0_0.index t 0 = t.val ∧ win0_0.index t 1 = 0) ∧ (win0_1.index t 0 = t.val * 64 - 1 ∧ win0_1.index t 1 = 0)
    ∧ (win0_2.index t 0 = min ((t.val + 1) * 64) 4095 ∧ win0_2.index t 1 = 0) ∧ (win0_3.index t 0 = 0 ∧ win0_3.index t 1 = 0) := by
  revert t; decide +kernel

/-- Where each result's block lies. -/
theorem index_out (t : Fin cfg0.N) :
    (win0_14.index t 0 = t.val ∧ win0_14.index t 1 = 0) ∧ (win0_15.index t 0 = t.val ∧ win0_15.index t 1 = 0)
    ∧ (win0_16.index t 0 = t.val ∧ win0_16.index t 1 = 0) ∧ (win0_17.index t 0 = t.val ∧ win0_17.index t 1 = 0)
    ∧ (win0_18.index t 0 = 0 ∧ win0_18.index t 1 = t.val ∧ win0_18.index t 2 = 0) ∧ (win0_19.index t 0 = 0 ∧ win0_19.index t 1 = t.val ∧ win0_19.index t 2 = 0) := by
  revert t; decide +kernel

/-- Row `r` of block `t`. -/
def at_ (t : Fin cfg0.N) (r : Fin 512) : Fin 32768 := ⟨t.val * 512 + r.val, by have := (index_rel t).1; omega⟩

/-- A block's place in a result of rows. -/
theorem place2 (f : Fin 32768 → Fin 1024 → EReal) (o : S512x1024.Idx → EReal) (t : Fin cfg0.N) (h : ∀ r n, o (ix2 r n) = f (at_ t r) n)
    (y : S512x1024.Idx) (E : S32768x1024.Idx) (e0 : (E 0).val = t.val * 512 + (y 0).val) (e1 : (E 1).val = 0 * 1024 + (y 1).val) : o y = f (E 0) (E 1) := by
  refine ((congrArg o (eq_ix2 y)).trans (h (y 0) (y 1))).trans (congrArg₂ f (Fin.ext e0.symm) (Fin.ext ?_))
  exact (e1.trans (by omega)).symm

/-- A block's place in a result of rows for each direction. -/
theorem place3 (f : Fin 2 → Fin 32768 → Fin 1024 → EReal) (o : S2x512x1024.Idx → EReal) (t : Fin cfg0.N) (h : ∀ d r n, o (ix3 d r n) = f d (at_ t r) n)
    (y : S2x512x1024.Idx) (E : S2x32768x1024.Idx) (e0 : (E 0).val = 0 * 2 + (y 0).val) (e1 : (E 1).val = t.val * 512 + (y 1).val)
    (e2 : (E 2).val = 0 * 1024 + (y 2).val) : o y = f (E 0) (E 1) (E 2) := by
  refine ((congrArg o (eq_ix3 y)).trans (h (y 0) (y 1) (y 2))).trans ?_
  rw [show E 0 = y 0 from Fin.ext (e0.trans (by omega)), show E 1 = at_ t (y 1) from Fin.ext e1, show E 2 = y 2 from Fin.ext (e2.trans (by omega))]

variable (m : (ℓ : Loc nD τ sig) → Buf (Elt Ideal) ℓ)

/-- The scale as a row, when the kernel is entered. -/
theorem scale_row (c : Dev nD) (l : Fin 1024) : V m c main_v0 (ix2 (0 : Fin 1) l) = m ((c : Thread nD τ).loc main_arg1) (ix1 l) := by
  have e : V m c main_v0 = shapeCast S1x1024 (m ((c : Thread nD τ).loc main_arg1)) shapeCasts_S1024_S1x1024 := by
    show StableHlo.after hostOps0 _ (Proc.devRef .tc main_v0) = _
    after_results
    rfl
  rw [e]
  generalize m ((c : Thread nD τ).loc main_arg1) = z
  pointwise

theorem iblk0_apply (c : Dev nD) (t : Fin cfg0.N) (y0 : Fin 512) (l : Fin 1024) (z0 : Fin 32768)
    (h0 : win0_0.index t 0 * 512 + y0.val = z0.val) (h1 : win0_0.index t 1 = 0) : iblk m c 0 t (ix2 y0 l) = m ((c : Thread nD τ).loc main_arg0) (ix2 z0 l) :=
  congrArg (m ((c : Thread nD τ).loc main_arg0)) (funext fun a => Fin.ext ((win0_0.rect_emb_val t (ix2 y0 l) a).trans
    (match a with | ⟨0, _⟩ => h0 | ⟨1, _⟩ => (by show win0_0.index t 1 * 1024 + l.val = l.val; omega))))

theorem iblk1_apply (c : Dev nD) (t : Fin cfg0.N) (y0 : Fin 8) (l : Fin 1024) (z0 : Fin 32768)
    (h0 : win0_1.index t 0 * 8 + y0.val = z0.val) (h1 : win0_1.index t 1 = 0) : iblk m c 1 t (ix2 y0 l) = m ((c : Thread nD τ).loc main_arg0) (ix2 z0 l) :=
  congrArg (m ((c : Thread nD τ).loc main_arg0)) (funext fun a => Fin.ext ((win0_1.rect_emb_val t (ix2 y0 l) a).trans
    (match a with | ⟨0, _⟩ => h0 | ⟨1, _⟩ => (by show win0_1.index t 1 * 1024 + l.val = l.val; omega))))

theorem iblk2_apply (c : Dev nD) (t : Fin cfg0.N) (y0 : Fin 8) (l : Fin 1024) (z0 : Fin 32768)
    (h0 : win0_2.index t 0 * 8 + y0.val = z0.val) (h1 : win0_2.index t 1 = 0) : iblk m c 2 t (ix2 y0 l) = m ((c : Thread nD τ).loc main_arg0) (ix2 z0 l) :=
  congrArg (m ((c : Thread nD τ).loc main_arg0)) (funext fun a => Fin.ext ((win0_2.rect_emb_val t (ix2 y0 l) a).trans
    (match a with | ⟨0, _⟩ => h0 | ⟨1, _⟩ => (by show win0_2.index t 1 * 1024 + l.val = l.val; omega))))

theorem iblk3_apply (c : Dev nD) (t : Fin cfg0.N) (l : Fin 1024) (h0 : win0_3.index t 0 = 0) (h1 : win0_3.index t 1 = 0) :
    iblk m c 3 t (ix2 (0 : Fin 1) l) = m ((c : Thread nD τ).loc main_arg1) (ix1 l) :=
  (congrArg (V m c main_v0) (funext fun a => Fin.ext ((win0_3.rect_emb_val t (ix2 (0 : Fin 1) l) a).trans
    (match a with
      | ⟨0, _⟩ => (by show win0_3.index t 0 * 1 + 0 = 0; omega)
      | ⟨1, _⟩ => (by show win0_3.index t 1 * 1024 + l.val = l.val; omega)))) :
      V m c main_v0 (((cfg0.win 3).blk t).view.emb (ix2 (0 : Fin 1) l)) = V m c main_v0 (ix2 (0 : Fin 1) l)).trans (scale_row m c l)

/-- The coefficients and the weights are there whole at every block. -/
theorem index_zero : (∀ (t : Fin cfg0.N) a, win0_4.index t a = 0)
    ∧ (∀ (t : Fin cfg0.N) a, win0_5.index t a = 0)
    ∧ (∀ (t : Fin cfg0.N) a, win0_6.index t a = 0)
    ∧ (∀ (t : Fin cfg0.N) a, win0_7.index t a = 0)
    ∧ (∀ (t : Fin cfg0.N) a, win0_8.index t a = 0)
    ∧ (∀ (t : Fin cfg0.N) a, win0_9.index t a = 0)
    ∧ (∀ (t : Fin cfg0.N) a, win0_10.index t a = 0)
    ∧ (∀ (t : Fin cfg0.N) a, win0_11.index t a = 0)
    ∧ (∀ (t : Fin cfg0.N) a, win0_12.index t a = 0)
    ∧ (∀ (t : Fin cfg0.N) a, win0_13.index t a = 0) := by
  decide +kernel

theorem iblk4_eq (c : Dev nD) (t : Fin cfg0.N) : iblk m c 4 t = m ((c : Thread nD τ).loc main_arg2) :=
  funext fun y => congrArg (m ((c : Thread nD τ).loc main_arg2)) (funext fun a => Fin.ext ((win0_4.rect_emb_val t y a).trans
    (by rw [index_zero.1 t a, Nat.zero_mul, Nat.zero_add])))

theorem iblk5_eq (c : Dev nD) (t : Fin cfg0.N) : iblk m c 5 t = m ((c : Thread nD τ).loc main_arg3) :=
  funext fun y => congrArg (m ((c : Thread nD τ).loc main_arg3)) (funext fun a => Fin.ext ((win0_5.rect_emb_val t y a).trans
    (by rw [index_zero.2.1 t a, Nat.zero_mul, Nat.zero_add])))

theorem iblk6_eq (c : Dev nD) (t : Fin cfg0.N) : iblk m c 6 t = m ((c : Thread nD τ).loc main_arg4) :=
  funext fun y => congrArg (m ((c : Thread nD τ).loc main_arg4)) (funext fun a => Fin.ext ((win0_6.rect_emb_val t y a).trans
    (by rw [index_zero.2.2.1 t a, Nat.zero_mul, Nat.zero_add])))

theorem iblk7_eq (c : Dev nD) (t : Fin cfg0.N) : iblk m c 7 t = m ((c : Thread nD τ).loc main_arg5) :=
  funext fun y => congrArg (m ((c : Thread nD τ).loc main_arg5)) (funext fun a => Fin.ext ((win0_7.rect_emb_val t y a).trans
    (by rw [index_zero.2.2.2.1 t a, Nat.zero_mul, Nat.zero_add])))

theorem iblk8_eq (c : Dev nD) (t : Fin cfg0.N) : iblk m c 8 t = m ((c : Thread nD τ).loc main_arg6) :=
  funext fun y => congrArg (m ((c : Thread nD τ).loc main_arg6)) (funext fun a => Fin.ext ((win0_8.rect_emb_val t y a).trans
    (by rw [index_zero.2.2.2.2.1 t a, Nat.zero_mul, Nat.zero_add])))

theorem iblk9_eq (c : Dev nD) (t : Fin cfg0.N) : iblk m c 9 t = m ((c : Thread nD τ).loc main_arg7) :=
  funext fun y => congrArg (m ((c : Thread nD τ).loc main_arg7)) (funext fun a => Fin.ext ((win0_9.rect_emb_val t y a).trans
    (by rw [index_zero.2.2.2.2.2.1 t a, Nat.zero_mul, Nat.zero_add])))

theorem iblk10_eq (c : Dev nD) (t : Fin cfg0.N) : iblk m c 10 t = m ((c : Thread nD τ).loc main_arg8) :=
  funext fun y => congrArg (m ((c : Thread nD τ).loc main_arg8)) (funext fun a => Fin.ext ((win0_10.rect_emb_val t y a).trans
    (by rw [index_zero.2.2.2.2.2.2.1 t a, Nat.zero_mul, Nat.zero_add])))

theorem iblk11_eq (c : Dev nD) (t : Fin cfg0.N) : iblk m c 11 t = m ((c : Thread nD τ).loc main_arg9) :=
  funext fun y => congrArg (m ((c : Thread nD τ).loc main_arg9)) (funext fun a => Fin.ext ((win0_11.rect_emb_val t y a).trans
    (by rw [index_zero.2.2.2.2.2.2.2.1 t a, Nat.zero_mul, Nat.zero_add])))

theorem iblk12_eq (c : Dev nD) (t : Fin cfg0.N) : iblk m c 12 t = m ((c : Thread nD τ).loc main_arg10) :=
  funext fun y => congrArg (m ((c : Thread nD τ).loc main_arg10)) (funext fun a => Fin.ext ((win0_12.rect_emb_val t y a).trans
    (by rw [index_zero.2.2.2.2.2.2.2.2.1 t a, Nat.zero_mul, Nat.zero_add])))

theorem iblk13_eq (c : Dev nD) (t : Fin cfg0.N) : iblk m c 13 t = m ((c : Thread nD τ).loc main_arg11) :=
  funext fun y => congrArg (m ((c : Thread nD τ).loc main_arg11)) (funext fun a => Fin.ext ((win0_13.rect_emb_val t y a).trans
    (by rw [index_zero.2.2.2.2.2.2.2.2.2 t a, Nat.zero_mul, Nat.zero_add])))

/-- The block's normalised rows, and their differences. -/
def hB (c : Dev nD) (t : Fin cfg0.N) : FVec Ideal S512x1024 .f32 := k0_pay21 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
def fB (c : Dev nD) (t : Fin cfg0.N) : FVec Ideal S512x1024 .f32 := k0_pay24 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
def bB (c : Dev nD) (t : Fin cfg0.N) : FVec Ideal S512x1024 .f32 := k0_pay25 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
def cB (c : Dev nD) (t : Fin cfg0.N) : FVec Ideal S512x1024 .f32 := k0_pay26 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

theorem scale_ld (c : Dev nD) (t : Fin cfg0.N) : (fun k => View.ld (iblk m c 3 t) r0_0 (ix2 0 k)) = fun k => m ((c : Thread nD τ).loc main_arg1) (ix1 k) := by
  obtain ⟨-, -, -, -, a, b⟩ := index_rel t
  exact funext fun k => (ld_at (iblk m c 3 t) (ix2 0 k) (ix2 0 k) fun a => match a with | ⟨0, _⟩ => rfl | ⟨1, _⟩ => Nat.zero_add _).trans (iblk3_apply m c t k a b)

theorem hB_apply (c : Dev nD) (t : Fin cfg0.N) (r : Fin 512) (l : Fin 1024) :
    hB m c t (ix2 r l) = row (m ((c : Thread nD τ).loc main_arg0)) (m ((c : Thread nD τ).loc main_arg1)) (at_ t r) l := by
  obtain ⟨-, ⟨a, b⟩, -⟩ := index_rel t
  refine (rows_apply (View.ld (iblk m c 3 t) r0_0) (View.ld (iblk m c 0 t) r0_1) r l).trans ?_
  refine congrArg₂ (fun u v => normed u v l) (funext fun k => ?_) (scale_ld m c t)
  exact (ld_at (iblk m c 0 t) (ix2 r k) (ix2 r k) fun a => match a with | ⟨0, _⟩ => Nat.zero_add _ | ⟨1, _⟩ => Nat.zero_add _).trans
    (iblk0_apply m c t r k (at_ t r) (by rw [a]; rfl) b)

theorem fB_eq (c : Dev nD) (t : Fin cfg0.N) : fB m c t = k0_pay6 (F := Ideal) (hB m c t) (Scalar.cmpi .eq (pos (BitVec.ofNat 32 (grid0.coords t 0).val)) 0#32)
    (k0_pay4 (View.ld (iblk m c 3 t) r0_0) (View.ld (iblk m c 1 t) r0_2)) k0_pay5 := by
  delta fB k0_pay24 k0_pay22 k0_pay23 hB pos
  rfl

theorem bB_eq (c : Dev nD) (t : Fin cfg0.N) : bB m c t = k0_pay7 (F := Ideal) (k0_pay2 (View.ld (iblk m c 3 t) r0_0)) (hB m c t) (pos (BitVec.ofNat 32 (grid0.coords t 0).val))
    (View.ld (iblk m c 2 t) r0_3) := by
  delta bB k0_pay25 k0_pay20 hB pos
  rfl

/-- The last row of the eight before the block. -/
theorem before_row (c : Dev nD) (t : Fin cfg0.N) (R : Fin 32768) (h : (t.val * 64 - 1) * 8 + 7 = R.val) (l : Fin 1024) :
    normed (fun k => View.ld (iblk m c 1 t) r0_2 (ix2 0 k)) (fun k => View.ld (iblk m c 3 t) r0_0 (ix2 0 k)) l = row (m ((c : Thread nD τ).loc main_arg0)) (m ((c : Thread nD τ).loc main_arg1)) R l := by
  obtain ⟨-, -, ⟨a, b⟩, -⟩ := index_rel t
  refine congrArg₂ (fun u v => normed u v l) (funext fun k => ?_) (scale_ld m c t)
  have e : View.ld (iblk m c 1 t) r0_2 (ix2 0 k) = iblk m c 1 t (ix2 7 k) :=
    ld_at (iblk m c 1 t) (ix2 0 k) (ix2 7 k) fun a => match a with | ⟨0, _⟩ => rfl | ⟨1, _⟩ => Nat.zero_add _
  have f : iblk m c 1 t (ix2 7 k) = m ((c : Thread nD τ).loc main_arg0) (ix2 R k) := iblk1_apply m c t 7 k R (by rw [a]; exact h) b
  exact e.trans f

/-- The first row of the eight after the block. -/
theorem after_row (c : Dev nD) (t : Fin cfg0.N) (R : Fin 32768) (h : min ((t.val + 1) * 64) 4095 * 8 = R.val) (l : Fin 1024) :
    normed (fun k => View.ld (iblk m c 2 t) r0_3 (ix2 0 k)) (fun k => View.ld (iblk m c 3 t) r0_0 (ix2 0 k)) l = row (m ((c : Thread nD τ).loc main_arg0)) (m ((c : Thread nD τ).loc main_arg1)) R l := by
  obtain ⟨-, -, -, ⟨a, b⟩, -⟩ := index_rel t
  refine congrArg₂ (fun u v => normed u v l) (funext fun k => ?_) (scale_ld m c t)
  have e : View.ld (iblk m c 2 t) r0_3 (ix2 0 k) = iblk m c 2 t (ix2 0 k) :=
    ld_at (iblk m c 2 t) (ix2 0 k) (ix2 0 k) fun a => match a with | ⟨0, _⟩ => rfl | ⟨1, _⟩ => Nat.zero_add _
  have f : iblk m c 2 t (ix2 0 k) = m ((c : Thread nD τ).loc main_arg0) (ix2 R k) := iblk2_apply m c t 0 k R (by rw [a, Fin.val_zero, Nat.add_zero]; exact h) b
  exact e.trans f

theorem at_val (t : Fin cfg0.N) (r : Fin 512) : (at_ t r).val = t.val * 512 + r.val := rfl

theorem fB_apply (c : Dev nD) (t : Fin cfg0.N) (r : Fin 512) (l : Fin 1024) :
    fB m c t (ix2 r l) = fwd (m ((c : Thread nD τ).loc main_arg0)) (m ((c : Thread nD τ).loc main_arg1)) (at_ t r) l := by
  have hv := at_val t r
  have hr := r.isLt
  rw [fB_eq, fwd_apply, hB_apply m c t r l, pos_val]
  unfold fwd
  generalize hx : m ((c : Thread nD τ).loc main_arg0) = x
  generalize hg : m ((c : Thread nD τ).loc main_arg1) = g
  refine congrArg (fun u : EReal => u - row x g (at_ t r) l) ?_
  by_cases e : r.val = 0
  · rw [if_pos e, show ∀ u v : FVec Ideal S1x1024 .f32, Scalar.select (Scalar.cmpi .eq (BitVec.ofNat 32 (t.val % 4)) 0#32) u v
      = if BitVec.ofNat 32 (t.val % 4) = 0#32 then u else v from fun u v => sel_eq u v _ _]
    by_cases q : t.val % 4 = 0
    · rw [if_pos (by rw [q]), if_pos (by omega)]
      exact zero_row l
    · rw [if_neg fun e' => q (by have := congrArg BitVec.toNat e'; simp only [BitVec.toNat_ofNat] at this; omega), if_neg (by omega), before_apply]
      rw [before_row m c t ⟨(at_ t r).val - 1, by omega⟩ (by dsimp only; omega) l, hx, hg]
  · rw [if_neg e, hB_apply, hx, hg, if_neg (by omega)]
    exact congrArg (fun R => row x g R l) (Fin.ext (by rw [at_val]; dsimp only; omega))

theorem bB_apply (c : Dev nD) (t : Fin cfg0.N) (r : Fin 512) (l : Fin 1024) :
    bB m c t (ix2 r l) = bwd (m ((c : Thread nD τ).loc main_arg0)) (m ((c : Thread nD τ).loc main_arg1)) (at_ t r) l := by
  have hv := at_val t r
  have hr := r.isLt
  rw [bB_eq, bwd_apply, hB_apply m c t r l, pos_val, scale_same]
  unfold bwd
  generalize hx : m ((c : Thread nD τ).loc main_arg0) = x
  generalize hg : m ((c : Thread nD τ).loc main_arg1) = g
  refine congrArg (fun u : EReal => u - row x g (at_ t r) l) ?_
  by_cases e : r.val = 511
  · rw [dif_pos e]
    by_cases q : t.val % 4 = 3
    · rw [if_pos (by rw [q]), dif_pos (by omega)]
    · have n : ¬(at_ t r).val % 2048 = 2047 := by omega
      rw [if_neg fun e' => q (by have := congrArg BitVec.toNat e'; simp only [BitVec.toNat_ofNat] at this; omega), dif_neg n]
      rw [after_row m c t ⟨(at_ t r).val + 1, by omega⟩ (by dsimp only; have := t.isLt; have : cfg0.N = 64 := rfl; omega) l, hx, hg]
  · have n : ¬(at_ t r).val % 2048 = 2047 := by omega
    rw [dif_neg e, hB_apply, hx, hg, dif_neg n]
    exact congrArg (fun R => row x g R l) (Fin.ext (by rw [at_val]; dsimp only; omega))

theorem cB_apply (c : Dev nD) (t : Fin cfg0.N) (r : Fin 512) (l : Fin 1024) :
    cB m c t (ix2 r l) = both (m ((c : Thread nD τ).loc main_arg0)) (m ((c : Thread nD τ).loc main_arg1)) (at_ t r) l := by
  have e : cB m c t (ix2 r l) = Ideal.ofBits .f32 0x3F000000#32 * ((fB m c t (ix2 r l) : EReal) + bB m c t (ix2 r l)) := rfl
  rw [e, fB_apply, bB_apply]
  rfl

/-- A row of the coefficients. -/
theorem mu_ld (c : Dev nD) (t : Fin cfg0.N) (j : Fin 8) (l : Fin 1024) : View.ld (iblk m c 4 t) r0_4 (ix2 j l) = m ((c : Thread nD τ).loc main_arg2) (ix2 j l) := by
  rw [iblk4_eq]
  exact ld_at (m ((c : Thread nD τ).loc main_arg2)) (ix2 j l) (ix2 j l) fun a => match a with | ⟨0, _⟩ => Nat.zero_add _ | ⟨1, _⟩ => Nat.zero_add _

theorem whole_store (p : S512x1024.Idx → Elt Ideal .bf16) : View.canon (Val := Elt Ideal) (s := S512x1024) (e := .bf16) [⟨r0_1, p⟩] = p :=
  View.canon_cons_unit_lit (Val := Elt Ideal) (S := S512x1024) (e := .bf16) (off := ![0, 0]) inb_S512x1024_S512x1024_0_0 p [] fun a => match a with | ⟨0, _⟩ => rfl | ⟨1, _⟩ => rfl

theorem out14 (c : Dev nD) (t : Fin cfg0.N) (r : Fin 512) (n : Fin 1024) : out0_14 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r n)
    = proj (m ((c : Thread nD τ).loc main_arg0)) (m ((c : Thread nD τ).loc main_arg1)) (m ((c : Thread nD τ).loc main_arg2)) (m ((c : Thread nD τ).loc main_arg3)) 0 (at_ t r) n := by
  unfold out0_14
  refine (congrFun (whole_store _) (ix2 r n)).trans ((pay10_apply (k0_pay2 (View.ld (iblk m c 3 t) r0_0)) (hB m c t) (pos (BitVec.ofNat 32 (grid0.coords t 0).val)) (Scalar.cmpi .eq (pos (BitVec.ofNat 32 (grid0.coords t 0).val)) 0#32)
    (k0_pay4 (View.ld (iblk m c 3 t) r0_0) (View.ld (iblk m c 1 t) r0_2)) k0_pay5 (View.ld (iblk m c 2 t) r0_3) (View.ld (iblk m c 4 t) r0_4) (View.ld (iblk m c 5 t) r0_5) r n).trans ?_)
  refine mixed_alike (funext fun l => hB_apply m c t r l) (funext fun l => cB_apply m c t r l) (funext fun l => mu_ld m c t 0 l) (funext fun l => ?_)
  rw [iblk5_eq]
  exact ld_at (m ((c : Thread nD τ).loc main_arg3)) (ix3 0 l n) (ix3 0 l n) fun a => match a with | ⟨0, _⟩ => rfl | ⟨1, _⟩ => Nat.zero_add _ | ⟨2, _⟩ => Nat.zero_add _

theorem out15 (c : Dev nD) (t : Fin cfg0.N) (r : Fin 512) (n : Fin 1024) : out0_15 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r n)
    = proj (m ((c : Thread nD τ).loc main_arg0)) (m ((c : Thread nD τ).loc main_arg1)) (m ((c : Thread nD τ).loc main_arg2)) (m ((c : Thread nD τ).loc main_arg3)) 1 (at_ t r) n := by
  unfold out0_15
  refine (congrFun (whole_store _) (ix2 r n)).trans ((pay11_apply (hB m c t) (cB m c t) (View.ld (iblk m c 4 t) r0_4) (View.ld (iblk m c 5 t) r0_6) r n).trans ?_)
  refine mixed_alike (funext fun l => hB_apply m c t r l) (funext fun l => cB_apply m c t r l) (funext fun l => mu_ld m c t 1 l) (funext fun l => ?_)
  rw [iblk5_eq]
  exact ld_at (m ((c : Thread nD τ).loc main_arg3)) (ix3 0 l n) (ix3 1 l n) fun a => match a with | ⟨0, _⟩ => rfl | ⟨1, _⟩ => Nat.zero_add _ | ⟨2, _⟩ => Nat.zero_add _

theorem out16 (c : Dev nD) (t : Fin cfg0.N) (r : Fin 512) (n : Fin 1024) : out0_16 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r n)
    = proj (m ((c : Thread nD τ).loc main_arg0)) (m ((c : Thread nD τ).loc main_arg1)) (m ((c : Thread nD τ).loc main_arg2)) (m ((c : Thread nD τ).loc main_arg3)) 2 (at_ t r) n := by
  unfold out0_16
  refine (congrFun (whole_store _) (ix2 r n)).trans ((pay12_apply (hB m c t) (cB m c t) (View.ld (iblk m c 4 t) r0_4) (View.ld (iblk m c 5 t) r0_7) r n).trans ?_)
  refine mixed_alike (funext fun l => hB_apply m c t r l) (funext fun l => cB_apply m c t r l) (funext fun l => mu_ld m c t 2 l) (funext fun l => ?_)
  rw [iblk5_eq]
  exact ld_at (m ((c : Thread nD τ).loc main_arg3)) (ix3 0 l n) (ix3 2 l n) fun a => match a with | ⟨0, _⟩ => rfl | ⟨1, _⟩ => Nat.zero_add _ | ⟨2, _⟩ => Nat.zero_add _

theorem out17 (c : Dev nD) (t : Fin cfg0.N) (r : Fin 512) (n : Fin 1024) : out0_17 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r n)
    = gate (m ((c : Thread nD τ).loc main_arg0)) (m ((c : Thread nD τ).loc main_arg1)) (m ((c : Thread nD τ).loc main_arg2)) (m ((c : Thread nD τ).loc main_arg4)) (m ((c : Thread nD τ).loc main_arg5)) (at_ t r) n := by
  unfold out0_17
  refine (congrFun (whole_store _) (ix2 r n)).trans ((pay14_apply (hB m c t) (cB m c t) (View.ld (iblk m c 4 t) r0_4) (View.ld (iblk m c 6 t) r0_8) (View.ld (iblk m c 7 t) r0_9) r n).trans ?_)
  refine Finset.sum_congr (M := EReal) rfl fun k _ => congrArg₂ (fun a b : EReal => Ideal.logistic a * b) (mixed_alike (funext fun l => hB_apply m c t r l)
    (funext fun l => cB_apply m c t r l) (funext fun l => mu_ld m c t 3 l) (funext fun l => ?_)) ?_
  · rw [iblk6_eq]
    exact ld_at (m ((c : Thread nD τ).loc main_arg4)) (ix2 l k) (ix2 l k) fun a => match a with | ⟨0, _⟩ => Nat.zero_add _ | ⟨1, _⟩ => Nat.zero_add _
  · rw [iblk7_eq]
    exact ld_at (m ((c : Thread nD τ).loc main_arg5)) (ix2 k n) (ix2 k n) fun a => match a with | ⟨0, _⟩ => Nat.zero_add _ | ⟨1, _⟩ => Nat.zero_add _

theorem one3 (z : S1x512x1024.Idx) : ∃ (r : Fin 512) (n : Fin 1024), z = ix3 (n0 := 1) (0 : Fin 1) r n :=
  ⟨z 1, z 2, (eq_ix3 z).trans (congrArg (fun a : Fin 1 => ix3 (n0 := 1) a (z 1) (z 2)) (Subsingleton.elim (α := Fin 1) (z 0) 0))⟩

theorem out18 (c : Dev nD) (t : Fin cfg0.N) (d : Fin 2) (r : Fin 512) (n : Fin 1024) : out0_18 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 d r n)
    = decay (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) d (at_ t r) n := by
  unfold out0_18
  refine View.canon_apply_of_pieces (Val := Elt Ideal) (e := .f32) (fun i : S2x512x1024.Idx => decay (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) (i 0) (at_ t (i 1)) (i 2)) _ ?_ (ix3 d r n) (cover0_18 _ _ (ix3 d r n))
  intro p hp
  simp only [List.mem_cons, List.not_mem_nil, or_false] at hp
  rcases hp with rfl | rfl <;> intro z <;> dsimp only
  · obtain ⟨r, n, rfl⟩ : ∃ (r : Fin 512) (n : Fin 1024), z = ix3 (n0 := 1) (0 : Fin 1) r n := one3 z
    have e1 : r0_17.emb (ix3 (n0 := 1) (0 : Fin 1) r n) = ix3 (1 : Fin 2) r n := funext fun a => Fin.ext (match a with
      | ⟨0, _⟩ => rfl | ⟨1, _⟩ => (by show 0 + 1 * r.val = r.val; omega) | ⟨2, _⟩ => (by show 0 + 1 * n.val = n.val; omega))
    rw [e1]
    refine (pay18_apply (hB m c t) (bB m c t) (View.ld (iblk m c 4 t) r0_4) (View.ld (iblk m c 8 t) r0_14) (View.ld (iblk m c 9 t) r0_15) (View.ld (iblk m c 10 t) r0_16) r n).trans ?_
    refine alike decayOf (funext fun l => hB_apply m c t r l) (funext fun l => bB_apply m c t r l) (funext fun l => mu_ld m c t 5 l) ?_ (funext fun l => funext fun k => ?_) (funext fun k => ?_)
    · rw [iblk8_eq]
      exact ld_at (m ((c : Thread nD τ).loc main_arg6)) (ix2 0 n) (ix2 1 n) fun a => match a with | ⟨0, _⟩ => rfl | ⟨1, _⟩ => Nat.zero_add _
    · rw [iblk9_eq]
      exact ld_at (m ((c : Thread nD τ).loc main_arg7)) (ix3 0 l k) (ix3 1 l k) fun a => match a with | ⟨0, _⟩ => rfl | ⟨1, _⟩ => Nat.zero_add _ | ⟨2, _⟩ => Nat.zero_add _
    · rw [iblk10_eq]
      exact ld_at (m ((c : Thread nD τ).loc main_arg8)) (ix3 0 k n) (ix3 1 k n) fun a => match a with | ⟨0, _⟩ => rfl | ⟨1, _⟩ => Nat.zero_add _ | ⟨2, _⟩ => Nat.zero_add _
  · obtain ⟨r, n, rfl⟩ : ∃ (r : Fin 512) (n : Fin 1024), z = ix3 (n0 := 1) (0 : Fin 1) r n := one3 z
    have e1 : r0_13.emb (ix3 (n0 := 1) (0 : Fin 1) r n) = ix3 (0 : Fin 2) r n := funext fun a => Fin.ext (match a with
      | ⟨0, _⟩ => rfl | ⟨1, _⟩ => (by show 0 + 1 * r.val = r.val; omega) | ⟨2, _⟩ => (by show 0 + 1 * n.val = n.val; omega))
    rw [e1]
    refine (pay15_apply (hB m c t) (fB m c t) (View.ld (iblk m c 4 t) r0_4) (View.ld (iblk m c 8 t) r0_10) (View.ld (iblk m c 9 t) r0_11) (View.ld (iblk m c 10 t) r0_12) r n).trans ?_
    refine alike decayOf (funext fun l => hB_apply m c t r l) (funext fun l => fB_apply m c t r l) (funext fun l => mu_ld m c t 4 l) ?_ (funext fun l => funext fun k => ?_) (funext fun k => ?_)
    · rw [iblk8_eq]
      exact ld_at (m ((c : Thread nD τ).loc main_arg6)) (ix2 0 n) (ix2 0 n) fun a => match a with | ⟨0, _⟩ => rfl | ⟨1, _⟩ => Nat.zero_add _
    · rw [iblk9_eq]
      exact ld_at (m ((c : Thread nD τ).loc main_arg7)) (ix3 0 l k) (ix3 0 l k) fun a => match a with | ⟨0, _⟩ => rfl | ⟨1, _⟩ => Nat.zero_add _ | ⟨2, _⟩ => Nat.zero_add _
    · rw [iblk10_eq]
      exact ld_at (m ((c : Thread nD τ).loc main_arg8)) (ix3 0 k n) (ix3 0 k n) fun a => match a with | ⟨0, _⟩ => rfl | ⟨1, _⟩ => Nat.zero_add _ | ⟨2, _⟩ => Nat.zero_add _

theorem out19 (c : Dev nD) (t : Fin cfg0.N) (d : Fin 2) (r : Fin 512) (n : Fin 1024) : out0_19 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 d r n)
    = rate (m ((c : Thread nD τ).loc main_arg0)) (m ((c : Thread nD τ).loc main_arg1)) (m ((c : Thread nD τ).loc main_arg2)) (m ((c : Thread nD τ).loc main_arg9)) (m ((c : Thread nD τ).loc main_arg10)) (m ((c : Thread nD τ).loc main_arg11)) d (at_ t r) n := by
  unfold out0_19
  refine View.canon_apply_of_pieces (Val := Elt Ideal) (e := .bf16) (fun i : S2x512x1024.Idx => rate (m ((c : Thread nD τ).loc main_arg0)) (m ((c : Thread nD τ).loc main_arg1)) (m ((c : Thread nD τ).loc main_arg2)) (m ((c : Thread nD τ).loc main_arg9)) (m ((c : Thread nD τ).loc main_arg10)) (m ((c : Thread nD τ).loc main_arg11)) (i 0) (at_ t (i 1)) (i 2)) _ ?_ (ix3 d r n) (cover0_19 _ _ (ix3 d r n))
  intro p hp
  simp only [List.mem_cons, List.not_mem_nil, or_false] at hp
  rcases hp with rfl | rfl <;> intro z <;> dsimp only
  · obtain ⟨r, n, rfl⟩ : ∃ (r : Fin 512) (n : Fin 1024), z = ix3 (n0 := 1) (0 : Fin 1) r n := one3 z
    have e1 : r0_17.emb (ix3 (n0 := 1) (0 : Fin 1) r n) = ix3 (1 : Fin 2) r n := funext fun a => Fin.ext (match a with
      | ⟨0, _⟩ => rfl | ⟨1, _⟩ => (by show 0 + 1 * r.val = r.val; omega) | ⟨2, _⟩ => (by show 0 + 1 * n.val = n.val; omega))
    rw [e1]
    refine (pay1_apply (hB m c t) (bB m c t) (View.ld (iblk m c 4 t) r0_4) (View.ld (iblk m c 11 t) r0_14) (View.ld (iblk m c 12 t) r0_15) (View.ld (iblk m c 13 t) r0_16) r n).trans ?_
    refine alike rateOf (funext fun l => hB_apply m c t r l) (funext fun l => bB_apply m c t r l) (funext fun l => mu_ld m c t 7 l) ?_ (funext fun l => funext fun k => ?_) (funext fun k => ?_)
    · rw [iblk11_eq]
      exact ld_at (m ((c : Thread nD τ).loc main_arg9)) (ix2 0 n) (ix2 1 n) fun a => match a with | ⟨0, _⟩ => rfl | ⟨1, _⟩ => Nat.zero_add _
    · rw [iblk12_eq]
      exact ld_at (m ((c : Thread nD τ).loc main_arg10)) (ix3 0 l k) (ix3 1 l k) fun a => match a with | ⟨0, _⟩ => rfl | ⟨1, _⟩ => Nat.zero_add _ | ⟨2, _⟩ => Nat.zero_add _
    · rw [iblk13_eq]
      exact ld_at (m ((c : Thread nD τ).loc main_arg11)) (ix3 0 k n) (ix3 1 k n) fun a => match a with | ⟨0, _⟩ => rfl | ⟨1, _⟩ => Nat.zero_add _ | ⟨2, _⟩ => Nat.zero_add _
  · obtain ⟨r, n, rfl⟩ : ∃ (r : Fin 512) (n : Fin 1024), z = ix3 (n0 := 1) (0 : Fin 1) r n := one3 z
    have e1 : r0_13.emb (ix3 (n0 := 1) (0 : Fin 1) r n) = ix3 (0 : Fin 2) r n := funext fun a => Fin.ext (match a with
      | ⟨0, _⟩ => rfl | ⟨1, _⟩ => (by show 0 + 1 * r.val = r.val; omega) | ⟨2, _⟩ => (by show 0 + 1 * n.val = n.val; omega))
    rw [e1]
    refine (pay17_apply (hB m c t) (fB m c t) (View.ld (iblk m c 4 t) r0_4) (View.ld (iblk m c 11 t) r0_10) (View.ld (iblk m c 12 t) r0_11) (View.ld (iblk m c 13 t) r0_12) r n).trans ?_
    refine alike rateOf (funext fun l => hB_apply m c t r l) (funext fun l => fB_apply m c t r l) (funext fun l => mu_ld m c t 6 l) ?_ (funext fun l => funext fun k => ?_) (funext fun k => ?_)
    · rw [iblk11_eq]
      exact ld_at (m ((c : Thread nD τ).loc main_arg9)) (ix2 0 n) (ix2 0 n) fun a => match a with | ⟨0, _⟩ => rfl | ⟨1, _⟩ => Nat.zero_add _
    · rw [iblk12_eq]
      exact ld_at (m ((c : Thread nD τ).loc main_arg10)) (ix3 0 l k) (ix3 0 l k) fun a => match a with | ⟨0, _⟩ => rfl | ⟨1, _⟩ => Nat.zero_add _ | ⟨2, _⟩ => Nat.zero_add _
    · rw [iblk13_eq]
      exact ld_at (m ((c : Thread nD τ).loc main_arg11)) (ix3 0 k n) (ix3 0 k n) fun a => match a with | ⟨0, _⟩ => rfl | ⟨1, _⟩ => Nat.zero_add _ | ⟨2, _⟩ => Nat.zero_add _

theorem final14 (c : Dev nD) : (dats m 0 c).arrAt 14 cfg0.N = fun i => proj (m ((c : Thread nD τ).loc main_arg0)) (m ((c : Thread nD τ).loc main_arg1)) (m ((c : Thread nD τ).loc main_arg2)) (m ((c : Thread nD τ).loc main_arg3)) 0 (i 0) (i 1) := by
  refine (dats m 0 c).arrAt_eq_of_covers 14 _ (by decide +kernel) fun t hf y => ?_
  blk_simp
  rw [after0_14]
  exact place2 (proj (m ((c : Thread nD τ).loc main_arg0)) (m ((c : Thread nD τ).loc main_arg1)) (m ((c : Thread nD τ).loc main_arg2)) (m ((c : Thread nD τ).loc main_arg3)) 0) _ t (out14 m c t) y _ ((win0_14.rect_emb_val t y 0).trans (by rw [(index_out t).1.1]; rfl)) ((win0_14.rect_emb_val t y 1).trans (by rw [(index_out t).1.2]; rfl))

theorem final15 (c : Dev nD) : (dats m 0 c).arrAt 15 cfg0.N = fun i => proj (m ((c : Thread nD τ).loc main_arg0)) (m ((c : Thread nD τ).loc main_arg1)) (m ((c : Thread nD τ).loc main_arg2)) (m ((c : Thread nD τ).loc main_arg3)) 1 (i 0) (i 1) := by
  refine (dats m 0 c).arrAt_eq_of_covers 15 _ (by decide +kernel) fun t hf y => ?_
  blk_simp
  rw [after0_15]
  exact place2 (proj (m ((c : Thread nD τ).loc main_arg0)) (m ((c : Thread nD τ).loc main_arg1)) (m ((c : Thread nD τ).loc main_arg2)) (m ((c : Thread nD τ).loc main_arg3)) 1) _ t (out15 m c t) y _ ((win0_15.rect_emb_val t y 0).trans (by rw [(index_out t).2.1.1]; rfl)) ((win0_15.rect_emb_val t y 1).trans (by rw [(index_out t).2.1.2]; rfl))

theorem final16 (c : Dev nD) : (dats m 0 c).arrAt 16 cfg0.N = fun i => proj (m ((c : Thread nD τ).loc main_arg0)) (m ((c : Thread nD τ).loc main_arg1)) (m ((c : Thread nD τ).loc main_arg2)) (m ((c : Thread nD τ).loc main_arg3)) 2 (i 0) (i 1) := by
  refine (dats m 0 c).arrAt_eq_of_covers 16 _ (by decide +kernel) fun t hf y => ?_
  blk_simp
  rw [after0_16]
  exact place2 (proj (m ((c : Thread nD τ).loc main_arg0)) (m ((c : Thread nD τ).loc main_arg1)) (m ((c : Thread nD τ).loc main_arg2)) (m ((c : Thread nD τ).loc main_arg3)) 2) _ t (out16 m c t) y _ ((win0_16.rect_emb_val t y 0).trans (by rw [(index_out t).2.2.1.1]; rfl)) ((win0_16.rect_emb_val t y 1).trans (by rw [(index_out t).2.2.1.2]; rfl))

theorem final17 (c : Dev nD) : (dats m 0 c).arrAt 17 cfg0.N = fun i => gate (m ((c : Thread nD τ).loc main_arg0)) (m ((c : Thread nD τ).loc main_arg1)) (m ((c : Thread nD τ).loc main_arg2)) (m ((c : Thread nD τ).loc main_arg4)) (m ((c : Thread nD τ).loc main_arg5)) (i 0) (i 1) := by
  refine (dats m 0 c).arrAt_eq_of_covers 17 _ (by decide +kernel) fun t hf y => ?_
  blk_simp
  rw [after0_17]
  exact place2 (gate (m ((c : Thread nD τ).loc main_arg0)) (m ((c : Thread nD τ).loc main_arg1)) (m ((c : Thread nD τ).loc main_arg2)) (m ((c : Thread nD τ).loc main_arg4)) (m ((c : Thread nD τ).loc main_arg5))) _ t (out17 m c t) y _ ((win0_17.rect_emb_val t y 0).trans (by rw [(index_out t).2.2.2.1.1]; rfl)) ((win0_17.rect_emb_val t y 1).trans (by rw [(index_out t).2.2.2.1.2]; rfl))

theorem final18 (c : Dev nD) : (dats m 0 c).arrAt 18 cfg0.N = fun i => decay (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) (i 0) (i 1) (i 2) := by
  refine (dats m 0 c).arrAt_eq_of_covers 18 _ (by decide +kernel) fun t hf y => ?_
  blk_simp
  rw [after0_18]
  exact place3 (decay (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8))) _ t (out18 m c t) y _ ((win0_18.rect_emb_val t y 0).trans (by rw [(index_out t).2.2.2.2.1.1]; rfl)) ((win0_18.rect_emb_val t y 1).trans (by rw [(index_out t).2.2.2.2.1.2.1]; rfl))
    ((win0_18.rect_emb_val t y 2).trans (by rw [(index_out t).2.2.2.2.1.2.2]; rfl))

theorem final19 (c : Dev nD) : (dats m 0 c).arrAt 19 cfg0.N = fun i => rate (m ((c : Thread nD τ).loc main_arg0)) (m ((c : Thread nD τ).loc main_arg1)) (m ((c : Thread nD τ).loc main_arg2)) (m ((c : Thread nD τ).loc main_arg9)) (m ((c : Thread nD τ).loc main_arg10)) (m ((c : Thread nD τ).loc main_arg11)) (i 0) (i 1) (i 2) := by
  refine (dats m 0 c).arrAt_eq_of_covers 19 _ (by decide +kernel) fun t hf y => ?_
  blk_simp
  rw [after0_19]
  exact place3 (rate (m ((c : Thread nD τ).loc main_arg0)) (m ((c : Thread nD τ).loc main_arg1)) (m ((c : Thread nD τ).loc main_arg2)) (m ((c : Thread nD τ).loc main_arg9)) (m ((c : Thread nD τ).loc main_arg10)) (m ((c : Thread nD τ).loc main_arg11))) _ t (out19 m c t) y _ ((win0_19.rect_emb_val t y 0).trans (by rw [(index_out t).2.2.2.2.2.1]; rfl)) ((win0_19.rect_emb_val t y 1).trans (by rw [(index_out t).2.2.2.2.2.2.1]; rfl))
    ((win0_19.rect_emb_val t y 2).trans (by rw [(index_out t).2.2.2.2.2.2.2]; rfl))

end Cert.PrepArray

end
-- ==== Proof.PrepReference.lean ====
/- The recurrence's plain inputs, entry by entry. -/
module

public import proofs.«01_k».proof.Proof.PrepRows
public import proofs.«01_k».proof.Proof.Gen.PrepRefIdeal.Read

@[expose] public section

set_option maxRecDepth 16384

noncomputable section

namespace Cert.PrepReference

open Cert.PrepRefIdeal Cert.PrepRefIdeal.Read Cert.DenseBlock Cert.PrepRows Idealize.ShloMosaic Idealize.ShloMosaic.TcCoe

/-- The row of position `s` of sequence `b`. -/
def at_ (b : Fin 16) (s : Fin 2048) : Fin 32768 := ⟨b.val * 2048 + s.val, by omega⟩

variable (x : (⟨S32768x1024, .f32⟩ : BufTy).Contents (Elt Ideal)) (g : (⟨S1024, .f32⟩ : BufTy).Contents (Elt Ideal)) (mu : (⟨S8x1024, .f32⟩ : BufTy).Contents (Elt Ideal))

theorem row_apply (R : Fin 32768) (l : Fin 1024) : val_main_v19 (F := Ideal) x g (ix2 R l) = row x g R l := by
  simp only [val_main_v19_apply, val_main_v18_apply, val_main_v17_apply, val_main_v16_apply, val_main_v15_apply, val_main_v14_apply,
    val_main_v13_apply, val_main_v12_apply, val_main_cst_1_apply, val_main_v11_apply, val_main_v10_apply, val_main_cst_0_apply, val_main_v9_apply]
  have s : val_main_v8 (F := Ideal) x (ix1 R) = ∑ l : Fin 1024, (x (ix2 R l) : EReal) * x (ix2 R l) := by
    rw [val_main_v8_apply, val_main_cst_apply, Ideal.ofBits_def, Ideal.ofBits_zero_f32]
    refine (zero_add _).trans (Finset.sum_congr rfl fun k _ => ?_)
    rw [show idx_main_v8 (ix1 R) k = ix2 R k from funext fun a => match a with | ⟨0, _⟩ => rfl | ⟨1, _⟩ => rfl, val_main_v7_apply]
    rfl
  rw [show idx_main_v9 (idx_main_v15 (ix2 R l)) = ix1 R from funext fun a => match a with | ⟨0, _⟩ => rfl,
    show idx_main_v17 (idx_main_v18 (ix2 R l)) = ix1 l from funext fun a => match a with | ⟨0, _⟩ => rfl, s]
  rfl

theorem h_apply (b : Fin 16) (s : Fin 2048) (l : Fin 1024) : val_main_v20 (F := Ideal) x g (ix3 b s l) = row x g (at_ b s) l := by
  rw [val_main_v20_apply, show idx_main_v20 (ix3 b s l) = ix2 (at_ b s) l from funext fun a => Fin.ext (match a with
    | ⟨0, _⟩ => (by show ((b.val * 2048 + s.val) * 1024 + l.val) / 1024 = b.val * 2048 + s.val; omega)
    | ⟨1, _⟩ => (by show ((b.val * 2048 + s.val) * 1024 + l.val) % 1024 = l.val; omega)), row_apply]

theorem fwd_apply (b : Fin 16) (s : Fin 2048) (l : Fin 1024) : val_main_v25 (F := Ideal) x g (ix3 b s l) = fwd x g (at_ b s) l := by
  rw [val_main_v25_apply, h_apply]
  unfold fwd
  refine congrArg (fun a : EReal => a - row x g (at_ b s) l) ?_
  have z : ∀ i, val_main_v22 (F := Ideal) i = (0 : EReal) := fun i => by
    rw [val_main_v22_apply, val_main_cst_2_apply, Ideal.ofBits_def, Ideal.ofBits_zero_f32]
  have y : ∀ k : Fin 2047, val_main_v23 (F := Ideal) x g (ix3 b k l) = row x g (at_ b ⟨k.val, by omega⟩) l := fun k => by
    rw [val_main_v23_apply, ← h_apply]
    exact congrArg (val_main_v20 (F := Ideal) x g) (funext fun a => match a with | ⟨0, _⟩ => rfl | ⟨1, _⟩ => rfl | ⟨2, _⟩ => rfl)
  unfold val_main_v24
  generalize val_main_v22 (F := Ideal) = Z at z
  generalize val_main_v23 (F := Ideal) x g = Y at y
  pointwise
  by_cases e : s.val = 0
  · rw [dif_pos (by omega), if_pos (by show (b.val * 2048 + s.val) % 2048 = 0; omega), z]
  · rw [dif_neg (by omega), if_neg (show ¬(at_ b s).val % 2048 = 0 by show ¬(b.val * 2048 + s.val) % 2048 = 0; omega)]
    refine (y ⟨s.val - 1, by omega⟩).trans ?_
    exact congrArg (fun R => row x g R l) (Fin.ext (by show b.val * 2048 + (s.val - 1) = b.val * 2048 + s.val - 1; omega))

theorem bwd_apply (b : Fin 16) (s : Fin 2048) (l : Fin 1024) : val_main_v28 (F := Ideal) x g (ix3 b s l) = bwd x g (at_ b s) l := by
  rw [val_main_v28_apply, h_apply]
  unfold bwd
  refine congrArg (fun a : EReal => a - row x g (at_ b s) l) ?_
  have z : ∀ i, val_main_v22 (F := Ideal) i = (0 : EReal) := fun i => by
    rw [val_main_v22_apply, val_main_cst_2_apply, Ideal.ofBits_def, Ideal.ofBits_zero_f32]
  have y : ∀ k : Fin 2047, val_main_v26 (F := Ideal) x g (ix3 b k l) = row x g (at_ b ⟨1 + k.val, by omega⟩) l := fun k => by
    rw [val_main_v26_apply, ← h_apply]
    exact congrArg (val_main_v20 (F := Ideal) x g) (funext fun a => match a with | ⟨0, _⟩ => rfl | ⟨1, _⟩ => rfl | ⟨2, _⟩ => rfl)
  unfold val_main_v27
  generalize val_main_v22 (F := Ideal) = Z at z
  generalize val_main_v26 (F := Ideal) x g = Y at y
  pointwise
  by_cases e : s.val = 2047
  · rw [dif_neg (by omega), dif_pos (by show (b.val * 2048 + s.val) % 2048 = 2047; omega), z]
  · rw [dif_pos (by omega), dif_neg (by show ¬(b.val * 2048 + s.val) % 2048 = 2047; omega), y ⟨s.val, by omega⟩]
    exact congrArg (fun R => row x g R l) (Fin.ext (by show b.val * 2048 + (1 + s.val) = b.val * 2048 + s.val + 1; omega))

theorem both_apply (b : Fin 16) (s : Fin 2048) (l : Fin 1024) : val_main_v31 (F := Ideal) x g (ix3 b s l) = both x g (at_ b s) l := by
  rw [val_main_v31_apply, val_main_v30_apply, val_main_cst_3_apply, val_main_v29_apply, fwd_apply, bwd_apply]
  rfl

theorem side_apply (d : Fin 2) (b : Fin 16) (s : Fin 2048) (l : Fin 1024) : val_main_v61 (F := Ideal) x g (ix4 d b s l) = side x g d (at_ b s) l := by
  have u : val_main_v59 (F := Ideal) x g (ix4 0 b s l) = fwd x g (at_ b s) l := by
    rw [val_main_v59_apply, ← fwd_apply]
    exact congrArg (val_main_v25 (F := Ideal) x g) (funext fun a => match a with | ⟨0, _⟩ => rfl | ⟨1, _⟩ => rfl | ⟨2, _⟩ => rfl)
  have v : val_main_v60 (F := Ideal) x g (ix4 0 b s l) = bwd x g (at_ b s) l := by
    rw [val_main_v60_apply, ← bwd_apply]
    exact congrArg (val_main_v28 (F := Ideal) x g) (funext fun a => match a with | ⟨0, _⟩ => rfl | ⟨1, _⟩ => rfl | ⟨2, _⟩ => rfl)
  unfold val_main_v61
  generalize val_main_v59 (F := Ideal) x g = U at u
  generalize val_main_v60 (F := Ideal) x g = V at v
  pointwise
  unfold side
  match d with
  | ⟨0, _⟩ => exact u
  | ⟨1, _⟩ => exact v

/-- A row mixed with its two differences. -/
theorem mix_apply (j : Fin 4) (b : Fin 16) (s : Fin 2048) (l : Fin 1024) : val_main_v40 (F := Ideal) x g mu (ix4 j b s l)
    = row x g (at_ b s) l + both x g (at_ b s) l * mu (ix2 ⟨j.val, by omega⟩ l) := by
  rw [val_main_v40_apply, val_main_v39_apply, val_main_v32_apply, val_main_v38_apply, val_main_v36_apply, val_main_v33_apply, val_main_v37_apply,
    val_main_v35_apply, val_main_v34_apply, ← h_apply, ← both_apply]
  exact congrArg₂ (fun a c : EReal => a + c) (congrArg (val_main_v20 (F := Ideal) x g) (funext fun a => match a with | ⟨0, _⟩ => rfl | ⟨1, _⟩ => rfl | ⟨2, _⟩ => rfl))
    (congrArg₂ (fun a c : EReal => a * c) (congrArg (val_main_v31 (F := Ideal) x g) (funext fun a => match a with | ⟨0, _⟩ => rfl | ⟨1, _⟩ => rfl | ⟨2, _⟩ => rfl))
      (congrArg mu (funext fun a => match a with | ⟨0, _⟩ => rfl | ⟨1, _⟩ => rfl)))

theorem proj_apply (w : (⟨S3x1024x1024, .bf16⟩ : BufTy).Contents (Elt Ideal)) (j : Fin 3) (b : Fin 16) (s : Fin 2048) (n : Fin 1024) :
    val_main_v42 (F := Ideal) x g mu w (ix4 j b s n) = proj x g mu w j (at_ b s) n := by
  rw [val_main_v42_apply]
  unfold proj mixed
  refine Finset.sum_congr rfl fun l _ => ?_
  rw [val_main_v41_apply, show idx_main_v41 (lidx_main_v42 (ix4 j b s n) l) = ix4 (⟨j.val, by omega⟩ : Fin 4) b s l from
      funext fun a => match a with | ⟨0, _⟩ => rfl | ⟨1, _⟩ => rfl | ⟨2, _⟩ => rfl | ⟨3, _⟩ => rfl, mix_apply,
    show ridx_main_v42 (ix4 j b s n) l = ix3 j l n from funext fun a => match a with | ⟨0, _⟩ => rfl | ⟨1, _⟩ => rfl | ⟨2, _⟩ => rfl, val_main_v0_apply]
  rfl

/-- A row's position and sequence. -/
theorem at_split (R : Fin 32768) : at_ ⟨R.val / 2048, by omega⟩ ⟨R.val % 2048, by omega⟩ = R :=
  Fin.ext (by show R.val / 2048 * 2048 + R.val % 2048 = R.val; omega)

theorem gate_apply (w : (⟨S1024x128, .bf16⟩ : BufTy).Contents (Elt Ideal)) (v : (⟨S128x1024, .bf16⟩ : BufTy).Contents (Elt Ideal)) (b : Fin 16) (s : Fin 2048) (n : Fin 1024) :
    val_main_v58 (F := Ideal) x g mu w v (ix3 b s n) = gate x g mu w v (at_ b s) n := by
  rw [val_main_v58_apply]
  unfold gate
  refine Finset.sum_congr rfl fun k _ => ?_
  have e : val_main_v51 (F := Ideal) x g mu w (ix3 b s k) = mixed (row x g (at_ b s)) (both x g (at_ b s)) (fun l => mu (ix2 3 l)) (fun l => w (ix2 l k)) := by
    rw [val_main_v51_apply]
    unfold mixed
    refine Finset.sum_congr rfl fun l _ => ?_
    rw [val_main_v50_apply, val_main_v49_apply, show idx_main_v49 (idx_main_v50 (lidx_main_v51 (ix3 b s k) l)) = ix4 (3 : Fin 4) b s l from
        funext fun a => Fin.ext (match a with
          | ⟨0, _⟩ => rfl
          | ⟨1, _⟩ => (by show ((b.val * 2048 + s.val) * 1024 + l.val) / 2097152 % 16 = b.val; omega)
          | ⟨2, _⟩ => (by show ((b.val * 2048 + s.val) * 1024 + l.val) / 1024 % 2048 = s.val; omega)
          | ⟨3, _⟩ => (by show ((b.val * 2048 + s.val) * 1024 + l.val) % 1024 = l.val; omega)), mix_apply,
      show ridx_main_v51 (ix3 b s k) l = ix2 l k from funext fun a => match a with | ⟨0, _⟩ => rfl | ⟨1, _⟩ => rfl, val_main_v1_apply]
    rfl
  rw [show lidx_main_v58 (ix3 b s n) k = ix3 b s k from funext fun a => match a with | ⟨0, _⟩ => rfl | ⟨1, _⟩ => rfl | ⟨2, _⟩ => rfl,
    show ridx_main_v58 (ix3 b s n) k = ix2 k n from funext fun a => match a with | ⟨0, _⟩ => rfl | ⟨1, _⟩ => rfl, val_main_v2_apply,
    val_main_v57_apply, val_main_v56_apply, val_main_cst_5_apply, val_main_v55_apply, val_main_v54_apply, val_main_cst_4_apply, val_main_v53_apply,
    val_main_v52_apply, e]
  rw [Ideal.ofBits_def, Ideal.ofBits_one_f32]
  rfl

/-- A row mixed with one direction's difference, by the decay's coefficients. -/
theorem mixw_apply (d : Fin 2) (b : Fin 16) (s : Fin 2048) (l : Fin 1024) : val_main_v68 (F := Ideal) x g mu (ix4 d b s l)
    = row x g (at_ b s) l + side x g d (at_ b s) l * mu (ix2 ⟨4 + d.val, by omega⟩ l) := by
  rw [val_main_v68_apply, val_main_v67_apply, val_main_v62_apply, val_main_v66_apply, val_main_v65_apply, val_main_v64_apply, val_main_v63_apply, side_apply, ← h_apply]
  exact congrArg₂ (fun a c : EReal => a + side x g d (at_ b s) l * c) (congrArg (val_main_v20 (F := Ideal) x g) (funext fun a => match a with | ⟨0, _⟩ => rfl | ⟨1, _⟩ => rfl | ⟨2, _⟩ => rfl))
    (congrArg mu (funext fun a => match a with | ⟨0, _⟩ => rfl | ⟨1, _⟩ => rfl))

/-- The same by the rate's. -/
theorem mixa_apply (d : Fin 2) (b : Fin 16) (s : Fin 2048) (l : Fin 1024) : val_main_v75 (F := Ideal) x g mu (ix4 d b s l)
    = row x g (at_ b s) l + side x g d (at_ b s) l * mu (ix2 ⟨6 + d.val, by omega⟩ l) := by
  rw [val_main_v75_apply, val_main_v74_apply, val_main_v69_apply, val_main_v73_apply, val_main_v72_apply, val_main_v71_apply, val_main_v70_apply, side_apply, ← h_apply]
  exact congrArg₂ (fun a c : EReal => a + side x g d (at_ b s) l * c) (congrArg (val_main_v20 (F := Ideal) x g) (funext fun a => match a with | ⟨0, _⟩ => rfl | ⟨1, _⟩ => rfl | ⟨2, _⟩ => rfl))
    (congrArg mu (funext fun a => match a with | ⟨0, _⟩ => rfl | ⟨1, _⟩ => rfl))

variable (o : (⟨S2x1024, .f32⟩ : BufTy).Contents (Elt Ideal)) (w : (⟨S2x1024x64, .bf16⟩ : BufTy).Contents (Elt Ideal)) (v : (⟨S2x64x1024, .bf16⟩ : BufTy).Contents (Elt Ideal))

theorem decay_apply (d : Fin 2) (b : Fin 16) (s : Fin 2048) (n : Fin 1024) :
    val_main_v89 (F := Ideal) x g mu o w v (ix4 d b s n) = decay x g mu o w v d (at_ b s) n := by
  have e : ∀ k : Fin 64, val_main_v77 (F := Ideal) x g mu w (ix4 d b s k)
      = mixed (row x g (at_ b s)) (side x g d (at_ b s)) (fun l => mu (ix2 ⟨4 + d.val, by omega⟩ l)) (fun l => w (ix3 d l k)) := fun k => by
    rw [val_main_v77_apply]
    unfold mixed
    refine Finset.sum_congr rfl fun l _ => ?_
    rw [show lidx_main_v77 (ix4 d b s k) l = ix4 d b s l from funext fun a => match a with | ⟨0, _⟩ => rfl | ⟨1, _⟩ => rfl | ⟨2, _⟩ => rfl | ⟨3, _⟩ => rfl, mixw_apply,
      show ridx_main_v77 (ix4 d b s k) l = ix3 d l k from funext fun a => match a with | ⟨0, _⟩ => rfl | ⟨1, _⟩ => rfl | ⟨2, _⟩ => rfl, val_main_v3_apply]
    rfl
  have q : val_main_v79 (F := Ideal) x g mu w v (ix4 d b s n) = ∑ k : Fin 64,
      Ideal.tanh (mixed (row x g (at_ b s)) (side x g d (at_ b s)) (fun l => mu (ix2 ⟨4 + d.val, by omega⟩ l)) (fun l => w (ix3 d l k))) * v (ix3 d k n) := by
    rw [val_main_v79_apply]
    refine Finset.sum_congr rfl fun k _ => ?_
    rw [show lidx_main_v79 (ix4 d b s n) k = ix4 d b s k from funext fun a => match a with | ⟨0, _⟩ => rfl | ⟨1, _⟩ => rfl | ⟨2, _⟩ => rfl | ⟨3, _⟩ => rfl, val_main_v78_apply, e,
      show ridx_main_v79 (ix4 d b s n) k = ix3 d k n from funext fun a => match a with | ⟨0, _⟩ => rfl | ⟨1, _⟩ => rfl | ⟨2, _⟩ => rfl, val_main_v4_apply]
    rfl
  rw [val_main_v89_apply, val_main_v88_apply, val_main_cst_8_apply, val_main_v87_apply, val_main_v86_apply, val_main_cst_7_apply, val_main_v85_apply, val_main_v84_apply,
    val_main_cst_6_apply, val_main_v83_apply, val_main_v82_apply, val_main_v81_apply, q, val_main_v80_apply, val_main_v76_apply,
    show idx_main_v76 (idx_main_v80 (ix4 d b s n)) = ix2 d n from funext fun a => match a with | ⟨0, _⟩ => rfl | ⟨1, _⟩ => rfl]
  simp only [Ideal.ofBits_def, Ideal.ofBits_one_f32]
  rfl

theorem rate_apply (d : Fin 2) (b : Fin 16) (s : Fin 2048) (n : Fin 1024) :
    val_main_v100 (F := Ideal) x g mu o w v (ix4 d b s n) = rate x g mu o w v d (at_ b s) n := by
  have e : ∀ k : Fin 64, val_main_v91 (F := Ideal) x g mu w (ix4 d b s k)
      = mixed (row x g (at_ b s)) (side x g d (at_ b s)) (fun l => mu (ix2 ⟨6 + d.val, by omega⟩ l)) (fun l => w (ix3 d l k)) := fun k => by
    rw [val_main_v91_apply]
    unfold mixed
    refine Finset.sum_congr rfl fun l _ => ?_
    rw [show lidx_main_v91 (ix4 d b s k) l = ix4 d b s l from funext fun a => match a with | ⟨0, _⟩ => rfl | ⟨1, _⟩ => rfl | ⟨2, _⟩ => rfl | ⟨3, _⟩ => rfl, mixa_apply,
      show ridx_main_v91 (ix4 d b s k) l = ix3 d l k from funext fun a => match a with | ⟨0, _⟩ => rfl | ⟨1, _⟩ => rfl | ⟨2, _⟩ => rfl, val_main_v5_apply]
    rfl
  have q : val_main_v92 (F := Ideal) x g mu w v (ix4 d b s n) = ∑ k : Fin 64,
      mixed (row x g (at_ b s)) (side x g d (at_ b s)) (fun l => mu (ix2 ⟨6 + d.val, by omega⟩ l)) (fun l => w (ix3 d l k)) * v (ix3 d k n) := by
    rw [val_main_v92_apply]
    refine Finset.sum_congr rfl fun k _ => ?_
    rw [show lidx_main_v92 (ix4 d b s n) k = ix4 d b s k from funext fun a => match a with | ⟨0, _⟩ => rfl | ⟨1, _⟩ => rfl | ⟨2, _⟩ => rfl | ⟨3, _⟩ => rfl, e,
      show ridx_main_v92 (ix4 d b s n) k = ix3 d k n from funext fun a => match a with | ⟨0, _⟩ => rfl | ⟨1, _⟩ => rfl | ⟨2, _⟩ => rfl, val_main_v6_apply]
    rfl
  rw [val_main_v100_apply, val_main_v99_apply, val_main_cst_10_apply, val_main_v98_apply, val_main_v97_apply,
    val_main_cst_9_apply, val_main_v96_apply, val_main_v95_apply, val_main_v94_apply, q, val_main_v93_apply, val_main_v90_apply,
    show idx_main_v90 (idx_main_v93 (ix4 d b s n)) = ix2 d n from funext fun a => match a with | ⟨0, _⟩ => rfl | ⟨1, _⟩ => rfl]
  rw [Ideal.ofBits_def, Ideal.ofBits_one_f32]
  rfl

/-- Row `R`'s sequence and position. -/
abbrev sq (R : Fin 32768) : Fin 16 := ⟨R.val / 2048, by omega⟩
abbrev ps (R : Fin 32768) : Fin 2048 := ⟨R.val % 2048, by omega⟩

theorem split2 (R : Fin 32768) (n : Fin 1024) : idx_main_v101 (ix2 R n) = ix3 (sq R) (ps R) n :=
  funext fun a => Fin.ext (match a with
    | ⟨0, _⟩ => (by show (R.val * 1024 + n.val) / 2097152 = R.val / 2048; omega)
    | ⟨1, _⟩ => (by show (R.val * 1024 + n.val) / 1024 % 2048 = R.val % 2048; omega)
    | ⟨2, _⟩ => (by show (R.val * 1024 + n.val) % 1024 = n.val; omega))

theorem split3 (d : Fin 2) (R : Fin 32768) (n : Fin 1024) : idx_main_v109 (ix3 d R n) = ix4 d (sq R) (ps R) n :=
  funext fun a => Fin.ext (match a with
    | ⟨0, _⟩ => (by show ((d.val * 32768 + R.val) * 1024 + n.val) / 33554432 = d.val; omega)
    | ⟨1, _⟩ => (by show ((d.val * 32768 + R.val) * 1024 + n.val) / 2097152 % 16 = R.val / 2048; omega)
    | ⟨2, _⟩ => (by show ((d.val * 32768 + R.val) * 1024 + n.val) / 1024 % 2048 = R.val % 2048; omega)
    | ⟨3, _⟩ => (by show ((d.val * 32768 + R.val) * 1024 + n.val) % 1024 = n.val; omega))

/-- A slab of the products, flattened. -/
theorem slab (b : Fin 16) (s : Fin 2048) (n : Fin 1024) : idx_main_v44 (ix3 b s n) = ix4 (0 : Fin 1) b s n :=
  funext fun a => Fin.ext (match a with
    | ⟨0, _⟩ => rfl
    | ⟨1, _⟩ => (by show ((b.val * 2048 + s.val) * 1024 + n.val) / 2097152 % 16 = b.val; omega)
    | ⟨2, _⟩ => (by show ((b.val * 2048 + s.val) * 1024 + n.val) / 1024 % 2048 = s.val; omega)
    | ⟨3, _⟩ => (by show ((b.val * 2048 + s.val) * 1024 + n.val) % 1024 = n.val; omega))

theorem r_apply (w : (⟨S3x1024x1024, .bf16⟩ : BufTy).Contents (Elt Ideal)) (R : Fin 32768) (n : Fin 1024) :
    val_main_v102 (F := Ideal) x g mu w (ix2 R n) = proj x g mu w 0 R n := by
  rw [val_main_v102_apply, val_main_v101_apply, show idx_main_v101 (ix2 R n) = _ from split2 R n, val_main_v44_apply, show idx_main_v44 (ix3 (sq R) (ps R) n) = _ from slab _ _ n,
    val_main_v43_apply, show idx_main_v43 (ix4 (0 : Fin 1) (sq R) (ps R) n) = ix4 (0 : Fin 3) (sq R) (ps R) n from
      funext fun a => match a with | ⟨0, _⟩ => rfl | ⟨1, _⟩ => rfl | ⟨2, _⟩ => rfl | ⟨3, _⟩ => rfl, proj_apply, show at_ (sq R) (ps R) = R from at_split R]
  rfl

theorem k_apply (w : (⟨S3x1024x1024, .bf16⟩ : BufTy).Contents (Elt Ideal)) (R : Fin 32768) (n : Fin 1024) :
    val_main_v104 (F := Ideal) x g mu w (ix2 R n) = proj x g mu w 1 R n := by
  rw [val_main_v104_apply, val_main_v103_apply, show idx_main_v103 (ix2 R n) = _ from split2 R n, val_main_v46_apply, show idx_main_v46 (ix3 (sq R) (ps R) n) = _ from slab _ _ n,
    val_main_v45_apply, show idx_main_v45 (ix4 (0 : Fin 1) (sq R) (ps R) n) = ix4 (1 : Fin 3) (sq R) (ps R) n from
      funext fun a => match a with | ⟨0, _⟩ => rfl | ⟨1, _⟩ => rfl | ⟨2, _⟩ => rfl | ⟨3, _⟩ => rfl, proj_apply, show at_ (sq R) (ps R) = R from at_split R]
  rfl

theorem v_apply (w : (⟨S3x1024x1024, .bf16⟩ : BufTy).Contents (Elt Ideal)) (R : Fin 32768) (n : Fin 1024) :
    val_main_v106 (F := Ideal) x g mu w (ix2 R n) = proj x g mu w 2 R n := by
  rw [val_main_v106_apply, val_main_v105_apply, show idx_main_v105 (ix2 R n) = _ from split2 R n, val_main_v48_apply, show idx_main_v48 (ix3 (sq R) (ps R) n) = _ from slab _ _ n,
    val_main_v47_apply, show idx_main_v47 (ix4 (0 : Fin 1) (sq R) (ps R) n) = ix4 (2 : Fin 3) (sq R) (ps R) n from
      funext fun a => match a with | ⟨0, _⟩ => rfl | ⟨1, _⟩ => rfl | ⟨2, _⟩ => rfl | ⟨3, _⟩ => rfl, proj_apply, show at_ (sq R) (ps R) = R from at_split R]
  rfl

theorem g_apply (w : (⟨S1024x128, .bf16⟩ : BufTy).Contents (Elt Ideal)) (v : (⟨S128x1024, .bf16⟩ : BufTy).Contents (Elt Ideal)) (R : Fin 32768) (n : Fin 1024) :
    val_main_v108 (F := Ideal) x g mu w v (ix2 R n) = gate x g mu w v R n := by
  rw [val_main_v108_apply, val_main_v107_apply, show idx_main_v107 (ix2 R n) = _ from split2 R n, gate_apply, show at_ (sq R) (ps R) = R from at_split R]
  rfl

theorem lw_apply (d : Fin 2) (R : Fin 32768) (n : Fin 1024) : val_main_v109 (F := Ideal) x g mu o w v (ix3 d R n) = decay x g mu o w v d R n := by
  rw [val_main_v109_apply, split3, decay_apply, show at_ (sq R) (ps R) = R from at_split R]

theorem as_apply (d : Fin 2) (R : Fin 32768) (n : Fin 1024) : val_main_v111 (F := Ideal) x g mu o w v (ix3 d R n) = rate x g mu o w v d R n := by
  rw [val_main_v111_apply, val_main_v110_apply, show idx_main_v110 (ix3 d R n) = _ from split3 d R n, rate_apply, show at_ (sq R) (ps R) = R from at_split R]
  rfl

end Cert.PrepReference

end
-- ==== Proof.PrepClaims.lean ====
/- The claims about the recurrence's six inputs: the results agree. -/
module

public import proofs.«01_k».proof.Defs
public import proofs.«01_k».proof.Proof.PrepArray
public import proofs.«01_k».proof.Proof.PrepReference
public import proofs.«01_k».proof.Proof.Gen.Prep.Frame
public import proofs.«01_k».proof.Proof.Gen.PrepIdeal.Value
public import proofs.«01_k».proof.Proof.Gen.PrepRefIdeal.Run

@[expose] public section

set_option maxRecDepth 16384

noncomputable section

namespace Cert.PrepClaims

open Idealize.ShloMosaic Idealize.SL.Sem

theorem frame : Cert.quiescent_Prep := fun m ρ _ => Cert.Prep.Gen.frame m ρ

theorem frame_ideal : Cert.quiescent_PrepIdeal := fun m ρ _ => Cert.PrepIdeal.Gen.frame m ρ

theorem frame_ref : Cert.quiescent_PrepRefIdeal := fun m ρ _ =>
  (θ_run Cert.PrepRefIdeal.defs _ _).mono (fun r h => ⟨fun c => (h c).2.2.2.2.2.2, sem_eq_zero_of_no_sems (by decide) r.2⟩)
    (Cert.PrepRefIdeal.Value.run (F := Ideal) m ρ)

theorem preserves : Cert.preserves_Prep_PrepIdeal := trivial

/-- Two arrays of rows agree where their elements do. -/
theorem same2 {a b : Nat} {f g : Shape.Idx ⟨2, ![a, b]⟩ → EReal} {p : Fin a → Fin b → EReal} (hf : ∀ i j, f (ix2 i j) = p i j)
    (hg : g = fun z => p (z 0) (z 1)) : f = g :=
  (funext fun z => (congrArg f (eq_ix2 z)).trans (hf (z 0) (z 1))).trans hg.symm

/-- The same of a stack of them. -/
theorem same3 {a b d : Nat} {f g : Shape.Idx ⟨3, ![a, b, d]⟩ → EReal} {p : Fin a → Fin b → Fin d → EReal} (hf : ∀ i j k, f (ix3 i j k) = p i j k)
    (hg : g = fun z => p (z 0) (z 1) (z 2)) : f = g :=
  (funext fun z => (congrArg f (eq_ix3 z)).trans (hf (z 0) (z 1) (z 2))).trans hg.symm

theorem algebraic : Cert.algebraic_PrepIdeal_PrepRefIdeal := by
  intro m ρ m' ρ' _ hagree
  refine ⟨fun c => (Cert.PrepIdeal.Gen.dats m 0 c).arrAt 14 Cert.PrepIdeal.cfg0.N, fun c => (Cert.PrepIdeal.Gen.dats m 0 c).arrAt 15 Cert.PrepIdeal.cfg0.N, fun c => (Cert.PrepIdeal.Gen.dats m 0 c).arrAt 16 Cert.PrepIdeal.cfg0.N, fun c => (Cert.PrepIdeal.Gen.dats m 0 c).arrAt 17 Cert.PrepIdeal.cfg0.N, fun c => (Cert.PrepIdeal.Gen.dats m 0 c).arrAt 18 Cert.PrepIdeal.cfg0.N, fun c => (Cert.PrepIdeal.Gen.dats m 0 c).arrAt 19 Cert.PrepIdeal.cfg0.N,
    Cert.PrepIdeal.Value.run_blocks m ρ, ?_⟩
  have e14 : ∀ c : Dev Cert.PrepIdeal.nD, Cert.PrepRefIdeal.Value.res_main_v102 (F := Ideal) m' c
      = (Cert.PrepIdeal.Gen.dats m 0 c).arrAt 14 Cert.PrepIdeal.cfg0.N := fun c => by
    have h := hagree c
    rw [Cert.PrepRefIdeal.Read.val_main_v102_eq, h.1, h.2.1, h.2.2.1, h.2.2.2.1]
    exact same2 (PrepReference.r_apply _ _ _ _) (PrepArray.final14 m c)
  have e15 : ∀ c : Dev Cert.PrepIdeal.nD, Cert.PrepRefIdeal.Value.res_main_v104 (F := Ideal) m' c
      = (Cert.PrepIdeal.Gen.dats m 0 c).arrAt 15 Cert.PrepIdeal.cfg0.N := fun c => by
    have h := hagree c
    rw [Cert.PrepRefIdeal.Read.val_main_v104_eq, h.1, h.2.1, h.2.2.1, h.2.2.2.1]
    exact same2 (PrepReference.k_apply _ _ _ _) (PrepArray.final15 m c)
  have e16 : ∀ c : Dev Cert.PrepIdeal.nD, Cert.PrepRefIdeal.Value.res_main_v106 (F := Ideal) m' c
      = (Cert.PrepIdeal.Gen.dats m 0 c).arrAt 16 Cert.PrepIdeal.cfg0.N := fun c => by
    have h := hagree c
    rw [Cert.PrepRefIdeal.Read.val_main_v106_eq, h.1, h.2.1, h.2.2.1, h.2.2.2.1]
    exact same2 (PrepReference.v_apply _ _ _ _) (PrepArray.final16 m c)
  have e17 : ∀ c : Dev Cert.PrepIdeal.nD, Cert.PrepRefIdeal.Value.res_main_v108 (F := Ideal) m' c
      = (Cert.PrepIdeal.Gen.dats m 0 c).arrAt 17 Cert.PrepIdeal.cfg0.N := fun c => by
    have h := hagree c
    rw [Cert.PrepRefIdeal.Read.val_main_v108_eq, h.1, h.2.1, h.2.2.1, h.2.2.2.2.1, h.2.2.2.2.2.1]
    exact same2 (PrepReference.g_apply _ _ _ _ _) (PrepArray.final17 m c)
  have e18 : ∀ c : Dev Cert.PrepIdeal.nD, Cert.PrepRefIdeal.Value.res_main_v109 (F := Ideal) m' c
      = (Cert.PrepIdeal.Gen.dats m 0 c).arrAt 18 Cert.PrepIdeal.cfg0.N := fun c => by
    have h := hagree c
    rw [Cert.PrepRefIdeal.Read.val_main_v109_eq, h.1, h.2.1, h.2.2.1, h.2.2.2.2.2.2.1, h.2.2.2.2.2.2.2.1, h.2.2.2.2.2.2.2.2.1]
    exact same3 (PrepReference.lw_apply _ _ _ _ _ _) (PrepArray.final18 m c)
  have e19 : ∀ c : Dev Cert.PrepIdeal.nD, Cert.PrepRefIdeal.Value.res_main_v111 (F := Ideal) m' c
      = (Cert.PrepIdeal.Gen.dats m 0 c).arrAt 19 Cert.PrepIdeal.cfg0.N := fun c => by
    have h := hagree c
    rw [Cert.PrepRefIdeal.Read.val_main_v111_eq, h.1, h.2.1, h.2.2.1, h.2.2.2.2.2.2.2.2.2.1, h.2.2.2.2.2.2.2.2.2.2.1, h.2.2.2.2.2.2.2.2.2.2.2]
    exact same3 (PrepReference.as_apply _ _ _ _ _ _) (PrepArray.final19 m c)
  refine (θ_run Cert.PrepRefIdeal.defs _ _).mono (fun _ h c => ?_) (Cert.PrepRefIdeal.Value.run (F := Ideal) m' ρ')
  obtain ⟨h0, h1, h2, h3, h4, h5, h6⟩ := h c
  exact ⟨h0.trans (e14 c), h1.trans (e15 c), h2.trans (e16 c), h3.trans (e17 c), h4.trans (e18 c), h5.trans (e19 c), h6⟩

end Cert.PrepClaims

end
-- ==== Proof.lean ====
/- The claims put together: per call its frames, that its idealization changes nothing, and that its result is its plain reference's. -/
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Dense
public import proofs.«01_k».proof.Proof.Gen.Dense.Skeleton
public import proofs.«01_k».proof.Proof.Gen.Dense.Launch
public import proofs.«01_k».proof.Proof.Gen.Dense.Points
public import proofs.«01_k».proof.Proof.Gen.Dense.Frame
public import proofs.«01_k».proof.Proof.Gen.DenseIdeal
public import proofs.«01_k».proof.Proof.Gen.DenseIdeal.Skeleton
public import proofs.«01_k».proof.Proof.Gen.DenseIdeal.Launch
public import proofs.«01_k».proof.Proof.Gen.DenseIdeal.Points
public import proofs.«01_k».proof.Proof.Gen.DenseIdeal.Frame
public import proofs.«01_k».proof.Proof.Gen.DenseIdeal.Value
public import proofs.«01_k».proof.Proof.Gen.DenseRefIdeal
public import proofs.«01_k».proof.Proof.Gen.DenseRefIdeal.Run
public import proofs.«01_k».proof.Proof.Gen.DenseRefIdeal.Read
public import proofs.«01_k».proof.Proof.Gen.Expert
public import proofs.«01_k».proof.Proof.Gen.Expert.Skeleton
public import proofs.«01_k».proof.Proof.Gen.Expert.Launch
public import proofs.«01_k».proof.Proof.Gen.ExpertIdeal
public import proofs.«01_k».proof.Proof.Gen.ExpertIdeal.Skeleton
public import proofs.«01_k».proof.Proof.Gen.ExpertIdeal.Launch
public import proofs.«01_k».proof.Proof.Gen.ExpertRefIdeal
public import proofs.«01_k».proof.Proof.Gen.ExpertRefIdeal.Run
public import proofs.«01_k».proof.Proof.Gen.ExpertRefIdeal.Read
public import proofs.«01_k».proof.Proof.Gen.Proj0
public import proofs.«01_k».proof.Proof.Gen.Proj0.Skeleton
public import proofs.«01_k».proof.Proof.Gen.Proj0.Launch
public import proofs.«01_k».proof.Proof.Gen.Proj0.Points
public import proofs.«01_k».proof.Proof.Gen.Proj0.Frame
public import proofs.«01_k».proof.Proof.Gen.Proj0Ideal
public import proofs.«01_k».proof.Proof.Gen.Proj0Ideal.Skeleton
public import proofs.«01_k».proof.Proof.Gen.Proj0Ideal.Launch
public import proofs.«01_k».proof.Proof.Gen.Proj0Ideal.Points
public import proofs.«01_k».proof.Proof.Gen.Proj0Ideal.Frame
public import proofs.«01_k».proof.Proof.Gen.Proj0Ideal.Value
public import proofs.«01_k».proof.Proof.Gen.Proj0RefIdeal
public import proofs.«01_k».proof.Proof.Gen.Proj0RefIdeal.Run
public import proofs.«01_k».proof.Proof.Gen.Proj0RefIdeal.Read
public import proofs.«01_k».proof.Proof.Gen.Proj1
public import proofs.«01_k».proof.Proof.Gen.Proj1.Skeleton
public import proofs.«01_k».proof.Proof.Gen.Proj1.Launch
public import proofs.«01_k».proof.Proof.Gen.Proj1Ideal
public import proofs.«01_k».proof.Proof.Gen.Proj1Ideal.Skeleton
public import proofs.«01_k».proof.Proof.Gen.Proj1Ideal.Launch
public import proofs.«01_k».proof.Proof.Gen.Proj1RefIdeal
public import proofs.«01_k».proof.Proof.Gen.Proj1RefIdeal.Run
public import proofs.«01_k».proof.Proof.Gen.Proj1RefIdeal.Read
public import proofs.«01_k».proof.Proof.Gen.Proj2
public import proofs.«01_k».proof.Proof.Gen.Proj2.Skeleton
public import proofs.«01_k».proof.Proof.Gen.Proj2.Launch
public import proofs.«01_k».proof.Proof.Gen.Proj2Ideal
public import proofs.«01_k».proof.Proof.Gen.Proj2Ideal.Skeleton
public import proofs.«01_k».proof.Proof.Gen.Proj2Ideal.Launch
public import proofs.«01_k».proof.Proof.Gen.Proj2RefIdeal
public import proofs.«01_k».proof.Proof.Gen.Proj2RefIdeal.Run
public import proofs.«01_k».proof.Proof.Gen.Proj2RefIdeal.Read
public import proofs.«01_k».proof.Proof.Gen.Latents
public import proofs.«01_k».proof.Proof.Gen.Latents.Skeleton
public import proofs.«01_k».proof.Proof.Gen.Latents.Launch
public import proofs.«01_k».proof.Proof.Gen.Latents.Points
public import proofs.«01_k».proof.Proof.Gen.Latents.Frame
public import proofs.«01_k».proof.Proof.Gen.LatentsIdeal
public import proofs.«01_k».proof.Proof.Gen.LatentsIdeal.Skeleton
public import proofs.«01_k».proof.Proof.Gen.LatentsIdeal.Launch
public import proofs.«01_k».proof.Proof.Gen.LatentsIdeal.Points
public import proofs.«01_k».proof.Proof.Gen.LatentsIdeal.Frame
public import proofs.«01_k».proof.Proof.Gen.LatentsIdeal.Value
public import proofs.«01_k».proof.Proof.Gen.LatentsRefIdeal
public import proofs.«01_k».proof.Proof.Gen.LatentsRefIdeal.Run
public import proofs.«01_k».proof.Proof.Gen.LatentsRefIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepIdeal.Value
public import proofs.«01_k».proof.Proof.Gen.PrepRefIdeal
public import proofs.«01_k».proof.Proof.Gen.PrepRefIdeal.Run
public import proofs.«01_k».proof.Proof.Gen.PrepRefIdeal.Read
public import proofs.«01_k».proof.Proof.Gen.Pre_finite_qk
public import proofs.«01_k».proof.Proof.Gen.Pre_tables
public import proofs.«01_k».proof.Proof.AttnClaims
public import proofs.«01_k».proof.Proof.DenseClaims
public import proofs.«01_k».proof.Proof.ExpertClaims
public import proofs.«01_k».proof.Proof.Proj0Claims
public import proofs.«01_k».proof.Proof.Proj1Claims
public import proofs.«01_k».proof.Proof.Proj2Claims
public import proofs.«01_k».proof.Proof.LatentsClaims
public import proofs.«01_k».proof.Proof.OutClaims
public import proofs.«01_k».proof.Proof.PrepClaims
public import Idealize.ShloMosaic.Adequacy
public import Idealize.ShloMosaic.Init

@[expose] public section

noncomputable section

namespace Cert.Proof

open Idealize.ShloMosaic Idealize.SL.Sem

theorem claim : Cert.Claim :=
  ⟨Cert.Attn.Gen.facts,
    Cert.AttnIdeal.Gen.facts,
    Cert.AttnRefIdeal.Gen.facts,
    Cert.Dense.Gen.facts,
    Cert.DenseIdeal.Gen.facts,
    Cert.DenseRefIdeal.Gen.facts,
    Cert.Expert.Gen.facts,
    Cert.ExpertIdeal.Gen.facts,
    Cert.ExpertRefIdeal.Gen.facts,
    Cert.Proj0.Gen.facts,
    Cert.Proj0Ideal.Gen.facts,
    Cert.Proj0RefIdeal.Gen.facts,
    Cert.Proj1.Gen.facts,
    Cert.Proj1Ideal.Gen.facts,
    Cert.Proj1RefIdeal.Gen.facts,
    Cert.Proj2.Gen.facts,
    Cert.Proj2Ideal.Gen.facts,
    Cert.Proj2RefIdeal.Gen.facts,
    Cert.Latents.Gen.facts,
    Cert.LatentsIdeal.Gen.facts,
    Cert.LatentsRefIdeal.Gen.facts,
    Cert.Out.Gen.facts,
    Cert.OutIdeal.Gen.facts,
    Cert.OutRefIdeal.Gen.facts,
    Cert.Prep.Gen.facts,
    Cert.PrepIdeal.Gen.facts,
    Cert.PrepRefIdeal.Gen.facts,
    Cert.Pre_finite_qk.Gen.facts,
    Cert.Pre_tables.Gen.facts,
    Cert.AttnClaims.frame,
    Cert.AttnClaims.frame_ideal,
    Cert.AttnClaims.frame_ideal_pre,
    Cert.AttnClaims.frame_ref,
    Cert.AttnClaims.frame_ref_pre,
    Cert.DenseClaims.frame,
    Cert.DenseClaims.frame_ideal,
    Cert.DenseClaims.frame_ref,
    Cert.ExpertClaims.frame,
    Cert.ExpertClaims.frame_ideal,
    Cert.ExpertClaims.frame_ref,
    Cert.ExpertClaims.frame_ref_pre,
    Cert.Proj0Claims.frame,
    Cert.Proj0Claims.frame_ideal,
    Cert.Proj0Claims.frame_ref,
    Cert.Proj1Claims.frame,
    Cert.Proj1Claims.frame_ideal,
    Cert.Proj1Claims.frame_ref,
    Cert.Proj2Claims.frame,
    Cert.Proj2Claims.frame_ideal,
    Cert.Proj2Claims.frame_ref,
    Cert.LatentsClaims.frame,
    Cert.LatentsClaims.frame_ideal,
    Cert.LatentsClaims.frame_ref,
    Cert.OutClaims.frame,
    Cert.OutClaims.frame_ideal,
    Cert.OutClaims.frame_ref,
    Cert.PrepClaims.frame,
    Cert.PrepClaims.frame_ideal,
    Cert.PrepClaims.frame_ref,
    Cert.AttnClaims.preserves,
    Cert.AttnClaims.algebraic,
    Cert.DenseClaims.preserves,
    Cert.DenseClaims.algebraic,
    Cert.ExpertClaims.preserves,
    Cert.ExpertClaims.algebraic,
    Cert.Proj0Claims.preserves,
    Cert.Proj0Claims.algebraic,
    Cert.Proj1Claims.preserves,
    Cert.Proj1Claims.algebraic,
    Cert.Proj2Claims.preserves,
    Cert.Proj2Claims.algebraic,
    Cert.LatentsClaims.preserves,
    Cert.LatentsClaims.algebraic,
    Cert.OutClaims.preserves,
    Cert.OutClaims.algebraic,
    Cert.PrepClaims.preserves,
    Cert.PrepClaims.algebraic⟩

end Cert.Proof

end
